-- ==== Defs.lean ====
def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjKernelIdeal_proj_finite [hPre_proj_finite : Cert.Pre_proj_finite.Facts] (m : (ℓ : Loc Cert.ProjKernelIdeal.nD Cert.ProjKernelIdeal.τ Cert.ProjKernelIdeal.sig) → Buf (Elt Ideal) ℓ) : Prop :=
  ∀ c : Dev Cert.ProjKernelIdeal.nD,
    (Cert.Pre_proj_finite.fn (F := Ideal) (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4))).1 = (fun _ => 1#1)
    ∧ (Cert.Pre_proj_finite.fn (F := Ideal) (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4))).2.1 = (fun _ => 1#1)
    ∧ (Cert.Pre_proj_finite.fn (F := Ideal) (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4))).2.2.1 = (fun _ => 1#1)
    ∧ (Cert.Pre_proj_finite.fn (F := Ideal) (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4))).2.2.2 = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_proj_finite [hPre_proj_finite : Cert.Pre_proj_finite.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_proj_finite.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4))).1 = (fun _ => 1#1)
    ∧ (Cert.Pre_proj_finite.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4))).2.1 = (fun _ => 1#1)
    ∧ (Cert.Pre_proj_finite.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4))).2.2.1 = (fun _ => 1#1)
    ∧ (Cert.Pre_proj_finite.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4))).2.2.2 = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.2.2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.2.2 = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_mix_finite [hPre_mix_finite : Cert.Pre_mix_finite.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8))).1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8))).2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8))).2.2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8))).2.2.2 = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_mix_finite [hPre_mix_finite : Cert.Pre_mix_finite.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8))).1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8))).2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8))).2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8))).2.2.2 = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_GatedKernel (m : (ℓ : Loc Cert.GatedKernel.nD Cert.GatedKernel.τ Cert.GatedKernel.sig) → Buf (Elt Bits) ℓ) : Prop :=
  True

def Pre_GatedKernelIdeal (m : (ℓ : Loc Cert.GatedKernelIdeal.nD Cert.GatedKernelIdeal.τ Cert.GatedKernelIdeal.sig) → Buf (Elt Ideal) ℓ) : Prop :=
  True

def Pre_GatedReferenceIdeal (m : (ℓ : Loc Cert.GatedReferenceIdeal.nD Cert.GatedReferenceIdeal.τ Cert.GatedReferenceIdeal.sig) → Buf (Elt Ideal) ℓ) : Prop :=
  True

def Pre_WeightKernel (m : (ℓ : Loc Cert.WeightKernel.nD Cert.WeightKernel.τ Cert.WeightKernel.sig) → Buf (Elt Bits) ℓ) : Prop :=
  True

def Pre_WeightKernelIdeal (m : (ℓ : Loc Cert.WeightKernelIdeal.nD Cert.WeightKernelIdeal.τ Cert.WeightKernelIdeal.sig) → Buf (Elt Ideal) ℓ) : Prop :=
  True

def Pre_WeightReferenceIdeal (m : (ℓ : Loc Cert.WeightReferenceIdeal.nD Cert.WeightReferenceIdeal.τ Cert.WeightReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_MixerKernel (m : (ℓ : Loc Cert.MixerKernel.nD Cert.MixerKernel.τ Cert.MixerKernel.sig) → Buf (Elt Bits) ℓ) : Prop :=
  True

def Pre_MixerKernelIdeal (m : (ℓ : Loc Cert.MixerKernelIdeal.nD Cert.MixerKernelIdeal.τ Cert.MixerKernelIdeal.sig) → Buf (Elt Ideal) ℓ) : Prop :=
  True

def Pre_MixerKernelIdeal_mixer_finite [hPre_mixer_finite : Cert.Pre_mixer_finite.Facts] (m : (ℓ : Loc Cert.MixerKernelIdeal.nD Cert.MixerKernelIdeal.τ Cert.MixerKernelIdeal.sig) → Buf (Elt Ideal) ℓ) : Prop :=
  ∀ c : Dev Cert.MixerKernelIdeal.nD,
    (Cert.Pre_mixer_finite.fn (F := Ideal) (m ((c.tc : Thread Cert.MixerKernelIdeal.nD Cert.MixerKernelIdeal.τ).loc Cert.MixerKernelIdeal.main_arg0)) (m ((c.tc : Thread Cert.MixerKernelIdeal.nD Cert.MixerKernelIdeal.τ).loc Cert.MixerKernelIdeal.main_arg1)) (m ((c.tc : Thread Cert.MixerKernelIdeal.nD Cert.MixerKernelIdeal.τ).loc Cert.MixerKernelIdeal.main_arg2)) (m ((c.tc : Thread Cert.MixerKernelIdeal.nD Cert.MixerKernelIdeal.τ).loc Cert.MixerKernelIdeal.main_arg3)) (m ((c.tc : Thread Cert.MixerKernelIdeal.nD Cert.MixerKernelIdeal.τ).loc Cert.MixerKernelIdeal.main_arg4)) (m ((c.tc : Thread Cert.MixerKernelIdeal.nD Cert.MixerKernelIdeal.τ).loc Cert.MixerKernelIdeal.main_arg5)) (m ((c.tc : Thread Cert.MixerKernelIdeal.nD Cert.MixerKernelIdeal.τ).loc Cert.MixerKernelIdeal.main_arg6)) (m ((c.tc : Thread Cert.MixerKernelIdeal.nD Cert.MixerKernelIdeal.τ).loc Cert.MixerKernelIdeal.main_arg7))).1 = (fun _ => 1#1)
    ∧ (Cert.Pre_mixer_finite.fn (F := Ideal) (m ((c.tc : Thread Cert.MixerKernelIdeal.nD Cert.MixerKernelIdeal.τ).loc Cert.MixerKernelIdeal.main_arg0)) (m ((c.tc : Thread Cert.MixerKernelIdeal.nD Cert.MixerKernelIdeal.τ).loc Cert.MixerKernelIdeal.main_arg1)) (m ((c.tc : Thread Cert.MixerKernelIdeal.nD Cert.MixerKernelIdeal.τ).loc Cert.MixerKernelIdeal.main_arg2)) (m ((c.tc : Thread Cert.MixerKernelIdeal.nD Cert.MixerKernelIdeal.τ).loc Cert.MixerKernelIdeal.main_arg3)) (m ((c.tc : Thread Cert.MixerKernelIdeal.nD Cert.MixerKernelIdeal.τ).loc Cert.MixerKernelIdeal.main_arg4)) (m ((c.tc : Thread Cert.MixerKernelIdeal.nD Cert.MixerKernelIdeal.τ).loc Cert.MixerKernelIdeal.main_arg5)) (m ((c.tc : Thread Cert.MixerKernelIdeal.nD Cert.MixerKernelIdeal.τ).loc Cert.MixerKernelIdeal.main_arg6)) (m ((c.tc : Thread Cert.MixerKernelIdeal.nD Cert.MixerKernelIdeal.τ).loc Cert.MixerKernelIdeal.main_arg7))).2.1 = (fun _ => 1#1)
    ∧ (Cert.Pre_mixer_finite.fn (F := Ideal) (m ((c.tc : Thread Cert.MixerKernelIdeal.nD Cert.MixerKernelIdeal.τ).loc Cert.MixerKernelIdeal.main_arg0)) (m ((c.tc : Thread Cert.MixerKernelIdeal.nD Cert.MixerKernelIdeal.τ).loc Cert.MixerKernelIdeal.main_arg1)) (m ((c.tc : Thread Cert.MixerKernelIdeal.nD Cert.MixerKernelIdeal.τ).loc Cert.MixerKernelIdeal.main_arg2)) (m ((c.tc : Thread Cert.MixerKernelIdeal.nD Cert.MixerKernelIdeal.τ).loc Cert.MixerKernelIdeal.main_arg3)) (m ((c.tc : Thread Cert.MixerKernelIdeal.nD Cert.MixerKernelIdeal.τ).loc Cert.MixerKernelIdeal.main_arg4)) (m ((c.tc : Thread Cert.MixerKernelIdeal.nD Cert.MixerKernelIdeal.τ).loc Cert.MixerKernelIdeal.main_arg5)) (m ((c.tc : Thread Cert.MixerKernelIdeal.nD Cert.MixerKernelIdeal.τ).loc Cert.MixerKernelIdeal.main_arg6)) (m ((c.tc : Thread Cert.MixerKernelIdeal.nD Cert.MixerKernelIdeal.τ).loc Cert.MixerKernelIdeal.main_arg7))).2.2.1 = (fun _ => 1#1)
    ∧ (Cert.Pre_mixer_finite.fn (F := Ideal) (m ((c.tc : Thread Cert.MixerKernelIdeal.nD Cert.MixerKernelIdeal.τ).loc Cert.MixerKernelIdeal.main_arg0)) (m ((c.tc : Thread Cert.MixerKernelIdeal.nD Cert.MixerKernelIdeal.τ).loc Cert.MixerKernelIdeal.main_arg1)) (m ((c.tc : Thread Cert.MixerKernelIdeal.nD Cert.MixerKernelIdeal.τ).loc Cert.MixerKernelIdeal.main_arg2)) (m ((c.tc : Thread Cert.MixerKernelIdeal.nD Cert.MixerKernelIdeal.τ).loc Cert.MixerKernelIdeal.main_arg3)) (m ((c.tc : Thread Cert.MixerKernelIdeal.nD Cert.MixerKernelIdeal.τ).loc Cert.MixerKernelIdeal.main_arg4)) (m ((c.tc : Thread Cert.MixerKernelIdeal.nD Cert.MixerKernelIdeal.τ).loc Cert.MixerKernelIdeal.main_arg5)) (m ((c.tc : Thread Cert.MixerKernelIdeal.nD Cert.MixerKernelIdeal.τ).loc Cert.MixerKernelIdeal.main_arg6)) (m ((c.tc : Thread Cert.MixerKernelIdeal.nD Cert.MixerKernelIdeal.τ).loc Cert.MixerKernelIdeal.main_arg7))).2.2.2 = (fun _ => 1#1)

def Pre_MixerReferenceIdeal (m : (ℓ : Loc Cert.MixerReferenceIdeal.nD Cert.MixerReferenceIdeal.τ Cert.MixerReferenceIdeal.sig) → Buf (Elt Ideal) ℓ) : Prop :=
  True

def Pre_MixerReferenceIdeal_mixer_finite [hPre_mixer_finite : Cert.Pre_mixer_finite.Facts] (m : (ℓ : Loc Cert.MixerReferenceIdeal.nD Cert.MixerReferenceIdeal.τ Cert.MixerReferenceIdeal.sig) → Buf (Elt Ideal) ℓ) : Prop :=
  ∀ c : Dev Cert.MixerReferenceIdeal.nD,
    (Cert.Pre_mixer_finite.fn (F := Ideal) (m ((c.tc : Thread Cert.MixerReferenceIdeal.nD Cert.MixerReferenceIdeal.τ).loc Cert.MixerReferenceIdeal.main_arg0)) (m ((c.tc : Thread Cert.MixerReferenceIdeal.nD Cert.MixerReferenceIdeal.τ).loc Cert.MixerReferenceIdeal.main_arg1)) (m ((c.tc : Thread Cert.MixerReferenceIdeal.nD Cert.MixerReferenceIdeal.τ).loc Cert.MixerReferenceIdeal.main_arg2)) (m ((c.tc : Thread Cert.MixerReferenceIdeal.nD Cert.MixerReferenceIdeal.τ).loc Cert.MixerReferenceIdeal.main_arg3)) (m ((c.tc : Thread Cert.MixerReferenceIdeal.nD Cert.MixerReferenceIdeal.τ).loc Cert.MixerReferenceIdeal.main_arg4)) (m ((c.tc : Thread Cert.MixerReferenceIdeal.nD Cert.MixerReferenceIdeal.τ).loc Cert.MixerReferenceIdeal.main_arg5)) (m ((c.tc : Thread Cert.MixerReferenceIdeal.nD Cert.MixerReferenceIdeal.τ).loc Cert.MixerReferenceIdeal.main_arg6)) (m ((c.tc : Thread Cert.MixerReferenceIdeal.nD Cert.MixerReferenceIdeal.τ).loc Cert.MixerReferenceIdeal.main_arg7))).1 = (fun _ => 1#1)
    ∧ (Cert.Pre_mixer_finite.fn (F := Ideal) (m ((c.tc : Thread Cert.MixerReferenceIdeal.nD Cert.MixerReferenceIdeal.τ).loc Cert.MixerReferenceIdeal.main_arg0)) (m ((c.tc : Thread Cert.MixerReferenceIdeal.nD Cert.MixerReferenceIdeal.τ).loc Cert.MixerReferenceIdeal.main_arg1)) (m ((c.tc : Thread Cert.MixerReferenceIdeal.nD Cert.MixerReferenceIdeal.τ).loc Cert.MixerReferenceIdeal.main_arg2)) (m ((c.tc : Thread Cert.MixerReferenceIdeal.nD Cert.MixerReferenceIdeal.τ).loc Cert.MixerReferenceIdeal.main_arg3)) (m ((c.tc : Thread Cert.MixerReferenceIdeal.nD Cert.MixerReferenceIdeal.τ).loc Cert.MixerReferenceIdeal.main_arg4)) (m ((c.tc : Thread Cert.MixerReferenceIdeal.nD Cert.MixerReferenceIdeal.τ).loc Cert.MixerReferenceIdeal.main_arg5)) (m ((c.tc : Thread Cert.MixerReferenceIdeal.nD Cert.MixerReferenceIdeal.τ).loc Cert.MixerReferenceIdeal.main_arg6)) (m ((c.tc : Thread Cert.MixerReferenceIdeal.nD Cert.MixerReferenceIdeal.τ).loc Cert.MixerReferenceIdeal.main_arg7))).2.1 = (fun _ => 1#1)
    ∧ (Cert.Pre_mixer_finite.fn (F := Ideal) (m ((c.tc : Thread Cert.MixerReferenceIdeal.nD Cert.MixerReferenceIdeal.τ).loc Cert.MixerReferenceIdeal.main_arg0)) (m ((c.tc : Thread Cert.MixerReferenceIdeal.nD Cert.MixerReferenceIdeal.τ).loc Cert.MixerReferenceIdeal.main_arg1)) (m ((c.tc : Thread Cert.MixerReferenceIdeal.nD Cert.MixerReferenceIdeal.τ).loc Cert.MixerReferenceIdeal.main_arg2)) (m ((c.tc : Thread Cert.MixerReferenceIdeal.nD Cert.MixerReferenceIdeal.τ).loc Cert.MixerReferenceIdeal.main_arg3)) (m ((c.tc : Thread Cert.MixerReferenceIdeal.nD Cert.MixerReferenceIdeal.τ).loc Cert.MixerReferenceIdeal.main_arg4)) (m ((c.tc : Thread Cert.MixerReferenceIdeal.nD Cert.MixerReferenceIdeal.τ).loc Cert.MixerReferenceIdeal.main_arg5)) (m ((c.tc : Thread Cert.MixerReferenceIdeal.nD Cert.MixerReferenceIdeal.τ).loc Cert.MixerReferenceIdeal.main_arg6)) (m ((c.tc : Thread Cert.MixerReferenceIdeal.nD Cert.MixerReferenceIdeal.τ).loc Cert.MixerReferenceIdeal.main_arg7))).2.2.1 = (fun _ => 1#1)
    ∧ (Cert.Pre_mixer_finite.fn (F := Ideal) (m ((c.tc : Thread Cert.MixerReferenceIdeal.nD Cert.MixerReferenceIdeal.τ).loc Cert.MixerReferenceIdeal.main_arg0)) (m ((c.tc : Thread Cert.MixerReferenceIdeal.nD Cert.MixerReferenceIdeal.τ).loc Cert.MixerReferenceIdeal.main_arg1)) (m ((c.tc : Thread Cert.MixerReferenceIdeal.nD Cert.MixerReferenceIdeal.τ).loc Cert.MixerReferenceIdeal.main_arg2)) (m ((c.tc : Thread Cert.MixerReferenceIdeal.nD Cert.MixerReferenceIdeal.τ).loc Cert.MixerReferenceIdeal.main_arg3)) (m ((c.tc : Thread Cert.MixerReferenceIdeal.nD Cert.MixerReferenceIdeal.τ).loc Cert.MixerReferenceIdeal.main_arg4)) (m ((c.tc : Thread Cert.MixerReferenceIdeal.nD Cert.MixerReferenceIdeal.τ).loc Cert.MixerReferenceIdeal.main_arg5)) (m ((c.tc : Thread Cert.MixerReferenceIdeal.nD Cert.MixerReferenceIdeal.τ).loc Cert.MixerReferenceIdeal.main_arg6)) (m ((c.tc : Thread Cert.MixerReferenceIdeal.nD Cert.MixerReferenceIdeal.τ).loc Cert.MixerReferenceIdeal.main_arg7))).2.2.2 = (fun _ => 1#1)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ r.2.sem = fun _ => 0)

def quiescent_ProjKernelIdeal_pre_proj_finite [hProjKernelIdeal : Cert.ProjKernelIdeal.Facts] [hPre_proj_finite : Cert.Pre_proj_finite.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal_proj_finite m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_ProjReferenceIdeal_pre_proj_finite [hProjReferenceIdeal : Cert.ProjReferenceIdeal.Facts] [hPre_proj_finite : Cert.Pre_proj_finite.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_proj_finite m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8))
      ∧ r.2.sem = fun _ => 0)

def quiescent_MixKernelIdeal_pre_mix_finite [hMixKernelIdeal : Cert.MixKernelIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_mix_finite m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8))
      ∧ r.2.sem = fun _ => 0)

def quiescent_MixReferenceIdeal_pre_mix_finite [hMixReferenceIdeal : Cert.MixReferenceIdeal.Facts] [hPre_mix_finite : Cert.Pre_mix_finite.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_mix_finite m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4)
      ∧ r.2.mem ((c.tc : Thread Cert.LossKernel.nD Cert.LossKernel.τ).loc Cert.LossKernel.main_arg5) = m ((c.tc : Thread Cert.LossKernel.nD Cert.LossKernel.τ).loc Cert.LossKernel.main_arg5))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
      ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2))
      ∧ r.2.sem = fun _ => 0)

def quiescent_GatedKernel [hGatedKernel : Cert.GatedKernel.Facts] : Prop :=
  ∀ (m : (ℓ : Loc Cert.GatedKernel.nD Cert.GatedKernel.τ Cert.GatedKernel.sig) → Buf (Elt Bits) ℓ) (g : Dev Cert.GatedKernel.nD → PrngReg), Pre_GatedKernel m →
    θ_run (Cert.GatedKernel.defs (F := Bits)) (onTc (τ := Cert.GatedKernel.τ) (Cert.GatedKernel.main (F := Bits))) ⟨m, fun _ => 0, g⟩ (fun r => (∀ c : Dev Cert.GatedKernel.nD,
      r.2.mem ((c.tc : Thread Cert.GatedKernel.nD Cert.GatedKernel.τ).loc Cert.GatedKernel.main_arg0) = m ((c.tc : Thread Cert.GatedKernel.nD Cert.GatedKernel.τ).loc Cert.GatedKernel.main_arg0)
      ∧ r.2.mem ((c.tc : Thread Cert.GatedKernel.nD Cert.GatedKernel.τ).loc Cert.GatedKernel.main_arg1) = m ((c.tc : Thread Cert.GatedKernel.nD Cert.GatedKernel.τ).loc Cert.GatedKernel.main_arg1)
      ∧ r.2.mem ((c.tc : Thread Cert.GatedKernel.nD Cert.GatedKernel.τ).loc Cert.GatedKernel.main_arg2) = m ((c.tc : Thread Cert.GatedKernel.nD Cert.GatedKernel.τ).loc Cert.GatedKernel.main_arg2)
      ∧ r.2.mem ((c.tc : Thread Cert.GatedKernel.nD Cert.GatedKernel.τ).loc Cert.GatedKernel.main_arg3) = m ((c.tc : Thread Cert.GatedKernel.nD Cert.GatedKernel.τ).loc Cert.GatedKernel.main_arg3)
      ∧ r.2.mem ((c.tc : Thread Cert.GatedKernel.nD Cert.GatedKernel.τ).loc Cert.GatedKernel.main_arg4) = m ((c.tc : Thread Cert.GatedKernel.nD Cert.GatedKernel.τ).loc Cert.GatedKernel.main_arg4))
      ∧ r.2.sem = fun _ => 0)

def quiescent_GatedKernelIdeal [hGatedKernelIdeal : Cert.GatedKernelIdeal.Facts] : Prop :=
  ∀ (m : (ℓ : Loc Cert.GatedKernelIdeal.nD Cert.GatedKernelIdeal.τ Cert.GatedKernelIdeal.sig) → Buf (Elt Ideal) ℓ) (g : Dev Cert.GatedKernelIdeal.nD → PrngReg), Pre_GatedKernelIdeal m →
    θ_run (Cert.GatedKernelIdeal.defs (F := Ideal)) (onTc (τ := Cert.GatedKernelIdeal.τ) (Cert.GatedKernelIdeal.main (F := Ideal))) ⟨m, fun _ => 0, g⟩ (fun r => (∀ c : Dev Cert.GatedKernelIdeal.nD,
      r.2.mem ((c.tc : Thread Cert.GatedKernelIdeal.nD Cert.GatedKernelIdeal.τ).loc Cert.GatedKernelIdeal.main_arg0) = m ((c.tc : Thread Cert.GatedKernelIdeal.nD Cert.GatedKernelIdeal.τ).loc Cert.GatedKernelIdeal.main_arg0)
      ∧ r.2.mem ((c.tc : Thread Cert.GatedKernelIdeal.nD Cert.GatedKernelIdeal.τ).loc Cert.GatedKernelIdeal.main_arg1) = m ((c.tc : Thread Cert.GatedKernelIdeal.nD Cert.GatedKernelIdeal.τ).loc Cert.GatedKernelIdeal.main_arg1)
      ∧ r.2.mem ((c.tc : Thread Cert.GatedKernelIdeal.nD Cert.GatedKernelIdeal.τ).loc Cert.GatedKernelIdeal.main_arg2) = m ((c.tc : Thread Cert.GatedKernelIdeal.nD Cert.GatedKernelIdeal.τ).loc Cert.GatedKernelIdeal.main_arg2)
      ∧ r.2.mem ((c.tc : Thread Cert.GatedKernelIdeal.nD Cert.GatedKernelIdeal.τ).loc Cert.GatedKernelIdeal.main_arg3) = m ((c.tc : Thread Cert.GatedKernelIdeal.nD Cert.GatedKernelIdeal.τ).loc Cert.GatedKernelIdeal.main_arg3)
      ∧ r.2.mem ((c.tc : Thread Cert.GatedKernelIdeal.nD Cert.GatedKernelIdeal.τ).loc Cert.GatedKernelIdeal.main_arg4) = m ((c.tc : Thread Cert.GatedKernelIdeal.nD Cert.GatedKernelIdeal.τ).loc Cert.GatedKernelIdeal.main_arg4))
      ∧ r.2.sem = fun _ => 0)

def quiescent_GatedReferenceIdeal [hGatedReferenceIdeal : Cert.GatedReferenceIdeal.Facts] : Prop :=
  ∀ (m : (ℓ : Loc Cert.GatedReferenceIdeal.nD Cert.GatedReferenceIdeal.τ Cert.GatedReferenceIdeal.sig) → Buf (Elt Ideal) ℓ) (g : Dev Cert.GatedReferenceIdeal.nD → PrngReg), Pre_GatedReferenceIdeal m →
    θ_run (Cert.GatedReferenceIdeal.defs (F := Ideal)) (onTc (τ := Cert.GatedReferenceIdeal.τ) (Cert.GatedReferenceIdeal.main (F := Ideal))) ⟨m, fun _ => 0, g⟩ (fun r => (∀ c : Dev Cert.GatedReferenceIdeal.nD,
      r.2.mem ((c.tc : Thread Cert.GatedReferenceIdeal.nD Cert.GatedReferenceIdeal.τ).loc Cert.GatedReferenceIdeal.main_arg0) = m ((c.tc : Thread Cert.GatedReferenceIdeal.nD Cert.GatedReferenceIdeal.τ).loc Cert.GatedReferenceIdeal.main_arg0)
      ∧ r.2.mem ((c.tc : Thread Cert.GatedReferenceIdeal.nD Cert.GatedReferenceIdeal.τ).loc Cert.GatedReferenceIdeal.main_arg1) = m ((c.tc : Thread Cert.GatedReferenceIdeal.nD Cert.GatedReferenceIdeal.τ).loc Cert.GatedReferenceIdeal.main_arg1)
      ∧ r.2.mem ((c.tc : Thread Cert.GatedReferenceIdeal.nD Cert.GatedReferenceIdeal.τ).loc Cert.GatedReferenceIdeal.main_arg2) = m ((c.tc : Thread Cert.GatedReferenceIdeal.nD Cert.GatedReferenceIdeal.τ).loc Cert.GatedReferenceIdeal.main_arg2)
      ∧ r.2.mem ((c.tc : Thread Cert.GatedReferenceIdeal.nD Cert.GatedReferenceIdeal.τ).loc Cert.GatedReferenceIdeal.main_arg3) = m ((c.tc : Thread Cert.GatedReferenceIdeal.nD Cert.GatedReferenceIdeal.τ).loc Cert.GatedReferenceIdeal.main_arg3)
      ∧ r.2.mem ((c.tc : Thread Cert.GatedReferenceIdeal.nD Cert.GatedReferenceIdeal.τ).loc Cert.GatedReferenceIdeal.main_arg4) = m ((c.tc : Thread Cert.GatedReferenceIdeal.nD Cert.GatedReferenceIdeal.τ).loc Cert.GatedReferenceIdeal.main_arg4))
      ∧ r.2.sem = fun _ => 0)

def quiescent_WeightKernel [hWeightKernel : Cert.WeightKernel.Facts] : Prop :=
  ∀ (m : (ℓ : Loc Cert.WeightKernel.nD Cert.WeightKernel.τ Cert.WeightKernel.sig) → Buf (Elt Bits) ℓ) (g : Dev Cert.WeightKernel.nD → PrngReg), Pre_WeightKernel m →
    θ_run (Cert.WeightKernel.defs (F := Bits)) (onTc (τ := Cert.WeightKernel.τ) (Cert.WeightKernel.main (F := Bits))) ⟨m, fun _ => 0, g⟩ (fun r => (∀ c : Dev Cert.WeightKernel.nD,
      r.2.mem ((c.tc : Thread Cert.WeightKernel.nD Cert.WeightKernel.τ).loc Cert.WeightKernel.main_arg0) = m ((c.tc : Thread Cert.WeightKernel.nD Cert.WeightKernel.τ).loc Cert.WeightKernel.main_arg0)
      ∧ r.2.mem ((c.tc : Thread Cert.WeightKernel.nD Cert.WeightKernel.τ).loc Cert.WeightKernel.main_arg1) = m ((c.tc : Thread Cert.WeightKernel.nD Cert.WeightKernel.τ).loc Cert.WeightKernel.main_arg1)
      ∧ r.2.mem ((c.tc : Thread Cert.WeightKernel.nD Cert.WeightKernel.τ).loc Cert.WeightKernel.main_arg2) = m ((c.tc : Thread Cert.WeightKernel.nD Cert.WeightKernel.τ).loc Cert.WeightKernel.main_arg2)
      ∧ r.2.mem ((c.tc : Thread Cert.WeightKernel.nD Cert.WeightKernel.τ).loc Cert.WeightKernel.main_arg3) = m ((c.tc : Thread Cert.WeightKernel.nD Cert.WeightKernel.τ).loc Cert.WeightKernel.main_arg3))
      ∧ r.2.sem = fun _ => 0)

def quiescent_WeightKernelIdeal [hWeightKernelIdeal : Cert.WeightKernelIdeal.Facts] : Prop :=
  ∀ (m : (ℓ : Loc Cert.WeightKernelIdeal.nD Cert.WeightKernelIdeal.τ Cert.WeightKernelIdeal.sig) → Buf (Elt Ideal) ℓ) (g : Dev Cert.WeightKernelIdeal.nD → PrngReg), Pre_WeightKernelIdeal m →
    θ_run (Cert.WeightKernelIdeal.defs (F := Ideal)) (onTc (τ := Cert.WeightKernelIdeal.τ) (Cert.WeightKernelIdeal.main (F := Ideal))) ⟨m, fun _ => 0, g⟩ (fun r => (∀ c : Dev Cert.WeightKernelIdeal.nD,
      r.2.mem ((c.tc : Thread Cert.WeightKernelIdeal.nD Cert.WeightKernelIdeal.τ).loc Cert.WeightKernelIdeal.main_arg0) = m ((c.tc : Thread Cert.WeightKernelIdeal.nD Cert.WeightKernelIdeal.τ).loc Cert.WeightKernelIdeal.main_arg0)
      ∧ r.2.mem ((c.tc : Thread Cert.WeightKernelIdeal.nD Cert.WeightKernelIdeal.τ).loc Cert.WeightKernelIdeal.main_arg1) = m ((c.tc : Thread Cert.WeightKernelIdeal.nD Cert.WeightKernelIdeal.τ).loc Cert.WeightKernelIdeal.main_arg1)
      ∧ r.2.mem ((c.tc : Thread Cert.WeightKernelIdeal.nD Cert.WeightKernelIdeal.τ).loc Cert.WeightKernelIdeal.main_arg2) = m ((c.tc : Thread Cert.WeightKernelIdeal.nD Cert.WeightKernelIdeal.τ).loc Cert.WeightKernelIdeal.main_arg2)
      ∧ r.2.mem ((c.tc : Thread Cert.WeightKernelIdeal.nD Cert.WeightKernelIdeal.τ).loc Cert.WeightKernelIdeal.main_arg3) = m ((c.tc : Thread Cert.WeightKernelIdeal.nD Cert.WeightKernelIdeal.τ).loc Cert.WeightKernelIdeal.main_arg3))
      ∧ r.2.sem = fun _ => 0)

def quiescent_WeightReferenceIdeal [hWeightReferenceIdeal : Cert.WeightReferenceIdeal.Facts] : Prop :=
  ∀ (m : (ℓ : Loc Cert.WeightReferenceIdeal.nD Cert.WeightReferenceIdeal.τ Cert.WeightReferenceIdeal.sig) → Buf (Elt Ideal) ℓ) (g : Dev Cert.WeightReferenceIdeal.nD → PrngReg), Pre_WeightReferenceIdeal m →
    θ_run (Cert.WeightReferenceIdeal.defs (F := Ideal)) (onTc (τ := Cert.WeightReferenceIdeal.τ) (Cert.WeightReferenceIdeal.main (F := Ideal))) ⟨m, fun _ => 0, g⟩ (fun r => (∀ c : Dev Cert.WeightReferenceIdeal.nD,
      r.2.mem ((c.tc : Thread Cert.WeightReferenceIdeal.nD Cert.WeightReferenceIdeal.τ).loc Cert.WeightReferenceIdeal.main_arg0) = m ((c.tc : Thread Cert.WeightReferenceIdeal.nD Cert.WeightReferenceIdeal.τ).loc Cert.WeightReferenceIdeal.main_arg0)
      ∧ r.2.mem ((c.tc : Thread Cert.WeightReferenceIdeal.nD Cert.WeightReferenceIdeal.τ).loc Cert.WeightReferenceIdeal.main_arg1) = m ((c.tc : Thread Cert.WeightReferenceIdeal.nD Cert.WeightReferenceIdeal.τ).loc Cert.WeightReferenceIdeal.main_arg1)
      ∧ r.2.mem ((c.tc : Thread Cert.WeightReferenceIdeal.nD Cert.WeightReferenceIdeal.τ).loc Cert.WeightReferenceIdeal.main_arg2) = m ((c.tc : Thread Cert.WeightReferenceIdeal.nD Cert.WeightReferenceIdeal.τ).loc Cert.WeightReferenceIdeal.main_arg2)
      ∧ r.2.mem ((c.tc : Thread Cert.WeightReferenceIdeal.nD Cert.WeightReferenceIdeal.τ).loc Cert.WeightReferenceIdeal.main_arg3) = m ((c.tc : Thread Cert.WeightReferenceIdeal.nD Cert.WeightReferenceIdeal.τ).loc Cert.WeightReferenceIdeal.main_arg3))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_MixerKernel [hMixerKernel : Cert.MixerKernel.Facts] : Prop :=
  ∀ (m : (ℓ : Loc Cert.MixerKernel.nD Cert.MixerKernel.τ Cert.MixerKernel.sig) → Buf (Elt Bits) ℓ) (g : Dev Cert.MixerKernel.nD → PrngReg), Pre_MixerKernel m →
    θ_run (Cert.MixerKernel.defs (F := Bits)) (onTc (τ := Cert.MixerKernel.τ) (Cert.MixerKernel.main (F := Bits))) ⟨m, fun _ => 0, g⟩ (fun r => (∀ c : Dev Cert.MixerKernel.nD,
      r.2.mem ((c.tc : Thread Cert.MixerKernel.nD Cert.MixerKernel.τ).loc Cert.MixerKernel.main_arg0) = m ((c.tc : Thread Cert.MixerKernel.nD Cert.MixerKernel.τ).loc Cert.MixerKernel.main_arg0)
      ∧ r.2.mem ((c.tc : Thread Cert.MixerKernel.nD Cert.MixerKernel.τ).loc Cert.MixerKernel.main_arg1) = m ((c.tc : Thread Cert.MixerKernel.nD Cert.MixerKernel.τ).loc Cert.MixerKernel.main_arg1)
      ∧ r.2.mem ((c.tc : Thread Cert.MixerKernel.nD Cert.MixerKernel.τ).loc Cert.MixerKernel.main_arg2) = m ((c.tc : Thread Cert.MixerKernel.nD Cert.MixerKernel.τ).loc Cert.MixerKernel.main_arg2)
      ∧ r.2.mem ((c.tc : Thread Cert.MixerKernel.nD Cert.MixerKernel.τ).loc Cert.MixerKernel.main_arg3) = m ((c.tc : Thread Cert.MixerKernel.nD Cert.MixerKernel.τ).loc Cert.MixerKernel.main_arg3)
      ∧ r.2.mem ((c.tc : Thread Cert.MixerKernel.nD Cert.MixerKernel.τ).loc Cert.MixerKernel.main_arg4) = m ((c.tc : Thread Cert.MixerKernel.nD Cert.MixerKernel.τ).loc Cert.MixerKernel.main_arg4)
      ∧ r.2.mem ((c.tc : Thread Cert.MixerKernel.nD Cert.MixerKernel.τ).loc Cert.MixerKernel.main_arg5) = m ((c.tc : Thread Cert.MixerKernel.nD Cert.MixerKernel.τ).loc Cert.MixerKernel.main_arg5)
      ∧ r.2.mem ((c.tc : Thread Cert.MixerKernel.nD Cert.MixerKernel.τ).loc Cert.MixerKernel.main_arg6) = m ((c.tc : Thread Cert.MixerKernel.nD Cert.MixerKernel.τ).loc Cert.MixerKernel.main_arg6)
      ∧ r.2.mem ((c.tc : Thread Cert.MixerKernel.nD Cert.MixerKernel.τ).loc Cert.MixerKernel.main_arg7) = m ((c.tc : Thread Cert.MixerKernel.nD Cert.MixerKernel.τ).loc Cert.MixerKernel.main_arg7))
      ∧ r.2.sem = fun _ => 0)

def quiescent_MixerKernelIdeal [hMixerKernelIdeal : Cert.MixerKernelIdeal.Facts] : Prop :=
  ∀ (m : (ℓ : Loc Cert.MixerKernelIdeal.nD Cert.MixerKernelIdeal.τ Cert.MixerKernelIdeal.sig) → Buf (Elt Ideal) ℓ) (g : Dev Cert.MixerKernelIdeal.nD → PrngReg), Pre_MixerKernelIdeal m →
    θ_run (Cert.MixerKernelIdeal.defs (F := Ideal)) (onTc (τ := Cert.MixerKernelIdeal.τ) (Cert.MixerKernelIdeal.main (F := Ideal))) ⟨m, fun _ => 0, g⟩ (fun r => (∀ c : Dev Cert.MixerKernelIdeal.nD,
      r.2.mem ((c.tc : Thread Cert.MixerKernelIdeal.nD Cert.MixerKernelIdeal.τ).loc Cert.MixerKernelIdeal.main_arg0) = m ((c.tc : Thread Cert.MixerKernelIdeal.nD Cert.MixerKernelIdeal.τ).loc Cert.MixerKernelIdeal.main_arg0)
      ∧ r.2.mem ((c.tc : Thread Cert.MixerKernelIdeal.nD Cert.MixerKernelIdeal.τ).loc Cert.MixerKernelIdeal.main_arg1) = m ((c.tc : Thread Cert.MixerKernelIdeal.nD Cert.MixerKernelIdeal.τ).loc Cert.MixerKernelIdeal.main_arg1)
      ∧ r.2.mem ((c.tc : Thread Cert.MixerKernelIdeal.nD Cert.MixerKernelIdeal.τ).loc Cert.MixerKernelIdeal.main_arg2) = m ((c.tc : Thread Cert.MixerKernelIdeal.nD Cert.MixerKernelIdeal.τ).loc Cert.MixerKernelIdeal.main_arg2)
      ∧ r.2.mem ((c.tc : Thread Cert.MixerKernelIdeal.nD Cert.MixerKernelIdeal.τ).loc Cert.MixerKernelIdeal.main_arg3) = m ((c.tc : Thread Cert.MixerKernelIdeal.nD Cert.MixerKernelIdeal.τ).loc Cert.MixerKernelIdeal.main_arg3)
      ∧ r.2.mem ((c.tc : Thread Cert.MixerKernelIdeal.nD Cert.MixerKernelIdeal.τ).loc Cert.MixerKernelIdeal.main_arg4) = m ((c.tc : Thread Cert.MixerKernelIdeal.nD Cert.MixerKernelIdeal.τ).loc Cert.MixerKernelIdeal.main_arg4)
      ∧ r.2.mem ((c.tc : Thread Cert.MixerKernelIdeal.nD Cert.MixerKernelIdeal.τ).loc Cert.MixerKernelIdeal.main_arg5) = m ((c.tc : Thread Cert.MixerKernelIdeal.nD Cert.MixerKernelIdeal.τ).loc Cert.MixerKernelIdeal.main_arg5)
      ∧ r.2.mem ((c.tc : Thread Cert.MixerKernelIdeal.nD Cert.MixerKernelIdeal.τ).loc Cert.MixerKernelIdeal.main_arg6) = m ((c.tc : Thread Cert.MixerKernelIdeal.nD Cert.MixerKernelIdeal.τ).loc Cert.MixerKernelIdeal.main_arg6)
      ∧ r.2.mem ((c.tc : Thread Cert.MixerKernelIdeal.nD Cert.MixerKernelIdeal.τ).loc Cert.MixerKernelIdeal.main_arg7) = m ((c.tc : Thread Cert.MixerKernelIdeal.nD Cert.MixerKernelIdeal.τ).loc Cert.MixerKernelIdeal.main_arg7))
      ∧ r.2.sem = fun _ => 0)

def quiescent_MixerKernelIdeal_pre_mixer_finite [hMixerKernelIdeal : Cert.MixerKernelIdeal.Facts] [hPre_mixer_finite : Cert.Pre_mixer_finite.Facts] : Prop :=
  ∀ (m : (ℓ : Loc Cert.MixerKernelIdeal.nD Cert.MixerKernelIdeal.τ Cert.MixerKernelIdeal.sig) → Buf (Elt Ideal) ℓ) (g : Dev Cert.MixerKernelIdeal.nD → PrngReg), Pre_MixerKernelIdeal_mixer_finite m →
    θ_run (Cert.MixerKernelIdeal.defs (F := Ideal)) (onTc (τ := Cert.MixerKernelIdeal.τ) (Cert.MixerKernelIdeal.main (F := Ideal))) ⟨m, fun _ => 0, g⟩ (fun r => (∀ c : Dev Cert.MixerKernelIdeal.nD,
      r.2.mem ((c.tc : Thread Cert.MixerKernelIdeal.nD Cert.MixerKernelIdeal.τ).loc Cert.MixerKernelIdeal.main_arg0) = m ((c.tc : Thread Cert.MixerKernelIdeal.nD Cert.MixerKernelIdeal.τ).loc Cert.MixerKernelIdeal.main_arg0)
      ∧ r.2.mem ((c.tc : Thread Cert.MixerKernelIdeal.nD Cert.MixerKernelIdeal.τ).loc Cert.MixerKernelIdeal.main_arg1) = m ((c.tc : Thread Cert.MixerKernelIdeal.nD Cert.MixerKernelIdeal.τ).loc Cert.MixerKernelIdeal.main_arg1)
      ∧ r.2.mem ((c.tc : Thread Cert.MixerKernelIdeal.nD Cert.MixerKernelIdeal.τ).loc Cert.MixerKernelIdeal.main_arg2) = m ((c.tc : Thread Cert.MixerKernelIdeal.nD Cert.MixerKernelIdeal.τ).loc Cert.MixerKernelIdeal.main_arg2)
      ∧ r.2.mem ((c.tc : Thread Cert.MixerKernelIdeal.nD Cert.MixerKernelIdeal.τ).loc Cert.MixerKernelIdeal.main_arg3) = m ((c.tc : Thread Cert.MixerKernelIdeal.nD Cert.MixerKernelIdeal.τ).loc Cert.MixerKernelIdeal.main_arg3)
      ∧ r.2.mem ((c.tc : Thread Cert.MixerKernelIdeal.nD Cert.MixerKernelIdeal.τ).loc Cert.MixerKernelIdeal.main_arg4) = m ((c.tc : Thread Cert.MixerKernelIdeal.nD Cert.MixerKernelIdeal.τ).loc Cert.MixerKernelIdeal.main_arg4)
      ∧ r.2.mem ((c.tc : Thread Cert.MixerKernelIdeal.nD Cert.MixerKernelIdeal.τ).loc Cert.MixerKernelIdeal.main_arg5) = m ((c.tc : Thread Cert.MixerKernelIdeal.nD Cert.MixerKernelIdeal.τ).loc Cert.MixerKernelIdeal.main_arg5)
      ∧ r.2.mem ((c.tc : Thread Cert.MixerKernelIdeal.nD Cert.MixerKernelIdeal.τ).loc Cert.MixerKernelIdeal.main_arg6) = m ((c.tc : Thread Cert.MixerKernelIdeal.nD Cert.MixerKernelIdeal.τ).loc Cert.MixerKernelIdeal.main_arg6)
      ∧ r.2.mem ((c.tc : Thread Cert.MixerKernelIdeal.nD Cert.MixerKernelIdeal.τ).loc Cert.MixerKernelIdeal.main_arg7) = m ((c.tc : Thread Cert.MixerKernelIdeal.nD Cert.MixerKernelIdeal.τ).loc Cert.MixerKernelIdeal.main_arg7))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6)
      ∧ r.2.mem ((c.tc : Thread Cert.MixerReferenceIdeal.nD Cert.MixerReferenceIdeal.τ).loc Cert.MixerReferenceIdeal.main_arg7) = m ((c.tc : Thread Cert.MixerReferenceIdeal.nD Cert.MixerReferenceIdeal.τ).loc Cert.MixerReferenceIdeal.main_arg7))
      ∧ r.2.sem = fun _ => 0)

def quiescent_MixerReferenceIdeal_pre_mixer_finite [hMixerReferenceIdeal : Cert.MixerReferenceIdeal.Facts] [hPre_mixer_finite : Cert.Pre_mixer_finite.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal_mixer_finite m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6)
      ∧ r.2.mem ((c.tc : Thread Cert.MixerReferenceIdeal.nD Cert.MixerReferenceIdeal.τ).loc Cert.MixerReferenceIdeal.main_arg7) = m ((c.tc : Thread Cert.MixerReferenceIdeal.nD Cert.MixerReferenceIdeal.τ).loc Cert.MixerReferenceIdeal.main_arg7))
      ∧ r.2.sem = fun _ => 0)

def preserves_ProjKernel_ProjKernelIdeal : Prop :=
  True

def algebraic_ProjKernelIdeal_ProjReferenceIdeal_pre_proj_finite [hProjKernelIdeal : Cert.ProjKernelIdeal.Facts] [hProjReferenceIdeal : Cert.ProjReferenceIdeal.Facts] [hPre_proj_finite : Cert.Pre_proj_finite.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal_proj_finite m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)) →
    ∃ (v0 : (c : Dev Cert.ProjKernelIdeal.nD) → Buf (Elt Ideal) ((c.tc : Thread Cert.ProjKernelIdeal.nD Cert.ProjKernelIdeal.τ).loc Cert.ProjKernelIdeal.main_v7_0)) (v1 : (c : Dev Cert.ProjKernelIdeal.nD) → Buf (Elt Ideal) ((c.tc : Thread Cert.ProjKernelIdeal.nD Cert.ProjKernelIdeal.τ).loc Cert.ProjKernelIdeal.main_v7_1)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v7_0) = v0 c
          ∧ r.2.mem ((c.tc : Thread Cert.ProjKernelIdeal.nD Cert.ProjKernelIdeal.τ).loc Cert.ProjKernelIdeal.main_v7_1) = v1 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v42) = v0 c
          ∧ r.2.mem ((c.tc : Thread Cert.ProjReferenceIdeal.nD Cert.ProjReferenceIdeal.τ).loc Cert.ProjReferenceIdeal.main_v43) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v27_0)) (v1 : (c : Dev Cert.FfnKernelIdeal.nD) → Buf (Elt Ideal) ((c.tc : Thread Cert.FfnKernelIdeal.nD Cert.FfnKernelIdeal.τ).loc Cert.FfnKernelIdeal.main_v27_1)) (v2 : (c : Dev Cert.FfnKernelIdeal.nD) → Buf (Elt Ideal) ((c.tc : Thread Cert.FfnKernelIdeal.nD Cert.FfnKernelIdeal.τ).loc Cert.FfnKernelIdeal.main_v27_2)) (v3 : (c : Dev Cert.FfnKernelIdeal.nD) → Buf (Elt Ideal) ((c.tc : Thread Cert.FfnKernelIdeal.nD Cert.FfnKernelIdeal.τ).loc Cert.FfnKernelIdeal.main_v27_3)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v27_0) = v0 c
          ∧ r.2.mem ((c.tc : Thread Cert.FfnKernelIdeal.nD Cert.FfnKernelIdeal.τ).loc Cert.FfnKernelIdeal.main_v27_1) = v1 c
          ∧ r.2.mem ((c.tc : Thread Cert.FfnKernelIdeal.nD Cert.FfnKernelIdeal.τ).loc Cert.FfnKernelIdeal.main_v27_2) = v2 c
          ∧ r.2.mem ((c.tc : Thread Cert.FfnKernelIdeal.nD Cert.FfnKernelIdeal.τ).loc Cert.FfnKernelIdeal.main_v27_3) = v3 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v83) = v0 c
          ∧ r.2.mem ((c.tc : Thread Cert.FfnReferenceIdeal.nD Cert.FfnReferenceIdeal.τ).loc Cert.FfnReferenceIdeal.main_v85) = v1 c
          ∧ r.2.mem ((c.tc : Thread Cert.FfnReferenceIdeal.nD Cert.FfnReferenceIdeal.τ).loc Cert.FfnReferenceIdeal.main_v86) = v2 c
          ∧ r.2.mem ((c.tc : Thread Cert.FfnReferenceIdeal.nD Cert.FfnReferenceIdeal.τ).loc Cert.FfnReferenceIdeal.main_v87) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_MixKernel_MixKernelIdeal : Prop :=
  IdealRules.named_const.Statement Cert.MixKernelIdeal.κ "mask" .f32 0xF149F2CA#32 ⊥

def algebraic_MixKernelIdeal_MixReferenceIdeal_pre_mix_finite [hMixKernelIdeal : Cert.MixKernelIdeal.Facts] [hMixReferenceIdeal : Cert.MixReferenceIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_mix_finite m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)) →
    ∃ (v0 : (c : Dev Cert.MixKernelIdeal.nD) → Buf (Elt Ideal) ((c.tc : Thread Cert.MixKernelIdeal.nD Cert.MixKernelIdeal.τ).loc Cert.MixKernelIdeal.main_v14_0)) (v1 : (c : Dev Cert.MixKernelIdeal.nD) → Buf (Elt Ideal) ((c.tc : Thread Cert.MixKernelIdeal.nD Cert.MixKernelIdeal.τ).loc Cert.MixKernelIdeal.main_v14_1)) (v2 : (c : Dev Cert.MixKernelIdeal.nD) → Buf (Elt Ideal) ((c.tc : Thread Cert.MixKernelIdeal.nD Cert.MixKernelIdeal.τ).loc Cert.MixKernelIdeal.main_v14_2)) (v3 : (c : Dev Cert.MixKernelIdeal.nD) → Buf (Elt Ideal) ((c.tc : Thread Cert.MixKernelIdeal.nD Cert.MixKernelIdeal.τ).loc Cert.MixKernelIdeal.main_v14_3)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v14_0) = v0 c
          ∧ r.2.mem ((c.tc : Thread Cert.MixKernelIdeal.nD Cert.MixKernelIdeal.τ).loc Cert.MixKernelIdeal.main_v14_1) = v1 c
          ∧ r.2.mem ((c.tc : Thread Cert.MixKernelIdeal.nD Cert.MixKernelIdeal.τ).loc Cert.MixKernelIdeal.main_v14_2) = v2 c
          ∧ r.2.mem ((c.tc : Thread Cert.MixKernelIdeal.nD Cert.MixKernelIdeal.τ).loc Cert.MixKernelIdeal.main_v14_3) = v3 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v157) = v0 c
          ∧ r.2.mem ((c.tc : Thread Cert.MixReferenceIdeal.nD Cert.MixReferenceIdeal.τ).loc Cert.MixReferenceIdeal.main_v158) = v1 c
          ∧ r.2.mem ((c.tc : Thread Cert.MixReferenceIdeal.nD Cert.MixReferenceIdeal.τ).loc Cert.MixReferenceIdeal.main_v159) = v2 c
          ∧ r.2.mem ((c.tc : Thread Cert.MixReferenceIdeal.nD Cert.MixReferenceIdeal.τ).loc Cert.MixReferenceIdeal.main_v161) = v3 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)
      ∧ m' ((c.tc : Thread Cert.LossReferenceIdeal.nD Cert.LossReferenceIdeal.τ).loc Cert.LossReferenceIdeal.main_arg5) = m ((c.tc : Thread Cert.LossKernelIdeal.nD Cert.LossKernelIdeal.τ).loc Cert.LossKernelIdeal.main_arg5)) →
    ∃ (v0 : (c : Dev Cert.LossKernelIdeal.nD) → Buf (Elt Ideal) ((c.tc : Thread Cert.LossKernelIdeal.nD Cert.LossKernelIdeal.τ).loc Cert.LossKernelIdeal.main_v37_0)) (v1 : (c : Dev Cert.LossKernelIdeal.nD) → Buf (Elt Ideal) ((c.tc : Thread Cert.LossKernelIdeal.nD Cert.LossKernelIdeal.τ).loc Cert.LossKernelIdeal.main_v37_1)) (v2 : (c : Dev Cert.LossKernelIdeal.nD) → Buf (Elt Ideal) ((c.tc : Thread Cert.LossKernelIdeal.nD Cert.LossKernelIdeal.τ).loc Cert.LossKernelIdeal.main_v37_2)) (v3 : (c : Dev Cert.LossKernelIdeal.nD) → Buf (Elt Ideal) ((c.tc : Thread Cert.LossKernelIdeal.nD Cert.LossKernelIdeal.τ).loc Cert.LossKernelIdeal.main_v37_3)) (v4 : (c : Dev Cert.LossKernelIdeal.nD) → Buf (Elt Ideal) ((c.tc : Thread Cert.LossKernelIdeal.nD Cert.LossKernelIdeal.τ).loc Cert.LossKernelIdeal.main_v37_4)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v37_0) = v0 c
          ∧ r.2.mem ((c.tc : Thread Cert.LossKernelIdeal.nD Cert.LossKernelIdeal.τ).loc Cert.LossKernelIdeal.main_v37_1) = v1 c
          ∧ r.2.mem ((c.tc : Thread Cert.LossKernelIdeal.nD Cert.LossKernelIdeal.τ).loc Cert.LossKernelIdeal.main_v37_2) = v2 c
          ∧ r.2.mem ((c.tc : Thread Cert.LossKernelIdeal.nD Cert.LossKernelIdeal.τ).loc Cert.LossKernelIdeal.main_v37_3) = v3 c
          ∧ r.2.mem ((c.tc : Thread Cert.LossKernelIdeal.nD Cert.LossKernelIdeal.τ).loc Cert.LossKernelIdeal.main_v37_4) = v4 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
          ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v36) = v0 c
          ∧ r.2.mem ((c.tc : Thread Cert.LossReferenceIdeal.nD Cert.LossReferenceIdeal.τ).loc Cert.LossReferenceIdeal.main_v37) = v1 c
          ∧ r.2.mem ((c.tc : Thread Cert.LossReferenceIdeal.nD Cert.LossReferenceIdeal.τ).loc Cert.LossReferenceIdeal.main_v38) = v2 c
          ∧ r.2.mem ((c.tc : Thread Cert.LossReferenceIdeal.nD Cert.LossReferenceIdeal.τ).loc Cert.LossReferenceIdeal.main_v35) = v3 c
          ∧ r.2.mem ((c.tc : Thread Cert.LossReferenceIdeal.nD Cert.LossReferenceIdeal.τ).loc Cert.LossReferenceIdeal.main_v39) = v4 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4)
          ∧ r.2.mem ((c.tc : Thread Cert.LossReferenceIdeal.nD Cert.LossReferenceIdeal.τ).loc Cert.LossReferenceIdeal.main_arg5) = m' ((c.tc : Thread Cert.LossReferenceIdeal.nD Cert.LossReferenceIdeal.τ).loc Cert.LossReferenceIdeal.main_arg5))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)) →
    ∃ (v0 : (c : Dev Cert.NormKernelIdeal.nD) → Buf (Elt Ideal) ((c.tc : Thread Cert.NormKernelIdeal.nD Cert.NormKernelIdeal.τ).loc Cert.NormKernelIdeal.main_v4_0)) (v1 : (c : Dev Cert.NormKernelIdeal.nD) → Buf (Elt Ideal) ((c.tc : Thread Cert.NormKernelIdeal.nD Cert.NormKernelIdeal.τ).loc Cert.NormKernelIdeal.main_v4_1)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v4_0) = v0 c
          ∧ r.2.mem ((c.tc : Thread Cert.NormKernelIdeal.nD Cert.NormKernelIdeal.τ).loc Cert.NormKernelIdeal.main_v4_1) = v1 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v14) = v0 c
          ∧ r.2.mem ((c.tc : Thread Cert.NormReferenceIdeal.nD Cert.NormReferenceIdeal.τ).loc Cert.NormReferenceIdeal.main_v16) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2))

def preserves_GatedKernel_GatedKernelIdeal : Prop :=
  True

def algebraic_GatedKernelIdeal_GatedReferenceIdeal [hGatedKernelIdeal : Cert.GatedKernelIdeal.Facts] [hGatedReferenceIdeal : Cert.GatedReferenceIdeal.Facts] : Prop :=
  ∀ (m : (ℓ : Loc Cert.GatedKernelIdeal.nD Cert.GatedKernelIdeal.τ Cert.GatedKernelIdeal.sig) → Buf (Elt Ideal) ℓ) (g : Dev Cert.GatedKernelIdeal.nD → PrngReg)
    (m' : (ℓ : Loc Cert.GatedReferenceIdeal.nD Cert.GatedReferenceIdeal.τ Cert.GatedReferenceIdeal.sig) → Buf (Elt Ideal) ℓ) (g' : Dev Cert.GatedReferenceIdeal.nD → PrngReg), Pre_GatedKernelIdeal m →
    (∀ c : Dev Cert.GatedKernelIdeal.nD,
      m' ((c.tc : Thread Cert.GatedReferenceIdeal.nD Cert.GatedReferenceIdeal.τ).loc Cert.GatedReferenceIdeal.main_arg0) = m ((c.tc : Thread Cert.GatedKernelIdeal.nD Cert.GatedKernelIdeal.τ).loc Cert.GatedKernelIdeal.main_arg0)
      ∧ m' ((c.tc : Thread Cert.GatedReferenceIdeal.nD Cert.GatedReferenceIdeal.τ).loc Cert.GatedReferenceIdeal.main_arg1) = m ((c.tc : Thread Cert.GatedKernelIdeal.nD Cert.GatedKernelIdeal.τ).loc Cert.GatedKernelIdeal.main_arg1)
      ∧ m' ((c.tc : Thread Cert.GatedReferenceIdeal.nD Cert.GatedReferenceIdeal.τ).loc Cert.GatedReferenceIdeal.main_arg2) = m ((c.tc : Thread Cert.GatedKernelIdeal.nD Cert.GatedKernelIdeal.τ).loc Cert.GatedKernelIdeal.main_arg2)
      ∧ m' ((c.tc : Thread Cert.GatedReferenceIdeal.nD Cert.GatedReferenceIdeal.τ).loc Cert.GatedReferenceIdeal.main_arg3) = m ((c.tc : Thread Cert.GatedKernelIdeal.nD Cert.GatedKernelIdeal.τ).loc Cert.GatedKernelIdeal.main_arg3)
      ∧ m' ((c.tc : Thread Cert.GatedReferenceIdeal.nD Cert.GatedReferenceIdeal.τ).loc Cert.GatedReferenceIdeal.main_arg4) = m ((c.tc : Thread Cert.GatedKernelIdeal.nD Cert.GatedKernelIdeal.τ).loc Cert.GatedKernelIdeal.main_arg4)) →
    ∃ (v0 : (c : Dev Cert.GatedKernelIdeal.nD) → Buf (Elt Ideal) ((c.tc : Thread Cert.GatedKernelIdeal.nD Cert.GatedKernelIdeal.τ).loc Cert.GatedKernelIdeal.main_v7_0)) (v1 : (c : Dev Cert.GatedKernelIdeal.nD) → Buf (Elt Ideal) ((c.tc : Thread Cert.GatedKernelIdeal.nD Cert.GatedKernelIdeal.τ).loc Cert.GatedKernelIdeal.main_v8_0)) (v2 : (c : Dev Cert.GatedKernelIdeal.nD) → Buf (Elt Ideal) ((c.tc : Thread Cert.GatedKernelIdeal.nD Cert.GatedKernelIdeal.τ).loc Cert.GatedKernelIdeal.main_v8_1)) (v3 : (c : Dev Cert.GatedKernelIdeal.nD) → Buf (Elt Ideal) ((c.tc : Thread Cert.GatedKernelIdeal.nD Cert.GatedKernelIdeal.τ).loc Cert.GatedKernelIdeal.main_v8_2)) (v4 : (c : Dev Cert.GatedKernelIdeal.nD) → Buf (Elt Ideal) ((c.tc : Thread Cert.GatedKernelIdeal.nD Cert.GatedKernelIdeal.τ).loc Cert.GatedKernelIdeal.main_v8_3)),
      θ_run (Cert.GatedKernelIdeal.defs (F := Ideal)) (onTc (τ := Cert.GatedKernelIdeal.τ) (Cert.GatedKernelIdeal.main (F := Ideal))) ⟨m, fun _ => 0, g⟩ (fun r => ∀ c : Dev Cert.GatedKernelIdeal.nD,
          r.2.mem ((c.tc : Thread Cert.GatedKernelIdeal.nD Cert.GatedKernelIdeal.τ).loc Cert.GatedKernelIdeal.main_v7_0) = v0 c
          ∧ r.2.mem ((c.tc : Thread Cert.GatedKernelIdeal.nD Cert.GatedKernelIdeal.τ).loc Cert.GatedKernelIdeal.main_v8_0) = v1 c
          ∧ r.2.mem ((c.tc : Thread Cert.GatedKernelIdeal.nD Cert.GatedKernelIdeal.τ).loc Cert.GatedKernelIdeal.main_v8_1) = v2 c
          ∧ r.2.mem ((c.tc : Thread Cert.GatedKernelIdeal.nD Cert.GatedKernelIdeal.τ).loc Cert.GatedKernelIdeal.main_v8_2) = v3 c
          ∧ r.2.mem ((c.tc : Thread Cert.GatedKernelIdeal.nD Cert.GatedKernelIdeal.τ).loc Cert.GatedKernelIdeal.main_v8_3) = v4 c
          ∧ r.2.mem ((c.tc : Thread Cert.GatedKernelIdeal.nD Cert.GatedKernelIdeal.τ).loc Cert.GatedKernelIdeal.main_arg0) = m ((c.tc : Thread Cert.GatedKernelIdeal.nD Cert.GatedKernelIdeal.τ).loc Cert.GatedKernelIdeal.main_arg0)
          ∧ r.2.mem ((c.tc : Thread Cert.GatedKernelIdeal.nD Cert.GatedKernelIdeal.τ).loc Cert.GatedKernelIdeal.main_arg1) = m ((c.tc : Thread Cert.GatedKernelIdeal.nD Cert.GatedKernelIdeal.τ).loc Cert.GatedKernelIdeal.main_arg1)
          ∧ r.2.mem ((c.tc : Thread Cert.GatedKernelIdeal.nD Cert.GatedKernelIdeal.τ).loc Cert.GatedKernelIdeal.main_arg2) = m ((c.tc : Thread Cert.GatedKernelIdeal.nD Cert.GatedKernelIdeal.τ).loc Cert.GatedKernelIdeal.main_arg2)
          ∧ r.2.mem ((c.tc : Thread Cert.GatedKernelIdeal.nD Cert.GatedKernelIdeal.τ).loc Cert.GatedKernelIdeal.main_arg3) = m ((c.tc : Thread Cert.GatedKernelIdeal.nD Cert.GatedKernelIdeal.τ).loc Cert.GatedKernelIdeal.main_arg3)
          ∧ r.2.mem ((c.tc : Thread Cert.GatedKernelIdeal.nD Cert.GatedKernelIdeal.τ).loc Cert.GatedKernelIdeal.main_arg4) = m ((c.tc : Thread Cert.GatedKernelIdeal.nD Cert.GatedKernelIdeal.τ).loc Cert.GatedKernelIdeal.main_arg4))
      ∧ θ_run (Cert.GatedReferenceIdeal.defs (F := Ideal)) (onTc (τ := Cert.GatedReferenceIdeal.τ) (Cert.GatedReferenceIdeal.main (F := Ideal))) ⟨m', fun _ => 0, g'⟩ (fun r => ∀ c : Dev Cert.GatedReferenceIdeal.nD,
          r.2.mem ((c.tc : Thread Cert.GatedReferenceIdeal.nD Cert.GatedReferenceIdeal.τ).loc Cert.GatedReferenceIdeal.main_v18) = v0 c
          ∧ r.2.mem ((c.tc : Thread Cert.GatedReferenceIdeal.nD Cert.GatedReferenceIdeal.τ).loc Cert.GatedReferenceIdeal.main_v19) = v1 c
          ∧ r.2.mem ((c.tc : Thread Cert.GatedReferenceIdeal.nD Cert.GatedReferenceIdeal.τ).loc Cert.GatedReferenceIdeal.main_v20) = v2 c
          ∧ r.2.mem ((c.tc : Thread Cert.GatedReferenceIdeal.nD Cert.GatedReferenceIdeal.τ).loc Cert.GatedReferenceIdeal.main_v21) = v3 c
          ∧ r.2.mem ((c.tc : Thread Cert.GatedReferenceIdeal.nD Cert.GatedReferenceIdeal.τ).loc Cert.GatedReferenceIdeal.main_v23) = v4 c
          ∧ r.2.mem ((c.tc : Thread Cert.GatedReferenceIdeal.nD Cert.GatedReferenceIdeal.τ).loc Cert.GatedReferenceIdeal.main_arg0) = m' ((c.tc : Thread Cert.GatedReferenceIdeal.nD Cert.GatedReferenceIdeal.τ).loc Cert.GatedReferenceIdeal.main_arg0)
          ∧ r.2.mem ((c.tc : Thread Cert.GatedReferenceIdeal.nD Cert.GatedReferenceIdeal.τ).loc Cert.GatedReferenceIdeal.main_arg1) = m' ((c.tc : Thread Cert.GatedReferenceIdeal.nD Cert.GatedReferenceIdeal.τ).loc Cert.GatedReferenceIdeal.main_arg1)
          ∧ r.2.mem ((c.tc : Thread Cert.GatedReferenceIdeal.nD Cert.GatedReferenceIdeal.τ).loc Cert.GatedReferenceIdeal.main_arg2) = m' ((c.tc : Thread Cert.GatedReferenceIdeal.nD Cert.GatedReferenceIdeal.τ).loc Cert.GatedReferenceIdeal.main_arg2)
          ∧ r.2.mem ((c.tc : Thread Cert.GatedReferenceIdeal.nD Cert.GatedReferenceIdeal.τ).loc Cert.GatedReferenceIdeal.main_arg3) = m' ((c.tc : Thread Cert.GatedReferenceIdeal.nD Cert.GatedReferenceIdeal.τ).loc Cert.GatedReferenceIdeal.main_arg3)
          ∧ r.2.mem ((c.tc : Thread Cert.GatedReferenceIdeal.nD Cert.GatedReferenceIdeal.τ).loc Cert.GatedReferenceIdeal.main_arg4) = m' ((c.tc : Thread Cert.GatedReferenceIdeal.nD Cert.GatedReferenceIdeal.τ).loc Cert.GatedReferenceIdeal.main_arg4))

def preserves_WeightKernel_WeightKernelIdeal : Prop :=
  True

def algebraic_WeightKernelIdeal_WeightReferenceIdeal [hWeightKernelIdeal : Cert.WeightKernelIdeal.Facts] [hWeightReferenceIdeal : Cert.WeightReferenceIdeal.Facts] : Prop :=
  ∀ (m : (ℓ : Loc Cert.WeightKernelIdeal.nD Cert.WeightKernelIdeal.τ Cert.WeightKernelIdeal.sig) → Buf (Elt Ideal) ℓ) (g : Dev Cert.WeightKernelIdeal.nD → PrngReg)
    (m' : (ℓ : Loc Cert.WeightReferenceIdeal.nD Cert.WeightReferenceIdeal.τ Cert.WeightReferenceIdeal.sig) → Buf (Elt Ideal) ℓ) (g' : Dev Cert.WeightReferenceIdeal.nD → PrngReg), Pre_WeightKernelIdeal m →
    (∀ c : Dev Cert.WeightKernelIdeal.nD,
      m' ((c.tc : Thread Cert.WeightReferenceIdeal.nD Cert.WeightReferenceIdeal.τ).loc Cert.WeightReferenceIdeal.main_arg0) = m ((c.tc : Thread Cert.WeightKernelIdeal.nD Cert.WeightKernelIdeal.τ).loc Cert.WeightKernelIdeal.main_arg0)
      ∧ m' ((c.tc : Thread Cert.WeightReferenceIdeal.nD Cert.WeightReferenceIdeal.τ).loc Cert.WeightReferenceIdeal.main_arg1) = m ((c.tc : Thread Cert.WeightKernelIdeal.nD Cert.WeightKernelIdeal.τ).loc Cert.WeightKernelIdeal.main_arg1)
      ∧ m' ((c.tc : Thread Cert.WeightReferenceIdeal.nD Cert.WeightReferenceIdeal.τ).loc Cert.WeightReferenceIdeal.main_arg2) = m ((c.tc : Thread Cert.WeightKernelIdeal.nD Cert.WeightKernelIdeal.τ).loc Cert.WeightKernelIdeal.main_arg2)
      ∧ m' ((c.tc : Thread Cert.WeightReferenceIdeal.nD Cert.WeightReferenceIdeal.τ).loc Cert.WeightReferenceIdeal.main_arg3) = m ((c.tc : Thread Cert.WeightKernelIdeal.nD Cert.WeightKernelIdeal.τ).loc Cert.WeightKernelIdeal.main_arg3)) →
    ∃ (v0 : (c : Dev Cert.WeightKernelIdeal.nD) → Buf (Elt Ideal) ((c.tc : Thread Cert.WeightKernelIdeal.nD Cert.WeightKernelIdeal.τ).loc Cert.WeightKernelIdeal.main_v19_0)) (v1 : (c : Dev Cert.WeightKernelIdeal.nD) → Buf (Elt Ideal) ((c.tc : Thread Cert.WeightKernelIdeal.nD Cert.WeightKernelIdeal.τ).loc Cert.WeightKernelIdeal.main_v19_1)),
      θ_run (Cert.WeightKernelIdeal.defs (F := Ideal)) (onTc (τ := Cert.WeightKernelIdeal.τ) (Cert.WeightKernelIdeal.main (F := Ideal))) ⟨m, fun _ => 0, g⟩ (fun r => ∀ c : Dev Cert.WeightKernelIdeal.nD,
          r.2.mem ((c.tc : Thread Cert.WeightKernelIdeal.nD Cert.WeightKernelIdeal.τ).loc Cert.WeightKernelIdeal.main_v19_0) = v0 c
          ∧ r.2.mem ((c.tc : Thread Cert.WeightKernelIdeal.nD Cert.WeightKernelIdeal.τ).loc Cert.WeightKernelIdeal.main_v19_1) = v1 c
          ∧ r.2.mem ((c.tc : Thread Cert.WeightKernelIdeal.nD Cert.WeightKernelIdeal.τ).loc Cert.WeightKernelIdeal.main_arg0) = m ((c.tc : Thread Cert.WeightKernelIdeal.nD Cert.WeightKernelIdeal.τ).loc Cert.WeightKernelIdeal.main_arg0)
          ∧ r.2.mem ((c.tc : Thread Cert.WeightKernelIdeal.nD Cert.WeightKernelIdeal.τ).loc Cert.WeightKernelIdeal.main_arg1) = m ((c.tc : Thread Cert.WeightKernelIdeal.nD Cert.WeightKernelIdeal.τ).loc Cert.WeightKernelIdeal.main_arg1)
          ∧ r.2.mem ((c.tc : Thread Cert.WeightKernelIdeal.nD Cert.WeightKernelIdeal.τ).loc Cert.WeightKernelIdeal.main_arg2) = m ((c.tc : Thread Cert.WeightKernelIdeal.nD Cert.WeightKernelIdeal.τ).loc Cert.WeightKernelIdeal.main_arg2)
          ∧ r.2.mem ((c.tc : Thread Cert.WeightKernelIdeal.nD Cert.WeightKernelIdeal.τ).loc Cert.WeightKernelIdeal.main_arg3) = m ((c.tc : Thread Cert.WeightKernelIdeal.nD Cert.WeightKernelIdeal.τ).loc Cert.WeightKernelIdeal.main_arg3))
      ∧ θ_run (Cert.WeightReferenceIdeal.defs (F := Ideal)) (onTc (τ := Cert.WeightReferenceIdeal.τ) (Cert.WeightReferenceIdeal.main (F := Ideal))) ⟨m', fun _ => 0, g'⟩ (fun r => ∀ c : Dev Cert.WeightReferenceIdeal.nD,
          r.2.mem ((c.tc : Thread Cert.WeightReferenceIdeal.nD Cert.WeightReferenceIdeal.τ).loc Cert.WeightReferenceIdeal.main_v24) = v0 c
          ∧ r.2.mem ((c.tc : Thread Cert.WeightReferenceIdeal.nD Cert.WeightReferenceIdeal.τ).loc Cert.WeightReferenceIdeal.main_v26) = v1 c
          ∧ r.2.mem ((c.tc : Thread Cert.WeightReferenceIdeal.nD Cert.WeightReferenceIdeal.τ).loc Cert.WeightReferenceIdeal.main_arg0) = m' ((c.tc : Thread Cert.WeightReferenceIdeal.nD Cert.WeightReferenceIdeal.τ).loc Cert.WeightReferenceIdeal.main_arg0)
          ∧ r.2.mem ((c.tc : Thread Cert.WeightReferenceIdeal.nD Cert.WeightReferenceIdeal.τ).loc Cert.WeightReferenceIdeal.main_arg1) = m' ((c.tc : Thread Cert.WeightReferenceIdeal.nD Cert.WeightReferenceIdeal.τ).loc Cert.WeightReferenceIdeal.main_arg1)
          ∧ r.2.mem ((c.tc : Thread Cert.WeightReferenceIdeal.nD Cert.WeightReferenceIdeal.τ).loc Cert.WeightReferenceIdeal.main_arg2) = m' ((c.tc : Thread Cert.WeightReferenceIdeal.nD Cert.WeightReferenceIdeal.τ).loc Cert.WeightReferenceIdeal.main_arg2)
          ∧ r.2.mem ((c.tc : Thread Cert.WeightReferenceIdeal.nD Cert.WeightReferenceIdeal.τ).loc Cert.WeightReferenceIdeal.main_arg3) = m' ((c.tc : Thread Cert.WeightReferenceIdeal.nD Cert.WeightReferenceIdeal.τ).loc Cert.WeightReferenceIdeal.main_arg3))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v0_0)) (v1 : (c : Dev Cert.AdamKernelIdeal.nD) → Buf (Elt Ideal) ((c.tc : Thread Cert.AdamKernelIdeal.nD Cert.AdamKernelIdeal.τ).loc Cert.AdamKernelIdeal.main_v0_1)) (v2 : (c : Dev Cert.AdamKernelIdeal.nD) → Buf (Elt Ideal) ((c.tc : Thread Cert.AdamKernelIdeal.nD Cert.AdamKernelIdeal.τ).loc Cert.AdamKernelIdeal.main_v0_2)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v0_0) = v0 c
          ∧ r.2.mem ((c.tc : Thread Cert.AdamKernelIdeal.nD Cert.AdamKernelIdeal.τ).loc Cert.AdamKernelIdeal.main_v0_1) = v1 c
          ∧ r.2.mem ((c.tc : Thread Cert.AdamKernelIdeal.nD Cert.AdamKernelIdeal.τ).loc Cert.AdamKernelIdeal.main_v0_2) = v2 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v23) = v0 c
          ∧ r.2.mem ((c.tc : Thread Cert.AdamReferenceIdeal.nD Cert.AdamReferenceIdeal.τ).loc Cert.AdamReferenceIdeal.main_v4) = v1 c
          ∧ r.2.mem ((c.tc : Thread Cert.AdamReferenceIdeal.nD Cert.AdamReferenceIdeal.τ).loc Cert.AdamReferenceIdeal.main_v10) = v2 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_MixerKernel_MixerKernelIdeal : Prop :=
  True

def algebraic_MixerKernelIdeal_MixerReferenceIdeal_pre_mixer_finite [hMixerKernelIdeal : Cert.MixerKernelIdeal.Facts] [hMixerReferenceIdeal : Cert.MixerReferenceIdeal.Facts] [hPre_mixer_finite : Cert.Pre_mixer_finite.Facts] : Prop :=
  ∀ (m : (ℓ : Loc Cert.MixerKernelIdeal.nD Cert.MixerKernelIdeal.τ Cert.MixerKernelIdeal.sig) → Buf (Elt Ideal) ℓ) (g : Dev Cert.MixerKernelIdeal.nD → PrngReg)
    (m' : (ℓ : Loc Cert.MixerReferenceIdeal.nD Cert.MixerReferenceIdeal.τ Cert.MixerReferenceIdeal.sig) → Buf (Elt Ideal) ℓ) (g' : Dev Cert.MixerReferenceIdeal.nD → PrngReg), Pre_MixerKernelIdeal_mixer_finite m →
    (∀ c : Dev Cert.MixerKernelIdeal.nD,
      m' ((c.tc : Thread Cert.MixerReferenceIdeal.nD Cert.MixerReferenceIdeal.τ).loc Cert.MixerReferenceIdeal.main_arg0) = m ((c.tc : Thread Cert.MixerKernelIdeal.nD Cert.MixerKernelIdeal.τ).loc Cert.MixerKernelIdeal.main_arg0)
      ∧ m' ((c.tc : Thread Cert.MixerReferenceIdeal.nD Cert.MixerReferenceIdeal.τ).loc Cert.MixerReferenceIdeal.main_arg1) = m ((c.tc : Thread Cert.MixerKernelIdeal.nD Cert.MixerKernelIdeal.τ).loc Cert.MixerKernelIdeal.main_arg1)
      ∧ m' ((c.tc : Thread Cert.MixerReferenceIdeal.nD Cert.MixerReferenceIdeal.τ).loc Cert.MixerReferenceIdeal.main_arg2) = m ((c.tc : Thread Cert.MixerKernelIdeal.nD Cert.MixerKernelIdeal.τ).loc Cert.MixerKernelIdeal.main_arg2)
      ∧ m' ((c.tc : Thread Cert.MixerReferenceIdeal.nD Cert.MixerReferenceIdeal.τ).loc Cert.MixerReferenceIdeal.main_arg3) = m ((c.tc : Thread Cert.MixerKernelIdeal.nD Cert.MixerKernelIdeal.τ).loc Cert.MixerKernelIdeal.main_arg3)
      ∧ m' ((c.tc : Thread Cert.MixerReferenceIdeal.nD Cert.MixerReferenceIdeal.τ).loc Cert.MixerReferenceIdeal.main_arg4) = m ((c.tc : Thread Cert.MixerKernelIdeal.nD Cert.MixerKernelIdeal.τ).loc Cert.MixerKernelIdeal.main_arg4)
      ∧ m' ((c.tc : Thread Cert.MixerReferenceIdeal.nD Cert.MixerReferenceIdeal.τ).loc Cert.MixerReferenceIdeal.main_arg5) = m ((c.tc : Thread Cert.MixerKernelIdeal.nD Cert.MixerKernelIdeal.τ).loc Cert.MixerKernelIdeal.main_arg5)
      ∧ m' ((c.tc : Thread Cert.MixerReferenceIdeal.nD Cert.MixerReferenceIdeal.τ).loc Cert.MixerReferenceIdeal.main_arg6) = m ((c.tc : Thread Cert.MixerKernelIdeal.nD Cert.MixerKernelIdeal.τ).loc Cert.MixerKernelIdeal.main_arg6)
      ∧ m' ((c.tc : Thread Cert.MixerReferenceIdeal.nD Cert.MixerReferenceIdeal.τ).loc Cert.MixerReferenceIdeal.main_arg7) = m ((c.tc : Thread Cert.MixerKernelIdeal.nD Cert.MixerKernelIdeal.τ).loc Cert.MixerKernelIdeal.main_arg7)) →
    ∃ (v0 : (c : Dev Cert.MixerKernelIdeal.nD) → Buf (Elt Ideal) ((c.tc : Thread Cert.MixerKernelIdeal.nD Cert.MixerKernelIdeal.τ).loc Cert.MixerKernelIdeal.main_v81)) (v1 : (c : Dev Cert.MixerKernelIdeal.nD) → Buf (Elt Ideal) ((c.tc : Thread Cert.MixerKernelIdeal.nD Cert.MixerKernelIdeal.τ).loc Cert.MixerKernelIdeal.main_v82)) (v2 : (c : Dev Cert.MixerKernelIdeal.nD) → Buf (Elt Ideal) ((c.tc : Thread Cert.MixerKernelIdeal.nD Cert.MixerKernelIdeal.τ).loc Cert.MixerKernelIdeal.main_v83)),
      θ_run (Cert.MixerKernelIdeal.defs (F := Ideal)) (onTc (τ := Cert.MixerKernelIdeal.τ) (Cert.MixerKernelIdeal.main (F := Ideal))) ⟨m, fun _ => 0, g⟩ (fun r => ∀ c : Dev Cert.MixerKernelIdeal.nD,
          r.2.mem ((c.tc : Thread Cert.MixerKernelIdeal.nD Cert.MixerKernelIdeal.τ).loc Cert.MixerKernelIdeal.main_v81) = v0 c
          ∧ r.2.mem ((c.tc : Thread Cert.MixerKernelIdeal.nD Cert.MixerKernelIdeal.τ).loc Cert.MixerKernelIdeal.main_v82) = v1 c
          ∧ r.2.mem ((c.tc : Thread Cert.MixerKernelIdeal.nD Cert.MixerKernelIdeal.τ).loc Cert.MixerKernelIdeal.main_v83) = v2 c
          ∧ r.2.mem ((c.tc : Thread Cert.MixerKernelIdeal.nD Cert.MixerKernelIdeal.τ).loc Cert.MixerKernelIdeal.main_arg0) = m ((c.tc : Thread Cert.MixerKernelIdeal.nD Cert.MixerKernelIdeal.τ).loc Cert.MixerKernelIdeal.main_arg0)
          ∧ r.2.mem ((c.tc : Thread Cert.MixerKernelIdeal.nD Cert.MixerKernelIdeal.τ).loc Cert.MixerKernelIdeal.main_arg1) = m ((c.tc : Thread Cert.MixerKernelIdeal.nD Cert.MixerKernelIdeal.τ).loc Cert.MixerKernelIdeal.main_arg1)
          ∧ r.2.mem ((c.tc : Thread Cert.MixerKernelIdeal.nD Cert.MixerKernelIdeal.τ).loc Cert.MixerKernelIdeal.main_arg2) = m ((c.tc : Thread Cert.MixerKernelIdeal.nD Cert.MixerKernelIdeal.τ).loc Cert.MixerKernelIdeal.main_arg2)
          ∧ r.2.mem ((c.tc : Thread Cert.MixerKernelIdeal.nD Cert.MixerKernelIdeal.τ).loc Cert.MixerKernelIdeal.main_arg3) = m ((c.tc : Thread Cert.MixerKernelIdeal.nD Cert.MixerKernelIdeal.τ).loc Cert.MixerKernelIdeal.main_arg3)
          ∧ r.2.mem ((c.tc : Thread Cert.MixerKernelIdeal.nD Cert.MixerKernelIdeal.τ).loc Cert.MixerKernelIdeal.main_arg4) = m ((c.tc : Thread Cert.MixerKernelIdeal.nD Cert.MixerKernelIdeal.τ).loc Cert.MixerKernelIdeal.main_arg4)
          ∧ r.2.mem ((c.tc : Thread Cert.MixerKernelIdeal.nD Cert.MixerKernelIdeal.τ).loc Cert.MixerKernelIdeal.main_arg5) = m ((c.tc : Thread Cert.MixerKernelIdeal.nD Cert.MixerKernelIdeal.τ).loc Cert.MixerKernelIdeal.main_arg5)
          ∧ r.2.mem ((c.tc : Thread Cert.MixerKernelIdeal.nD Cert.MixerKernelIdeal.τ).loc Cert.MixerKernelIdeal.main_arg6) = m ((c.tc : Thread Cert.MixerKernelIdeal.nD Cert.MixerKernelIdeal.τ).loc Cert.MixerKernelIdeal.main_arg6)
          ∧ r.2.mem ((c.tc : Thread Cert.MixerKernelIdeal.nD Cert.MixerKernelIdeal.τ).loc Cert.MixerKernelIdeal.main_arg7) = m ((c.tc : Thread Cert.MixerKernelIdeal.nD Cert.MixerKernelIdeal.τ).loc Cert.MixerKernelIdeal.main_arg7))
      ∧ θ_run (Cert.MixerReferenceIdeal.defs (F := Ideal)) (onTc (τ := Cert.MixerReferenceIdeal.τ) (Cert.MixerReferenceIdeal.main (F := Ideal))) ⟨m', fun _ => 0, g'⟩ (fun r => ∀ c : Dev Cert.MixerReferenceIdeal.nD,
          r.2.mem ((c.tc : Thread Cert.MixerReferenceIdeal.nD Cert.MixerReferenceIdeal.τ).loc Cert.MixerReferenceIdeal.main_v80) = v0 c
          ∧ r.2.mem ((c.tc : Thread Cert.MixerReferenceIdeal.nD Cert.MixerReferenceIdeal.τ).loc Cert.MixerReferenceIdeal.main_v81) = v1 c
          ∧ r.2.mem ((c.tc : Thread Cert.MixerReferenceIdeal.nD Cert.MixerReferenceIdeal.τ).loc Cert.MixerReferenceIdeal.main_v82) = v2 c
          ∧ r.2.mem ((c.tc : Thread Cert.MixerReferenceIdeal.nD Cert.MixerReferenceIdeal.τ).loc Cert.MixerReferenceIdeal.main_arg0) = m' ((c.tc : Thread Cert.MixerReferenceIdeal.nD Cert.MixerReferenceIdeal.τ).loc Cert.MixerReferenceIdeal.main_arg0)
          ∧ r.2.mem ((c.tc : Thread Cert.MixerReferenceIdeal.nD Cert.MixerReferenceIdeal.τ).loc Cert.MixerReferenceIdeal.main_arg1) = m' ((c.tc : Thread Cert.MixerReferenceIdeal.nD Cert.MixerReferenceIdeal.τ).loc Cert.MixerReferenceIdeal.main_arg1)
          ∧ r.2.mem ((c.tc : Thread Cert.MixerReferenceIdeal.nD Cert.MixerReferenceIdeal.τ).loc Cert.MixerReferenceIdeal.main_arg2) = m' ((c.tc : Thread Cert.MixerReferenceIdeal.nD Cert.MixerReferenceIdeal.τ).loc Cert.MixerReferenceIdeal.main_arg2)
          ∧ r.2.mem ((c.tc : Thread Cert.MixerReferenceIdeal.nD Cert.MixerReferenceIdeal.τ).loc Cert.MixerReferenceIdeal.main_arg3) = m' ((c.tc : Thread Cert.MixerReferenceIdeal.nD Cert.MixerReferenceIdeal.τ).loc Cert.MixerReferenceIdeal.main_arg3)
          ∧ r.2.mem ((c.tc : Thread Cert.MixerReferenceIdeal.nD Cert.MixerReferenceIdeal.τ).loc Cert.MixerReferenceIdeal.main_arg4) = m' ((c.tc : Thread Cert.MixerReferenceIdeal.nD Cert.MixerReferenceIdeal.τ).loc Cert.MixerReferenceIdeal.main_arg4)
          ∧ r.2.mem ((c.tc : Thread Cert.MixerReferenceIdeal.nD Cert.MixerReferenceIdeal.τ).loc Cert.MixerReferenceIdeal.main_arg5) = m' ((c.tc : Thread Cert.MixerReferenceIdeal.nD Cert.MixerReferenceIdeal.τ).loc Cert.MixerReferenceIdeal.main_arg5)
          ∧ r.2.mem ((c.tc : Thread Cert.MixerReferenceIdeal.nD Cert.MixerReferenceIdeal.τ).loc Cert.MixerReferenceIdeal.main_arg6) = m' ((c.tc : Thread Cert.MixerReferenceIdeal.nD Cert.MixerReferenceIdeal.τ).loc Cert.MixerReferenceIdeal.main_arg6)
          ∧ r.2.mem ((c.tc : Thread Cert.MixerReferenceIdeal.nD Cert.MixerReferenceIdeal.τ).loc Cert.MixerReferenceIdeal.main_arg7) = m' ((c.tc : Thread Cert.MixerReferenceIdeal.nD Cert.MixerReferenceIdeal.τ).loc Cert.MixerReferenceIdeal.main_arg7))

def Claim : Prop :=
  ∃ (hProjKernel : Cert.ProjKernel.Facts) (hProjKernelIdeal : Cert.ProjKernelIdeal.Facts) (hProjReferenceIdeal : Cert.ProjReferenceIdeal.Facts) (hFfnKernel : Cert.FfnKernel.Facts) (hFfnKernelIdeal : Cert.FfnKernelIdeal.Facts) (hFfnReferenceIdeal : Cert.FfnReferenceIdeal.Facts) (hMixKernel : Cert.MixKernel.Facts) (hMixKernelIdeal : Cert.MixKernelIdeal.Facts) (hMixReferenceIdeal : Cert.MixReferenceIdeal.Facts) (hLossKernel : Cert.LossKernel.Facts) (hLossKernelIdeal : Cert.LossKernelIdeal.Facts) (hLossReferenceIdeal : Cert.LossReferenceIdeal.Facts) (hNormKernel : Cert.NormKernel.Facts) (hNormKernelIdeal : Cert.NormKernelIdeal.Facts) (hNormReferenceIdeal : Cert.NormReferenceIdeal.Facts) (hGatedKernel : Cert.GatedKernel.Facts) (hGatedKernelIdeal : Cert.GatedKernelIdeal.Facts) (hGatedReferenceIdeal : Cert.GatedReferenceIdeal.Facts) (hWeightKernel : Cert.WeightKernel.Facts) (hWeightKernelIdeal : Cert.WeightKernelIdeal.Facts) (hWeightReferenceIdeal : Cert.WeightReferenceIdeal.Facts) (hAdamKernel : Cert.AdamKernel.Facts) (hAdamKernelIdeal : Cert.AdamKernelIdeal.Facts) (hAdamReferenceIdeal : Cert.AdamReferenceIdeal.Facts) (hMixerKernel : Cert.MixerKernel.Facts) (hMixerKernelIdeal : Cert.MixerKernelIdeal.Facts) (hMixerReferenceIdeal : Cert.MixerReferenceIdeal.Facts) (hPre_proj_finite : Cert.Pre_proj_finite.Facts) (hPre_ffn_finite : Cert.Pre_ffn_finite.Facts) (hPre_mix_finite : Cert.Pre_mix_finite.Facts) (hPre_mixer_finite : Cert.Pre_mixer_finite.Facts),
    quiescent_ProjKernel (hProjKernel := hProjKernel)
    ∧ quiescent_ProjKernelIdeal (hProjKernelIdeal := hProjKernelIdeal)
    ∧ quiescent_ProjKernelIdeal_pre_proj_finite (hProjKernelIdeal := hProjKernelIdeal) (hPre_proj_finite := hPre_proj_finite)
    ∧ quiescent_ProjReferenceIdeal (hProjReferenceIdeal := hProjReferenceIdeal)
    ∧ quiescent_ProjReferenceIdeal_pre_proj_finite (hProjReferenceIdeal := hProjReferenceIdeal) (hPre_proj_finite := hPre_proj_finite)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_MixKernel (hMixKernel := hMixKernel)
    ∧ quiescent_MixKernelIdeal (hMixKernelIdeal := hMixKernelIdeal)
    ∧ quiescent_MixKernelIdeal_pre_mix_finite (hMixKernelIdeal := hMixKernelIdeal) (hPre_mix_finite := hPre_mix_finite)
    ∧ quiescent_MixReferenceIdeal (hMixReferenceIdeal := hMixReferenceIdeal)
    ∧ quiescent_MixReferenceIdeal_pre_mix_finite (hMixReferenceIdeal := hMixReferenceIdeal) (hPre_mix_finite := hPre_mix_finite)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_GatedKernel (hGatedKernel := hGatedKernel)
    ∧ quiescent_GatedKernelIdeal (hGatedKernelIdeal := hGatedKernelIdeal)
    ∧ quiescent_GatedReferenceIdeal (hGatedReferenceIdeal := hGatedReferenceIdeal)
    ∧ quiescent_WeightKernel (hWeightKernel := hWeightKernel)
    ∧ quiescent_WeightKernelIdeal (hWeightKernelIdeal := hWeightKernelIdeal)
    ∧ quiescent_WeightReferenceIdeal (hWeightReferenceIdeal := hWeightReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ quiescent_MixerKernel (hMixerKernel := hMixerKernel)
    ∧ quiescent_MixerKernelIdeal (hMixerKernelIdeal := hMixerKernelIdeal)
    ∧ quiescent_MixerKernelIdeal_pre_mixer_finite (hMixerKernelIdeal := hMixerKernelIdeal) (hPre_mixer_finite := hPre_mixer_finite)
    ∧ quiescent_MixerReferenceIdeal (hMixerReferenceIdeal := hMixerReferenceIdeal)
    ∧ quiescent_MixerReferenceIdeal_pre_mixer_finite (hMixerReferenceIdeal := hMixerReferenceIdeal) (hPre_mixer_finite := hPre_mixer_finite)
    ∧ preserves_ProjKernel_ProjKernelIdeal
    ∧ algebraic_ProjKernelIdeal_ProjReferenceIdeal_pre_proj_finite (hProjKernelIdeal := hProjKernelIdeal) (hProjReferenceIdeal := hProjReferenceIdeal) (hPre_proj_finite := hPre_proj_finite)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_MixKernel_MixKernelIdeal
    ∧ algebraic_MixKernelIdeal_MixReferenceIdeal_pre_mix_finite (hMixKernelIdeal := hMixKernelIdeal) (hMixReferenceIdeal := hMixReferenceIdeal) (hPre_mix_finite := hPre_mix_finite)
    ∧ preserves_LossKernel_LossKernelIdeal
    ∧ algebraic_LossKernelIdeal_LossReferenceIdeal (hLossKernelIdeal := hLossKernelIdeal) (hLossReferenceIdeal := hLossReferenceIdeal)
    ∧ preserves_NormKernel_NormKernelIdeal
    ∧ algebraic_NormKernelIdeal_NormReferenceIdeal (hNormKernelIdeal := hNormKernelIdeal) (hNormReferenceIdeal := hNormReferenceIdeal)
    ∧ preserves_GatedKernel_GatedKernelIdeal
    ∧ algebraic_GatedKernelIdeal_GatedReferenceIdeal (hGatedKernelIdeal := hGatedKernelIdeal) (hGatedReferenceIdeal := hGatedReferenceIdeal)
    ∧ preserves_WeightKernel_WeightKernelIdeal
    ∧ algebraic_WeightKernelIdeal_WeightReferenceIdeal (hWeightKernelIdeal := hWeightKernelIdeal) (hWeightReferenceIdeal := hWeightReferenceIdeal)
    ∧ preserves_AdamKernel_AdamKernelIdeal
    ∧ algebraic_AdamKernelIdeal_AdamReferenceIdeal (hAdamKernelIdeal := hAdamKernelIdeal) (hAdamReferenceIdeal := hAdamReferenceIdeal)
    ∧ preserves_MixerKernel_MixerKernelIdeal
    ∧ algebraic_MixerKernelIdeal_MixerReferenceIdeal_pre_mixer_finite (hMixerKernelIdeal := hMixerKernelIdeal) (hMixerReferenceIdeal := hMixerReferenceIdeal) (hPre_mixer_finite := hPre_mixer_finite)
-- ==== Pre_ffn_finite.lean ====
abbrev S1x8192x1024 : Shape := ⟨3, ![1, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S1x8192x1024 : S_.BroadcastsInDim S1x8192x1024 (![] : Fin 0 → Fin S1x8192x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S1x8192x1024 .f32) (main_arg1 : FVec F S1024 .f32) (main_arg2 : FVec F S1024x2816 .f32) (main_arg3 : FVec F S1024x2816 .f32) (main_arg4 : FVec F S2816x1024 .f32) (main_arg5 : FVec F S1x8192x1024 .f32) : IVec S1x8192x1024 1 × IVec S1024 1 × IVec S1024x2816 1 × IVec S1024x2816 1 × IVec S2816x1024 1 × IVec S1x8192x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S1x8192x1024 .f32 := Host.absf main_arg5
  let main_cst_4 : FVec F S_ .f32 := constant S_ .f32 0x7F800000#32
  let main_v16 : FVec F S1x8192x1024 .f32 := broadcastInDim S1x8192x1024 ![] bcast_S_S1x8192x1024 main_cst_4
  let main_v17 : IVec S1x8192x1024 1 := cmpf .olt main_v15 main_v16
  (main_v2, main_v5, main_v8, main_v11, main_v14, main_v17)
-- ==== Pre_mix_finite.lean ====
abbrev S1x8192x1024 : Shape := ⟨3, ![1, 8192, 1024]⟩
abbrev S1x8192x2304 : Shape := ⟨3, ![1, 8192, 2304]⟩
abbrev S3x512 : Shape := ⟨2, ![3, 512]⟩
abbrev S64 : Shape := ⟨1, ![64]⟩
abbrev S8 : Shape := ⟨1, ![8]⟩
abbrev S512 : Shape := ⟨1, ![512]⟩
abbrev S1024x1024 : Shape := ⟨2, ![1024, 1024]⟩
abbrev S_ : Shape := ⟨0, ![]⟩

class Facts : Prop where
  bcast_S_S1x8192x2304 : S_.BroadcastsInDim S1x8192x2304 (![] : Fin 0 → Fin S1x8192x2304.rank)
  bcast_S_S64 : S_.BroadcastsInDim S64 (![] : Fin 0 → Fin S64.rank)
  bcast_S_S8 : S_.BroadcastsInDim S8 (![] : Fin 0 → Fin S8.rank)

variable [Facts]

def fn {F : FTy → Type} [FloatOps F] (main_arg0 : FVec F S1x8192x1024 .f32) (main_arg1 : FVec F S1x8192x2304 .f32) (main_arg2 : FVec F S3x512 .f32) (main_arg3 : FVec F S64 .f32) (main_arg4 : FVec F S64 .f32) (main_arg5 : FVec F S8 .f32) (main_arg6 : FVec F S512 .f32) (main_arg7 : FVec F S512 .f32) (main_arg8 : FVec F S1024x1024 .f32) : IVec S1x8192x2304 1 × IVec S64 1 × IVec S64 1 × IVec S8 1 :=
  let main_v0 : FVec F S1x8192x2304 .f32 := Host.absf main_arg1
  let main_cst : FVec F S_ .f32 := constant S_ .f32 0x7F800000#32
  let main_v1 : FVec F S1x8192x2304 .f32 := broadcastInDim S1x8192x2304 ![] bcast_S_S1x8192x2304 main_cst
  let main_v2 : IVec S1x8192x2304 1 := cmpf .olt main_v0 main_v1
  let main_v3 : FVec F S64 .f32 := Host.absf main_arg3
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S64 .f32 := Host.absf main_arg4
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S8 .f32 := Host.absf main_arg5
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  (main_v2, main_v5, main_v8, main_v11)
-- ==== Pre_mixer_finite.lean ====
abbrev S1x8192x2304 : Shape := ⟨3, ![1, 8192, 2304]⟩
abbrev S3x512 : Shape := ⟨2, ![3, 512]⟩
abbrev S64 : Shape := ⟨1, ![64]⟩
abbrev S8 : Shape := ⟨1, ![8]⟩
abbrev S512 : Shape := ⟨1, ![512]⟩
abbrev S1x8192x1024 : Shape := ⟨3, ![1, 8192, 1024]⟩
abbrev S_ : Shape := ⟨0, ![]⟩

class Facts : Prop where
  bcast_S_S1x8192x2304 : S_.BroadcastsInDim S1x8192x2304 (![] : Fin 0 → Fin S1x8192x2304.rank)
  bcast_S_S3x512 : S_.BroadcastsInDim S3x512 (![] : Fin 0 → Fin S3x512.rank)
  bcast_S_S512 : S_.BroadcastsInDim S512 (![] : Fin 0 → Fin S512.rank)
  bcast_S_S1x8192x1024 : S_.BroadcastsInDim S1x8192x1024 (![] : Fin 0 → Fin S1x8192x1024.rank)

variable [Facts]

def fn {F : FTy → Type} [FloatOps F] (main_arg0 : FVec F S1x8192x2304 .f32) (main_arg1 : FVec F S3x512 .f32) (main_arg2 : FVec F S64 .f32) (main_arg3 : FVec F S64 .f32) (main_arg4 : FVec F S8 .f32) (main_arg5 : FVec F S512 .f32) (main_arg6 : FVec F S512 .f32) (main_arg7 : FVec F S1x8192x1024 .f32) : IVec S1x8192x2304 1 × IVec S3x512 1 × IVec S512 1 × IVec S1x8192x1024 1 :=
  let main_v0 : FVec F S1x8192x2304 .f32 := Host.absf main_arg0
  let main_cst : FVec F S_ .f32 := constant S_ .f32 0x7F800000#32
  let main_v1 : FVec F S1x8192x2304 .f32 := broadcastInDim S1x8192x2304 ![] bcast_S_S1x8192x2304 main_cst
  let main_v2 : IVec S1x8192x2304 1 := cmpf .olt main_v0 main_v1
  let main_v3 : FVec F S3x512 .f32 := Host.absf main_arg1
  let main_cst_0 : FVec F S_ .f32 := constant S_ .f32 0x7F800000#32
  let main_v4 : FVec F S3x512 .f32 := broadcastInDim S3x512 ![] bcast_S_S3x512 main_cst_0
  let main_v5 : IVec S3x512 1 := cmpf .olt main_v3 main_v4
  let main_v6 : FVec F S512 .f32 := Host.absf main_arg5
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S1x8192x1024 .f32 := Host.absf main_arg7
  let main_cst_2 : FVec F S_ .f32 := constant S_ .f32 0x7F800000#32
  let main_v10 : FVec F S1x8192x1024 .f32 := broadcastInDim S1x8192x1024 ![] bcast_S_S1x8192x1024 main_cst_2
  let main_v11 : IVec S1x8192x1024 1 := cmpf .olt main_v9 main_v10
  (main_v2, main_v5, main_v8, main_v11)
-- ==== Pre_proj_finite.lean ====
abbrev S1x8192x1024 : Shape := ⟨3, ![1, 8192, 1024]⟩
abbrev S1024 : Shape := ⟨1, ![1024]⟩
abbrev S1024x2304 : Shape := ⟨2, ![1024, 2304]⟩
abbrev S1x8192x2304 : Shape := ⟨3, ![1, 8192, 2304]⟩
abbrev S_ : Shape := ⟨0, ![]⟩

class Facts : Prop where
  bcast_S_S1x8192x1024 : S_.BroadcastsInDim S1x8192x1024 (![] : Fin 0 → Fin S1x8192x1024.rank)
  bcast_S_S1024 : S_.BroadcastsInDim S1024 (![] : Fin 0 → Fin S1024.rank)
  bcast_S_S1024x2304 : S_.BroadcastsInDim S1024x2304 (![] : Fin 0 → Fin S1024x2304.rank)
  bcast_S_S1x8192x2304 : S_.BroadcastsInDim S1x8192x2304 (![] : Fin 0 → Fin S1x8192x2304.rank)

variable [Facts]

def fn {F : FTy → Type} [FloatOps F] (main_arg0 : FVec F S1x8192x1024 .f32) (main_arg1 : FVec F S1024 .f32) (main_arg2 : FVec F S1024x2304 .f32) (main_arg3 : FVec F S1x8192x2304 .f32) (main_arg4 : FVec F S1x8192x1024 .f32) : IVec S1x8192x1024 1 × IVec S1024 1 × IVec S1024x2304 1 × IVec S1x8192x2304 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2304 .f32 := Host.absf main_arg2
  let main_cst_1 : FVec F S_ .f32 := constant S_ .f32 0x7F800000#32
  let main_v7 : FVec F S1024x2304 .f32 := broadcastInDim S1024x2304 ![] bcast_S_S1024x2304 main_cst_1
  let main_v8 : IVec S1024x2304 1 := cmpf .olt main_v6 main_v7
  let main_v9 : FVec F S1x8192x2304 .f32 := Host.absf main_arg3
  let main_cst_2 : FVec F S_ .f32 := constant S_ .f32 0x7F800000#32
  let main_v10 : FVec F S1x8192x2304 .f32 := broadcastInDim S1x8192x2304 ![] bcast_S_S1x8192x2304 main_cst_2
  let main_v11 : IVec S1x8192x2304 1 := cmpf .olt main_v9 main_v10
  (main_v2, main_v5, main_v8, main_v11)
-- ==== ProjKernel.lean ====
abbrev S1x8192x1024 : Shape := ⟨3, ![1, 8192, 1024]⟩
abbrev S1024 : Shape := ⟨1, ![1024]⟩
abbrev S1024x2304 : Shape := ⟨2, ![1024, 2304]⟩
abbrev S1x8192x2304 : Shape := ⟨3, ![1, 8192, 2304]⟩
abbrev S8192x2304 : Shape := ⟨2, ![8192, 2304]⟩
abbrev S2304x1024 : Shape := ⟨2, ![2304, 1024]⟩
abbrev S8192x1024 : Shape := ⟨2, ![8192, 1024]⟩
abbrev S1x1024 : Shape := ⟨2, ![1, 1024]⟩
abbrev S1024x1024 : Shape := ⟨2, ![1024, 1024]⟩
abbrev S1024x128 : Shape := ⟨2, ![1024, 128]⟩
abbrev S1024x1 : Shape := ⟨2, ![1024, 1]⟩

abbrev nBuf : Space → Nat
  | .hbm => 14
  | .vmem => 11
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x2304, .f32⟩
  | .hbm, ⟨3, _⟩ => ⟨S1x8192x2304, .f32⟩
  | .hbm, ⟨4, _⟩ => ⟨S1x8192x1024, .f32⟩
  | .hbm, ⟨5, _⟩ => ⟨S8192x2304, .f32⟩
  | .hbm, ⟨6, _⟩ => ⟨S8192x2304, .bf16⟩
  | .hbm, ⟨7, _⟩ => ⟨S2304x1024, .f32⟩
  | .hbm, ⟨8, _⟩ => ⟨S2304x1024, .bf16⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S1x1024, .f32⟩
  | .local _ .vmem, ⟨0, _⟩ => ⟨S1024x2304, .bf16⟩
  | .local _ .vmem, ⟨1, _⟩ => ⟨S1024x2304, .bf16⟩
  | .local _ .vmem, ⟨2, _⟩ => ⟨S2304x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ProjReferenceIdeal.lean ====
abbrev S1x8192x1024 : Shape := ⟨3, ![1, 8192, 1024]⟩
abbrev S1024 : Shape := ⟨1, ![1024]⟩
abbrev S1024x2304 : Shape := ⟨2, ![1024, 2304]⟩
abbrev S1x8192x2304 : Shape := ⟨3, ![1, 8192, 2304]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S2304x1024 : Shape := ⟨2, ![2304, 1024]⟩
abbrev S1x1024 : Shape := ⟨2, ![1, 1024]⟩
abbrev S8192 : Shape := ⟨1, ![8192]⟩
abbrev S8192x1024 : Shape := ⟨2, ![8192, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x2304, .f32⟩
  | .hbm, ⟨3, _⟩ => ⟨S1x8192x2304, .f32⟩
  | .hbm, ⟨4, _⟩ => ⟨S1x8192x1024, .f32⟩
  | .hbm, ⟨5, _⟩ => ⟨S1x8192x1024, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S1x8192x1024, .f32⟩
  | .hbm, ⟨21, _⟩ => ⟨S1x8192x1024, .f32⟩
  | .hbm, ⟨22, _⟩ => ⟨S1x1x1024, .f32⟩
  | .hbm, ⟨23, _⟩ => ⟨S1x8192x1024, .f32⟩
  | .hbm, ⟨24, _⟩ => ⟨S1x8192x1024, .f32⟩
  | .hbm, ⟨25, _⟩ => ⟨S1x8192x2304, .f32⟩
  | .hbm, ⟨26, _⟩ => ⟨S2304x1024, .f32⟩
  | .hbm, ⟨27, _⟩ => ⟨S1024x2304, .f32⟩
  | .hbm, ⟨28, _⟩ => ⟨S1x8192x1024, .f32⟩
  | .hbm, ⟨29, _⟩ => ⟨S1x8192x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x8192x1024, .f32⟩
  | .hbm, ⟨34, _⟩ => ⟨S1x8192x1024, .f32⟩
  | .hbm, ⟨35, _⟩ => ⟨S_, .f32⟩
  | .hbm, ⟨36, _⟩ => ⟨S1024, .f32⟩
  | .hbm, ⟨37, _⟩ => ⟨S1x8192x1024, .f32⟩
  | .hbm, ⟨38, _⟩ => ⟨S_, .f32⟩
  | .hbm, ⟨39, _⟩ => ⟨S1x8192, .f32⟩
  | .hbm, ⟨40, _⟩ => ⟨S1x8192x1, .f32⟩
  | .hbm, ⟨41, _⟩ => ⟨S1x8192x1024, .f32⟩
  | .hbm, ⟨42, _⟩ => ⟨S1x8192x1024, .f32⟩
  | .hbm, ⟨43, _⟩ => ⟨S1x8192x1024, .f32⟩
  | .hbm, ⟨44, _⟩ => ⟨S1x8192x1, .f32⟩
  | .hbm, ⟨45, _⟩ => ⟨S_, .f32⟩
  | .hbm, ⟨46, _⟩ => ⟨S1x8192x1, .f32⟩
  | .hbm, ⟨47, _⟩ => ⟨S1x8192x1, .f32⟩
  | .hbm, ⟨48, _⟩ => ⟨S_, .f32⟩
  | .hbm, ⟨49, _⟩ => ⟨S8192, .f32⟩
  | .hbm, ⟨50, _⟩ => ⟨S1x8192, .f32⟩
  | .hbm, ⟨51, _⟩ => ⟨S1x8192x1024, .f32⟩
  | .hbm, ⟨52, _⟩ => ⟨S1x8192x1024, .f32⟩
  | .hbm, ⟨53, _⟩ => ⟨S1x8192x1024, .f32⟩
  | .hbm, ⟨54, _⟩ => ⟨S1x8192x1024, .f32⟩
  | .hbm, ⟨55, _⟩ => ⟨S1x8192x1024, .f32⟩
  | .hbm, ⟨56, _⟩ => ⟨S8192x1024, .f32⟩
  | .hbm, ⟨57, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== FfnKernel.lean ====
abbrev S1x8192x1024 : Shape := ⟨3, ![1, 8192, 1024]⟩
abbrev S1024 : Shape := ⟨1, ![1024]⟩
abbrev S1024x2816 : Shape := ⟨2, ![1024, 2816]⟩
abbrev S2816x1024 : Shape := ⟨2, ![2816, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S512x1024 : Shape := ⟨2, ![512, 1024]⟩
abbrev S512x1408 : Shape := ⟨2, ![512, 1408]⟩
abbrev S1408x1024 : Shape := ⟨2, ![1408, 1024]⟩
abbrev S512x128 : Shape := ⟨2, ![512, 128]⟩
abbrev S512 : Shape := ⟨1, ![512]⟩
abbrev S512x1 : Shape := ⟨2, ![512, 1]⟩

abbrev nBuf : Space → Nat
  | .hbm => 42
  | .vmem => 36
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x8192x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x2816, .f32⟩
  | .hbm, ⟨29, _⟩ => ⟨S8192x2816, .bf16⟩
  | .hbm, ⟨30, _⟩ => ⟨S8192x2816, .f32⟩
  | .hbm, ⟨31, _⟩ => ⟨S8192x2816, .bf16⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x2816, .bf16⟩
  | .hbm, ⟨36, _⟩ => ⟨S8192x2816, .bf16⟩
  | .hbm, ⟨37, _⟩ => ⟨S8192x1024, .f32⟩
  | .hbm, ⟨38, _⟩ => ⟨S8192x2816, .bf16⟩
  | .hbm, ⟨39, _⟩ => ⟨S8192x2816, .bf16⟩
  | .hbm, ⟨40, _⟩ => ⟨S8192x1024, .f32⟩
  | .hbm, ⟨41, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S1408x1024, .bf16⟩
  | .local _ .vmem, ⟨22, _⟩ => ⟨S1408x1024, .bf16⟩
  | .local _ .vmem, ⟨23, _⟩ => ⟨S1408x1024, .bf16⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S1x1024, .f32⟩
  | .local _ .vmem, ⟨29, _⟩ => ⟨S512x1408, .bf16⟩
  | .local _ .vmem, ⟨30, _⟩ => ⟨S512x1408, .bf16⟩
  | .local _ .vmem, ⟨31, _⟩ => ⟨S512x1408, .bf16⟩
  | .local _ .vmem, ⟨32, _⟩ => ⟨S512x1408, .bf16⟩
  | .local _ .vmem, ⟨33, _⟩ => ⟨S512x1024, .f32⟩
  | .local _ .vmem, ⟨34, _⟩ => ⟨S512x1024, .f32⟩
  | .local _ .vmem, ⟨35, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev main_v26_2 : Ref sig .tc := ⟨.hbm, 37, rfl⟩
abbrev main_v27_0 : Ref sig .tc := ⟨.hbm, 38, rfl⟩
abbrev main_v27_1 : Ref sig .tc := ⟨.hbm, 39, rfl⟩
abbrev main_v27_2 : Ref sig .tc := ⟨.hbm, 40, rfl⟩
abbrev main_v27_3 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg9_1 : Ref sig .tc := ⟨.vmem, 30, rfl⟩
abbrev cc1_stg10_0 : Ref sig .tc := ⟨.vmem, 31, rfl⟩
abbrev cc1_stg10_1 : Ref sig .tc := ⟨.vmem, 32, rfl⟩
abbrev cc1_stg11_0 : Ref sig .tc := ⟨.vmem, 33, rfl⟩
abbrev cc1_stg11_1 : Ref sig .tc := ⟨.vmem, 34, rfl⟩
abbrev cc1_stg12_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem9_0 : DmaSem sig := 29
abbrev cc1_sem9_1 : DmaSem sig := 30
abbrev cc1_sem10_0 : DmaSem sig := 31
abbrev cc1_sem10_1 : DmaSem sig := 32
abbrev cc1_sem11_0 : DmaSem sig := 33
abbrev cc1_sem11_1 : DmaSem sig := 34
abbrev cc1_sem12_0 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1408x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1408x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1408x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_2 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_3 (i : grid1.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc1_transform_4 (i : grid1.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc1_transform_5 (i : grid1.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_12 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1408x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1408x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1408x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x1408 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1408 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]
-- ==== FfnReferenceIdeal.lean ====
abbrev S1x8192x1024 : Shape := ⟨3, ![1, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x2816 : Shape := ⟨3, ![1, 8192, 2816]⟩
abbrev S1x1024 : Shape := ⟨2, ![1, 1024]⟩
abbrev S8192 : Shape := ⟨1, ![8192]⟩
abbrev S8192x2816 : Shape := ⟨2, ![8192, 2816]⟩
abbrev S8192x1024 : Shape := ⟨2, ![8192, 1024]⟩

abbrev nBuf : Space → Nat
  | .hbm => 136
  | .vmem => 0
  | .smem => 0
  | _ => 0

abbrev hbmTy0_0 (i : Nat) : BufTy := match i % 128 with
  | 0 => ⟨S1x8192x1024, .f32⟩
  | 1 => ⟨S1024, .f32⟩
  | 2 => ⟨S1024x2816, .f32⟩
  | 3 => ⟨S1024x2816, .f32⟩
  | 4 => ⟨S2816x1024, .f32⟩
  | 5 => ⟨S1x8192x1024, .f32⟩
  | 6 => ⟨S1x8192x1024, .f32⟩
  | 7 => ⟨S_, .f32⟩
  | 8 => ⟨S1x8192, .f32⟩
  | 9 => ⟨S1x8192x1, .f32⟩
  | 10 => ⟨S_, .f32⟩
  | 11 => ⟨S1x8192x1, .f32⟩
  | 12 => ⟨S1x8192x1, .f32⟩
  | 13 => ⟨S_, .f32⟩
  | 14 => ⟨S1x8192x1, .f32⟩
  | 15 => ⟨S1x8192x1, .f32⟩
  | 16 => ⟨S1x8192x1, .f32⟩
  | 17 => ⟨S1x8192x1024, .f32⟩
  | 18 => ⟨S1x8192x1024, .f32⟩
  | 19 => ⟨S1x1x1024, .f32⟩
  | 20 => ⟨S1x8192x1024, .f32⟩
  | 21 => ⟨S1x8192x1024, .f32⟩
  | 22 => ⟨S1x8192x2816, .f32⟩
  | 23 => ⟨S1x8192x2816, .f32⟩
  | 24 => ⟨S1x8192x2816, .f32⟩
  | 25 => ⟨S1x8192x2816, .f32⟩
  | 26 => ⟨S_, .f32⟩
  | 27 => ⟨S1x8192x2816, .f32⟩
  | 28 => ⟨S1x8192x2816, .f32⟩
  | 29 => ⟨S_, .f32⟩
  | 30 => ⟨S1x8192x2816, .f32⟩
  | 31 => ⟨S1x8192x2816, .f32⟩
  | 32 => ⟨S_, .f32⟩
  | 33 => ⟨S1x8192x2816, .f32⟩
  | 34 => ⟨S1x8192x2816, .f32⟩
  | 35 => ⟨S1x8192x2816, .f32⟩
  | 36 => ⟨S1x8192x2816, .f32⟩
  | 37 => ⟨S1x8192x2816, .f32⟩
  | 38 => ⟨S1x8192x1024, .f32⟩
  | 39 => ⟨S1024x2816, .f32⟩
  | 40 => ⟨S2816x1024, .f32⟩
  | 41 => ⟨S1x8192x2816, .f32⟩
  | 42 => ⟨S1x8192x2816, .f32⟩
  | 43 => ⟨S1x8192x2816, .f32⟩
  | 44 => ⟨S1x8192x2816, .f32⟩
  | 45 => ⟨S1x8192x2816, .f32⟩
  | 46 => ⟨S1x8192x2816, .f32⟩
  | 47 => ⟨S1x8192x2816, .f32⟩
  | 48 => ⟨S1x8192x1024, .f32⟩
  | 49 => ⟨S_, .f32⟩
  | 50 => ⟨S1x8192, .f32⟩
  | 51 => ⟨S1x8192x1, .f32⟩
  | 52 => ⟨S_, .f32⟩
  | 53 => ⟨S1x8192x1, .f32⟩
  | 54 => ⟨S1x8192x1, .f32⟩
  | 55 => ⟨S_, .f32⟩
  | 56 => ⟨S1x8192x1, .f32⟩
  | 57 => ⟨S1x8192x1, .f32⟩
  | 58 => ⟨S1x8192x1, .f32⟩
  | 59 => ⟨S1x8192x1, .f32⟩
  | 60 => ⟨S_, .f32⟩
  | 61 => ⟨S1x8192x1, .f32⟩
  | 62 => ⟨S1x8192x1, .f32⟩
  | 63 => ⟨S1x8192x1024, .f32⟩
  | 64 => ⟨S1x8192x1024, .f32⟩
  | 65 => ⟨S1x1x1024, .f32⟩
  | 66 => ⟨S1x8192x1024, .f32⟩
  | 67 => ⟨S1x8192x1024, .f32⟩
  | 68 => ⟨S1x8192x2816, .f32⟩
  | 69 => ⟨S1x8192x2816, .f32⟩
  | 70 => ⟨S1x8192x2816, .f32⟩
  | 71 => ⟨S1x8192x2816, .f32⟩
  | 72 => ⟨S_, .f32⟩
  | 73 => ⟨S1x8192x2816, .f32⟩
  | 74 => ⟨S1x8192x2816, .f32⟩
  | 75 => ⟨S_, .f32⟩
  | 76 => ⟨S1x8192x2816, .f32⟩
  | 77 => ⟨S1x8192x2816, .f32⟩
  | 78 => ⟨S_, .f32⟩
  | 79 => ⟨S1x8192x2816, .f32⟩
  | 80 => ⟨S1x8192x2816, .f32⟩
  | 81 => ⟨S1x8192x2816, .f32⟩
  | 82 => ⟨S1x8192x2816, .f32⟩
  | 83 => ⟨S1x8192x2816, .f32⟩
  | 84 => ⟨S1x8192x1024, .f32⟩
  | 85 => ⟨S1x8192x1024, .f32⟩
  | 86 => ⟨S1x8192x1024, .f32⟩
  | 87 => ⟨S1024x2816, .f32⟩
  | 88 => ⟨S2816x1024, .f32⟩
  | 89 => ⟨S1x8192x2816, .f32⟩
  | 90 => ⟨S1x8192x2816, .f32⟩
  | 91 => ⟨S1x8192x2816, .f32⟩
  | 92 => ⟨S1x8192x2816, .f32⟩
  | 93 => ⟨S1x8192x2816, .f32⟩
  | 94 => ⟨S1x8192x2816, .f32⟩
  | 95 => ⟨S1x8192x2816, .f32⟩
  | 96 => ⟨S2816x1024, .f32⟩
  | 97 => ⟨S1024x2816, .f32⟩
  | 98 => ⟨S1x8192x1024, .f32⟩
  | 99 => ⟨S2816x1024, .f32⟩
  | 100 => ⟨S1024x2816, .f32⟩
  | 101 => ⟨S1x8192x1024, .f32⟩
  | 102 => ⟨S1x8192x1024, .f32⟩
  | 103 => ⟨S1x8192x1024, .f32⟩
  | 104 => ⟨S_, .f32⟩
  | 105 => ⟨S1x1024, .f32⟩
  | 106 => ⟨S1x1x1024, .f32⟩
  | 107 => ⟨S1x8192x1024, .f32⟩
  | 108 => ⟨S1x8192x1024, .f32⟩
  | 109 => ⟨S_, .f32⟩
  | 110 => ⟨S1024, .f32⟩
  | 111 => ⟨S1x8192x1024, .f32⟩
  | 112 => ⟨S_, .f32⟩
  | 113 => ⟨S1x8192, .f32⟩
  | 114 => ⟨S1x8192x1, .f32⟩
  | 115 => ⟨S1x8192x1024, .f32⟩
  | 116 => ⟨S1x8192x1024, .f32⟩
  | 117 => ⟨S1x8192x1024, .f32⟩
  | 118 => ⟨S1x8192x1, .f32⟩
  | 119 => ⟨S_, .f32⟩
  | 120 => ⟨S1x8192x1, .f32⟩
  | 121 => ⟨S1x8192x1, .f32⟩
  | 122 => ⟨S_, .f32⟩
  | 123 => ⟨S8192, .f32⟩
  | 124 => ⟨S1x8192, .f32⟩
  | 125 => ⟨S1x8192x1024, .f32⟩
  | 126 => ⟨S1x8192x1024, .f32⟩
  | 127 => ⟨S1x8192x1024, .f32⟩
  | _ => ⟨S1x8192x1024, .f32⟩

abbrev hbmTy0_1 (i : Nat) : BufTy := match i % 128 with
  | 0 => ⟨S1x8192x1024, .f32⟩
  | 1 => ⟨S1x8192x1024, .f32⟩
  | 2 => ⟨S8192x2816, .f32⟩
  | 3 => ⟨S8192x2816, .bf16⟩
  | 4 => ⟨S8192x2816, .f32⟩
  | 5 => ⟨S8192x2816, .bf16⟩
  | 6 => ⟨S8192x1024, .f32⟩
  | 7 => ⟨S1x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v23 : Ref sig .tc := ⟨.hbm, 47, rfl⟩
abbrev main_v24 : Ref sig .tc := ⟨.hbm, 48, rfl⟩
abbrev main_cst_2 : Ref sig .tc := ⟨.hbm, 49, rfl⟩
abbrev main_v25 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_v28 : Ref sig .tc := ⟨.hbm, 54, rfl⟩
abbrev main_cst_4 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_call2_v0 : Ref sig .tc := ⟨.hbm, 70, rfl⟩
abbrev main_call2_v1 : Ref sig .tc := ⟨.hbm, 71, rfl⟩
abbrev main_call2_cst : Ref sig .tc := ⟨.hbm, 72, rfl⟩
abbrev main_call2_v2 : Ref sig .tc := ⟨.hbm, 73, rfl⟩
abbrev main_call2_v3 : Ref sig .tc := ⟨.hbm, 74, rfl⟩
abbrev main_call2_cst_0 : Ref sig .tc := ⟨.hbm, 75, rfl⟩
abbrev main_call2_v4 : Ref sig .tc := ⟨.hbm, 76, rfl⟩
abbrev main_v42_2 : Ref sig .tc := ⟨.hbm, 77, rfl⟩
abbrev main_call2_cst_1 : Ref sig .tc := ⟨.hbm, 78, rfl⟩
abbrev main_call2_v6 : Ref sig .tc := ⟨.hbm, 79, rfl⟩
abbrev main_call2_v7 : Ref sig .tc := ⟨.hbm, 80, rfl⟩
abbrev main_v42_1 : Ref sig .tc := ⟨.hbm, 81, rfl⟩
abbrev main_v42_0 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst_6 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_7 : Ref sig .tc := ⟨.hbm, 109, rfl⟩
abbrev main_v65 : Ref sig .tc := ⟨.hbm, 110, rfl⟩
abbrev main_v66 : Ref sig .tc := ⟨.hbm, 111, rfl⟩
abbrev main_cst_8 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_9 : Ref sig .tc := ⟨.hbm, 119, rfl⟩
abbrev main_v73 : Ref sig .tc := ⟨.hbm, 120, rfl⟩
abbrev main_v74 : Ref sig .tc := ⟨.hbm, 121, rfl⟩
abbrev main_cst_10 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩

abbrev nD : Nat := 1
abbrev τ : Topo := Topo.v7x

variable {F : FTy → Type} [FloatOps F]
-- ==== MixKernel.lean ====
abbrev S1x8192x1024 : Shape := ⟨3, ![1, 8192, 1024]⟩
abbrev S1x8192x2304 : Shape := ⟨3, ![1, 8192, 2304]⟩
abbrev S3x512 : Shape := ⟨2, ![3, 512]⟩
abbrev S64 : Shape := ⟨1, ![64]⟩
abbrev S8 : Shape := ⟨1, ![8]⟩
abbrev S512 : Shape := ⟨1, ![512]⟩
abbrev S1024x1024 : Shape := ⟨2, ![1024, 1024]⟩
abbrev S8192x2304 : Shape := ⟨2, ![8192, 2304]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S1x512 : Shape := ⟨2, ![1, 512]⟩
abbrev S8192x1024 : Shape := ⟨2, ![8192, 1024]⟩
abbrev S8192x512 : Shape := ⟨2, ![8192, 512]⟩
abbrev S1024x2304 : Shape := ⟨2, ![1024, 2304]⟩
abbrev S128x256 : Shape := ⟨2, ![128, 256]⟩
abbrev S1024x512 : Shape := ⟨2, ![1024, 512]⟩
abbrev S8x512 : Shape := ⟨2, ![8, 512]⟩
abbrev S1024x128 : Shape := ⟨2, ![1024, 128]⟩
abbrev S1024 : Shape := ⟨1, ![1024]⟩
abbrev S1024x1 : Shape := ⟨2, ![1024, 1]⟩
abbrev S512x1024 : Shape := ⟨2, ![512, 1024]⟩
abbrev S128x128 : Shape := ⟨2, ![128, 128]⟩
abbrev S1152x128 : Shape := ⟨2, ![1152, 128]⟩
abbrev S1152 : Shape := ⟨1, ![1152]⟩
abbrev S1152x1 : Shape := ⟨2, ![1152, 1]⟩
abbrev S256x128 : Shape := ⟨2, ![256, 128]⟩
abbrev S1 : Shape := ⟨1, ![1]⟩
abbrev S128 : Shape := ⟨1, ![128]⟩
abbrev S128x1 : Shape := ⟨2, ![128, 1]⟩
abbrev S128x512 : Shape := ⟨2, ![128, 512]⟩

abbrev nBuf : Space → Nat
  | .hbm => 27
  | .vmem => 21
  | .smem => 1
  | _ => 0

abbrev bufTy : (tb : Table) → Fin (tcTables nBuf tb) → BufTy
  | .hbm, ⟨0, _⟩ => ⟨S1x8192x1024, .f32⟩
  | .hbm, ⟨1, _⟩ => ⟨S1x8192x2304, .f32⟩
  | .hbm, ⟨2, _⟩ => ⟨S3x512, .f32⟩
  | .hbm, ⟨3, _⟩ => ⟨S64, .f32⟩
  | .hbm, ⟨4, _⟩ => ⟨S64, .f32⟩
  | .hbm, ⟨5, _⟩ => ⟨S8, .f32⟩
  | .hbm, ⟨6, _⟩ => ⟨S512, .f32⟩
  | .hbm, ⟨7, _⟩ => ⟨S512, .f32⟩
  | .hbm, ⟨8, _⟩ => ⟨S1024x1024, .f32⟩
  | .hbm, ⟨9, _⟩ => ⟨S8192x2304, .f32⟩
  | .hbm, ⟨10, _⟩ => ⟨S8192x2304, .bf16⟩
  | .hbm, ⟨11, _⟩ => ⟨S1x64, .f32⟩
  | .hbm, ⟨12, _⟩ => ⟨S1x1x1x64, .f32⟩
  | .hbm, ⟨13, _⟩ => ⟨S1x1x2x64, .f32⟩
  | .hbm, ⟨14, _⟩ => ⟨S1x128, .f32⟩
  | .hbm, ⟨15, _⟩ => ⟨S1x64, .f32⟩
  | .hbm, ⟨16, _⟩ => ⟨S1x1x1x64, .f32⟩
  | .hbm, ⟨17, _⟩ => ⟨S1x1x2x64, .f32⟩
  | .hbm, ⟨18, _⟩ => ⟨S1x128, .f32⟩
  | .hbm, ⟨19, _⟩ => ⟨S1x512, .f32⟩
  | .hbm, ⟨20, _⟩ => ⟨S1x512, .f32⟩
  | .hbm, ⟨21, _⟩ => ⟨S8192x1024, .f32⟩
  | .hbm, ⟨22, _⟩ => ⟨S1024x1024, .bf16⟩
  | .hbm, ⟨23, _⟩ => ⟨S8192x1024, .bf16⟩
  | .hbm, ⟨24, _⟩ => ⟨S8192x512, .bf16⟩
  | .hbm, ⟨25, _⟩ => ⟨S8192x512, .bf16⟩
  | .hbm, ⟨26, _⟩ => ⟨S8192x1024, .f32⟩
  | .local _ .vmem, ⟨0, _⟩ => ⟨S1024x2304, .bf16⟩
  | .local _ .vmem, ⟨1, _⟩ => ⟨S1024x2304, .bf16⟩
  | .local _ .vmem, ⟨2, _⟩ => ⟨S128x256, .bf16⟩
  | .local _ .vmem, ⟨3, _⟩ => ⟨S128x256, .bf16⟩
  | .local _ .vmem, ⟨4, _⟩ => ⟨S3x512, .f32⟩
  | .local _ .vmem, ⟨5, _⟩ => ⟨S1x128, .f32⟩
  | .local _ .vmem, ⟨6, _⟩ => ⟨S1x128, .f32⟩
  | .local _ .vmem, ⟨7, _⟩ => ⟨S1x512, .f32⟩
  | .local _ .vmem, ⟨8, _⟩ => ⟨S1x512, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x1024, .f32⟩
  | .local _ .vmem, ⟨19, _⟩ => ⟨S1024x1024, .f32⟩
  | .local _ .vmem, ⟨20, _⟩ => ⟨S8x512, .f32⟩
  | .local _ .smem, ⟨0, _⟩ => ⟨S8, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.muli c8_i32 arg0
  let c1_i32 : BitVec 32 := 1#32
  let v1 : BitVec 32 := Scalar.subi v0 c1_i32
  let c0_i32 : BitVec 32 := 0#32
  let v2 : BitVec 32 := Scalar.maxsi v1 c0_i32
  let c8_i32_0 : BitVec 32 := 8#32
  let c0_i32_1 : BitVec 32 := 0#32
  ![v2.toNat, c8_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixKernelIdeal.lean ====
variable {F : FTy → Type} [FloatOps F] [Named F]
def κ : String → Option EReal := fun
  | "mask" => some ⊥
  | _ => none
-- ==== MixReferenceIdeal.lean ====
abbrev S1x8192x1024 : Shape := ⟨3, ![1, 8192, 1024]⟩
abbrev S1x8192x2304 : Shape := ⟨3, ![1, 8192, 2304]⟩
abbrev S3x512 : Shape := ⟨2, ![3, 512]⟩
abbrev S64 : Shape := ⟨1, ![64]⟩
abbrev S8 : Shape := ⟨1, ![8]⟩
abbrev S512 : Shape := ⟨1, ![512]⟩
abbrev S1024x1024 : Shape := ⟨2, ![1024, 1024]⟩
abbrev S8192x1024 : Shape := ⟨2, ![8192, 1024]⟩
abbrev S8192x2304 : Shape := ⟨2, ![8192, 2304]⟩
abbrev S8192x512 : Shape := ⟨2, ![8192, 512]⟩
abbrev S8192x8x64 : Shape := ⟨3, ![8192, 8, 64]⟩
abbrev S8192x128 : Shape := ⟨2, ![8192, 128]⟩
abbrev S8192x2x64 : Shape := ⟨3, ![8192, 2, 64]⟩
abbrev S_ : Shape := ⟨0, ![]⟩
abbrev S8194x512 : Shape := ⟨2, ![8194, 512]⟩
abbrev S1x512 : Shape := ⟨2, ![1, 512]⟩
abbrev S8192x8 : Shape := ⟨2, ![8192, 8]⟩
abbrev S8192x8x1 : Shape := ⟨3, ![8192, 8, 1]⟩
abbrev S1x1x64 : Shape := ⟨3, ![1, 1, 64]⟩
abbrev S8192x2 : Shape := ⟨2, ![8192, 2]⟩
abbrev S8192x2x1 : Shape := ⟨3, ![8192, 2, 1]⟩
abbrev S64x128x2x4x64 : Shape := ⟨5, ![64, 128, 2, 4, 64]⟩
abbrev S64x128x2x64 : Shape := ⟨4, ![64, 128, 2, 64]⟩
abbrev S63x128x2x64 : Shape := ⟨4, ![63, 128, 2, 64]⟩
abbrev S64x256x2x64 : Shape := ⟨4, ![64, 256, 2, 64]⟩
abbrev S64x2x256x128x4 : Shape := ⟨5, ![64, 2, 256, 128, 4]⟩
abbrev S64x2x4x128x256 : Shape := ⟨5, ![64, 2, 4, 128, 256]⟩
abbrev S64x1 : Shape := ⟨2, ![64, 1]⟩
abbrev S128 : Shape := ⟨1, ![128]⟩
abbrev S1x128 : Shape := ⟨2, ![1, 128]⟩
abbrev S64x128 : Shape := ⟨2, ![64, 128]⟩
abbrev S256 : Shape := ⟨1, ![256]⟩
abbrev S1x256 : Shape := ⟨2, ![1, 256]⟩
abbrev S64x256 : Shape := ⟨2, ![64, 256]⟩
abbrev S64x128x1 : Shape := ⟨3, ![64, 128, 1]⟩
abbrev S64x1x256 : Shape := ⟨3, ![64, 1, 256]⟩
abbrev S64x128x256 : Shape := ⟨3, ![64, 128, 256]⟩
abbrev S64x1x1x128x256 : Shape := ⟨5, ![64, 1, 1, 128, 256]⟩
abbrev S2x4 : Shape := ⟨2, ![2, 4]⟩
abbrev S1x2x4x1x1 : Shape := ⟨5, ![1, 2, 4, 1, 1]⟩
abbrev S64x2x4x128 : Shape := ⟨4, ![64, 2, 4, 128]⟩
abbrev S64x2x4x128x1 : Shape := ⟨5, ![64, 2, 4, 128, 1]⟩
abbrev S64x2x64x4x128 : Shape := ⟨5, ![64, 2, 64, 4, 128]⟩
abbrev S8192 : Shape := ⟨1, ![8192]⟩
abbrev S8192x1 : Shape := ⟨2, ![8192, 1]⟩

abbrev nBuf : Space → Nat
  | .hbm => 202
  | .vmem => 0
  | .smem => 0
  | _ => 0

abbrev hbmTy0_0 (i : Nat) : BufTy := match i % 128 with
  | 0 => ⟨S1x8192x1024, .f32⟩
  | 1 => ⟨S1x8192x2304, .f32⟩
  | 2 => ⟨S3x512, .f32⟩
  | 3 => ⟨S64, .f32⟩
  | 4 => ⟨S64, .f32⟩
  | 5 => ⟨S8, .f32⟩
  | 6 => ⟨S512, .f32⟩
  | 7 => ⟨S512, .f32⟩
  | 8 => ⟨S1024x1024, .f32⟩
  | 9 => ⟨S8192x1024, .f32⟩
  | 10 => ⟨S8192x2304, .f32⟩
  | 11 => ⟨S8192x512, .f32⟩
  | 12 => ⟨S8192x8x64, .f32⟩
  | 13 => ⟨S8192x128, .f32⟩
  | 14 => ⟨S8192x2x64, .f32⟩
  | 15 => ⟨S8192x128, .f32⟩
  | 16 => ⟨S8192x2x64, .f32⟩
  | 17 => ⟨S8192x512, .f32⟩
  | 18 => ⟨S8192x512, .f32⟩
  | 19 => ⟨S8192x512, .f32⟩
  | 20 => ⟨S_, .i32⟩
  | 21 => ⟨S_, .f32⟩
  | 22 => ⟨S8194x512, .f32⟩
  | 23 => ⟨S1x512, .f32⟩
  | 24 => ⟨S512, .f32⟩
  | 25 => ⟨S8192x512, .f32⟩
  | 26 => ⟨S1x512, .f32⟩
  | 27 => ⟨S8192x512, .f32⟩
  | 28 => ⟨S8192x512, .f32⟩
  | 29 => ⟨S1x512, .f32⟩
  | 30 => ⟨S512, .f32⟩
  | 31 => ⟨S8192x512, .f32⟩
  | 32 => ⟨S1x512, .f32⟩
  | 33 => ⟨S8192x512, .f32⟩
  | 34 => ⟨S8192x512, .f32⟩
  | 35 => ⟨S8192x512, .f32⟩
  | 36 => ⟨S1x512, .f32⟩
  | 37 => ⟨S512, .f32⟩
  | 38 => ⟨S8192x512, .f32⟩
  | 39 => ⟨S1x512, .f32⟩
  | 40 => ⟨S8192x512, .f32⟩
  | 41 => ⟨S8192x512, .f32⟩
  | 42 => ⟨S8192x512, .f32⟩
  | 43 => ⟨S8192x8x64, .f32⟩
  | 44 => ⟨S_, .f32⟩
  | 45 => ⟨S8192x8, .f32⟩
  | 46 => ⟨S8192x8x1, .f32⟩
  | 47 => ⟨S_, .f32⟩
  | 48 => ⟨S8192x8x1, .f32⟩
  | 49 => ⟨S8192x8x1, .f32⟩
  | 50 => ⟨S_, .f32⟩
  | 51 => ⟨S8192x8x1, .f32⟩
  | 52 => ⟨S8192x8x1, .f32⟩
  | 53 => ⟨S8192x8x1, .f32⟩
  | 54 => ⟨S8192x8x64, .f32⟩
  | 55 => ⟨S8192x8x64, .f32⟩
  | 56 => ⟨S1x1x64, .f32⟩
  | 57 => ⟨S8192x8x64, .f32⟩
  | 58 => ⟨S8192x8x64, .f32⟩
  | 59 => ⟨S8192x2x64, .f32⟩
  | 60 => ⟨S_, .f32⟩
  | 61 => ⟨S8192x2, .f32⟩
  | 62 => ⟨S8192x2x1, .f32⟩
  | 63 => ⟨S_, .f32⟩
  | 64 => ⟨S8192x2x1, .f32⟩
  | 65 => ⟨S8192x2x1, .f32⟩
  | 66 => ⟨S_, .f32⟩
  | 67 => ⟨S8192x2x1, .f32⟩
  | 68 => ⟨S8192x2x1, .f32⟩
  | 69 => ⟨S8192x2x1, .f32⟩
  | 70 => ⟨S8192x2x64, .f32⟩
  | 71 => ⟨S8192x2x64, .f32⟩
  | 72 => ⟨S1x1x64, .f32⟩
  | 73 => ⟨S8192x2x64, .f32⟩
  | 74 => ⟨S8192x2x64, .f32⟩
  | 75 => ⟨S64x128x2x4x64, .f32⟩
  | 76 => ⟨S64x128x2x64, .f32⟩
  | 77 => ⟨S63x128x2x64, .f32⟩
  | 78 => ⟨S_, .i32⟩
  | 79 => ⟨S_, .f32⟩
  | 80 => ⟨S64x128x2x64, .f32⟩
  | 81 => ⟨S64x256x2x64, .f32⟩
  | 82 => ⟨S64x128x2x64, .f32⟩
  | 83 => ⟨S63x128x2x64, .f32⟩
  | 84 => ⟨S_, .i32⟩
  | 85 => ⟨S_, .f32⟩
  | 86 => ⟨S64x128x2x64, .f32⟩
  | 87 => ⟨S64x256x2x64, .f32⟩
  | 88 => ⟨S64x2x256x128x4, .f32⟩
  | 89 => ⟨S64x2x4x128x256, .f32⟩
  | 90 => ⟨S_, .f32⟩
  | 91 => ⟨S64x2x4x128x256, .f32⟩
  | 92 => ⟨S64x2x4x128x256, .f32⟩
  | 93 => ⟨S64, .i32⟩
  | 94 => ⟨S64x1, .i32⟩
  | 95 => ⟨S_, .i32⟩
  | 96 => ⟨S64x1, .i32⟩
  | 97 => ⟨S64x1, .i32⟩
  | 98 => ⟨S128, .i32⟩
  | 99 => ⟨S1x128, .i32⟩
  | 100 => ⟨S64x128, .i32⟩
  | 101 => ⟨S64x128, .i32⟩
  | 102 => ⟨S64x128, .i32⟩
  | 103 => ⟨S64, .i32⟩
  | 104 => ⟨S64x1, .i32⟩
  | 105 => ⟨S_, .i32⟩
  | 106 => ⟨S64x1, .i32⟩
  | 107 => ⟨S64x1, .i32⟩
  | 108 => ⟨S_, .i32⟩
  | 109 => ⟨S64x1, .i32⟩
  | 110 => ⟨S64x1, .i32⟩
  | 111 => ⟨S256, .i32⟩
  | 112 => ⟨S1x256, .i32⟩
  | 113 => ⟨S64x256, .i32⟩
  | 114 => ⟨S64x256, .i32⟩
  | 115 => ⟨S64x256, .i32⟩
  | 116 => ⟨S64x128x1, .i32⟩
  | 117 => ⟨S64x1x256, .i32⟩
  | 118 => ⟨S64x128x256, .i32⟩
  | 119 => ⟨S64x128x256, .i32⟩
  | 120 => ⟨S64x128x256, .i32⟩
  | 121 => ⟨S_, .i32⟩
  | 122 => ⟨S64x128x256, .i32⟩
  | 123 => ⟨S64x128x256, .i1⟩
  | 124 => ⟨S_, .i32⟩
  | 125 => ⟨S64x128x256, .i32⟩
  | 126 => ⟨S64x128x256, .i1⟩
  | 127 => ⟨S64x128x256, .i1⟩
  | _ => ⟨S1x8192x1024, .f32⟩

abbrev hbmTy0_1 (i : Nat) : BufTy := match i % 128 with
  | 0 => ⟨S64x1x256, .i32⟩
  | 1 => ⟨S_, .i32⟩
  | 2 => ⟨S64x1x256, .i32⟩
  | 3 => ⟨S64x1x256, .i1⟩
  | 4 => ⟨S64x128x256, .i1⟩
  | 5 => ⟨S64x128x256, .i1⟩
  | 6 => ⟨S64x1x1x128x256, .i1⟩
  | 7 => ⟨S_, .f32⟩
  | 8 => ⟨S_, .f32⟩
  | 9 => ⟨S64x2x4x128x256, .i1⟩
  | 10 => ⟨S64x2x4x128x256, .f32⟩
  | 11 => ⟨S64x2x4x128x256, .f32⟩
  | 12 => ⟨S2x4, .f32⟩
  | 13 => ⟨S1x2x4x1x1, .f32⟩
  | 14 => ⟨S_, .f32⟩
  | 15 => ⟨S64x2x4x128, .f32⟩
  | 16 => ⟨S64x2x4x128x1, .f32⟩
  | 17 => ⟨S64x2x4x128x1, .f32⟩
  | 18 => ⟨S64x2x4x128x1, .f32⟩
  | 19 => ⟨S64x2x4x128x256, .f32⟩
  | 20 => ⟨S64x2x4x128x256, .f32⟩
  | 21 => ⟨S64x2x4x128x256, .f32⟩
  | 22 => ⟨S_, .f32⟩
  | 23 => ⟨S64x2x4x128, .f32⟩
  | 24 => ⟨S64x2x4x128x1, .f32⟩
  | 25 => ⟨S64x2x4x128x1, .f32⟩
  | 26 => ⟨S64x2x4x128x1, .f32⟩
  | 27 => ⟨S64x2x4x128x1, .f32⟩
  | 28 => ⟨S64x2x4x128x1, .f32⟩
  | 29 => ⟨S64x2x4x128x256, .f32⟩
  | 30 => ⟨S64x2x4x128x256, .f32⟩
  | 31 => ⟨S64x2x64x4x128, .f32⟩
  | 32 => ⟨S64x128x2x4x64, .f32⟩
  | 33 => ⟨S8192x512, .f32⟩
  | 34 => ⟨S8192x512, .f32⟩
  | 35 => ⟨S8192x512, .f32⟩
  | 36 => ⟨S8192x512, .f32⟩
  | 37 => ⟨S_, .f32⟩
  | 38 => ⟨S8192, .f32⟩
  | 39 => ⟨S8192x1, .f32⟩
  | 40 => ⟨S_, .f32⟩
  | 41 => ⟨S8192x1, .f32⟩
  | 42 => ⟨S8192x1, .f32⟩
  | 43 => ⟨S_, .f32⟩
  | 44 => ⟨S8192x1, .f32⟩
  | 45 => ⟨S8192x1, .f32⟩
  | 46 => ⟨S8192x1, .f32⟩
  | 47 => ⟨S8192x512, .f32⟩
  | 48 => ⟨S8192x512, .f32⟩
  | 49 => ⟨S1x512, .f32⟩
  | 50 => ⟨S8192x512, .f32⟩
  | 51 => ⟨S8192x512, .f32⟩
  | 52 => ⟨S8192x512, .f32⟩
  | 53 => ⟨S_, .f32⟩
  | 54 => ⟨S8192, .f32⟩
  | 55 => ⟨S8192x1, .f32⟩
  | 56 => ⟨S_, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x1, .f32⟩
  | 63 => ⟨S8192x512, .f32⟩
  | 64 => ⟨S8192x512, .f32⟩
  | 65 => ⟨S1x512, .f32⟩
  | 66 => ⟨S8192x512, .f32⟩
  | 67 => ⟨S8192x512, .f32⟩
  | 68 => ⟨S8192x1024, .f32⟩
  | 69 => ⟨S8192x1024, .bf16⟩
  | 70 => ⟨S8192x512, .bf16⟩
  | 71 => ⟨S8192x512, .bf16⟩
  | 72 => ⟨S8192x1024, .f32⟩
  | 73 => ⟨S8192x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst : Ref sig .tc := ⟨.hbm, 44, rfl⟩
abbrev main_v33 : Ref sig .tc := ⟨.hbm, 45, rfl⟩
abbrev main_v34 : Ref sig .tc := ⟨.hbm, 46, rfl⟩
abbrev main_cst_0 : Ref sig .tc := ⟨.hbm, 47, rfl⟩
abbrev main_v35 : Ref sig .tc := ⟨.hbm, 48, rfl⟩
abbrev main_v36 : Ref sig .tc := ⟨.hbm, 49, rfl⟩
abbrev main_cst_1 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_2 : Ref sig .tc := ⟨.hbm, 60, rfl⟩
abbrev main_v46 : Ref sig .tc := ⟨.hbm, 61, rfl⟩
abbrev main_v47 : Ref sig .tc := ⟨.hbm, 62, rfl⟩
abbrev main_cst_3 : Ref sig .tc := ⟨.hbm, 63, rfl⟩
abbrev main_v48 : Ref sig .tc := ⟨.hbm, 64, rfl⟩
abbrev main_v49 : Ref sig .tc := ⟨.hbm, 65, rfl⟩
abbrev main_cst_4 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_c_5 : Ref sig .tc := ⟨.hbm, 78, rfl⟩
abbrev main_call1_v0 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_6 : Ref sig .tc := ⟨.hbm, 84, rfl⟩
abbrev main_call2_v0 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_7 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_8 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_c_9 : Ref sig .tc := ⟨.hbm, 105, rfl⟩
abbrev main_v82 : Ref sig .tc := ⟨.hbm, 106, rfl⟩
abbrev main_v83 : Ref sig .tc := ⟨.hbm, 107, rfl⟩
abbrev main_c_10 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_c_11 : Ref sig .tc := ⟨.hbm, 121, rfl⟩
abbrev main_v96 : Ref sig .tc := ⟨.hbm, 122, rfl⟩
abbrev main_v97 : Ref sig .tc := ⟨.hbm, 123, rfl⟩
abbrev main_c_12 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_c_13 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_14 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_cst_15 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_16 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_cst_17 : Ref sig .tc := ⟨.hbm, 165, rfl⟩
abbrev main_v131 : Ref sig .tc := ⟨.hbm, 166, rfl⟩
abbrev main_v132 : Ref sig .tc := ⟨.hbm, 167, rfl⟩
abbrev main_cst_18 : Ref sig .tc := ⟨.hbm, 168, rfl⟩
abbrev main_v133 : Ref sig .tc := ⟨.hbm, 169, rfl⟩
abbrev main_v134 : Ref sig .tc := ⟨.hbm, 170, rfl⟩
abbrev main_cst_19 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_cst_20 : Ref sig .tc := ⟨.hbm, 181, rfl⟩
abbrev main_v144 : Ref sig .tc := ⟨.hbm, 182, rfl⟩
abbrev main_v145 : Ref sig .tc := ⟨.hbm, 183, rfl⟩
abbrev main_cst_21 : Ref sig .tc := ⟨.hbm, 184, rfl⟩
abbrev main_v146 : Ref sig .tc := ⟨.hbm, 185, rfl⟩
abbrev main_v147 : Ref sig .tc := ⟨.hbm, 186, rfl⟩
abbrev main_cst_22 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩

abbrev nD : Nat := 1
abbrev τ : Topo := Topo.v7x

variable {F : FTy → Type} [FloatOps F]
-- ==== LossKernel.lean ====
abbrev S1x8192x1024 : Shape := ⟨3, ![1, 8192, 1024]⟩
abbrev S1024 : Shape := ⟨1, ![1024]⟩
abbrev S1024x2816 : Shape := ⟨2, ![1024, 2816]⟩
abbrev S2816x1024 : Shape := ⟨2, ![2816, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x1408 : Shape := ⟨2, ![1024, 1408]⟩
abbrev S8192x1408 : Shape := ⟨2, ![8192, 1408]⟩
abbrev S1408x1024 : Shape := ⟨2, ![1408, 1024]⟩
abbrev S8192x2816 : Shape := ⟨2, ![8192, 2816]⟩
abbrev S1x128 : Shape := ⟨2, ![1, 128]⟩
abbrev S512x1024 : Shape := ⟨2, ![512, 1024]⟩
abbrev S512x1408 : Shape := ⟨2, ![512, 1408]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 65
  | .vmem => 19
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S1024x1408, .f32⟩
  | .hbm, ⟨24, _⟩ => ⟨S8192x1408, .f32⟩
  | .hbm, ⟨25, _⟩ => ⟨S1024x1408, .f32⟩
  | .hbm, ⟨26, _⟩ => ⟨S8192x1408, .f32⟩
  | .hbm, ⟨27, _⟩ => ⟨S8192x1408, .f32⟩
  | .hbm, ⟨28, _⟩ => ⟨S8192x1408, .f32⟩
  | .hbm, ⟨29, _⟩ => ⟨S_, .f32⟩
  | .hbm, ⟨30, _⟩ => ⟨S8192x1408, .f32⟩
  | .hbm, ⟨31, _⟩ => ⟨S8192x1408, .f32⟩
  | .hbm, ⟨32, _⟩ => ⟨S_, .f32⟩
  | .hbm, ⟨33, _⟩ => ⟨S8192x1408, .f32⟩
  | .hbm, ⟨34, _⟩ => ⟨S8192x1408, .f32⟩
  | .hbm, ⟨35, _⟩ => ⟨S8192x1408, .f32⟩
  | .hbm, ⟨36, _⟩ => ⟨S8192x1408, .f32⟩
  | .hbm, ⟨37, _⟩ => ⟨S8192x1024, .bf16⟩
  | .hbm, ⟨38, _⟩ => ⟨S8192x1024, .f32⟩
  | .hbm, ⟨39, _⟩ => ⟨S1408x1024, .f32⟩
  | .hbm, ⟨40, _⟩ => ⟨S8192x1024, .f32⟩
  | .hbm, ⟨41, _⟩ => ⟨S8192x1024, .f32⟩
  | .hbm, ⟨42, _⟩ => ⟨S2816x1024, .f32⟩
  | .hbm, ⟨43, _⟩ => ⟨S2816x1024, .bf16⟩
  | .hbm, ⟨44, _⟩ => ⟨S2816x1024, .f32⟩
  | .hbm, ⟨45, _⟩ => ⟨S2816x1024, .bf16⟩
  | .hbm, ⟨46, _⟩ => ⟨S2816x1024, .bf16⟩
  | .hbm, ⟨47, _⟩ => ⟨S8192x1408, .bf16⟩
  | .hbm, ⟨48, _⟩ => ⟨S_, .i32⟩
  | .hbm, ⟨49, _⟩ => ⟨S_, .bf16⟩
  | .hbm, ⟨50, _⟩ => ⟨S8192x2816, .bf16⟩
  | .hbm, ⟨51, _⟩ => ⟨S8192x1408, .bf16⟩
  | .hbm, ⟨52, _⟩ => ⟨S_, .i32⟩
  | .hbm, ⟨53, _⟩ => ⟨S_, .bf16⟩
  | .hbm, ⟨54, _⟩ => ⟨S8192x2816, .bf16⟩
  | .hbm, ⟨55, _⟩ => ⟨S8192x1408, .bf16⟩
  | .hbm, ⟨56, _⟩ => ⟨S_, .i32⟩
  | .hbm, ⟨57, _⟩ => ⟨S_, .bf16⟩
  | .hbm, ⟨58, _⟩ => ⟨S8192x2816, .bf16⟩
  | .hbm, ⟨59, _⟩ => ⟨S8192x1024, .f32⟩
  | .hbm, ⟨60, _⟩ => ⟨S8192x2816, .bf16⟩
  | .hbm, ⟨61, _⟩ => ⟨S8192x2816, .bf16⟩
  | .hbm, ⟨62, _⟩ => ⟨S8192x2816, .bf16⟩
  | .hbm, ⟨63, _⟩ => ⟨S8192x1024, .f32⟩
  | .hbm, ⟨64, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S512x1024, .f32⟩
  | .local _ .vmem, ⟨8, _⟩ => ⟨S512x1024, .f32⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1024, .f32⟩
  | .local _ .vmem, ⟨16, _⟩ => ⟨S512x1024, .f32⟩
  | .local _ .vmem, ⟨17, _⟩ => ⟨S1x128, .f32⟩
  | .local _ .vmem, ⟨18, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c : Ref sig .tc := ⟨.hbm, 48, rfl⟩
abbrev main_call1_v0 : Ref sig .tc := ⟨.hbm, 49, rfl⟩
abbrev main_v31 : Ref sig .tc := ⟨.hbm, 50, rfl⟩
abbrev main_v32 : Ref sig .tc := ⟨.hbm, 51, rfl⟩
abbrev main_c_2 : Ref sig .tc := ⟨.hbm, 52, rfl⟩
abbrev main_call2_v0 : Ref sig .tc := ⟨.hbm, 53, rfl⟩
abbrev main_v33 : Ref sig .tc := ⟨.hbm, 54, rfl⟩
abbrev main_v34 : Ref sig .tc := ⟨.hbm, 55, rfl⟩
abbrev main_c_3 : Ref sig .tc := ⟨.hbm, 56, rfl⟩
abbrev main_call3_v0 : Ref sig .tc := ⟨.hbm, 57, rfl⟩
abbrev main_v35 : Ref sig .tc := ⟨.hbm, 58, rfl⟩
abbrev main_v36 : Ref sig .tc := ⟨.hbm, 59, rfl⟩
abbrev main_v37_0 : Ref sig .tc := ⟨.hbm, 60, rfl⟩
abbrev main_v37_1 : Ref sig .tc := ⟨.hbm, 61, rfl⟩
abbrev main_v37_2 : Ref sig .tc := ⟨.hbm, 62, rfl⟩
abbrev main_v37_3 : Ref sig .tc := ⟨.hbm, 63, rfl⟩
abbrev main_v37_4 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v44 : BitVec 1 := Scalar.cmpi .eq arg0 c15_i32
  let v45 : BitVec 32 := Scalar.extui v44
  let c0_i32_29 : BitVec 32 := 0#32
  let v46 : BitVec 1 := Scalar.cmpi .ne v45 c0_i32_29
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_10 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_11 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1408x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1408x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1408x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== LossReferenceIdeal.lean ====
abbrev S1x8192x1024 : Shape := ⟨3, ![1, 8192, 1024]⟩
abbrev S1024 : Shape := ⟨1, ![1024]⟩
abbrev S1024x2816 : Shape := ⟨2, ![1024, 2816]⟩
abbrev S2816x1024 : Shape := ⟨2, ![2816, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S1x128 : Shape := ⟨2, ![1, 128]⟩

abbrev nBuf : Space → Nat
  | .hbm => 65
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S8192x2816, .bf16⟩
  | .hbm, ⟨62, _⟩ => ⟨S8192x2816, .bf16⟩
  | .hbm, ⟨63, _⟩ => ⟨S8192x2816, .bf16⟩
  | .hbm, ⟨64, _⟩ => ⟨S1x128, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_cst_6 : Ref sig .tc := ⟨.hbm, 50, rfl⟩
abbrev main_v29 : Ref sig .tc := ⟨.hbm, 51, rfl⟩
abbrev main_cst_7 : Ref sig .tc := ⟨.hbm, 52, rfl⟩
abbrev main_cst_8 : Ref sig .tc := ⟨.hbm, 53, rfl⟩
abbrev main_v30 : Ref sig .tc := ⟨.hbm, 54, rfl⟩
abbrev main_v31 : Ref sig .tc := ⟨.hbm, 55, rfl⟩
abbrev main_cst_9 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩

abbrev nD : Nat := 1
abbrev τ : Topo := Topo.v7x

variable {F : FTy → Type} [FloatOps F]
-- ==== NormKernel.lean ====
abbrev S1x8192x1024 : Shape := ⟨3, ![1, 8192, 1024]⟩
abbrev S1024 : Shape := ⟨1, ![1024]⟩
abbrev S1024x2304 : Shape := ⟨2, ![1024, 2304]⟩
abbrev S8192x1024 : Shape := ⟨2, ![8192, 1024]⟩
abbrev S1x1024 : Shape := ⟨2, ![1, 1024]⟩
abbrev S2304x1024 : Shape := ⟨2, ![2304, 1024]⟩
abbrev S8192x2304 : Shape := ⟨2, ![8192, 2304]⟩
abbrev S1024x1024 : Shape := ⟨2, ![1024, 1024]⟩
abbrev S1024x128 : Shape := ⟨2, ![1024, 128]⟩
abbrev S1024x1 : Shape := ⟨2, ![1024, 1]⟩

abbrev nBuf : Space → Nat
  | .hbm => 9
  | .vmem => 8
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x2304, .f32⟩
  | .hbm, ⟨3, _⟩ => ⟨S8192x1024, .f32⟩
  | .hbm, ⟨4, _⟩ => ⟨S1x1024, .f32⟩
  | .hbm, ⟨5, _⟩ => ⟨S2304x1024, .f32⟩
  | .hbm, ⟨6, _⟩ => ⟨S2304x1024, .bf16⟩
  | .hbm, ⟨7, _⟩ => ⟨S8192x1024, .bf16⟩
  | .hbm, ⟨8, _⟩ => ⟨S8192x2304, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2304x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2304, .bf16⟩
  | .local _ .vmem, ⟨7, _⟩ => ⟨S1024x2304, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2304 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormReferenceIdeal.lean ====
abbrev S1x8192x1024 : Shape := ⟨3, ![1, 8192, 1024]⟩
abbrev S1024 : Shape := ⟨1, ![1024]⟩
abbrev S1024x2304 : Shape := ⟨2, ![1024, 2304]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2304 : Shape := ⟨2, ![8192, 2304]⟩

abbrev nBuf : Space → Nat
  | .hbm => 23
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x2304, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x2304, .f32⟩
  | .hbm, ⟨22, _⟩ => ⟨S8192x2304, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== GatedKernel.lean ====
abbrev S1x8192x1024 : Shape := ⟨3, ![1, 8192, 1024]⟩
abbrev S1024 : Shape := ⟨1, ![1024]⟩
abbrev S1024x2816 : Shape := ⟨2, ![1024, 2816]⟩
abbrev S2816x1024 : Shape := ⟨2, ![2816, 1024]⟩
abbrev S8192x1024 : Shape := ⟨2, ![8192, 1024]⟩
abbrev S1x1024 : Shape := ⟨2, ![1, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩
abbrev S512x128 : Shape := ⟨2, ![512, 128]⟩
abbrev S512 : Shape := ⟨1, ![512]⟩
abbrev S512x1 : Shape := ⟨2, ![512, 1]⟩

abbrev nBuf : Space → Nat
  | .hbm => 21
  | .vmem => 31
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S1x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S8192x1024, .bf16⟩
  | .hbm, ⟨13, _⟩ => ⟨S8192x2816, .bf16⟩
  | .hbm, ⟨14, _⟩ => ⟨S8192x2816, .bf16⟩
  | .hbm, ⟨15, _⟩ => ⟨S8192x2816, .bf16⟩
  | .hbm, ⟨16, _⟩ => ⟨S8192x1024, .f32⟩
  | .hbm, ⟨17, _⟩ => ⟨S8192x2816, .bf16⟩
  | .hbm, ⟨18, _⟩ => ⟨S8192x2816, .bf16⟩
  | .hbm, ⟨19, _⟩ => ⟨S8192x2816, .bf16⟩
  | .hbm, ⟨20, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S1408x1024, .bf16⟩
  | .local _ .vmem, ⟨21, _⟩ => ⟨S1408x1024, .bf16⟩
  | .local _ .vmem, ⟨22, _⟩ => ⟨S1408x1024, .bf16⟩
  | .local _ .vmem, ⟨23, _⟩ => ⟨S512x1408, .bf16⟩
  | .local _ .vmem, ⟨24, _⟩ => ⟨S512x1408, .bf16⟩
  | .local _ .vmem, ⟨25, _⟩ => ⟨S512x1408, .bf16⟩
  | .local _ .vmem, ⟨26, _⟩ => ⟨S512x1408, .bf16⟩
  | .local _ .vmem, ⟨27, _⟩ => ⟨S512x1408, .bf16⟩
  | .local _ .vmem, ⟨28, _⟩ => ⟨S512x1408, .bf16⟩
  | .local _ .vmem, ⟨29, _⟩ => ⟨S512x1024, .f32⟩
  | .local _ .vmem, ⟨30, _⟩ => ⟨S512x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem5_1 : DmaSem sig := 24
abbrev cc1_sem6_0 : DmaSem sig := 25
abbrev cc1_sem6_1 : DmaSem sig := 26
abbrev cc1_sem7_0 : DmaSem sig := 27
abbrev cc1_sem7_1 : DmaSem sig := 28
abbrev cc1_sem8_0 : DmaSem sig := 29
abbrev cc1_sem8_1 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1408x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1408x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1408x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc1_transform_3 (i : grid1.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc1_transform_4 (i : grid1.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc1_transform_8 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_9 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_10 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1408x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1408x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1408x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1408 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1408 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== GatedReferenceIdeal.lean ====
abbrev S1x8192x1024 : Shape := ⟨3, ![1, 8192, 1024]⟩
abbrev S1024 : Shape := ⟨1, ![1024]⟩
abbrev S1024x2816 : Shape := ⟨2, ![1024, 2816]⟩
abbrev S2816x1024 : Shape := ⟨2, ![2816, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 40
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .bf16⟩
  | .hbm, ⟨35, _⟩ => ⟨S8192x2816, .bf16⟩
  | .hbm, ⟨36, _⟩ => ⟨S8192x2816, .bf16⟩
  | .hbm, ⟨37, _⟩ => ⟨S8192x2816, .bf16⟩
  | .hbm, ⟨38, _⟩ => ⟨S8192x1024, .f32⟩
  | .hbm, ⟨39, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== WeightKernel.lean ====
abbrev S1x8192x1024 : Shape := ⟨3, ![1, 8192, 1024]⟩
abbrev S1024 : Shape := ⟨1, ![1024]⟩
abbrev S1x8192x2816 : Shape := ⟨3, ![1, 8192, 2816]⟩
abbrev S8192x2816 : Shape := ⟨2, ![8192, 2816]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 28
  | .vmem => 12
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x2816, .f32⟩
  | .hbm, ⟨3, _⟩ => ⟨S1x8192x2816, .f32⟩
  | .hbm, ⟨4, _⟩ => ⟨S8192x2816, .f32⟩
  | .hbm, ⟨5, _⟩ => ⟨S8192x2816, .bf16⟩
  | .hbm, ⟨6, _⟩ => ⟨S8192x2816, .f32⟩
  | .hbm, ⟨7, _⟩ => ⟨S8192x2816, .bf16⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S2816x1024, .bf16⟩
  | .hbm, ⟨27, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S1408x1024, .bf16⟩
  | .local _ .vmem, ⟨10, _⟩ => ⟨S1408x1024, .f32⟩
  | .local _ .vmem, ⟨11, _⟩ => ⟨S1408x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def k0_cond4 (i : grid0.Coords) : BitVec 1 :=
  let arg1 : BitVec 32 := BitVec.ofNat 32 (i 1).val
  let c7_i32_18 : BitVec 32 := 7#32
  let v27 : BitVec 1 := Scalar.cmpi .eq arg1 c7_i32_18
  let v28 : BitVec 32 := Scalar.extui v27
  let c0_i32_19 : BitVec 32 := 0#32
  let v29 : BitVec 1 := Scalar.cmpi .ne v28 c0_i32_19
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== WeightReferenceIdeal.lean ====
abbrev S1x8192x1024 : Shape := ⟨3, ![1, 8192, 1024]⟩
abbrev S1024 : Shape := ⟨1, ![1024]⟩
abbrev S1x8192x2816 : Shape := ⟨3, ![1, 8192, 2816]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2816 : Shape := ⟨2, ![1024, 2816]⟩
abbrev S8192x2816 : Shape := ⟨2, ![8192, 2816]⟩
abbrev S2816x1024 : Shape := ⟨2, ![2816, 1024]⟩

abbrev nBuf : Space → Nat
  | .hbm => 35
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1x8192x2816, .f32⟩
  | .hbm, ⟨3, _⟩ => ⟨S1x8192x2816, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S1024x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S2816x1024, .f32⟩
  | .hbm, ⟨28, _⟩ => ⟨S1024x2816, .f32⟩
  | .hbm, ⟨29, _⟩ => ⟨S2816x1024, .f32⟩
  | .hbm, ⟨30, _⟩ => ⟨S1024x2816, .f32⟩
  | .hbm, ⟨31, _⟩ => ⟨S2816x1024, .f32⟩
  | .hbm, ⟨32, _⟩ => ⟨S2816x1024, .bf16⟩
  | .hbm, ⟨33, _⟩ => ⟨S2816x1024, .f32⟩
  | .hbm, ⟨34, _⟩ => ⟨S2816x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== AdamKernel.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamReferenceIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== MixerKernel.lean ====
abbrev S1x8192x2304 : Shape := ⟨3, ![1, 8192, 2304]⟩
abbrev S3x512 : Shape := ⟨2, ![3, 512]⟩
abbrev S64 : Shape := ⟨1, ![64]⟩
abbrev S8 : Shape := ⟨1, ![8]⟩
abbrev S512 : Shape := ⟨1, ![512]⟩
abbrev S1x8192x1024 : Shape := ⟨3, ![1, 8192, 1024]⟩
abbrev S1x2x512 : Shape := ⟨3, ![1, 2, 512]⟩
abbrev S64x128x10 : Shape := ⟨3, ![64, 128, 10]⟩
abbrev S1x128x4x64 : Shape := ⟨4, ![1, 128, 4, 64]⟩
abbrev S64x2x128x4x256 : Shape := ⟨5, ![64, 2, 128, 4, 256]⟩
abbrev S1x8192x512 : Shape := ⟨3, ![1, 8192, 512]⟩
abbrev S1x8194x512 : Shape := ⟨3, ![1, 8194, 512]⟩
abbrev S3x8192x512 : Shape := ⟨3, ![3, 8192, 512]⟩
abbrev S512x8192 : Shape := ⟨2, ![512, 8192]⟩
abbrev S8192x512 : Shape := ⟨2, ![8192, 512]⟩
abbrev S1x8192x768 : Shape := ⟨3, ![1, 8192, 768]⟩
abbrev S64x128x12x64 : Shape := ⟨4, ![64, 128, 12, 64]⟩
abbrev S64x128x10x64 : Shape := ⟨4, ![64, 128, 10, 64]⟩
abbrev S64x128x8x64 : Shape := ⟨4, ![64, 128, 8, 64]⟩
abbrev S64x128x2x64 : Shape := ⟨4, ![64, 128, 2, 64]⟩
abbrev S64x128x4x64 : Shape := ⟨4, ![64, 128, 4, 64]⟩
abbrev S65x128x4x64 : Shape := ⟨4, ![65, 128, 4, 64]⟩
abbrev S64x256x4x64 : Shape := ⟨4, ![64, 256, 4, 64]⟩
abbrev S64x128x2x4x64 : Shape := ⟨5, ![64, 128, 2, 4, 64]⟩
abbrev S64x256x2x64 : Shape := ⟨4, ![64, 256, 2, 64]⟩
abbrev S2x4 : Shape := ⟨2, ![2, 4]⟩
abbrev S64x2x128x4 : Shape := ⟨4, ![64, 2, 128, 4]⟩
abbrev S_ : Shape := ⟨0, ![]⟩
abbrev S64x2x128x4x64 : Shape := ⟨5, ![64, 2, 128, 4, 64]⟩
abbrev S8192x2304 : Shape := ⟨2, ![8192, 2304]⟩
abbrev S8192x1024 : Shape := ⟨2, ![8192, 1024]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S1x512 : Shape := ⟨2, ![1, 512]⟩
abbrev S1x8 : Shape := ⟨2, ![1, 8]⟩
abbrev S128x2304 : Shape := ⟨2, ![128, 2304]⟩
abbrev S128x256 : Shape := ⟨2, ![128, 256]⟩
abbrev S128x512 : Shape := ⟨2, ![128, 512]⟩
abbrev S128x1024 : Shape := ⟨2, ![128, 1024]⟩
abbrev S8x512 : Shape := ⟨2, ![8, 512]⟩
abbrev S128x128 : Shape := ⟨2, ![128, 128]⟩
abbrev S128 : Shape := ⟨1, ![128]⟩
abbrev S128x1 : Shape := ⟨2, ![128, 1]⟩
abbrev S256x128 : Shape := ⟨2, ![256, 128]⟩
abbrev S256 : Shape := ⟨1, ![256]⟩
abbrev S256x1 : Shape := ⟨2, ![256, 1]⟩
abbrev S1 : Shape := ⟨1, ![1]⟩
abbrev S1x128x1 : Shape := ⟨3, ![1, 128, 1]⟩
abbrev S1x1x1 : Shape := ⟨3, ![1, 1, 1]⟩
abbrev S64x256 : Shape := ⟨2, ![64, 256]⟩

abbrev nBuf : Space → Nat
  | .hbm => 111
  | .vmem => 26
  | .smem => 1
  | _ => 0

abbrev bufTy : (tb : Table) → Fin (tcTables nBuf tb) → BufTy
  | .hbm, ⟨0, _⟩ => ⟨S1x8192x2304, .f32⟩
  | .hbm, ⟨1, _⟩ => ⟨S3x512, .f32⟩
  | .hbm, ⟨2, _⟩ => ⟨S64, .f32⟩
  | .hbm, ⟨3, _⟩ => ⟨S64, .f32⟩
  | .hbm, ⟨4, _⟩ => ⟨S8, .f32⟩
  | .hbm, ⟨5, _⟩ => ⟨S512, .f32⟩
  | .hbm, ⟨6, _⟩ => ⟨S512, .f32⟩
  | .hbm, ⟨7, _⟩ => ⟨S1x8192x1024, .f32⟩
  | .hbm, ⟨8, _⟩ => ⟨S1x2x512, .f32⟩
  | .hbm, ⟨9, _⟩ => ⟨S64x128x10, .f32⟩
  | .hbm, ⟨10, _⟩ => ⟨S64x128x10, .f32⟩
  | .hbm, ⟨11, _⟩ => ⟨S1x128x4x64, .f32⟩
  | .hbm, ⟨12, _⟩ => ⟨S64x2x128x4x256, .i32⟩
  | .hbm, ⟨13, _⟩ => ⟨S64x2x128x4x256, .i32⟩
  | .hbm, ⟨14, _⟩ => ⟨S64x2x128x4x256, .i32⟩
  | .hbm, ⟨15, _⟩ => ⟨S64x2x128x4x256, .i32⟩
  | .hbm, ⟨16, _⟩ => ⟨S64x2x128x4x256, .i32⟩
  | .hbm, ⟨17, _⟩ => ⟨S64x2x128x4x256, .f32⟩
  | .hbm, ⟨18, _⟩ => ⟨S64x2x128x4x256, .f32⟩
  | .hbm, ⟨19, _⟩ => ⟨S1x8192x512, .f32⟩
  | .hbm, ⟨20, _⟩ => ⟨S1x8192x512, .f32⟩
  | .hbm, ⟨21, _⟩ => ⟨S1x8192x512, .f32⟩
  | .hbm, ⟨22, _⟩ => ⟨S1x8194x512, .f32⟩
  | .hbm, ⟨23, _⟩ => ⟨S1x8192x512, .f32⟩
  | .hbm, ⟨24, _⟩ => ⟨S1x8192x512, .f32⟩
  | .hbm, ⟨25, _⟩ => ⟨S3x8192x512, .f32⟩
  | .hbm, ⟨26, _⟩ => ⟨S512x8192, .f32⟩
  | .hbm, ⟨27, _⟩ => ⟨S8192x512, .f32⟩
  | .hbm, ⟨28, _⟩ => ⟨S1x8192x768, .f32⟩
  | .hbm, ⟨29, _⟩ => ⟨S64x128x12x64, .f32⟩
  | .hbm, ⟨30, _⟩ => ⟨S64x128x10x64, .f32⟩
  | .hbm, ⟨31, _⟩ => ⟨S64x128x10, .f32⟩
  | .hbm, ⟨32, _⟩ => ⟨S64x128x10, .f32⟩
  | .hbm, ⟨33, _⟩ => ⟨S64x128x10, .f32⟩
  | .hbm, ⟨34, _⟩ => ⟨S64x128x10, .f32⟩
  | .hbm, ⟨35, _⟩ => ⟨S64x128x10x64, .f32⟩
  | .hbm, ⟨36, _⟩ => ⟨S64x128x10x64, .f32⟩
  | .hbm, ⟨37, _⟩ => ⟨S64x128x8x64, .f32⟩
  | .hbm, ⟨38, _⟩ => ⟨S64x128x2x64, .f32⟩
  | .hbm, ⟨39, _⟩ => ⟨S64x128x8x64, .f32⟩
  | .hbm, ⟨40, _⟩ => ⟨S64x128x8x64, .f32⟩
  | .hbm, ⟨41, _⟩ => ⟨S64x128x2x64, .f32⟩
  | .hbm, ⟨42, _⟩ => ⟨S64x128x2x64, .f32⟩
  | .hbm, ⟨43, _⟩ => ⟨S64x128x2x64, .f32⟩
  | .hbm, ⟨44, _⟩ => ⟨S64x128x4x64, .f32⟩
  | .hbm, ⟨45, _⟩ => ⟨S65x128x4x64, .f32⟩
  | .hbm, ⟨46, _⟩ => ⟨S64x128x4x64, .f32⟩
  | .hbm, ⟨47, _⟩ => ⟨S64x256x4x64, .f32⟩
  | .hbm, ⟨48, _⟩ => ⟨S64x128x2x4x64, .f32⟩
  | .hbm, ⟨49, _⟩ => ⟨S64x256x2x64, .f32⟩
  | .hbm, ⟨50, _⟩ => ⟨S64x2x128x4x256, .f32⟩
  | .hbm, ⟨51, _⟩ => ⟨S64x2x128x4x256, .i32⟩
  | .hbm, ⟨52, _⟩ => ⟨S64x2x128x4x256, .i32⟩
  | .hbm, ⟨53, _⟩ => ⟨S64x2x128x4x256, .i32⟩
  | .hbm, ⟨54, _⟩ => ⟨S64x2x128x4x256, .i32⟩
  | .hbm, ⟨55, _⟩ => ⟨S64x2x128x4x256, .i1⟩
  | .hbm, ⟨56, _⟩ => ⟨S64x2x128x4x256, .i1⟩
  | .hbm, ⟨57, _⟩ => ⟨S64x2x128x4x256, .i1⟩
  | .hbm, ⟨58, _⟩ => ⟨S64x2x128x4x256, .i32⟩
  | .hbm, ⟨59, _⟩ => ⟨S64x2x128x4x256, .i1⟩
  | .hbm, ⟨60, _⟩ => ⟨S64x2x128x4x256, .i32⟩
  | .hbm, ⟨61, _⟩ => ⟨S64x2x128x4x256, .i1⟩
  | .hbm, ⟨62, _⟩ => ⟨S64x2x128x4x256, .i1⟩
  | .hbm, ⟨63, _⟩ => ⟨S64x2x128x4x256, .i1⟩
  | .hbm, ⟨64, _⟩ => ⟨S64x2x128x4x256, .f32⟩
  | .hbm, ⟨65, _⟩ => ⟨S64x2x128x4x256, .f32⟩
  | .hbm, ⟨66, _⟩ => ⟨S2x4, .f32⟩
  | .hbm, ⟨67, _⟩ => ⟨S64x2x128x4, .f32⟩
  | .hbm, ⟨68, _⟩ => ⟨S_, .f32⟩
  | .hbm, ⟨69, _⟩ => ⟨S64x2x128x4, .f32⟩
  | .hbm, ⟨70, _⟩ => ⟨S64x2x128x4, .f32⟩
  | .hbm, ⟨71, _⟩ => ⟨S64x2x128x4x256, .f32⟩
  | .hbm, ⟨72, _⟩ => ⟨S64x2x128x4x256, .f32⟩
  | .hbm, ⟨73, _⟩ => ⟨S64x2x128x4x256, .f32⟩
  | .hbm, ⟨74, _⟩ => ⟨S_, .f32⟩
  | .hbm, ⟨75, _⟩ => ⟨S64x2x128x4, .f32⟩
  | .hbm, ⟨76, _⟩ => ⟨S64x2x128x4, .f32⟩
  | .hbm, ⟨77, _⟩ => ⟨S64x2x128x4, .f32⟩
  | .hbm, ⟨78, _⟩ => ⟨S64x2x128x4, .f32⟩
  | .hbm, ⟨79, _⟩ => ⟨S64x2x128x4x256, .f32⟩
  | .hbm, ⟨80, _⟩ => ⟨S64x2x128x4x256, .f32⟩
  | .hbm, ⟨81, _⟩ => ⟨S64x256x2x64, .f32⟩
  | .hbm, ⟨82, _⟩ => ⟨S64x2x128x4x64, .f32⟩
  | .hbm, ⟨83, _⟩ => ⟨S64x128x2x4x64, .f32⟩
  | .hbm, ⟨84, _⟩ => ⟨S8192x512, .f32⟩
  | .hbm, ⟨85, _⟩ => ⟨S8192x2304, .f32⟩
  | .hbm, ⟨86, _⟩ => ⟨S8192x2304, .bf16⟩
  | .hbm, ⟨87, _⟩ => ⟨S8192x512, .bf16⟩
  | .hbm, ⟨88, _⟩ => ⟨S8192x512, .bf16⟩
  | .hbm, ⟨89, _⟩ => ⟨S8192x1024, .f32⟩
  | .hbm, ⟨90, _⟩ => ⟨S8192x1024, .bf16⟩
  | .hbm, ⟨91, _⟩ => ⟨S1x64, .f32⟩
  | .hbm, ⟨92, _⟩ => ⟨S1x1x1x64, .f32⟩
  | .hbm, ⟨93, _⟩ => ⟨S1x1x2x64, .f32⟩
  | .hbm, ⟨94, _⟩ => ⟨S1x128, .f32⟩
  | .hbm, ⟨95, _⟩ => ⟨S1x64, .f32⟩
  | .hbm, ⟨96, _⟩ => ⟨S1x1x1x64, .f32⟩
  | .hbm, ⟨97, _⟩ => ⟨S1x1x2x64, .f32⟩
  | .hbm, ⟨98, _⟩ => ⟨S1x128, .f32⟩
  | .hbm, ⟨99, _⟩ => ⟨S1x512, .f32⟩
  | .hbm, ⟨100, _⟩ => ⟨S1x512, .f32⟩
  | .hbm, ⟨101, _⟩ => ⟨S8192x2304, .bf16⟩
  | .hbm, ⟨102, _⟩ => ⟨S3x512, .f32⟩
  | .hbm, ⟨103, _⟩ => ⟨S1x128, .f32⟩
  | .hbm, ⟨104, _⟩ => ⟨S1x128, .f32⟩
  | .hbm, ⟨105, _⟩ => ⟨S1x8, .f32⟩
  | .hbm, ⟨106, _⟩ => ⟨S1x512, .f32⟩
  | .hbm, ⟨107, _⟩ => ⟨S1x512, .f32⟩
  | .hbm, ⟨108, _⟩ => ⟨S8192x512, .bf16⟩
  | .hbm, ⟨109, _⟩ => ⟨S8192x512, .bf16⟩
  | .hbm, ⟨110, _⟩ => ⟨S8192x512, .bf16⟩
  | .local _ .vmem, ⟨0, _⟩ => ⟨S128x2304, .bf16⟩
  | .local _ .vmem, ⟨1, _⟩ => ⟨S128x2304, .bf16⟩
  | .local _ .vmem, ⟨2, _⟩ => ⟨S128x256, .bf16⟩
  | .local _ .vmem, ⟨3, _⟩ => ⟨S128x256, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x1024, .bf16⟩
  | .local _ .vmem, ⟨9, _⟩ => ⟨S128x1024, .bf16⟩
  | .local _ .vmem, ⟨10, _⟩ => ⟨S3x512, .f32⟩
  | .local _ .vmem, ⟨11, _⟩ => ⟨S1x128, .f32⟩
  | .local _ .vmem, ⟨12, _⟩ => ⟨S1x128, .f32⟩
  | .local _ .vmem, ⟨13, _⟩ => ⟨S1x512, .f32⟩
  | .local _ .vmem, ⟨14, _⟩ => ⟨S1x512, .f32⟩
  | .local _ .vmem, ⟨15, _⟩ => ⟨S128x2304, .bf16⟩
  | .local _ .vmem, ⟨16, _⟩ => ⟨S128x2304, .bf16⟩
  | .local _ .vmem, ⟨17, _⟩ => ⟨S3x512, .f32⟩
  | .local _ .vmem, ⟨18, _⟩ => ⟨S1x128, .f32⟩
  | .local _ .vmem, ⟨19, _⟩ => ⟨S1x128, .f32⟩
  | .local _ .vmem, ⟨20, _⟩ => ⟨S1x8, .f32⟩
  | .local _ .vmem, ⟨21, _⟩ => ⟨S1x512, .f32⟩
  | .local _ .vmem, ⟨22, _⟩ => ⟨S1x512, .f32⟩
  | .local _ .vmem, ⟨23, _⟩ => ⟨S8x512, .f32⟩
  | .local _ .vmem, ⟨24, _⟩ => ⟨S128x128, .f32⟩
  | .local _ .vmem, ⟨25, _⟩ => ⟨S128x128, .f32⟩
  | .local _ .smem, ⟨0, _⟩ => ⟨S8, .f32⟩
  | _, _ => ⟨S1x8192x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_cst_2 : Ref sig .tc := ⟨.hbm, 11, rfl⟩
abbrev main_c : Ref sig .tc := ⟨.hbm, 12, rfl⟩
abbrev main_c_3 : Ref sig .tc := ⟨.hbm, 13, rfl⟩
abbrev main_c_4 : Ref sig .tc := ⟨.hbm, 14, rfl⟩
abbrev main_c_5 : Ref sig .tc := ⟨.hbm, 15, rfl⟩
abbrev main_c_6 : Ref sig .tc := ⟨.hbm, 16, rfl⟩
abbrev main_cst_7 : Ref sig .tc := ⟨.hbm, 17, rfl⟩
abbrev main_cst_8 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80_0 : Ref sig .tc := ⟨.hbm, 101, rfl⟩
abbrev main_v80_1 : Ref sig .tc := ⟨.hbm, 102, rfl⟩
abbrev main_v80_2 : Ref sig .tc := ⟨.hbm, 103, rfl⟩
abbrev main_v80_3 : Ref sig .tc := ⟨.hbm, 104, rfl⟩
abbrev main_v80_4 : Ref sig .tc := ⟨.hbm, 105, rfl⟩
abbrev main_v80_5 : Ref sig .tc := ⟨.hbm, 106, rfl⟩
abbrev main_v80_6 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c62_i32 : BitVec 32 := 62#32
  let v0 : BitVec 32 := Scalar.subi c62_i32 arg0
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x2304 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MixerReferenceIdeal.lean ====
abbrev S1x8192x2304 : Shape := ⟨3, ![1, 8192, 2304]⟩
abbrev S3x512 : Shape := ⟨2, ![3, 512]⟩
abbrev S64 : Shape := ⟨1, ![64]⟩
abbrev S8 : Shape := ⟨1, ![8]⟩
abbrev S512 : Shape := ⟨1, ![512]⟩
abbrev S1x8192x1024 : Shape := ⟨3, ![1, 8192, 1024]⟩
abbrev S8192x2304 : Shape := ⟨2, ![8192, 2304]⟩
abbrev S8192x512 : Shape := ⟨2, ![8192, 512]⟩
abbrev S_ : Shape := ⟨0, ![]⟩
abbrev S2x512 : Shape := ⟨2, ![2, 512]⟩
abbrev S8194x512 : Shape := ⟨2, ![8194, 512]⟩
abbrev S1x512 : Shape := ⟨2, ![1, 512]⟩
abbrev S8192 : Shape := ⟨1, ![8192]⟩
abbrev S8192x1 : Shape := ⟨2, ![8192, 1]⟩
abbrev S8192x1024 : Shape := ⟨2, ![8192, 1024]⟩

abbrev nBuf : Space → Nat
  | .hbm => 103
  | .vmem => 0
  | .smem => 0
  | _ => 0

abbrev bufTy : (tb : Table) → Fin (tcTables nBuf tb) → BufTy
  | .hbm, ⟨0, _⟩ => ⟨S1x8192x2304, .f32⟩
  | .hbm, ⟨1, _⟩ => ⟨S3x512, .f32⟩
  | .hbm, ⟨2, _⟩ => ⟨S64, .f32⟩
  | .hbm, ⟨3, _⟩ => ⟨S64, .f32⟩
  | .hbm, ⟨4, _⟩ => ⟨S8, .f32⟩
  | .hbm, ⟨5, _⟩ => ⟨S512, .f32⟩
  | .hbm, ⟨6, _⟩ => ⟨S512, .f32⟩
  | .hbm, ⟨7, _⟩ => ⟨S1x8192x1024, .f32⟩
  | .hbm, ⟨8, _⟩ => ⟨S8192x2304, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S2x512, .f32⟩
  | .hbm, ⟨15, _⟩ => ⟨S8194x512, .f32⟩
  | .hbm, ⟨16, _⟩ => ⟨S_, .f32⟩
  | .hbm, ⟨17, _⟩ => ⟨S2x512, .f32⟩
  | .hbm, ⟨18, _⟩ => ⟨S1x512, .f32⟩
  | .hbm, ⟨19, _⟩ => ⟨S512, .f32⟩
  | .hbm, ⟨20, _⟩ => ⟨S8192x512, .f32⟩
  | .hbm, ⟨21, _⟩ => ⟨S1x512, .f32⟩
  | .hbm, ⟨22, _⟩ => ⟨S8192x512, .f32⟩
  | .hbm, ⟨23, _⟩ => ⟨S8192x512, .f32⟩
  | .hbm, ⟨24, _⟩ => ⟨S1x512, .f32⟩
  | .hbm, ⟨25, _⟩ => ⟨S512, .f32⟩
  | .hbm, ⟨26, _⟩ => ⟨S8192x512, .f32⟩
  | .hbm, ⟨27, _⟩ => ⟨S1x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S1x512, .f32⟩
  | .hbm, ⟨32, _⟩ => ⟨S512, .f32⟩
  | .hbm, ⟨33, _⟩ => ⟨S8192x512, .f32⟩
  | .hbm, ⟨34, _⟩ => ⟨S1x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x512, .f32⟩
  | .hbm, ⟨55, _⟩ => ⟨S8192x512, .f32⟩
  | .hbm, ⟨56, _⟩ => ⟨S1x512, .f32⟩
  | .hbm, ⟨57, _⟩ => ⟨S8192x512, .f32⟩
  | .hbm, ⟨58, _⟩ => ⟨S8192x512, .f32⟩
  | .hbm, ⟨59, _⟩ => ⟨S8192x1024, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x512, .f32⟩
  | .hbm, ⟨68, _⟩ => ⟨S8192x512, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S8192x512, .f32⟩
  | .hbm, ⟨80, _⟩ => ⟨S8192x512, .f32⟩
  | .hbm, ⟨81, _⟩ => ⟨S8192x512, .f32⟩
  | .hbm, ⟨82, _⟩ => ⟨S8192x512, .f32⟩
  | .hbm, ⟨83, _⟩ => ⟨S8192x512, .f32⟩
  | .hbm, ⟨84, _⟩ => ⟨S_, .f32⟩
  | .hbm, ⟨85, _⟩ => ⟨S8194x512, .f32⟩
  | .hbm, ⟨86, _⟩ => ⟨S8192x512, .f32⟩
  | .hbm, ⟨87, _⟩ => ⟨S8192x512, .f32⟩
  | .hbm, ⟨88, _⟩ => ⟨S_, .f32⟩
  | .hbm, ⟨89, _⟩ => ⟨S8194x512, .f32⟩
  | .hbm, ⟨90, _⟩ => ⟨S8194x512, .f32⟩
  | .hbm, ⟨91, _⟩ => ⟨S8192x512, .f32⟩
  | .hbm, ⟨92, _⟩ => ⟨S8192x512, .f32⟩
  | .hbm, ⟨93, _⟩ => ⟨S_, .f32⟩
  | .hbm, ⟨94, _⟩ => ⟨S8194x512, .f32⟩
  | .hbm, ⟨95, _⟩ => ⟨S8194x512, .f32⟩
  | .hbm, ⟨96, _⟩ => ⟨S2x512, .f32⟩
  | .hbm, ⟨97, _⟩ => ⟨S8192x512, .f32⟩
  | .hbm, ⟨98, _⟩ => ⟨S8192x512, .f32⟩
  | .hbm, ⟨99, _⟩ => ⟨S8192x512, .f32⟩
  | .hbm, ⟨100, _⟩ => ⟨S8192x512, .bf16⟩
  | .hbm, ⟨101, _⟩ => ⟨S8192x512, .bf16⟩
  | .hbm, ⟨102, _⟩ => ⟨S8192x512, .bf16⟩
  | _, _ => ⟨S1x8192x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_6 : Ref sig .tc := ⟨.hbm, 70, rfl⟩
abbrev main_v55 : Ref sig .tc := ⟨.hbm, 71, rfl⟩
abbrev main_v56 : Ref sig .tc := ⟨.hbm, 72, rfl⟩
abbrev main_cst_7 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_8 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_9 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_10 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩

abbrev nD : Nat := 1
abbrev τ : Topo := Topo.v7x

variable {F : FTy → Type} [FloatOps F]
-- ==== Proof.ProjCases.lean ====
/-
  The projection's backward kernel, body by body: what one grid point leaves in the two output blocks, as the kernel's
  own payloads of the point's input blocks.
-/
module

public import proofs.«01_k».proof.Proof.Gen.ProjKernelIdeal.Value
public import Idealize.ShloMosaic.Lib.Pointwise
public import Idealize.ShloMosaic.Lib.StableHlo.ReadAt

@[expose] public section

noncomputable section

namespace Cert.ProjKernelIdeal.Value

open Cert.ProjKernelIdeal Cert.ProjKernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The gradient of the residual stream over one block of rows. -/
abbrev rows (x0 : Vec F S1024x2304 .bf16) (x1 : Vec F S2304x1024 .bf16) (x2 : Vec F S1024x1024 .f32)
    (x3 : Vec F S1x1024 .f32) (x4 : Vec F S1024x1024 .f32) : Vec F S1024x1024 .f32 :=
  k0_pay1 (k0_pay3 x0 x1) (k0_pay5 x2) (k0_pay6 x2) x4 x3

section
variable (c : Dev nD) (i : grid0.Coords) (a1 : Memref sig .tc .vmem S1024x2304 .bf16) (h1 : a1.IsWhole)
  (a2 : Memref sig .tc .vmem S2304x1024 .bf16) (h2 : a2.IsWhole) (a3 : Memref sig .tc .vmem S1024x1024 .f32) (h3 : a3.IsWhole)
  (a4 : Memref sig .tc .vmem S1x1024 .f32) (h4 : a4.IsWhole) (a5 : Memref sig .tc .vmem S1024x1024 .f32) (h5 : a5.IsWhole)
  (a6 : Memref sig .tc .vmem S1024x1024 .f32) (h6 : a6.IsWhole) (a7 : Memref sig .tc .vmem S1x1024 .f32) (h7 : a7.IsWhole)
  (x0 : Vec F S1024x2304 .bf16) (x1 : Vec F S2304x1024 .bf16) (x2 : Vec F S1024x1024 .f32) (x3 : Vec F S1x1024 .f32)
  (x4 : Vec F S1024x1024 .f32) (xo : Vec F S1x1024 .f32)

theorem out5_A (hc : cond0_0 i) :
    out0_A_5 c i a1 h1 a2 h2 a3 h3 a4 h4 a5 h5 a6 h6 a7 h7 hc x0 x1 x2 x3 x4 = rows x0 x1 x2 x3 x4 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S1024x2304) hz, View.ld_unit_zero (S := S2304x1024) hz, View.ld_unit_zero (S := S1024x1024) hz,
    View.ld_unit_zero (S := S1x1024) hz]

theorem out5_B (hc : ¬cond0_0 i) :
    out0_B_5 c i a1 h1 a2 h2 a3 h3 a4 h4 a5 h5 a6 h6 a7 h7 hc x0 x1 x2 x3 x4 xo = rows x0 x1 x2 x3 x4 := by
  unfold out0_B_5
  rw [View.read_writes_eq_canon _ _ _ (cover0_B_5 c i a1 h1 a2 h2 a3 h3 a4 h4 a5 h5 a6 h6 a7 h7 hc x0 x1 x2 x3 x4 xo)]
  unfold kernelRun0_B
  dsimp only
  sl_unfold_words
  rw [View.canon_unit_zero hz]
  simp only [View.readAt_eq_ld, h1.read_unread, h2.read_unread, h3.read_unread, h4.read_unread, h5.read_unread,
    View.ld_unit_zero (S := S1024x2304) hz, View.ld_unit_zero (S := S2304x1024) hz, View.ld_unit_zero (S := S1024x1024) hz,
    View.ld_unit_zero (S := S1x1024) hz]

theorem out6_A (hc : cond0_0 i) :
    out0_A_6 c i a1 h1 a2 h2 a3 h3 a4 h4 a5 h5 a6 h6 a7 h7 hc x0 x1 x2 x3 x4 = k0_pay7 x0 x1 x2 k0_pay2 := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread,
    View.ld_unit_zero (S := S1024x2304) hz, View.ld_unit_zero (S := S2304x1024) hz, View.ld_unit_zero (S := S1024x1024) hz,
    View.ld_unit_zero (S := S1x1024) hz]

theorem out6_B (hc : ¬cond0_0 i) :
    out0_B_6 c i a1 h1 a2 h2 a3 h3 a4 h4 a5 h5 a6 h6 a7 h7 hc x0 x1 x2 x3 x4 xo = k0_pay7 x0 x1 x2 xo := by
  unfold out0_B_6
  rw [View.read_writes_eq_canon _ _ _ (cover0_B_6 c i a1 h1 a2 h2 a3 h3 a4 h4 a5 h5 a6 h6 a7 h7 hc x0 x1 x2 x3 x4 xo)]
  unfold kernelRun0_B
  dsimp only
  sl_unfold_words
  rw [View.canon_unit_zero hz]
  simp only [View.readAt_eq_ld, h1.read_unread, h2.read_unread, h3.read_unread, h7.read_unread,
    View.ld_unit_zero (S := S1024x2304) hz, View.ld_unit_zero (S := S2304x1024) hz, View.ld_unit_zero (S := S1024x1024) hz,
    View.ld_unit_zero (S := S1x1024) hz]

end

end Cert.ProjKernelIdeal.Value
end
-- ==== Proof.Reals.lean ====
/-
  Facts about finite values among the extended reals that the value proofs share: when an entry is a real number, how
  the operations of the ideal float act on real numbers, the literals the kernels use, and the sum over a row that a
  kernel takes lane group by lane group.
-/
module

public import Idealize.ShloMosaic.Lib.Pointwise

@[expose] public section

noncomputable section

namespace Cert.Reals

open Idealize.ShloMosaic

theorem real_of_abs_lt {x : EReal} (h : max x (-x) < ⊤) : ∃ r : ℝ, x = (r : EReal) := by
  induction x using EReal.rec with
  | bot => simp at h
  | top => simp at h
  | coe r => exact ⟨r, rfl⟩

/-- An array whose every absolute value compares below infinity holds real numbers. -/
theorem real_of_finite {s : Shape} {φ : FTy} {x b : FVec Ideal s φ} (hb : ∀ i, b i = (⊤ : EReal))
    (h : cmpf .olt (Host.absf x) b = fun _ => 1#1) (i : s.Idx) : ∃ r : ℝ, x i = (r : EReal) := by
  refine real_of_abs_lt ?_
  have e := congrFun h i
  change BitVec.ofBool (decide (max (x i) (-(x i)) < b i)) = 1#1 at e
  rw [hb i] at e
  by_contra hn
  rw [decide_eq_false hn] at e
  exact absurd e (by decide)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem rsqrt_coe {a : ℝ} (h : 0 < a) : Ideal.rsqrt (a : EReal) = (((Real.sqrt a)⁻¹ : ℝ) : EReal) := by
  show (if a < 0 then (⊥ : EReal) else if a = 0 then ⊤ else ((Real.sqrt a)⁻¹ : ℝ)) = _
  rw [if_neg (not_lt.mpr h.le), if_neg h.ne']

theorem div_coe' (a : ℝ) {b : ℝ} (h : b ≠ 0) : Ideal.div (a : EReal) (b : EReal) = ((a / b : ℝ) : EReal) := by
  rw [Ideal.div_coe h, ← EReal.coe_mul, mul_one_div]

/-- The small constant under the root. -/
def eps : ℝ := 8796093 / 8796093022208

theorem eps_pos : 0 < eps := by unfold eps; norm_num

theorem ofBits_eps : Ideal.ofBits .f32 0x358637BD#32 = ((eps : ℝ) : EReal) := by
  unfold eps; simp [Ideal.ofBits, Ideal.ieee, -EReal.coe_mul]; norm_num
theorem ofBits_inv1024 : Ideal.ofBits .f32 0x3A800000#32 = (((1 : ℝ) / 1024 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_neg_half : Ideal.ofBits .f32 0xBF000000#32 = ((-(1 : ℝ) / 2 : ℝ) : EReal) := by
  simp [Ideal.ofBits, Ideal.ieee, -EReal.coe_mul]; norm_num
theorem ofBits_inf : Ideal.ofBits .f32 0x7F800000#32 = ⊤ := by
  simp [Ideal.ofBits, Ideal.ieee]

/-- A row of 1024 entries summed as eight groups of 128 lanes is the sum of the row. -/
theorem sum_groups8 (f : Fin 1024 → EReal) :
    ∑ x : Fin 128, (f ⟨x, by omega⟩ + f ⟨128 + x, by omega⟩ + f ⟨256 + x, by omega⟩ + f ⟨384 + x, by omega⟩
      + f ⟨512 + x, by omega⟩ + f ⟨640 + x, by omega⟩ + f ⟨768 + x, by omega⟩ + f ⟨896 + x, by omega⟩) = ∑ k, f k := by
  rw [Fin.sum_univ_tiles 8 128 rfl f, Fin.sum_univ_eight]
  simp only [Finset.sum_add_distrib]
  simp

/-- What one row's normalisation divides by, squared: the mean square and the small constant. -/
def msq {n : ℕ} (x : Fin n → ℝ) : ℝ := (∑ k, x k * x k) / n + eps
/-- The reciprocal root of the mean square. -/
def inv {n : ℕ} (x : Fin n → ℝ) : ℝ := (Real.sqrt (msq x))⁻¹

theorem msq_pos {n : ℕ} (x : Fin n → ℝ) : 0 < msq x :=
  add_pos_of_nonneg_of_pos (div_nonneg (Finset.sum_nonneg fun k _ => mul_self_nonneg _) (Nat.cast_nonneg _)) eps_pos

theorem inv_cube {n : ℕ} (x : Fin n → ℝ) : inv x / msq x = inv x * inv x * inv x := by
  have h := msq_pos x
  have hs : Real.sqrt (msq x) ≠ 0 := (Real.sqrt_pos.mpr h).ne'
  have e : Real.sqrt (msq x) * Real.sqrt (msq x) = msq x := Real.mul_self_sqrt h.le
  have hi : (msq x)⁻¹ = inv x * inv x := by unfold inv; rw [← mul_inv, e]
  rw [div_eq_mul_inv, hi, mul_assoc]

/-- The gradient of the normalisation of a row, the kernel's way: `r (d − x̂ · mean(d x̂))`. -/
def normGrad {n : ℕ} (x d : Fin n → ℝ) (j : Fin n) : ℝ :=
  inv x * (d j - x j * inv x * ((∑ k, d k * (x k * inv x)) * (1 / n)))

/-- The same gradient, the chain rule's way. -/
theorem normGrad_eq {n : ℕ} (hn : n ≠ 0) (x d : Fin n → ℝ) (j : Fin n) :
    normGrad x d j = d j * inv x + x j * ((∑ k, x k * d k) * (-(1 : ℝ) / 2 * (inv x / msq x)) / n)
      + x j * ((∑ k, x k * d k) * (-(1 : ℝ) / 2 * (inv x / msq x)) / n) := by
  have hn' : (n : ℝ) ≠ 0 := Nat.cast_ne_zero.mpr hn
  have e : ∑ k, d k * (x k * inv x) = (∑ k, x k * d k) * inv x := by
    rw [Finset.sum_mul]; exact Finset.sum_congr rfl fun k _ => by ring
  unfold normGrad
  rw [inv_cube, e]
  field_simp
  ring

/-! ## The gate of the feed-forward block -/

theorem exp_coe (a : ℝ) : Ideal.exp (a : EReal) = ((Real.exp a : ℝ) : EReal) := rfl

/-- The logistic function. -/
def logistic (a : ℝ) : ℝ := 1 / (1 + Real.exp (-a))

theorem logistic_coe (a : ℝ) : Ideal.div 1 (1 + Ideal.exp (-(a : EReal))) = ((logistic a : ℝ) : EReal) := by
  rw [← EReal.coe_neg, exp_coe, ← EReal.coe_one, ← EReal.coe_add, div_coe' _ (by positivity)]
  rfl

/-- The gate's gradient: `d` the gradient of the product `silu(a) · b`. -/
def gateA (d a b : ℝ) : ℝ := d * b * (logistic a * (1 + a * (1 - logistic a)))
/-- The other factor's gradient. -/
def gateB (d a : ℝ) : ℝ := d * (a * logistic a)

end Cert.Reals

namespace Idealize.ShloMosaic

/-- A reduction over the two outer axes, both of extent one, at rank three. -/
theorem hostReduceAdd_r3_a01 {n2 : ℕ} (h : (⟨3, ![1, 1, n2]⟩ : Shape).ReducesTo [0, 1] ⟨1, ![n2]⟩)
    (x : (⟨3, ![1, 1, n2]⟩ : Shape).Idx → EReal) (a : EReal) (j : Fin n2) :
    Ideal.hostReduceAdd h x a (ix1 j) = a + x (ix3 0 0 j) := by
  unfold Ideal.hostReduceAdd
  congr 1
  rw [Finset.sum_filter_eq_sum_of_fiber _ (fun _ : Unit => (ix3 0 0 j : (⟨3, ![1, 1, n2]⟩ : Shape).Idx))
    (fun _ _ _ => rfl) (fun i => ?_)]
  · simp
  · constructor
    · intro e
      refine ⟨(), ?_⟩
      funext a; apply Fin.ext
      match a with
      | ⟨0, _⟩ => have := (i 0).isLt; change 0 = (i 0).val; change (i 0).val < 1 at this; omega
      | ⟨1, _⟩ => have := (i 1).isLt; change 0 = (i 1).val; change (i 1).val < 1 at this; omega
      | ⟨2, _⟩ => exact (congrArg Fin.val (congrFun e 0)).symm
    · rintro ⟨_, rfl⟩
      funext b
      apply Fin.ext
      match b with
      | ⟨0, _⟩ => rfl

/-- A reduction over the outer axis and the inner one, both of extent one, at rank three. -/
theorem hostReduceAdd_r3_a02 {n1 : ℕ} (h : (⟨3, ![1, n1, 1]⟩ : Shape).ReducesTo [0, 2] ⟨1, ![n1]⟩)
    (x : (⟨3, ![1, n1, 1]⟩ : Shape).Idx → EReal) (a : EReal) (j : Fin n1) :
    Ideal.hostReduceAdd h x a (ix1 j) = a + x (ix3 0 j 0) := by
  unfold Ideal.hostReduceAdd
  congr 1
  rw [Finset.sum_filter_eq_sum_of_fiber _ (fun _ : Unit => (ix3 0 j 0 : (⟨3, ![1, n1, 1]⟩ : Shape).Idx))
    (fun _ _ _ => rfl) (fun i => ?_)]
  · simp
  · constructor
    · intro e
      refine ⟨(), ?_⟩
      funext a; apply Fin.ext
      match a with
      | ⟨0, _⟩ => have := (i 0).isLt; change 0 = (i 0).val; change (i 0).val < 1 at this; omega
      | ⟨1, _⟩ => exact (congrArg Fin.val (congrFun e 0)).symm
      | ⟨2, _⟩ => have := (i 2).isLt; change 0 = (i 2).val; change (i 2).val < 1 at this; omega
    · rintro ⟨_, rfl⟩
      funext b
      apply Fin.ext
      match b with
      | ⟨0, _⟩ => rfl

end Idealize.ShloMosaic

end
-- ==== Proof.ProjKernelValue.lean ====
/-
  The projection's backward kernel: its two results as real numbers of its arguments. A block of rows at a time, the
  gradient of the residual stream is `dres` plus the gradient of the row normalisation; the gain's gradient runs down
  the blocks.
-/
module

public import proofs.«01_k».proof.Proof.ProjCases
public import proofs.«01_k».proof.Proof.Reals

@[expose] public section

noncomputable section

namespace Cert.ProjKernelIdeal.Value

open Cert.ProjKernelIdeal Cert.ProjKernelIdeal.Gen Idealize.ShloMosaic Idealize.ShloMosaic.TcCoe Idealize.SL.Sem Cert.Reals

variable (m : (ℓ : Loc nD τ sig) → Buf (Elt Ideal) ℓ) (ρ : Dev nD → PrngReg)

/-! ## The blocks, read from the arrays as launched -/

section
variable (c : Dev nD) (t : Fin cfg0.N)

theorem idx0 : win0_0.index t 0 = t.val ∧ win0_0.index t 1 = 0 :=
  (by decide +kernel : ∀ t : Fin grid0.N, win0_0.index t 0 = t.val ∧ win0_0.index t 1 = 0) t
theorem idx1 : win0_1.index t 0 = 0 ∧ win0_1.index t 1 = 0 :=
  (by decide +kernel : ∀ t : Fin grid0.N, win0_1.index t 0 = 0 ∧ win0_1.index t 1 = 0) t
theorem idx2 : win0_2.index t 0 = t.val ∧ win0_2.index t 1 = 0 :=
  (by decide +kernel : ∀ t : Fin grid0.N, win0_2.index t 0 = t.val ∧ win0_2.index t 1 = 0) t
theorem idx3 : win0_3.index t 0 = 0 ∧ win0_3.index t 1 = 0 :=
  (by decide +kernel : ∀ t : Fin grid0.N, win0_3.index t 0 = 0 ∧ win0_3.index t 1 = 0) t
theorem idx4 : win0_4.index t 0 = t.val ∧ win0_4.index t 1 = 0 :=
  (by decide +kernel : ∀ t : Fin grid0.N, win0_4.index t 0 = t.val ∧ win0_4.index t 1 = 0) t
theorem idx5 : win0_5.index t 0 = t.val ∧ win0_5.index t 1 = 0 :=
  (by decide +kernel : ∀ t : Fin grid0.N, win0_5.index t 0 = t.val ∧ win0_5.index t 1 = 0) t
theorem idx6 : win0_6.index t 0 = 0 ∧ win0_6.index t 1 = 0 :=
  (by decide +kernel : ∀ t : Fin grid0.N, win0_6.index t 0 = 0 ∧ win0_6.index t 1 = 0) t

/-- Row `r` of block `t`. -/
def row (t : Fin cfg0.N) (r : Fin 1024) : Fin 8192 :=
  ⟨t.val * 1024 + r.val, by have h : t.val < 8 := t.isLt; have := r.isLt; omega⟩

theorem blk0 (r : Fin 1024) (k : Fin 2304) :
    (iblk m c 0 t : Vec Ideal S1024x2304 .bf16) (ix2 r k) = m ((c : Thread nD τ).loc main_arg3) (ix3 0 (row t r) k) := by
  have e : (V m c main_v1 : Vec Ideal S8192x2304 .bf16) (ix2 (row t r) k) = m ((c : Thread nD τ).loc main_arg3) (ix3 0 (row t r) k) := by
    after_reads_at
  rw [← e]
  unfold iblk
  rw [View.read_apply]
  show V m c main_v1 _ = V m c main_v1 _
  congr 1
  funext a; apply Fin.ext
  match a with
  | ⟨0, _⟩ => show win0_0.index t 0 * 1024 + 1 * r.val = t.val * 1024 + r.val; rw [(idx0 t).1]; omega
  | ⟨1, _⟩ => show win0_0.index t 1 * 2304 + 1 * k.val = k.val; rw [(idx0 t).2]; omega

theorem blk1 (r : Fin 2304) (k : Fin 1024) :
    (iblk m c 1 t : Vec Ideal S2304x1024 .bf16) (ix2 r k) = m ((c : Thread nD τ).loc main_arg2) (ix2 k r) := by
  have e : (V m c main_v3 : Vec Ideal S2304x1024 .bf16) (ix2 (r) k) = m ((c : Thread nD τ).loc main_arg2) (ix2 k r) := by
    after_reads_at
  rw [← e]
  unfold iblk
  rw [View.read_apply]
  show V m c main_v3 _ = V m c main_v3 _
  congr 1
  funext a; apply Fin.ext
  match a with
  | ⟨0, _⟩ => show win0_1.index t 0 * 2304 + 1 * r.val = r.val; rw [(idx1 t).1]; omega
  | ⟨1, _⟩ => show win0_1.index t 1 * 1024 + 1 * k.val = k.val; rw [(idx1 t).2]; omega

theorem blk2 (r : Fin 1024) (k : Fin 1024) :
    (iblk m c 2 t : Vec Ideal S1024x1024 .f32) (ix2 r k) = m ((c : Thread nD τ).loc main_arg0) (ix3 0 (row t r) k) := by
  have e : (V m c main_v4 : Vec Ideal S8192x1024 .f32) (ix2 (row t r) k) = m ((c : Thread nD τ).loc main_arg0) (ix3 0 (row t r) k) := by
    after_reads_at
  rw [← e]
  unfold iblk
  rw [View.read_apply]
  show V m c main_v4 _ = V m c main_v4 _
  congr 1
  funext a; apply Fin.ext
  match a with
  | ⟨0, _⟩ => show win0_2.index t 0 * 1024 + 1 * r.val = t.val * 1024 + r.val; rw [(idx2 t).1]; omega
  | ⟨1, _⟩ => show win0_2.index t 1 * 1024 + 1 * k.val = k.val; rw [(idx2 t).2]; omega

theorem blk3 (r : Fin 1) (k : Fin 1024) :
    (iblk m c 3 t : Vec Ideal S1x1024 .f32) (ix2 r k) = m ((c : Thread nD τ).loc main_arg1) (ix1 k) := by
  have e : (V m c main_v5 : Vec Ideal S1x1024 .f32) (ix2 (r) k) = m ((c : Thread nD τ).loc main_arg1) (ix1 k) := by
    after_reads_at
  rw [← e]
  unfold iblk
  rw [View.read_apply]
  show V m c main_v5 _ = V m c main_v5 _
  congr 1
  funext a; apply Fin.ext
  match a with
  | ⟨0, _⟩ => show win0_3.index t 0 * 1 + 1 * r.val = r.val; rw [(idx3 t).1]; omega
  | ⟨1, _⟩ => show win0_3.index t 1 * 1024 + 1 * k.val = k.val; rw [(idx3 t).2]; omega

theorem blk4 (r : Fin 1024) (k : Fin 1024) :
    (iblk m c 4 t : Vec Ideal S1024x1024 .f32) (ix2 r k) = m ((c : Thread nD τ).loc main_arg4) (ix3 0 (row t r) k) := by
  have e : (V m c main_v6 : Vec Ideal S8192x1024 .f32) (ix2 (row t r) k) = m ((c : Thread nD τ).loc main_arg4) (ix3 0 (row t r) k) := by
    after_reads_at
  rw [← e]
  unfold iblk
  rw [View.read_apply]
  show V m c main_v6 _ = V m c main_v6 _
  congr 1
  funext a; apply Fin.ext
  match a with
  | ⟨0, _⟩ => show win0_4.index t 0 * 1024 + 1 * r.val = t.val * 1024 + r.val; rw [(idx4 t).1]; omega
  | ⟨1, _⟩ => show win0_4.index t 1 * 1024 + 1 * k.val = k.val; rw [(idx4 t).2]; omega

end

/-! ## One block's payloads over real numbers -/

section
variable (x0 : Vec Ideal S1024x2304 .bf16) (x1 : Vec Ideal S2304x1024 .bf16) (x2 : Vec Ideal S1024x1024 .f32)
  (x3 : Vec Ideal S1x1024 .f32) (x4 : Vec Ideal S1024x1024 .f32) (xo : Vec Ideal S1x1024 .f32)
  {d : Fin 1024 → Fin 2304 → ℝ} {w : Fin 1024 → Fin 2304 → ℝ} {x : Fin 1024 → Fin 1024 → ℝ} {g : Fin 1024 → ℝ}
  (h0 : ∀ r k, x0 (ix2 r k) = ((d r k : ℝ) : EReal)) (h1 : ∀ k j, x1 (ix2 k j) = ((w j k : ℝ) : EReal))
  (h2 : ∀ r j, x2 (ix2 r j) = ((x r j : ℝ) : EReal)) (h3 : ∀ i j, x3 (ix2 i j) = ((g j : ℝ) : EReal))

include h0 h1 in
theorem pay3_real (r : Fin 1024) (j : Fin 1024) : k0_pay3 x0 x1 (ix2 r j) = ((∑ k, d r k * w j k : ℝ) : EReal) := by
  have e : k0_pay3 x0 x1 (ix2 r j) = ∑ k, x0 (ix2 r k) * x1 (ix2 k j) := by pointwise [k0_pay3]
  rw [e, coe_sum]
  exact Finset.sum_congr rfl fun k _ => by rw [h0, h1, EReal.coe_mul]

include h2 in
theorem pay5_real (r : Fin 1024) (z : Fin 1) : k0_pay5 x2 (ix2 r z) = ((inv (x r) : ℝ) : EReal) := by
  have e : k0_pay5 x2 (ix2 r z) = Ideal.rsqrt ((∑ k, x2 (ix2 r k) * x2 (ix2 r k)) * Ideal.ofBits .f32 0x3A800000#32
      + Ideal.ofBits .f32 0x358637BD#32) := by
    rw [← sum_groups8]
    pointwise [k0_pay5, k0_pay4]
  rw [e, ofBits_inv1024, ofBits_eps, show (∑ k, x2 (ix2 r k) * x2 (ix2 r k)) = ((∑ k, x r k * x r k : ℝ) : EReal) by
    rw [coe_sum]; exact Finset.sum_congr rfl fun k _ => by rw [h2, EReal.coe_mul], ← EReal.coe_mul, ← EReal.coe_add, mul_one_div]
  exact rsqrt_coe (msq_pos (x r))

include h2 in
theorem pay6_real (r : Fin 1024) (j : Fin 1024) : k0_pay6 x2 (ix2 r j) = ((x r j * inv (x r) : ℝ) : EReal) := by
  have e : k0_pay6 x2 (ix2 r j) = x2 (ix2 r j) * k0_pay5 x2 (ix2 r 0) := by pointwise [k0_pay6, k0_pay4]
  rw [e, h2, pay5_real x2 h2, EReal.coe_mul]

include h0 h1 h2 h3 in
theorem rows_real (r : Fin 1024) (j : Fin 1024) : rows x0 x1 x2 x3 x4 (ix2 r j)
    = x4 (ix2 r j) + ((normGrad (x r) (fun j => (∑ k, d r k * w j k) * g j) j : ℝ) : EReal) := by
  have e (dh xh : Vec Ideal S1024x1024 .f32) (s : Vec Ideal S1024x1 .f32) : k0_pay1 dh s xh x4 x3 (ix2 r j)
      = x4 (ix2 r j) + s (ix2 r 0) * (dh (ix2 r j) * x3 (ix2 0 j)
        - xh (ix2 r j) * ((∑ k, dh (ix2 r k) * x3 (ix2 0 k) * xh (ix2 r k)) * Ideal.ofBits .f32 0x3A800000#32)) := by
    rw [← sum_groups8]
    pointwise [k0_pay1]
  unfold rows
  rw [e, pay5_real x2 h2, pay6_real x2 h2, pay3_real x0 x1 h0 h1, h3, ofBits_inv1024]
  rw [show (∑ k, k0_pay3 x0 x1 (ix2 r k) * x3 (ix2 0 k) * k0_pay6 x2 (ix2 r k))
    = ((∑ k', (∑ k, d r k * w k' k) * g k' * (x r k' * inv (x r)) : ℝ) : EReal) by
      rw [coe_sum]
      exact Finset.sum_congr rfl fun k _ => by
        rw [pay6_real x2 h2, pay3_real x0 x1 h0 h1, h3, ← EReal.coe_mul, ← EReal.coe_mul]]
  simp only [← EReal.coe_mul, ← EReal.coe_sub]
  rfl

include h0 h1 h2 in
theorem gain_real (z : Fin 1) (j : Fin 1024) : k0_pay7 x0 x1 x2 xo (ix2 z j)
    = xo (ix2 z j) + ((∑ r, (∑ k, d r k * w j k) * (x r j * inv (x r)) : ℝ) : EReal) := by
  have e : k0_pay7 x0 x1 x2 xo (ix2 z j) = xo (ix2 z j) + ∑ r, k0_pay3 x0 x1 (ix2 r j) * k0_pay6 x2 (ix2 r j) := by
    obtain rfl : z = 0 := Subsingleton.elim _ _
    pointwise [k0_pay7]
  rw [e, coe_sum]
  exact congrArg _ <| Finset.sum_congr rfl fun r _ => by rw [pay3_real x0 x1 h0 h1, pay6_real x2 h2, ← EReal.coe_mul]
end

/-! ## The results -/

section
variable {m} {c : Dev nD} {x : Fin 8192 → Fin 1024 → ℝ} {g : Fin 1024 → ℝ} {w : Fin 1024 → Fin 2304 → ℝ} {d : Fin 8192 → Fin 2304 → ℝ}

/-- The arguments hold these real numbers (the gradient of the residual stream is left as it is). -/
structure Holds (m : (ℓ : Loc nD τ sig) → Buf (Elt Ideal) ℓ) (c : Dev nD) (x : Fin 8192 → Fin 1024 → ℝ) (g : Fin 1024 → ℝ)
    (w : Fin 1024 → Fin 2304 → ℝ) (d : Fin 8192 → Fin 2304 → ℝ) : Prop where
  x : ∀ i j, m ((c : Thread nD τ).loc main_arg0) (ix3 0 i j) = ((x i j : ℝ) : EReal)
  g : ∀ j, m ((c : Thread nD τ).loc main_arg1) (ix1 j) = ((g j : ℝ) : EReal)
  w : ∀ j k, m ((c : Thread nD τ).loc main_arg2) (ix2 j k) = ((w j k : ℝ) : EReal)
  d : ∀ i k, m ((c : Thread nD τ).loc main_arg3) (ix3 0 i k) = ((d i k : ℝ) : EReal)

variable (h : Holds m c x g w d)

/-- The gradient of the residual stream, as launched. -/
def res (m : (ℓ : Loc nD τ sig) → Buf (Elt Ideal) ℓ) (c : Dev nD) (i : Fin 8192) (j : Fin 1024) : EReal :=
  m ((c : Thread nD τ).loc main_arg4) (ix3 0 i j)

/-- The gradient of the normalised row: the projection's gradient through its weight. -/
def back (w : Fin 1024 → Fin 2304 → ℝ) (d : Fin 8192 → Fin 2304 → ℝ) (i : Fin 8192) (j : Fin 1024) : ℝ := ∑ k, d i k * w j k

include h in
theorem rows_blk (t : Fin cfg0.N) (r j : Fin 1024) :
    rows (iblk m c 0 t) (iblk m c 1 t) (iblk m c 2 t) (iblk m c 3 t) (iblk m c 4 t) (ix2 r j)
    = res m c (row t r) j
      + ((normGrad (x (row t r)) (fun j => back w d (row t r) j * g j) j : ℝ) : EReal) := by
  rw [rows_real (x0 := iblk m c 0 t) (x1 := iblk m c 1 t) (x2 := iblk m c 2 t) (x3 := iblk m c 3 t) (x4 := iblk m c 4 t)
    (d := fun r => d (row t r)) (w := w) (x := fun r => x (row t r)) (g := g)
    (fun r k => (blk0 m c t r k).trans (h.d _ _)) (fun k j => (blk1 m c t k j).trans (h.w _ _))
    (fun r k => (blk2 m c t r k).trans (h.x _ _)) (fun i j => (blk3 m c t i j).trans (h.g _)), blk4]
  rfl

/-- The gain's gradient from one row. -/
def gainTerm (x : Fin 8192 → Fin 1024 → ℝ) (w : Fin 1024 → Fin 2304 → ℝ) (d : Fin 8192 → Fin 2304 → ℝ) (j : Fin 1024) (i : Fin 8192) : ℝ :=
  back w d i j * (x i j * inv (x i))

include h in
theorem gain_blk (t : Fin cfg0.N) (xo : Vec Ideal S1x1024 .f32) (z : Fin 1) (j : Fin 1024) :
    k0_pay7 (iblk m c 0 t) (iblk m c 1 t) (iblk m c 2 t) xo (ix2 z j)
    = xo (ix2 z j) + ((∑ r, gainTerm x w d j (row t r) : ℝ) : EReal) :=
  gain_real (x0 := iblk m c 0 t) (x1 := iblk m c 1 t) (x2 := iblk m c 2 t) xo
    (d := fun r => d (row t r)) (w := w) (x := fun r => x (row t r))
    (fun r k => (blk0 m c t r k).trans (h.d _ _)) (fun k j => (blk1 m c t k j).trans (h.w _ _))
    (fun r k => (blk2 m c t r k).trans (h.x _ _)) z j

theorem outs_rows (t : Fin cfg0.N) : (outsAt0 m c t.val t.isLt).1
    = rows (F := Ideal) (iblk m c 0 t) (iblk m c 1 t) (iblk m c 2 t) (iblk m c 3 t) (iblk m c 4 t) := by
  by_cases h0 : t.val % 8 = 0
  · rw [outsAt0_A m c t h0, out5_A]
  · rw [outsAt0_B m c t h0, out5_B]

include h in
/-- The gain's gradient after a block: the sum over the blocks so far. -/
theorem outs_gain : ∀ (n : ℕ) (hn : n < cfg0.N) (z : Fin 1) (j : Fin 1024), (outsAt0 m c n hn).2 (ix2 z j)
    = ((∑ s : Fin (n + 1), ∑ r, gainTerm x w d j (row ⟨s.val, lt_of_lt_of_le s.isLt hn⟩ r) : ℝ) : EReal)
  | 0, hn, z, j => by
    have e : (outsAt0 m c 0 hn).2 = k0_pay7 (iblk m c 0 ⟨0, hn⟩) (iblk m c 1 ⟨0, hn⟩) (iblk m c 2 ⟨0, hn⟩) (k0_pay2 (F := Ideal)) := by
      rw [outsAt0_A m c ⟨0, hn⟩ rfl, out6_A]
    have z0 : (k0_pay2 (F := Ideal) : Vec Ideal S1x1024 .f32) (ix2 z j) = 0 := by pointwise [k0_pay2]
    rw [e, gain_blk h, z0, zero_add]
    simp
  | n + 1, hn, z, j => by
    have hB : ¬(⟨n + 1, hn⟩ : Fin cfg0.N).val % 8 = 0 := by have : n + 1 < 8 := hn; dsimp only; omega
    have e : (outsAt0 m c (n + 1) hn).2 = k0_pay7 (iblk m c 0 ⟨n + 1, hn⟩) (iblk m c 1 ⟨n + 1, hn⟩) (iblk m c 2 ⟨n + 1, hn⟩)
        (outsAt0 m c n (Nat.lt_of_succ_lt hn)).2 := by
      rw [outsAt0_B m c ⟨n + 1, hn⟩ hB, out6_B]
      rfl
    rw [e, gain_blk h, outs_gain n, ← EReal.coe_add, Fin.sum_univ_castSucc (n := n + 1)]
    rfl

/-- The first result: the residual stream's gradient. -/
def resultX (m : (ℓ : Loc nD τ sig) → Buf (Elt Ideal) ℓ) (c : Dev nD) (x : Fin 8192 → Fin 1024 → ℝ) (g : Fin 1024 → ℝ)
    (w : Fin 1024 → Fin 2304 → ℝ) (d : Fin 8192 → Fin 2304 → ℝ) : Vec Ideal S8192x1024 .f32 :=
  fun i => res m c (i 0) (i 1)
    + ((normGrad (x (i 0)) (fun j => back w d (i 0) j * g j) (i 1) : ℝ) : EReal)

/-- The second result: the gain's gradient. -/
def resultG (x : Fin 8192 → Fin 1024 → ℝ) (w : Fin 1024 → Fin 2304 → ℝ) (d : Fin 8192 → Fin 2304 → ℝ) : Vec Ideal S1x1024 .f32 :=
  fun i => ((∑ k, gainTerm x w d (i 1) k : ℝ) : EReal)

include h in
theorem final_x : (dats m 0 c).arrAt 5 cfg0.N = resultX m c x g w d := by
  refine (dats m 0 c).arrAt_eq_of_cover 5 (resultX m c x g w d) (fun t _ => ?_) (fun (i : S8192x1024.Idx) => ?_)
  · rw [flushed5, outs_rows]
    funext y
    rw [View.read_apply]
    obtain ⟨r, j, rfl⟩ : ∃ (r j : Fin 1024), y = ix2 r j := ⟨y 0, y 1, (ix2_eta _).symm⟩
    refine (rows_blk h t r j).trans ?_
    show resultX m c x g w d (ix2 (row t r) j) = resultX m c x g w d _
    congr 1
    funext a; apply Fin.ext
    match a with
    | ⟨0, _⟩ => show t.val * 1024 + r.val = win0_5.index t 0 * 1024 + 1 * r.val; rw [(idx5 t).1]; omega
    | ⟨1, _⟩ => show j.val = win0_5.index t 1 * 1024 + 1 * j.val; rw [(idx5 t).2]; omega
  · have hi0 : (i 0 : Nat) < 8192 := (i 0).isLt
    have hi1 : (i 1 : Nat) < 1024 := (i 1).isLt
    obtain ⟨t, ht⟩ : ∃ t : Fin cfg0.N, t.val = (i 0 : Nat) / 1024 := ⟨⟨_, by show _ < 8; omega⟩, rfl⟩
    refine ⟨t, flush0_5 t, ?_⟩
    show i ∈ ((View.whole main_v7_0).slice (win0_5.rect t)).set
    rw [View.set_slice_whole, Rect.mem_set_unit]
    intro a
    match a with
    | ⟨0, _⟩ =>
      show win0_5.index _ 0 * 1024 ≤ (i 0 : Nat) ∧ (i 0 : Nat) < win0_5.index _ 0 * 1024 + 1024
      rw [(idx5 _).1]; omega
    | ⟨1, _⟩ =>
      show win0_5.index _ 1 * 1024 ≤ (i 1 : Nat) ∧ (i 1 : Nat) < win0_5.index _ 1 * 1024 + 1024
      rw [(idx5 _).2]; omega

include h in
theorem final_g : (dats m 0 c).arrAt 6 cfg0.N = resultG x w d := by
  refine (dats m 0 c).arrAt_eq_of_cover 6 (resultG x w d) (fun t hf => ?_) (fun (i : S1x1024.Idx) => ?_)
  · have h7 : t.val = 7 := by have := (flush0_6 t).mp hf; have : t.val < 8 := t.isLt; omega
    obtain rfl : t = ⟨7, by decide⟩ := Fin.ext h7
    rw [flushed6]
    funext y
    rw [View.read_apply]
    obtain ⟨z, j, rfl⟩ : ∃ (z : Fin 1) (j : Fin 1024), y = ix2 z j := ⟨y 0, y 1, (ix2_eta _).symm⟩
    refine (outs_gain h 7 _ z j).trans ?_
    show _ = resultG x w d _
    have e : ((∑ k, gainTerm x w d j k : ℝ) : EReal) = resultG x w d (ix2 z j) := rfl
    rw [Fin.sum_univ_tiles 8 1024 rfl (gainTerm x w d j)] at e
    refine Eq.trans ?_ (e.trans ?_)
    · rfl
    · congr 1
      funext a; apply Fin.ext
      match a with
      | ⟨0, _⟩ => show z.val = win0_6.index _ 0 * 1 + 1 * z.val; rw [(idx6 _).1]; omega
      | ⟨1, _⟩ => show j.val = win0_6.index _ 1 * 1024 + 1 * j.val; rw [(idx6 _).2]; omega
  · have hi1 : (i 1 : Nat) < 1024 := (i 1).isLt
    have hi0 : (i 0 : Nat) < 1 := (i 0).isLt
    obtain ⟨t, ht⟩ : ∃ t : Fin cfg0.N, t.val = 7 := ⟨⟨7, by decide⟩, rfl⟩
    refine ⟨t, (flush0_6 t).mpr (by rw [ht]), ?_⟩
    show i ∈ ((View.whole main_v7_1).slice (win0_6.rect t)).set
    rw [View.set_slice_whole, Rect.mem_set_unit]
    intro a
    match a with
    | ⟨0, _⟩ =>
      show win0_6.index _ 0 * 1 ≤ (i 0 : Nat) ∧ (i 0 : Nat) < win0_6.index _ 0 * 1 + 1
      rw [(idx6 _).1]; omega
    | ⟨1, _⟩ =>
      show win0_6.index _ 1 * 1024 ≤ (i 1 : Nat) ∧ (i 1 : Nat) < win0_6.index _ 1 * 1024 + 1024
      rw [(idx6 _).2]; omega
end
end Cert.ProjKernelIdeal.Value
end
-- ==== Proof.ProjReferenceValue.lean ====
/-
  The projection's reference gradient: its two results as real numbers of its arguments, the term the run composes read
  stage by stage.
-/
module

public import proofs.«01_k».proof.Proof.Gen.ProjReferenceIdeal.Run
public import proofs.«01_k».proof.Proof.Reals

@[expose] public section

noncomputable section

namespace Cert.ProjReferenceIdeal.Value

open Cert.ProjReferenceIdeal Cert.ProjReferenceIdeal.Gen Idealize.ShloMosaic Idealize.ShloMosaic.TcCoe Idealize.SL.Sem Cert.Reals

section
variable (x : FVec Ideal S1x8192x1024 .f32) (g : FVec Ideal S1024 .f32) (w : FVec Ideal S1024x2304 .f32)
  (d : FVec Ideal S1x8192x2304 .f32) (r : FVec Ideal S1x8192x1024 .f32) (h : FVec Ideal S1x8192x1024 .f32)

/-- The mean square of a row and the small constant. -/
def ms : FVec Ideal S1x8192x1 .f32 :=
  addf (Host.divf (broadcastInDim S1x8192x1 ![0, 1] bcast_S1x8192_S1x8192x1_0_1 (Host.reduceAdd (mulf x x) (constant S_ .f32 0x00000000#32) reducesTo_S1x8192x1024_S1x8192_d2 h_S_)) (broadcastInDim S1x8192x1 ![] bcast_S_S1x8192x1 (constant S_ .f32 0x44800000#32))) (broadcastInDim S1x8192x1 ![] bcast_S_S1x8192x1 (constant S_ .f32 0x358637BD#32))

/-- The gradient through the weight. -/
def dh : FVec Ideal S1x8192x1024 .f32 := Host.dotGeneral dot_S1x8192x2304_S1024x2304_S1x8192x1024_2_1_01_0_n_n none d w

/-- A gradient `h` of the normalised row, times the gain. -/
def dhg : FVec Ideal S1x8192x1024 .f32 :=
  mulf h (broadcastInDim S1x8192x1024 ![0, 1, 2] bcast_S1x1x1024_S1x8192x1024_0_1_2 (broadcastInDim S1x1x1024 ![2] bcast_S1024_S1x1x1024_2 g))

/-- What the root passes back to each square of the row. -/
def back : FVec Ideal S1x8192x1024 .f32 :=
  broadcastInDim S1x8192x1024 ![0, 1] bcast_S1x8192_S1x8192x1024_0_1 (broadcastInDim S1x8192 ![1] bcast_S8192_S1x8192_1 (Host.reduceAdd (Host.divf (mulf (shapeCast _ (Host.reduceAdd (mulf x (dhg g h)) (constant S_ .f32 0x00000000#32) reducesTo_S1x8192x1024_S1x8192_d2 h_S_) shapeCasts_S1x8192_S1x8192x1) (mulf (broadcastInDim S1x8192x1 ![] bcast_S_S1x8192x1 (constant S_ .f32 0xBF000000#32)) (Host.divf (Host.rsqrt (ms x)) (ms x)))) (broadcastInDim S1x8192x1 ![] bcast_S_S1x8192x1 (constant S_ .f32 0x44800000#32))) (constant S_ .f32 0x00000000#32) reducesTo_S1x8192x1_S8192_d0_2 h_S_))

/-- The gradient of the rows, through the normalisation and next to it (`r`). -/
def outX : FVec Ideal S8192x1024 .f32 :=
  shapeCast _ (addf (addf (addf r (mulf (dhg g h) (broadcastInDim S1x8192x1024 ![0, 1, 2] bcast_S1x8192x1_S1x8192x1024_0_1_2 (Host.rsqrt (ms x))))) (mulf x (back x g h))) (mulf (back x g h) x)) shapeCasts_S1x8192x1024_S8192x1024

/-- The gradient of the gain. -/
def outG : FVec Ideal S1x1024 .f32 :=
  broadcastInDim S1x1024 ![1] bcast_S1024_S1x1024_1 (Host.reduceAdd (shapeCast _ (Host.reduceAdd (mulf (mulf x (broadcastInDim S1x8192x1024 ![0, 1, 2] bcast_S1x8192x1_S1x8192x1024_0_1_2 (Host.rsqrt (ms x)))) h) (constant S_ .f32 0x00000000#32) reducesTo_S1x8192x1024_S1x1024_d1 h_S_) shapeCasts_S1x1024_S1x1x1024) (constant S_ .f32 0x00000000#32) reducesTo_S1x1x1024_S1024_d0_1 h_S_)

/-! ## Over real numbers -/

variable {x' : Fin 8192 → Fin 1024 → ℝ} {g' : Fin 1024 → ℝ} {w' : Fin 1024 → Fin 2304 → ℝ} {d' : Fin 8192 → Fin 2304 → ℝ}
  {h' : Fin 8192 → Fin 1024 → ℝ}
  (hx : ∀ i j, x (ix3 0 i j) = ((x' i j : ℝ) : EReal)) (hg : ∀ j, g (ix1 j) = ((g' j : ℝ) : EReal))
  (hw : ∀ j k, w (ix2 j k) = ((w' j k : ℝ) : EReal)) (hd : ∀ i k, d (ix3 0 i k) = ((d' i k : ℝ) : EReal))
  (hh : ∀ i j, h (ix3 0 i j) = ((h' i j : ℝ) : EReal))

include hx in
theorem ms_real (i : Fin 8192) : ms x (ix3 0 i 0) = ((msq (x' i) : ℝ) : EReal) := by
  have e : ms x (ix3 0 i 0) = Ideal.div (∑ k, x (ix3 0 i k) * x (ix3 0 i k)) (Ideal.ofBits .f32 0x44800000#32)
      + Ideal.ofBits .f32 0x358637BD#32 := by pointwise [ms]
  rw [e, ofBits_1024, ofBits_eps, show (∑ k, x (ix3 0 i k) * x (ix3 0 i k)) = ((∑ k, x' i k * x' i k : ℝ) : EReal) by
    rw [coe_sum]; exact Finset.sum_congr rfl fun k _ => by rw [hx, EReal.coe_mul], div_coe' _ (by norm_num), ← EReal.coe_add]
  rfl

include hw hd in
theorem dh_real (i : Fin 8192) (j : Fin 1024) : dh w d (ix3 0 i j) = ((∑ k, d' i k * w' j k : ℝ) : EReal) := by
  have e : dh w d (ix3 0 i j) = ∑ k, d (ix3 0 i k) * w (ix2 j k) := by pointwise [dh]
  rw [e, coe_sum]
  exact Finset.sum_congr rfl fun k _ => by rw [hd, hw, EReal.coe_mul]

include hg hh in
theorem dhg_real (i : Fin 8192) (j : Fin 1024) : dhg g h (ix3 0 i j) = ((h' i j * g' j : ℝ) : EReal) := by
  have e : dhg g h (ix3 0 i j) = h (ix3 0 i j) * g (ix1 j) := by pointwise [dhg]
  rw [e, hh, hg, EReal.coe_mul]

include hx hg hh in
theorem back_real (i : Fin 8192) (j : Fin 1024) : back x g h (ix3 0 i j)
    = (((∑ k, x' i k * (h' i k * g' k)) * (-(1 : ℝ) / 2 * (inv (x' i) / msq (x' i))) / 1024 : ℝ) : EReal) := by
  have e : back x g h (ix3 0 i j) = Ideal.div ((∑ k, x (ix3 0 i k) * dhg g h (ix3 0 i k))
      * (Ideal.ofBits .f32 0xBF000000#32 * Ideal.div (Ideal.rsqrt (ms x (ix3 0 i 0))) (ms x (ix3 0 i 0))))
      (Ideal.ofBits .f32 0x44800000#32) := by
    pointwise [back, hostReduceAdd_r3_a02]
  rw [e, ofBits_1024, ofBits_neg_half, ms_real x hx, rsqrt_coe (msq_pos _), div_coe' _ (msq_pos _).ne',
    show (∑ k, x (ix3 0 i k) * dhg g h (ix3 0 i k)) = ((∑ k, x' i k * (h' i k * g' k) : ℝ) : EReal) by
      rw [coe_sum]; exact Finset.sum_congr rfl fun k _ => by rw [hx, dhg_real g h hg hh, ← EReal.coe_mul],
    ← EReal.coe_mul, ← EReal.coe_mul, div_coe' _ (by norm_num)]
  rfl

include hx hg hh in
theorem outX_real (i : Fin 8192) (j : Fin 1024) : outX x g r h (ix2 i j)
    = r (ix3 0 i j) + ((normGrad (x' i) (fun j => h' i j * g' j) j : ℝ) : EReal) := by
  have e : outX x g r h (ix2 i j) = r (ix3 0 i j) + dhg g h (ix3 0 i j) * Ideal.rsqrt (ms x (ix3 0 i 0))
      + x (ix3 0 i j) * back x g h (ix3 0 i j) + back x g h (ix3 0 i j) * x (ix3 0 i j) := by
    pointwise [outX]
  rw [e, back_real x g h hx hg hh, dhg_real g h hg hh, ms_real x hx, rsqrt_coe (msq_pos _), hx,
    normGrad_eq (by norm_num), ← EReal.coe_mul, ← EReal.coe_mul, ← EReal.coe_mul, add_assoc, add_assoc,
    ← EReal.coe_add, ← EReal.coe_add]
  congr 2
  push_cast
  rw [add_assoc, mul_comm (x' i j)]
  rfl

include hx hh in
theorem outG_real (z : Fin 1) (j : Fin 1024) : outG x h (ix2 z j)
    = ((∑ i, h' i j * (x' i j * inv (x' i)) : ℝ) : EReal) := by
  obtain rfl : z = 0 := Subsingleton.elim _ _
  have e : outG x h (ix2 0 j) = ∑ i, x (ix3 0 i j) * Ideal.rsqrt (ms x (ix3 0 i 0)) * h (ix3 0 i j) := by
    pointwise [outG, hostReduceAdd_r3_a01]
  rw [e, coe_sum]
  refine Finset.sum_congr rfl fun i _ => ?_
  rw [hx, ms_real x hx, rsqrt_coe (msq_pos _), hh, ← EReal.coe_mul, ← EReal.coe_mul, mul_comm]
  rfl
end

variable (m : (ℓ : Loc nD τ sig) → Buf (Elt Ideal) ℓ) (c : Dev nD)

theorem res_x : res_main_v42 m c = outX (m ((c.tc : Thread nD τ).loc main_arg0)) (m ((c.tc : Thread nD τ).loc main_arg1))
    (m ((c.tc : Thread nD τ).loc main_arg4)) (dh (m ((c.tc : Thread nD τ).loc main_arg2)) (m ((c.tc : Thread nD τ).loc main_arg3))) := by
  unfold res_main_v42 outX back dhg dh ms
  rfl

end Cert.ProjReferenceIdeal.Value
end
-- ==== Proof.ProjClaims.lean ====
/-
  The claims about the projection's gradient: the frames of its programs, and the algebraic claim from the two value
  modules — where the arguments hold real numbers both programs end with the same real numbers.
-/
module

public import proofs.«01_k».proof.Defs
public import proofs.«01_k».proof.Proof.Gen.ProjKernel.Frame
public import proofs.«01_k».proof.Proof.Gen.Pre_proj_finite
public import proofs.«01_k».proof.Proof.ProjKernelValue
public import proofs.«01_k».proof.Proof.ProjReferenceValue
public import Idealize.ShloMosaic.Adequacy
public import Idealize.ShloMosaic.Init

@[expose] public section

noncomputable section

namespace Cert.Proof.Proj

open Idealize.ShloMosaic Idealize.SL.Sem Cert.Reals

theorem frame_p : Cert.quiescent_ProjKernel := fun m ρ _ => Cert.ProjKernel.Gen.frame m ρ
theorem frame_pi : Cert.quiescent_ProjKernelIdeal := fun m ρ _ => Cert.ProjKernelIdeal.Gen.frame m ρ
theorem frame_pi_pre : Cert.quiescent_ProjKernelIdeal_pre_proj_finite := fun m ρ _ => Cert.ProjKernelIdeal.Gen.frame m ρ

theorem frame_ri : Cert.quiescent_ProjReferenceIdeal := fun m ρ _ =>
  (θ_run Cert.ProjReferenceIdeal.defs _ _).mono (fun r h => ⟨fun c => (h c).2.2,
      Idealize.ShloMosaic.sem_eq_zero_of_no_sems (by decide) r.2⟩)
    (Cert.ProjReferenceIdeal.Value.run (F := Ideal) m ρ)
theorem frame_ri_pre : Cert.quiescent_ProjReferenceIdeal_pre_proj_finite := fun m ρ _ => frame_ri m ρ trivial

open Cert.ProjKernelIdeal Cert.ProjKernelIdeal.Value in
/-- Where the precondition holds, the arguments are real numbers. -/
theorem holds (m : (ℓ : Loc nD τ sig) → Buf (Elt Ideal) ℓ) (h : Cert.Pre_ProjKernelIdeal_proj_finite m) (c : Dev nD) :
    ∃ x g w d, Holds m c x g w d := by
  obtain ⟨h0, h1, h2, h3⟩ := h c
  choose x hx using fun i => real_of_finite (fun _ => ofBits_inf) h0 i
  choose g hg using fun i => real_of_finite (fun _ => ofBits_inf) h1 i
  choose w hw using fun i => real_of_finite (fun _ => ofBits_inf) h2 i
  choose d hd using fun i => real_of_finite (fun _ => ofBits_inf) h3 i
  exact ⟨fun i j => x (ix3 0 i j), fun j => g (ix1 j), fun j k => w (ix2 j k), fun i k => d (ix3 0 i k),
    fun _ _ => hx _, fun _ => hg _, fun _ _ => hw _, fun _ _ => hd _⟩

open Cert.ProjKernelIdeal.Value in
theorem algebraic : Cert.algebraic_ProjKernelIdeal_ProjReferenceIdeal_pre_proj_finite := by
  intro m ρ m' ρ' hpre hagree
  choose x g w d hh using holds m hpre
  refine ⟨fun c => resultX m c (x c) (g c) (w c) (d c), fun c => resultG (x c) (w c) (d c), ?_, ?_⟩
  · exact (θ_run Cert.ProjKernelIdeal.defs _ _).mono
      (fun _ h c => ⟨(h c).1.trans (final_x (hh c)), (h c).2.1.trans (final_g (hh c)), (h c).2.2⟩) (run_blocks m ρ)
  · refine (θ_run Cert.ProjReferenceIdeal.defs _ _).mono
      (fun _ h c => ⟨(h c).1.trans ?_, (h c).2.1.trans ?_, (h c).2.2⟩) (Cert.ProjReferenceIdeal.Value.run (F := Ideal) m' ρ')
    · obtain ⟨e0, e1, e2, e3, e4⟩ := hagree c
      rw [Cert.ProjReferenceIdeal.Value.res_x, e0, e1, e2, e3, e4]
      funext i
      obtain ⟨a, b, rfl⟩ : ∃ (a : Fin 8192) (b : Fin 1024), i = ix2 a b := ⟨i 0, i 1, (ix2_eta _).symm⟩
      exact Cert.ProjReferenceIdeal.Value.outX_real _ _ _ _ (hh c).x (hh c).g (Cert.ProjReferenceIdeal.Value.dh_real _ _ (hh c).w (hh c).d) a b
    · obtain ⟨e0, e1, e2, e3, e4⟩ := hagree c
      rw [e0, e2, e3]
      funext i
      obtain ⟨a, b, rfl⟩ : ∃ (a : Fin 1) (b : Fin 1024), i = ix2 a b := ⟨i 0, i 1, (ix2_eta _).symm⟩
      exact Cert.ProjReferenceIdeal.Value.outG_real _ _ (hh c).x (Cert.ProjReferenceIdeal.Value.dh_real _ _ (hh c).w (hh c).d) a b

end Cert.Proof.Proj
end
-- ==== Proof.FfnRun.lean ====
/-
  The feed-forward block's backward kernel, run: at the end every array of the program holds what the second region
  leaves there.
-/
module

public import proofs.«01_k».proof.Proof.Gen.FfnKernelIdeal.Frame

@[expose] public section

noncomputable section

namespace Cert.FfnKernelIdeal.Value

open Cert.FfnKernelIdeal Cert.FfnKernelIdeal.Gen Idealize.ShloMosaic Idealize.ShloMosaic.TcCoe
open Idealize.SL Idealize.SL.RA Idealize.SL.BI Idealize.SL.BI.BIBase Idealize.SL.BI.Laws Idealize.SL.ProofMode Idealize.SL.Sem
open scoped Idealize.SL.BI
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_all : θ_run defs (onTc (τ := τ) (main (F := F))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

end Cert.FfnKernelIdeal.Value
end
-- ==== Proof.FfnCases.lean ====
/-
  The feed-forward block's backward kernel, body by body: what one grid point leaves in the output blocks of either
  region, as the kernel's own payloads of the point's input blocks.
-/
module

public import proofs.«01_k».proof.Proof.Gen.FfnKernelIdeal.Frame
public import Idealize.ShloMosaic.Lib.Pointwise
public import Idealize.ShloMosaic.Lib.StableHlo.ReadAt

@[expose] public section

noncomputable section

namespace Cert.FfnKernelIdeal.Value

open Cert.FfnKernelIdeal Cert.FfnKernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

section
variable (c : Dev nD) (i : grid1.Coords) (a1 : Memref sig .tc .vmem S512x1024 .f32) (h1 : a1.IsWhole)
  (a2 : Memref sig .tc .vmem S512x1408 .bf16) (h2 : a2.IsWhole) (a3 : Memref sig .tc .vmem S512x1408 .bf16) (h3 : a3.IsWhole)
  (a4 : Memref sig .tc .vmem S1408x1024 .bf16) (h4 : a4.IsWhole) (a5 : Memref sig .tc .vmem S1408x1024 .bf16) (h5 : a5.IsWhole)
  (a6 : Memref sig .tc .vmem S1408x1024 .bf16) (h6 : a6.IsWhole) (a7 : Memref sig .tc .vmem S512x1024 .f32) (h7 : a7.IsWhole)
  (a8 : Memref sig .tc .vmem S512x1024 .f32) (h8 : a8.IsWhole) (a9 : Memref sig .tc .vmem S1x1024 .f32) (h9 : a9.IsWhole)
  (a12 : Memref sig .tc .vmem S512x1408 .bf16) (h12 : a12.IsWhole) (a13 : Memref sig .tc .vmem S512x1408 .bf16) (h13 : a13.IsWhole)
  (a14 : Memref sig .tc .vmem S512x1024 .f32) (h14 : a14.IsWhole) (a15 : Memref sig .tc .vmem S1x1024 .f32) (h15 : a15.IsWhole)
  (x0 : Vec F S512x1024 .f32) (x1 x2 : Vec F S512x1408 .bf16) (x3 x4 x5 : Vec F S1408x1024 .bf16)
  (x6 x7 : Vec F S512x1024 .f32) (x8 xo : Vec F S1x1024 .f32)

/-- The first region's share of the gradient of the normalised row. -/
abbrev part0 : Vec F S512x1024 .f32 := k0_pay1 (k0_pay6 x0 x5 x1) (k0_pay7 x0 x5 x1 x2 x3) x4

/-- The gradient of the normalised row: what the first region left plus the second half's share. -/
abbrev dh1 : Vec F S512x1024 .f32 := k1_pay9 (k1_pay3 x6) (k1_pay7 x0 x5 x1 x2) (k1_pay8 x0 x5 x1) x3 x4

/-- The gradient of the residual stream over one block of rows. -/
abbrev rows : Vec F S512x1024 .f32 := k1_pay1 (dh1 x0 x1 x2 x3 x4 x5 x6) (k1_pay11 x7) (k1_pay12 x7) x0 x8

/-- The gain's gradient after one block of rows. -/
abbrev gain : Vec F S1x1024 .f32 := k1_pay13 (k1_pay3 x6) (k1_pay7 x0 x5 x1 x2) (k1_pay8 x0 x5 x1) x3 x4 x7 xo

theorem out0_eq : out0_6 x0 x1 x2 x3 x4 x5 = k0_pay5 x0 x5 x1 x2 ∧ out0_7 x0 x1 x2 x3 x4 x5 = k0_pay6 x0 x5 x1
    ∧ out0_8 x0 x1 x2 x3 x4 x5 = part0 x0 x1 x2 x3 x4 x5 := by
  refine ⟨?_, ?_, ?_⟩ <;> first | unfold out0_6 | unfold out0_7 | unfold out0_8
  all_goals
    rw [View.canon_unit_zero hz]
    simp only [View.ld_unit_zero (S := S512x1024) hz, View.ld_unit_zero (S := S512x1408) hz, View.ld_unit_zero (S := S1408x1024) hz]

theorem out_A (hc : cond1_0 i) :
    out1_A_9 c i a1 h1 a2 h2 a3 h3 a4 h4 a5 h5 a6 h6 a7 h7 a8 h8 a9 h9 a12 h12 a13 h13 a14 h14 a15 h15 hc x0 x1 x2 x3 x4 x5 x6 x7 x8
      = k1_pay7 x0 x5 x1 x2
    ∧ out1_A_10 c i a1 h1 a2 h2 a3 h3 a4 h4 a5 h5 a6 h6 a7 h7 a8 h8 a9 h9 a12 h12 a13 h13 a14 h14 a15 h15 hc x0 x1 x2 x3 x4 x5 x6 x7 x8
      = k1_pay8 x0 x5 x1
    ∧ out1_A_11 c i a1 h1 a2 h2 a3 h3 a4 h4 a5 h5 a6 h6 a7 h7 a8 h8 a9 h9 a12 h12 a13 h13 a14 h14 a15 h15 hc x0 x1 x2 x3 x4 x5 x6 x7 x8
      = rows x0 x1 x2 x3 x4 x5 x6 x7 x8
    ∧ out1_A_12 c i a1 h1 a2 h2 a3 h3 a4 h4 a5 h5 a6 h6 a7 h7 a8 h8 a9 h9 a12 h12 a13 h13 a14 h14 a15 h15 hc x0 x1 x2 x3 x4 x5 x6 x7 x8
      = gain x0 x1 x2 x3 x4 x5 x6 x7 k1_pay2 := by
  refine ⟨?_, ?_, ?_, ?_⟩
  · unfold out1_A_9
    rw [View.read_writes_eq_canon _ _ _ (cover1_A_9 c i a1 h1 a2 h2 a3 h3 a4 h4 a5 h5 a6 h6 a7 h7 a8 h8 a9 h9 a12 h12 a13 h13 a14 h14 a15 h15 hc x0 x1 x2 x3 x4 x5 x6 x7 x8)]
    unfold kernelRun1_A; dsimp only; sl_unfold_words; rw [View.canon_unit_zero hz]
    simp only [View.readAt_eq_ld, h1.read_unread, h2.read_unread, h3.read_unread, h6.read_unread,
      View.ld_unit_zero (S := S512x1024) hz, View.ld_unit_zero (S := S512x1408) hz, View.ld_unit_zero (S := S1408x1024) hz]
  · unfold out1_A_10
    rw [View.read_writes_eq_canon _ _ _ (cover1_A_10 c i a1 h1 a2 h2 a3 h3 a4 h4 a5 h5 a6 h6 a7 h7 a8 h8 a9 h9 a12 h12 a13 h13 a14 h14 a15 h15 hc x0 x1 x2 x3 x4 x5 x6 x7 x8)]
    unfold kernelRun1_A; dsimp only; sl_unfold_words; rw [View.canon_unit_zero hz]
    simp only [View.readAt_eq_ld, h1.read_unread, h2.read_unread, h6.read_unread,
      View.ld_unit_zero (S := S512x1024) hz, View.ld_unit_zero (S := S512x1408) hz, View.ld_unit_zero (S := S1408x1024) hz]
  · unfold out1_A_11
    rw [View.read_writes_eq_canon _ _ _ (cover1_A_11 c i a1 h1 a2 h2 a3 h3 a4 h4 a5 h5 a6 h6 a7 h7 a8 h8 a9 h9 a12 h12 a13 h13 a14 h14 a15 h15 hc x0 x1 x2 x3 x4 x5 x6 x7 x8)]
    unfold kernelRun1_A; dsimp only; sl_unfold_words; rw [View.canon_unit_zero hz]
    simp only [View.readAt_eq_ld, h1.read_unread, h2.read_unread, h3.read_unread, h4.read_unread, h5.read_unread, h6.read_unread,
      h7.read_unread, h8.read_unread, h9.read_unread, View.ld_unit_zero (S := S512x1024) hz, View.ld_unit_zero (S := S512x1408) hz,
      View.ld_unit_zero (S := S1408x1024) hz, View.ld_unit_zero (S := S1x1024) hz]
  · unfold out1_A_12
    rw [View.read_writes_eq_canon _ _ _ (cover1_A_12 c i a1 h1 a2 h2 a3 h3 a4 h4 a5 h5 a6 h6 a7 h7 a8 h8 a9 h9 a12 h12 a13 h13 a14 h14 a15 h15 hc x0 x1 x2 x3 x4 x5 x6 x7 x8)]
    unfold kernelRun1_A; dsimp only; sl_unfold_words
    rw [View.canon_cons_unit_zero (S := S1x1024) hz, View.readCov_unit_zero (S := S1x1024) _ hz]
    simp only [View.readAt_eq_ld, h1.read_unread, h2.read_unread, h3.read_unread, h4.read_unread, h5.read_unread, h6.read_unread,
      h7.read_unread, h8.read_unread, View.ld_unit_zero (S := S512x1024) hz, View.ld_unit_zero (S := S512x1408) hz,
      View.ld_unit_zero (S := S1408x1024) hz]

theorem out_B (hc : ¬cond1_0 i) :
    out1_B_9 c i a1 h1 a2 h2 a3 h3 a4 h4 a5 h5 a6 h6 a7 h7 a8 h8 a9 h9 a12 h12 a13 h13 a14 h14 a15 h15 hc x0 x1 x2 x3 x4 x5 x6 x7 x8 xo
      = k1_pay7 x0 x5 x1 x2
    ∧ out1_B_10 c i a1 h1 a2 h2 a3 h3 a4 h4 a5 h5 a6 h6 a7 h7 a8 h8 a9 h9 a12 h12 a13 h13 a14 h14 a15 h15 hc x0 x1 x2 x3 x4 x5 x6 x7 x8 xo
      = k1_pay8 x0 x5 x1
    ∧ out1_B_11 c i a1 h1 a2 h2 a3 h3 a4 h4 a5 h5 a6 h6 a7 h7 a8 h8 a9 h9 a12 h12 a13 h13 a14 h14 a15 h15 hc x0 x1 x2 x3 x4 x5 x6 x7 x8 xo
      = rows x0 x1 x2 x3 x4 x5 x6 x7 x8
    ∧ out1_B_12 c i a1 h1 a2 h2 a3 h3 a4 h4 a5 h5 a6 h6 a7 h7 a8 h8 a9 h9 a12 h12 a13 h13 a14 h14 a15 h15 hc x0 x1 x2 x3 x4 x5 x6 x7 x8 xo
      = gain x0 x1 x2 x3 x4 x5 x6 x7 xo := by
  refine ⟨?_, ?_, ?_, ?_⟩
  · unfold out1_B_9
    rw [View.read_writes_eq_canon _ _ _ (cover1_B_9 c i a1 h1 a2 h2 a3 h3 a4 h4 a5 h5 a6 h6 a7 h7 a8 h8 a9 h9 a12 h12 a13 h13 a14 h14 a15 h15 hc x0 x1 x2 x3 x4 x5 x6 x7 x8 xo)]
    unfold kernelRun1_B; dsimp only; sl_unfold_words; rw [View.canon_unit_zero hz]
    simp only [View.readAt_eq_ld, h1.read_unread, h2.read_unread, h3.read_unread, h6.read_unread,
      View.ld_unit_zero (S := S512x1024) hz, View.ld_unit_zero (S := S512x1408) hz, View.ld_unit_zero (S := S1408x1024) hz]
  · unfold out1_B_10
    rw [View.read_writes_eq_canon _ _ _ (cover1_B_10 c i a1 h1 a2 h2 a3 h3 a4 h4 a5 h5 a6 h6 a7 h7 a8 h8 a9 h9 a12 h12 a13 h13 a14 h14 a15 h15 hc x0 x1 x2 x3 x4 x5 x6 x7 x8 xo)]
    unfold kernelRun1_B; dsimp only; sl_unfold_words; rw [View.canon_unit_zero hz]
    simp only [View.readAt_eq_ld, h1.read_unread, h2.read_unread, h6.read_unread,
      View.ld_unit_zero (S := S512x1024) hz, View.ld_unit_zero (S := S512x1408) hz, View.ld_unit_zero (S := S1408x1024) hz]
  · unfold out1_B_11
    rw [View.read_writes_eq_canon _ _ _ (cover1_B_11 c i a1 h1 a2 h2 a3 h3 a4 h4 a5 h5 a6 h6 a7 h7 a8 h8 a9 h9 a12 h12 a13 h13 a14 h14 a15 h15 hc x0 x1 x2 x3 x4 x5 x6 x7 x8 xo)]
    unfold kernelRun1_B; dsimp only; sl_unfold_words; rw [View.canon_unit_zero hz]
    simp only [View.readAt_eq_ld, h1.read_unread, h2.read_unread, h3.read_unread, h4.read_unread, h5.read_unread, h6.read_unread,
      h7.read_unread, h8.read_unread, h9.read_unread, View.ld_unit_zero (S := S512x1024) hz, View.ld_unit_zero (S := S512x1408) hz,
      View.ld_unit_zero (S := S1408x1024) hz, View.ld_unit_zero (S := S1x1024) hz]
  · unfold out1_B_12
    rw [View.read_writes_eq_canon _ _ _ (cover1_B_12 c i a1 h1 a2 h2 a3 h3 a4 h4 a5 h5 a6 h6 a7 h7 a8 h8 a9 h9 a12 h12 a13 h13 a14 h14 a15 h15 hc x0 x1 x2 x3 x4 x5 x6 x7 x8 xo)]
    unfold kernelRun1_B; dsimp only; sl_unfold_words; rw [View.canon_unit_zero hz]
    simp only [View.readAt_eq_ld, h1.read_unread, h2.read_unread, h3.read_unread, h4.read_unread, h5.read_unread, h6.read_unread,
      h7.read_unread, h8.read_unread, h15.read_unread, View.ld_unit_zero (S := S512x1024) hz, View.ld_unit_zero (S := S512x1408) hz,
      View.ld_unit_zero (S := S1408x1024) hz, View.ld_unit_zero (S := S1x1024) hz]

end

end Cert.FfnKernelIdeal.Value
end
-- ==== Proof.FfnMath.lean ====
/-
  The gradient of the feed-forward block over real numbers: `x + (silu(h·Wg) ⊙ (h·Wu))·Wd` with `h` the normalised row
  times the gain.
-/
module

public import proofs.«01_k».proof.Proof.Reals

@[expose] public section

noncomputable section

namespace Cert.FfnMath

open Cert.Reals

/-- The arguments: rows, gain, the three weights, the gradient of the block's result. -/
structure Vals where
  x : Fin 8192 → Fin 1024 → ℝ
  g : Fin 1024 → ℝ
  wg : Fin 1024 → Fin 2816 → ℝ
  wu : Fin 1024 → Fin 2816 → ℝ
  wd : Fin 2816 → Fin 1024 → ℝ
  d : Fin 8192 → Fin 1024 → ℝ

namespace Vals
variable (v : Vals)

/-- The normalised row times the gain. -/
def h (i : Fin 8192) (k : Fin 1024) : ℝ := v.x i k * inv (v.x i) * v.g k
def a (i : Fin 8192) (f : Fin 2816) : ℝ := ∑ k, v.h i k * v.wg k f
def b (i : Fin 8192) (f : Fin 2816) : ℝ := ∑ k, v.h i k * v.wu k f
/-- The gradient of the gated product. -/
def df (i : Fin 8192) (f : Fin 2816) : ℝ := ∑ k, v.d i k * v.wd f k
def da (i : Fin 8192) (f : Fin 2816) : ℝ := gateA (v.df i f) (v.a i f) (v.b i f)
def db (i : Fin 8192) (f : Fin 2816) : ℝ := gateB (v.df i f) (v.a i f)
/-- The gradient of the normalised row. -/
def dh (i : Fin 8192) (j : Fin 1024) : ℝ := (∑ f, v.da i f * v.wg j f) + ∑ f, v.db i f * v.wu j f
def dx (i : Fin 8192) (j : Fin 1024) : ℝ := v.d i j + normGrad (v.x i) (fun j => v.dh i j * v.g j) j
/-- One row's term of the gain's gradient. -/
def dgTerm (j : Fin 1024) (i : Fin 8192) : ℝ := v.dh i j * (v.x i j * inv (v.x i))
end Vals

end Cert.FfnMath
end
-- ==== Proof.FfnKernelValue.lean ====
/-
  The feed-forward block's backward kernel: its four results as real numbers of its arguments. The first region takes
  the first half of the hidden columns, the second the other half; the second adds the two halves' gradients of the
  normalised row and takes it through the normalisation, the gain's gradient running down the blocks of rows.
-/
module

public import proofs.«01_k».proof.Proof.FfnCases
public import proofs.«01_k».proof.Proof.FfnRun
public import proofs.«01_k».proof.Proof.FfnMath

@[expose] public section

noncomputable section

namespace Cert.FfnKernelIdeal.Value

open Cert.FfnKernelIdeal Cert.FfnKernelIdeal.Gen Idealize.ShloMosaic Idealize.ShloMosaic.TcCoe Idealize.SL.Sem Cert.Reals Cert.FfnMath

/-! ## One block's payloads over real numbers -/

section
variable (x0 : Vec Ideal S512x1024 .f32) (x1 x2 : Vec Ideal S512x1408 .bf16) (x3 x4 x5 : Vec Ideal S1408x1024 .bf16)
  (x6 x7 : Vec Ideal S512x1024 .f32) (x8 xo : Vec Ideal S1x1024 .f32)
  {d : Fin 512 → Fin 1024 → ℝ} {a b : Fin 512 → Fin 1408 → ℝ} {wg wu wd : Fin 1408 → Fin 1024 → ℝ}
  (h0 : ∀ r k, x0 (ix2 r k) = ((d r k : ℝ) : EReal)) (h1 : ∀ r f, x1 (ix2 r f) = ((a r f : ℝ) : EReal))
  (h2 : ∀ r f, x2 (ix2 r f) = ((b r f : ℝ) : EReal)) (h3 : ∀ f k, x3 (ix2 f k) = ((wg f k : ℝ) : EReal))
  (h4 : ∀ f k, x4 (ix2 f k) = ((wu f k : ℝ) : EReal)) (h5 : ∀ f k, x5 (ix2 f k) = ((wd f k : ℝ) : EReal))

include h0 h5 in
theorem df_real (r : Fin 512) (f : Fin 1408) : k0_pay2 x0 x5 (ix2 r f) = ((∑ k, d r k * wd f k : ℝ) : EReal) := by
  have e : k0_pay2 x0 x5 (ix2 r f) = ∑ k, x0 (ix2 r k) * x5 (ix2 f k) := by pointwise [k0_pay2]
  rw [e, coe_sum]
  exact Finset.sum_congr rfl fun k _ => by rw [h0, h5, EReal.coe_mul]

include h1 in
theorem logistic_real (r : Fin 512) (f : Fin 1408) : k0_pay4 x1 (ix2 r f) = ((logistic (a r f) : ℝ) : EReal) := by
  have e : k0_pay4 x1 (ix2 r f) = Ideal.div 1 (1 + Ideal.exp (0 - x1 (ix2 r f))) := by pointwise [k0_pay4, k0_pay3]
  rw [e, h1, zero_sub, logistic_coe]

include h0 h1 h2 h5 in
theorem da_real (r : Fin 512) (f : Fin 1408) : k0_pay5 x0 x5 x1 x2 (ix2 r f)
    = ((gateA (∑ k, d r k * wd f k) (a r f) (b r f) : ℝ) : EReal) := by
  have e : k0_pay5 x0 x5 x1 x2 (ix2 r f) = k0_pay2 x0 x5 (ix2 r f) * x2 (ix2 r f)
      * (k0_pay4 x1 (ix2 r f) * (1 + x1 (ix2 r f) * (1 - k0_pay4 x1 (ix2 r f)))) := by pointwise [k0_pay5, k0_pay3]
  rw [e, df_real x0 x5 h0 h5, logistic_real x1 h1, h1, h2, ← EReal.coe_one]
  simp only [← EReal.coe_mul, ← EReal.coe_sub, ← EReal.coe_add]
  rfl

include h0 h1 h5 in
theorem db_real (r : Fin 512) (f : Fin 1408) : k0_pay6 x0 x5 x1 (ix2 r f)
    = ((gateB (∑ k, d r k * wd f k) (a r f) : ℝ) : EReal) := by
  have e : k0_pay6 x0 x5 x1 (ix2 r f) = k0_pay2 x0 x5 (ix2 r f) * (x1 (ix2 r f) * k0_pay4 x1 (ix2 r f)) := by
    pointwise [k0_pay6, k0_pay3]
  rw [e, df_real x0 x5 h0 h5, logistic_real x1 h1, h1]
  simp only [← EReal.coe_mul]
  rfl

/-- One half of the hidden columns' share of the gradient of the normalised row. -/
def share (d : Fin 1024 → ℝ) (a b : Fin 1408 → ℝ) (wg wu wd : Fin 1408 → Fin 1024 → ℝ) (j : Fin 1024) : ℝ :=
  (∑ f, gateA (∑ k, d k * wd f k) (a f) (b f) * wg f j) + ∑ f, gateB (∑ k, d k * wd f k) (a f) * wu f j

include h0 h1 h2 h3 h4 h5 in
theorem part_real (r : Fin 512) (j : Fin 1024) : part0 x0 x1 x2 x3 x4 x5 (ix2 r j)
    = ((share (d r) (a r) (b r) wg wu wd j : ℝ) : EReal) := by
  have e : part0 x0 x1 x2 x3 x4 x5 (ix2 r j) = (∑ f, k0_pay5 x0 x5 x1 x2 (ix2 r f) * x3 (ix2 f j))
      + ∑ f, k0_pay6 x0 x5 x1 (ix2 r f) * x4 (ix2 f j) := by pointwise [part0, k0_pay1, k0_pay7]
  rw [e]
  unfold share
  rw [EReal.coe_add, coe_sum, coe_sum]
  exact congrArg₂ (· + ·)
    (Finset.sum_congr rfl fun f _ => by rw [da_real x0 x1 x2 x5 h0 h1 h2 h5, h3, EReal.coe_mul])
    (Finset.sum_congr rfl fun f _ => by rw [db_real x0 x1 x5 h0 h1 h5, h4, EReal.coe_mul])

theorem pay7_eq : k1_pay7 x0 x5 x1 x2 = k0_pay5 x0 x5 x1 x2 := rfl
theorem pay8_eq : k1_pay8 x0 x5 x1 = k0_pay6 x0 x5 x1 := rfl

variable {p : Fin 512 → Fin 1024 → ℝ} {x : Fin 512 → Fin 1024 → ℝ} {g : Fin 1024 → ℝ}
  (h6 : ∀ r k, x6 (ix2 r k) = ((p r k : ℝ) : EReal)) (h7 : ∀ r k, x7 (ix2 r k) = ((x r k : ℝ) : EReal))
  (h8 : ∀ i k, x8 (ix2 i k) = ((g k : ℝ) : EReal))

include h0 h1 h2 h3 h4 h5 h6 in
theorem dh_real (r : Fin 512) (j : Fin 1024) : dh1 x0 x1 x2 x3 x4 x5 x6 (ix2 r j)
    = ((p r j + share (d r) (a r) (b r) wg wu wd j : ℝ) : EReal) := by
  have e : dh1 x0 x1 x2 x3 x4 x5 x6 (ix2 r j) = x6 (ix2 r j) + part0 x0 x1 x2 x3 x4 x5 (ix2 r j) := by
    unfold dh1; rw [pay7_eq, pay8_eq]; pointwise [part0, k0_pay1, k0_pay7, k1_pay9, k1_pay3]
  rw [e, h6, part_real x0 x1 x2 x3 x4 x5 h0 h1 h2 h3 h4 h5, EReal.coe_add]

include h7 in
theorem inv_real (r : Fin 512) (z : Fin 1) : k1_pay11 x7 (ix2 r z) = ((inv (x r) : ℝ) : EReal) := by
  have e : k1_pay11 x7 (ix2 r z) = Ideal.rsqrt ((∑ k, x7 (ix2 r k) * x7 (ix2 r k)) * Ideal.ofBits .f32 0x3A800000#32
      + Ideal.ofBits .f32 0x358637BD#32) := by
    rw [← sum_groups8]
    pointwise [k1_pay11, k1_pay10]
  rw [e, ofBits_inv1024, ofBits_eps, show (∑ k, x7 (ix2 r k) * x7 (ix2 r k)) = ((∑ k, x r k * x r k : ℝ) : EReal) by
    rw [coe_sum]; exact Finset.sum_congr rfl fun k _ => by rw [h7, EReal.coe_mul], ← EReal.coe_mul, ← EReal.coe_add, mul_one_div]
  exact rsqrt_coe (msq_pos (x r))

include h7 in
theorem hat_real (r : Fin 512) (j : Fin 1024) : k1_pay12 x7 (ix2 r j) = ((x r j * inv (x r) : ℝ) : EReal) := by
  have e : k1_pay12 x7 (ix2 r j) = x7 (ix2 r j) * k1_pay11 x7 (ix2 r 0) := by pointwise [k1_pay12, k1_pay10]
  rw [e, h7, inv_real x7 h7, EReal.coe_mul]

/-- The gradient of the normalised row, from what the first region left. -/
def dhat (p d : Fin 1024 → ℝ) (a b : Fin 1408 → ℝ) (wg wu wd : Fin 1408 → Fin 1024 → ℝ) (j : Fin 1024) : ℝ :=
  p j + share d a b wg wu wd j

include h0 h1 h2 h3 h4 h5 h6 h7 h8 in
theorem rows_real (r : Fin 512) (j : Fin 1024) : rows x0 x1 x2 x3 x4 x5 x6 x7 x8 (ix2 r j)
    = ((d r j + normGrad (x r) (fun j => dhat (p r) (d r) (a r) (b r) wg wu wd j * g j) j : ℝ) : EReal) := by
  have e (dh xh : Vec Ideal S512x1024 .f32) (s : Vec Ideal S512x1 .f32) : k1_pay1 dh s xh x0 x8 (ix2 r j)
      = x0 (ix2 r j) + s (ix2 r 0) * (dh (ix2 r j) * x8 (ix2 0 j)
        - xh (ix2 r j) * ((∑ k, dh (ix2 r k) * x8 (ix2 0 k) * xh (ix2 r k)) * Ideal.ofBits .f32 0x3A800000#32)) := by
    rw [← sum_groups8]
    pointwise [k1_pay1]
  have hd := dh_real x0 x1 x2 x3 x4 x5 x6 h0 h1 h2 h3 h4 h5 h6
  unfold rows
  rw [e, inv_real x7 h7, hat_real x7 h7, hd, h8, h0, ofBits_inv1024]
  rw [show (∑ k, dh1 x0 x1 x2 x3 x4 x5 x6 (ix2 r k) * x8 (ix2 0 k) * k1_pay12 x7 (ix2 r k))
    = ((∑ k', dhat (p r) (d r) (a r) (b r) wg wu wd k' * g k' * (x r k' * inv (x r)) : ℝ) : EReal) by
      rw [coe_sum]
      exact Finset.sum_congr rfl fun k _ => by
        rw [hat_real x7 h7, hd, h8, ← EReal.coe_mul, ← EReal.coe_mul]; rfl]
  simp only [← EReal.coe_mul, ← EReal.coe_sub, ← EReal.coe_add]
  rfl

include h0 h1 h2 h3 h4 h5 h6 h7 in
theorem gain_real (z : Fin 1) (j : Fin 1024) : gain x0 x1 x2 x3 x4 x5 x6 x7 xo (ix2 z j)
    = xo (ix2 z j) + ((∑ r, dhat (p r) (d r) (a r) (b r) wg wu wd j * (x r j * inv (x r)) : ℝ) : EReal) := by
  have e : gain x0 x1 x2 x3 x4 x5 x6 x7 xo (ix2 z j)
      = xo (ix2 z j) + ∑ r, dh1 x0 x1 x2 x3 x4 x5 x6 (ix2 r j) * k1_pay12 x7 (ix2 r j) := by
    obtain rfl : z = 0 := Subsingleton.elim _ _
    unfold gain
    pointwise [k1_pay13]
  rw [e, coe_sum]
  exact congrArg _ <| Finset.sum_congr rfl fun r _ => by
    rw [dh_real x0 x1 x2 x3 x4 x5 x6 h0 h1 h2 h3 h4 h5 h6, hat_real x7 h7, ← EReal.coe_mul]; rfl
end

/-! ## The arrays at the regions' entries -/

variable (m : (ℓ : Loc nD τ sig) → Buf (Elt Ideal) ℓ) (ρ : Dev nD → PrngReg)

section
variable (c : Dev nD)

theorem entry_d (i : Fin 8192) (j : Fin 1024) : (V1 m ρ c main_v23 : Vec Ideal S8192x1024 .f32) (ix2 i j)
    = m ((c : Thread nD τ).loc main_arg5) (ix3 0 i j) := by
  show StableHlo.after hostOps0 (W0 m ρ c) (Proc.devRef .tc main_v23) _ = _
  after_reads_at
theorem entry_x (i : Fin 8192) (j : Fin 1024) : (V1 m ρ c main_v24 : Vec Ideal S8192x1024 .f32) (ix2 i j)
    = m ((c : Thread nD τ).loc main_arg0) (ix3 0 i j) := by
  show StableHlo.after hostOps0 (W0 m ρ c) (Proc.devRef .tc main_v24) _ = _
  after_reads_at
theorem entry_g (i : Fin 1) (j : Fin 1024) : (V1 m ρ c main_v25 : Vec Ideal S1x1024 .f32) (ix2 i j)
    = m ((c : Thread nD τ).loc main_arg1) (ix1 j) := by
  show StableHlo.after hostOps0 (W0 m ρ c) (Proc.devRef .tc main_v25) _ = _
  after_reads_at
theorem entry_wg (f : Fin 2816) (j : Fin 1024) : (V1 m ρ c main_v1 : Vec Ideal S2816x1024 .bf16) (ix2 f j)
    = m ((c : Thread nD τ).loc main_arg2) (ix2 j f) := by
  show StableHlo.after hostOps0 (W0 m ρ c) (Proc.devRef .tc main_v1) _ = _
  after_reads_at
theorem entry_wu (f : Fin 2816) (j : Fin 1024) : (V1 m ρ c main_v3 : Vec Ideal S2816x1024 .bf16) (ix2 f j)
    = m ((c : Thread nD τ).loc main_arg3) (ix2 j f) := by
  show StableHlo.after hostOps0 (W0 m ρ c) (Proc.devRef .tc main_v3) _ = _
  after_reads_at
theorem entry_wd (f : Fin 2816) (j : Fin 1024) : (V1 m ρ c main_v4 : Vec Ideal S2816x1024 .bf16) (ix2 f j)
    = m ((c : Thread nD τ).loc main_arg4) (ix2 f j) := by
  show StableHlo.after hostOps0 (W0 m ρ c) (Proc.devRef .tc main_v4) _ = _
  after_reads_at

/-- The arguments, read as extended reals. -/
def argX (i : Fin 8192) (k : Fin 1024) : EReal := m ((c : Thread nD τ).loc main_arg0) (ix3 0 i k)
def argG (k : Fin 1024) : EReal := m ((c : Thread nD τ).loc main_arg1) (ix1 k)
def argWg (k : Fin 1024) (f : Fin 2816) : EReal := m ((c : Thread nD τ).loc main_arg2) (ix2 k f)
def argWu (k : Fin 1024) (f : Fin 2816) : EReal := m ((c : Thread nD τ).loc main_arg3) (ix2 k f)

/-- The normalised row times the gain. -/
def normed (i : Fin 8192) (k : Fin 1024) : EReal :=
  argX m c i k * Ideal.rsqrt (Ideal.div (∑ l, argX m c i l * argX m c i l) (Ideal.ofBits .f32 0x44800000#32)
    + Ideal.ofBits .f32 0x358637BD#32) * argG m c k

/-- The normalised rows through a weight. -/
def through (w : Fin 1024 → Fin 2816 → EReal) (i : Fin 8192) (f : Fin 2816) : EReal := ∑ k, normed m c i k * w k f

theorem entry_a (i : Fin 8192) (f : Fin 2816) : (V1 m ρ c main_v20 : Vec Ideal S8192x2816 .bf16) (ix2 i f)
    = through m c (argWg m c) i f := by
  show StableHlo.after hostOps0 (W0 m ρ c) (Proc.devRef .tc main_v20) _ = _
  after_reads_at
  rfl
theorem entry_b (i : Fin 8192) (f : Fin 2816) : (V1 m ρ c main_v22 : Vec Ideal S8192x2816 .bf16) (ix2 i f)
    = through m c (argWu m c) i f := by
  show StableHlo.after hostOps0 (W0 m ρ c) (Proc.devRef .tc main_v22) _ = _
  after_reads_at
  rfl

/-- The arguments hold these real numbers. -/
structure Holds (v : Vals) : Prop where
  x : ∀ i j, m ((c : Thread nD τ).loc main_arg0) (ix3 0 i j) = ((v.x i j : ℝ) : EReal)
  g : ∀ j, m ((c : Thread nD τ).loc main_arg1) (ix1 j) = ((v.g j : ℝ) : EReal)
  wg : ∀ j f, m ((c : Thread nD τ).loc main_arg2) (ix2 j f) = ((v.wg j f : ℝ) : EReal)
  wu : ∀ j f, m ((c : Thread nD τ).loc main_arg3) (ix2 j f) = ((v.wu j f : ℝ) : EReal)
  wd : ∀ f j, m ((c : Thread nD τ).loc main_arg4) (ix2 f j) = ((v.wd f j : ℝ) : EReal)
  d : ∀ i j, m ((c : Thread nD τ).loc main_arg5) (ix3 0 i j) = ((v.d i j : ℝ) : EReal)
end

section
variable {m ρ} {c : Dev nD} {v : Vals} (h : Holds m c v)

include h in
theorem normed_real (i : Fin 8192) (k : Fin 1024) : normed m c i k = ((v.h i k : ℝ) : EReal) := by
  have hx : ∀ l, argX m c i l = ((v.x i l : ℝ) : EReal) := h.x i
  unfold normed
  rw [show (∑ l, argX m c i l * argX m c i l) = ((∑ l, v.x i l * v.x i l : ℝ) : EReal) by
    rw [coe_sum]; exact Finset.sum_congr rfl fun l _ => by rw [hx, EReal.coe_mul],
    ofBits_1024, ofBits_eps, div_coe' _ (by norm_num), ← EReal.coe_add, hx, show argG m c k = _ from h.g k]
  erw [rsqrt_coe (msq_pos (v.x i))]
  rw [← EReal.coe_mul, ← EReal.coe_mul]
  rfl

include h in
theorem through_real {w : Fin 1024 → Fin 2816 → EReal} {u : Fin 1024 → Fin 2816 → ℝ} (hw : ∀ k f, w k f = ((u k f : ℝ) : EReal))
    (i : Fin 8192) (f : Fin 2816) : through m c w i f = ((∑ k, v.h i k * u k f : ℝ) : EReal) := by
  unfold through; rw [coe_sum]
  exact Finset.sum_congr rfl fun k _ => by rw [normed_real h, hw, EReal.coe_mul]

/-- What a region's operands hold at its entry. -/
structure Entry (V : (c : Dev nD) → (b : Ref sig .tc) → Buf (Elt Ideal) ((c : Thread nD τ).loc b)) (c : Dev nD) (v : Vals) : Prop where
  d : ∀ i j, (V c main_v23 : Vec Ideal S8192x1024 .f32) (ix2 i j) = ((v.d i j : ℝ) : EReal)
  x : ∀ i j, (V c main_v24 : Vec Ideal S8192x1024 .f32) (ix2 i j) = ((v.x i j : ℝ) : EReal)
  g : ∀ i j, (V c main_v25 : Vec Ideal S1x1024 .f32) (ix2 i j) = ((v.g j : ℝ) : EReal)
  a : ∀ i f, (V c main_v20 : Vec Ideal S8192x2816 .bf16) (ix2 i f) = ((v.a i f : ℝ) : EReal)
  b : ∀ i f, (V c main_v22 : Vec Ideal S8192x2816 .bf16) (ix2 i f) = ((v.b i f : ℝ) : EReal)
  wg : ∀ f j, (V c main_v1 : Vec Ideal S2816x1024 .bf16) (ix2 f j) = ((v.wg j f : ℝ) : EReal)
  wu : ∀ f j, (V c main_v3 : Vec Ideal S2816x1024 .bf16) (ix2 f j) = ((v.wu j f : ℝ) : EReal)
  wd : ∀ f j, (V c main_v4 : Vec Ideal S2816x1024 .bf16) (ix2 f j) = ((v.wd f j : ℝ) : EReal)

include h in
theorem entry1 : Entry (V1 m ρ) c v where
  d i j := (entry_d m ρ c i j).trans (h.d i j)
  x i j := (entry_x m ρ c i j).trans (h.x i j)
  g i j := (entry_g m ρ c i j).trans (h.g j)
  a i f := (entry_a m ρ c i f).trans (through_real h (fun k f => h.wg k f) i f)
  b i f := (entry_b m ρ c i f).trans (through_real h (fun k f => h.wu k f) i f)
  wg f j := (entry_wg m ρ c f j).trans (h.wg j f)
  wu f j := (entry_wu m ρ c f j).trans (h.wu j f)
  wd f j := (entry_wd m ρ c f j).trans (h.wd f j)

/-- What neither the first region nor the copies after it write is as at the first region's entry. -/
theorem V3_of (r : Ref sig .tc) (h1 : r ∉ hostOps1_W) (h0 : ∀ w : Fin cfg0.W, Pipeline.arrRef spec0 w = r → (cfg0.win w).isOut = false) :
    V3 m ρ c r = V1 m ρ c r := (W3_of m ρ c r h1).trans (W2_of m ρ c r h0)

include h in
theorem entry3 : Entry (V3 m ρ) c v := by
  have e := entry1 (ρ := ρ) h
  constructor
  · rw [V3_of main_v23 (by decide) (by decide)]; exact e.d
  · rw [V3_of main_v24 (by decide) (by decide)]; exact e.x
  · rw [V3_of main_v25 (by decide) (by decide)]; exact e.g
  · rw [V3_of main_v20 (by decide) (by decide)]; exact e.a
  · rw [V3_of main_v22 (by decide) (by decide)]; exact e.b
  · rw [V3_of main_v1 (by decide) (by decide)]; exact e.wg
  · rw [V3_of main_v3 (by decide) (by decide)]; exact e.wu
  · rw [V3_of main_v4 (by decide) (by decide)]; exact e.wd
end
end Cert.FfnKernelIdeal.Value
end
-- ==== Proof.FfnKernelResults.lean ====
/-
  The feed-forward block's backward kernel: the blocks each region reads, and its four result arrays.
-/
module

public import proofs.«01_k».proof.Proof.FfnKernelValue
public import Idealize.ShloMosaic.Lib.Pipeline.ValueKit.Partial

@[expose] public section

noncomputable section

namespace Cert.FfnKernelIdeal.Value

open Cert.FfnKernelIdeal Cert.FfnKernelIdeal.Gen Idealize.ShloMosaic Idealize.ShloMosaic.TcCoe Idealize.SL.Sem Cert.Reals Cert.FfnMath
open Idealize.ShloMosaic.Pipeline (Dat)

/-! ## The blocks -/

theorem eq_ix2 {n0 n1 : ℕ} (i : (⟨2, ![n0, n1]⟩ : Shape).Idx) (a : Fin n0) (b : Fin n1) (h0 : (i 0).val = a.val)
    (h1 : (i 1).val = b.val) : i = ix2 a b := by
  rw [← ix2_eta i]
  exact congrArg₂ ix2 (Fin.ext h0) (Fin.ext h1)

/-- Row `r` of block `t`. -/
def row (t : Fin 16) (r : Fin 512) : Fin 8192 := ⟨t.val * 512 + r.val, by have := t.isLt; have := r.isLt; omega⟩
/-- Hidden column `f` of half `p`. -/
def col (p : Fin 2) (f : Fin 1408) : Fin 2816 := ⟨p.val * 1408 + f.val, by have := p.isLt; have := f.isLt; omega⟩

theorem idx0 : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = t.val ∧ win0_6.index t 1 = 0) ∧ (win0_7.index t 0 = t.val ∧ win0_7.index t 1 = 0)
    ∧ win0_8.index t 0 = t.val ∧ win0_8.index t 1 = 0 := by
  decide +kernel

theorem idx1 : ∀ t : Fin cfg1.N, (win1_0.index t 0 = t.val ∧ win1_0.index t 1 = 0) ∧ (win1_1.index t 0 = t.val ∧ win1_1.index t 1 = 1)
    ∧ (win1_2.index t 0 = t.val ∧ win1_2.index t 1 = 1) ∧ (win1_3.index t 0 = 1 ∧ win1_3.index t 1 = 0)
    ∧ (win1_4.index t 0 = 1 ∧ win1_4.index t 1 = 0) ∧ (win1_5.index t 0 = 1 ∧ win1_5.index t 1 = 0)
    ∧ (win1_6.index t 0 = t.val ∧ win1_6.index t 1 = 0) ∧ (win1_7.index t 0 = t.val ∧ win1_7.index t 1 = 0)
    ∧ (win1_8.index t 0 = 0 ∧ win1_8.index t 1 = 0) ∧ (win1_9.index t 0 = t.val ∧ win1_9.index t 1 = 1)
    ∧ (win1_10.index t 0 = t.val ∧ win1_10.index t 1 = 1) ∧ (win1_11.index t 0 = t.val ∧ win1_11.index t 1 = 0)
    ∧ win1_12.index t 0 = 0 ∧ win1_12.index t 1 = 0 := by
  decide +kernel

section
variable (V : (c : Dev nD) → (b : Ref sig .tc) → Buf (Elt Ideal) ((c : Thread nD τ).loc b)) {c : Dev nD}

/-- The first region's blocks of its operands, read from the arrays. -/
theorem blocks0 (t : Fin cfg0.N) :
    (∀ r k, (iblk0 V c 0 t : Vec Ideal S512x1024 .f32) (ix2 r k) = (V c main_v23 : Vec Ideal S8192x1024 .f32) (ix2 (row t r) k))
    ∧ (∀ r f, (iblk0 V c 1 t : Vec Ideal S512x1408 .bf16) (ix2 r f) = (V c main_v20 : Vec Ideal S8192x2816 .bf16) (ix2 (row t r) (col 0 f)))
    ∧ (∀ r f, (iblk0 V c 2 t : Vec Ideal S512x1408 .bf16) (ix2 r f) = (V c main_v22 : Vec Ideal S8192x2816 .bf16) (ix2 (row t r) (col 0 f)))
    ∧ (∀ f k, (iblk0 V c 3 t : Vec Ideal S1408x1024 .bf16) (ix2 f k) = (V c main_v1 : Vec Ideal S2816x1024 .bf16) (ix2 (col 0 f) k))
    ∧ (∀ f k, (iblk0 V c 4 t : Vec Ideal S1408x1024 .bf16) (ix2 f k) = (V c main_v3 : Vec Ideal S2816x1024 .bf16) (ix2 (col 0 f) k))
    ∧ (∀ f k, (iblk0 V c 5 t : Vec Ideal S1408x1024 .bf16) (ix2 f k) = (V c main_v4 : Vec Ideal S2816x1024 .bf16) (ix2 (col 0 f) k)) := by
  obtain ⟨⟨a0, b0⟩, ⟨a1, b1⟩, ⟨a2, b2⟩, ⟨a3, b3⟩, ⟨a4, b4⟩, ⟨a5, b5⟩, -⟩ := idx0 t
  refine ⟨fun r k => ?_, fun r k => ?_, fun r k => ?_, fun r k => ?_, fun r k => ?_, fun r k => ?_⟩ <;>
    (unfold iblk0; rw [View.read_apply])
  · exact congrArg (V c main_v23) (eq_ix2 _ (row t r) k
      (by show win0_0.index t 0 * 512 + 1 * r.val = t.val * 512 + r.val; rw [a0]; omega)
      (by show win0_0.index t 1 * 1024 + 1 * k.val = k.val; rw [b0]; omega))
  · exact congrArg (V c main_v20) (eq_ix2 _ (row t r) (col 0 k)
      (by show win0_1.index t 0 * 512 + 1 * r.val = t.val * 512 + r.val; rw [a1]; omega)
      (by show win0_1.index t 1 * 1408 + 1 * k.val = 0 * 1408 + k.val; rw [b1]; omega))
  · exact congrArg (V c main_v22) (eq_ix2 _ (row t r) (col 0 k)
      (by show win0_2.index t 0 * 512 + 1 * r.val = t.val * 512 + r.val; rw [a2]; omega)
      (by show win0_2.index t 1 * 1408 + 1 * k.val = 0 * 1408 + k.val; rw [b2]; omega))
  · exact congrArg (V c main_v1) (eq_ix2 _ (col 0 r) k
      (by show win0_3.index t 0 * 1408 + 1 * r.val = 0 * 1408 + r.val; rw [a3]; omega)
      (by show win0_3.index t 1 * 1024 + 1 * k.val = k.val; rw [b3]; omega))
  · exact congrArg (V c main_v3) (eq_ix2 _ (col 0 r) k
      (by show win0_4.index t 0 * 1408 + 1 * r.val = 0 * 1408 + r.val; rw [a4]; omega)
      (by show win0_4.index t 1 * 1024 + 1 * k.val = k.val; rw [b4]; omega))
  · exact congrArg (V c main_v4) (eq_ix2 _ (col 0 r) k
      (by show win0_5.index t 0 * 1408 + 1 * r.val = 0 * 1408 + r.val; rw [a5]; omega)
      (by show win0_5.index t 1 * 1024 + 1 * k.val = k.val; rw [b5]; omega))

/-- The second region's. -/
theorem blocks1 (t : Fin cfg1.N) :
    (∀ r k, (iblk1 V c 0 t : Vec Ideal S512x1024 .f32) (ix2 r k) = (V c main_v23 : Vec Ideal S8192x1024 .f32) (ix2 (row t r) k))
    ∧ (∀ r f, (iblk1 V c 1 t : Vec Ideal S512x1408 .bf16) (ix2 r f) = (V c main_v20 : Vec Ideal S8192x2816 .bf16) (ix2 (row t r) (col 1 f)))
    ∧ (∀ r f, (iblk1 V c 2 t : Vec Ideal S512x1408 .bf16) (ix2 r f) = (V c main_v22 : Vec Ideal S8192x2816 .bf16) (ix2 (row t r) (col 1 f)))
    ∧ (∀ f k, (iblk1 V c 3 t : Vec Ideal S1408x1024 .bf16) (ix2 f k) = (V c main_v1 : Vec Ideal S2816x1024 .bf16) (ix2 (col 1 f) k))
    ∧ (∀ f k, (iblk1 V c 4 t : Vec Ideal S1408x1024 .bf16) (ix2 f k) = (V c main_v3 : Vec Ideal S2816x1024 .bf16) (ix2 (col 1 f) k))
    ∧ (∀ f k, (iblk1 V c 5 t : Vec Ideal S1408x1024 .bf16) (ix2 f k) = (V c main_v4 : Vec Ideal S2816x1024 .bf16) (ix2 (col 1 f) k))
    ∧ (∀ r k, (iblk1 V c 6 t : Vec Ideal S512x1024 .f32) (ix2 r k) = (V c main_v26_2 : Vec Ideal S8192x1024 .f32) (ix2 (row t r) k))
    ∧ (∀ r k, (iblk1 V c 7 t : Vec Ideal S512x1024 .f32) (ix2 r k) = (V c main_v24 : Vec Ideal S8192x1024 .f32) (ix2 (row t r) k))
    ∧ (∀ z k, (iblk1 V c 8 t : Vec Ideal S1x1024 .f32) (ix2 z k) = (V c main_v25 : Vec Ideal S1x1024 .f32) (ix2 z k)) := by
  obtain ⟨⟨a0, b0⟩, ⟨a1, b1⟩, ⟨a2, b2⟩, ⟨a3, b3⟩, ⟨a4, b4⟩, ⟨a5, b5⟩, ⟨a6, b6⟩, ⟨a7, b7⟩, ⟨a8, b8⟩, -⟩ := idx1 t
  refine ⟨fun r k => ?_, fun r k => ?_, fun r k => ?_, fun r k => ?_, fun r k => ?_, fun r k => ?_, fun r k => ?_, fun r k => ?_,
    fun r k => ?_⟩ <;> (unfold iblk1; rw [View.read_apply])
  · exact congrArg (V c main_v23) (eq_ix2 _ (row t r) k
      (by show win1_0.index t 0 * 512 + 1 * r.val = t.val * 512 + r.val; rw [a0]; omega)
      (by show win1_0.index t 1 * 1024 + 1 * k.val = k.val; rw [b0]; omega))
  · exact congrArg (V c main_v20) (eq_ix2 _ (row t r) (col 1 k)
      (by show win1_1.index t 0 * 512 + 1 * r.val = t.val * 512 + r.val; rw [a1]; omega)
      (by show win1_1.index t 1 * 1408 + 1 * k.val = 1 * 1408 + k.val; rw [b1]; omega))
  · exact congrArg (V c main_v22) (eq_ix2 _ (row t r) (col 1 k)
      (by show win1_2.index t 0 * 512 + 1 * r.val = t.val * 512 + r.val; rw [a2]; omega)
      (by show win1_2.index t 1 * 1408 + 1 * k.val = 1 * 1408 + k.val; rw [b2]; omega))
  · exact congrArg (V c main_v1) (eq_ix2 _ (col 1 r) k
      (by show win1_3.index t 0 * 1408 + 1 * r.val = 1 * 1408 + r.val; rw [a3]; omega)
      (by show win1_3.index t 1 * 1024 + 1 * k.val = k.val; rw [b3]; omega))
  · exact congrArg (V c main_v3) (eq_ix2 _ (col 1 r) k
      (by show win1_4.index t 0 * 1408 + 1 * r.val = 1 * 1408 + r.val; rw [a4]; omega)
      (by show win1_4.index t 1 * 1024 + 1 * k.val = k.val; rw [b4]; omega))
  · exact congrArg (V c main_v4) (eq_ix2 _ (col 1 r) k
      (by show win1_5.index t 0 * 1408 + 1 * r.val = 1 * 1408 + r.val; rw [a5]; omega)
      (by show win1_5.index t 1 * 1024 + 1 * k.val = k.val; rw [b5]; omega))
  · exact congrArg (V c main_v26_2) (eq_ix2 _ (row t r) k
      (by show win1_6.index t 0 * 512 + 1 * r.val = t.val * 512 + r.val; rw [a6]; omega)
      (by show win1_6.index t 1 * 1024 + 1 * k.val = k.val; rw [b6]; omega))
  · exact congrArg (V c main_v24) (eq_ix2 _ (row t r) k
      (by show win1_7.index t 0 * 512 + 1 * r.val = t.val * 512 + r.val; rw [a7]; omega)
      (by show win1_7.index t 1 * 1024 + 1 * k.val = k.val; rw [b7]; omega))
  · exact congrArg (V c main_v25) (eq_ix2 _ r k
      (by show win1_8.index t 0 * 1 + 1 * r.val = r.val; rw [a8]; omega)
      (by show win1_8.index t 1 * 1024 + 1 * k.val = k.val; rw [b8]; omega))
end

/-! ## What each point leaves -/

/-- One half's share of the gradient of row `i`, over the arguments. -/
def half (v : Vals) (p : Fin 2) (i : Fin 8192) (j : Fin 1024) : ℝ :=
  share (v.d i) (fun f => v.a i (col p f)) (fun f => v.b i (col p f)) (fun f k => v.wg k (col p f)) (fun f k => v.wu k (col p f))
    (fun f => v.wd (col p f)) j

theorem half_add (v : Vals) (i : Fin 8192) (j : Fin 1024) : half v 0 i j + half v 1 i j = v.dh i j := by
  have e (F : Fin 2816 → ℝ) : ∑ f, F f = (∑ f, F (col 0 f)) + ∑ f, F (col 1 f) := by
    rw [Fin.sum_univ_tiles 2 1408 rfl F, Fin.sum_univ_two]; rfl
  unfold Vals.dh
  rw [e, e]
  exact add_add_add_comm _ _ _ _

/-- The four results. -/
def resA (v : Vals) : Vec Ideal S8192x2816 .bf16 := fun i => ((v.da (i 0) (i 1) : ℝ) : EReal)
def resB (v : Vals) : Vec Ideal S8192x2816 .bf16 := fun i => ((v.db (i 0) (i 1) : ℝ) : EReal)
def resX (v : Vals) : Vec Ideal S8192x1024 .f32 := fun i => ((v.dx (i 0) (i 1) : ℝ) : EReal)
def resG (v : Vals) : Vec Ideal S1x1024 .f32 := fun i => ((∑ k, v.dgTerm (i 1) k : ℝ) : EReal)
/-- What the first region hands the second: its half's share. -/
def resPart (v : Vals) : Vec Ideal S8192x1024 .f32 := fun i => ((half v 0 (i 0) (i 1) : ℝ) : EReal)

section
variable {V : (c : Dev nD) → (b : Ref sig .tc) → Buf (Elt Ideal) ((c : Thread nD τ).loc b)} {c : Dev nD} {v : Vals}
  (h : Entry V c v)

include h in
theorem point0 (t : Fin cfg0.N) :
    (∀ r f, (k0_pay5 (iblk0 V c 0 t) (iblk0 V c 5 t) (iblk0 V c 1 t) (iblk0 V c 2 t) : Vec Ideal S512x1408 .bf16) (ix2 r f) = resA v (ix2 (row t r) (col 0 f)))
    ∧ (∀ r f, (k0_pay6 (iblk0 V c 0 t) (iblk0 V c 5 t) (iblk0 V c 1 t) : Vec Ideal S512x1408 .bf16) (ix2 r f) = resB v (ix2 (row t r) (col 0 f)))
    ∧ (∀ r j, (part0 (iblk0 V c 0 t) (iblk0 V c 1 t) (iblk0 V c 2 t) (iblk0 V c 3 t) (iblk0 V c 4 t) (iblk0 V c 5 t) : Vec Ideal S512x1024 .f32) (ix2 r j)
        = resPart v (ix2 (row t r) j)) := by
  obtain ⟨b0, b1, b2, b3, b4, b5⟩ := blocks0 V (c := c) t
  have r0 := fun r k => (b0 r k).trans (h.d _ _)
  have r1 := fun r k => (b1 r k).trans (h.a _ _)
  have r2 := fun r k => (b2 r k).trans (h.b _ _)
  have r3 := fun r k => (b3 r k).trans (h.wg _ _)
  have r4 := fun r k => (b4 r k).trans (h.wu _ _)
  have r5 := fun r k => (b5 r k).trans (h.wd _ _)
  refine ⟨da_real _ _ _ _ r0 r1 r2 r5, db_real _ _ _ r0 r1 r5, fun r j => ?_⟩
  exact (part_real (d := fun r => v.d (row t r)) (a := fun r f => v.a (row t r) (col 0 f)) (b := fun r f => v.b (row t r) (col 0 f))
    (wg := fun f k => v.wg k (col 0 f)) (wu := fun f k => v.wu k (col 0 f)) (wd := fun f => v.wd (col 0 f))
    _ _ _ _ _ _ r0 r1 r2 r3 r4 r5 r j).trans rfl

variable (hp : ∀ i j, (V c main_v26_2 : Vec Ideal S8192x1024 .f32) (ix2 i j) = ((half v 0 i j : ℝ) : EReal))

include h hp in
theorem point1 (t : Fin cfg1.N) :
    (∀ r f, (k1_pay7 (iblk1 V c 0 t) (iblk1 V c 5 t) (iblk1 V c 1 t) (iblk1 V c 2 t) : Vec Ideal S512x1408 .bf16) (ix2 r f) = resA v (ix2 (row t r) (col 1 f)))
    ∧ (∀ r f, (k1_pay8 (iblk1 V c 0 t) (iblk1 V c 5 t) (iblk1 V c 1 t) : Vec Ideal S512x1408 .bf16) (ix2 r f) = resB v (ix2 (row t r) (col 1 f)))
    ∧ (∀ r j, (rows (iblk1 V c 0 t) (iblk1 V c 1 t) (iblk1 V c 2 t) (iblk1 V c 3 t) (iblk1 V c 4 t) (iblk1 V c 5 t) (iblk1 V c 6 t) (iblk1 V c 7 t)
          (iblk1 V c 8 t) : Vec Ideal S512x1024 .f32) (ix2 r j) = resX v (ix2 (row t r) j))
    ∧ (∀ (xo : Vec Ideal S1x1024 .f32) z j, (gain (iblk1 V c 0 t) (iblk1 V c 1 t) (iblk1 V c 2 t) (iblk1 V c 3 t) (iblk1 V c 4 t) (iblk1 V c 5 t)
          (iblk1 V c 6 t) (iblk1 V c 7 t) xo : Vec Ideal S1x1024 .f32) (ix2 z j)
        = xo (ix2 z j) + ((∑ r, v.dgTerm j (row t r) : ℝ) : EReal)) := by
  obtain ⟨b0, b1, b2, b3, b4, b5, b6, b7, b8⟩ := blocks1 V (c := c) t
  have r0 := fun r k => (b0 r k).trans (h.d _ _)
  have r1 := fun r k => (b1 r k).trans (h.a _ _)
  have r2 := fun r k => (b2 r k).trans (h.b _ _)
  have r3 := fun r k => (b3 r k).trans (h.wg _ _)
  have r4 := fun r k => (b4 r k).trans (h.wu _ _)
  have r5 := fun r k => (b5 r k).trans (h.wd _ _)
  have r6 := fun r k => (b6 r k).trans (hp _ _)
  have r7 := fun r k => (b7 r k).trans (h.x _ _)
  have r8 := fun r k => (b8 r k).trans (h.g _ _)
  have eh (r : Fin 512) : dhat (half v 0 (row t r)) (v.d (row t r)) (fun f => v.a (row t r) (col 1 f)) (fun f => v.b (row t r) (col 1 f))
      (fun f k => v.wg k (col 1 f)) (fun f k => v.wu k (col 1 f)) (fun f => v.wd (col 1 f)) = v.dh (row t r) :=
    funext fun j => half_add v (row t r) j
  refine ⟨da_real _ _ _ _ r0 r1 r2 r5, db_real _ _ _ r0 r1 r5, fun r j => ?_, fun xo z j => ?_⟩
  · refine (rows_real _ _ _ _ _ _ _ _ _ r0 r1 r2 r3 r4 r5 r6 r7 r8 r j).trans ?_
    rw [eh]; rfl
  · refine (gain_real _ _ _ _ _ _ _ _ xo r0 r1 r2 r3 r4 r5 r6 r7 z j).trans ?_
    simp only [eh]; rfl

theorem outs1 (t : Fin cfg1.N) :
    (outsAt1 V c t.val t.isLt).1 = k1_pay7 (F := Ideal) (iblk1 V c 0 t) (iblk1 V c 5 t) (iblk1 V c 1 t) (iblk1 V c 2 t)
    ∧ (outsAt1 V c t.val t.isLt).2.1 = k1_pay8 (F := Ideal) (iblk1 V c 0 t) (iblk1 V c 5 t) (iblk1 V c 1 t)
    ∧ (outsAt1 V c t.val t.isLt).2.2.1 = rows (F := Ideal) (iblk1 V c 0 t) (iblk1 V c 1 t) (iblk1 V c 2 t) (iblk1 V c 3 t) (iblk1 V c 4 t) (iblk1 V c 5 t)
        (iblk1 V c 6 t) (iblk1 V c 7 t) (iblk1 V c 8 t) := by
  by_cases h0 : t.val % 16 = 0
  · rw [outsAt1_A V c t h0]
    dsimp only
    rw [(out_A (F := Ideal) ..).1, (out_A (F := Ideal) ..).2.1, (out_A (F := Ideal) ..).2.2.1]
    exact ⟨rfl, rfl, rfl⟩
  · rw [outsAt1_B V c t h0]
    dsimp only
    rw [(out_B (F := Ideal) ..).1, (out_B (F := Ideal) ..).2.1, (out_B (F := Ideal) ..).2.2.1]
    exact ⟨rfl, rfl, rfl⟩

include h hp in
/-- The gain's gradient after a block: the sum over the blocks so far. -/
theorem outs_gain : ∀ (n : ℕ) (hn : n < cfg1.N) (z : Fin 1) (j : Fin 1024), (outsAt1 V c n hn).2.2.2 (ix2 z j)
    = ((∑ s : Fin (n + 1), ∑ r, v.dgTerm j (row ⟨s.val, lt_of_lt_of_le s.isLt hn⟩ r) : ℝ) : EReal)
  | 0, hn, z, j => by
    rw [outsAt1_A V c ⟨0, hn⟩ rfl]
    dsimp only
    rw [(out_A (F := Ideal) ..).2.2.2]
    have z0 : (k1_pay2 (F := Ideal) : Vec Ideal S1x1024 .f32) (ix2 z j) = 0 := by pointwise [k1_pay2]
    rw [(point1 h hp ⟨0, hn⟩).2.2.2, z0, zero_add]
    simp
  | n + 1, hn, z, j => by
    have hB : ¬(⟨n + 1, hn⟩ : Fin cfg1.N).val % 16 = 0 := by have : n + 1 < 16 := hn; dsimp only; omega
    rw [outsAt1_B V c ⟨n + 1, hn⟩ hB]
    dsimp only
    rw [(out_B (F := Ideal) ..).2.2.2]
    rw [(point1 h hp ⟨n + 1, hn⟩).2.2.2]
    refine (congrArg (· + _) (outs_gain n (Nat.lt_of_succ_lt hn) z j)).trans ?_
    rw [← EReal.coe_add, Fin.sum_univ_castSucc (n := n + 1)]
    rfl

/-! ## The arrays after the regions -/

include h in
theorem array0_a (i : Fin 8192) (f : Fin 1408) : (dat0 V c).arrAt 6 cfg0.N (ix2 i (col 0 f)) = resA v (ix2 i (col 0 f)) := by
  refine ((dat0 V c).arrAt_apply_of_coversWhere 6 (resA v) (P := fun i : S8192x2816.Idx => (i 1 : ℕ) / 1408 = 0) (fun β => β (1 : Fin 2) = 0)
    (by decide +kernel) (fun t _ y => ?_) (fun j => Iff.rfl) _).trans (if_pos (Nat.div_eq_of_lt (by show 0 * 1408 + f.val < 1408; have := f.isLt; omega)))
  rw [after0_6, (out0_eq _ _ _ _ _ _).1]
  blk_simp
  exact (congrArg _ (ix2_eta y).symm).trans <| ((point0 h t).1 ⟨(y 0).val, (y 0).isLt⟩ ⟨(y 1).val, (y 1).isLt⟩).trans <| congrArg (resA v)
    (eq_ix2 _ _ _ (by show win0_6.index t 0 * 512 + 1 * (y 0).val = t.val * 512 + (y 0).val; rw [(idx0 t).2.2.2.2.2.2.1.1]; omega)
      (by show win0_6.index t 1 * 1408 + 1 * (y 1).val = 0 * 1408 + (y 1).val; rw [(idx0 t).2.2.2.2.2.2.1.2]; omega)).symm

include h in
theorem array0_b (i : Fin 8192) (f : Fin 1408) : (dat0 V c).arrAt 7 cfg0.N (ix2 i (col 0 f)) = resB v (ix2 i (col 0 f)) := by
  refine ((dat0 V c).arrAt_apply_of_coversWhere 7 (resB v) (P := fun i : S8192x2816.Idx => (i 1 : ℕ) / 1408 = 0) (fun β => β (1 : Fin 2) = 0)
    (by decide +kernel) (fun t _ y => ?_) (fun j => Iff.rfl) _).trans (if_pos (Nat.div_eq_of_lt (by show 0 * 1408 + f.val < 1408; have := f.isLt; omega)))
  rw [after0_7, (out0_eq _ _ _ _ _ _).2.1]
  blk_simp
  exact (congrArg _ (ix2_eta y).symm).trans <| ((point0 h t).2.1 ⟨(y 0).val, (y 0).isLt⟩ ⟨(y 1).val, (y 1).isLt⟩).trans <| congrArg (resB v)
    (eq_ix2 _ _ _ (by show win0_7.index t 0 * 512 + 1 * (y 0).val = t.val * 512 + (y 0).val; rw [(idx0 t).2.2.2.2.2.2.2.1.1]; omega)
      (by show win0_7.index t 1 * 1408 + 1 * (y 1).val = 0 * 1408 + (y 1).val; rw [(idx0 t).2.2.2.2.2.2.2.1.2]; omega)).symm

include h in
theorem array0_part : (dat0 V c).arrAt 8 cfg0.N = resPart v := by
  refine (dat0 V c).arrAt_eq_of_covers 8 (resPart v) (by decide +kernel) (fun t _ y => ?_)
  rw [after0_8, (out0_eq _ _ _ _ _ _).2.2]
  blk_simp
  exact (congrArg _ (ix2_eta y).symm).trans <| ((point0 h t).2.2 ⟨(y 0).val, (y 0).isLt⟩ ⟨(y 1).val, (y 1).isLt⟩).trans <| congrArg (resPart v)
    (eq_ix2 _ _ _ (by show win0_8.index t 0 * 512 + 1 * (y 0).val = t.val * 512 + (y 0).val; rw [(idx0 t).2.2.2.2.2.2.2.2.1]; omega)
      (by show win0_8.index t 1 * 1024 + 1 * (y 1).val = (y 1).val; rw [(idx0 t).2.2.2.2.2.2.2.2.2]; omega)).symm

include h hp in
theorem array1_a (ha : ∀ i f, (V c main_v27_0 : Vec Ideal S8192x2816 .bf16) (ix2 i (col 0 f)) = resA v (ix2 i (col 0 f))) :
    (dat1 V c).arrAt 9 cfg1.N = resA v := by
  refine (dat1 V c).arrAt_eq_of_coversWhere_of_agree 9 (resA v) (fun β => β (1 : Fin 2) = 1) (by decide +kernel) (fun t _ y => ?_)
    (fun (j : S8192x2816.Idx) hj => ?_)
  · rw [after1_9, (outs1 t).1]
    blk_simp
    exact (congrArg _ (ix2_eta y).symm).trans <| ((point1 h hp t).1 ⟨(y 0).val, (y 0).isLt⟩ ⟨(y 1).val, (y 1).isLt⟩).trans <| congrArg (resA v)
      (eq_ix2 _ _ _ (by show win1_9.index t 0 * 512 + 1 * (y 0).val = t.val * 512 + (y 0).val; rw [(idx1 t).2.2.2.2.2.2.2.2.2.1.1]; omega)
      (by show win1_9.index t 1 * 1408 + 1 * (y 1).val = 1 * 1408 + (y 1).val; rw [(idx1 t).2.2.2.2.2.2.2.2.2.1.2]; omega)).symm
  · have hj1 : (j 1 : ℕ) < 2816 := (j 1).isLt
    have hj2 : ¬(j 1 : ℕ) / 1408 = 1 := hj
    have e : j = ix2 (j 0) (col 0 ⟨(j 1).val, by omega⟩) := eq_ix2 _ _ _ rfl (by show (j 1).val = 0 * 1408 + (j 1).val; omega)
    rw [A_eq1]
    show (V c main_v27_0 : Vec Ideal S8192x2816 .bf16) j = resA v j
    rw [e]
    exact ha _ _

include h hp in
theorem array1_b (ha : ∀ i f, (V c main_v27_1 : Vec Ideal S8192x2816 .bf16) (ix2 i (col 0 f)) = resB v (ix2 i (col 0 f))) :
    (dat1 V c).arrAt 10 cfg1.N = resB v := by
  refine (dat1 V c).arrAt_eq_of_coversWhere_of_agree 10 (resB v) (fun β => β (1 : Fin 2) = 1) (by decide +kernel) (fun t _ y => ?_)
    (fun (j : S8192x2816.Idx) hj => ?_)
  · rw [after1_10, (outs1 t).2.1]
    blk_simp
    exact (congrArg _ (ix2_eta y).symm).trans <| ((point1 h hp t).2.1 ⟨(y 0).val, (y 0).isLt⟩ ⟨(y 1).val, (y 1).isLt⟩).trans <| congrArg (resB v)
      (eq_ix2 _ _ _ (by show win1_10.index t 0 * 512 + 1 * (y 0).val = t.val * 512 + (y 0).val; rw [(idx1 t).2.2.2.2.2.2.2.2.2.2.1.1]; omega)
      (by show win1_10.index t 1 * 1408 + 1 * (y 1).val = 1 * 1408 + (y 1).val; rw [(idx1 t).2.2.2.2.2.2.2.2.2.2.1.2]; omega)).symm
  · have hj1 : (j 1 : ℕ) < 2816 := (j 1).isLt
    have hj2 : ¬(j 1 : ℕ) / 1408 = 1 := hj
    have e : j = ix2 (j 0) (col 0 ⟨(j 1).val, by omega⟩) := eq_ix2 _ _ _ rfl (by show (j 1).val = 0 * 1408 + (j 1).val; omega)
    rw [A_eq1]
    show (V c main_v27_1 : Vec Ideal S8192x2816 .bf16) j = resB v j
    rw [e]
    exact ha _ _

include h hp in
theorem array1_x : (dat1 V c).arrAt 11 cfg1.N = resX v := by
  refine (dat1 V c).arrAt_eq_of_covers 11 (resX v) (by decide +kernel) (fun t _ y => ?_)
  rw [after1_11, (outs1 t).2.2]
  blk_simp
  exact (congrArg _ (ix2_eta y).symm).trans <| ((point1 h hp t).2.2.1 ⟨(y 0).val, (y 0).isLt⟩ ⟨(y 1).val, (y 1).isLt⟩).trans <| congrArg (resX v)
    (eq_ix2 _ _ _ (by show win1_11.index t 0 * 512 + 1 * (y 0).val = t.val * 512 + (y 0).val; rw [(idx1 t).2.2.2.2.2.2.2.2.2.2.2.1.1]; omega)
      (by show win1_11.index t 1 * 1024 + 1 * (y 1).val = (y 1).val; rw [(idx1 t).2.2.2.2.2.2.2.2.2.2.2.1.2]; omega)).symm

include h hp in
theorem array1_g : (dat1 V c).arrAt 12 cfg1.N = resG v := by
  refine (dat1 V c).arrAt_eq_of_covers 12 (resG v) (by decide +kernel) (fun t hf y => ?_)
  have h15 : t.val = 15 := by have := (flush1_12 t).mp hf; have : t.val < 16 := t.isLt; omega
  obtain rfl : t = ⟨15, by decide⟩ := Fin.ext h15
  rw [after1_12]
  blk_simp
  refine (congrArg _ (ix2_eta y).symm).trans <| (outs_gain h hp 15 _ ⟨(y 0).val, (y 0).isLt⟩ ⟨(y 1).val, (y 1).isLt⟩).trans ?_
  have e : ((∑ k, v.dgTerm (y 1) k : ℝ) : EReal) = resG v (ix2 (y 0) (y 1)) := rfl
  rw [Fin.sum_univ_tiles 16 512 rfl (v.dgTerm (y 1))] at e
  refine Eq.trans ?_ (e.trans ?_)
  · rfl
  · exact congrArg (resG v) (eq_ix2 _ _ _ (by show win1_12.index _ 0 * 1 + 1 * (y 0).val = (y 0).val; rw [(idx1 _).2.2.2.2.2.2.2.2.2.2.2.2.1]; omega)
      (by show win1_12.index _ 1 * 1024 + 1 * (y 1).val = (y 1).val; rw [(idx1 _).2.2.2.2.2.2.2.2.2.2.2.2.2]; omega)).symm
end

/-! ## The four results -/

section
variable {m : (ℓ : Loc nD τ sig) → Buf (Elt Ideal) ℓ} (ρ : Dev nD → PrngReg) {c : Dev nD} {v : Vals} (h : Holds m c v)

/-- The second region finds in its two half-written results what the first wrote. -/
theorem copied : V3 m ρ c main_v27_0 = (dat0 (V1 m ρ) c).arrAt 6 cfg0.N ∧ V3 m ρ c main_v27_1 = (dat0 (V1 m ρ) c).arrAt 7 cfg0.N := by
  constructor
  · refine Eq.trans ?_ (W2_arr m ρ c 6)
    show StableHlo.after hostOps1 (W2 m ρ c) (Proc.devRef .tc main_v27_0) = _
    after_results
    rfl
  · refine Eq.trans ?_ (W2_arr m ρ c 7)
    show StableHlo.after hostOps1 (W2 m ρ c) (Proc.devRef .tc main_v27_1) = _
    after_results
    rfl

include h in
theorem results : W4 m ρ c (Proc.devRef .tc main_v27_0) = resA v ∧ W4 m ρ c (Proc.devRef .tc main_v27_1) = resB v
    ∧ W4 m ρ c (Proc.devRef .tc main_v27_2) = resX v ∧ W4 m ρ c (Proc.devRef .tc main_v27_3) = resG v := by
  have e1 := entry1 (ρ := ρ) h
  have e3 := entry3 (ρ := ρ) h
  have hp : ∀ i j, (V3 m ρ c main_v26_2 : Vec Ideal S8192x1024 .f32) (ix2 i j) = ((half v 0 i j : ℝ) : EReal) := by
    intro i j
    rw [show V3 m ρ c main_v26_2 = resPart v from ((W3_of m ρ c main_v26_2 (by decide)).trans (W2_arr m ρ c 8)).trans (array0_part e1)]
    rfl
  refine ⟨(W4_arr m ρ c 9).trans (array1_a e3 hp fun i f => ?_), (W4_arr m ρ c 10).trans (array1_b e3 hp fun i f => ?_),
    (W4_arr m ρ c 11).trans (array1_x e3 hp), (W4_arr m ρ c 12).trans (array1_g e3 hp)⟩
  · rw [(copied ρ).1]; exact array0_a e1 i f
  · rw [(copied ρ).2]; exact array0_b e1 i f
end
end Cert.FfnKernelIdeal.Value
end
-- ==== Proof.FfnReferenceValue.lean ====
/-
  The feed-forward block's reference gradient: its four results as real numbers of its arguments, the terms the run
  composes read stage by stage. The normalisation's part is the projection's, over this block's gradient of the
  normalised row.
-/
module

public import proofs.«01_k».proof.Proof.Gen.FfnReferenceIdeal.Run
public import proofs.«01_k».proof.Proof.FfnMath
public import proofs.«01_k».proof.Proof.ProjReferenceValue

@[expose] public section

noncomputable section

namespace Cert.FfnReferenceIdeal.Value

open Cert.FfnReferenceIdeal Cert.FfnReferenceIdeal.Gen Idealize.ShloMosaic Idealize.ShloMosaic.TcCoe Idealize.SL.Sem Cert.Reals Cert.FfnMath
open Cert.ProjReferenceIdeal.Value (ms ms_real outX outG outX_real outG_real)

section
variable (x : FVec Ideal S1x8192x1024 .f32) (g : FVec Ideal S1024 .f32) (wg wu w : FVec Ideal S1024x2816 .f32)
  (wd : FVec Ideal S2816x1024 .f32) (d : FVec Ideal S1x8192x1024 .f32)

/-- The normalised rows times the gain. -/
def norm : FVec Ideal S1x8192x1024 .f32 :=
  mulf (mulf x (broadcastInDim S1x8192x1024 ![0, 1, 2] bcast_S1x8192x1_S1x8192x1024_0_1_2 (Host.rsqrt (ms x)))) (broadcastInDim S1x8192x1024 ![0, 1, 2] bcast_S1x1x1024_S1x8192x1024_0_1_2 (broadcastInDim S1x1x1024 ![2] bcast_S1024_S1x1x1024_2 g))

/-- The same through a weight. -/
def up : FVec Ideal S1x8192x2816 .f32 := Host.dotGeneral dot_S1x8192x1024_S1024x2816_S1x8192x2816_2_0_01_1_n_n none (norm x g) w

/-- The logistic of the gate. -/
def sg : FVec Ideal S1x8192x2816 .f32 :=
  Host.divf (broadcastInDim S1x8192x2816 ![] bcast_S_S1x8192x2816 (constant S_ .f32 0x3F800000#32)) (addf (broadcastInDim S1x8192x2816 ![] bcast_S_S1x8192x2816 (constant S_ .f32 0x3F800000#32)) (Host.exp (Host.negf (up x g wg))))

/-- The gradient of the gated product. -/
def df : FVec Ideal S1x8192x2816 .f32 := Host.dotGeneral dot_S1x8192x1024_S2816x1024_S1x8192x2816_2_1_01_0_n_n none d wd

/-- The gradients of the two factors' arguments. -/
def dA : FVec Ideal S1x8192x2816 .f32 :=
  addf (mulf (mulf (df wd d) (up x g wu)) (sg x g wg)) (mulf (mulf (up x g wg) (mulf (df wd d) (up x g wu))) (mulf (sg x g wg) (subf (broadcastInDim S1x8192x2816 ![] bcast_S_S1x8192x2816 (constant S_ .f32 0x3F800000#32)) (sg x g wg))))
def dB : FVec Ideal S1x8192x2816 .f32 := mulf (mulf (up x g wg) (sg x g wg)) (df wd d)

/-- The gradient of the normalised rows. -/
def dh : FVec Ideal S1x8192x1024 .f32 :=
  addf (Host.dotGeneral dot_S1x8192x2816_S1024x2816_S1x8192x1024_2_1_01_0_n_n none (dB x g wg wd d) wu) (Host.dotGeneral dot_S1x8192x2816_S1024x2816_S1x8192x1024_2_1_01_0_n_n none (dA x g wg wu wd d) wg)

/-- The first two results. -/
def outA : FVec Ideal S8192x2816 .bf16 := truncf .bf16 (shapeCast _ (dA x g wg wu wd d) shapeCasts_S1x8192x2816_S8192x2816) bitsLt_bf16_f32
def outB : FVec Ideal S8192x2816 .bf16 := truncf .bf16 (shapeCast _ (dB x g wg wd d) shapeCasts_S1x8192x2816_S8192x2816) bitsLt_bf16_f32

/-! ## Over real numbers -/

variable {v : Vals} (hx : ∀ i j, x (ix3 0 i j) = ((v.x i j : ℝ) : EReal)) (hg : ∀ j, g (ix1 j) = ((v.g j : ℝ) : EReal))
  (hwg : ∀ j f, wg (ix2 j f) = ((v.wg j f : ℝ) : EReal)) (hwu : ∀ j f, wu (ix2 j f) = ((v.wu j f : ℝ) : EReal))
  (hwd : ∀ f j, wd (ix2 f j) = ((v.wd f j : ℝ) : EReal)) (hd : ∀ i j, d (ix3 0 i j) = ((v.d i j : ℝ) : EReal))

include hx hg in
theorem up_real {w' : Fin 1024 → Fin 2816 → ℝ} (hw : ∀ j f, w (ix2 j f) = ((w' j f : ℝ) : EReal)) (i : Fin 8192) (f : Fin 2816) :
    up x g w (ix3 0 i f) = ((∑ k, v.h i k * w' k f : ℝ) : EReal) := by
  have e : up x g w (ix3 0 i f) = ∑ k, norm x g (ix3 0 i k) * w (ix2 k f) := by pointwise [up]
  rw [e, coe_sum]
  refine Finset.sum_congr rfl fun k _ => ?_
  have n : norm x g (ix3 0 i k) = x (ix3 0 i k) * Ideal.rsqrt (ms x (ix3 0 i 0)) * g (ix1 k) := by pointwise [norm]
  rw [n, hx, ms_real x hx, rsqrt_coe (msq_pos _), hg, hw, ← EReal.coe_mul, ← EReal.coe_mul, ← EReal.coe_mul]
  rfl

include hx hg hwg in
theorem sg_real (i : Fin 8192) (f : Fin 2816) : sg x g wg (ix3 0 i f) = ((logistic (v.a i f) : ℝ) : EReal) := by
  have e : sg x g wg (ix3 0 i f) = Ideal.div 1 (1 + Ideal.exp (-up x g wg (ix3 0 i f))) := by pointwise [sg]
  rw [e, up_real x g wg hx hg hwg]
  exact logistic_coe _

include hwd hd in
theorem df_real (i : Fin 8192) (f : Fin 2816) : df wd d (ix3 0 i f) = ((v.df i f : ℝ) : EReal) := by
  have e : df wd d (ix3 0 i f) = ∑ k, d (ix3 0 i k) * wd (ix2 f k) := by pointwise [df]
  rw [e]
  unfold Vals.df
  rw [coe_sum]
  exact Finset.sum_congr rfl fun k _ => by rw [hd, hwd, EReal.coe_mul]

include hx hg hwg hwu hwd hd in
theorem dA_real (i : Fin 8192) (f : Fin 2816) : dA x g wg wu wd d (ix3 0 i f) = ((v.da i f : ℝ) : EReal) := by
  have e : dA x g wg wu wd d (ix3 0 i f) = df wd d (ix3 0 i f) * up x g wu (ix3 0 i f) * sg x g wg (ix3 0 i f)
      + up x g wg (ix3 0 i f) * (df wd d (ix3 0 i f) * up x g wu (ix3 0 i f)) * (sg x g wg (ix3 0 i f) * (1 - sg x g wg (ix3 0 i f))) := by
    pointwise [dA]
  rw [e, df_real wd d hwd hd, sg_real x g wg hx hg hwg, up_real x g wg hx hg hwg, up_real x g wu hx hg hwu, ← EReal.coe_one]
  simp only [← EReal.coe_mul, ← EReal.coe_sub, ← EReal.coe_add]
  refine congrArg _ ?_
  show v.df i f * v.b i f * logistic (v.a i f) + v.a i f * (v.df i f * v.b i f) * (logistic (v.a i f) * (1 - logistic (v.a i f))) = _
  unfold Vals.da gateA
  ring

include hx hg hwg hwd hd in
theorem dB_real (i : Fin 8192) (f : Fin 2816) : dB x g wg wd d (ix3 0 i f) = ((v.db i f : ℝ) : EReal) := by
  have e : dB x g wg wd d (ix3 0 i f) = up x g wg (ix3 0 i f) * sg x g wg (ix3 0 i f) * df wd d (ix3 0 i f) := by
    pointwise [dB]
  rw [e, df_real wd d hwd hd, sg_real x g wg hx hg hwg, up_real x g wg hx hg hwg]
  simp only [← EReal.coe_mul]
  refine congrArg _ ?_
  show v.a i f * logistic (v.a i f) * v.df i f = _
  unfold Vals.db gateB
  ring

include hx hg hwg hwu hwd hd in
theorem dh_real (i : Fin 8192) (j : Fin 1024) : dh x g wg wu wd d (ix3 0 i j) = ((v.dh i j : ℝ) : EReal) := by
  have e : dh x g wg wu wd d (ix3 0 i j) = (∑ f, dB x g wg wd d (ix3 0 i f) * wu (ix2 j f)) + ∑ f, dA x g wg wu wd d (ix3 0 i f) * wg (ix2 j f) := by
    pointwise [dh]
  rw [e, add_comm]
  unfold Vals.dh
  rw [EReal.coe_add, coe_sum, coe_sum]
  exact congrArg₂ (· + ·)
    (Finset.sum_congr rfl fun f _ => by rw [dA_real x g wg wu wd d hx hg hwg hwu hwd hd, hwg, EReal.coe_mul])
    (Finset.sum_congr rfl fun f _ => by rw [dB_real x g wg wd d hx hg hwg hwd hd, hwu, EReal.coe_mul])

include hx hg hwg hwu hwd hd in
theorem outA_real (i : Fin 8192) (f : Fin 2816) : outA x g wg wu wd d (ix2 i f) = ((v.da i f : ℝ) : EReal) := by
  have e : outA x g wg wu wd d (ix2 i f) = dA x g wg wu wd d (ix3 0 i f) := by pointwise [outA]
  rw [e, dA_real x g wg wu wd d hx hg hwg hwu hwd hd]

include hx hg hwg hwd hd in
theorem outB_real (i : Fin 8192) (f : Fin 2816) : outB x g wg wd d (ix2 i f) = ((v.db i f : ℝ) : EReal) := by
  have e : outB x g wg wd d (ix2 i f) = dB x g wg wd d (ix3 0 i f) := by pointwise [outB]
  rw [e, dB_real x g wg wd d hx hg hwg hwd hd]
end

/-- A reshape to the shape it had. -/
theorem cast_self (d : FVec Ideal S1x8192x1024 .f32) : shapeCast S1x8192x1024 d shapeCasts_S1x8192x1024_S1x8192x1024 = d := by
  funext i
  obtain ⟨a, b, c, rfl⟩ : ∃ (a : Fin 1) (b : Fin 8192) (c : Fin 1024), i = ix3 a b c := ⟨i 0, i 1, i 2, (ix3_eta _).symm⟩
  pointwise

/-! ## The run's terms -/

variable (m : (ℓ : Loc nD τ sig) → Buf (Elt Ideal) ℓ) (c : Dev nD)

/-- A function of the six arguments, at the run's. -/
abbrev at_args {α : Type} (f : FVec Ideal S1x8192x1024 .f32 → FVec Ideal S1024 .f32 → FVec Ideal S1024x2816 .f32 → FVec Ideal S1024x2816 .f32
    → FVec Ideal S2816x1024 .f32 → FVec Ideal S1x8192x1024 .f32 → α) : α :=
  f (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem res_a : res_main_v83 m c = at_args m c outA := by
  unfold res_main_v83 at_args outA dA df sg up norm ms
  rfl

theorem res_x : res_main_v86 m c = at_args m c fun x g wg wu wd d =>
    outX x g d (dh x g wg wu wd (shapeCast _ d shapeCasts_S1x8192x1024_S1x8192x1024)) := by
  unfold res_main_v86 at_args outX Cert.ProjReferenceIdeal.Value.back Cert.ProjReferenceIdeal.Value.dhg dh dA dB df sg up norm ms
  rfl

theorem res_g : res_main_v87 m c = at_args m c fun x g wg wu wd d =>
    outG x (dh x g wg wu wd (shapeCast _ d shapeCasts_S1x8192x1024_S1x8192x1024)) := by
  unfold res_main_v87 at_args outG dh dA dB df sg up norm ms
  rfl

end Cert.FfnReferenceIdeal.Value
end
-- ==== Proof.FfnClaims.lean ====
/-
  The claims about the feed-forward block's gradient: the frames of its programs, and the algebraic claim from the two
  value modules.
-/
module

public import proofs.«01_k».proof.Defs
public import proofs.«01_k».proof.Proof.Gen.FfnKernel.Frame
public import proofs.«01_k».proof.Proof.Gen.Pre_ffn_finite
public import proofs.«01_k».proof.Proof.FfnRun
public import proofs.«01_k».proof.Proof.FfnKernelResults
public import proofs.«01_k».proof.Proof.FfnReferenceValue
public import Idealize.ShloMosaic.Adequacy
public import Idealize.ShloMosaic.Init

@[expose] public section

noncomputable section

namespace Cert.Proof.Ffn

open Idealize.ShloMosaic Idealize.SL.Sem Cert.Reals Cert.FfnMath

theorem frame_p : Cert.quiescent_FfnKernel := fun m ρ _ => Cert.FfnKernel.Gen.frame m ρ
theorem frame_pi : Cert.quiescent_FfnKernelIdeal := fun m ρ _ => Cert.FfnKernelIdeal.Gen.frame m ρ
theorem frame_pi_pre : Cert.quiescent_FfnKernelIdeal_pre_ffn_finite := fun m ρ _ => Cert.FfnKernelIdeal.Gen.frame m ρ

theorem frame_ri : Cert.quiescent_FfnReferenceIdeal := fun m ρ _ =>
  (θ_run Cert.FfnReferenceIdeal.defs _ _).mono (fun r h => ⟨fun c => (h c).2.2.2.2,
      Idealize.ShloMosaic.sem_eq_zero_of_no_sems (by decide) r.2⟩)
    (Cert.FfnReferenceIdeal.Value.run (F := Ideal) m ρ)
theorem frame_ri_pre : Cert.quiescent_FfnReferenceIdeal_pre_ffn_finite := fun m ρ _ => frame_ri m ρ trivial

open Cert.FfnKernelIdeal Cert.FfnKernelIdeal.Value in
/-- Where the precondition holds, the arguments are real numbers. -/
theorem holds (m : (ℓ : Loc nD τ sig) → Buf (Elt Ideal) ℓ) (h : Cert.Pre_FfnKernelIdeal_ffn_finite m) (c : Dev nD) :
    ∃ v, Holds m c v := by
  obtain ⟨h0, h1, h2, h3, h4, h5⟩ := h c
  choose x hx using fun i => real_of_finite (fun _ => ofBits_inf) h0 i
  choose g hg using fun i => real_of_finite (fun _ => ofBits_inf) h1 i
  choose wg hwg using fun i => real_of_finite (fun _ => ofBits_inf) h2 i
  choose wu hwu using fun i => real_of_finite (fun _ => ofBits_inf) h3 i
  choose wd hwd using fun i => real_of_finite (fun _ => ofBits_inf) h4 i
  choose d hd using fun i => real_of_finite (fun _ => ofBits_inf) h5 i
  exact ⟨⟨fun i j => x (ix3 0 i j), fun j => g (ix1 j), fun j f => wg (ix2 j f), fun j f => wu (ix2 j f), fun f j => wd (ix2 f j),
    fun i j => d (ix3 0 i j)⟩, ⟨fun _ _ => hx _, fun _ => hg _, fun _ _ => hwg _, fun _ _ => hwu _, fun _ _ => hwd _, fun _ _ => hd _⟩⟩

open Cert.FfnKernelIdeal Cert.FfnKernelIdeal.Gen Cert.FfnKernelIdeal.Value in
theorem algebraic : Cert.algebraic_FfnKernelIdeal_FfnReferenceIdeal_pre_ffn_finite := by
  intro m ρ m' ρ' hpre hagree
  choose v hv using holds m hpre
  refine ⟨fun c => resA (v c), fun c => resB (v c), fun c => resX (v c), fun c => resG (v c), ?_, ?_⟩
  · refine (θ_run Cert.FfnKernelIdeal.defs _ _).mono (fun r h c => ?_) (run_all m ρ)
    obtain ⟨ra, rb, rx, rg⟩ := results ρ (hv c)
    have at_end := fun (b : Ref Cert.FfnKernelIdeal.sig .tc) hb => h c _ (Cert.FfnKernelIdeal.Gen.mem_uc b hb)
    have args := fun (b : Ref Cert.FfnKernelIdeal.sig .tc) hb ha => (at_end b hb).trans (Cert.FfnKernelIdeal.Gen.W4_args m ρ c b ha)
    exact ⟨(at_end main_v27_0 (by decide)).trans ra, (at_end main_v27_1 (by decide)).trans rb,
      (at_end main_v27_2 (by decide)).trans rx, (at_end main_v27_3 (by decide)).trans rg,
      args main_arg0 (by decide) (by decide), args main_arg1 (by decide) (by decide), args main_arg2 (by decide) (by decide),
      args main_arg3 (by decide) (by decide), args main_arg4 (by decide) (by decide), args main_arg5 (by decide) (by decide)⟩
  · refine (θ_run Cert.FfnReferenceIdeal.defs _ _).mono
      (fun _ h c => ⟨(h c).1.trans ?_, (h c).2.1.trans ?_, (h c).2.2.1.trans ?_, (h c).2.2.2.1.trans ?_, (h c).2.2.2.2⟩)
      (Cert.FfnReferenceIdeal.Value.run (F := Ideal) m' ρ')
    all_goals
      obtain ⟨e0, e1, e2, e3, e4, e5⟩ := hagree c
    · rw [Cert.FfnReferenceIdeal.Value.res_a]
      unfold Cert.FfnReferenceIdeal.Value.at_args
      rw [e0, e1, e2, e3, e4, e5]
      funext i
      obtain ⟨a, b, rfl⟩ : ∃ (a : Fin 8192) (b : Fin 2816), i = ix2 a b := ⟨i 0, i 1, (ix2_eta _).symm⟩
      exact Cert.FfnReferenceIdeal.Value.outA_real _ _ _ _ _ _ (hv c).x (hv c).g (hv c).wg (hv c).wu (hv c).wd (hv c).d a b
    · rw [e0, e1, e2, e4, e5]
      funext i
      obtain ⟨a, b, rfl⟩ : ∃ (a : Fin 8192) (b : Fin 2816), i = ix2 a b := ⟨i 0, i 1, (ix2_eta _).symm⟩
      exact Cert.FfnReferenceIdeal.Value.outB_real _ _ _ _ _ (hv c).x (hv c).g (hv c).wg (hv c).wd (hv c).d a b
    · rw [Cert.FfnReferenceIdeal.Value.res_x]
      unfold Cert.FfnReferenceIdeal.Value.at_args
      rw [e0, e1, e2, e3, e4, e5]
      dsimp only
      rw [Cert.FfnReferenceIdeal.Value.cast_self]
      funext i
      obtain ⟨a, b, rfl⟩ : ∃ (a : Fin 8192) (b : Fin 1024), i = ix2 a b := ⟨i 0, i 1, (ix2_eta _).symm⟩
      refine (Cert.ProjReferenceIdeal.Value.outX_real _ _ _ _ (hv c).x (hv c).g (h' := (v c).dh)
        (Cert.FfnReferenceIdeal.Value.dh_real _ _ _ _ _ _ (hv c).x (hv c).g (hv c).wg (hv c).wu (hv c).wd (hv c).d) a b).trans ?_
      rw [(hv c).d a b, ← EReal.coe_add]
      rfl
    · rw [Cert.FfnReferenceIdeal.Value.res_g]
      unfold Cert.FfnReferenceIdeal.Value.at_args
      rw [e0, e1, e2, e3, e4, e5]
      dsimp only
      rw [Cert.FfnReferenceIdeal.Value.cast_self]
      funext i
      obtain ⟨a, b, rfl⟩ : ∃ (a : Fin 1) (b : Fin 1024), i = ix2 a b := ⟨i 0, i 1, (ix2_eta _).symm⟩
      exact Cert.ProjReferenceIdeal.Value.outG_real _ _ (hv c).x (h' := (v c).dh)
        (Cert.FfnReferenceIdeal.Value.dh_real _ _ _ _ _ _ (hv c).x (hv c).g (hv c).wg (hv c).wu (hv c).wd (hv c).d) a b

end Cert.Proof.Ffn
end
-- ==== Proof.MixStages.lean ====
/-
  The mixer's forward kernel, named piece by piece: the scores of one head in one block of 128 rows, the head's output
  there, the heads of a block side by side, and the attention's output of one grid point.
-/
module

public import proofs.«01_k».proof.Proof.Gen.MixKernelIdeal.Frame
public import Idealize.ShloMosaic.Lib.Pointwise
public import Idealize.ShloMosaic.Lib.StableHlo.ReadAt

@[expose] public section

noncomputable section

namespace Cert.MixKernelIdeal.Value

open Cert.MixKernelIdeal Cert.MixKernelIdeal.Gen Idealize.ShloMosaic Idealize.ShloMosaic.TcCoe Idealize.SL.Sem

variable {F : FTy → Type} [FloatOps F] [Named F]

theorem hz : (![0, 0] : Fin 2 → Nat) = fun _ => 0 := funext fun a => by fin_cases a <;> rfl

theorem rowsQ (s : ℕ) (h : s < 8) : S1024x128.Slices ![128 * s, 0] S128x128 := by
  have : ∀ t : Fin 8, S1024x128.Slices ![128 * t.val, 0] S128x128 := by decide
  exact this ⟨s, h⟩
theorem rowsK (s : ℕ) (h : s < 8) : S1152x128.Slices ![128 * s, 0] S256x128 := by
  have : ∀ t : Fin 8, S1152x128.Slices ![128 * t.val, 0] S256x128 := by decide
  exact this ⟨s, h⟩
theorem colsQ (p : ℕ) (h : p < 4) (a : Fin 2) : (![0, 1536 + 128 * p] : Fin 2 → Nat) a + S1024x128.size a ≤ S1024x2304.size a := by
  have : ∀ t : Fin 4, ∀ a : Fin 2, (![0, 1536 + 128 * t.val] : Fin 2 → Nat) a + S1024x128.size a ≤ S1024x2304.size a := by decide
  exact this ⟨p, h⟩ a
theorem atSink (n : ℕ) (h : n < 8) (a : Fin 1) : (![n] : Fin 1 → Nat) a + S1.size a ≤ S8.size a := by
  have : ∀ t : Fin 8, ∀ a : Fin 1, (![t.val] : Fin 1 → Nat) a + S1.size a ≤ S8.size a := by decide
  exact this ⟨n, h⟩ a

/-- The scores of one head in block `s` of a point, with the block's mask added. -/
def score (b : FVec F S128x256 .f32) (q : FVec F S1024x128 .bf16) (k : FVec F S1152x128 .bf16) (s : ℕ) (hs : s < 8) : FVec F S128x256 .f32 :=
  addf (matmul dot_S128x128_S256x128_S128x256_1_1_0_0_n_n none (extractStridedSlice S128x128 ![128 * s, 0] q (rowsQ s hs))
    (extractStridedSlice S256x128 ![128 * s, 0] k (rowsK s hs)) (constant S128x256 .f32 0x00000000#32)) b

/-- One head's output in block `s` of a point, in both halves of the lanes. -/
def unit (b : FVec F S128x256 .f32) (q : FVec F S1024x128 .bf16) (k v : FVec F S1152x128 .bf16) (sink : F .f32) (s : ℕ) (hs : s < 8) :
    FVec F S128x128 .f32 :=
  matmul dot_S128x256_S256x128_S128x128_1_0_0_1_n_n none (k0_pay120 (score b q k s hs) sink)
    (extractStridedSlice S256x128 ![128 * s, 0] v (rowsK s hs)) (constant S128x128 .f32 0x00000000#32)

variable (x0 : Vec F S8 .f32) (x1 : Vec F S1024x2304 .bf16) (x2 : Vec F S128x256 .bf16) (x3 : Vec F S3x512 .f32)
  (x4 x5 : Vec F S1x128 .f32) (x6 x7 : Vec F S1x512 .f32) (x8 : Vec F S1024x1024 .f32) (x9 : Vec F S1024x1024 .bf16)
  (xs : Vec F S8x512 .f32)

/-- The sink of query head `n`. -/
def sinkOf (n : ℕ) (h : n < 8) : F .f32 :=
  View.ld x0 (Rect.unit ![n] S1.size (atSink n h)) (Shape.Idx.first (numel1_S1.symm ▸ Nat.one_pos))

/-- The normalised query rows of the two heads of pair `p`. -/
def qPair (p : ℕ) (h : p < 4) : FVec F S1024x128 .bf16 :=
  k0_pay30 k0_pay14 (k0_pay15 x4) (View.ld x1 (Rect.unit ![0, 1536 + 128 * p] S1024x128.size (colsQ p h)))

/-- The normalised key rows of the point, after the block of rows before it. -/
def kBand : FVec F S1152x128 .bf16 :=
  k0_pay20 (k0_pay16 (View.ld x2 (Rect.unit ![0, 0] S128x128.size inb_S128x256_S128x128_0_0))
      (View.ld x1 (Rect.unit ![0, 2048] S1024x128.size inb_S1024x2304_S1024x128_0_2048)))
    (k0_pay18 (View.ld x2 (Rect.unit ![0, 0] S128x128.size inb_S128x256_S128x128_0_0))
      (View.ld x1 (Rect.unit ![0, 2048] S1024x128.size inb_S1024x2304_S1024x128_0_2048))) k0_pay19 x5

/-- The value rows of the point, after the block of rows before it. -/
def vBand : FVec F S1152x128 .bf16 :=
  k0_pay17 (View.ld x2 (Rect.unit ![0, 128] S128x128.size inb_S128x256_S128x128_0_128))
    (View.ld x1 (Rect.unit ![0, 2176] S1024x128.size inb_S1024x2304_S1024x128_0_2176))

/-- The output of the first head of pair `p` in block `s`, with keys and values of one head in both halves. -/
def lowOut (b : FVec F S128x256 .f32) (k v : FVec F S1152x128 .bf16) (s : ℕ) (hs : s < 8) (p : ℕ) (hp : p < 4) : FVec F S128x128 .f32 :=
  unit b (k0_pay31 k0_pay14 (qPair x1 x4 p hp)) k v (sinkOf x0 (2 * p) (by omega)) s hs

/-- The output of the second head of pair `p` in block `s`. -/
def highOut (b : FVec F S128x256 .f32) (k v : FVec F S1152x128 .bf16) (s : ℕ) (hs : s < 8) (p : ℕ) (hp : p < 4) : FVec F S128x128 .f32 :=
  unit b (k0_pay32 k0_pay14 (qPair x1 x4 p hp)) k v (sinkOf x0 (2 * p + 1) (by omega)) s hs

/-- The mask of the blocks that have a block before them. -/
def biasAfter : FVec F S128x256 .f32 := k0_pay29 (iota .tc S128x256 32 [1] iota_S128x256_d1_w32) k0_pay28

/-- The heads' outputs in block `s`, side by side; the keys and values of the two key heads, each in both halves. -/
def blockOut (b : FVec F S128x256 .f32) (k k' v v' : FVec F S1152x128 .bf16) (s : ℕ) (hs : s < 8) : FVec F S128x512 .f32 :=
  k0_pay325 k0_pay14 (lowOut x0 x1 x4 b k v s hs 0 (by decide)) (highOut x0 x1 x4 b k v s hs 0 (by decide))
    (lowOut x0 x1 x4 b k v s hs 1 (by decide)) (highOut x0 x1 x4 b k v s hs 1 (by decide))
    (lowOut x0 x1 x4 b k' v' s hs 2 (by decide)) (highOut x0 x1 x4 b k' v' s hs 2 (by decide))
    (lowOut x0 x1 x4 b k' v' s hs 3 (by decide)) (highOut x0 x1 x4 b k' v' s hs 3 (by decide))

/-- The blocks' outputs of one point, below one another. -/
def blocksOut (b b' : FVec F S128x256 .f32) (k k' v v' : FVec F S1152x128 .bf16) : FVec F S1024x512 .f32 :=
  k0_pay335 (blockOut x0 x1 x4 b k k' v v' 0 (by decide)) (blockOut x0 x1 x4 b' k k' v v' 1 (by decide))
    (blockOut x0 x1 x4 b' k k' v v' 2 (by decide)) (blockOut x0 x1 x4 b' k k' v v' 3 (by decide))
    (blockOut x0 x1 x4 b' k k' v v' 4 (by decide)) (blockOut x0 x1 x4 b' k k' v v' 5 (by decide))
    (blockOut x0 x1 x4 b' k k' v v' 6 (by decide)) (blockOut x0 x1 x4 b' k k' v v' 7 (by decide))

/-- One head of a pair in both halves of the lanes: the low head. -/
def lowBoth (x : FVec F S1152x128 .bf16) : FVec F S1152x128 .bf16 := k0_pay25 k0_pay14 x

/-- One head of a pair in both halves of the lanes: the high head. -/
def highBoth (x : FVec F S1152x128 .bf16) : FVec F S1152x128 .bf16 := k0_pay26 k0_pay14 x

/-- The attention's output of one grid point; `n` is the point's number. -/
def attnOut (n : BitVec 32) : FVec F S1024x512 .f32 :=
  blocksOut x0 x1 x4 (k0_pay27 n) biasAfter (lowBoth (kBand x1 x2 x5)) (highBoth (kBand x1 x2 x5)) (lowBoth (vBand x1 x2)) (highBoth (vBand x1 x2))

/-- The product of the convolution's two gates. -/
def taps : FVec F S1024x512 .f32 :=
  k0_pay5 (View.ld x1 (Rect.unit ![0, 512] S1024x512.size inb_S1024x2304_S1024x512_0_512))
    (View.ld x1 (Rect.unit ![0, 1024] S1024x512.size inb_S1024x2304_S1024x512_0_1024))

/-- The same, one row earlier; the row before the first is the last that was carried over. -/
def taps1 : FVec F S1024x512 .f32 :=
  k0_pay6 (View.ld x1 (Rect.unit ![0, 512] S1024x512.size inb_S1024x2304_S1024x512_0_512))
    (View.ld x1 (Rect.unit ![0, 1024] S1024x512.size inb_S1024x2304_S1024x512_0_1024)) xs

/-- The same, two rows earlier. -/
def taps2 : FVec F S1024x512 .f32 :=
  k0_pay7 (View.ld x1 (Rect.unit ![0, 512] S1024x512.size inb_S1024x2304_S1024x512_0_512))
    (View.ld x1 (Rect.unit ![0, 1024] S1024x512.size inb_S1024x2304_S1024x512_0_1024)) xs

/-- The rows carried over to the next point. -/
def carried : FVec F S8x512 .f32 :=
  k0_pay8 (View.ld x1 (Rect.unit ![0, 512] S1024x512.size inb_S1024x2304_S1024x512_0_512))
    (View.ld x1 (Rect.unit ![0, 1024] S1024x512.size inb_S1024x2304_S1024x512_0_1024))

/-- The convolution's output of one grid point. -/
def convOut : FVec F S1024x512 .bf16 :=
  k0_pay10 (taps x1) (taps1 x1 xs) (taps2 x1 xs) (View.ld x3 (Rect.unit ![0, 0] S1x512.size inb_S3x512_S1x512_0_0))
    (View.ld x3 (Rect.unit ![1, 0] S1x512.size inb_S3x512_S1x512_1_0)) (View.ld x3 (Rect.unit ![2, 0] S1x512.size inb_S3x512_S1x512_2_0))

/-- The convolution's half of the mixed rows. -/
def mixConv : FVec F S1024x512 .bf16 :=
  k0_pay11 (k0_pay4 (View.ld x1 (Rect.unit ![0, 0] S1024x512.size inb_S1024x2304_S1024x512_0_0)))
    (taps x1) (taps1 x1 xs) (taps2 x1 xs) (View.ld x3 (Rect.unit ![0, 0] S1x512.size inb_S3x512_S1x512_0_0))
    (View.ld x3 (Rect.unit ![1, 0] S1x512.size inb_S3x512_S1x512_1_0)) (View.ld x3 (Rect.unit ![2, 0] S1x512.size inb_S3x512_S1x512_2_0)) x6

/-- A row normalisation of the attention's output. -/
def normAttn (a : FVec F S1024x512 .f32) : FVec F S1024x512 .bf16 :=
  k0_pay1 a (mulf a a)
    (addf (extractStridedSlice S1024x128 ![0, 0] (mulf a a) slices_S1024x512_o0_0_S1024x128)
      (extractStridedSlice S1024x128 ![0, 128] (mulf a a) slices_S1024x512_o0_128_S1024x128))
    (extractStridedSlice S1024x128 ![0, 256] (mulf a a) slices_S1024x512_o0_256_S1024x128) x7

/-- The residual stream after the mixer. -/
def stream (c a : FVec F S1024x512 .bf16) : FVec F S1024x1024 .f32 :=
  addf (k0_pay13 c (k0_pay12 x8) (View.ld x9 (Rect.unit ![0, 0] S512x1024.size inb_S1024x1024_S512x1024_0_0)))
    (matmul dot_S1024x512_S512x1024_S1024x1024_1_0_0_1_n_n none a
      (shapeCast S512x1024 (View.ld x9 (Rect.unit ![512, 0] S512x1024.size inb_S1024x1024_S512x1024_512_0)) shapeCasts_S512x1024_S512x1024) (constant S1024x1024 .f32 0x00000000#32))

/-- The two halves of the mixed rows, side by side. -/
def halves (c a : FVec F S1024x512 .bf16) : Vec F S1024x1024 .bf16 :=
  View.canon [⟨Rect.unit ![0, 512] S1024x512.size inb_S1024x1024_S1024x512_0_512, a⟩,
    ⟨Rect.unit ![0, 0] S1024x512.size inb_S1024x1024_S1024x512_0_0, c⟩]

end Cert.MixKernelIdeal.Value
end
-- ==== Proof.MixCases.lean ====
/-
  The mixer's forward kernel, body by body: what one grid point leaves in the output blocks and in the carried rows, in
  the named pieces. The first point begins with zero rows carried; the others with what the point before left.
-/
module

public import proofs.«01_k».proof.Proof.MixStages

@[expose] public section

noncomputable section

namespace Cert.MixKernelIdeal.Value

open Cert.MixKernelIdeal Cert.MixKernelIdeal.Gen Idealize.ShloMosaic Idealize.ShloMosaic.TcCoe Idealize.SL.Sem

variable {F : FTy → Type} [FloatOps F] [Named F]

section
variable (c : Dev nD) (i : grid0.Coords) (a1 : Memref sig .tc .smem S8 .f32) (h1 : a1.IsWhole)
  (a2 : Memref sig .tc .vmem S1024x2304 .bf16) (h2 : a2.IsWhole) (a3 : Memref sig .tc .vmem S128x256 .bf16) (h3 : a3.IsWhole)
  (a4 : Memref sig .tc .vmem S3x512 .f32) (h4 : a4.IsWhole) (a5 : Memref sig .tc .vmem S1x128 .f32) (h5 : a5.IsWhole)
  (a6 : Memref sig .tc .vmem S1x128 .f32) (h6 : a6.IsWhole) (a7 : Memref sig .tc .vmem S1x512 .f32) (h7 : a7.IsWhole)
  (a8 : Memref sig .tc .vmem S1x512 .f32) (h8 : a8.IsWhole) (a9 : Memref sig .tc .vmem S1024x1024 .f32) (h9 : a9.IsWhole)
  (a10 : Memref sig .tc .vmem S1024x1024 .bf16) (h10 : a10.IsWhole) (a11 : Memref sig .tc .vmem S1024x1024 .bf16) (h11 : a11.IsWhole)
  (a12 : Memref sig .tc .vmem S1024x512 .bf16) (h12 : a12.IsWhole) (a13 : Memref sig .tc .vmem S1024x512 .bf16) (h13 : a13.IsWhole)
  (a14 : Memref sig .tc .vmem S1024x1024 .f32) (h14 : a14.IsWhole) (a15 : Memref sig .tc .vmem S8x512 .f32) (h15 : a15.IsWhole)
  (x0 : Vec F S8 .f32) (x1 : Vec F S1024x2304 .bf16) (x2 : Vec F S128x256 .bf16) (x3 : Vec F S3x512 .f32)
  (x4 x5 : Vec F S1x128 .f32) (x6 x7 : Vec F S1x512 .f32) (x8 : Vec F S1024x1024 .f32) (x9 : Vec F S1024x1024 .bf16)
  (xs : Vec F S8x512 .f32)

set_option maxHeartbeats 1000000 in
theorem ao_A (hc : cond0_0 i) :
    out0_A_12 c i a1 h1 a2 h2 a3 h3 a4 h4 a5 h5 a6 h6 a7 h7 a8 h8 a9 h9 a10 h10 a11 h11 a12 h12 a13 h13 a14 h14 a15 h15 hc x0 x1 x2 x3 x4 x5 x6 x7 x8 x9
      = (truncf .bf16 (attnOut x0 x1 x2 (View.ld x4 (Rect.unit ![0, 0] S1x128.size inb_S1x128_S1x128_0_0)) (View.ld x5 (Rect.unit ![0, 0] S1x128.size inb_S1x128_S1x128_0_0)) (BitVec.ofNat 32 (i 0).val)) bitsLt_bf16_f32 : FVec F S1024x512 .bf16) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 hc x0 x1 x2 x3 x4 x5 x6 x7 x8 x9)]
  unfold kernelRun0_A; dsimp only; sl_unfold_run_names; rw [View.canon_unit_zero hz]; dsimp only [View.readAt_eq_ld]
  rw [h1.read_unread, h2.read_unread, h3.read_unread, h5.read_unread, h6.read_unread]
  dsimp only [attnOut, blocksOut, lowBoth, highBoth, blockOut, lowOut, highOut, unit, score, sinkOf, qPair, kBand, vBand, biasAfter, halves, normAttn, stream, taps, taps1, taps2, carried, convOut, mixConv,
    k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay120, k0_pay325, k0_pay335, k0_pay336, k0_pay337, k0_pay338, k0_pay339, Nat.reduceMul, Nat.reduceAdd, Scalar.ofBits]

set_option maxHeartbeats 1000000 in
theorem y_A (hc : cond0_0 i) :
    out0_A_11 c i a1 h1 a2 h2 a3 h3 a4 h4 a5 h5 a6 h6 a7 h7 a8 h8 a9 h9 a10 h10 a11 h11 a12 h12 a13 h13 a14 h14 a15 h15 hc x0 x1 x2 x3 x4 x5 x6 x7 x8 x9
      = convOut x1 x3 k0_pay3 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 hc x0 x1 x2 x3 x4 x5 x6 x7 x8 x9)]
  unfold kernelRun0_A; dsimp only; sl_unfold_run_names; rw [View.canon_unit_zero hz]; rw [View.readCov_unit_zero (S := S8x512) _ hz]; dsimp only [View.readAt_eq_ld]
  rw [h2.read_unread, h4.read_unread]
  dsimp only [attnOut, blocksOut, lowBoth, highBoth, blockOut, lowOut, highOut, unit, score, sinkOf, qPair, kBand, vBand, biasAfter, halves, normAttn, stream, taps, taps1, taps2, carried, convOut, mixConv,
    k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay120, k0_pay325, k0_pay335, k0_pay336, k0_pay337, k0_pay338, k0_pay339, Nat.reduceMul, Nat.reduceAdd, Scalar.ofBits]

set_option maxHeartbeats 1000000 in
theorem sc_A (hc : cond0_0 i) :
    sout0_A_0 c i a1 h1 a2 h2 a3 h3 a4 h4 a5 h5 a6 h6 a7 h7 a8 h8 a9 h9 a10 h10 a11 h11 a12 h12 a13 h13 a14 h14 a15 h15 hc x0 x1 x2 x3 x4 x5 x6 x7 x8 x9
      = carried x1 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 a15 h15 hc x0 x1 x2 x3 x4 x5 x6 x7 x8 x9)]
  unfold kernelRun0_A; dsimp only; sl_unfold_run_names; rw [View.canon_cons_unit_zero (S := S8x512) hz]; dsimp only [View.readAt_eq_ld]
  rw [h2.read_unread]
  dsimp only [attnOut, blocksOut, lowBoth, highBoth, blockOut, lowOut, highOut, unit, score, sinkOf, qPair, kBand, vBand, biasAfter, halves, normAttn, stream, taps, taps1, taps2, carried, convOut, mixConv,
    k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay120, k0_pay325, k0_pay335, k0_pay336, k0_pay337, k0_pay338, k0_pay339, Nat.reduceMul, Nat.reduceAdd, Scalar.ofBits]

set_option maxHeartbeats 1000000 in
theorem x1_A (hc : cond0_0 i) :
    out0_A_13 c i a1 h1 a2 h2 a3 h3 a4 h4 a5 h5 a6 h6 a7 h7 a8 h8 a9 h9 a10 h10 a11 h11 a12 h12 a13 h13 a14 h14 a15 h15 hc x0 x1 x2 x3 x4 x5 x6 x7 x8 x9
      = stream (View.ld x8 (Rect.unit ![0, 0] S1024x1024.size inb_S1024x1024_S1024x1024_0_0)) x9 (mixConv x1 x3 (View.ld x6 (Rect.unit ![0, 0] S1x512.size inb_S1x512_S1x512_0_0)) k0_pay3) (normAttn (View.ld x7 (Rect.unit ![0, 0] S1x512.size inb_S1x512_S1x512_0_0)) (attnOut x0 x1 x2 (View.ld x4 (Rect.unit ![0, 0] S1x128.size inb_S1x128_S1x128_0_0)) (View.ld x5 (Rect.unit ![0, 0] S1x128.size inb_S1x128_S1x128_0_0)) (BitVec.ofNat 32 (i 0).val))) := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 hc x0 x1 x2 x3 x4 x5 x6 x7 x8 x9)]
  unfold kernelRun0_A; dsimp only; sl_unfold_run_names; rw [View.canon_unit_zero hz]; rw [View.readCov_unit_zero (S := S8x512) _ hz]; dsimp only [View.readAt_eq_ld]
  rw [h1.read_unread, h2.read_unread, h3.read_unread, h4.read_unread, h5.read_unread, h6.read_unread, h7.read_unread, h8.read_unread, h9.read_unread, h10.read_unread]
  dsimp only [attnOut, blocksOut, lowBoth, highBoth, blockOut, lowOut, highOut, unit, score, sinkOf, qPair, kBand, vBand, biasAfter, halves, normAttn, stream, taps, taps1, taps2, carried, convOut, mixConv,
    k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay120, k0_pay325, k0_pay335, k0_pay336, k0_pay337, k0_pay338, k0_pay339, Nat.reduceMul, Nat.reduceAdd, Scalar.ofBits]

set_option maxHeartbeats 1000000 in
theorem mix_A (hc : cond0_0 i) :
    out0_A_10 c i a1 h1 a2 h2 a3 h3 a4 h4 a5 h5 a6 h6 a7 h7 a8 h8 a9 h9 a10 h10 a11 h11 a12 h12 a13 h13 a14 h14 a15 h15 hc x0 x1 x2 x3 x4 x5 x6 x7 x8 x9
      = halves (mixConv x1 x3 (View.ld x6 (Rect.unit ![0, 0] S1x512.size inb_S1x512_S1x512_0_0)) k0_pay3) (normAttn (View.ld x7 (Rect.unit ![0, 0] S1x512.size inb_S1x512_S1x512_0_0)) (attnOut x0 x1 x2 (View.ld x4 (Rect.unit ![0, 0] S1x128.size inb_S1x128_S1x128_0_0)) (View.ld x5 (Rect.unit ![0, 0] S1x128.size inb_S1x128_S1x128_0_0)) (BitVec.ofNat 32 (i 0).val))) := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 hc x0 x1 x2 x3 x4 x5 x6 x7 x8 x9)]
  unfold kernelRun0_A; dsimp only; sl_unfold_run_names; rw [View.readCov_unit_zero (S := S8x512) _ hz]; dsimp only [View.readAt_eq_ld]
  rw [h1.read_unread, h2.read_unread, h3.read_unread, h4.read_unread, h5.read_unread, h6.read_unread, h7.read_unread, h8.read_unread]
  dsimp only [attnOut, blocksOut, lowBoth, highBoth, blockOut, lowOut, highOut, unit, score, sinkOf, qPair, kBand, vBand, biasAfter, halves, normAttn, stream, taps, taps1, taps2, carried, convOut, mixConv,
    k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay120, k0_pay325, k0_pay335, k0_pay336, k0_pay337, k0_pay338, k0_pay339, Nat.reduceMul, Nat.reduceAdd, Scalar.ofBits]

set_option maxHeartbeats 1000000 in
theorem ao_B (hc : ¬cond0_0 i) :
    out0_B_12 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 xs
      = (truncf .bf16 (attnOut x0 x1 x2 (View.ld x4 (Rect.unit ![0, 0] S1x128.size inb_S1x128_S1x128_0_0)) (View.ld x5 (Rect.unit ![0, 0] S1x128.size inb_S1x128_S1x128_0_0)) (BitVec.ofNat 32 (i 0).val)) bitsLt_bf16_f32 : FVec F S1024x512 .bf16) := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 xs)]
  unfold kernelRun0_B; dsimp only; sl_unfold_run_names; rw [View.canon_unit_zero hz]; dsimp only [View.readAt_eq_ld]
  rw [h1.read_unread, h2.read_unread, h3.read_unread, h5.read_unread, h6.read_unread]
  dsimp only [attnOut, blocksOut, lowBoth, highBoth, blockOut, lowOut, highOut, unit, score, sinkOf, qPair, kBand, vBand, biasAfter, halves, normAttn, stream, taps, taps1, taps2, carried, convOut, mixConv,
    k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay120, k0_pay325, k0_pay335, k0_pay336, k0_pay337, k0_pay338, k0_pay339, Nat.reduceMul, Nat.reduceAdd, Scalar.ofBits]

set_option maxHeartbeats 1000000 in
theorem y_B (hc : ¬cond0_0 i) :
    out0_B_11 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 xs
      = convOut x1 x3 (View.ld xs (Rect.unit ![0, 0] S8x512.size inb_S8x512_S8x512_0_0)) := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 xs)]
  unfold kernelRun0_B; dsimp only; sl_unfold_run_names; rw [View.canon_unit_zero hz]; dsimp only [View.readAt_eq_ld]
  rw [h2.read_unread, h4.read_unread, h15.read_unread]
  dsimp only [attnOut, blocksOut, lowBoth, highBoth, blockOut, lowOut, highOut, unit, score, sinkOf, qPair, kBand, vBand, biasAfter, halves, normAttn, stream, taps, taps1, taps2, carried, convOut, mixConv,
    k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay120, k0_pay325, k0_pay335, k0_pay336, k0_pay337, k0_pay338, k0_pay339, Nat.reduceMul, Nat.reduceAdd, Scalar.ofBits]

set_option maxHeartbeats 1000000 in
theorem sc_B (hc : ¬cond0_0 i) :
    sout0_B_0 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 xs
      = carried x1 := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 xs)]
  unfold kernelRun0_B; dsimp only; sl_unfold_run_names; rw [View.canon_cons_unit_zero (S := S8x512) hz]; dsimp only [View.readAt_eq_ld]
  rw [h2.read_unread]
  dsimp only [attnOut, blocksOut, lowBoth, highBoth, blockOut, lowOut, highOut, unit, score, sinkOf, qPair, kBand, vBand, biasAfter, halves, normAttn, stream, taps, taps1, taps2, carried, convOut, mixConv,
    k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay120, k0_pay325, k0_pay335, k0_pay336, k0_pay337, k0_pay338, k0_pay339, Nat.reduceMul, Nat.reduceAdd, Scalar.ofBits]

set_option maxHeartbeats 1000000 in
theorem x1_B (hc : ¬cond0_0 i) :
    out0_B_13 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 xs
      = stream (View.ld x8 (Rect.unit ![0, 0] S1024x1024.size inb_S1024x1024_S1024x1024_0_0)) x9 (mixConv x1 x3 (View.ld x6 (Rect.unit ![0, 0] S1x512.size inb_S1x512_S1x512_0_0)) (View.ld xs (Rect.unit ![0, 0] S8x512.size inb_S8x512_S8x512_0_0))) (normAttn (View.ld x7 (Rect.unit ![0, 0] S1x512.size inb_S1x512_S1x512_0_0)) (attnOut x0 x1 x2 (View.ld x4 (Rect.unit ![0, 0] S1x128.size inb_S1x128_S1x128_0_0)) (View.ld x5 (Rect.unit ![0, 0] S1x128.size inb_S1x128_S1x128_0_0)) (BitVec.ofNat 32 (i 0).val))) := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 xs)]
  unfold kernelRun0_B; dsimp only; sl_unfold_run_names; rw [View.canon_unit_zero hz]; dsimp only [View.readAt_eq_ld]
  rw [h1.read_unread, h2.read_unread, h3.read_unread, h4.read_unread, h5.read_unread, h6.read_unread, h7.read_unread, h8.read_unread, h9.read_unread, h10.read_unread, h15.read_unread]
  dsimp only [attnOut, blocksOut, lowBoth, highBoth, blockOut, lowOut, highOut, unit, score, sinkOf, qPair, kBand, vBand, biasAfter, halves, normAttn, stream, taps, taps1, taps2, carried, convOut, mixConv,
    k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay120, k0_pay325, k0_pay335, k0_pay336, k0_pay337, k0_pay338, k0_pay339, Nat.reduceMul, Nat.reduceAdd, Scalar.ofBits]

set_option maxHeartbeats 1000000 in
theorem mix_B (hc : ¬cond0_0 i) :
    out0_B_10 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 xs
      = halves (mixConv x1 x3 (View.ld x6 (Rect.unit ![0, 0] S1x512.size inb_S1x512_S1x512_0_0)) (View.ld xs (Rect.unit ![0, 0] S8x512.size inb_S8x512_S8x512_0_0))) (normAttn (View.ld x7 (Rect.unit ![0, 0] S1x512.size inb_S1x512_S1x512_0_0)) (attnOut x0 x1 x2 (View.ld x4 (Rect.unit ![0, 0] S1x128.size inb_S1x128_S1x128_0_0)) (View.ld x5 (Rect.unit ![0, 0] S1x128.size inb_S1x128_S1x128_0_0)) (BitVec.ofNat 32 (i 0).val))) := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 hc x0 x1 x2 x3 x4 x5 x6 x7 x8 x9 xs)]
  unfold kernelRun0_B; dsimp only; sl_unfold_run_names; dsimp only [View.readAt_eq_ld]
  rw [h1.read_unread, h2.read_unread, h3.read_unread, h4.read_unread, h5.read_unread, h6.read_unread, h7.read_unread, h8.read_unread, h15.read_unread]
  dsimp only [attnOut, blocksOut, lowBoth, highBoth, blockOut, lowOut, highOut, unit, score, sinkOf, qPair, kBand, vBand, biasAfter, halves, normAttn, stream, taps, taps1, taps2, carried, convOut, mixConv,
    k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay120, k0_pay325, k0_pay335, k0_pay336, k0_pay337, k0_pay338, k0_pay339, Nat.reduceMul, Nat.reduceAdd, Scalar.ofBits]

end
end Cert.MixKernelIdeal.Value
end
-- ==== Proof.MixMath.lean ====
/-
  The mixer's mathematics, over real projections: normalised query and key rows, the banded scores of one head, its
  softmax with a sink, the attention's output, the causal convolution, the row normalisation of a half and the residual
  stream; and the facts by which two ways of writing them agree.
-/
module

public import proofs.«01_k».proof.Proof.Reals

@[expose] public section

noncomputable section

namespace Cert.Mix

open Idealize.ShloMosaic Cert.Reals

theorem ofBits_inv64 : Ideal.ofBits .f32 0x3C800000#32 = (((1 : ℝ) / 64 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_inv512 : Ideal.ofBits .f32 0x3B000000#32 = (((1 : ℝ) / 512 : ℝ) : EReal) := by
  simp [Ideal.ofBits, Ideal.ieee, -EReal.coe_mul]; norm_num
theorem ofBits_512 : Ideal.ofBits .f32 0x44000000#32 = ((512 : ℝ) : EReal) := by
  simp [Ideal.ofBits, Ideal.ieee, -EReal.coe_mul]; norm_num
theorem ofBits_inv8 : Ideal.ofBits .f32 0x3E000000#32 = (((1 : ℝ) / 8 : ℝ) : EReal) := by
  simp [Ideal.ofBits, Ideal.ieee, -EReal.coe_mul]; norm_num
theorem ofBits_ninf : Ideal.ofBits .f32 0xFF800000#32 = ⊥ := by
  simp [Ideal.ofBits, Ideal.ieee]

/-- A row of 512 entries summed as four groups of 128 lanes is the sum of the row. -/
theorem sum_groups4 (f : Fin 512 → EReal) :
    ∑ x : Fin 128, (f ⟨x, by omega⟩ + f ⟨128 + x, by omega⟩ + f ⟨256 + x, by omega⟩ + f ⟨384 + x, by omega⟩) = ∑ k, f k := by
  rw [Fin.sum_univ_tiles 4 128 rfl f, Fin.sum_univ_four]
  simp only [Finset.sum_add_distrib]
  simp

/-! ## The band's words -/

theorem band_bits : ∀ (a : Fin 128) (κ : Fin 256),
    IntOp.andi
      (IntOp.cmpi CmpIPredicate.sge (IntOp.subi (IntOp.addi (BitVec.ofNat 32 a.val) 128#32) (BitVec.ofNat 32 κ.val)) 0#32)
      (IntOp.cmpi CmpIPredicate.slt (IntOp.subi (IntOp.addi (BitVec.ofNat 32 a.val) 128#32) (BitVec.ofNat 32 κ.val)) 128#32)
    = BitVec.ofBool (decide (a.val < κ.val ∧ κ.val ≤ a.val + 128)) := by decide +kernel
theorem andi_ofBool : ∀ p q : Bool, IntOp.andi (BitVec.ofBool p) (BitVec.ofBool q) = BitVec.ofBool (p && q) := by decide

/-! ## Lanes and columns -/

/-- Lane `d` of half `e` of a pair of heads. -/
def lane (e : Fin 2) (d : Fin 64) : Fin 128 := ⟨64 * e + d, by omega⟩
/-- Column `d` of query head `h` in a projected row. -/
def qcol (h : Fin 8) (d : Fin 64) : Fin 2304 := ⟨1536 + 64 * h + d, by omega⟩
/-- Column `d` of key head `g`. -/
def kcol (g : Fin 2) (d : Fin 64) : Fin 2304 := ⟨2048 + 64 * g + d, by omega⟩
/-- Column `d` of value head `g`. -/
def vcol (g : Fin 2) (d : Fin 64) : Fin 2304 := ⟨2176 + 64 * g + d, by omega⟩
/-- The key head that query head `h` attends with. -/
def kvOf (h : Fin 8) : Fin 2 := ⟨h / 4, by omega⟩

theorem lane_surj (l : Fin 128) : ∃ e d, l = lane e d :=
  ⟨⟨l / 64, by omega⟩, ⟨l % 64, by omega⟩, Fin.ext (by show l.val = 64 * (l.val / 64) + l.val % 64; omega)⟩

theorem sum_lanes (f : Fin 128 → EReal) : ∑ l, f l = ∑ d, f (lane 0 d) + ∑ d, f (lane 1 d) := by
  rw [Fin.sum_univ_tiles 2 64 rfl f, Fin.sum_univ_two]
  rfl

/-! ## Rows of a grid point, with the block of 128 rows before it -/

theorem own_lt (r : Fin 1024) : 128 + r.val < 1152 := by omega
theorem before_lt (r : Fin 128) : r.val < 1152 := by omega
theorem kv_lt (c : Fin 256) : 2048 + c.val < 2304 := by omega
theorem pair_lt (p : Fin 4) (e : Fin 2) : 2 * p.val + e.val < 8 := by omega
theorem query_lt (s : Fin 8) (a : Fin 128) : 128 * s.val + a.val < 1024 := by omega
theorem key_lt (s : Fin 8) (κ : Fin 256) : 128 * s.val + κ.val < 1152 := by omega
theorem self_lt (s : Fin 8) (a : Fin 128) : 128 * s.val + a.val + 128 < 1152 := by omega
theorem point_lt (n : Fin 8) (r : Fin 1024) : 1024 * n.val + r.val < 8192 := by omega
theorem band_lt (n : Fin 8) (ρ : Fin 1152) : 1024 * n.val + ρ.val - 128 < 8192 := by omega
theorem first_block (ρ : Fin 1152) : ρ.val < 8192 := by omega
theorem block_lt (n s : Fin 8) : 8 * n.val + s.val < 64 := by omega
theorem first_lt (n : Fin 8) : 1024 * n.val < 8192 := by omega
theorem head_lt (h : Fin 8) (d : Fin 64) : 64 * h.val + d.val < 512 := by omega

/-! ## The attention -/

section
variable (qg kg : Fin 64 → ℝ)

/-- A normalised query row. -/
def qn (R : Fin 2304 → ℝ) (h : Fin 8) (d : Fin 64) : ℝ := R (qcol h d) * inv (fun e => R (qcol h e)) * qg d
/-- A normalised key row. -/
def kn (R : Fin 2304 → ℝ) (g : Fin 2) (d : Fin 64) : ℝ := R (kcol g d) * inv (fun e => R (kcol g e)) * kg d

open Classical in
/-- The scores of head `h`: the row `R` with the 256 rows `K`, those outside `V` at minus infinity. -/
def sc (R : Fin 2304 → ℝ) (K : Fin 256 → Fin 2304 → ℝ) (V : Fin 256 → Prop) (h : Fin 8) (κ : Fin 256) : EReal :=
  if V κ then (((∑ d, qn qg R h d * kn kg (K κ) (kvOf h) d) * (1 / 8) : ℝ) : EReal) else ⊥

/-- The softmax's maximum, with the sink. -/
def top (s : Fin 256 → EReal) (k : EReal) : EReal := max (Finset.univ.fold max ⊥ s) k
/-- The softmax's divisor, with the sink. -/
def den (s : Fin 256 → EReal) (k : EReal) : EReal := ∑ κ, Ideal.exp (s κ - top s k) + Ideal.exp (k - top s k)
/-- The softmax with a sink. -/
def prob (s : Fin 256 → EReal) (k : EReal) (κ : Fin 256) : EReal := Ideal.div (Ideal.exp (s κ - top s k)) (den s k)

/-- The output of head `h` at one row. -/
def attn (sk : Fin 8 → ℝ) (R : Fin 2304 → ℝ) (K : Fin 256 → Fin 2304 → ℝ) (V : Fin 256 → Prop) (h : Fin 8) (d : Fin 64) : EReal :=
  ∑ κ, prob (sc qg kg R K V h) (sk h) κ * (K κ (vcol (kvOf h) d) : EReal)

theorem exp_nonneg (x : EReal) : 0 ≤ Ideal.exp x := by
  induction x using EReal.rec with
  | bot => exact le_refl _
  | top => exact le_top
  | coe r => exact EReal.coe_nonneg.mpr (Real.exp_nonneg r)

theorem top_real {s : Fin 256 → EReal} (hs : ∀ κ, s κ < ⊤) (k : ℝ) : ∃ r : ℝ, top s k = r := by
  have h1 : top s k < ⊤ := max_lt ((Finset.sup_lt_iff (f := s) (s := Finset.univ) bot_lt_top).mpr fun κ _ => hs κ) (EReal.coe_lt_top k)
  have h2 : ⊥ < top s k := lt_of_lt_of_le (EReal.bot_lt_coe k) (le_max_right _ _)
  exact ⟨_, (EReal.coe_toReal h1.ne h2.ne').symm⟩

theorem den_ne {s : Fin 256 → EReal} (hs : ∀ κ, s κ < ⊤) (k : ℝ) : den s k ≠ 0 := by
  obtain ⟨r, hr⟩ := top_real hs k
  refine ne_of_gt (lt_of_lt_of_le ?_ (le_add_of_nonneg_left (Finset.sum_nonneg fun κ _ => exp_nonneg _)))
  rw [hr, ← EReal.coe_sub]
  exact EReal.coe_pos.mpr (Real.exp_pos _)

theorem prob_masked {s : Fin 256 → EReal} (hs : ∀ κ, s κ < ⊤) (k : ℝ) {κ : Fin 256} (h : s κ = ⊥) : prob s k κ = 0 := by
  unfold prob
  rw [h, sub_eq_add_neg, EReal.bot_add]
  exact Ideal.zero_div (den_ne hs k)

theorem sc_lt (R : Fin 2304 → ℝ) (K : Fin 256 → Fin 2304 → ℝ) (V : Fin 256 → Prop) (h : Fin 8) (κ : Fin 256) :
    sc qg kg R K V h κ < ⊤ := by
  unfold sc
  split
  · exact EReal.coe_lt_top _
  · exact bot_lt_top

/-- Rows outside the mask have no part in the output. -/
theorem attn_congr (sk : Fin 8 → ℝ) (R : Fin 2304 → ℝ) {K K' : Fin 256 → Fin 2304 → ℝ} {V : Fin 256 → Prop}
    (hK : ∀ κ, V κ → K κ = K' κ) (h : Fin 8) (d : Fin 64) : attn qg kg sk R K V h d = attn qg kg sk R K' V h d := by
  have e : sc qg kg R K V h = sc qg kg R K' V h := by
    funext κ
    unfold sc
    split
    · rw [hK κ ‹_›]
    · rfl
  unfold attn
  refine Finset.sum_congr rfl fun κ _ => ?_
  by_cases hv : V κ
  · rw [hK κ hv, e]
  · have z : sc qg kg R K' V h κ = ⊥ := if_neg hv
    rw [e, prob_masked (sc_lt qg kg R K' V h) (sk h) z, zero_mul, zero_mul]

/-- The maximum over 256 lanes taken as a maximum of two halves. -/
theorem fold_halves (s : Fin 256 → EReal) :
    Finset.univ.fold max ⊥ (fun x : Fin 128 => max (s ⟨x, by omega⟩) (s ⟨128 + x, by omega⟩)) = Finset.univ.fold max ⊥ s := by
  refine le_antisymm (Finset.sup_le (f := fun x : Fin 128 => max (s ⟨x, by omega⟩) (s ⟨128 + x, by omega⟩)) fun x _ => max_le ?_ ?_)
    (Finset.sup_le (f := s) fun κ _ => ?_)
  · exact Finset.le_sup (f := s) (Finset.mem_univ _)
  · exact Finset.le_sup (f := s) (Finset.mem_univ _)
  · by_cases h : κ.val < 128
    · exact (le_max_left _ _).trans (Finset.le_sup (f := fun x : Fin 128 => max (s ⟨x, by omega⟩) (s ⟨128 + x, by omega⟩)) (Finset.mem_univ ⟨κ.val, h⟩))
    · refine le_trans ?_ (Finset.le_sup (f := fun x : Fin 128 => max (s ⟨x, by omega⟩) (s ⟨128 + x, by omega⟩)) (Finset.mem_univ ⟨κ.val - 128, by omega⟩))
      refine le_trans (le_of_eq (congrArg s (Fin.ext ?_))) (le_max_right _ _)
      show κ.val = 128 + (κ.val - 128)
      omega

theorem sum_halves (f : Fin 256 → EReal) :
    ∑ x : Fin 128, (f ⟨x, by omega⟩ + f ⟨128 + x, by omega⟩) = ∑ κ, f κ := by
  rw [Fin.sum_univ_tiles 2 128 rfl f, Fin.sum_univ_two, Finset.sum_add_distrib]
  simp

end

/-! ## The whole arrays -/

/-- Key `κ` of block `b` of 128 rows at row `a` of the block: in the band, and not before the first row. -/
def seen (b : ℕ) (a : ℕ) (κ : Fin 256) : Prop := (a < κ.val ∧ κ.val ≤ a + 128) ∧ (128 ≤ κ.val ∨ 0 < b)

/-- The rows that block `b` attends to: the block before it and itself; zero before the first. -/
def keys (p : Fin 8192 → Fin 2304 → ℝ) (b : Fin 64) (κ : Fin 256) : Fin 2304 → ℝ :=
  if h : 128 ≤ 128 * b.val + κ.val then p ⟨128 * b.val + κ.val - 128, by omega⟩ else 0

section
variable (p : Fin 8192 → Fin 2304 → ℝ) (cw : Fin 3 → Fin 512 → EReal) (qg kg : Fin 64 → ℝ) (sk : Fin 8 → ℝ)
  (cg ag : Fin 512 → EReal) (x : Fin 8192 → Fin 1024 → EReal) (w : Fin 1024 → Fin 1024 → EReal)

/-- The attention's output, head beside head. -/
def attnAll (i : Fin 8192) (c : Fin 512) : EReal :=
  attn qg kg sk (p i) (keys p ⟨i / 128, by omega⟩) (seen (i / 128) (i % 128)) ⟨c / 64, by omega⟩ ⟨c % 64, by omega⟩

theorem attnAll_of (i : Fin 8192) (c : Fin 512) (b : Fin 64) (a : Fin 128) (h : Fin 8) (d : Fin 64) (hi : i.val = 128 * b + a)
    (hc : c.val = 64 * h + d) {K : Fin 256 → Fin 2304 → ℝ} (hK : ∀ κ, seen b a κ → K κ = keys p b κ) :
    attnAll p qg kg sk i c = attn qg kg sk (p i) K (seen b a) h d := by
  rw [attn_congr qg kg sk (p i) hK h d]
  have e1 : (⟨i / 128, by omega⟩ : Fin 64) = b := Fin.ext (by dsimp only; omega)
  have e2 : i.val % 128 = a.val := by omega
  have e3 : (⟨c / 64, by omega⟩ : Fin 8) = h := Fin.ext (by dsimp only; omega)
  have e4 : (⟨c % 64, by omega⟩ : Fin 64) = d := Fin.ext (by dsimp only; omega)
  unfold attnAll
  rw [e1, e3, e4, e2, show i.val / 128 = b.val by omega]

/-- The product of the convolution's two gates, `e` rows earlier. -/
def gate (e : ℕ) (i : Fin 8192) (j : Fin 512) : EReal :=
  if i.val < e then 0 else p ⟨i - e, by omega⟩ ⟨512 + j, by omega⟩ * p ⟨i - e, by omega⟩ ⟨1024 + j, by omega⟩

/-- The causal convolution. -/
def conv (i : Fin 8192) (j : Fin 512) : EReal := cw 0 j * gate p 2 i j + cw 1 j * gate p 1 i j + cw 2 j * gate p 0 i j

/-- The row normalisation of 512 entries. -/
def norm (g f : Fin 512 → EReal) (j : Fin 512) : EReal :=
  f j * Ideal.rsqrt ((∑ k, f k * f k) * (((1 : ℝ) / 512 : ℝ) : EReal) + ((eps : ℝ) : EReal)) * g j

/-- The convolution's half of the mixed rows. -/
def mixA (i : Fin 8192) : Fin 512 → EReal := norm cg fun j => p i ⟨j, by omega⟩ * conv p cw i j
/-- The attention's half. -/
def mixB (i : Fin 8192) : Fin 512 → EReal := norm ag fun j => attnAll p qg kg sk i j
/-- The mixed rows. -/
def mix (i : Fin 8192) (j : Fin 1024) : EReal :=
  if h : j.val < 512 then mixA p cw cg i ⟨j, h⟩ else mixB p qg kg sk ag i ⟨j - 512, by omega⟩
/-- The residual stream after the mixer. -/
def stream (i : Fin 8192) (j : Fin 1024) : EReal := x i j + ∑ k, mix p cw qg kg sk cg ag i k * w k j
end

end Cert.Mix
end
-- ==== Proof.MixBlocks.lean ====
/-
  The mixer's forward kernel: the blocks of one grid point, entry by entry, as entries of the arrays as launched.
-/
module

public import proofs.«01_k».proof.Proof.MixCases
public import proofs.«01_k».proof.Proof.Gen.MixKernelIdeal.Value
public import proofs.«01_k».proof.Proof.MixMath

@[expose] public section

noncomputable section

namespace Cert.MixKernelIdeal.Value

open Cert.MixKernelIdeal Cert.MixKernelIdeal.Gen Idealize.ShloMosaic Idealize.ShloMosaic.TcCoe Idealize.SL.Sem Cert.Mix

section
variable (m : (ℓ : Loc nD τ sig) → Buf (Elt Ideal) ℓ) (c : Dev nD) (t : Fin cfg0.N)

/-- The number of a grid point. -/
def pt (t : Fin cfg0.N) : Fin 8 := ⟨t.val, t.isLt⟩

theorem coord (t : Fin cfg0.N) : ((grid0.coords t) 0).val = t.val :=
  (by decide +kernel : ∀ t : Fin grid0.N, ((grid0.coords t) 0).val = t.val) t

/-- Row `r` of point `t`. -/
def row (t : Fin cfg0.N) (r : Fin 1024) : Fin 8192 := ⟨1024 * (pt t).val + r.val, point_lt (pt t) r⟩
/-- The rows that the band of point `t` holds: 128 rows before the point's own; the first point holds its own again. -/
def bandRow (t : Fin cfg0.N) (ρ : Fin 1152) : Fin 8192 :=
  if h : 128 ≤ 1024 * (pt t).val + ρ.val then ⟨1024 * (pt t).val + ρ.val - 128, band_lt (pt t) ρ⟩ else ⟨ρ.val, first_block ρ⟩
/-- Column `x` of the keys and values. -/
def kvCol (x : Fin 256) : Fin 2304 := ⟨2048 + x.val, kv_lt x⟩

theorem idx1 : win0_1.index t 0 = t.val ∧ win0_1.index t 1 = 0 :=
  (by decide +kernel : ∀ t : Fin grid0.N, win0_1.index t 0 = t.val ∧ win0_1.index t 1 = 0) t
theorem idx2 : win0_2.index t 0 = 8 * t.val - 1 ∧ win0_2.index t 1 = 8 :=
  (by decide +kernel : ∀ t : Fin grid0.N, win0_2.index t 0 = 8 * t.val - 1 ∧ win0_2.index t 1 = 8) t
theorem idx3 : win0_3.index t 0 = 0 ∧ win0_3.index t 1 = 0 :=
  (by decide +kernel : ∀ t : Fin grid0.N, win0_3.index t 0 = 0 ∧ win0_3.index t 1 = 0) t
theorem idx4 : win0_4.index t 0 = 0 ∧ win0_4.index t 1 = 0 :=
  (by decide +kernel : ∀ t : Fin grid0.N, win0_4.index t 0 = 0 ∧ win0_4.index t 1 = 0) t
theorem idx5 : win0_5.index t 0 = 0 ∧ win0_5.index t 1 = 0 :=
  (by decide +kernel : ∀ t : Fin grid0.N, win0_5.index t 0 = 0 ∧ win0_5.index t 1 = 0) t
theorem idx6 : win0_6.index t 0 = 0 ∧ win0_6.index t 1 = 0 :=
  (by decide +kernel : ∀ t : Fin grid0.N, win0_6.index t 0 = 0 ∧ win0_6.index t 1 = 0) t
theorem idx7 : win0_7.index t 0 = 0 ∧ win0_7.index t 1 = 0 :=
  (by decide +kernel : ∀ t : Fin grid0.N, win0_7.index t 0 = 0 ∧ win0_7.index t 1 = 0) t
theorem idx8 : win0_8.index t 0 = t.val ∧ win0_8.index t 1 = 0 :=
  (by decide +kernel : ∀ t : Fin grid0.N, win0_8.index t 0 = t.val ∧ win0_8.index t 1 = 0) t
theorem idx9 : win0_9.index t 0 = 0 ∧ win0_9.index t 1 = 0 :=
  (by decide +kernel : ∀ t : Fin grid0.N, win0_9.index t 0 = 0 ∧ win0_9.index t 1 = 0) t
theorem idx10 : win0_10.index t 0 = t.val ∧ win0_10.index t 1 = 0 :=
  (by decide +kernel : ∀ t : Fin grid0.N, win0_10.index t 0 = t.val ∧ win0_10.index t 1 = 0) t
theorem idx11 : win0_11.index t 0 = t.val ∧ win0_11.index t 1 = 0 :=
  (by decide +kernel : ∀ t : Fin grid0.N, win0_11.index t 0 = t.val ∧ win0_11.index t 1 = 0) t
theorem idx12 : win0_12.index t 0 = t.val ∧ win0_12.index t 1 = 0 :=
  (by decide +kernel : ∀ t : Fin grid0.N, win0_12.index t 0 = t.val ∧ win0_12.index t 1 = 0) t
theorem idx13 : win0_13.index t 0 = t.val ∧ win0_13.index t 1 = 0 :=
  (by decide +kernel : ∀ t : Fin grid0.N, win0_13.index t 0 = t.val ∧ win0_13.index t 1 = 0) t
theorem idx0 : win0_0.index t 0 = 0 :=
  (by decide +kernel : ∀ t : Fin grid0.N, win0_0.index t 0 = 0) t

theorem blk0 (n : Fin 8) : (iblk m c 0 t : Vec Ideal S8 .f32) (ix1 n) = m ((c : Thread nD τ).loc main_arg5) (ix1 n) := by
  have e : V m c main_arg5 = m ((c : Thread nD τ).loc main_arg5) := rfl
  rw [← e]
  unfold iblk
  rw [View.read_apply]
  show V m c main_arg5 _ = V m c main_arg5 _
  congr 1
  funext a; apply Fin.ext
  match a with
  | ⟨0, _⟩ => show win0_0.index t 0 * 8 + 1 * n.val = n.val; rw [idx0 t]; omega

theorem blk1 (r : Fin 1024) (k : Fin 2304) :
    (iblk m c 1 t : Vec Ideal S1024x2304 .bf16) (ix2 r k) = m ((c : Thread nD τ).loc main_arg1) (ix3 0 (row t r) k) := by
  have e : (V m c main_v1 : Vec Ideal S8192x2304 .bf16) (ix2 (row t r) k) = m ((c : Thread nD τ).loc main_arg1) (ix3 0 (row t r) k) := by
    after_reads_at
  rw [← e]
  unfold iblk
  rw [View.read_apply]
  show V m c main_v1 _ = V m c main_v1 _
  congr 1
  funext a; apply Fin.ext
  match a with
  | ⟨0, _⟩ => show win0_1.index t 0 * 1024 + 1 * r.val = 1024 * t.val + r.val; rw [(idx1 t).1]; omega
  | ⟨1, _⟩ => show win0_1.index t 1 * 2304 + 1 * k.val = k.val; rw [(idx1 t).2]; omega

theorem blk2 (r : Fin 128) (k : Fin 256) :
    (iblk m c 2 t : Vec Ideal S128x256 .bf16) (ix2 r k) = m ((c : Thread nD τ).loc main_arg1) (ix3 0 (bandRow t ⟨r.val, before_lt r⟩) (kvCol k)) := by
  have e : (V m c main_v1 : Vec Ideal S8192x2304 .bf16) (ix2 (bandRow t ⟨r.val, before_lt r⟩) (kvCol k)) = m ((c : Thread nD τ).loc main_arg1) (ix3 0 (bandRow t ⟨r.val, before_lt r⟩) (kvCol k)) := by
    after_reads_at
  rw [← e]
  unfold iblk
  rw [View.read_apply]
  show V m c main_v1 _ = V m c main_v1 _
  congr 1
  funext a; apply Fin.ext
  match a with
  | ⟨0, _⟩ =>
    show win0_2.index t 0 * 128 + 1 * r.val = (bandRow t ⟨r.val, before_lt r⟩).val
    rw [(idx2 t).1]
    unfold bandRow
    split <;> rename_i h <;> dsimp only [pt] at h ⊢ <;> omega
  | ⟨1, _⟩ => show win0_2.index t 1 * 256 + 1 * k.val = 2048 + k.val; rw [(idx2 t).2]; omega

theorem blk3 (r : Fin 3) (k : Fin 512) :
    (iblk m c 3 t : Vec Ideal S3x512 .f32) (ix2 r k) = m ((c : Thread nD τ).loc main_arg2) (ix2 r k) := by
  have e : (V m c main_arg2 : Vec Ideal S3x512 .f32) (ix2 r k) = m ((c : Thread nD τ).loc main_arg2) (ix2 r k) := rfl
  rw [← e]
  unfold iblk
  rw [View.read_apply]
  show V m c main_arg2 _ = V m c main_arg2 _
  congr 1
  funext a; apply Fin.ext
  match a with
  | ⟨0, _⟩ => show win0_3.index t 0 * 3 + 1 * r.val = r.val; rw [(idx3 t).1]; omega
  | ⟨1, _⟩ => show win0_3.index t 1 * 512 + 1 * k.val = k.val; rw [(idx3 t).2]; omega

theorem blk4 (z : Fin 1) (e : Fin 2) (d : Fin 64) :
    (iblk m c 4 t : Vec Ideal S1x128 .f32) (ix2 z (lane e d)) = m ((c : Thread nD τ).loc main_arg3) (ix1 d) := by
  have h : (V m c main_v5 : Vec Ideal S1x128 .f32) (ix2 z (lane e d)) = m ((c : Thread nD τ).loc main_arg3) (ix1 d) := by
    after_reads_at
    exact congrArg (fun x => m ((c : Thread nD τ).loc main_arg3) (ix1 x)) (Fin.ext (by show (64 * e.val + d.val) % 64 = d.val; omega))
  rw [← h]
  unfold iblk
  rw [View.read_apply]
  show V m c main_v5 _ = V m c main_v5 _
  congr 1
  funext a; apply Fin.ext
  match a with
  | ⟨0, _⟩ => show win0_4.index t 0 * 1 + 1 * z.val = z.val; rw [(idx4 t).1]; omega
  | ⟨1, _⟩ => show win0_4.index t 1 * 128 + 1 * (lane e d).val = (lane e d).val; rw [(idx4 t).2]; omega

theorem blk5 (z : Fin 1) (e : Fin 2) (d : Fin 64) :
    (iblk m c 5 t : Vec Ideal S1x128 .f32) (ix2 z (lane e d)) = m ((c : Thread nD τ).loc main_arg4) (ix1 d) := by
  have h : (V m c main_v9 : Vec Ideal S1x128 .f32) (ix2 z (lane e d)) = m ((c : Thread nD τ).loc main_arg4) (ix1 d) := by
    after_reads_at
    exact congrArg (fun x => m ((c : Thread nD τ).loc main_arg4) (ix1 x)) (Fin.ext (by show (64 * e.val + d.val) % 64 = d.val; omega))
  rw [← h]
  unfold iblk
  rw [View.read_apply]
  show V m c main_v9 _ = V m c main_v9 _
  congr 1
  funext a; apply Fin.ext
  match a with
  | ⟨0, _⟩ => show win0_5.index t 0 * 1 + 1 * z.val = z.val; rw [(idx5 t).1]; omega
  | ⟨1, _⟩ => show win0_5.index t 1 * 128 + 1 * (lane e d).val = (lane e d).val; rw [(idx5 t).2]; omega

theorem blk6 (r : Fin 1) (k : Fin 512) :
    (iblk m c 6 t : Vec Ideal S1x512 .f32) (ix2 r k) = m ((c : Thread nD τ).loc main_arg6) (ix1 k) := by
  have e : (V m c main_v10 : Vec Ideal S1x512 .f32) (ix2 r k) = m ((c : Thread nD τ).loc main_arg6) (ix1 k) := by
    after_reads_at
  rw [← e]
  unfold iblk
  rw [View.read_apply]
  show V m c main_v10 _ = V m c main_v10 _
  congr 1
  funext a; apply Fin.ext
  match a with
  | ⟨0, _⟩ => show win0_6.index t 0 * 1 + 1 * r.val = r.val; rw [(idx6 t).1]; omega
  | ⟨1, _⟩ => show win0_6.index t 1 * 512 + 1 * k.val = k.val; rw [(idx6 t).2]; omega

theorem blk7 (r : Fin 1) (k : Fin 512) :
    (iblk m c 7 t : Vec Ideal S1x512 .f32) (ix2 r k) = m ((c : Thread nD τ).loc main_arg7) (ix1 k) := by
  have e : (V m c main_v11 : Vec Ideal S1x512 .f32) (ix2 r k) = m ((c : Thread nD τ).loc main_arg7) (ix1 k) := by
    after_reads_at
  rw [← e]
  unfold iblk
  rw [View.read_apply]
  show V m c main_v11 _ = V m c main_v11 _
  congr 1
  funext a; apply Fin.ext
  match a with
  | ⟨0, _⟩ => show win0_7.index t 0 * 1 + 1 * r.val = r.val; rw [(idx7 t).1]; omega
  | ⟨1, _⟩ => show win0_7.index t 1 * 512 + 1 * k.val = k.val; rw [(idx7 t).2]; omega

theorem blk8 (r : Fin 1024) (k : Fin 1024) :
    (iblk m c 8 t : Vec Ideal S1024x1024 .f32) (ix2 r k) = m ((c : Thread nD τ).loc main_arg0) (ix3 0 (row t r) k) := by
  have e : (V m c main_v12 : Vec Ideal S8192x1024 .f32) (ix2 (row t r) k) = m ((c : Thread nD τ).loc main_arg0) (ix3 0 (row t r) k) := by
    after_reads_at
  rw [← e]
  unfold iblk
  rw [View.read_apply]
  show V m c main_v12 _ = V m c main_v12 _
  congr 1
  funext a; apply Fin.ext
  match a with
  | ⟨0, _⟩ => show win0_8.index t 0 * 1024 + 1 * r.val = 1024 * t.val + r.val; rw [(idx8 t).1]; omega
  | ⟨1, _⟩ => show win0_8.index t 1 * 1024 + 1 * k.val = k.val; rw [(idx8 t).2]; omega

theorem blk9 (r : Fin 1024) (k : Fin 1024) :
    (iblk m c 9 t : Vec Ideal S1024x1024 .bf16) (ix2 r k) = m ((c : Thread nD τ).loc main_arg8) (ix2 r k) := by
  have e : (V m c main_v13 : Vec Ideal S1024x1024 .bf16) (ix2 r k) = m ((c : Thread nD τ).loc main_arg8) (ix2 r k) := by
    after_reads_at
  rw [← e]
  unfold iblk
  rw [View.read_apply]
  show V m c main_v13 _ = V m c main_v13 _
  congr 1
  funext a; apply Fin.ext
  match a with
  | ⟨0, _⟩ => show win0_9.index t 0 * 1024 + 1 * r.val = r.val; rw [(idx9 t).1]; omega
  | ⟨1, _⟩ => show win0_9.index t 1 * 1024 + 1 * k.val = k.val; rw [(idx9 t).2]; omega

end
end Cert.MixKernelIdeal.Value
end
-- ==== Proof.MixKernelValue.lean ====
/-
  The mixer's forward kernel over real projections: each named piece of one grid point as the mixer's mathematics at
  the rows of the point.
-/
module

public import proofs.«01_k».proof.Proof.MixStages
public import proofs.«01_k».proof.Proof.MixMath

@[expose] public section

noncomputable section

namespace Cert.MixKernelIdeal.Value

open Cert.MixKernelIdeal Cert.MixKernelIdeal.Gen Idealize.ShloMosaic Idealize.ShloMosaic.TcCoe Idealize.SL.Sem Cert.Reals Cert.Mix

/-! ## Masks and halves -/

theorem low_bit : ∀ l : Fin 128, IntOp.cmpi CmpIPredicate.slt (BitVec.ofNat 32 l.val) 64#32 = BitVec.ofBool (decide (l.val < 64)) := by
  decide +kernel
theorem select_low {α : Type} (l : Fin 128) (a b : α) :
    Scalar.select (IntOp.cmpi CmpIPredicate.slt (BitVec.ofNat 32 l.val) 64#32) a b = if l.val < 64 then a else b := by
  rw [low_bit, Scalar.select_decide]
theorem select_lane {α : Type} (e : Fin 2) (d : Fin 64) (a b : α) :
    Scalar.select (IntOp.cmpi CmpIPredicate.slt (BitVec.ofNat 32 (lane e d).val) 64#32) a b = if e = 0 then a else b := by
  rw [select_low]
  have h : (lane e d).val = 64 * e.val + d.val := rfl
  rcases (by omega : e.val = 0 ∨ e.val = 1) with he | he
  · rw [if_pos (by omega), if_pos (Fin.ext he)]
  · rw [if_neg (by omega), if_neg (fun h' => by rw [h'] at he; exact absurd he (by decide))]

theorem here_bits : ∀ κ : Fin 256, IntOp.cmpi CmpIPredicate.sge (BitVec.ofNat 32 κ.val) 128#32 = BitVec.ofBool (decide (128 ≤ κ.val)) := by
  decide +kernel

theorem ori_ofBool : ∀ p q : Bool, IntOp.ori (BitVec.ofBool p) (BitVec.ofBool q) = BitVec.ofBool (p || q) := by decide
theorem not_ofBool : ∀ p : Bool, IntOp.xori (BitVec.ofBool p) 1#1 = BitVec.ofBool (!p) := by decide
theorem later_bit : ∀ n : Fin 8, Scalar.cmpi CmpIPredicate.sgt (BitVec.ofNat 32 n.val) 0#32 = BitVec.ofBool (decide (0 < n.val)) := by
  decide +kernel

open Classical in
theorem mask_of (b a : ℕ) (κ : Fin 256) (t : Bool) (ht : t = true ↔ 0 < b) :
    Scalar.select (IntOp.andi (BitVec.ofBool (decide (a < κ.val ∧ κ.val ≤ a + 128)))
        (IntOp.ori (BitVec.ofBool (decide (128 ≤ κ.val))) (BitVec.ofBool t)))
      (0 : EReal) (Named.named (F := Ideal) (φ := .f32) MixKernelIdeal.κ "mask" 4048155338#32)
    = if seen b a κ then (0 : EReal) else ⊥ := by
  have hm : (Named.named (F := Ideal) (φ := .f32) MixKernelIdeal.κ "mask" 4048155338#32 : EReal) = ⊥ := rfl
  rw [ori_ofBool, andi_ofBool, Scalar.select_ofBool, hm]
  congr 1
  simp only [seen, Bool.and_eq_true, Bool.or_eq_true, decide_eq_true_eq, ht]

open Classical in
theorem biasAfter_at (b : ℕ) (hb : 0 < b) (a : Fin 128) (κ : Fin 256) :
    biasAfter (F := Ideal) (ix2 a κ) = if seen b a.val κ then (0 : EReal) else ⊥ := by
  pointwise [biasAfter, k0_pay29, k0_pay28]
  rw [band_bits, here_bits]
  exact mask_of b a κ true (by simp [hb])

open Classical in
theorem bias_at (n : Fin 8) (a : Fin 128) (κ : Fin 256) :
    k0_pay27 (F := Ideal) (BitVec.ofNat 32 n.val) (ix2 a κ) = if seen (8 * n.val) a.val κ then (0 : EReal) else ⊥ := by
  pointwise [k0_pay27]
  rw [band_bits, here_bits, later_bit]
  exact mask_of (8 * n.val) a κ _ (by simp)

/-! ## One point's rows -/

section
variable (x0 : Vec Ideal S8 .f32) (x1 : Vec Ideal S1024x2304 .bf16) (x2 : Vec Ideal S128x256 .bf16) (x3 : Vec Ideal S3x512 .f32)
  (x4 x5 : Vec Ideal S1x128 .f32) (x6 x7 : Vec Ideal S1x512 .f32) (x8 : Vec Ideal S1024x1024 .f32) (x9 : Vec Ideal S1024x1024 .bf16)
  (xs : Vec Ideal S8x512 .f32)
  {R : Fin 1152 → Fin 2304 → ℝ} {qg kg : Fin 64 → ℝ} {sk : Fin 8 → ℝ}
  (h0 : ∀ h, x0 (ix1 h) = ((sk h : ℝ) : EReal))
  (h1 : ∀ (r : Fin 1024) c, x1 (ix2 r c) = ((R ⟨128 + r, own_lt r⟩ c : ℝ) : EReal))
  (h2 : ∀ (r : Fin 128) (c : Fin 256), x2 (ix2 r c) = ((R ⟨r, before_lt r⟩ ⟨2048 + c, kv_lt c⟩ : ℝ) : EReal))
  (h4 : ∀ z e d, x4 (ix2 z (lane e d)) = ((qg d : ℝ) : EReal)) (h5 : ∀ z e d, x5 (ix2 z (lane e d)) = ((kg d : ℝ) : EReal))

/-- The mean square of one half of a pair, taken over all lanes with the other half at zero. -/
theorem half_rms (f : Fin 128 → EReal) (y : Fin 2 → Fin 64 → ℝ) (hf : ∀ e d, f (lane e d) = ((y e d : ℝ) : EReal)) (e : Fin 2) (d : Fin 64) :
    Ideal.rsqrt (Scalar.select (IntOp.cmpi CmpIPredicate.slt (BitVec.ofNat 32 (lane e d).val) 64#32)
        (∑ x : Fin 128, Scalar.select (IntOp.cmpi CmpIPredicate.slt (BitVec.ofNat 32 x.val) 64#32) (f x * f x) 0)
        (∑ x : Fin 128, Scalar.select (IntOp.cmpi CmpIPredicate.slt (BitVec.ofNat 32 x.val) 64#32) 0 (f x * f x))
      * Ideal.ofBits .f32 0x3C800000#32 + Ideal.ofBits .f32 0x358637BD#32) = ((inv (y e) : ℝ) : EReal) := by
  have s (e : Fin 2) : ∑ d, f (lane e d) * f (lane e d) = ((∑ d, y e d * y e d : ℝ) : EReal) := by
    rw [coe_sum]; exact Finset.sum_congr rfl fun d _ => by rw [hf, EReal.coe_mul]
  rw [select_lane, sum_lanes, sum_lanes]
  simp only [select_lane]
  rw [ofBits_inv64, ofBits_eps]
  have t : (if e = 0 then ∑ d, f (lane 0 d) * f (lane 0 d) else ∑ d, f (lane 1 d) * f (lane 1 d)) = ((∑ d, y e d * y e d : ℝ) : EReal) := by
    fin_cases e
    · exact s 0
    · exact s 1
  simp only [if_true, Fin.isValue, one_ne_zero, if_false, Finset.sum_const_zero, add_zero, zero_add]
  rw [t, ← EReal.coe_mul, ← EReal.coe_add, mul_one_div]
  exact rsqrt_coe (msq_pos (y e))

include h1 h4 in
theorem qPair_at (p : Fin 4) (r : Fin 1024) (e : Fin 2) (d : Fin 64) : qPair x1 x4 p.val p.isLt (ix2 r (lane e d))
    = ((qn qg (R ⟨128 + r, own_lt r⟩) ⟨2 * p + e, pair_lt p e⟩ d * (1 / 8) : ℝ) : EReal) := by
  have q (e : Fin 2) (d : Fin 64) : x1 (ix2 r ⟨1536 + 128 * p + (lane e d).val, by omega⟩)
      = ((R ⟨128 + r, own_lt r⟩ (qcol ⟨2 * p + e, pair_lt p e⟩ d) : ℝ) : EReal) := by
    rw [h1]
    congr 3
    show 1536 + 128 * p.val + (64 * e.val + d.val) = 1536 + 64 * (2 * p.val + e.val) + d.val
    omega
  have g : qPair x1 x4 p.val p.isLt (ix2 r (lane e d)) = x1 (ix2 r ⟨1536 + 128 * p + (lane e d).val, by omega⟩)
      * ((inv (fun d => R ⟨128 + r, own_lt r⟩ (qcol ⟨2 * p + e, pair_lt p e⟩ d)) : ℝ) : EReal) * (x4 (ix2 0 (lane e d)) * Ideal.ofBits .f32 0x3E000000#32) := by
    rw [← half_rms (fun l : Fin 128 => x1 (ix2 r ⟨1536 + 128 * p + l.val, by omega⟩)) (fun e d => R ⟨128 + r, own_lt r⟩ (qcol ⟨2 * p + e, pair_lt p e⟩ d)) q e d]
    pointwise [qPair, k0_pay30, k0_pay14, k0_pay15]
  rw [g, q, h4, ofBits_inv8, ← EReal.coe_mul, ← EReal.coe_mul, ← EReal.coe_mul]
  congr 1
  unfold qn
  ring

include h1 h2 in
theorem band_k (ρ : Fin 1152) (l : Fin 128) : k0_pay16 (View.ld x2 (Rect.unit ![0, 0] S128x128.size inb_S128x256_S128x128_0_0))
      (View.ld x1 (Rect.unit ![0, 2048] S1024x128.size inb_S1024x2304_S1024x128_0_2048)) (ix2 ρ l)
    = ((R ρ ⟨2048 + l, by omega⟩ : ℝ) : EReal) := by
  pointwise [k0_pay16]
  split
  · exact h2 ⟨ρ.val, ‹_›⟩ ⟨l.val, by omega⟩
  · rw [h1]; congr 3; show 128 + (ρ.val - 128) = ρ.val; omega

include h1 h2 in
theorem vBand_at (ρ : Fin 1152) (g : Fin 2) (d : Fin 64) : vBand x1 x2 (ix2 ρ (lane g d)) = ((R ρ (vcol g d) : ℝ) : EReal) := by
  pointwise [vBand, k0_pay17]
  split
  · refine (h2 ⟨ρ.val, ‹_›⟩ ⟨128 + (lane g d).val, by omega⟩).trans ?_
    congr 3; show 2048 + (128 + (64 * g.val + d.val)) = 2176 + 64 * g.val + d.val; omega
  · rw [h1]; congr 3
    · show 128 + (ρ.val - 128) = ρ.val; omega
    · show 2176 + (64 * g.val + d.val) = 2176 + 64 * g.val + d.val; omega

include h1 h2 h5 in
theorem kBand_at (ρ : Fin 1152) (g : Fin 2) (d : Fin 64) : kBand x1 x2 x5 (ix2 ρ (lane g d)) = ((kn kg (R ρ) g d : ℝ) : EReal) := by
  have q (e : Fin 2) (d : Fin 64) := (band_k x1 x2 h1 h2 ρ (lane e d)).trans
    (show _ = ((R ρ (kcol e d) : ℝ) : EReal) by
      congr 3; show 2048 + (64 * e.val + d.val) = 2048 + 64 * e.val + d.val; omega)
  have g' (u : FVec Ideal S1152x128 .f32) (a : Vec Ideal S128x128 .bf16) (b : Vec Ideal S1024x128 .bf16) (hu : u = k0_pay16 a b) :
      k0_pay20 u (k0_pay18 a b) k0_pay19 x5 (ix2 ρ (lane g d)) = u (ix2 ρ (lane g d))
      * Ideal.rsqrt (Scalar.select (IntOp.cmpi CmpIPredicate.slt (BitVec.ofNat 32 (lane g d).val) 64#32)
        (∑ x : Fin 128, Scalar.select (IntOp.cmpi CmpIPredicate.slt (BitVec.ofNat 32 x.val) 64#32) (u (ix2 ρ x) * u (ix2 ρ x)) 0)
        (∑ x : Fin 128, Scalar.select (IntOp.cmpi CmpIPredicate.slt (BitVec.ofNat 32 x.val) 64#32) 0 (u (ix2 ρ x) * u (ix2 ρ x)))
      * Ideal.ofBits .f32 0x3C800000#32 + Ideal.ofBits .f32 0x358637BD#32) * x5 (ix2 0 (lane g d)) := by
    rw [show k0_pay18 a b = _ from rfl]
    unfold k0_pay18
    rw [← hu]
    pointwise [k0_pay20, k0_pay19, k0_pay14]
  unfold kBand
  rw [g' _ _ _ rfl, half_rms (fun l : Fin 128 => _) (fun e d => R ρ (kcol e d)) q g d, q, h5, ← EReal.coe_mul, ← EReal.coe_mul]
  rfl

theorem low_at (x : FVec Ideal S1152x128 .bf16) (ρ : Fin 1152) (e : Fin 2) (d : Fin 64) :
    lowBoth x (ix2 ρ (lane e d)) = x (ix2 ρ (lane 0 d)) := by
  pointwise [lowBoth, k0_pay25, k0_pay14, k0_pay24]
  rw [select_lane]
  fin_cases e
  · rfl
  · refine congrArg x (congrArg (ix2 ρ) (Fin.ext ?_))
    show (64 * 1 + d.val + 128 - 64) % 128 = 64 * 0 + d.val
    omega
theorem high_at (x : FVec Ideal S1152x128 .bf16) (ρ : Fin 1152) (e : Fin 2) (d : Fin 64) :
    highBoth x (ix2 ρ (lane e d)) = x (ix2 ρ (lane 1 d)) := by
  pointwise [highBoth, k0_pay26, k0_pay14, k0_pay24]
  rw [select_lane]
  fin_cases e
  · refine congrArg x (congrArg (ix2 ρ) (Fin.ext ?_))
    show (64 * 0 + d.val + 128 - 64) % 128 = 64 * 1 + d.val
    omega
  · rfl

theorem pay31_at (q : FVec Ideal S1024x128 .bf16) (r : Fin 1024) (e : Fin 2) (d : Fin 64) :
    k0_pay31 k0_pay14 q (ix2 r (lane e d)) = if e = 0 then q (ix2 r (lane e d)) else 0 := by
  pointwise [k0_pay31, k0_pay14]
  rw [select_lane]
theorem pay32_at (q : FVec Ideal S1024x128 .bf16) (r : Fin 1024) (e : Fin 2) (d : Fin 64) :
    k0_pay32 k0_pay14 q (ix2 r (lane e d)) = if e = 1 then q (ix2 r (lane e d)) else 0 := by
  pointwise [k0_pay32, k0_pay14]
  have h : (lane e d).val = 64 * e.val + d.val := rfl
  rw [low_bit, not_ofBool, Scalar.select_ofBool]
  fin_cases e
  · rw [if_neg (by simp [lane]), if_neg (by decide)]
  · rw [if_pos (by simp [lane])]
    rfl

theorem prob_at (b : FVec Ideal S128x256 .f32) (k : ℝ) (a : Fin 128) (hb : ∀ κ, (b (ix2 a κ) : EReal) < ⊤) (κ : Fin 256) :
    k0_pay120 b ((k : ℝ) : EReal) (ix2 a κ) = prob (fun κ => b (ix2 a κ)) k κ := by
  have e : k0_pay120 b ((k : ℝ) : EReal) (ix2 a κ) = Ideal.exp (b (ix2 a κ) - top (fun κ => b (ix2 a κ)) k)
      * Ideal.div 1 (den (fun κ => b (ix2 a κ)) k) := by
    unfold den top
    rw [← fold_halves (fun κ => b (ix2 a κ)), ← sum_halves, ← ofBits_ninf]
    pointwise [k0_pay120]
  rw [e]
  exact Ideal.mul_one_div (den_ne hb k)

/-! ## One head in one block -/

theorem score_lt (b : FVec Ideal S128x256 .f32) (q : FVec Ideal S1024x128 .bf16) (k : FVec Ideal S1152x128 .bf16) (s : Fin 8)
    (a : Fin 128) (κ : Fin 256) : score b q k s.val s.isLt (ix2 a κ)
      = ∑ x : Fin 128, q (ix2 ⟨128 * s + a, query_lt s a⟩ x) * k (ix2 ⟨128 * s + κ, key_lt s κ⟩ x) + b (ix2 a κ) := by
  pointwise [score]

/-- The scores, where the query is zero off its half `e` and the keys are the same in both halves. -/
theorem score_at (b : FVec Ideal S128x256 .f32) (q q' : FVec Ideal S1024x128 .bf16) (k : FVec Ideal S1152x128 .bf16) (s : Fin 8)
    (V : Fin 256 → Prop) (a : Fin 128) (hb : ∀ κ, b (ix2 a κ) = (open Classical in if V κ then (0 : EReal) else ⊥)) (h : Fin 8) (e : Fin 2)
    (hq : ∀ r e' d, q' (ix2 r (lane e' d)) = if e' = e then q (ix2 r (lane e' d)) else 0)
    (hq' : ∀ r d, q (ix2 r (lane e d)) = ((qn qg (R ⟨128 + r, own_lt r⟩) h d * (1 / 8) : ℝ) : EReal))
    (hk : ∀ ρ e' d, k (ix2 ρ (lane e' d)) = ((kn kg (R ρ) (kvOf h) d : ℝ) : EReal)) :
    (fun κ => score b q' k s.val s.isLt (ix2 a κ))
      = sc qg kg (R ⟨128 * s + a + 128, self_lt s a⟩) (fun κ => R ⟨128 * s + κ, key_lt s κ⟩) V h := by
  funext κ
  rw [score_lt, hb]
  unfold sc
  split
  · rw [add_zero, sum_lanes]
    have t (e' : Fin 2) : ∑ d, q' (ix2 ⟨128 * s + a, query_lt s a⟩ (lane e' d)) * k (ix2 ⟨128 * s + κ, key_lt s κ⟩ (lane e' d))
        = if e' = e then (((∑ d, qn qg (R ⟨128 * s + a + 128, self_lt s a⟩) h d * kn kg (R ⟨128 * s + κ, key_lt s κ⟩) (kvOf h) d) * (1 / 8) : ℝ) : EReal) else 0 := by
      by_cases he : e' = e
      · subst he
        rw [if_pos rfl, Finset.sum_mul, coe_sum]
        refine Finset.sum_congr rfl fun d _ => ?_
        rw [hq, if_pos rfl, hq', hk, ← EReal.coe_mul]
        congr 1
        rw [show (⟨128 + (128 * s.val + a.val), by omega⟩ : Fin 1152) = ⟨128 * s.val + a.val + 128, by omega⟩ from Fin.ext (by dsimp only; omega)]
        ring
      · rw [if_neg he]
        exact Finset.sum_eq_zero fun d _ => by rw [hq, if_neg he, zero_mul]
    rw [t, t]
    fin_cases e <;> simp
  · exact EReal.add_bot _

theorem unit_at (b : FVec Ideal S128x256 .f32) (q q' : FVec Ideal S1024x128 .bf16) (k v : FVec Ideal S1152x128 .bf16) (s : Fin 8)
    (V : Fin 256 → Prop) (a : Fin 128) (hb : ∀ κ, b (ix2 a κ) = (open Classical in if V κ then (0 : EReal) else ⊥)) (h : Fin 8) (e : Fin 2)
    (hq : ∀ r e' d, q' (ix2 r (lane e' d)) = if e' = e then q (ix2 r (lane e' d)) else 0)
    (hq' : ∀ r d, q (ix2 r (lane e d)) = ((qn qg (R ⟨128 + r, own_lt r⟩) h d * (1 / 8) : ℝ) : EReal))
    (hk : ∀ ρ e' d, k (ix2 ρ (lane e' d)) = ((kn kg (R ρ) (kvOf h) d : ℝ) : EReal))
    (hv : ∀ ρ e' d, v (ix2 ρ (lane e' d)) = ((R ρ (vcol (kvOf h) d) : ℝ) : EReal)) (e' : Fin 2) (d : Fin 64) :
    unit b q' k v ((sk h : ℝ) : EReal) s.val s.isLt (ix2 a (lane e' d))
      = attn qg kg sk (R ⟨128 * s + a + 128, self_lt s a⟩) (fun κ => R ⟨128 * s + κ, key_lt s κ⟩) V h d := by
  have hs := score_at b q q' k s V a hb h e hq hq' hk
  have u : unit b q' k v ((sk h : ℝ) : EReal) s.val s.isLt (ix2 a (lane e' d))
      = ∑ κ : Fin 256, k0_pay120 (score b q' k s.val s.isLt) ((sk h : ℝ) : EReal) (ix2 a κ) * v (ix2 ⟨128 * s + κ, key_lt s κ⟩ (lane e' d)) := by
    unfold unit
    generalize k0_pay120 (score b q' k s.val s.isLt) ((sk h : ℝ) : EReal) = P
    pointwise
  rw [u]
  unfold attn
  refine Finset.sum_congr rfl fun κ _ => ?_
  rw [prob_at _ _ _ (fun κ => by rw [congrFun hs κ]; exact sc_lt ..), hs, hv]

end
end Cert.MixKernelIdeal.Value
end
-- ==== Proof.MixKernelAttn.lean ====
/-
  The attention's output of one grid point: the heads of a block side by side and the blocks below one another, each
  entry the mixer's attention at its row and column.
-/
module

public import proofs.«01_k».proof.Proof.MixKernelValue

@[expose] public section

noncomputable section

namespace Cert.MixKernelIdeal.Value

open Cert.MixKernelIdeal Cert.MixKernelIdeal.Gen Idealize.ShloMosaic Idealize.ShloMosaic.TcCoe Idealize.SL.Sem Cert.Reals Cert.Mix

section
variable (x0 : Vec Ideal S8 .f32) (x1 : Vec Ideal S1024x2304 .bf16) (x2 : Vec Ideal S128x256 .bf16)
  (x4 x5 : Vec Ideal S1x128 .f32)
  {R : Fin 1152 → Fin 2304 → ℝ} {qg kg : Fin 64 → ℝ} {sk : Fin 8 → ℝ}
  (h0 : ∀ h, x0 (ix1 h) = ((sk h : ℝ) : EReal))
  (h1 : ∀ (r : Fin 1024) c, x1 (ix2 r c) = ((R ⟨128 + r, own_lt r⟩ c : ℝ) : EReal))
  (h2 : ∀ (r : Fin 128) (c : Fin 256), x2 (ix2 r c) = ((R ⟨r, before_lt r⟩ ⟨2048 + c, kv_lt c⟩ : ℝ) : EReal))
  (h4 : ∀ z e d, x4 (ix2 z (lane e d)) = ((qg d : ℝ) : EReal)) (h5 : ∀ z e d, x5 (ix2 z (lane e d)) = ((kg d : ℝ) : EReal))

include h0 in
theorem sinkOf_at (n : Fin 8) : sinkOf x0 n.val n.isLt = ((sk n : ℝ) : EReal) := by
  rw [← h0]
  unfold sinkOf
  refine congrArg x0 (funext fun a => Fin.ext ?_)
  have ha : a = 0 := Subsingleton.elim _ _
  subst ha
  simp [View.ld, Rect.emb, Rect.unit, Shape.Idx.first, ix1]

section
variable (b : FVec Ideal S128x256 .f32) (k v : FVec Ideal S1152x128 .bf16) (s : Fin 8) (V : Fin 256 → Prop) (a : Fin 128)
  (hb : ∀ κ, b (ix2 a κ) = (open Classical in if V κ then (0 : EReal) else ⊥)) (p : Fin 4) (g : Fin 2) (hg : p.val / 2 = g.val)
  (hk : ∀ ρ e' d, k (ix2 ρ (lane e' d)) = ((kn kg (R ρ) g d : ℝ) : EReal))
  (hv : ∀ ρ e' d, v (ix2 ρ (lane e' d)) = ((R ρ (vcol g d) : ℝ) : EReal)) (e' : Fin 2) (d : Fin 64)

include h0 h1 h4 hb hg hk hv in
theorem lowOut_at : lowOut x0 x1 x4 b k v s.val s.isLt p.val p.isLt (ix2 a (lane e' d))
    = attn qg kg sk (R ⟨128 * s + a + 128, self_lt s a⟩) (fun κ => R ⟨128 * s + κ, key_lt s κ⟩) V ⟨2 * p, pair_lt p 0⟩ d := by
  have hkv : g = kvOf ⟨2 * p, by omega⟩ := Fin.ext (by show g.val = 2 * p.val / 4; omega)
  rw [hkv] at hk hv
  unfold lowOut
  rw [sinkOf_at x0 h0 ⟨2 * p.val, by omega⟩]
  exact unit_at b _ _ k v s V a hb _ 0 (pay31_at _) (fun r d => qPair_at x1 x4 h1 h4 p r 0 d) hk hv e' d

include h0 h1 h4 hb hg hk hv in
theorem highOut_at : highOut x0 x1 x4 b k v s.val s.isLt p.val p.isLt (ix2 a (lane e' d))
    = attn qg kg sk (R ⟨128 * s + a + 128, self_lt s a⟩) (fun κ => R ⟨128 * s + κ, key_lt s κ⟩) V ⟨2 * p + 1, pair_lt p 1⟩ d := by
  have hkv : g = kvOf ⟨2 * p + 1, by omega⟩ := Fin.ext (by show g.val = (2 * p.val + 1) / 4; omega)
  rw [hkv] at hk hv
  unfold highOut
  rw [sinkOf_at x0 h0 ⟨2 * p.val + 1, by omega⟩]
  exact unit_at b _ _ k v s V a hb _ 1 (pay32_at _) (fun r d => qPair_at x1 x4 h1 h4 p r 1 d) hk hv e' d
end

/-- Eight head outputs placed side by side. -/
theorem heads_at (o : Fin 8 → FVec Ideal S128x128 .f32) (a : Fin 128) (p : Fin 4) (e : Fin 2) (d : Fin 64) (c : Fin 512)
    (hc : c.val = 128 * p + (lane e d).val) :
    k0_pay325 k0_pay14 (o 0) (o 1) (o 2) (o 3) (o 4) (o 5) (o 6) (o 7) (ix2 a c) = o ⟨2 * p + e, pair_lt p e⟩ (ix2 a (lane e d)) := by
  have hl : (lane e d).val < 128 := (lane e d).isLt
  have pick (l : Fin 128) (hle : l.val = (lane e d).val) (u v : FVec Ideal S128x128 .f32) :
      Scalar.select (IntOp.cmpi CmpIPredicate.slt (BitVec.ofNat 32 l.val) 64#32) (u (ix2 a l)) (v (ix2 a l))
        = if e = 0 then u (ix2 a (lane e d)) else v (ix2 a (lane e d)) := by
    rw [show l = lane e d from Fin.ext hle, select_lane]
  pointwise [k0_pay325, k0_pay14]
  split
  · refine (pick ⟨c.val, ‹_›⟩ (by dsimp only; omega) _ _).trans ?_
    obtain rfl : p = 0 := Fin.ext (by show p.val = 0; omega)
    fin_cases e <;> rfl
  split
  · refine (pick ⟨c.val - 128, ‹_›⟩ (by dsimp only; omega) _ _).trans ?_
    obtain rfl : p = 1 := Fin.ext (by show p.val = 1; omega)
    fin_cases e <;> rfl
  split
  · refine (pick ⟨c.val - 128 - 128, ‹_›⟩ (by dsimp only; omega) _ _).trans ?_
    obtain rfl : p = 2 := Fin.ext (by show p.val = 2; omega)
    fin_cases e <;> rfl
  · refine (pick ⟨c.val - 128 - 128 - 128, by omega⟩ (by dsimp only; omega) _ _).trans ?_
    obtain rfl : p = 3 := Fin.ext (by show p.val = 3; omega)
    fin_cases e <;> rfl

/-- Eight blocks placed below one another. -/
theorem rows_at (o : Fin 8 → FVec Ideal S128x512 .f32) (s : Fin 8) (a : Fin 128) (r : Fin 1024) (hr : r.val = 128 * s + a) (c : Fin 512) :
    k0_pay335 (o 0) (o 1) (o 2) (o 3) (o 4) (o 5) (o 6) (o 7) (ix2 r c) = o s (ix2 a c) := by
  have pick (t : Fin 8) (l : ℕ) (hl : l < 128) (h : l + 128 * t.val = r.val) : o t (ix2 ⟨l, hl⟩ c) = o s (ix2 a c) := by
    obtain rfl : t = s := Fin.ext (by omega)
    obtain rfl : a = ⟨l, hl⟩ := Fin.ext (by dsimp only; omega)
    rfl
  pointwise [k0_pay335]
  split
  · exact pick 0 _ ‹_› (by simp)
  split
  · exact pick 1 _ ‹_› (by simp; omega)
  split
  · exact pick 2 _ ‹_› (by simp; omega)
  split
  · exact pick 3 _ ‹_› (by simp; omega)
  split
  · exact pick 4 _ ‹_› (by simp; omega)
  split
  · exact pick 5 _ ‹_› (by simp; omega)
  split
  · exact pick 6 _ ‹_› (by simp; omega)
  · exact pick 7 _ (by omega) (by simp; omega)

section
variable (b : FVec Ideal S128x256 .f32) (k k' v v' : FVec Ideal S1152x128 .bf16) (s : Fin 8) (V : Fin 256 → Prop) (a : Fin 128)
  (hb : ∀ κ, b (ix2 a κ) = (open Classical in if V κ then (0 : EReal) else ⊥))
  (hk : ∀ ρ e' d, k (ix2 ρ (lane e' d)) = ((kn kg (R ρ) 0 d : ℝ) : EReal))
  (hk' : ∀ ρ e' d, k' (ix2 ρ (lane e' d)) = ((kn kg (R ρ) 1 d : ℝ) : EReal))
  (hv : ∀ ρ e' d, v (ix2 ρ (lane e' d)) = ((R ρ (vcol 0 d) : ℝ) : EReal))
  (hv' : ∀ ρ e' d, v' (ix2 ρ (lane e' d)) = ((R ρ (vcol 1 d) : ℝ) : EReal))

include h0 h1 h4 hb hk hk' hv hv' in
theorem blockOut_at (h : Fin 8) (d : Fin 64) : blockOut x0 x1 x4 b k k' v v' s.val s.isLt (ix2 a ⟨64 * h + d, head_lt h d⟩)
    = attn qg kg sk (R ⟨128 * s + a + 128, self_lt s a⟩) (fun κ => R ⟨128 * s + κ, key_lt s κ⟩) V h d := by
  obtain ⟨p, e, rfl⟩ : ∃ (p : Fin 4) (e : Fin 2), h = ⟨2 * p + e, pair_lt p e⟩ :=
    ⟨⟨h / 2, by omega⟩, ⟨h % 2, by omega⟩, Fin.ext (by show h.val = 2 * (h.val / 2) + h.val % 2; omega)⟩
  refine (heads_at ![lowOut x0 x1 x4 b k v s.val s.isLt 0 (by decide), highOut x0 x1 x4 b k v s.val s.isLt 0 (by decide),
    lowOut x0 x1 x4 b k v s.val s.isLt 1 (by decide), highOut x0 x1 x4 b k v s.val s.isLt 1 (by decide),
    lowOut x0 x1 x4 b k' v' s.val s.isLt 2 (by decide), highOut x0 x1 x4 b k' v' s.val s.isLt 2 (by decide),
    lowOut x0 x1 x4 b k' v' s.val s.isLt 3 (by decide), highOut x0 x1 x4 b k' v' s.val s.isLt 3 (by decide)] a p e d _
    (by show 64 * (2 * p.val + e.val) + d.val = 128 * p.val + (64 * e.val + d.val); omega)).trans ?_
  fin_cases p <;> fin_cases e
  · exact lowOut_at x0 x1 x4 h0 h1 h4 b k v s V a hb 0 0 rfl hk hv 0 d
  · exact highOut_at x0 x1 x4 h0 h1 h4 b k v s V a hb 0 0 rfl hk hv 1 d
  · exact lowOut_at x0 x1 x4 h0 h1 h4 b k v s V a hb 1 0 rfl hk hv 0 d
  · exact highOut_at x0 x1 x4 h0 h1 h4 b k v s V a hb 1 0 rfl hk hv 1 d
  · exact lowOut_at x0 x1 x4 h0 h1 h4 b k' v' s V a hb 2 1 rfl hk' hv' 0 d
  · exact highOut_at x0 x1 x4 h0 h1 h4 b k' v' s V a hb 2 1 rfl hk' hv' 1 d
  · exact lowOut_at x0 x1 x4 h0 h1 h4 b k' v' s V a hb 3 1 rfl hk' hv' 0 d
  · exact highOut_at x0 x1 x4 h0 h1 h4 b k' v' s V a hb 3 1 rfl hk' hv' 1 d
end

include h0 h1 h2 h4 h5 in
theorem attnOut_at (n s : Fin 8) (a : Fin 128) (h : Fin 8) (d : Fin 64) :
    attnOut x0 x1 x2 x4 x5 (BitVec.ofNat 32 n.val) (ix2 ⟨128 * s + a, query_lt s a⟩ ⟨64 * h + d, head_lt h d⟩)
      = attn qg kg sk (R ⟨128 * s + a + 128, self_lt s a⟩) (fun κ => R ⟨128 * s + κ, key_lt s κ⟩) (seen (8 * n + s) a) h d := by
  have o (b : FVec Ideal S128x256 .f32) (hb : ∀ κ, b (ix2 a κ) = (open Classical in if seen (8 * n + s) a κ then (0 : EReal) else ⊥)) :=
    blockOut_at x0 x1 x4 h0 h1 h4 b (lowBoth (kBand x1 x2 x5)) (highBoth (kBand x1 x2 x5)) (lowBoth (vBand x1 x2)) (highBoth (vBand x1 x2))
      s (seen (8 * n + s) a) a hb
      (fun ρ e' d => (low_at _ ρ e' d).trans (kBand_at x1 x2 x5 h1 h2 h5 ρ 0 d)) (fun ρ e' d => (high_at _ ρ e' d).trans (kBand_at x1 x2 x5 h1 h2 h5 ρ 1 d))
      (fun ρ e' d => (low_at _ ρ e' d).trans (vBand_at x1 x2 h1 h2 ρ 0 d)) (fun ρ e' d => (high_at _ ρ e' d).trans (vBand_at x1 x2 h1 h2 ρ 1 d)) h d
  unfold attnOut blocksOut
  generalize hB : (k0_pay27 (F := Ideal) (BitVec.ofNat 32 n.val)) = B
  refine (rows_at (fun t => blockOut x0 x1 x4 (if t.val = 0 then B else biasAfter) (lowBoth (kBand x1 x2 x5)) (highBoth (kBand x1 x2 x5))
    (lowBoth (vBand x1 x2)) (highBoth (vBand x1 x2)) t.val t.isLt) s a _ rfl ⟨64 * h + d, head_lt h d⟩).trans (o _ fun κ => ?_)
  split
  · rename_i hs
    rw [← hB, hs]
    exact bias_at n a κ
  · exact biasAfter_at _ (by omega) a κ

end
end Cert.MixKernelIdeal.Value
end
-- ==== Proof.MixKernelConv.lean ====
/-
  The convolution, the row normalisations and the residual stream of one grid point of the mixer's forward kernel.
-/
module

public import proofs.«01_k».proof.Proof.MixStages
public import proofs.«01_k».proof.Proof.MixMath
public import Idealize.ShloMosaic.Lib.Pipeline.ValueKit.Tiles

@[expose] public section

noncomputable section

namespace Cert.MixKernelIdeal.Value

open Cert.MixKernelIdeal Cert.MixKernelIdeal.Gen Idealize.ShloMosaic Idealize.ShloMosaic.TcCoe Idealize.SL.Sem Cert.Reals Cert.Mix

theorem row0_bit : ∀ r : Fin 1024, IntOp.cmpi CmpIPredicate.eq (BitVec.ofNat 32 r.val) 0#32 = BitVec.ofBool (decide (r.val = 0)) := by
  decide +kernel
theorem row1_bit : ∀ r : Fin 1024, IntOp.cmpi CmpIPredicate.eq (BitVec.ofNat 32 r.val) 1#32 = BitVec.ofBool (decide (r.val = 1)) := by
  decide +kernel

/-- One row further down looks back one row further. -/
theorem gate_step (p : Fin 8192 → Fin 2304 → ℝ) (e : ℕ) (i i' : Fin 8192) (h : i'.val = i.val + 1) (j : Fin 512) :
    gate p (e + 1) i' j = gate p e i j := by
  unfold gate
  by_cases hi : i.val < e
  · rw [if_pos hi, if_pos (by omega)]
  · rw [if_neg hi, if_neg (by omega)]
    have t : (⟨i'.val - (e + 1), by omega⟩ : Fin 8192) = ⟨i - e, by omega⟩ := Fin.ext (by dsimp only; omega)
    rw [t]

section
variable (x1 : Vec Ideal S1024x2304 .bf16) (x3 : Vec Ideal S3x512 .f32) (x6 x7 : Vec Ideal S1x512 .f32) (x8 : Vec Ideal S1024x1024 .f32)
  (x9 : Vec Ideal S1024x1024 .bf16) (xs : Vec Ideal S8x512 .f32)
  {p : Fin 8192 → Fin 2304 → ℝ} {cw : Fin 3 → Fin 512 → EReal} {cg ag : Fin 512 → EReal} (n : Fin 8)
  (h1 : ∀ (r : Fin 1024) c, x1 (ix2 r c) = ((p ⟨1024 * n + r, point_lt n r⟩ c : ℝ) : EReal))
  (h3 : ∀ e j, x3 (ix2 e j) = cw e j) (h6 : ∀ z j, x6 (ix2 z j) = cg j) (h7 : ∀ z j, x7 (ix2 z j) = ag j)
  (hx6 : ∀ j, xs (ix2 6 j) = gate p 2 ⟨1024 * n, first_lt n⟩ j) (hx7 : ∀ j, xs (ix2 7 j) = gate p 1 ⟨1024 * n, first_lt n⟩ j)

include h1 in
theorem taps_at (r : Fin 1024) (j : Fin 512) : taps x1 (ix2 r j) = gate p 0 ⟨1024 * n + r, point_lt n r⟩ j := by
  pointwise [taps, k0_pay5]
  rw [h1, h1]
  rfl

include h1 in
theorem rolled (e r : ℕ) (hr : r < 1024) (he : e ≤ r) (hc : e < 3) (j : Fin 512) :
    x1 (ix2 ⟨(r + 1024 - e) % 1024, by omega⟩ ⟨512 + j, by omega⟩) * x1 (ix2 ⟨(r + 1024 - e) % 1024, by omega⟩ ⟨1024 + j, by omega⟩)
      = gate p e ⟨1024 * n + r, by omega⟩ j := by
  rw [h1, h1]
  unfold gate
  rw [if_neg (by dsimp only; omega)]
  have t : (⟨1024 * n.val + (r + 1024 - e) % 1024, by omega⟩ : Fin 8192) = ⟨1024 * n + r - e, by omega⟩ := Fin.ext (by dsimp only; omega)
  dsimp only
  rw [t]

include h1 hx7 in
theorem taps1_at (r : Fin 1024) (j : Fin 512) : taps1 x1 xs (ix2 r j) = gate p 1 ⟨1024 * n + r, point_lt n r⟩ j := by
  pointwise [taps1, k0_pay6, k0_pay5]
  rw [row0_bit, Scalar.select_decide]
  split
  · rename_i hr
    rw [hx7]
    exact congrArg (gate p 1 · j) (Fin.ext (by dsimp only; omega))
  · exact rolled x1 n h1 1 r.val r.isLt (by omega) (by decide) j

include h1 hx6 hx7 in
theorem taps2_at (r : Fin 1024) (j : Fin 512) : taps2 x1 xs (ix2 r j) = gate p 2 ⟨1024 * n + r, point_lt n r⟩ j := by
  pointwise [taps2, k0_pay7, k0_pay5]
  rw [row0_bit, row1_bit, Scalar.select_decide, Scalar.select_decide]
  split
  · rename_i hr
    rw [hx6]
    exact congrArg (gate p 2 · j) (Fin.ext (by dsimp only; omega))
  split
  · rename_i hr
    rw [hx7]
    exact (gate_step p 1 _ _ (by dsimp only; omega) j).symm
  · exact rolled x1 n h1 2 r.val r.isLt (by omega) (by decide) j

include h1 in
theorem carried_at (e : ℕ) (he : e < 8) (j : Fin 512) (hn : n.val < 7) :
    carried x1 (ix2 ⟨7 - e, by omega⟩ j) = gate p (e + 1) ⟨1024 * (n + 1), by omega⟩ j := by
  pointwise [carried, k0_pay8, k0_pay5]
  rw [h1, h1]
  unfold gate
  rw [if_neg (by dsimp only; omega)]
  have t : (⟨1024 * n.val + (1016 + (7 - e)), by omega⟩ : Fin 8192) = ⟨1024 * (n.val + 1) - (e + 1), by omega⟩ := Fin.ext (by dsimp only; omega)
  dsimp only
  rw [t]

include h1 h3 hx6 hx7 in
theorem convOut_at (r : Fin 1024) (j : Fin 512) : convOut x1 x3 xs (ix2 r j) = conv p cw ⟨1024 * n + r, point_lt n r⟩ j := by
  unfold conv
  rw [← taps_at x1 n h1, ← taps1_at x1 xs n h1 hx7, ← taps2_at x1 xs n h1 hx6 hx7, ← h3, ← h3, ← h3]
  unfold convOut
  generalize taps x1 = a
  generalize taps1 x1 xs = b
  generalize taps2 x1 xs = c
  pointwise [k0_pay10, k0_pay9]

/-- The row normalisation with the squares summed in four groups of lanes. -/
theorem norm_groups (g f : Fin 512 → EReal) (j : Fin 512) :
    f j * Ideal.rsqrt ((∑ x : Fin 128, (f ⟨x, by omega⟩ * f ⟨x, by omega⟩ + f ⟨128 + x, by omega⟩ * f ⟨128 + x, by omega⟩
        + f ⟨256 + x, by omega⟩ * f ⟨256 + x, by omega⟩ + f ⟨384 + x, by omega⟩ * f ⟨384 + x, by omega⟩))
      * Ideal.ofBits .f32 0x3B000000#32 + Ideal.ofBits .f32 0x358637BD#32) * g j = norm g f j := by
  rw [sum_groups4 (fun k => f k * f k), ofBits_inv512, ofBits_eps]
  rfl

include h7 in
theorem normAttn_at (a : FVec Ideal S1024x512 .f32) (r : Fin 1024) (j : Fin 512) :
    normAttn x7 a (ix2 r j) = norm ag (fun j => a (ix2 r j)) j := by
  rw [← norm_groups, ← h7 0]
  pointwise [normAttn, k0_pay1]

include h6 in
theorem mixConv_at (r : Fin 1024) (j : Fin 512) :
    mixConv x1 x3 x6 xs (ix2 r j) = norm cg (fun j => x1 (ix2 r ⟨j, by omega⟩) * convOut x1 x3 xs (ix2 r j)) j := by
  rw [← norm_groups, ← h6 0]
  unfold mixConv convOut
  generalize taps x1 = a
  generalize taps1 x1 xs = b
  generalize taps2 x1 xs = c
  pointwise [k0_pay11, k0_pay10, k0_pay4]

theorem stream_at (c a : FVec Ideal S1024x512 .bf16) (r : Fin 1024) (j : Fin 1024) :
    stream x8 x9 c a (ix2 r j)
      = x8 (ix2 r j) + ∑ k : Fin 1024, (if h : k.val < 512 then c (ix2 r ⟨k, h⟩) else a (ix2 r ⟨k - 512, by omega⟩)) * x9 (ix2 k j) := by
  rw [Fin.sum_univ_tiles 2 512 rfl, Fin.sum_univ_two, ← add_assoc]
  pointwise [stream, k0_pay12, k0_pay13]

theorem halves_at (c a : FVec Ideal S1024x512 .bf16) (r : Fin 1024) (j : Fin 1024) :
    halves c a (ix2 r j) = if h : j.val < 512 then c (ix2 r ⟨j, h⟩) else a (ix2 r ⟨j - 512, by omega⟩) := by
  have hr := r.isLt
  have hj := j.isLt
  refine View.canon_eq_of_allAt _ _ _ (View.cover_of_tiled _ ![1024, 512] rfl _)
    (View.allAt_cons_unit _ _ _ _ _ (fun x hx => ?_) (View.allAt_cons_unit _ _ _ _ _ (fun x hx => ?_) (View.allAt_nil _ _)))
  · have h0 : r.val = 0 + (x 0).val := hx 0
    have h1 : j.val = 512 + (x 1).val := hx 1
    rw [dif_neg (by omega)]
    refine congrArg a (funext fun b => Fin.ext ?_)
    match b with
    | ⟨0, _⟩ => show (x 0).val = r.val; omega
    | ⟨1, _⟩ => show (x 1).val = j.val - 512; omega
  · have h0 : r.val = 0 + (x 0).val := hx 0
    have h1 : j.val = 0 + (x 1).val := hx 1
    have h2 : (x 1).val < 512 := (x 1).isLt
    rw [dif_pos (by omega)]
    refine congrArg c (funext fun b => Fin.ext ?_)
    match b with
    | ⟨0, _⟩ => show (x 0).val = r.val; omega
    | ⟨1, _⟩ => show (x 1).val = j.val; omega

end
end Cert.MixKernelIdeal.Value
end
-- ==== Proof.MixKernelResults.lean ====
/-
  The mixer's forward kernel: its four results as the mixer's mathematics over its arguments. The projection, the two
  head gains and the sinks are real; the residual stream, the convolution's weights, the two gains of the mixed rows and
  the output weight are left as they are.
-/
module

public import proofs.«01_k».proof.Proof.MixBlocks
public import proofs.«01_k».proof.Proof.MixKernelAttn
public import proofs.«01_k».proof.Proof.MixKernelConv

@[expose] public section

noncomputable section

namespace Cert.MixKernelIdeal.Value

open Cert.MixKernelIdeal Cert.MixKernelIdeal.Gen Idealize.ShloMosaic Idealize.ShloMosaic.TcCoe Idealize.SL.Sem Cert.Reals Cert.Mix

section
variable (m : (ℓ : Loc nD τ sig) → Buf (Elt Ideal) ℓ) (c : Dev nD)

/-- The arguments hold these real numbers. -/
structure Holds (p : Fin 8192 → Fin 2304 → ℝ) (qg kg : Fin 64 → ℝ) (sk : Fin 8 → ℝ) : Prop where
  p : ∀ i j, m ((c : Thread nD τ).loc main_arg1) (ix3 0 i j) = ((p i j : ℝ) : EReal)
  qg : ∀ d, m ((c : Thread nD τ).loc main_arg3) (ix1 d) = ((qg d : ℝ) : EReal)
  kg : ∀ d, m ((c : Thread nD τ).loc main_arg4) (ix1 d) = ((kg d : ℝ) : EReal)
  sk : ∀ h, m ((c : Thread nD τ).loc main_arg5) (ix1 h) = ((sk h : ℝ) : EReal)

/-- The residual stream before the mixer. -/
def xIn (i : Fin 8192) (j : Fin 1024) : EReal := m ((c : Thread nD τ).loc main_arg0) (ix3 0 i j)
/-- The convolution's weights. -/
def cw (e : Fin 3) (j : Fin 512) : EReal := m ((c : Thread nD τ).loc main_arg2) (ix2 e j)
/-- The gain of the convolution's half. -/
def cg (j : Fin 512) : EReal := m ((c : Thread nD τ).loc main_arg6) (ix1 j)
/-- The gain of the attention's half. -/
def ag (j : Fin 512) : EReal := m ((c : Thread nD τ).loc main_arg7) (ix1 j)
/-- The output weight. -/
def wo (i j : Fin 1024) : EReal := m ((c : Thread nD τ).loc main_arg8) (ix2 i j)

/-! ## One point's outputs in the named pieces -/

variable (t : Fin cfg0.N)

/-- The attention's output at a point. -/
def aoAt : FVec Ideal S1024x512 .f32 :=
  attnOut (iblk m c 0 t) (iblk m c 1 t) (iblk m c 2 t) (View.ld (iblk m c 4 t) (Rect.unit ![0, 0] S1x128.size inb_S1x128_S1x128_0_0))
    (View.ld (iblk m c 5 t) (Rect.unit ![0, 0] S1x128.size inb_S1x128_S1x128_0_0)) (BitVec.ofNat 32 ((grid0.coords t) 0).val)
/-- The rows carried into a point. -/
def carryAt : Vec Ideal S8x512 .f32 :=
  if t.val % 8 = 0 then k0_pay3 (F := Ideal)
  else View.ld (outsAt0 m c (t.val - 1) (Nat.lt_of_le_of_lt (Nat.sub_le _ _) t.isLt)).2.2.2.2 (Rect.unit ![0, 0] S8x512.size inb_S8x512_S8x512_0_0)
/-- The convolution's half of the mixed rows at a point. -/
def convAt : FVec Ideal S1024x512 .bf16 :=
  mixConv (iblk m c 1 t) (iblk m c 3 t) (View.ld (iblk m c 6 t) (Rect.unit ![0, 0] S1x512.size inb_S1x512_S1x512_0_0)) (carryAt m c t)
/-- The attention's half of the mixed rows at a point. -/
def normAt : FVec Ideal S1024x512 .bf16 :=
  normAttn (View.ld (iblk m c 7 t) (Rect.unit ![0, 0] S1x512.size inb_S1x512_S1x512_0_0)) (aoAt m c t)

theorem outs_mix : (outsAt0 m c t.val t.isLt).1 = halves (convAt m c t) (normAt m c t) := by
  unfold convAt normAt aoAt carryAt
  by_cases h0 : t.val % 8 = 0
  · rw [outsAt0_A m c t h0, if_pos h0]; dsimp only; rw [mix_A (F := Ideal) ..]; rfl
  · rw [outsAt0_B m c t h0, if_neg h0]; dsimp only; rw [mix_B (F := Ideal) ..]; rfl
theorem outs_y : (outsAt0 m c t.val t.isLt).2.1 = convOut (iblk m c 1 t) (iblk m c 3 t) (carryAt m c t) := by
  unfold carryAt
  by_cases h0 : t.val % 8 = 0
  · rw [outsAt0_A m c t h0, if_pos h0]; dsimp only; rw [y_A (F := Ideal) ..]
  · rw [outsAt0_B m c t h0, if_neg h0]; dsimp only; rw [y_B (F := Ideal) ..]
theorem outs_ao : (outsAt0 m c t.val t.isLt).2.2.1 = truncf .bf16 (aoAt m c t) bitsLt_bf16_f32 := by
  unfold aoAt
  by_cases h0 : t.val % 8 = 0
  · rw [outsAt0_A m c t h0]; dsimp only; rw [ao_A (F := Ideal) ..]; rfl
  · rw [outsAt0_B m c t h0]; dsimp only; rw [ao_B (F := Ideal) ..]; rfl
theorem outs_x1 : (outsAt0 m c t.val t.isLt).2.2.2.1
    = stream (View.ld (iblk m c 8 t) (Rect.unit ![0, 0] S1024x1024.size inb_S1024x1024_S1024x1024_0_0)) (iblk m c 9 t) (convAt m c t) (normAt m c t) := by
  unfold convAt normAt aoAt carryAt
  by_cases h0 : t.val % 8 = 0
  · rw [outsAt0_A m c t h0, if_pos h0]; dsimp only; rw [x1_A (F := Ideal) ..]; rfl
  · rw [outsAt0_B m c t h0, if_neg h0]; dsimp only; rw [x1_B (F := Ideal) ..]; rfl
theorem outs_carried : (outsAt0 m c t.val t.isLt).2.2.2.2 = carried (iblk m c 1 t) := by
  by_cases h0 : t.val % 8 = 0
  · rw [outsAt0_A m c t h0]; dsimp only; rw [sc_A (F := Ideal) ..]
  · rw [outsAt0_B m c t h0]; dsimp only; rw [sc_B (F := Ideal) ..]

/-! ## The pieces as the mixer's mathematics -/

section
variable {m} {c} {p : Fin 8192 → Fin 2304 → ℝ} {qg kg : Fin 64 → ℝ} {sk : Fin 8 → ℝ} (h : Holds m c p qg kg sk)

include h in
theorem proj_at (r : Fin 1024) (k : Fin 2304) :
    (iblk m c 1 t : Vec Ideal S1024x2304 .bf16) (ix2 r k) = ((p ⟨1024 * (pt t).val + r.val, point_lt (pt t) r⟩ k : ℝ) : EReal) :=
  (blk1 m c t r k).trans (h.p _ _)

theorem bandRow_own (r : Fin 1024) : bandRow t ⟨128 + r.val, own_lt r⟩ = row t r := by
  unfold bandRow row
  rw [dif_pos (by dsimp only; omega)]
  exact Fin.ext (by dsimp only; omega)

include h in
theorem ao_at (r : Fin 1024) (j : Fin 512) : aoAt m c t (ix2 r j) = attnAll p qg kg sk (row t r) j := by
  obtain ⟨s, a, rfl⟩ : ∃ (s : Fin 8) (a : Fin 128), r = ⟨128 * s + a, query_lt s a⟩ :=
    ⟨⟨r / 128, by omega⟩, ⟨r % 128, by omega⟩, Fin.ext (by dsimp only; omega)⟩
  obtain ⟨n, d, rfl⟩ : ∃ (n : Fin 8) (d : Fin 64), j = ⟨64 * n + d, head_lt n d⟩ :=
    ⟨⟨j / 64, by omega⟩, ⟨j % 64, by omega⟩, Fin.ext (by dsimp only; omega)⟩
  unfold aoAt
  rw [coord]
  refine (attnOut_at _ _ _ _ _ (R := fun ρ => p (bandRow t ρ)) (qg := qg) (kg := kg) (fun n => (blk0 m c t n).trans (h.sk n)) (fun r k => ?_) (fun r k => ?_)
    (fun z e d => ?_) (fun z e d => ?_) (pt t) s a n d).trans ?_
  · rw [bandRow_own]
    exact (blk1 m c t r k).trans (h.p _ _)
  · exact (blk2 m c t r k).trans (h.p _ _)
  · exact (congrFun (View.ld_unit_zero (S := S1x128) hz _ _) _).trans ((blk4 m c t z e d).trans (h.qg d))
  · exact (congrFun (View.ld_unit_zero (S := S1x128) hz _ _) _).trans ((blk5 m c t z e d).trans (h.kg d))
  have hq : bandRow t ⟨128 * s + a + 128, self_lt s a⟩ = row t ⟨128 * s + a, query_lt s a⟩ := by
    rw [← bandRow_own]
    exact congrArg (bandRow t) (Fin.ext (by dsimp only; omega))
  rw [hq]
  refine (attnAll_of p qg kg sk _ _ ⟨8 * pt t + s, block_lt (pt t) s⟩ a n d (by show 1024 * (pt t).val + (128 * s.val + a.val) = _; dsimp only; omega) rfl
    fun κ hκ => ?_).symm
  have hs : 128 ≤ 128 * (8 * (pt t).val + s.val) + κ.val := by
    rcases hκ.2 with h1 | h1
    · omega
    · have h2 : 0 < 8 * (pt t).val + s.val := h1
      omega
  unfold keys bandRow
  rw [dif_pos (by dsimp only; omega), dif_pos (by dsimp only; omega)]
  exact congrArg p (Fin.ext (by dsimp only; omega))

include h in
theorem carry_at : (∀ j, carryAt m c t (ix2 6 j) = gate p 2 ⟨1024 * (pt t).val, first_lt (pt t)⟩ j)
    ∧ ∀ j, carryAt m c t (ix2 7 j) = gate p 1 ⟨1024 * (pt t).val, first_lt (pt t)⟩ j := by
  have ht : t.val < 8 := t.isLt
  by_cases h0 : t.val % 8 = 0
  · have z (i : Fin 8) (j : Fin 512) : (k0_pay3 (F := Ideal) : Vec Ideal S8x512 .f32) (ix2 i j) = 0 := by pointwise [k0_pay3]
    unfold carryAt gate
    rw [if_pos h0]
    exact ⟨fun j => by rw [z, if_pos (by dsimp only [pt]; omega)], fun j => by rw [z, if_pos (by dsimp only [pt]; omega)]⟩
  · obtain ⟨u, hu⟩ : ∃ u : Fin cfg0.N, u.val = t.val - 1 := ⟨⟨t.val - 1, Nat.lt_of_le_of_lt (Nat.sub_le _ _) t.isLt⟩, rfl⟩
    have e : carryAt m c t = carried (iblk m c 1 u) := by
      unfold carryAt
      rw [if_neg h0, View.ld_unit_zero hz]
      obtain rfl : u = ⟨t.val - 1, Nat.lt_of_le_of_lt (Nat.sub_le _ _) t.isLt⟩ := Fin.ext hu
      exact outs_carried m c ⟨t.val - 1, Nat.lt_of_le_of_lt (Nat.sub_le _ _) t.isLt⟩
    rw [e]
    have hn : (pt u).val < 7 := by show u.val < 7; omega
    have g (e : ℕ) : gate p e ⟨1024 * ((pt u).val + 1), by omega⟩ = gate p e ⟨1024 * (pt t).val, first_lt (pt t)⟩ :=
      congrArg (gate p e) (Fin.ext (by show 1024 * (u.val + 1) = 1024 * t.val; omega))
    exact ⟨fun j => (carried_at _ (pt u) (proj_at u h) 1 (by decide) j hn).trans (congrFun (g 2) j),
      fun j => (carried_at _ (pt u) (proj_at u h) 0 (by decide) j hn).trans (congrFun (g 1) j)⟩

include h in
theorem y_at (r : Fin 1024) (j : Fin 512) :
    convOut (iblk m c 1 t) (iblk m c 3 t) (carryAt m c t) (ix2 r j) = conv p (cw m c) (row t r) j :=
  convOut_at _ _ _ (pt t) (proj_at t h) (blk3 m c t) (carry_at t h).1 (carry_at t h).2 r j

include h in
theorem conv_at (r : Fin 1024) (j : Fin 512) : convAt m c t (ix2 r j) = mixA p (cw m c) (cg m c) (row t r) j := by
  unfold convAt
  rw [mixConv_at _ _ _ _ (cg := cg m c) (fun z j => (congrFun (View.ld_unit_zero (S := S1x512) hz _ _) _).trans (blk6 m c t z j))]
  unfold mixA
  exact congrArg (norm _ · j) (funext fun j => by rw [y_at t h, proj_at t h]; rfl)

include h in
theorem norm_at (r : Fin 1024) (j : Fin 512) : normAt m c t (ix2 r j) = mixB p qg kg sk (ag m c) (row t r) j := by
  unfold normAt
  rw [normAttn_at _ (ag := ag m c) (fun z j => (congrFun (View.ld_unit_zero (S := S1x512) hz _ _) _).trans (blk7 m c t z j))]
  unfold mixB
  exact congrArg (norm _ · j) (funext fun j => ao_at t h r j)

include h in
theorem half_at (r : Fin 1024) (j : Fin 1024) :
    (if h : j.val < 512 then convAt m c t (ix2 r ⟨j, h⟩) else normAt m c t (ix2 r ⟨j - 512, by omega⟩))
      = mix p (cw m c) qg kg sk (cg m c) (ag m c) (row t r) j := by
  unfold mix
  split
  · exact conv_at t h r _
  · exact norm_at t h r _

include h in
theorem x1_at (r : Fin 1024) (j : Fin 1024) :
    stream (View.ld (iblk m c 8 t) (Rect.unit ![0, 0] S1024x1024.size inb_S1024x1024_S1024x1024_0_0)) (iblk m c 9 t) (convAt m c t) (normAt m c t) (ix2 r j)
      = Mix.stream p (cw m c) qg kg sk (cg m c) (ag m c) (xIn m c) (wo m c) (row t r) j := by
  rw [stream_at]
  unfold Mix.stream
  exact congrArg₂ (· + ·) ((congrFun (View.ld_unit_zero (S := S1024x1024) hz _ _) _).trans (blk8 m c t r j)) (Finset.sum_congr rfl fun k _ => by rw [half_at t h, blk9]; rfl)
end

/-! ## The results -/

section
variable (p : Fin 8192 → Fin 2304 → ℝ) (qg kg : Fin 64 → ℝ) (sk : Fin 8 → ℝ)
/-- The mixed rows. -/
def resultMix : Vec Ideal S8192x1024 .bf16 := fun i => mix p (cw m c) qg kg sk (cg m c) (ag m c) (i 0) (i 1)
/-- The convolution's output. -/
def resultY : Vec Ideal S8192x512 .bf16 := fun i => conv p (cw m c) (i 0) (i 1)
/-- The attention's output. -/
def resultAo : Vec Ideal S8192x512 .bf16 := fun i => attnAll p qg kg sk (i 0) (i 1)
/-- The residual stream after the mixer. -/
def resultX1 : Vec Ideal S8192x1024 .f32 := fun i => Mix.stream p (cw m c) qg kg sk (cg m c) (ag m c) (xIn m c) (wo m c) (i 0) (i 1)
end

variable {m} {c} {p : Fin 8192 → Fin 2304 → ℝ} {qg kg : Fin 64 → ℝ} {sk : Fin 8 → ℝ} (h : Holds m c p qg kg sk)

include h in
theorem final_mix : (dats m 0 c).arrAt 10 cfg0.N = resultMix m c p qg kg sk := by
  refine (dats m 0 c).arrAt_eq_of_cover 10 (resultMix m c p qg kg sk) (fun t _ => ?_) (fun (i : S8192x1024.Idx) => ?_)
  · rw [flushed10, outs_mix]
    funext y
    rw [View.read_apply]
    obtain ⟨r, j, rfl⟩ : ∃ (r : Fin 1024) (j : Fin 1024), y = ix2 r j := ⟨y 0, y 1, (ix2_eta _).symm⟩
    refine ((halves_at _ _ r j).trans (half_at t h r j)).trans ?_
    show resultMix m c p qg kg sk (ix2 (row t r) j) = resultMix m c p qg kg sk _
    congr 1
    funext a; apply Fin.ext
    match a with
    | ⟨0, _⟩ => show 1024 * t.val + r.val = win0_10.index t 0 * 1024 + 1 * r.val; rw [(idx10 t).1]; omega
    | ⟨1, _⟩ => show j.val = win0_10.index t 1 * 1024 + 1 * j.val; rw [(idx10 t).2]; omega
  · have hi0 : (i 0 : Nat) < 8192 := (i 0).isLt
    have hi1 : (i 1 : Nat) < 1024 := (i 1).isLt
    obtain ⟨t, ht⟩ : ∃ t : Fin cfg0.N, t.val = (i 0 : Nat) / 1024 := ⟨⟨_, by show _ < 8; omega⟩, rfl⟩
    refine ⟨t, flush0_10 t, ?_⟩
    show i ∈ ((View.whole main_v14_0).slice (win0_10.rect t)).set
    rw [View.set_slice_whole, Rect.mem_set_unit]
    intro a
    match a with
    | ⟨0, _⟩ =>
      show win0_10.index _ 0 * 1024 ≤ (i 0 : Nat) ∧ (i 0 : Nat) < win0_10.index _ 0 * 1024 + 1024
      rw [(idx10 _).1]; omega
    | ⟨1, _⟩ =>
      show win0_10.index _ 1 * 1024 ≤ (i 1 : Nat) ∧ (i 1 : Nat) < win0_10.index _ 1 * 1024 + 1024
      rw [(idx10 _).2]; omega

include h in
theorem final_y : (dats m 0 c).arrAt 11 cfg0.N = resultY m c p := by
  refine (dats m 0 c).arrAt_eq_of_cover 11 (resultY m c p) (fun t _ => ?_) (fun (i : S8192x512.Idx) => ?_)
  · rw [flushed11, outs_y]
    funext y
    rw [View.read_apply]
    obtain ⟨r, j, rfl⟩ : ∃ (r : Fin 1024) (j : Fin 512), y = ix2 r j := ⟨y 0, y 1, (ix2_eta _).symm⟩
    refine (y_at t h r j).trans ?_
    show resultY m c p (ix2 (row t r) j) = resultY m c p _
    congr 1
    funext a; apply Fin.ext
    match a with
    | ⟨0, _⟩ => show 1024 * t.val + r.val = win0_11.index t 0 * 1024 + 1 * r.val; rw [(idx11 t).1]; omega
    | ⟨1, _⟩ => show j.val = win0_11.index t 1 * 512 + 1 * j.val; rw [(idx11 t).2]; omega
  · have hi0 : (i 0 : Nat) < 8192 := (i 0).isLt
    have hi1 : (i 1 : Nat) < 512 := (i 1).isLt
    obtain ⟨t, ht⟩ : ∃ t : Fin cfg0.N, t.val = (i 0 : Nat) / 1024 := ⟨⟨_, by show _ < 8; omega⟩, rfl⟩
    refine ⟨t, flush0_11 t, ?_⟩
    show i ∈ ((View.whole main_v14_1).slice (win0_11.rect t)).set
    rw [View.set_slice_whole, Rect.mem_set_unit]
    intro a
    match a with
    | ⟨0, _⟩ =>
      show win0_11.index _ 0 * 1024 ≤ (i 0 : Nat) ∧ (i 0 : Nat) < win0_11.index _ 0 * 1024 + 1024
      rw [(idx11 _).1]; omega
    | ⟨1, _⟩ =>
      show win0_11.index _ 1 * 512 ≤ (i 1 : Nat) ∧ (i 1 : Nat) < win0_11.index _ 1 * 512 + 512
      rw [(idx11 _).2]; omega

include h in
theorem final_ao : (dats m 0 c).arrAt 12 cfg0.N = resultAo p qg kg sk := by
  refine (dats m 0 c).arrAt_eq_of_cover 12 (resultAo p qg kg sk) (fun t _ => ?_) (fun (i : S8192x512.Idx) => ?_)
  · rw [flushed12, outs_ao]
    funext y
    rw [View.read_apply]
    obtain ⟨r, j, rfl⟩ : ∃ (r : Fin 1024) (j : Fin 512), y = ix2 r j := ⟨y 0, y 1, (ix2_eta _).symm⟩
    refine (ao_at t h r j).trans ?_
    show resultAo p qg kg sk (ix2 (row t r) j) = resultAo p qg kg sk _
    congr 1
    funext a; apply Fin.ext
    match a with
    | ⟨0, _⟩ => show 1024 * t.val + r.val = win0_12.index t 0 * 1024 + 1 * r.val; rw [(idx12 t).1]; omega
    | ⟨1, _⟩ => show j.val = win0_12.index t 1 * 512 + 1 * j.val; rw [(idx12 t).2]; omega
  · have hi0 : (i 0 : Nat) < 8192 := (i 0).isLt
    have hi1 : (i 1 : Nat) < 512 := (i 1).isLt
    obtain ⟨t, ht⟩ : ∃ t : Fin cfg0.N, t.val = (i 0 : Nat) / 1024 := ⟨⟨_, by show _ < 8; omega⟩, rfl⟩
    refine ⟨t, flush0_12 t, ?_⟩
    show i ∈ ((View.whole main_v14_2).slice (win0_12.rect t)).set
    rw [View.set_slice_whole, Rect.mem_set_unit]
    intro a
    match a with
    | ⟨0, _⟩ =>
      show win0_12.index _ 0 * 1024 ≤ (i 0 : Nat) ∧ (i 0 : Nat) < win0_12.index _ 0 * 1024 + 1024
      rw [(idx12 _).1]; omega
    | ⟨1, _⟩ =>
      show win0_12.index _ 1 * 512 ≤ (i 1 : Nat) ∧ (i 1 : Nat) < win0_12.index _ 1 * 512 + 512
      rw [(idx12 _).2]; omega

include h in
theorem final_x1 : (dats m 0 c).arrAt 13 cfg0.N = resultX1 m c p qg kg sk := by
  refine (dats m 0 c).arrAt_eq_of_cover 13 (resultX1 m c p qg kg sk) (fun t _ => ?_) (fun (i : S8192x1024.Idx) => ?_)
  · rw [flushed13, outs_x1]
    funext y
    rw [View.read_apply]
    obtain ⟨r, j, rfl⟩ : ∃ (r : Fin 1024) (j : Fin 1024), y = ix2 r j := ⟨y 0, y 1, (ix2_eta _).symm⟩
    refine (x1_at t h r j).trans ?_
    show resultX1 m c p qg kg sk (ix2 (row t r) j) = resultX1 m c p qg kg sk _
    congr 1
    funext a; apply Fin.ext
    match a with
    | ⟨0, _⟩ => show 1024 * t.val + r.val = win0_13.index t 0 * 1024 + 1 * r.val; rw [(idx13 t).1]; omega
    | ⟨1, _⟩ => show j.val = win0_13.index t 1 * 1024 + 1 * j.val; rw [(idx13 t).2]; omega
  · have hi0 : (i 0 : Nat) < 8192 := (i 0).isLt
    have hi1 : (i 1 : Nat) < 1024 := (i 1).isLt
    obtain ⟨t, ht⟩ : ∃ t : Fin cfg0.N, t.val = (i 0 : Nat) / 1024 := ⟨⟨_, by show _ < 8; omega⟩, rfl⟩
    refine ⟨t, flush0_13 t, ?_⟩
    show i ∈ ((View.whole main_v14_3).slice (win0_13.rect t)).set
    rw [View.set_slice_whole, Rect.mem_set_unit]
    intro a
    match a with
    | ⟨0, _⟩ =>
      show win0_13.index _ 0 * 1024 ≤ (i 0 : Nat) ∧ (i 0 : Nat) < win0_13.index _ 0 * 1024 + 1024
      rw [(idx13 _).1]; omega
    | ⟨1, _⟩ =>
      show win0_13.index _ 1 * 1024 ≤ (i 1 : Nat) ∧ (i 1 : Nat) < win0_13.index _ 1 * 1024 + 1024
      rw [(idx13 _).2]; omega

end
end Cert.MixKernelIdeal.Value
end
-- ==== Proof.MixReferenceStages.lean ====
/-
  The mixer's reference in stages, and the term its run composes as those stages.
-/
module

public import proofs.«01_k».proof.Proof.Gen.MixReferenceIdeal.Run
public import Idealize.ShloMosaic.Lib.Pointwise

@[expose] public section

noncomputable section

namespace Cert.MixReferenceIdeal.Value

open Cert.MixReferenceIdeal Cert.MixReferenceIdeal.Gen Idealize.ShloMosaic Idealize.ShloMosaic.TcCoe Idealize.SL.Sem

section
variable (P : FVec Ideal S1x8192x2304 .f32) (W : FVec Ideal S3x512 .f32) (G : FVec Ideal S64 .f32) (Z : FVec Ideal S8 .f32)
  (C : FVec Ideal S512 .f32)

/-- The projected rows. -/
def rows : FVec Ideal S8192x2304 .f32 := shapeCast _ P shapeCasts_S1x8192x2304_S8192x2304
/-- The product of the convolution's two gates, two zero rows before it. -/
def gates : FVec Ideal S8194x512 .f32 :=
  pad S8194x512 ![2, 0] ![0, 0] ![0, 0] (mulf (extractStridedSlice S8192x512 ![0, 512] (rows P) slices_S8192x2304_S8192x512_0_512) (extractStridedSlice S8192x512 ![0, 1024] (rows P) slices_S8192x2304_S8192x512_0_1024)) (sitofp .f32 (constantI S_ 32 0#32)) pads_S8192x512_S8194x512_200_000 h_S_
/-- The causal convolution. -/
def convolved : FVec Ideal S8192x512 .f32 :=
  addf (addf (mulf (broadcastInDim S8192x512 ![0, 1] bcast_S1x512_S8192x512_0_1 (broadcastInDim S1x512 ![1] bcast_S512_S1x512_1 (shapeCast _ (extractStridedSlice S1x512 ![0, 0] W slices_S3x512_S1x512_0_0) shapeCasts_S1x512_S512))) (extractStridedSlice S8192x512 ![0, 0] (gates P) slices_S8194x512_S8192x512_0_0)) (mulf (broadcastInDim S8192x512 ![0, 1] bcast_S1x512_S8192x512_0_1 (broadcastInDim S1x512 ![1] bcast_S512_S1x512_1 (shapeCast _ (extractStridedSlice S1x512 ![1, 0] W slices_S3x512_S1x512_1_0) shapeCasts_S1x512_S512))) (extractStridedSlice S8192x512 ![1, 0] (gates P) slices_S8194x512_S8192x512_1_0))) (mulf (broadcastInDim S8192x512 ![0, 1] bcast_S1x512_S8192x512_0_1 (broadcastInDim S1x512 ![1] bcast_S512_S1x512_1 (shapeCast _ (extractStridedSlice S1x512 ![2, 0] W slices_S3x512_S1x512_2_0) shapeCasts_S1x512_S512))) (extractStridedSlice S8192x512 ![2, 0] (gates P) slices_S8194x512_S8192x512_2_0))
/-- The query heads, -/
def queries : FVec Ideal S8192x8x64 .f32 := shapeCast _ (extractStridedSlice S8192x512 ![0, 1536] (rows P) slices_S8192x2304_S8192x512_0_1536) shapeCasts_S8192x512_S8192x8x64
/-- normalised, block by block. -/
def queryBlocks : FVec Ideal S64x128x2x4x64 .f32 :=
  shapeCast _ (mulf (mulf (queries P) (broadcastInDim S8192x8x64 ![0, 1, 2] bcast_S8192x8x1_S8192x8x64_0_1_2 (Host.rsqrt (addf (Host.divf (broadcastInDim S8192x8x1 ![0, 1] bcast_S8192x8_S8192x8x1_0_1 (Host.reduceAdd (mulf (queries P) (queries P)) (constant S_ .f32 0x00000000#32) reducesTo_S8192x8x64_S8192x8_d2 h_S_)) (broadcastInDim S8192x8x1 ![] bcast_S_S8192x8x1 (constant S_ .f32 0x42800000#32))) (broadcastInDim S8192x8x1 ![] bcast_S_S8192x8x1 (constant S_ .f32 0x358637BD#32)))))) (broadcastInDim S8192x8x64 ![0, 1, 2] bcast_S1x1x64_S8192x8x64_0_1_2 (broadcastInDim S1x1x64 ![2] bcast_S64_S1x1x64_2 G))) shapeCasts_S8192x8x64_S64x128x2x4x64
/-- The key heads, -/
def keyHeads : FVec Ideal S8192x2x64 .f32 := shapeCast _ (extractStridedSlice S8192x128 ![0, 2048] (rows P) slices_S8192x2304_S8192x128_0_2048) shapeCasts_S8192x128_S8192x2x64
/-- normalised, block by block. -/
def keyBlocks : FVec Ideal S64x128x2x64 .f32 :=
  shapeCast _ (mulf (mulf (keyHeads P) (broadcastInDim S8192x2x64 ![0, 1, 2] bcast_S8192x2x1_S8192x2x64_0_1_2 (Host.rsqrt (addf (Host.divf (broadcastInDim S8192x2x1 ![0, 1] bcast_S8192x2_S8192x2x1_0_1 (Host.reduceAdd (mulf (keyHeads P) (keyHeads P)) (constant S_ .f32 0x00000000#32) reducesTo_S8192x2x64_S8192x2_d2 h_S_)) (broadcastInDim S8192x2x1 ![] bcast_S_S8192x2x1 (constant S_ .f32 0x42800000#32))) (broadcastInDim S8192x2x1 ![] bcast_S_S8192x2x1 (constant S_ .f32 0x358637BD#32)))))) (broadcastInDim S8192x2x64 ![0, 1, 2] bcast_S1x1x64_S8192x2x64_0_1_2 (broadcastInDim S1x1x64 ![2] bcast_S64_S1x1x64_2 G))) shapeCasts_S8192x2x64_S64x128x2x64
/-- The value heads, block by block. -/
def valueBlocks : FVec Ideal S64x128x2x64 .f32 :=
  shapeCast _ (shapeCast _ (extractStridedSlice S8192x128 ![0, 2176] (rows P) slices_S8192x2304_S8192x128_0_2176) shapeCasts_S8192x128_S8192x2x64) shapeCasts_S8192x2x64_S64x128x2x64
/-- Each block with the block before it, zeros before the first. -/
def band (T : FVec Ideal S64x128x2x64 .f32) : FVec Ideal S64x256x2x64 .f32 :=
  concatenate S64x256x2x64 1 [⟨S64x128x2x64, (pad S64x128x2x64 ![1, 0, 0, 0] ![0, 0, 0, 0] ![0, 0, 0, 0] (extractStridedSlice S63x128x2x64 ![0, 0, 0, 0] T slices_S64x128x2x64_S63x128x2x64_0_0_0_0) (sitofp .f32 (constantI S_ 32 0#32)) pads_S63x128x2x64_S64x128x2x64_100_000_000_000 h_S_)⟩, ⟨S64x128x2x64, T⟩] concatenates_S64x128x2x64_S64x128x2x64_S64x256x2x64_d1
/-- The keys' positions. -/
def kpos : IVec S64x256 32 :=
  addi (broadcastInDim S64x256 ![0, 1] bcast_S64x1_S64x256_0_1 (muli (subi (broadcastInDim S64x1 ![0] bcast_S64_S64x1_0 (iotaInDim S64 32 0)) (broadcastInDim S64x1 ![] bcast_S_S64x1 (constantI S_ 32 1#32))) (broadcastInDim S64x1 ![] bcast_S_S64x1 (constantI S_ 32 128#32)))) (broadcastInDim S64x256 ![0, 1] bcast_S1x256_S64x256_0_1 (broadcastInDim S1x256 ![1] bcast_S256_S1x256_1 (iotaInDim S256 32 0)))
/-- The queries' positions less the keys'. -/
def apart : IVec S64x128x256 32 :=
  subi (broadcastInDim S64x128x256 ![0, 1, 2] bcast_S64x128x1_S64x128x256_0_1_2 (broadcastInDim S64x128x1 ![0, 1] bcast_S64x128_S64x128x1_0_1 (addi (broadcastInDim S64x128 ![0, 1] bcast_S64x1_S64x128_0_1 (muli (broadcastInDim S64x1 ![0] bcast_S64_S64x1_0 (iotaInDim S64 32 0)) (broadcastInDim S64x1 ![] bcast_S_S64x1 (constantI S_ 32 128#32)))) (broadcastInDim S64x128 ![0, 1] bcast_S1x128_S64x128_0_1 (broadcastInDim S1x128 ![1] bcast_S128_S1x128_1 (iotaInDim S128 32 0)))))) (broadcastInDim S64x128x256 ![0, 1, 2] bcast_S64x1x256_S64x128x256_0_1_2 (broadcastInDim S64x1x256 ![0, 2] bcast_S64x256_S64x1x256_0_2 kpos))
/-- Which keys a query sees. -/
def valid : IVec S64x128x256 1 :=
  andi (andi (cmpi .sge apart (broadcastInDim S64x128x256 ![] bcast_S_S64x128x256 (constantI S_ 32 0#32))) (cmpi .slt apart (broadcastInDim S64x128x256 ![] bcast_S_S64x128x256 (constantI S_ 32 128#32)))) (broadcastInDim S64x128x256 ![0, 1, 2] bcast_S64x1x256_S64x128x256_0_1_2 (cmpi .sge (broadcastInDim S64x1x256 ![0, 2] bcast_S64x256_S64x1x256_0_2 kpos) (broadcastInDim S64x1x256 ![] bcast_S_S64x1x256 (constantI S_ 32 0#32))))
/-- The scores, those of unseen keys at minus infinity. -/
def scores (K : FVec Ideal S64x256x2x64 .f32) (Q : FVec Ideal S64x128x2x4x64 .f32) : FVec Ideal S64x2x4x128x256 .f32 :=
  select (broadcastInDim S64x2x4x128x256 ![0, 1, 2, 3, 4] bcast_S64x1x1x128x256_S64x2x4x128x256_0_1_2_3_4 (broadcastInDim S64x1x1x128x256 ![0, 3, 4] bcast_S64x128x256_S64x1x1x128x256_0_3_4 valid)) (mulf (transpose S64x2x4x128x256 [0, 1, 4, 3, 2] (Host.dotGeneral dot_S64x256x2x64_S64x128x2x4x64_S64x2x256x128x4_3_4_1_13_02_02 none K Q) transposes_S64x2x256x128x4_S64x2x4x128x256_0_1_4_3_2) (broadcastInDim S64x2x4x128x256 ![] bcast_S_S64x2x4x128x256 (constant S_ .f32 0x3E000000#32))) (broadcastInDim S64x2x4x128x256 ![] bcast_S_S64x2x4x128x256 (id (constant S_ .f32 0xFF800000#32)))
/-- The sinks. -/
def sinkAt : FVec Ideal S1x2x4x1x1 .f32 := broadcastInDim S1x2x4x1x1 ![1, 2] bcast_S2x4_S1x2x4x1x1_1_2 (shapeCast _ Z shapeCasts_S8_S2x4)
variable (S : FVec Ideal S64x2x4x128x256 .f32)
/-- The softmax's maximum. -/
def tops : FVec Ideal S64x2x4x128x1 .f32 :=
  maximumf (broadcastInDim S64x2x4x128x1 ![0, 1, 2, 3] bcast_S64x2x4x128_S64x2x4x128x1_0_1_2_3 (Host.reduce FloatOps.maximumf S (constant S_ .f32 0xFF800000#32) reducesTo_S64x2x4x128x256_S64x2x4x128_d4 h_S_)) (broadcastInDim S64x2x4x128x1 ![0, 1, 2, 3, 4] bcast_S1x2x4x1x1_S64x2x4x128x1_0_1_2_3_4 (sinkAt Z))
/-- The exponentials. -/
def exps : FVec Ideal S64x2x4x128x256 .f32 :=
  Host.exp (subf S (broadcastInDim S64x2x4x128x256 ![0, 1, 2, 3, 4] bcast_S64x2x4x128x1_S64x2x4x128x256_0_1_2_3_4 (tops Z S)))
/-- The softmax. -/
def probs : FVec Ideal S64x2x4x128x256 .f32 :=
  Host.divf (exps Z S) (broadcastInDim S64x2x4x128x256 ![0, 1, 2, 3, 4] bcast_S64x2x4x128x1_S64x2x4x128x256_0_1_2_3_4 (addf (broadcastInDim S64x2x4x128x1 ![0, 1, 2, 3] bcast_S64x2x4x128_S64x2x4x128x1_0_1_2_3 (Host.reduceAdd (exps Z S) (constant S_ .f32 0x00000000#32) reducesTo_S64x2x4x128x256_S64x2x4x128_d4 h_S_)) (Host.exp (subf (broadcastInDim S64x2x4x128x1 ![0, 1, 2, 3, 4] bcast_S1x2x4x1x1_S64x2x4x128x1_0_1_2_3_4 (sinkAt Z)) (tops Z S)))))
/-- The attention's output. -/
def attended (V : FVec Ideal S64x256x2x64 .f32) (Y : FVec Ideal S64x2x4x128x256 .f32) : FVec Ideal S8192x512 .f32 :=
  shapeCast _ (transpose S64x128x2x4x64 [0, 4, 1, 3, 2] (Host.dotGeneral dot_S64x256x2x64_S64x2x4x128x256_S64x2x64x4x128_1_4_3_23_02_01 none V Y) transposes_S64x2x64x4x128_S64x128x2x4x64_0_4_1_3_2) shapeCasts_S64x128x2x4x64_S8192x512
/-- The row normalisation. -/
def normed (A : FVec Ideal S8192x512 .f32) : FVec Ideal S8192x512 .f32 :=
  mulf (mulf A (broadcastInDim S8192x512 ![0, 1] bcast_S8192x1_S8192x512_0_1 (Host.rsqrt (addf (Host.divf (broadcastInDim S8192x1 ![0] bcast_S8192_S8192x1_0 (Host.reduceAdd (mulf A A) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))))) (broadcastInDim S8192x512 ![0, 1] bcast_S1x512_S8192x512_0_1 (broadcastInDim S1x512 ![1] bcast_S512_S1x512_1 C))
/-- The gated convolution. -/
def gated : FVec Ideal S8192x512 .f32 := mulf (extractStridedSlice S8192x512 ![0, 0] (rows P) slices_S8192x2304_S8192x512_0_0) (convolved P W)
/-- The mixed rows. -/
def mixed (A B : FVec Ideal S8192x512 .f32) : FVec Ideal S8192x1024 .f32 :=
  concatenate S8192x1024 1 [⟨S8192x512, A⟩, ⟨S8192x512, B⟩] concatenates_S8192x512_S8192x512_S8192x1024_d1
/-- The residual stream after the mixer. -/
def streamed (X : FVec Ideal S1x8192x1024 .f32) (M : FVec Ideal S8192x1024 .f32) (O : FVec Ideal S1024x1024 .f32) : FVec Ideal S8192x1024 .f32 :=
  addf (shapeCast _ X shapeCasts_S1x8192x1024_S8192x1024) (Host.dotGeneral dot_S8192x1024_S1024x1024_S8192x1024_1_0_0_1_n_n none M O)
end

/-! ## The run's term in these stages -/

section
variable (V : Valuation τ sig (Elt Ideal))
theorem res_y : res_main_v31 V = convolved (V (Proc.devRef .tc main_arg1)) (V (Proc.devRef .tc main_arg2)) := by
  unfold res_main_v31 res_main_v11 res_main_v1 convolved gates rows
  rfl
theorem res_scores : res_main_v107 V = scores (band (keyBlocks (V (Proc.devRef .tc main_arg1)) (V (Proc.devRef .tc main_arg4))))
    (queryBlocks (V (Proc.devRef .tc main_arg1)) (V (Proc.devRef .tc main_arg3))) := by
  unfold res_main_v107 res_main_v95 res_main_v90 res_main_v59 res_main_v5 res_main_v3 res_main_v1 scores band keyBlocks queryBlocks keyHeads queries rows valid apart kpos
  rfl
theorem res_ao : res_main_v127 V = attended (band (valueBlocks (V (Proc.devRef .tc main_arg1)))) (probs (V (Proc.devRef .tc main_arg5)) (res_main_v107 V)) := by
  unfold res_main_v127 res_main_v116 res_main_v113 res_main_v109 res_main_v63 res_main_v1 attended band valueBlocks probs exps tops sinkAt rows
  rfl
theorem res_mix : res_main_v156 V = mixed (normed (V (Proc.devRef .tc main_arg6)) (gated (V (Proc.devRef .tc main_arg1)) (V (Proc.devRef .tc main_arg2))))
    (normed (V (Proc.devRef .tc main_arg7)) (res_main_v127 V)) := by
  unfold res_main_v156 res_main_v129
  rw [res_y]
  unfold res_main_v1 mixed normed gated rows
  rfl
end

end Cert.MixReferenceIdeal.Value
end
-- ==== Proof.MixReferenceValue.lean ====
/-
  The mixer's reference: its four results as the mixer's mathematics over real projections —
  each stage at an index.
-/
module

public import proofs.«01_k».proof.Proof.MixReferenceStages
public import proofs.«01_k».proof.Proof.MixMath

@[expose] public section

noncomputable section

namespace Cert.MixReferenceIdeal.Value

open Cert.MixReferenceIdeal Cert.MixReferenceIdeal.Gen Idealize.ShloMosaic Idealize.ShloMosaic.TcCoe Idealize.SL.Sem Cert.Reals Cert.Mix

/-! ## Words -/

theorem zero_word : (FloatOps.sitofp (F := Ideal) FTy.f32 0#32 : EReal) = 0 := by
  show ((((0#32 : BitVec 32).toInt : ℤ) : ℝ) : EReal) = 0
  simp

theorem apart_word (n a κ : BitVec 32) :
    IntOp.subi (IntOp.addi (IntOp.muli n 128#32) a) (IntOp.addi (IntOp.muli (IntOp.subi n 1#32) 128#32) κ)
      = IntOp.subi (IntOp.addi a 128#32) κ := by
  show n * 128#32 + a - ((n - 1#32) * 128#32 + κ) = a + 128#32 - κ
  grind

theorem position_bits : ∀ (n : Fin 64) (κ : Fin 256),
    IntOp.cmpi CmpIPredicate.sge (IntOp.addi (IntOp.muli (IntOp.subi (BitVec.ofNat 32 n.val) 1#32) 128#32) (BitVec.ofNat 32 κ.val)) 0#32
    = BitVec.ofBool (decide (128 ≤ κ.val ∨ 0 < n.val)) := by decide +kernel

open Classical in
theorem valid_at (n : Fin 64) (a : Fin 128) (κ : Fin 256) : valid (ix3 n a κ) = BitVec.ofBool (decide (seen n a κ)) := by
  pointwise [valid, apart, kpos]
  rw [apart_word, band_bits, position_bits, andi_ofBool]
  congr 1
  rw [Bool.eq_iff_iff, Bool.and_eq_true, decide_eq_true_iff, decide_eq_true_iff, decide_eq_true_iff]
  rfl

/-! ## At an index -/

section
variable {P : FVec Ideal S1x8192x2304 .f32} {W : FVec Ideal S3x512 .f32} {G K : FVec Ideal S64 .f32} {Z : FVec Ideal S8 .f32}
  {p : Fin 8192 → Fin 2304 → ℝ} {qg kg : Fin 64 → ℝ} {sk : Fin 8 → ℝ}
  (hp : ∀ i j, P (ix3 0 i j) = ((p i j : ℝ) : EReal)) (hq : ∀ d, G (ix1 d) = ((qg d : ℝ) : EReal)) (hk : ∀ d, K (ix1 d) = ((kg d : ℝ) : EReal))
  (hs : ∀ h, Z (ix1 h) = ((sk h : ℝ) : EReal))

include hp in
theorem rows_at (i : Fin 8192) (j : Fin 2304) : rows P (ix2 i j) = ((p i j : ℝ) : EReal) := by
  rw [← hp]
  pointwise [rows]

/-! ### The convolution -/

include hp in
theorem gates_at (e : ℕ) (i : Fin 8192) (k : Fin 8194) (hk : k.val + e = i + 2) (he : e ≤ 2) (j : Fin 512) :
    gates P (ix2 k j) = gate p e i j := by
  have g : gates P (ix2 k j) = if h : 2 ≤ k.val ∧ k.val - 2 < 8192 then
      rows P (ix2 ⟨k - 2, h.2⟩ ⟨512 + j, by omega⟩) * rows P (ix2 ⟨k - 2, h.2⟩ ⟨1024 + j, by omega⟩)
    else FloatOps.sitofp (F := Ideal) FTy.f32 0#32 := by pointwise [gates]
  rw [g, zero_word]
  unfold gate
  by_cases h : i.val < e
  · rw [if_pos h, dif_neg (by omega)]
  · rw [if_neg h, dif_pos ⟨by omega, by omega⟩, rows_at hp, rows_at hp]
    have e' : (⟨k.val - 2, by omega⟩ : Fin 8192) = ⟨i.val - e, by omega⟩ := Fin.ext (by dsimp only; omega)
    rw [e']

include hp in
theorem convolved_at (i : Fin 8192) (j : Fin 512) : convolved P W (ix2 i j) = conv p (fun e j => W (ix2 e j)) i j := by
  have e : convolved P W (ix2 i j) = W (ix2 0 j) * gates P (ix2 ⟨i, by omega⟩ j) + W (ix2 1 j) * gates P (ix2 ⟨1 + i, by omega⟩ j)
      + W (ix2 2 j) * gates P (ix2 ⟨2 + i, by omega⟩ j) := by pointwise [convolved]
  rw [e, gates_at hp 2 i _ rfl (le_refl _), gates_at hp 1 i _ (by dsimp only; omega) (by decide),
    gates_at hp 0 i _ (by dsimp only; omega) (by decide)]
  rfl

include hp in
theorem gated_at (i : Fin 8192) (j : Fin 512) :
    gated P W (ix2 i j) = p i ⟨j, by omega⟩ * conv p (fun e j => W (ix2 e j)) i j := by
  have e : gated P W (ix2 i j) = rows P (ix2 i ⟨j, by omega⟩) * convolved P W (ix2 i j) := by pointwise [gated]
  rw [e, rows_at hp, convolved_at hp]

/-! ### Heads -/

theorem rms_real (f : Fin 64 → EReal) (y : Fin 64 → ℝ) (hf : ∀ d, f d = ((y d : ℝ) : EReal)) :
    Ideal.rsqrt (Ideal.div (∑ x, f x * f x) (Ideal.ofBits .f32 0x42800000#32) + Ideal.ofBits .f32 0x358637BD#32) = ((inv y : ℝ) : EReal) := by
  rw [ofBits_64, ofBits_eps, show (∑ x, f x * f x) = ((∑ x, y x * y x : ℝ) : EReal) by
    rw [coe_sum]; exact Finset.sum_congr rfl fun x _ => by rw [hf, EReal.coe_mul], div_coe' _ (by norm_num), ← EReal.coe_add]
  exact rsqrt_coe (msq_pos y)

theorem row_lt (n : Fin 64) (a : Fin 128) : 128 * n.val + a.val < 8192 := by omega
theorem row_lt' (n : Fin 64) (a : Fin 128) : n.val * 128 + a.val < 8192 := by omega
theorem group_lt (g : Fin 2) (r : Fin 4) : 4 * g.val + r.val < 8 := by omega
theorem qcol_lt (g : Fin 2) (r : Fin 4) (d : Fin 64) : 1536 + ((g.val * 4 + r.val) * 64 + d.val) < 2304 := by omega
theorem kcol_lt (g : Fin 2) (d : Fin 64) : 2048 + (g.val * 64 + d.val) < 2304 := by omega
theorem vcol_lt (g : Fin 2) (d : Fin 64) : 2176 + (g.val * 64 + d.val) < 2304 := by omega

include hp hq in
theorem queryBlocks_at (n : Fin 64) (a : Fin 128) (g : Fin 2) (r : Fin 4) (d : Fin 64) :
    queryBlocks P G (ix5 n a g r d) = ((qn qg (p ⟨128 * n + a, row_lt n a⟩) ⟨4 * g + r, group_lt g r⟩ d : ℝ) : EReal) := by
  have c (x : Fin 64) : rows P (ix2 ⟨n * 128 + a, row_lt' n a⟩ ⟨1536 + ((g * 4 + r) * 64 + x), qcol_lt g r x⟩)
      = ((p ⟨128 * n + a, row_lt n a⟩ (qcol ⟨4 * g + r, group_lt g r⟩ x) : ℝ) : EReal) := by
    rw [rows_at hp]
    congr 2
    · exact Fin.ext (by dsimp only; omega)
    · exact Fin.ext (by show _ = 1536 + 64 * (4 * g.val + r.val) + x.val; dsimp only; omega)
  have e : queryBlocks P G (ix5 n a g r d) = rows P (ix2 ⟨n * 128 + a, row_lt' n a⟩ ⟨1536 + ((g * 4 + r) * 64 + d), qcol_lt g r d⟩)
      * Ideal.rsqrt (Ideal.div (∑ x : Fin 64, rows P (ix2 ⟨n * 128 + a, row_lt' n a⟩ ⟨1536 + ((g * 4 + r) * 64 + x), qcol_lt g r x⟩)
          * rows P (ix2 ⟨n * 128 + a, row_lt' n a⟩ ⟨1536 + ((g * 4 + r) * 64 + x), qcol_lt g r x⟩)) (Ideal.ofBits .f32 0x42800000#32) + Ideal.ofBits .f32 0x358637BD#32)
      * G (ix1 d) := by pointwise [queryBlocks, queries]
  rw [e, rms_real _ _ c, c, hq, ← EReal.coe_mul, ← EReal.coe_mul]
  rfl

include hp hk in
theorem keyBlocks_at (n : Fin 64) (a : Fin 128) (g : Fin 2) (d : Fin 64) :
    keyBlocks P K (ix4 n a g d) = ((kn kg (p ⟨128 * n + a, row_lt n a⟩) g d : ℝ) : EReal) := by
  have c (x : Fin 64) : rows P (ix2 ⟨n * 128 + a, row_lt' n a⟩ ⟨2048 + (g * 64 + x), kcol_lt g x⟩)
      = ((p ⟨128 * n + a, row_lt n a⟩ (kcol g x) : ℝ) : EReal) := by
    rw [rows_at hp]
    congr 2
    · exact Fin.ext (by dsimp only; omega)
    · exact Fin.ext (by show _ = 2048 + 64 * g.val + x.val; dsimp only; omega)
  have e : keyBlocks P K (ix4 n a g d) = rows P (ix2 ⟨n * 128 + a, row_lt' n a⟩ ⟨2048 + (g * 64 + d), kcol_lt g d⟩)
      * Ideal.rsqrt (Ideal.div (∑ x : Fin 64, rows P (ix2 ⟨n * 128 + a, row_lt' n a⟩ ⟨2048 + (g * 64 + x), kcol_lt g x⟩)
          * rows P (ix2 ⟨n * 128 + a, row_lt' n a⟩ ⟨2048 + (g * 64 + x), kcol_lt g x⟩)) (Ideal.ofBits .f32 0x42800000#32) + Ideal.ofBits .f32 0x358637BD#32)
      * K (ix1 d) := by pointwise [keyBlocks, keyHeads]
  rw [e, rms_real _ _ c, c, hk, ← EReal.coe_mul, ← EReal.coe_mul]
  rfl

include hp in
theorem valueBlocks_at (n : Fin 64) (a : Fin 128) (g : Fin 2) (d : Fin 64) :
    valueBlocks P (ix4 n a g d) = ((p ⟨128 * n + a, row_lt n a⟩ (vcol g d) : ℝ) : EReal) := by
  have e : valueBlocks P (ix4 n a g d) = rows P (ix2 ⟨n * 128 + a, row_lt' n a⟩ ⟨2176 + (g * 64 + d), vcol_lt g d⟩) := by
    pointwise [valueBlocks]
  rw [e, rows_at hp]
  congr 2
  · exact Fin.ext (by dsimp only; omega)
  · exact Fin.ext (by show _ = 2176 + 64 * g.val + d.val; dsimp only; omega)

theorem band_at (T : FVec Ideal S64x128x2x64 .f32) (f : (Fin 2304 → ℝ) → Fin 2 → Fin 64 → ℝ)
    (hT : ∀ n a g d, T (ix4 n a g d) = ((f (p ⟨128 * n + a, row_lt n a⟩) g d : ℝ) : EReal)) (h0 : ∀ g d, f 0 g d = 0)
    (n : Fin 64) (κ : Fin 256) (g : Fin 2) (d : Fin 64) : band T (ix4 n κ g d) = ((f (keys p n κ) g d : ℝ) : EReal) := by
  have e : band T (ix4 n κ g d) = if h : κ.val < 128 then
      if h1 : (1 ≤ n.val ∧ n.val - 1 < 63) ∧ κ.val < 128 then T (ix4 ⟨n - 1, by omega⟩ ⟨κ, h1.2⟩ g d)
      else FloatOps.sitofp (F := Ideal) FTy.f32 0#32
    else T (ix4 n ⟨κ - 128, by omega⟩ g d) := by pointwise [band]
  rw [e, zero_word]
  unfold keys
  by_cases h : κ.val < 128
  · rw [dif_pos h]
    by_cases h1 : 1 ≤ n.val
    · rw [dif_pos ⟨⟨h1, by omega⟩, h⟩, dif_pos (by omega), hT]
      congr 4
      show 128 * (n.val - 1) + κ.val = _
      omega
    · rw [dif_neg (by omega), dif_neg (by omega), h0]
      rfl
  · rw [dif_neg h, dif_pos (by omega), hT]
    congr 4
    show 128 * n.val + (κ.val - 128) = _
    omega

/-! ### The softmax -/

theorem kvOf_group (g : Fin 2) (r : Fin 4) : kvOf ⟨4 * g + r, group_lt g r⟩ = g := Fin.ext (by show (4 * g.val + r.val) / 4 = g.val; omega)

theorem scores_at (T : FVec Ideal S64x256x2x64 .f32) (Q : FVec Ideal S64x128x2x4x64 .f32)
    (hT : ∀ n κ g d, T (ix4 n κ g d) = ((kn kg (keys p n κ) g d : ℝ) : EReal))
    (hQ : ∀ n a g r d, Q (ix5 n a g r d) = ((qn qg (p ⟨128 * n + a, row_lt n a⟩) ⟨4 * g + r, group_lt g r⟩ d : ℝ) : EReal))
    (n : Fin 64) (g : Fin 2) (r : Fin 4) (a : Fin 128) (κ : Fin 256) :
    scores T Q (ix5 n g r a κ) = sc qg kg (p ⟨128 * n + a, row_lt n a⟩) (keys p n) (seen n a) ⟨4 * g + r, group_lt g r⟩ κ := by
  have e : scores T Q (ix5 n g r a κ) = Scalar.select (valid (ix3 n a κ)) ((∑ x, T (ix4 n κ g x) * Q (ix5 n a g r x)) * Ideal.ofBits FTy.f32 0x3E000000#32)
      (Ideal.ofBits FTy.f32 0xFF800000#32) := by
    pointwise [scores]
    rfl
  rw [e, valid_at, Scalar.select_decide, ofBits_ninf, ofBits_inv8,
    show (∑ x, T (ix4 n κ g x) * Q (ix5 n a g r x)) = ((∑ d, qn qg (p ⟨128 * n + a, row_lt n a⟩) ⟨4 * g + r, group_lt g r⟩ d
      * kn kg (keys p n κ) (kvOf ⟨4 * g + r, group_lt g r⟩) d : ℝ) : EReal) by
      rw [coe_sum, kvOf_group]; exact Finset.sum_congr rfl fun x _ => by rw [hT, hQ, ← EReal.coe_mul, mul_comm], ← EReal.coe_mul]
  rfl

theorem reduced_at (S : FVec Ideal S64x2x4x128x256 .f32) (n : Fin 64) (g : Fin 2) (r : Fin 4) (a : Fin 128) :
    Host.reduce FloatOps.maximumf S (constant S_ .f32 0xFF800000#32) reducesTo_S64x2x4x128x256_S64x2x4x128_d4 h_S_ (ix4 n g r a)
      = Finset.univ.fold max (Ideal.ofBits FTy.f32 0xFF800000#32) fun κ => S (ix5 n g r a κ) := by pointwise

theorem capped_at (R : FVec Ideal S64x2x4x128 .f32) (n : Fin 64) (g : Fin 2) (r : Fin 4) (a : Fin 128) (z : Fin 1) :
    maximumf (broadcastInDim S64x2x4x128x1 ![0, 1, 2, 3] bcast_S64x2x4x128_S64x2x4x128x1_0_1_2_3 R)
      (broadcastInDim S64x2x4x128x1 ![0, 1, 2, 3, 4] bcast_S1x2x4x1x1_S64x2x4x128x1_0_1_2_3_4 (sinkAt Z)) (ix5 n g r a z)
      = max (R (ix4 n g r a)) (Z (ix1 ⟨g * 4 + r, by omega⟩)) := by pointwise [sinkAt]

include hs in
theorem tops_at (S : FVec Ideal S64x2x4x128x256 .f32) (n : Fin 64) (g : Fin 2) (r : Fin 4) (a : Fin 128) (z : Fin 1) :
    tops Z S (ix5 n g r a z) = top (fun κ => S (ix5 n g r a κ)) (sk ⟨4 * g + r, group_lt g r⟩) := by
  unfold tops
  rw [capped_at, reduced_at, ofBits_ninf, hs,
    show (⟨g.val * 4 + r.val, by omega⟩ : Fin 8) = ⟨4 * g + r, group_lt g r⟩ from Fin.ext (by dsimp only; omega), top]

include hs in
theorem exps_at (S : FVec Ideal S64x2x4x128x256 .f32) (n : Fin 64) (g : Fin 2) (r : Fin 4) (a : Fin 128) (κ : Fin 256) :
    exps Z S (ix5 n g r a κ) = Ideal.exp (S (ix5 n g r a κ) - top (fun κ => S (ix5 n g r a κ)) (sk ⟨4 * g + r, group_lt g r⟩)) := by
  rw [← tops_at hs S n g r a 0]
  pointwise [exps]

include hs in
theorem probs_at (S : FVec Ideal S64x2x4x128x256 .f32) (n : Fin 64) (g : Fin 2) (r : Fin 4) (a : Fin 128) (κ : Fin 256) :
    probs Z S (ix5 n g r a κ) = prob (fun κ => S (ix5 n g r a κ)) (sk ⟨4 * g + r, group_lt g r⟩) κ := by
  have e : probs Z S (ix5 n g r a κ) = Ideal.div (exps Z S (ix5 n g r a κ)) (∑ x, exps Z S (ix5 n g r a x)
      + Ideal.exp (Z (ix1 ⟨g * 4 + r, by omega⟩) - tops Z S (ix5 n g r a 0))) := by pointwise [probs, sinkAt]
  rw [e, tops_at hs]
  simp only [exps_at hs]
  rw [hs, show (⟨g.val * 4 + r.val, by omega⟩ : Fin 8) = ⟨4 * g + r, group_lt g r⟩ from Fin.ext (by dsimp only; omega)]
  rfl

include hs in
theorem attended_at (T : FVec Ideal S64x256x2x64 .f32) (S : FVec Ideal S64x2x4x128x256 .f32)
    (hT : ∀ n κ g d, T (ix4 n κ g d) = ((keys p n κ (vcol g d) : ℝ) : EReal))
    (hS : ∀ n g r a κ, S (ix5 n g r a κ) = sc qg kg (p ⟨128 * n + a, row_lt n a⟩) (keys p n) (seen n a) ⟨4 * g + r, group_lt g r⟩ κ)
    (i : Fin 8192) (j : Fin 512) : attended T (probs Z S) (ix2 i j) = attnAll p qg kg sk i j := by
  obtain ⟨n, a, rfl⟩ : ∃ (n : Fin 64) (a : Fin 128), i = ⟨128 * n + a, row_lt n a⟩ :=
    ⟨⟨i / 128, by omega⟩, ⟨i % 128, by omega⟩, Fin.ext (by dsimp only; omega)⟩
  obtain ⟨g, r, d, hj⟩ : ∃ (g : Fin 2) (r : Fin 4) (d : Fin 64), j.val = 64 * (4 * g + r) + d :=
    ⟨⟨j / 256, by omega⟩, ⟨j / 64 % 4, by omega⟩, ⟨j % 64, by omega⟩, by dsimp only; omega⟩
  have e (Y : FVec Ideal S64x2x4x128x256 .f32) (i : Fin 8192) : attended T Y (ix2 i j)
      = ∑ x, T (ix4 ⟨i / 128, by omega⟩ x ⟨j / 256, by omega⟩ ⟨j % 64, by omega⟩)
        * Y (ix5 ⟨i / 128, by omega⟩ ⟨j / 256, by omega⟩ ⟨j / 64 % 4, by omega⟩ ⟨i % 128, by omega⟩ x) := by pointwise [attended]
  rw [attnAll_of p qg kg sk _ j n a ⟨4 * g + r, group_lt g r⟩ d rfl hj fun _ _ => rfl, e]
  unfold attn
  refine Finset.sum_congr rfl fun x _ => ?_
  rw [show (⟨(128 * n.val + a.val) / 128, by omega⟩ : Fin 64) = n from Fin.ext (by dsimp only; omega),
    show (⟨(128 * n.val + a.val) % 128, by omega⟩ : Fin 128) = a from Fin.ext (by dsimp only; omega),
    show (⟨j.val / 256, by omega⟩ : Fin 2) = g from Fin.ext (by dsimp only; omega),
    show (⟨j.val / 64 % 4, by omega⟩ : Fin 4) = r from Fin.ext (by dsimp only; omega),
    show (⟨j.val % 64, by omega⟩ : Fin 64) = d from Fin.ext (by dsimp only; omega), hT, probs_at hs, mul_comm, kvOf_group]
  simp only [hS]

/-! ### The results -/

theorem normed_at (C : FVec Ideal S512 .f32) (A : FVec Ideal S8192x512 .f32) (i : Fin 8192) (j : Fin 512) :
    normed C A (ix2 i j) = norm (fun j => C (ix1 j)) (fun j => A (ix2 i j)) j := by
  have e : normed C A (ix2 i j) = A (ix2 i j) * Ideal.rsqrt (Ideal.div (∑ x, A (ix2 i x) * A (ix2 i x)) (Ideal.ofBits FTy.f32 0x44000000#32)
      + Ideal.ofBits FTy.f32 0x358637BD#32) * C (ix1 j) := by pointwise [normed]
  rw [e, ofBits_512, ofBits_eps, Ideal.div_coe (by norm_num)]
  rfl

theorem mixed_at (A B : FVec Ideal S8192x512 .f32) (i : Fin 8192) (j : Fin 1024) :
    mixed A B (ix2 i j) = if h : j.val < 512 then A (ix2 i ⟨j, h⟩) else B (ix2 i ⟨j - 512, by omega⟩) := by pointwise [mixed]

theorem streamed_at (X : FVec Ideal S1x8192x1024 .f32) (M : FVec Ideal S8192x1024 .f32) (O : FVec Ideal S1024x1024 .f32)
    (i : Fin 8192) (j : Fin 1024) : streamed X M O (ix2 i j) = X (ix3 0 i j) + ∑ k, M (ix2 i k) * O (ix2 k j) := by pointwise [streamed]
end

/-! ## The results of a run -/

section
variable (V : Valuation τ sig (Elt Ideal)) {p : Fin 8192 → Fin 2304 → ℝ} {qg kg : Fin 64 → ℝ} {sk : Fin 8 → ℝ}
  (hp : ∀ i j, V (Proc.devRef .tc main_arg1) (ix3 0 i j) = ((p i j : ℝ) : EReal))
  (hq : ∀ d, V (Proc.devRef .tc main_arg3) (ix1 d) = ((qg d : ℝ) : EReal))
  (hk : ∀ d, V (Proc.devRef .tc main_arg4) (ix1 d) = ((kg d : ℝ) : EReal))
  (hs : ∀ h, V (Proc.devRef .tc main_arg5) (ix1 h) = ((sk h : ℝ) : EReal))

include hp in
theorem y_real (i : Fin 8192) (j : Fin 512) :
    res_main_v31 V (ix2 i j) = conv p (fun e j => V (Proc.devRef .tc main_arg2) (ix2 e j)) i j := by
  rw [res_y]
  exact convolved_at hp i j

include hp hq hk hs in
theorem ao_real (i : Fin 8192) (j : Fin 512) : res_main_v127 V (ix2 i j) = attnAll p qg kg sk i j := by
  rw [res_ao, res_scores]
  exact attended_at hs _ _ (band_at _ (fun R g d => R (vcol g d)) (valueBlocks_at hp) fun _ _ => rfl)
    (scores_at _ _ (band_at _ (fun R g d => kn kg R g d) (keyBlocks_at hp hk) fun g d => by unfold kn; rw [Pi.zero_apply, zero_mul, zero_mul])
      (queryBlocks_at hp hq)) i j

include hp hq hk hs in
theorem mix_real (i : Fin 8192) (j : Fin 1024) : res_main_v156 V (ix2 i j)
    = mix p (fun e j => V (Proc.devRef .tc main_arg2) (ix2 e j)) qg kg sk (fun j => V (Proc.devRef .tc main_arg6) (ix1 j))
        (fun j => V (Proc.devRef .tc main_arg7) (ix1 j)) i j := by
  rw [res_mix, mixed_at]
  unfold mix
  split
  · rw [normed_at]
    exact congrArg (norm _ · _) (funext fun j => gated_at hp i j)
  · rw [normed_at]
    exact congrArg (norm _ · _) (funext fun j => ao_real V hp hq hk hs i j)
end

end Cert.MixReferenceIdeal.Value
end
-- ==== Proof.MixClaims.lean ====
/-
  The claims about the mixer: the frames of its programs, the named mask, and the algebraic claim from the two value
  modules.
-/
module

public import proofs.«01_k».proof.Defs
public import proofs.«01_k».proof.Proof.Gen.MixKernel.Frame
public import proofs.«01_k».proof.Proof.Gen.MixKernelIdeal.Frame
public import proofs.«01_k».proof.Proof.Gen.Pre_mix_finite
public import proofs.«01_k».proof.Proof.MixKernelResults
public import proofs.«01_k».proof.Proof.MixReferenceValue
public import Idealize.ShloMosaic.Adequacy
public import Idealize.ShloMosaic.Init

@[expose] public section

noncomputable section

namespace Cert.Proof.Mix

open Idealize.ShloMosaic Idealize.ShloMosaic.StableHlo Idealize.SL.Sem Cert.Reals

theorem frame_p : Cert.quiescent_MixKernel := fun m ρ _ => Cert.MixKernel.Gen.frame m ρ
theorem frame_pi : Cert.quiescent_MixKernelIdeal := fun m ρ _ => Cert.MixKernelIdeal.Gen.frame m ρ
theorem frame_pi_pre : Cert.quiescent_MixKernelIdeal_pre_mix_finite := fun m ρ _ => Cert.MixKernelIdeal.Gen.frame m ρ

theorem frame_ri : Cert.quiescent_MixReferenceIdeal := fun m ρ _ =>
  (θ_run Cert.MixReferenceIdeal.defs _ _).mono (fun r h => ⟨fun c => (h c).2.2.2.2,
      Idealize.ShloMosaic.sem_eq_zero_of_no_sems (by decide) r.2⟩)
    (Cert.MixReferenceIdeal.Value.run (F := Ideal) m ρ)
theorem frame_ri_pre : Cert.quiescent_MixReferenceIdeal_pre_mix_finite := fun m ρ _ => frame_ri m ρ trivial

theorem preserves : Cert.preserves_MixKernel_MixKernelIdeal :=
  IdealRules.named_const.statement Cert.MixKernelIdeal.κ "mask" .f32 0xF149F2CA#32 ⊥ rfl

open Cert.MixKernelIdeal Cert.MixKernelIdeal.Value in
/-- Where the precondition holds, the projection, the head gains and the sinks are real numbers. -/
theorem holds (m : (ℓ : Loc nD τ sig) → Buf (Elt Ideal) ℓ) (h : Cert.Pre_MixKernelIdeal_mix_finite m) (c : Dev nD) :
    ∃ p qg kg sk, Holds m c p qg kg sk := by
  obtain ⟨h0, h1, h2, h3⟩ := h c
  choose p hp using fun i => real_of_finite (fun _ => ofBits_inf) h0 i
  choose q hq using fun i => real_of_finite (fun _ => ofBits_inf) h1 i
  choose k hk using fun i => real_of_finite (fun _ => ofBits_inf) h2 i
  choose s hs using fun i => real_of_finite (fun _ => ofBits_inf) h3 i
  exact ⟨fun i j => p (ix3 0 i j), fun d => q (ix1 d), fun d => k (ix1 d), fun e => s (ix1 e),
    fun _ _ => hp _, fun _ => hq _, fun _ => hk _, fun _ => hs _⟩

open Cert.MixKernelIdeal.Value in
theorem algebraic : Cert.algebraic_MixKernelIdeal_MixReferenceIdeal_pre_mix_finite := by
  intro m ρ m' ρ' hpre hagree
  choose p qg kg sk hh using holds m hpre
  refine ⟨fun c => resultMix m c (p c) (qg c) (kg c) (sk c), fun c => resultY m c (p c), fun c => resultAo (p c) (qg c) (kg c) (sk c),
    fun c => resultX1 m c (p c) (qg c) (kg c) (sk c), ?_, ?_⟩
  · exact (θ_run Cert.MixKernelIdeal.defs _ _).mono
      (fun _ h c => ⟨(h c).1.trans (final_mix (hh c)), (h c).2.1.trans (final_y (hh c)), (h c).2.2.1.trans (final_ao (hh c)),
        (h c).2.2.2.1.trans (final_x1 (hh c)), (h c).2.2.2.2⟩) (run_blocks m ρ)
  · refine (θ_run Cert.MixReferenceIdeal.defs _ _).mono (fun _ h c => ?_) (Cert.MixReferenceIdeal.Value.run (F := Ideal) m' ρ')
    obtain ⟨e0, e1, e2, e3, e4, e5, e6, e7, e8⟩ := hagree c
    have hp := fun i j => (congrFun e1 (ix3 0 i j)).trans ((hh c).p i j)
    have hq := fun d => (congrFun e3 (ix1 d)).trans ((hh c).qg d)
    have hk := fun d => (congrFun e4 (ix1 d)).trans ((hh c).kg d)
    have hs := fun e => (congrFun e5 (ix1 e)).trans ((hh c).sk e)
    have w : (fun e j => m' ((c.tc : Thread Cert.MixReferenceIdeal.nD Cert.MixReferenceIdeal.τ).loc Cert.MixReferenceIdeal.main_arg2) (ix2 e j)) = cw m c :=
      funext₂ fun e j => congrFun e2 (ix2 e j)
    have g : (fun j => m' ((c.tc : Thread Cert.MixReferenceIdeal.nD Cert.MixReferenceIdeal.τ).loc Cert.MixReferenceIdeal.main_arg6) (ix1 j)) = cg m c :=
      funext fun j => congrFun e6 (ix1 j)
    have a : (fun j => m' ((c.tc : Thread Cert.MixReferenceIdeal.nD Cert.MixReferenceIdeal.τ).loc Cert.MixReferenceIdeal.main_arg7) (ix1 j)) = ag m c :=
      funext fun j => congrFun e7 (ix1 j)
    have mixed (i : Fin 8192) (j : Fin 1024) := (Cert.MixReferenceIdeal.Value.mix_real (launchContents m' c) hp hq hk hs i j).trans
      (show Cert.Mix.mix (p c) (fun e j => m' ((c.tc : Thread Cert.MixReferenceIdeal.nD Cert.MixReferenceIdeal.τ).loc Cert.MixReferenceIdeal.main_arg2) (ix2 e j))
          (qg c) (kg c) (sk c)
          (fun j => m' ((c.tc : Thread Cert.MixReferenceIdeal.nD Cert.MixReferenceIdeal.τ).loc Cert.MixReferenceIdeal.main_arg6) (ix1 j))
          (fun j => m' ((c.tc : Thread Cert.MixReferenceIdeal.nD Cert.MixReferenceIdeal.τ).loc Cert.MixReferenceIdeal.main_arg7) (ix1 j)) i j
        = Cert.Mix.mix (p c) (cw m c) (qg c) (kg c) (sk c) (cg m c) (ag m c) i j by rw [w, g, a])
    refine ⟨(h c).1.trans ?_, (h c).2.1.trans ?_, (h c).2.2.1.trans ?_, (h c).2.2.2.1.trans ?_, (h c).2.2.2.2⟩ <;> funext i
    · obtain ⟨a, b, rfl⟩ : ∃ (a : Fin 8192) (b : Fin 1024), i = ix2 a b := ⟨i 0, i 1, (ix2_eta _).symm⟩
      exact mixed a b
    · obtain ⟨a, b, rfl⟩ : ∃ (a : Fin 8192) (b : Fin 512), i = ix2 a b := ⟨i 0, i 1, (ix2_eta _).symm⟩
      refine (Cert.MixReferenceIdeal.Value.y_real (launchContents m' c) hp a b).trans ?_
      exact congrFun (congrFun (congrArg (Cert.Mix.conv (p c)) w) a) b
    · obtain ⟨a, b, rfl⟩ : ∃ (a : Fin 8192) (b : Fin 512), i = ix2 a b := ⟨i 0, i 1, (ix2_eta _).symm⟩
      exact Cert.MixReferenceIdeal.Value.ao_real (launchContents m' c) hp hq hk hs a b
    · obtain ⟨a, b, rfl⟩ : ∃ (a : Fin 8192) (b : Fin 1024), i = ix2 a b := ⟨i 0, i 1, (ix2_eta _).symm⟩
      refine (Cert.MixReferenceIdeal.Value.streamed_at _ _ _ a b).trans ?_
      refine congrArg₂ (· + ·) (congrFun e0 (ix3 0 a b)) (Finset.sum_congr rfl fun k _ => ?_)
      exact congrArg₂ (· * ·) (mixed a k) (congrFun e8 (ix2 k b))

end Cert.Proof.Mix
end
-- ==== Proof.LossCases.lean ====
/-
  The feed-forward block's kernel under the squared error, body by body: what one grid point leaves in its output blocks
  and in the carried sum of squares, as the kernel's own payloads of the point's input blocks.
-/
module

public import proofs.«01_k».proof.Proof.Gen.LossKernelIdeal.Value
public import Idealize.ShloMosaic.Lib.Pointwise
public import Idealize.ShloMosaic.Lib.StableHlo.ReadAt

@[expose] public section

noncomputable section

namespace Cert.LossKernelIdeal.Value

open Cert.LossKernelIdeal Cert.LossKernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

section
variable (c : Dev nD) (i : grid0.Coords) (a1 : Memref sig .tc .vmem S512x1024 .bf16) (h1 : a1.IsWhole)
  (a2 : Memref sig .tc .vmem S512x1024 .f32) (h2 : a2.IsWhole) (a3 : Memref sig .tc .vmem S1408x1024 .bf16) (h3 : a3.IsWhole)
  (a4 : Memref sig .tc .vmem S1408x1024 .bf16) (h4 : a4.IsWhole) (a5 : Memref sig .tc .vmem S1408x1024 .bf16) (h5 : a5.IsWhole)
  (a9 : Memref sig .tc .vmem S512x1024 .f32) (h9 : a9.IsWhole) (a10 : Memref sig .tc .vmem S512x1408 .bf16) (h10 : a10.IsWhole)
  (a11 : Memref sig .tc .vmem S512x1408 .bf16) (h11 : a11.IsWhole) (a12 : Memref sig .tc .vmem S512x1408 .bf16) (h12 : a12.IsWhole)
  (a13 : Memref sig .tc .vmem S512x1024 .f32) (h13 : a13.IsWhole) (a14 : Memref sig .tc .vmem S1x128 .f32) (h14 : a14.IsWhole)
  (a15 : Memref sig .tc .vmem S1x1024 .f32) (h15 : a15.IsWhole)
  (x0 : Vec F S512x1024 .bf16) (x1 : Vec F S512x1024 .f32) (x2 x3 x4 : Vec F S1408x1024 .bf16) (x5 : Vec F S512x1024 .f32)
  (xs : Vec F S1x1024 .f32)

/-- The output minus the target over one block of rows. -/
abbrev miss : Vec F S512x1024 .f32 := k0_pay12 x1 x0 x2 x3 x4 x5

/-- The first point starts the carried sum. -/
theorem out_A (hc0 : cond0_0 i) (hc1 : ¬cond0_1 i) (hc2 : ¬cond0_2 i) :
    out0_A_6 c i a1 h1 a2 h2 a3 h3 a4 h4 a5 h5 a9 h9 a10 h10 a11 h11 a12 h12 a13 h13 a14 h14 a15 h15 hc0 hc1 hc2 x0 x1 x2 x3 x4 x5 = k0_pay9 x0 x2
    ∧ out0_A_7 c i a1 h1 a2 h2 a3 h3 a4 h4 a5 h5 a9 h9 a10 h10 a11 h11 a12 h12 a13 h13 a14 h14 a15 h15 hc0 hc1 hc2 x0 x1 x2 x3 x4 x5 = k0_pay10 x0 x3
    ∧ out0_A_8 c i a1 h1 a2 h2 a3 h3 a4 h4 a5 h5 a9 h9 a10 h10 a11 h11 a12 h12 a13 h13 a14 h14 a15 h15 hc0 hc1 hc2 x0 x1 x2 x3 x4 x5 = k0_pay11 x0 x2 x3
    ∧ out0_A_9 c i a1 h1 a2 h2 a3 h3 a4 h4 a5 h5 a9 h9 a10 h10 a11 h11 a12 h12 a13 h13 a14 h14 a15 h15 hc0 hc1 hc2 x0 x1 x2 x3 x4 x5 = k0_pay1 (miss x0 x1 x2 x3 x4 x5)
    ∧ sout0_A_0 c i a1 h1 a2 h2 a3 h3 a4 h4 a5 h5 a9 h9 a10 h10 a11 h11 a12 h12 a13 h13 a14 h14 a15 h15 hc0 hc1 hc2 x0 x1 x2 x3 x4 x5 = k0_pay3 (miss x0 x1 x2 x3 x4 x5) := by
  refine ⟨?_, ?_, ?_, ?_, ?_⟩
  on_goal 1 => unfold out0_A_6; rw [View.read_writes_eq_canon _ _ _ (fun _ => cover0_A_6 ..)]
  on_goal 2 => unfold out0_A_7; rw [View.read_writes_eq_canon _ _ _ (fun _ => cover0_A_7 ..)]
  on_goal 3 => unfold out0_A_8; rw [View.read_writes_eq_canon _ _ _ (fun _ => cover0_A_8 ..)]
  on_goal 4 => unfold out0_A_9; rw [View.read_writes_eq_canon _ _ _ (fun _ => cover0_A_9 ..)]
  on_goal 5 => unfold sout0_A_0; rw [View.read_writes_eq_canon _ _ _ (fun _ => scover0_A_0 ..)]
  all_goals unfold kernelRun0_A; dsimp only; sl_unfold_words; rw [View.canon_unit_zero hz]
  all_goals
    simp only [View.readAt_eq_ld, h1.read_unread, h2.read_unread, h3.read_unread, h4.read_unread, h5.read_unread, h9.read_unread,
      h15.read_unread, View.ld_unit_zero (S := S512x1024) hz, View.ld_unit_zero (S := S1408x1024) hz, View.ld_unit_zero (S := S1x1024) hz]

/-- A middle point adds to it. -/
theorem out_B (hc0 : ¬cond0_0 i) (hc1 : cond0_1 i) (hc2 : ¬cond0_2 i) :
    out0_B_6 c i a1 h1 a2 h2 a3 h3 a4 h4 a5 h5 a9 h9 a10 h10 a11 h11 a12 h12 a13 h13 a14 h14 a15 h15 hc0 hc1 hc2 x0 x1 x2 x3 x4 x5 xs = k0_pay9 x0 x2
    ∧ out0_B_7 c i a1 h1 a2 h2 a3 h3 a4 h4 a5 h5 a9 h9 a10 h10 a11 h11 a12 h12 a13 h13 a14 h14 a15 h15 hc0 hc1 hc2 x0 x1 x2 x3 x4 x5 xs = k0_pay10 x0 x3
    ∧ out0_B_8 c i a1 h1 a2 h2 a3 h3 a4 h4 a5 h5 a9 h9 a10 h10 a11 h11 a12 h12 a13 h13 a14 h14 a15 h15 hc0 hc1 hc2 x0 x1 x2 x3 x4 x5 xs = k0_pay11 x0 x2 x3
    ∧ out0_B_9 c i a1 h1 a2 h2 a3 h3 a4 h4 a5 h5 a9 h9 a10 h10 a11 h11 a12 h12 a13 h13 a14 h14 a15 h15 hc0 hc1 hc2 x0 x1 x2 x3 x4 x5 xs = k0_pay1 (miss x0 x1 x2 x3 x4 x5)
    ∧ sout0_B_0 c i a1 h1 a2 h2 a3 h3 a4 h4 a5 h5 a9 h9 a10 h10 a11 h11 a12 h12 a13 h13 a14 h14 a15 h15 hc0 hc1 hc2 x0 x1 x2 x3 x4 x5 xs = k0_pay4 (miss x0 x1 x2 x3 x4 x5) xs := by
  refine ⟨?_, ?_, ?_, ?_, ?_⟩
  on_goal 1 => unfold out0_B_6; rw [View.read_writes_eq_canon _ _ _ (fun _ => cover0_B_6 ..)]
  on_goal 2 => unfold out0_B_7; rw [View.read_writes_eq_canon _ _ _ (fun _ => cover0_B_7 ..)]
  on_goal 3 => unfold out0_B_8; rw [View.read_writes_eq_canon _ _ _ (fun _ => cover0_B_8 ..)]
  on_goal 4 => unfold out0_B_9; rw [View.read_writes_eq_canon _ _ _ (fun _ => cover0_B_9 ..)]
  on_goal 5 => unfold sout0_B_0; rw [View.read_writes_eq_canon _ _ _ (fun _ => scover0_B_0 ..)]
  all_goals unfold kernelRun0_B; dsimp only; sl_unfold_words; rw [View.canon_unit_zero hz]
  all_goals
    simp only [View.readAt_eq_ld, h1.read_unread, h2.read_unread, h3.read_unread, h4.read_unread, h5.read_unread, h9.read_unread,
      h15.read_unread, View.ld_unit_zero (S := S512x1024) hz, View.ld_unit_zero (S := S1408x1024) hz, View.ld_unit_zero (S := S1x1024) hz]

/-- The last point adds to it and writes the loss. -/
theorem out_C (hc0 : ¬cond0_0 i) (hc1 : cond0_1 i) (hc2 : cond0_2 i) :
    out0_C_6 c i a1 h1 a2 h2 a3 h3 a4 h4 a5 h5 a9 h9 a10 h10 a11 h11 a12 h12 a13 h13 a14 h14 a15 h15 hc0 hc1 hc2 x0 x1 x2 x3 x4 x5 xs = k0_pay9 x0 x2
    ∧ out0_C_7 c i a1 h1 a2 h2 a3 h3 a4 h4 a5 h5 a9 h9 a10 h10 a11 h11 a12 h12 a13 h13 a14 h14 a15 h15 hc0 hc1 hc2 x0 x1 x2 x3 x4 x5 xs = k0_pay10 x0 x3
    ∧ out0_C_8 c i a1 h1 a2 h2 a3 h3 a4 h4 a5 h5 a9 h9 a10 h10 a11 h11 a12 h12 a13 h13 a14 h14 a15 h15 hc0 hc1 hc2 x0 x1 x2 x3 x4 x5 xs = k0_pay11 x0 x2 x3
    ∧ out0_C_9 c i a1 h1 a2 h2 a3 h3 a4 h4 a5 h5 a9 h9 a10 h10 a11 h11 a12 h12 a13 h13 a14 h14 a15 h15 hc0 hc1 hc2 x0 x1 x2 x3 x4 x5 xs = k0_pay1 (miss x0 x1 x2 x3 x4 x5)
    ∧ sout0_C_0 c i a1 h1 a2 h2 a3 h3 a4 h4 a5 h5 a9 h9 a10 h10 a11 h11 a12 h12 a13 h13 a14 h14 a15 h15 hc0 hc1 hc2 x0 x1 x2 x3 x4 x5 xs = k0_pay4 (miss x0 x1 x2 x3 x4 x5) xs
    ∧ out0_C_10 c i a1 h1 a2 h2 a3 h3 a4 h4 a5 h5 a9 h9 a10 h10 a11 h11 a12 h12 a13 h13 a14 h14 a15 h15 hc0 hc1 hc2 x0 x1 x2 x3 x4 x5 xs = k0_pay5 (k0_pay4 (miss x0 x1 x2 x3 x4 x5) xs) := by
  refine ⟨?_, ?_, ?_, ?_, ?_, ?_⟩
  on_goal 1 => unfold out0_C_6; rw [View.read_writes_eq_canon _ _ _ (fun _ => cover0_C_6 ..)]
  on_goal 2 => unfold out0_C_7; rw [View.read_writes_eq_canon _ _ _ (fun _ => cover0_C_7 ..)]
  on_goal 3 => unfold out0_C_8; rw [View.read_writes_eq_canon _ _ _ (fun _ => cover0_C_8 ..)]
  on_goal 4 => unfold out0_C_9; rw [View.read_writes_eq_canon _ _ _ (fun _ => cover0_C_9 ..)]
  on_goal 5 => unfold sout0_C_0; rw [View.read_writes_eq_canon _ _ _ (fun _ => scover0_C_0 ..)]
  on_goal 6 => unfold out0_C_10; rw [View.read_writes_eq_canon _ _ _ (fun _ => cover0_C_10 ..)]
  all_goals unfold kernelRun0_C; dsimp only; sl_unfold_words; rw [View.canon_unit_zero hz]
  on_goal 6 => rw [View.readCov_unit_zero (S := S1x1024) _ hz]
  all_goals
    simp only [View.readAt_eq_ld, h1.read_unread, h2.read_unread, h3.read_unread, h4.read_unread, h5.read_unread, h9.read_unread,
      h15.read_unread, View.ld_unit_zero (S := S512x1024) hz, View.ld_unit_zero (S := S1408x1024) hz, View.ld_unit_zero (S := S1x1024) hz]

end

end Cert.LossKernelIdeal.Value
end
-- ==== Proof.LossMath.lean ====
/-
  The feed-forward block under the squared error, over extended reals: its output, the error, the gradient of the output
  and the loss, with the laws that carry a scale through a sum.
-/
module

public import Idealize.ShloMosaic.Lib.Pointwise
public import proofs.«01_k».proof.Proof.Reals

@[expose] public section

noncomputable section

namespace Cert.Loss

open Idealize.ShloMosaic Cert.Reals

/-! Rows in blocks of 512, hidden columns in halves of 1408. -/

theorem at_ix2 {n0 n1 : ℕ} (i : (⟨2, ![n0, n1]⟩ : Shape).Idx) (a : Fin n0) (b : Fin n1) (h : (i 0).val = a.val ∧ (i 1).val = b.val) :
    i = ix2 a b :=
  (ix2_eta i).symm.trans (congrArg₂ ix2 (Fin.ext h.1) (Fin.ext h.2))

/-- Row `r` of block `t`. -/
def row (t : Fin 16) (r : Fin 512) : Fin 8192 := ⟨t.val * 512 + r.val, by have := t.isLt; have := r.isLt; omega⟩

/-- Hidden column `f` of the first half, and of the second. -/
def lo (f : Fin 1408) : Fin 2816 := ⟨f.val, by have := f.isLt; omega⟩
def hi (f : Fin 1408) : Fin 2816 := ⟨1408 + f.val, by have := f.isLt; omega⟩

/-- A sum over the hidden columns is the two halves' sums. -/
theorem sum_halves (F : Fin 2816 → EReal) : ∑ f, F f = (∑ f, F (lo f)) + ∑ f, F (hi f) := by
  rw [Fin.sum_univ_tiles 2 1408 rfl F, Fin.sum_univ_two]
  refine congrArg₂ (· + ·) (Finset.sum_congr rfl fun f _ => congrArg F (Fin.ext ?_)) (Finset.sum_congr rfl fun f _ => congrArg F (Fin.ext ?_))
  · show 0 * 1408 + f.val = f.val; omega
  · show 1 * 1408 + f.val = 1408 + f.val; omega

/-- A column outside the second half is in the first. -/
theorem low {j : (⟨2, ![8192, 2816]⟩ : Shape).Idx} (h : ¬(j 1 : ℕ) / 1408 = 1) : ∃ f : Fin 1408, j = ix2 (j 0) (lo f) := by
  have : (j 1 : ℕ) < 2816 := (j 1).isLt
  exact ⟨⟨(j 1).val, by omega⟩, at_ix2 _ _ _ ⟨rfl, rfl⟩⟩

section
variable (x t : Fin 8192 → Fin 1024 → EReal) (g : Fin 1024 → EReal) (wg wu : Fin 1024 → Fin 2816 → EReal) (wd : Fin 2816 → Fin 1024 → EReal)

/-- The normalised row times the gain. -/
def normed (i : Fin 8192) (k : Fin 1024) : EReal :=
  x i k * Ideal.rsqrt (Ideal.div (∑ l, x i l * x i l) (Ideal.ofBits .f32 0x44800000#32) + Ideal.ofBits .f32 0x358637BD#32) * g k

/-- The normalised rows through a weight. -/
def through {n : ℕ} (w : Fin 1024 → Fin n → EReal) (i : Fin 8192) (f : Fin n) : EReal := ∑ k, normed x g i k * w k f

/-- A gate times its logistic, times what it gates. -/
def gated (a b : EReal) : EReal := a * Ideal.div 1 (1 + Ideal.exp (-a)) * b

/-- The gated products. -/
def act (i : Fin 8192) (f : Fin 2816) : EReal := gated (through x g wg i f) (through x g wu i f)

/-- The block's output minus the target. -/
def err (i : Fin 8192) (j : Fin 1024) : EReal := x i j + (∑ f, act x g wg wu i f * wd f j) - t i j

/-- The output's gradient. -/
def grad (i : Fin 8192) (j : Fin 1024) : EReal := err x t g wg wu wd i j * (((1 : ℝ) / 1024 : ℝ) : EReal)

/-- The loss: half the sum over the rows of the mean of the squares. -/
def loss : EReal := (∑ i, ∑ j, err x t g wg wu wd i j * err x t g wg wu wd i j) * (((1 : ℝ) / 2048 : ℝ) : EReal)
end

theorem ofBits_half : Ideal.ofBits .f32 0x3F000000#32 = (((1 : ℝ) / 2 : ℝ) : EReal) := by
  simp [Ideal.ofBits, Ideal.ieee]; rw [← EReal.coe_mul]; norm_num
theorem ofBits_two : Ideal.ofBits .f32 0x40000000#32 = ((2 : ℝ) : EReal) := by
  simp [Ideal.ofBits, Ideal.ieee]; rw [← EReal.coe_mul]; norm_num
theorem ofBits_inv2048 : Ideal.ofBits .f32 0x3A000000#32 = (((1 : ℝ) / 2048 : ℝ) : EReal) := by
  simp [Ideal.ofBits, Ideal.ieee]; rw [← EReal.coe_mul]; norm_num

/-- The normalised row with the mean square as the sum times 1/1024. -/
theorem normed_eq (x : Fin 8192 → Fin 1024 → EReal) (g : Fin 1024 → EReal) (i : Fin 8192) (k : Fin 1024) :
    x i k * Ideal.rsqrt ((∑ l, x i l * x i l) * Ideal.ofBits .f32 0x3A800000#32 + Ideal.ofBits .f32 0x358637BD#32) * g k = normed x g i k := by
  unfold normed
  rw [ofBits_1024, ofBits_inv1024, Ideal.div_coe (by norm_num)]

/-- A nonnegative real scale moves out of a sum. -/
theorem sum_mul_real {ι : Type*} (s : Finset ι) (f : ι → EReal) {c : ℝ} (h : 0 ≤ c) : ∑ i ∈ s, f i * (c : EReal) = (∑ i ∈ s, f i) * (c : EReal) := by
  induction s using Finset.cons_induction with
  | empty => simp
  | cons a s ha ih =>
    rw [Finset.sum_cons, Finset.sum_cons, ih, EReal.right_distrib_of_nonneg_of_ne_top (EReal.coe_nonneg.mpr h) (EReal.coe_ne_top c)]

/-- The gradient as the chain rule writes it: half, over the row's length, times twice the error. -/
theorem chain_eq (e : EReal) : Ideal.div (Ideal.ofBits .f32 0x3F000000#32 * Ideal.ofBits .f32 0x3F800000#32) (Ideal.ofBits .f32 0x44800000#32)
    * (Ideal.ofBits .f32 0x40000000#32 * e) = e * (((1 : ℝ) / 1024 : ℝ) : EReal) := by
  rw [ofBits_half, ofBits_two, ofBits_1024, Ideal.ofBits_one_f32, mul_one, div_coe' _ (by norm_num), ← mul_assoc, ← EReal.coe_mul, mul_comm e]
  norm_num

/-- The loss as the reference writes it. -/
theorem loss_eq (q : Fin 8192 → EReal) : Ideal.ofBits .f32 0x3F000000#32 * (∑ i, Ideal.div (q i) (Ideal.ofBits .f32 0x44800000#32))
    = (∑ i, q i) * (((1 : ℝ) / 2048 : ℝ) : EReal) := by
  have e (i : Fin 8192) : Ideal.div (q i) (Ideal.ofBits .f32 0x44800000#32) = q i * (((1 : ℝ) / 1024 : ℝ) : EReal) := by
    rw [ofBits_1024, Ideal.div_coe (by norm_num)]
  rw [Finset.sum_congr rfl fun i _ => e i, sum_mul_real _ _ (by norm_num), ofBits_half, mul_left_comm, ← EReal.coe_mul]
  norm_num

end Cert.Loss
end
-- ==== Proof.LossKernelValue.lean ====
/-
  The feed-forward block's kernel under the squared error: its payloads and its operands at entry, index by index, over
  the arguments.
-/
module

public import proofs.«01_k».proof.Proof.LossCases
public import proofs.«01_k».proof.Proof.LossMath
public import Idealize.ShloMosaic.Lib.KernelVsHost

@[expose] public section

noncomputable section

namespace Cert.LossKernelIdeal.Value

open Cert.LossKernelIdeal Cert.LossKernelIdeal.Gen Idealize.ShloMosaic Idealize.ShloMosaic.TcCoe Idealize.SL.Sem Cert.Loss Cert.Reals

/-! ## The payloads -/

section
variable (x0 : Vec Ideal S512x1024 .bf16) (x1 : Vec Ideal S512x1024 .f32) (x2 x3 x4 : Vec Ideal S1408x1024 .bf16)
  (x5 : Vec Ideal S512x1024 .f32) (xs : Vec Ideal S1x1024 .f32)

theorem gate_pay (r : Fin 512) (f : Fin 1408) : k0_pay9 x0 x2 (ix2 r f) = ∑ k, x0 (ix2 r k) * x2 (ix2 f k) := by
  pointwise [k0_pay9, k0_pay7, k0_pay6]
theorem up_pay (r : Fin 512) (f : Fin 1408) : k0_pay10 x0 x3 (ix2 r f) = ∑ k, x0 (ix2 r k) * x3 (ix2 f k) := by
  pointwise [k0_pay10, k0_pay8, k0_pay6]

theorem act_pay (r : Fin 512) (f : Fin 1408) : k0_pay11 x0 x2 x3 (ix2 r f) = gated (k0_pay9 x0 x2 (ix2 r f)) (k0_pay10 x0 x3 (ix2 r f)) := by
  have e : k0_pay11 x0 x2 x3 (ix2 r f) = k0_pay9 x0 x2 (ix2 r f) * Ideal.div (Ideal.ofBits .f32 0x3F800000#32)
      (Ideal.ofBits .f32 0x3F800000#32 + Ideal.exp (Ideal.ofBits .f32 0x00000000#32 - k0_pay9 x0 x2 (ix2 r f))) * k0_pay10 x0 x3 (ix2 r f) := by
    unfold k0_pay11 k0_pay9 k0_pay10
    generalize k0_pay7 x0 x2 = a
    generalize k0_pay8 x0 x3 = b
    pointwise
  rw [e, Ideal.ofBits_one_f32, Ideal.ofBits_zero_f32, zero_sub]
  rfl

theorem miss_pay (r : Fin 512) (j : Fin 1024) : miss x0 x1 x2 x3 x4 x5 (ix2 r j)
    = x1 (ix2 r j) + (∑ f, k0_pay11 x0 x2 x3 (ix2 r f) * x4 (ix2 f j)) - x5 (ix2 r j) := by
  unfold miss k0_pay12
  generalize k0_pay11 x0 x2 x3 = a
  pointwise

theorem grad_pay (e : Vec Ideal S512x1024 .f32) (r : Fin 512) (j : Fin 1024) : k0_pay1 (F := Ideal) e (ix2 r j) = e (ix2 r j) * (((1 : ℝ) / 1024 : ℝ) : EReal) := by
  rw [← ofBits_inv1024]
  pointwise [k0_pay1]

theorem first_pay (e : Vec Ideal S512x1024 .f32) (z : Fin 1) (j : Fin 1024) : k0_pay3 (F := Ideal) e (ix2 z j) = ∑ r, e (ix2 r j) * e (ix2 r j) := by
  obtain rfl : z = 0 := Subsingleton.elim _ _
  pointwise [k0_pay3, k0_pay2]
theorem next_pay (e : Vec Ideal S512x1024 .f32) (z : Fin 1) (j : Fin 1024) : k0_pay4 e xs (ix2 z j) = xs (ix2 z j) + ∑ r, e (ix2 r j) * e (ix2 r j) := by
  obtain rfl : z = 0 := Subsingleton.elim _ _
  pointwise [k0_pay4, k0_pay2]
theorem loss_pay (z : Fin 1) (j : Fin 128) : k0_pay5 xs (ix2 z j) = (∑ k, xs (ix2 0 k)) * (((1 : ℝ) / 2048 : ℝ) : EReal) := by
  rw [← ofBits_inv2048]
  pointwise [k0_pay5]
  exact congrArg (· * _) (Fintype.sum_unique _)
end

/-! ## The operands at the kernel's entry -/

variable (m : (ℓ : Loc nD τ sig) → Buf (Elt Ideal) ℓ) (c : Dev nD)

/-- The arguments. -/
def argX (i : Fin 8192) (k : Fin 1024) : EReal := m ((c : Thread nD τ).loc main_arg0) (ix3 0 i k)
def argG (k : Fin 1024) : EReal := m ((c : Thread nD τ).loc main_arg1) (ix1 k)
def argWg (k : Fin 1024) (f : Fin 2816) : EReal := m ((c : Thread nD τ).loc main_arg2) (ix2 k f)
def argWu (k : Fin 1024) (f : Fin 2816) : EReal := m ((c : Thread nD τ).loc main_arg3) (ix2 k f)
def argWd (f : Fin 2816) (k : Fin 1024) : EReal := m ((c : Thread nD τ).loc main_arg4) (ix2 f k)
def argT (i : Fin 8192) (k : Fin 1024) : EReal := m ((c : Thread nD τ).loc main_arg5) (ix3 0 i k)

/-- The gated products and the two arrays they come from, over the arguments. -/
def gateV (i : Fin 8192) (f : Fin 2816) : EReal := through (argX m c) (argG m c) (argWg m c) i f
def upV (i : Fin 8192) (f : Fin 2816) : EReal := through (argX m c) (argG m c) (argWu m c) i f
def actV (i : Fin 8192) (f : Fin 2816) : EReal := act (argX m c) (argG m c) (argWg m c) (argWu m c) i f

theorem entry_h (i : Fin 8192) (k : Fin 1024) : (V m c main_v20 : Vec Ideal S8192x1024 .bf16) (ix2 i k) = normed (argX m c) (argG m c) i k := by
  after_reads_at
  rfl
theorem entry_wg (f : Fin 2816) (k : Fin 1024) : (V m c main_v26 : Vec Ideal S2816x1024 .bf16) (ix2 f k) = argWg m c k f := by
  after_reads_at
  rfl
theorem entry_wu (f : Fin 2816) (k : Fin 1024) : (V m c main_v28 : Vec Ideal S2816x1024 .bf16) (ix2 f k) = argWu m c k f := by
  after_reads_at
  rfl
theorem entry_wd (f : Fin 2816) (k : Fin 1024) : (V m c main_v29 : Vec Ideal S2816x1024 .bf16) (ix2 f k) = argWd m c f k := by
  after_reads_at
  rfl
theorem entry_t (i : Fin 8192) (k : Fin 1024) : (V m c main_v36 : Vec Ideal S8192x1024 .f32) (ix2 i k) = argT m c i k := by
  after_reads_at
  rfl
theorem entry_a0 (i : Fin 8192) (f : Fin 1408) : (V m c main_v15 : Vec Ideal S8192x1408 .f32) (ix2 i f) = gateV m c i (lo f) := by
  after_reads_at
  rfl
theorem entry_part (i : Fin 8192) (j : Fin 1024) : (V m c main_v24 : Vec Ideal S8192x1024 .f32) (ix2 i j)
    = argX m c i j + ∑ f, actV m c i (lo f) * argWd m c (lo f) j := by
  after_reads_at
  rfl
theorem entry_a (i : Fin 8192) (f : Fin 1408) : (V m c main_v37_0 : Vec Ideal S8192x2816 .bf16) (ix2 i (lo f)) = gateV m c i (lo f) := by
  after_reads_at
  refine (pad_apply_of_inside _ _ _ _ _ _ _ _ (ix2 i f) fun d => ?_).trans ?_
  · fin_cases d <;> simp [lo]
  · pointwise
    rfl
theorem entry_b (i : Fin 8192) (f : Fin 1408) : (V m c main_v37_1 : Vec Ideal S8192x2816 .bf16) (ix2 i (lo f)) = upV m c i (lo f) := by
  after_reads_at
  refine (pad_apply_of_inside _ _ _ _ _ _ _ _ (ix2 i f) fun d => ?_).trans ?_
  · fin_cases d <;> simp [lo]
  · pointwise
    rfl
theorem entry_f (i : Fin 8192) (f : Fin 1408) : (V m c main_v37_2 : Vec Ideal S8192x2816 .bf16) (ix2 i (lo f)) = actV m c i (lo f) := by
  after_reads_at
  refine (pad_apply_of_inside _ _ _ _ _ _ _ _ (ix2 i f) fun d => ?_).trans ?_
  · fin_cases d <;> simp [lo]
  · pointwise
    rfl

end Cert.LossKernelIdeal.Value
end
-- ==== Proof.LossKernelResults.lean ====
/-
  The feed-forward block's kernel under the squared error: the blocks its points read, the carried sum of squares, and
  its five result arrays.
-/
module

public import proofs.«01_k».proof.Proof.LossKernelValue
public import Idealize.ShloMosaic.Lib.Pipeline.ValueKit.Partial

@[expose] public section

noncomputable section

namespace Cert.LossKernelIdeal.Value

open Cert.LossKernelIdeal Cert.LossKernelIdeal.Gen Idealize.ShloMosaic Idealize.ShloMosaic.TcCoe Idealize.SL.Sem Cert.Loss

/-! ## The blocks -/

theorem idx : ∀ t : Fin cfg0.N, (win0_0.index t 0 = t.val ∧ win0_0.index t 1 = 0) ∧ (win0_1.index t 0 = t.val ∧ win0_1.index t 1 = 0)
    ∧ (win0_2.index t 0 = 1 ∧ win0_2.index t 1 = 0) ∧ (win0_3.index t 0 = 1 ∧ win0_3.index t 1 = 0)
    ∧ (win0_4.index t 0 = 1 ∧ win0_4.index t 1 = 0) ∧ (win0_5.index t 0 = t.val ∧ win0_5.index t 1 = 0)
    ∧ (win0_6.index t 0 = t.val ∧ win0_6.index t 1 = 1) ∧ (win0_7.index t 0 = t.val ∧ win0_7.index t 1 = 1)
    ∧ (win0_8.index t 0 = t.val ∧ win0_8.index t 1 = 1) ∧ (win0_9.index t 0 = t.val ∧ win0_9.index t 1 = 0)
    ∧ win0_10.index t 0 = 0 ∧ win0_10.index t 1 = 0 := by
  decide +kernel

variable (m : (ℓ : Loc nD τ sig) → Buf (Elt Ideal) ℓ) (c : Dev nD)

/-! The six blocks of a point, read from the arguments. -/

theorem blk_h (t : Fin cfg0.N) (r : Fin 512) (k : Fin 1024) : (iblk m c 0 t : Vec Ideal S512x1024 .bf16) (ix2 r k) = normed (argX m c) (argG m c) (row t r) k := by
  have e : (iblk m c 0 t : Vec Ideal S512x1024 .bf16) (ix2 r k) = (V m c main_v20 : Vec Ideal S8192x1024 .bf16) (ix2 (row t r) k) := by
    obtain ⟨a, b⟩ := (idx t).1
    unfold iblk
    rw [View.read_apply]
    exact congrArg (V m c main_v20) (at_ix2 _ (row t r) k ⟨by show win0_0.index t 0 * 512 + 1 * r.val = t.val * 512 + r.val; omega,
      by show win0_0.index t 1 * 1024 + 1 * k.val = k.val; omega⟩)
  exact e.trans (entry_h m c _ _)
theorem blk_part (t : Fin cfg0.N) (r : Fin 512) (j : Fin 1024) : (iblk m c 1 t : Vec Ideal S512x1024 .f32) (ix2 r j) = argX m c (row t r) j + ∑ f, actV m c (row t r) (lo f) * argWd m c (lo f) j := by
  have e : (iblk m c 1 t : Vec Ideal S512x1024 .f32) (ix2 r j) = (V m c main_v24 : Vec Ideal S8192x1024 .f32) (ix2 (row t r) j) := by
    obtain ⟨a, b⟩ := (idx t).2.1
    unfold iblk
    rw [View.read_apply]
    exact congrArg (V m c main_v24) (at_ix2 _ (row t r) j ⟨by show win0_1.index t 0 * 512 + 1 * r.val = t.val * 512 + r.val; omega,
      by show win0_1.index t 1 * 1024 + 1 * j.val = j.val; omega⟩)
  exact e.trans (entry_part m c _ _)
theorem blk_wg (t : Fin cfg0.N) (f : Fin 1408) (k : Fin 1024) : (iblk m c 2 t : Vec Ideal S1408x1024 .bf16) (ix2 f k) = argWg m c k (hi f) := by
  have e : (iblk m c 2 t : Vec Ideal S1408x1024 .bf16) (ix2 f k) = (V m c main_v26 : Vec Ideal S2816x1024 .bf16) (ix2 (hi f) k) := by
    obtain ⟨a, b⟩ := (idx t).2.2.1
    unfold iblk
    rw [View.read_apply]
    exact congrArg (V m c main_v26) (at_ix2 _ (hi f) k ⟨by show win0_2.index t 0 * 1408 + 1 * f.val = 1408 + f.val; omega,
      by show win0_2.index t 1 * 1024 + 1 * k.val = k.val; omega⟩)
  exact e.trans (entry_wg m c _ _)
theorem blk_wu (t : Fin cfg0.N) (f : Fin 1408) (k : Fin 1024) : (iblk m c 3 t : Vec Ideal S1408x1024 .bf16) (ix2 f k) = argWu m c k (hi f) := by
  have e : (iblk m c 3 t : Vec Ideal S1408x1024 .bf16) (ix2 f k) = (V m c main_v28 : Vec Ideal S2816x1024 .bf16) (ix2 (hi f) k) := by
    obtain ⟨a, b⟩ := (idx t).2.2.2.1
    unfold iblk
    rw [View.read_apply]
    exact congrArg (V m c main_v28) (at_ix2 _ (hi f) k ⟨by show win0_3.index t 0 * 1408 + 1 * f.val = 1408 + f.val; omega,
      by show win0_3.index t 1 * 1024 + 1 * k.val = k.val; omega⟩)
  exact e.trans (entry_wu m c _ _)
theorem blk_wd (t : Fin cfg0.N) (f : Fin 1408) (k : Fin 1024) : (iblk m c 4 t : Vec Ideal S1408x1024 .bf16) (ix2 f k) = argWd m c (hi f) k := by
  have e : (iblk m c 4 t : Vec Ideal S1408x1024 .bf16) (ix2 f k) = (V m c main_v29 : Vec Ideal S2816x1024 .bf16) (ix2 (hi f) k) := by
    obtain ⟨a, b⟩ := (idx t).2.2.2.2.1
    unfold iblk
    rw [View.read_apply]
    exact congrArg (V m c main_v29) (at_ix2 _ (hi f) k ⟨by show win0_4.index t 0 * 1408 + 1 * f.val = 1408 + f.val; omega,
      by show win0_4.index t 1 * 1024 + 1 * k.val = k.val; omega⟩)
  exact e.trans (entry_wd m c _ _)
theorem blk_t (t : Fin cfg0.N) (r : Fin 512) (j : Fin 1024) : (iblk m c 5 t : Vec Ideal S512x1024 .f32) (ix2 r j) = argT m c (row t r) j := by
  have e : (iblk m c 5 t : Vec Ideal S512x1024 .f32) (ix2 r j) = (V m c main_v36 : Vec Ideal S8192x1024 .f32) (ix2 (row t r) j) := by
    obtain ⟨a, b⟩ := (idx t).2.2.2.2.2.1
    unfold iblk
    rw [View.read_apply]
    exact congrArg (V m c main_v36) (at_ix2 _ (row t r) j ⟨by show win0_5.index t 0 * 512 + 1 * r.val = t.val * 512 + r.val; omega,
      by show win0_5.index t 1 * 1024 + 1 * j.val = j.val; omega⟩)
  exact e.trans (entry_t m c _ _)

/-! ## What each point leaves -/

/-- The error, over the arguments. -/
def errV (i : Fin 8192) (j : Fin 1024) : EReal := err (argX m c) (argT m c) (argG m c) (argWg m c) (argWu m c) (argWd m c) i j

/-- The five results. -/
def resA : Vec Ideal S8192x2816 .bf16 := fun i => gateV m c (i 0) (i 1)
def resB : Vec Ideal S8192x2816 .bf16 := fun i => upV m c (i 0) (i 1)
def resF : Vec Ideal S8192x2816 .bf16 := fun i => actV m c (i 0) (i 1)
def resD : Vec Ideal S8192x1024 .f32 := fun i => grad (argX m c) (argT m c) (argG m c) (argWg m c) (argWu m c) (argWd m c) (i 0) (i 1)
def resL : Vec Ideal S1x128 .f32 := fun _ => loss (argX m c) (argT m c) (argG m c) (argWg m c) (argWu m c) (argWd m c)

/-- The output minus the target over a point's rows, of the point's blocks. -/
abbrev missAt (t : Fin cfg0.N) : Vec Ideal S512x1024 .f32 :=
  miss (iblk m c 0 t) (iblk m c 1 t) (iblk m c 2 t) (iblk m c 3 t) (iblk m c 4 t) (iblk m c 5 t)

theorem gate_at (t : Fin cfg0.N) (r : Fin 512) (f : Fin 1408) :
    (k0_pay9 (iblk m c 0 t) (iblk m c 2 t) : Vec Ideal S512x1408 .bf16) (ix2 r f) = gateV m c (row t r) (hi f) :=
  (gate_pay _ _ r f).trans (Finset.sum_congr rfl fun k _ => congrArg₂ (fun a b : EReal => a * b) (blk_h m c t r k) (blk_wg m c t f k))
theorem up_at (t : Fin cfg0.N) (r : Fin 512) (f : Fin 1408) :
    (k0_pay10 (iblk m c 0 t) (iblk m c 3 t) : Vec Ideal S512x1408 .bf16) (ix2 r f) = upV m c (row t r) (hi f) :=
  (up_pay _ _ r f).trans (Finset.sum_congr rfl fun k _ => congrArg₂ (fun a b : EReal => a * b) (blk_h m c t r k) (blk_wu m c t f k))
theorem act_at (t : Fin cfg0.N) (r : Fin 512) (f : Fin 1408) :
    (k0_pay11 (iblk m c 0 t) (iblk m c 2 t) (iblk m c 3 t) : Vec Ideal S512x1408 .bf16) (ix2 r f) = actV m c (row t r) (hi f) :=
  (act_pay _ _ _ r f).trans (congrArg₂ gated (gate_at m c t r f) (up_at m c t r f))

theorem miss_at (t : Fin cfg0.N) (r : Fin 512) (j : Fin 1024) : missAt m c t (ix2 r j) = errV m c (row t r) j := by
  refine (miss_pay _ _ _ _ _ _ r j).trans ?_
  rw [blk_part, blk_t, Finset.sum_congr rfl fun f _ => congrArg₂ (fun a b : EReal => a * b) (act_at m c t r f) (blk_wd m c t f j), add_assoc]
  exact congrArg (fun s => argX m c (row t r) j + s - argT m c (row t r) j)
    (sum_halves fun f => actV m c (row t r) f * argWd m c f j).symm

theorem case_A {t : Fin cfg0.N} (h : t.val = 0) : t.val % 16 = 0 ∧ ¬1 ≤ t.val ∧ ¬t.val % 16 = 15 := by omega
theorem case_B {t : Fin cfg0.N} (h : t.val ≠ 0) (h' : t.val ≠ 15) : ¬t.val % 16 = 0 ∧ 1 ≤ t.val ∧ ¬t.val % 16 = 15 := by
  have : t.val < 16 := t.isLt; omega
theorem case_C {t : Fin cfg0.N} (h : t.val = 15) : ¬t.val % 16 = 0 ∧ 1 ≤ t.val ∧ t.val % 16 = 15 := by omega

/-- Each point leaves the four arrays' blocks, however it treats the carried sum. -/
theorem outs (t : Fin cfg0.N) :
    (outsAt0 m c t.val t.isLt).1 = k0_pay9 (F := Ideal) (iblk m c 0 t) (iblk m c 2 t)
    ∧ (outsAt0 m c t.val t.isLt).2.1 = k0_pay10 (F := Ideal) (iblk m c 0 t) (iblk m c 3 t)
    ∧ (outsAt0 m c t.val t.isLt).2.2.1 = k0_pay11 (F := Ideal) (iblk m c 0 t) (iblk m c 2 t) (iblk m c 3 t)
    ∧ (outsAt0 m c t.val t.isLt).2.2.2.1 = k0_pay1 (F := Ideal) (missAt m c t) := by
  by_cases h : t.val = 0
  · rw [outsAt0_A m c t (case_A h).1 (case_A h).2.1 (case_A h).2.2]
    dsimp only
    rw [(out_A (F := Ideal) ..).1, (out_A (F := Ideal) ..).2.1, (out_A (F := Ideal) ..).2.2.1, (out_A (F := Ideal) ..).2.2.2.1]
    exact ⟨rfl, rfl, rfl, rfl⟩
  by_cases h' : t.val = 15
  · rw [outsAt0_C m c t (case_C h').1 (case_C h').2.1 (case_C h').2.2]
    dsimp only
    rw [(out_C (F := Ideal) ..).1, (out_C (F := Ideal) ..).2.1, (out_C (F := Ideal) ..).2.2.1, (out_C (F := Ideal) ..).2.2.2.1]
    exact ⟨rfl, rfl, rfl, rfl⟩
  · rw [outsAt0_B m c t (case_B h h').1 (case_B h h').2.1 (case_B h h').2.2]
    dsimp only
    rw [(out_B (F := Ideal) ..).1, (out_B (F := Ideal) ..).2.1, (out_B (F := Ideal) ..).2.2.1, (out_B (F := Ideal) ..).2.2.2.1]
    exact ⟨rfl, rfl, rfl, rfl⟩

/-- The squares of a column over the rows of a point. -/
def squares (j : Fin 1024) (t : Fin 16) : EReal := ∑ r, errV m c (row t r) j * errV m c (row t r) j

theorem first_at (t : Fin cfg0.N) (z : Fin 1) (j : Fin 1024) : k0_pay3 (F := Ideal) (missAt m c t) (ix2 z j) = squares m c j t :=
  (first_pay _ z j).trans (Finset.sum_congr rfl fun r _ => congrArg₂ (· * ·) (miss_at m c t r j) (miss_at m c t r j))
theorem next_at (xs : Vec Ideal S1x1024 .f32) (t : Fin cfg0.N) (z : Fin 1) (j : Fin 1024) :
    k0_pay4 (F := Ideal) (missAt m c t) xs (ix2 z j) = xs (ix2 z j) + squares m c j t :=
  (next_pay xs _ z j).trans (congrArg (xs (ix2 z j) + ·)
    (Finset.sum_congr rfl fun r _ => congrArg₂ (· * ·) (miss_at m c t r j) (miss_at m c t r j)))

/-- The carried sum after a block: the squares over the blocks so far. -/
theorem outs_carried : ∀ (n : ℕ) (hn : n < cfg0.N) (z : Fin 1) (j : Fin 1024), (outsAt0 m c n hn).2.2.2.2.2 (ix2 z j)
    = ∑ s : Fin (n + 1), squares m c j ⟨s.val, lt_of_lt_of_le s.isLt hn⟩
  | 0, hn, z, j => by
    obtain ⟨h0, h1, h2⟩ := case_A (t := ⟨0, hn⟩) rfl
    rw [outsAt0_A m c ⟨0, hn⟩ h0 h1 h2]
    dsimp only
    rw [(out_A (F := Ideal) ..).2.2.2.2, Fin.sum_univ_one]
    exact first_at m c ⟨0, hn⟩ z j
  | n + 1, hn, z, j => by
    have e : (outsAt0 m c (n + 1) hn).2.2.2.2.2
        = k0_pay4 (F := Ideal) (missAt m c ⟨n + 1, hn⟩) (outsAt0 m c n (Nat.lt_of_succ_lt hn)).2.2.2.2.2 := by
      by_cases h' : (⟨n + 1, hn⟩ : Fin cfg0.N).val = 15
      · obtain ⟨h0, h1, h2⟩ := case_C h'
        rw [outsAt0_C m c ⟨n + 1, hn⟩ h0 h1 h2]
        dsimp only
        rw [(out_C (F := Ideal) ..).2.2.2.2.1]
        rfl
      · obtain ⟨h0, h1, h2⟩ := case_B (t := ⟨n + 1, hn⟩) (Nat.succ_ne_zero n) h'
        rw [outsAt0_B m c ⟨n + 1, hn⟩ h0 h1 h2]
        dsimp only
        rw [(out_B (F := Ideal) ..).2.2.2.2]
        rfl
    rw [e]
    refine (next_at m c _ ⟨n + 1, hn⟩ z j).trans ?_
    rw [outs_carried n (Nat.lt_of_succ_lt hn) z j, Fin.sum_univ_castSucc (n := n + 1)]
    rfl

/-- The last point writes the carried sum's payload. -/
theorem outs_last (hn : 15 < cfg0.N) : (outsAt0 m c 15 hn).2.2.2.2.1 = k0_pay5 (F := Ideal) (outsAt0 m c 15 hn).2.2.2.2.2 := by
  obtain ⟨h0, h1, h2⟩ := case_C (t := ⟨15, hn⟩) rfl
  have e := outsAt0_C m c ⟨15, hn⟩ h0 h1 h2
  have e1 := congrArg (fun p => p.2.2.2.2.1) e
  have e2 := congrArg (fun p => p.2.2.2.2.2) e
  dsimp only at e1 e2
  rw [(out_C (F := Ideal) ..).2.2.2.2.2] at e1
  rw [(out_C (F := Ideal) ..).2.2.2.2.1] at e2
  exact e1.trans (congrArg _ e2.symm)

/-- It is the loss. -/
theorem outs_loss (hn : 15 < cfg0.N) (z : Fin 1) (l : Fin 128) : (outsAt0 m c 15 hn).2.2.2.2.1 (ix2 z l)
    = loss (argX m c) (argT m c) (argG m c) (argWg m c) (argWu m c) (argWd m c) := by
  have e (k : Fin 1024) : (outsAt0 m c 15 hn).2.2.2.2.2 (ix2 0 k) = ∑ i, errV m c i k * errV m c i k :=
    (outs_carried m c 15 hn 0 k).trans (Fin.sum_univ_tiles 16 512 rfl fun i => errV m c i k * errV m c i k).symm
  rw [outs_last, loss_pay, Finset.sum_congr rfl fun k _ => e k, Finset.sum_comm]
  rfl

/-! ## The five arrays after the run -/

theorem final_a : (dats m 0 c).arrAt 6 cfg0.N = resA m c := by
  refine (dats m 0 c).arrAt_eq_of_coversWhere_of_agree 6 (resA m c) (fun β => β (1 : Fin 2) = 1) (by decide +kernel) (fun t _ y => ?_)
    (fun (j : S8192x2816.Idx) hj => ?_)
  · rw [after0_6, (outs m c t).1]
    blk_simp
    obtain ⟨a, b⟩ := (idx t).2.2.2.2.2.2.1
    obtain ⟨r, f, rfl⟩ : ∃ (r : Fin 512) (f : Fin 1408), y = ix2 r f := ⟨y 0, y 1, (ix2_eta _).symm⟩
    refine (gate_at m c t r f).trans ?_
    show resA m c (ix2 (row t r) (hi f)) = resA m c _
    exact congrArg (resA m c) (at_ix2 _ (row t r) (hi f) ⟨by show win0_6.index t 0 * 512 + 1 * r.val = t.val * 512 + r.val; omega,
      by show win0_6.index t 1 * 1408 + 1 * f.val = 1408 + f.val; omega⟩).symm
  · obtain ⟨f, e⟩ := low hj
    rw [A_eq, e]
    exact entry_a m c (j 0) f

theorem final_b : (dats m 0 c).arrAt 7 cfg0.N = resB m c := by
  refine (dats m 0 c).arrAt_eq_of_coversWhere_of_agree 7 (resB m c) (fun β => β (1 : Fin 2) = 1) (by decide +kernel) (fun t _ y => ?_)
    (fun (j : S8192x2816.Idx) hj => ?_)
  · rw [after0_7, (outs m c t).2.1]
    blk_simp
    obtain ⟨a, b⟩ := (idx t).2.2.2.2.2.2.2.1
    obtain ⟨r, f, rfl⟩ : ∃ (r : Fin 512) (f : Fin 1408), y = ix2 r f := ⟨y 0, y 1, (ix2_eta _).symm⟩
    refine (up_at m c t r f).trans ?_
    show resB m c (ix2 (row t r) (hi f)) = resB m c _
    exact congrArg (resB m c) (at_ix2 _ (row t r) (hi f) ⟨by show win0_7.index t 0 * 512 + 1 * r.val = t.val * 512 + r.val; omega,
      by show win0_7.index t 1 * 1408 + 1 * f.val = 1408 + f.val; omega⟩).symm
  · obtain ⟨f, e⟩ := low hj
    rw [A_eq, e]
    exact entry_b m c (j 0) f

theorem final_f : (dats m 0 c).arrAt 8 cfg0.N = resF m c := by
  refine (dats m 0 c).arrAt_eq_of_coversWhere_of_agree 8 (resF m c) (fun β => β (1 : Fin 2) = 1) (by decide +kernel) (fun t _ y => ?_)
    (fun (j : S8192x2816.Idx) hj => ?_)
  · rw [after0_8, (outs m c t).2.2.1]
    blk_simp
    obtain ⟨a, b⟩ := (idx t).2.2.2.2.2.2.2.2.1
    obtain ⟨r, f, rfl⟩ : ∃ (r : Fin 512) (f : Fin 1408), y = ix2 r f := ⟨y 0, y 1, (ix2_eta _).symm⟩
    refine (act_at m c t r f).trans ?_
    show resF m c (ix2 (row t r) (hi f)) = resF m c _
    exact congrArg (resF m c) (at_ix2 _ (row t r) (hi f) ⟨by show win0_8.index t 0 * 512 + 1 * r.val = t.val * 512 + r.val; omega,
      by show win0_8.index t 1 * 1408 + 1 * f.val = 1408 + f.val; omega⟩).symm
  · obtain ⟨f, e⟩ := low hj
    rw [A_eq, e]
    exact entry_f m c (j 0) f

theorem final_d : (dats m 0 c).arrAt 9 cfg0.N = resD m c := by
  refine (dats m 0 c).arrAt_eq_of_covers 9 (resD m c) (by decide +kernel) (fun t _ y => ?_)
  rw [after0_9, (outs m c t).2.2.2]
  blk_simp
  obtain ⟨a, b⟩ := (idx t).2.2.2.2.2.2.2.2.2.1
  exact (congrArg _ (ix2_eta y).symm).trans <| (grad_pay _ ⟨(y 0).val, (y 0).isLt⟩ ⟨(y 1).val, (y 1).isLt⟩).trans <|
    (congrArg (· * _) (miss_at m c t _ _)).trans <| congrArg (resD m c)
      (at_ix2 _ (row t _) ⟨(y 1).val, (y 1).isLt⟩ ⟨by show win0_9.index t 0 * 512 + 1 * (y 0).val = t.val * 512 + (y 0).val; omega,
        by show win0_9.index t 1 * 1024 + 1 * (y 1).val = (y 1).val; omega⟩).symm

theorem final_l : (dats m 0 c).arrAt 10 cfg0.N = resL m c := by
  refine (dats m 0 c).arrAt_eq_of_covers 10 (resL m c) (by decide +kernel) (fun t hf y => ?_)
  obtain rfl : t = ⟨15, by decide⟩ := Fin.ext (by have := (flush0_10 t).mp hf; have : t.val < 16 := t.isLt; show t.val = 15; omega)
  rw [after0_10]
  blk_simp
  exact (congrArg _ (ix2_eta y).symm).trans (outs_loss m c _ ⟨(y 0).val, (y 0).isLt⟩ ⟨(y 1).val, (y 1).isLt⟩)

end Cert.LossKernelIdeal.Value
end
-- ==== Proof.LossReferenceValue.lean ====
/-
  The reference's loss and gradients, index by index: the terms the run composes, read stage by stage.
-/
module

public import proofs.«01_k».proof.Proof.Gen.LossReferenceIdeal.Run
public import proofs.«01_k».proof.Proof.LossMath

@[expose] public section

noncomputable section

namespace Cert.LossReferenceIdeal.Value

open Cert.LossReferenceIdeal Cert.LossReferenceIdeal.Gen Idealize.ShloMosaic Idealize.ShloMosaic.TcCoe Idealize.SL.Sem Cert.Loss

section
variable (x t : FVec Ideal S1x8192x1024 .f32) (g : FVec Ideal S1024 .f32) (wg wu w : FVec Ideal S1024x2816 .f32)
  (wd : FVec Ideal S2816x1024 .f32)

/-- A three-axis argument as rows. -/
def rows : FVec Ideal S8192x1024 .f32 := shapeCast _ x shapeCasts_S1x8192x1024_S8192x1024

/-- The normalised rows times the gain. -/
def norm : FVec Ideal S8192x1024 .f32 :=
  mulf (mulf (rows x) (broadcastInDim S8192x1024 ![0, 1] bcast_S8192x1_S8192x1024_0_1 (Host.rsqrt (addf (Host.divf (broadcastInDim S8192x1 ![0] bcast_S8192_S8192x1_0 (Host.reduceAdd (mulf (rows x) (rows x)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))

/-- The same through a weight. -/
def up : FVec Ideal S8192x2816 .f32 := Host.dotGeneral dot_S8192x1024_S1024x2816_S8192x2816_1_0_0_1_n_n none (norm x g) w

/-- The gated products of two arrays. -/
def gate (a b : FVec Ideal S8192x2816 .f32) : FVec Ideal S8192x2816 .f32 :=
  mulf (mulf a (Host.divf (broadcastInDim S8192x2816 ![] bcast_S_S8192x2816 (constant S_ .f32 0x3F800000#32)) (addf (broadcastInDim S8192x2816 ![] bcast_S_S8192x2816 (constant S_ .f32 0x3F800000#32)) (Host.exp (Host.negf a))))) b

/-- The output minus the target, the gated products given. -/
def miss (f : FVec Ideal S8192x2816 .f32) : FVec Ideal S8192x1024 .f32 :=
  subf (addf (rows x) (Host.dotGeneral dot_S8192x2816_S2816x1024_S8192x1024_1_0_0_1_n_n none f wd)) (rows t)

/-- The gradient the chain rule gives, the error given. -/
def back (e : FVec Ideal S8192x1024 .f32) : FVec Ideal S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) e)

/-- The loss, the error given. -/
def total (e : FVec Ideal S8192x1024 .f32) : FVec Ideal S1x128 .f32 :=
  broadcastInDim S1x128 ![] bcast_S_S1x128 (mulf (constant S_ .f32 0x3F000000#32) (Host.reduceAdd (Host.divf (Host.reduceAdd (mulf e e) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_))

/-- The output minus the target. -/
def diff : FVec Ideal S8192x1024 .f32 := miss x t wd (gate (up x g wg) (up x g wu))

variable {x t g wg wu w wd} {X T : Fin 8192 → Fin 1024 → EReal} {G : Fin 1024 → EReal} {W Wg Wu : Fin 1024 → Fin 2816 → EReal}
  {Wd : Fin 2816 → Fin 1024 → EReal} (hx : ∀ i j, x (ix3 0 i j) = X i j) (ht : ∀ i j, t (ix3 0 i j) = T i j) (hg : ∀ j, g (ix1 j) = G j)
  (hw : ∀ k f, w (ix2 k f) = W k f) (hwg : ∀ k f, wg (ix2 k f) = Wg k f) (hwu : ∀ k f, wu (ix2 k f) = Wu k f)
  (hwd : ∀ f j, wd (ix2 f j) = Wd f j)

include hx in
theorem rows_at (i : Fin 8192) (j : Fin 1024) : rows x (ix2 i j) = X i j := by
  rw [← hx]; pointwise [rows]

include hx hg in
theorem norm_at (i : Fin 8192) (j : Fin 1024) : norm x g (ix2 i j) = normed X G i j := by
  have e : norm x g (ix2 i j) = rows x (ix2 i j) * Ideal.rsqrt (Ideal.div (∑ l, rows x (ix2 i l) * rows x (ix2 i l)) (Ideal.ofBits .f32 0x44800000#32)
      + Ideal.ofBits .f32 0x358637BD#32) * g (ix1 j) := by
    unfold norm; generalize rows x = r; pointwise
  rw [e, hg, rows_at hx]
  simp only [rows_at hx]
  rfl

include hx hg hw in
theorem up_at (i : Fin 8192) (f : Fin 2816) : up x g w (ix2 i f) = through X G W i f := by
  have e : up x g w (ix2 i f) = ∑ k, norm x g (ix2 i k) * w (ix2 k f) := by
    unfold up; generalize norm x g = r; pointwise
  rw [e]
  exact Finset.sum_congr rfl fun k _ => by rw [norm_at hx hg, hw]

theorem gate_at (a b : FVec Ideal S8192x2816 .f32) (i : Fin 8192) (f : Fin 2816) : gate a b (ix2 i f) = gated (a (ix2 i f)) (b (ix2 i f)) := by
  unfold gated
  rw [← Ideal.ofBits_one_f32]
  pointwise [gate]

include hx ht hg hwg hwu hwd in
theorem diff_at (i : Fin 8192) (j : Fin 1024) : diff x t g wg wu wd (ix2 i j) = err X T G Wg Wu Wd i j := by
  have e (f : FVec Ideal S8192x2816 .f32) : miss x t wd f (ix2 i j) = rows x (ix2 i j) + (∑ k, f (ix2 i k) * wd (ix2 k j)) - rows t (ix2 i j) := by
    unfold miss; generalize rows x = r; generalize rows t = s; pointwise
  unfold diff
  rw [e, rows_at hx, rows_at ht]
  refine congrArg (fun s => X i j + s - T i j) (Finset.sum_congr rfl fun k _ => ?_)
  rw [gate_at, up_at hx hg hwg, up_at hx hg hwu, hwd]
  rfl

include hx ht hg hwg hwu hwd in
theorem back_at (i : Fin 8192) (j : Fin 1024) : back (diff x t g wg wu wd) (ix2 i j) = grad X T G Wg Wu Wd i j := by
  have e (d : FVec Ideal S8192x1024 .f32) : back d (ix2 i j) = Ideal.div (Ideal.ofBits .f32 0x3F000000#32 * Ideal.ofBits .f32 0x3F800000#32)
      (Ideal.ofBits .f32 0x44800000#32) * (Ideal.ofBits .f32 0x40000000#32 * d (ix2 i j)) := by pointwise [back]
  rw [e, chain_eq, diff_at hx ht hg hwg hwu hwd]
  rfl

include hx ht hg hwg hwu hwd in
theorem total_at (z : Fin 1) (j : Fin 128) : total (diff x t g wg wu wd) (ix2 z j) = loss X T G Wg Wu Wd := by
  have e (d : FVec Ideal S8192x1024 .f32) : total d (ix2 z j) = Ideal.ofBits .f32 0x3F000000#32
      * (∑ i, Ideal.div (∑ j, d (ix2 i j) * d (ix2 i j)) (Ideal.ofBits .f32 0x44800000#32)) := by pointwise [total]
  rw [e, loss_eq]
  unfold loss
  simp only [diff_at hx ht hg hwg hwu hwd]
end

end Cert.LossReferenceIdeal.Value
end
-- ==== Proof.LossClaims.lean ====
/-
  The claims about the loss and its gradient: the frames of the programs, and the algebraic claim from the two value
  modules.
-/
module

public import proofs.«01_k».proof.Defs
public import proofs.«01_k».proof.Proof.Gen.LossKernel.Frame
public import proofs.«01_k».proof.Proof.Gen.LossKernelIdeal.Frame
public import proofs.«01_k».proof.Proof.LossKernelResults
public import proofs.«01_k».proof.Proof.LossReferenceValue
public import Idealize.ShloMosaic.Adequacy
public import Idealize.ShloMosaic.Init

@[expose] public section

noncomputable section

namespace Cert.Proof.Loss

open Idealize.ShloMosaic Idealize.SL.Sem Cert.Loss

theorem frame_p : Cert.quiescent_LossKernel := fun m ρ _ => Cert.LossKernel.Gen.frame m ρ
theorem frame_pi : Cert.quiescent_LossKernelIdeal := fun m ρ _ => Cert.LossKernelIdeal.Gen.frame m ρ
theorem frame_ri : Cert.quiescent_LossReferenceIdeal := fun m ρ _ =>
  (θ_run Cert.LossReferenceIdeal.defs _ _).mono (fun r h => ⟨fun c => (h c).2.2.2.2.2,
      Idealize.ShloMosaic.sem_eq_zero_of_no_sems (by decide) r.2⟩)
    (Cert.LossReferenceIdeal.Value.run (F := Ideal) m ρ)

open Cert.LossKernelIdeal.Value in
theorem algebraic : Cert.algebraic_LossKernelIdeal_LossReferenceIdeal := by
  intro m ρ m' ρ' _ hagree
  refine ⟨resA m, resB m, resF m, resD m, resL m, ?_, ?_⟩
  · exact (θ_run Cert.LossKernelIdeal.defs _ _).mono
      (fun _ h c => ⟨(h c).1.trans (final_a m c), (h c).2.1.trans (final_b m c), (h c).2.2.1.trans (final_f m c),
        (h c).2.2.2.1.trans (final_d m c), (h c).2.2.2.2.1.trans (final_l m c), (h c).2.2.2.2.2⟩) (run_blocks m ρ)
  · refine (θ_run Cert.LossReferenceIdeal.defs _ _).mono (fun _ h c => ?_) (Cert.LossReferenceIdeal.Value.run (F := Ideal) m' ρ')
    obtain ⟨e0, e1, e2, e3, e4, e5⟩ := hagree c
    have hx := fun i j => congrFun e0 (ix3 0 i j)
    have hg := fun j => congrFun e1 (ix1 j)
    have hwg := fun k f => congrFun e2 (ix2 k f)
    have hwu := fun k f => congrFun e3 (ix2 k f)
    have hwd := fun f k => congrFun e4 (ix2 f k)
    have ht := fun i j => congrFun e5 (ix3 0 i j)
    refine ⟨(h c).1.trans ?_, (h c).2.1.trans ?_, (h c).2.2.1.trans ?_, (h c).2.2.2.1.trans ?_, (h c).2.2.2.2.1.trans ?_, (h c).2.2.2.2.2⟩ <;> funext i
    · obtain ⟨a, b, rfl⟩ : ∃ (a : Fin 8192) (b : Fin 2816), i = ix2 a b := ⟨i 0, i 1, (ix2_eta _).symm⟩
      exact Cert.LossReferenceIdeal.Value.up_at hx hg hwg a b
    · obtain ⟨a, b, rfl⟩ : ∃ (a : Fin 8192) (b : Fin 2816), i = ix2 a b := ⟨i 0, i 1, (ix2_eta _).symm⟩
      exact Cert.LossReferenceIdeal.Value.up_at hx hg hwu a b
    · obtain ⟨a, b, rfl⟩ : ∃ (a : Fin 8192) (b : Fin 2816), i = ix2 a b := ⟨i 0, i 1, (ix2_eta _).symm⟩
      refine (Cert.LossReferenceIdeal.Value.gate_at _ _ a b).trans ?_
      exact congrArg₂ gated (Cert.LossReferenceIdeal.Value.up_at hx hg hwg a b) (Cert.LossReferenceIdeal.Value.up_at hx hg hwu a b)
    · obtain ⟨a, b, rfl⟩ : ∃ (a : Fin 8192) (b : Fin 1024), i = ix2 a b := ⟨i 0, i 1, (ix2_eta _).symm⟩
      exact Cert.LossReferenceIdeal.Value.back_at hx ht hg hwg hwu hwd a b
    · obtain ⟨a, b, rfl⟩ : ∃ (a : Fin 1) (b : Fin 128), i = ix2 a b := ⟨i 0, i 1, (ix2_eta _).symm⟩
      exact Cert.LossReferenceIdeal.Value.total_at hx ht hg hwg hwu hwd a b

end Cert.Proof.Loss
end
-- ==== Proof.NormKernelValue.lean ====
/-
  The norm and the input projection: the kernel's two result arrays, index by index, over the arguments.
-/
module

public import proofs.«01_k».proof.Proof.Gen.NormKernelIdeal.Value
public import proofs.«01_k».proof.Proof.LossMath
public import Idealize.ShloMosaic.Lib.Pointwise
public import Idealize.ShloMosaic.Lib.StableHlo.ReadAt
public import Idealize.ShloMosaic.Lib.Pipeline.ValueKit.Partial

@[expose] public section

noncomputable section

namespace Cert.NormKernelIdeal.Value

open Cert.NormKernelIdeal Cert.NormKernelIdeal.Gen Idealize.ShloMosaic Idealize.ShloMosaic.TcCoe Idealize.SL.Sem Cert.Loss Cert.Reals

theorem hz : (![0, 0] : Fin 2 → Nat) = fun _ => 0 := funext fun a => by fin_cases a <;> rfl

/-! ## The payloads -/

section
variable (x0 : Vec Ideal S1024x1024 .f32) (x1 : Vec Ideal S1x1024 .f32) (x2 : Vec Ideal S2304x1024 .bf16)

theorem norm_pay (r : Fin 1024) (k : Fin 1024) : k0_pay1 x0 x1 (ix2 r k) = x0 (ix2 r k)
    * Ideal.rsqrt ((∑ l, x0 (ix2 r l) * x0 (ix2 r l)) * Ideal.ofBits .f32 0x3A800000#32 + Ideal.ofBits .f32 0x358637BD#32) * x1 (ix2 0 k) := by
  rw [← sum_groups8]
  pointwise [k0_pay1]
theorem proj_pay (r : Fin 1024) (f : Fin 2304) : k0_pay2 x0 x1 x2 (ix2 r f) = ∑ k, k0_pay1 x0 x1 (ix2 r k) * x2 (ix2 f k) := by
  unfold k0_pay2
  generalize k0_pay1 x0 x1 = h
  pointwise

theorem out_eq : out0_3 x0 x1 x2 = k0_pay1 x0 x1 ∧ out0_4 x0 x1 x2 = k0_pay2 x0 x1 x2 := by
  refine ⟨?_, ?_⟩ <;> first | unfold out0_3 | unfold out0_4
  all_goals
    rw [View.canon_unit_zero hz]
    simp only [View.ld_unit_zero (S := S1024x1024) hz, View.ld_unit_zero (S := S1x1024) hz, View.ld_unit_zero (S := S2304x1024) hz]
end

/-! ## The blocks -/

variable (m : (ℓ : Loc nD τ sig) → Buf (Elt Ideal) ℓ) (c : Dev nD)

/-- The arguments. -/
def argX (i : Fin 8192) (k : Fin 1024) : EReal := m ((c : Thread nD τ).loc main_arg0) (ix3 0 i k)
def argG (k : Fin 1024) : EReal := m ((c : Thread nD τ).loc main_arg1) (ix1 k)
def argW (k : Fin 1024) (f : Fin 2304) : EReal := m ((c : Thread nD τ).loc main_arg2) (ix2 k f)

theorem entry_x (i : Fin 8192) (k : Fin 1024) : (V m c main_v0 : Vec Ideal S8192x1024 .f32) (ix2 i k) = argX m c i k := by
  after_reads_at
  rfl
theorem entry_g (z : Fin 1) (k : Fin 1024) : (V m c main_v1 : Vec Ideal S1x1024 .f32) (ix2 z k) = argG m c k := by
  after_reads_at
  rfl
theorem entry_w (f : Fin 2304) (k : Fin 1024) : (V m c main_v3 : Vec Ideal S2304x1024 .bf16) (ix2 f k) = argW m c k f := by
  after_reads_at
  rfl

theorem at_ix2 {n0 n1 : ℕ} (i : (⟨2, ![n0, n1]⟩ : Shape).Idx) (a : Fin n0) (b : Fin n1) (h : (i 0).val = a.val ∧ (i 1).val = b.val) :
    i = ix2 a b :=
  (ix2_eta i).symm.trans (congrArg₂ ix2 (Fin.ext h.1) (Fin.ext h.2))

/-- Row `r` of block `t`. -/
def row (t : Fin 8) (r : Fin 1024) : Fin 8192 := ⟨t.val * 1024 + r.val, by have := t.isLt; have := r.isLt; omega⟩

theorem idx : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ win0_4.index t 0 = t.val ∧ win0_4.index t 1 = 0 := by
  decide +kernel

theorem blk_x (t : Fin cfg0.N) (r k : Fin 1024) : (iblk m c 0 t : Vec Ideal S1024x1024 .f32) (ix2 r k) = argX m c (row t r) k := by
  have e : (iblk m c 0 t : Vec Ideal S1024x1024 .f32) (ix2 r k) = (V m c main_v0 : Vec Ideal S8192x1024 .f32) (ix2 (row t r) k) := by
    obtain ⟨a, b⟩ := (idx t).1
    unfold iblk
    rw [View.read_apply]
    exact congrArg (V m c main_v0) (at_ix2 _ (row t r) k ⟨by show win0_0.index t 0 * 1024 + 1 * r.val = t.val * 1024 + r.val; omega,
      by show win0_0.index t 1 * 1024 + 1 * k.val = k.val; omega⟩)
  exact e.trans (entry_x m c _ _)
theorem blk_g (t : Fin cfg0.N) (z : Fin 1) (k : Fin 1024) : (iblk m c 1 t : Vec Ideal S1x1024 .f32) (ix2 z k) = argG m c k := by
  have e : (iblk m c 1 t : Vec Ideal S1x1024 .f32) (ix2 z k) = (V m c main_v1 : Vec Ideal S1x1024 .f32) (ix2 z k) := by
    obtain ⟨a, b⟩ := (idx t).2.1
    unfold iblk
    rw [View.read_apply]
    exact congrArg (V m c main_v1) (at_ix2 _ z k ⟨by show win0_1.index t 0 * 1 + 1 * z.val = z.val; omega,
      by show win0_1.index t 1 * 1024 + 1 * k.val = k.val; omega⟩)
  exact e.trans (entry_g m c _ _)
theorem blk_w (t : Fin cfg0.N) (f : Fin 2304) (k : Fin 1024) : (iblk m c 2 t : Vec Ideal S2304x1024 .bf16) (ix2 f k) = argW m c k f := by
  have e : (iblk m c 2 t : Vec Ideal S2304x1024 .bf16) (ix2 f k) = (V m c main_v3 : Vec Ideal S2304x1024 .bf16) (ix2 f k) := by
    obtain ⟨a, b⟩ := (idx t).2.2.1
    unfold iblk
    rw [View.read_apply]
    exact congrArg (V m c main_v3) (at_ix2 _ f k ⟨by show win0_2.index t 0 * 2304 + 1 * f.val = f.val; omega,
      by show win0_2.index t 1 * 1024 + 1 * k.val = k.val; omega⟩)
  exact e.trans (entry_w m c _ _)

/-! ## The two arrays after the run -/

/-- The two results. -/
def resH : Vec Ideal S8192x1024 .bf16 := fun i => normed (argX m c) (argG m c) (i 0) (i 1)
def resP : Vec Ideal S8192x2304 .bf16 := fun i => through (argX m c) (argG m c) (argW m c) (i 0) (i 1)

theorem norm_at (t : Fin cfg0.N) (r k : Fin 1024) :
    (k0_pay1 (iblk m c 0 t) (iblk m c 1 t) : Vec Ideal S1024x1024 .bf16) (ix2 r k) = normed (argX m c) (argG m c) (row t r) k := by
  refine (norm_pay _ _ r k).trans ?_
  rw [blk_x, blk_g, Finset.sum_congr rfl fun l _ => congrArg₂ (fun a b : EReal => a * b) (blk_x m c t r l) (blk_x m c t r l)]
  exact normed_eq (argX m c) (argG m c) (row t r) k
theorem proj_at (t : Fin cfg0.N) (r : Fin 1024) (f : Fin 2304) : (k0_pay2 (iblk m c 0 t) (iblk m c 1 t) (iblk m c 2 t) : Vec Ideal S1024x2304 .bf16) (ix2 r f)
    = through (argX m c) (argG m c) (argW m c) (row t r) f :=
  (proj_pay _ _ _ r f).trans (Finset.sum_congr rfl fun k _ => congrArg₂ (fun a b : EReal => a * b) (norm_at m c t r k) (blk_w m c t f k))

theorem final_h : (dats m 0 c).arrAt 3 cfg0.N = resH m c := by
  refine (dats m 0 c).arrAt_eq_of_covers 3 (resH m c) (by decide +kernel) (fun t _ y => ?_)
  rw [after0_3, (out_eq _ _ _).1]
  blk_simp
  obtain ⟨a, b⟩ := (idx t).2.2.2.1
  obtain ⟨r, f, rfl⟩ : ∃ (r : Fin 1024) (f : Fin 1024), y = ix2 r f := ⟨y 0, y 1, (ix2_eta _).symm⟩
  refine (norm_at m c t r f).trans ?_
  show resH m c (ix2 (row t r) f) = resH m c _
  exact congrArg (resH m c) (at_ix2 _ (row t r) f ⟨by show win0_3.index t 0 * 1024 + 1 * r.val = t.val * 1024 + r.val; omega,
    by show win0_3.index t 1 * 1024 + 1 * f.val = f.val; omega⟩).symm

theorem final_p : (dats m 0 c).arrAt 4 cfg0.N = resP m c := by
  refine (dats m 0 c).arrAt_eq_of_covers 4 (resP m c) (by decide +kernel) (fun t _ y => ?_)
  rw [after0_4, (out_eq _ _ _).2]
  blk_simp
  obtain ⟨a, b⟩ := (idx t).2.2.2.2
  obtain ⟨r, f, rfl⟩ : ∃ (r : Fin 1024) (f : Fin 2304), y = ix2 r f := ⟨y 0, y 1, (ix2_eta _).symm⟩
  refine (proj_at m c t r f).trans ?_
  show resP m c (ix2 (row t r) f) = resP m c _
  exact congrArg (resP m c) (at_ix2 _ (row t r) f ⟨by show win0_4.index t 0 * 1024 + 1 * r.val = t.val * 1024 + r.val; omega,
    by show win0_4.index t 1 * 2304 + 1 * f.val = f.val; omega⟩).symm

end Cert.NormKernelIdeal.Value
end
-- ==== Proof.NormReferenceValue.lean ====
/-
  The reference's input projection, index by index; its norm is the one under the loss.
-/
module

public import proofs.«01_k».proof.Proof.Gen.NormReferenceIdeal.Run
public import proofs.«01_k».proof.Proof.LossReferenceValue

@[expose] public section

noncomputable section

namespace Cert.NormReferenceIdeal.Value

open Cert.NormReferenceIdeal Cert.NormReferenceIdeal.Gen Idealize.ShloMosaic Idealize.ShloMosaic.TcCoe Idealize.SL.Sem Cert.Loss
open Cert.LossReferenceIdeal.Value (norm norm_at)

section
variable (x : FVec Ideal S1x8192x1024 .f32) (g : FVec Ideal S1024 .f32) (w : FVec Ideal S1024x2304 .f32)

/-- The same through the weight. -/
def proj : FVec Ideal S8192x2304 .f32 := Host.dotGeneral dot_S8192x1024_S1024x2304_S8192x2304_1_0_0_1_n_n none (norm x g) w

variable {x g w} {X : Fin 8192 → Fin 1024 → EReal} {G : Fin 1024 → EReal} {W : Fin 1024 → Fin 2304 → EReal}
  (hx : ∀ i j, x (ix3 0 i j) = X i j) (hg : ∀ j, g (ix1 j) = G j) (hw : ∀ k f, w (ix2 k f) = W k f)

include hx hg hw in
theorem proj_at (i : Fin 8192) (f : Fin 2304) : proj x g w (ix2 i f) = through X G W i f := by
  have e : proj x g w (ix2 i f) = ∑ k, norm x g (ix2 i k) * w (ix2 k f) := by
    unfold proj; generalize norm x g = r; pointwise
  rw [e]
  exact Finset.sum_congr rfl fun k _ => by rw [norm_at hx hg, hw]
end

end Cert.NormReferenceIdeal.Value
end
-- ==== Proof.NormClaims.lean ====
/-
  The claims about the norm and the input projection: the frames of the programs, and the algebraic claim from the two
  value modules.
-/
module

public import proofs.«01_k».proof.Defs
public import proofs.«01_k».proof.Proof.Gen.NormKernel.Frame
public import proofs.«01_k».proof.Proof.Gen.NormKernelIdeal.Frame
public import proofs.«01_k».proof.Proof.NormKernelValue
public import proofs.«01_k».proof.Proof.NormReferenceValue
public import Idealize.ShloMosaic.Adequacy
public import Idealize.ShloMosaic.Init

@[expose] public section

noncomputable section

namespace Cert.Proof.Norm

open Idealize.ShloMosaic Idealize.SL.Sem Cert.Loss

theorem frame_p : Cert.quiescent_NormKernel := fun m ρ _ => Cert.NormKernel.Gen.frame m ρ
theorem frame_pi : Cert.quiescent_NormKernelIdeal := fun m ρ _ => Cert.NormKernelIdeal.Gen.frame m ρ
theorem frame_ri : Cert.quiescent_NormReferenceIdeal := fun m ρ _ =>
  (θ_run Cert.NormReferenceIdeal.defs _ _).mono (fun r h => ⟨fun c => (h c).2.2,
      Idealize.ShloMosaic.sem_eq_zero_of_no_sems (by decide) r.2⟩)
    (Cert.NormReferenceIdeal.Value.run (F := Ideal) m ρ)

open Cert.NormKernelIdeal.Value in
theorem algebraic : Cert.algebraic_NormKernelIdeal_NormReferenceIdeal := by
  intro m ρ m' ρ' _ hagree
  refine ⟨resH m, resP m, ?_, ?_⟩
  · exact (θ_run Cert.NormKernelIdeal.defs _ _).mono
      (fun _ h c => ⟨(h c).1.trans (final_h m c), (h c).2.1.trans (final_p m c), (h c).2.2⟩) (run_blocks m ρ)
  · refine (θ_run Cert.NormReferenceIdeal.defs _ _).mono (fun _ h c => ?_) (Cert.NormReferenceIdeal.Value.run (F := Ideal) m' ρ')
    obtain ⟨e0, e1, e2⟩ := hagree c
    have hx := fun i j => congrFun e0 (ix3 0 i j)
    have hg := fun j => congrFun e1 (ix1 j)
    have hw := fun k f => congrFun e2 (ix2 k f)
    refine ⟨(h c).1.trans ?_, (h c).2.1.trans ?_, (h c).2.2⟩ <;> funext i
    · obtain ⟨a, b, rfl⟩ : ∃ (a : Fin 8192) (b : Fin 1024), i = ix2 a b := ⟨i 0, i 1, (ix2_eta _).symm⟩
      exact Cert.LossReferenceIdeal.Value.norm_at hx hg a b
    · obtain ⟨a, b, rfl⟩ : ∃ (a : Fin 8192) (b : Fin 2304), i = ix2 a b := ⟨i 0, i 1, (ix2_eta _).symm⟩
      exact Cert.NormReferenceIdeal.Value.proj_at hx hg hw a b

end Cert.Proof.Norm
end
-- ==== Proof.GatedRun.lean ====
/-
  The feed-forward block's forward kernel, run: at the end every array of the program holds what the second region
  leaves there.
-/
module

public import proofs.«01_k».proof.Proof.Gen.GatedKernelIdeal.Frame

@[expose] public section

noncomputable section

namespace Cert.GatedKernelIdeal.Value

open Cert.GatedKernelIdeal Cert.GatedKernelIdeal.Gen Idealize.ShloMosaic Idealize.ShloMosaic.TcCoe
open Idealize.SL Idealize.SL.RA Idealize.SL.BI Idealize.SL.BI.BIBase Idealize.SL.BI.Laws Idealize.SL.ProofMode Idealize.SL.Sem
open scoped Idealize.SL.BI
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_all : θ_run defs (onTc (τ := τ) (main (F := F))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

end Cert.GatedKernelIdeal.Value
end
-- ==== Proof.GatedKernelValue.lean ====
/-
  The feed-forward block's forward kernel: what one grid point of either region leaves, index by index, and the operands
  at the regions' entries.
-/
module

public import proofs.«01_k».proof.Proof.Gen.GatedKernelIdeal.Frame
public import proofs.«01_k».proof.Proof.LossMath
public import Idealize.ShloMosaic.Lib.Pointwise
public import Idealize.ShloMosaic.Lib.StableHlo.ReadAt

@[expose] public section

noncomputable section

namespace Cert.GatedKernelIdeal.Value

open Cert.GatedKernelIdeal Cert.GatedKernelIdeal.Gen Idealize.ShloMosaic Idealize.ShloMosaic.TcCoe Idealize.SL.Sem Cert.Loss Cert.Reals

theorem hz : (![0, 0] : Fin 2 → Nat) = fun _ => 0 := funext fun a => by fin_cases a <;> rfl

/-! ## The bodies as payloads -/

section
variable {F : FTy → Type} [FloatOps F] (c : Dev nD) (i : grid1.Coords) (a1 : Memref sig .tc .vmem S512x1024 .bf16) (h1 : a1.IsWhole)
  (a2 : Memref sig .tc .vmem S512x1024 .f32) (h2 : a2.IsWhole) (a3 : Memref sig .tc .vmem S1408x1024 .bf16) (h3 : a3.IsWhole)
  (a4 : Memref sig .tc .vmem S1408x1024 .bf16) (h4 : a4.IsWhole) (a5 : Memref sig .tc .vmem S1408x1024 .bf16) (h5 : a5.IsWhole)
  (a9 : Memref sig .tc .vmem S512x1408 .bf16) (h9 : a9.IsWhole) (a10 : Memref sig .tc .vmem S512x1408 .bf16) (h10 : a10.IsWhole)
  (a11 : Memref sig .tc .vmem S512x1408 .bf16) (h11 : a11.IsWhole) (a12 : Memref sig .tc .vmem S512x1024 .f32) (h12 : a12.IsWhole)
  (x : Vec F S512x1024 .f32) (g : Vec F S1x1024 .f32) (h : Vec F S512x1024 .bf16) (p : Vec F S512x1024 .f32) (wg wu wd : Vec F S1408x1024 .bf16)

theorem out0_eq : out0_5 x g wg wu wd = k0_pay5 x g ∧ out0_6 x g wg wu wd = k0_pay8 x g wg
    ∧ out0_7 x g wg wu wd = k0_pay1 (k0_pay7 x g wu) ∧ out0_8 x g wg wu wd = k0_pay2 (k0_pay6 x g wg) (k0_pay7 x g wu)
    ∧ out0_9 x g wg wu wd = k0_pay3 (k0_pay4 x) (k0_pay6 x g wg) (k0_pay7 x g wu) wd := by
  refine ⟨?_, ?_, ?_, ?_, ?_⟩
  on_goal 1 => unfold out0_5
  on_goal 2 => unfold out0_6
  on_goal 3 => unfold out0_7 k0_pay10
  on_goal 4 => unfold out0_8 k0_pay9 k0_pay10
  on_goal 5 => unfold out0_9 k0_pay9 k0_pay10
  all_goals
    rw [View.canon_unit_zero hz]
    simp only [View.ld_unit_zero (S := S512x1024) hz, View.ld_unit_zero (S := S1x1024) hz, View.ld_unit_zero (S := S1408x1024) hz]

theorem out1_eq :
    out1_A_5 c i a1 h1 a2 h2 a3 h3 a4 h4 a5 h5 a9 h9 a10 h10 a11 h11 a12 h12 h p wg wu wd = k1_pay4 h wg
    ∧ out1_A_6 c i a1 h1 a2 h2 a3 h3 a4 h4 a5 h5 a9 h9 a10 h10 a11 h11 a12 h12 h p wg wu wd = k1_pay5 h wu
    ∧ out1_A_7 c i a1 h1 a2 h2 a3 h3 a4 h4 a5 h5 a9 h9 a10 h10 a11 h11 a12 h12 h p wg wu wd = k1_pay6 h wg wu
    ∧ out1_A_8 c i a1 h1 a2 h2 a3 h3 a4 h4 a5 h5 a9 h9 a10 h10 a11 h11 a12 h12 h p wg wu wd = k1_pay7 p h wg wu wd := by
  refine ⟨?_, ?_, ?_, ?_⟩
  on_goal 1 => unfold out1_A_5; rw [View.read_writes_eq_canon _ _ _ (fun _ => cover1_A_5 ..)]
  on_goal 2 => unfold out1_A_6; rw [View.read_writes_eq_canon _ _ _ (fun _ => cover1_A_6 ..)]
  on_goal 3 => unfold out1_A_7; rw [View.read_writes_eq_canon _ _ _ (fun _ => cover1_A_7 ..)]
  on_goal 4 => unfold out1_A_8; rw [View.read_writes_eq_canon _ _ _ (fun _ => cover1_A_8 ..)]
  all_goals unfold kernelRun1_A; dsimp only; sl_unfold_words; rw [View.canon_unit_zero hz]
  all_goals
    simp only [View.readAt_eq_ld, h1.read_unread, h2.read_unread, h3.read_unread, h4.read_unread, h5.read_unread,
      View.ld_unit_zero (S := S512x1024) hz, View.ld_unit_zero (S := S1408x1024) hz]
end

/-! ## The payloads -/

section
variable (x : Vec Ideal S512x1024 .f32) (g : Vec Ideal S1x1024 .f32) (h : Vec Ideal S512x1024 .bf16) (p : Vec Ideal S512x1024 .f32)
  (wg wu wd : Vec Ideal S1408x1024 .bf16)

theorem norm_pay (r : Fin 512) (k : Fin 1024) : k0_pay5 x g (ix2 r k) = x (ix2 r k)
    * Ideal.rsqrt ((∑ l, x (ix2 r l) * x (ix2 r l)) * Ideal.ofBits .f32 0x3A800000#32 + Ideal.ofBits .f32 0x358637BD#32) * g (ix2 0 k) := by
  rw [← sum_groups8]
  pointwise [k0_pay5, k0_pay4]
theorem gate_pay0 (r : Fin 512) (f : Fin 1408) : k0_pay6 x g wg (ix2 r f) = ∑ k, k0_pay5 x g (ix2 r k) * wg (ix2 f k) := by
  unfold k0_pay6
  generalize k0_pay5 x g = h
  pointwise
theorem up_pay0 (r : Fin 512) (f : Fin 1408) : k0_pay7 x g wu (ix2 r f) = ∑ k, k0_pay5 x g (ix2 r k) * wu (ix2 f k) := by
  unfold k0_pay7
  generalize k0_pay5 x g = h
  pointwise
theorem act_pay0 (a b : FVec Ideal S512x1408 .f32) (r : Fin 512) (f : Fin 1408) : k0_pay2 (F := Ideal) a b (ix2 r f) = gated (a (ix2 r f)) (b (ix2 r f)) := by
  have e : k0_pay2 (F := Ideal) a b (ix2 r f) = a (ix2 r f) * Ideal.div (Ideal.ofBits .f32 0x3F800000#32)
      (Ideal.ofBits .f32 0x3F800000#32 + Ideal.exp (Ideal.ofBits .f32 0x00000000#32 - a (ix2 r f))) * b (ix2 r f) := by pointwise [k0_pay2]
  rw [e, Ideal.ofBits_one_f32, Ideal.ofBits_zero_f32, zero_sub]
  rfl
theorem out_pay0 (a b : FVec Ideal S512x1408 .f32) (r : Fin 512) (j : Fin 1024) : k0_pay3 (k0_pay4 x) a b wd (ix2 r j)
    = x (ix2 r j) + ∑ f, k0_pay2 (F := Ideal) a b (ix2 r f) * wd (ix2 f j) := by
  unfold k0_pay3
  generalize k0_pay2 (F := Ideal) a b = s
  pointwise [k0_pay4]

theorem gate_pay1 (r : Fin 512) (f : Fin 1408) : k1_pay2 h wg (ix2 r f) = ∑ k, h (ix2 r k) * wg (ix2 f k) := by
  pointwise [k1_pay2, k1_pay1]
theorem up_pay1 (r : Fin 512) (f : Fin 1408) : k1_pay3 h wu (ix2 r f) = ∑ k, h (ix2 r k) * wu (ix2 f k) := by
  pointwise [k1_pay3, k1_pay1]
theorem act_pay1 (r : Fin 512) (f : Fin 1408) : k1_pay6 h wg wu (ix2 r f) = gated (k1_pay2 h wg (ix2 r f)) (k1_pay3 h wu (ix2 r f)) := by
  have e : k1_pay6 h wg wu (ix2 r f) = k1_pay2 h wg (ix2 r f) * Ideal.div (Ideal.ofBits .f32 0x3F800000#32)
      (Ideal.ofBits .f32 0x3F800000#32 + Ideal.exp (Ideal.ofBits .f32 0x00000000#32 - k1_pay2 h wg (ix2 r f))) * k1_pay3 h wu (ix2 r f) := by
    unfold k1_pay6
    generalize k1_pay2 h wg = a
    generalize k1_pay3 h wu = b
    pointwise
  rw [e, Ideal.ofBits_one_f32, Ideal.ofBits_zero_f32, zero_sub]
  rfl
theorem out_pay1 (r : Fin 512) (j : Fin 1024) : k1_pay7 p h wg wu wd (ix2 r j)
    = p (ix2 r j) + ∑ f, k1_pay6 h wg wu (ix2 r f) * wd (ix2 f j) := by
  unfold k1_pay7
  generalize k1_pay6 h wg wu = s
  pointwise
end

/-! ## The operands at the regions' entries -/

variable (m : (ℓ : Loc nD τ sig) → Buf (Elt Ideal) ℓ) (ρ : Dev nD → PrngReg) (c : Dev nD)

/-- The arguments. -/
def argX (i : Fin 8192) (k : Fin 1024) : EReal := m ((c : Thread nD τ).loc main_arg0) (ix3 0 i k)
def argG (k : Fin 1024) : EReal := m ((c : Thread nD τ).loc main_arg1) (ix1 k)
def argWg (k : Fin 1024) (f : Fin 2816) : EReal := m ((c : Thread nD τ).loc main_arg2) (ix2 k f)
def argWu (k : Fin 1024) (f : Fin 2816) : EReal := m ((c : Thread nD τ).loc main_arg3) (ix2 k f)
def argWd (f : Fin 2816) (k : Fin 1024) : EReal := m ((c : Thread nD τ).loc main_arg4) (ix2 f k)

/-- What a region finds in the weights. -/
structure Weights (V : (c : Dev nD) → (b : Ref sig .tc) → Buf (Elt Ideal) ((c : Thread nD τ).loc b)) (c : Dev nD) : Prop where
  wg : ∀ f k, (V c main_v3 : Vec Ideal S2816x1024 .bf16) (ix2 f k) = argWg m c k f
  wu : ∀ f k, (V c main_v5 : Vec Ideal S2816x1024 .bf16) (ix2 f k) = argWu m c k f
  wd : ∀ f k, (V c main_v6 : Vec Ideal S2816x1024 .bf16) (ix2 f k) = argWd m c f k

theorem entry_x (i : Fin 8192) (k : Fin 1024) : (V1 m ρ c main_v0 : Vec Ideal S8192x1024 .f32) (ix2 i k) = argX m c i k := by
  show StableHlo.after hostOps0 (W0 m ρ c) (Proc.devRef .tc main_v0) _ = _
  after_reads_at
  rfl
theorem entry_g (z : Fin 1) (k : Fin 1024) : (V1 m ρ c main_v1 : Vec Ideal S1x1024 .f32) (ix2 z k) = argG m c k := by
  show StableHlo.after hostOps0 (W0 m ρ c) (Proc.devRef .tc main_v1) _ = _
  after_reads_at
  rfl
theorem weights1 : Weights m (V1 m ρ) c := by
  refine ⟨fun f k => ?_, fun f k => ?_, fun f k => ?_⟩
  · show StableHlo.after hostOps0 (W0 m ρ c) (Proc.devRef .tc main_v3) _ = _
    after_reads_at
    rfl
  · show StableHlo.after hostOps0 (W0 m ρ c) (Proc.devRef .tc main_v5) _ = _
    after_reads_at
    rfl
  · show StableHlo.after hostOps0 (W0 m ρ c) (Proc.devRef .tc main_v6) _ = _
    after_reads_at
    rfl

theorem V3_of (r : Ref sig .tc) (h1 : r ∉ hostOps1_W) (h0 : ∀ w : Fin cfg0.W, Pipeline.arrRef spec0 w = r → (cfg0.win w).isOut = false) :
    V3 m ρ c r = V1 m ρ c r := (W3_of m ρ c r h1).trans (W2_of m ρ c r h0)

theorem weights3 : Weights m (V3 m ρ) c := by
  have e := weights1 m ρ c
  constructor
  · rw [V3_of m ρ c main_v3 (by decide) (by decide)]; exact e.wg
  · rw [V3_of m ρ c main_v5 (by decide) (by decide)]; exact e.wu
  · rw [V3_of m ρ c main_v6 (by decide) (by decide)]; exact e.wd

end Cert.GatedKernelIdeal.Value
end
-- ==== Proof.GatedKernelResults.lean ====
/-
  The feed-forward block's forward kernel: the blocks its two regions read, and its five result arrays.
-/
module

public import proofs.«01_k».proof.Proof.GatedRun
public import proofs.«01_k».proof.Proof.GatedKernelValue
public import Idealize.ShloMosaic.Lib.Pipeline.ValueKit.Partial

@[expose] public section

noncomputable section

namespace Cert.GatedKernelIdeal.Value

open Cert.GatedKernelIdeal Cert.GatedKernelIdeal.Gen Idealize.ShloMosaic Idealize.ShloMosaic.TcCoe Idealize.SL.Sem Cert.Loss

/-! ## The blocks -/

theorem idx0 : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) ∧ win0_9.index t 0 = t.val ∧ win0_9.index t 1 = 0 := by
  decide +kernel

theorem idx1 : ∀ t : Fin cfg1.N, (win1_0.index t 0 = t.val ∧ win1_0.index t 1 = 0) ∧ (win1_1.index t 0 = t.val ∧ win1_1.index t 1 = 0)
    ∧ (win1_2.index t 0 = 1 ∧ win1_2.index t 1 = 0) ∧ (win1_3.index t 0 = 1 ∧ win1_3.index t 1 = 0)
    ∧ (win1_4.index t 0 = 1 ∧ win1_4.index t 1 = 0) ∧ (win1_5.index t 0 = t.val ∧ win1_5.index t 1 = 1)
    ∧ (win1_6.index t 0 = t.val ∧ win1_6.index t 1 = 1) ∧ (win1_7.index t 0 = t.val ∧ win1_7.index t 1 = 1)
    ∧ win1_8.index t 0 = t.val ∧ win1_8.index t 1 = 0 := by
  decide +kernel

section
variable (V : (c : Dev nD) → (b : Ref sig .tc) → Buf (Elt Ideal) ((c : Thread nD τ).loc b)) (c : Dev nD)

/-- The first region's blocks, read from the arrays. -/
theorem blocks0 (t : Fin cfg0.N) :
    (∀ r k, (iblk0 V c 0 t : Vec Ideal S512x1024 .f32) (ix2 r k) = (V c main_v0 : Vec Ideal S8192x1024 .f32) (ix2 (row t r) k))
    ∧ (∀ z k, (iblk0 V c 1 t : Vec Ideal S1x1024 .f32) (ix2 z k) = (V c main_v1 : Vec Ideal S1x1024 .f32) (ix2 z k))
    ∧ (∀ f k, (iblk0 V c 2 t : Vec Ideal S1408x1024 .bf16) (ix2 f k) = (V c main_v3 : Vec Ideal S2816x1024 .bf16) (ix2 (lo f) k))
    ∧ (∀ f k, (iblk0 V c 3 t : Vec Ideal S1408x1024 .bf16) (ix2 f k) = (V c main_v5 : Vec Ideal S2816x1024 .bf16) (ix2 (lo f) k))
    ∧ (∀ f k, (iblk0 V c 4 t : Vec Ideal S1408x1024 .bf16) (ix2 f k) = (V c main_v6 : Vec Ideal S2816x1024 .bf16) (ix2 (lo f) k)) := by
  obtain ⟨⟨a0, b0⟩, ⟨a1, b1⟩, ⟨a2, b2⟩, ⟨a3, b3⟩, ⟨a4, b4⟩, -⟩ := idx0 t
  refine ⟨fun r k => ?_, fun r k => ?_, fun r k => ?_, fun r k => ?_, fun r k => ?_⟩ <;> (unfold iblk0; rw [View.read_apply])
  · exact congrArg (V c main_v0) (at_ix2 _ (row t r) k ⟨by show win0_0.index t 0 * 512 + 1 * r.val = t.val * 512 + r.val; omega,
      by show win0_0.index t 1 * 1024 + 1 * k.val = k.val; omega⟩)
  · exact congrArg (V c main_v1) (at_ix2 _ r k ⟨by show win0_1.index t 0 * 1 + 1 * r.val = r.val; omega,
      by show win0_1.index t 1 * 1024 + 1 * k.val = k.val; omega⟩)
  · exact congrArg (V c main_v3) (at_ix2 _ (lo r) k ⟨by show win0_2.index t 0 * 1408 + 1 * r.val = r.val; omega,
      by show win0_2.index t 1 * 1024 + 1 * k.val = k.val; omega⟩)
  · exact congrArg (V c main_v5) (at_ix2 _ (lo r) k ⟨by show win0_3.index t 0 * 1408 + 1 * r.val = r.val; omega,
      by show win0_3.index t 1 * 1024 + 1 * k.val = k.val; omega⟩)
  · exact congrArg (V c main_v6) (at_ix2 _ (lo r) k ⟨by show win0_4.index t 0 * 1408 + 1 * r.val = r.val; omega,
      by show win0_4.index t 1 * 1024 + 1 * k.val = k.val; omega⟩)

/-- The second region's. -/
theorem blocks1 (t : Fin cfg1.N) :
    (∀ r k, (iblk1 V c 0 t : Vec Ideal S512x1024 .bf16) (ix2 r k) = (V c main_v7_0 : Vec Ideal S8192x1024 .bf16) (ix2 (row t r) k))
    ∧ (∀ r j, (iblk1 V c 1 t : Vec Ideal S512x1024 .f32) (ix2 r j) = (V c main_v7_4 : Vec Ideal S8192x1024 .f32) (ix2 (row t r) j))
    ∧ (∀ f k, (iblk1 V c 2 t : Vec Ideal S1408x1024 .bf16) (ix2 f k) = (V c main_v3 : Vec Ideal S2816x1024 .bf16) (ix2 (hi f) k))
    ∧ (∀ f k, (iblk1 V c 3 t : Vec Ideal S1408x1024 .bf16) (ix2 f k) = (V c main_v5 : Vec Ideal S2816x1024 .bf16) (ix2 (hi f) k))
    ∧ (∀ f k, (iblk1 V c 4 t : Vec Ideal S1408x1024 .bf16) (ix2 f k) = (V c main_v6 : Vec Ideal S2816x1024 .bf16) (ix2 (hi f) k)) := by
  obtain ⟨⟨a0, b0⟩, ⟨a1, b1⟩, ⟨a2, b2⟩, ⟨a3, b3⟩, ⟨a4, b4⟩, -⟩ := idx1 t
  refine ⟨fun r k => ?_, fun r k => ?_, fun r k => ?_, fun r k => ?_, fun r k => ?_⟩ <;> (unfold iblk1; rw [View.read_apply])
  · exact congrArg (V c main_v7_0) (at_ix2 _ (row t r) k ⟨by show win1_0.index t 0 * 512 + 1 * r.val = t.val * 512 + r.val; omega,
      by show win1_0.index t 1 * 1024 + 1 * k.val = k.val; omega⟩)
  · exact congrArg (V c main_v7_4) (at_ix2 _ (row t r) k ⟨by show win1_1.index t 0 * 512 + 1 * r.val = t.val * 512 + r.val; omega,
      by show win1_1.index t 1 * 1024 + 1 * k.val = k.val; omega⟩)
  · exact congrArg (V c main_v3) (at_ix2 _ (hi r) k ⟨by show win1_2.index t 0 * 1408 + 1 * r.val = 1408 + r.val; omega,
      by show win1_2.index t 1 * 1024 + 1 * k.val = k.val; omega⟩)
  · exact congrArg (V c main_v5) (at_ix2 _ (hi r) k ⟨by show win1_3.index t 0 * 1408 + 1 * r.val = 1408 + r.val; omega,
      by show win1_3.index t 1 * 1024 + 1 * k.val = k.val; omega⟩)
  · exact congrArg (V c main_v6) (at_ix2 _ (hi r) k ⟨by show win1_4.index t 0 * 1408 + 1 * r.val = 1408 + r.val; omega,
      by show win1_4.index t 1 * 1024 + 1 * k.val = k.val; omega⟩)
end

/-! ## What each point leaves -/

section
variable (m : (ℓ : Loc nD τ sig) → Buf (Elt Ideal) ℓ) (c : Dev nD)

/-- The block's values over the arguments. -/
def gateV (i : Fin 8192) (f : Fin 2816) : EReal := through (argX m c) (argG m c) (argWg m c) i f
def upV (i : Fin 8192) (f : Fin 2816) : EReal := through (argX m c) (argG m c) (argWu m c) i f
def actV (i : Fin 8192) (f : Fin 2816) : EReal := act (argX m c) (argG m c) (argWg m c) (argWu m c) i f

/-- The five results, and what the first region hands the second: the rows and its half's share. -/
def resH : Vec Ideal S8192x1024 .bf16 := fun i => normed (argX m c) (argG m c) (i 0) (i 1)
def resA : Vec Ideal S8192x2816 .bf16 := fun i => gateV m c (i 0) (i 1)
def resB : Vec Ideal S8192x2816 .bf16 := fun i => upV m c (i 0) (i 1)
def resF : Vec Ideal S8192x2816 .bf16 := fun i => actV m c (i 0) (i 1)
def resO : Vec Ideal S8192x1024 .f32 := fun i => argX m c (i 0) (i 1) + ∑ f, actV m c (i 0) f * argWd m c f (i 1)
def resPart : Vec Ideal S8192x1024 .f32 := fun i => argX m c (i 0) (i 1) + ∑ f, actV m c (i 0) (lo f) * argWd m c (lo f) (i 1)
end

section
variable {m : (ℓ : Loc nD τ sig) → Buf (Elt Ideal) ℓ} {V : (c : Dev nD) → (b : Ref sig .tc) → Buf (Elt Ideal) ((c : Thread nD τ).loc b)} {c : Dev nD}
  (hw : Weights m V c)

section
variable (hx : ∀ i k, (V c main_v0 : Vec Ideal S8192x1024 .f32) (ix2 i k) = argX m c i k)
  (hg : ∀ z k, (V c main_v1 : Vec Ideal S1x1024 .f32) (ix2 z k) = argG m c k)

include hx hg in
theorem norm0 (t : Fin cfg0.N) (r : Fin 512) (k : Fin 1024) :
    (k0_pay5 (iblk0 V c 0 t) (iblk0 V c 1 t) : Vec Ideal S512x1024 .bf16) (ix2 r k) = normed (argX m c) (argG m c) (row t r) k := by
  have ex (l : Fin 1024) := ((blocks0 V c t).1 r l).trans (hx _ _)
  refine (norm_pay _ _ r k).trans ?_
  rw [ex k, ((blocks0 V c t).2.1 0 k).trans (hg _ _), Finset.sum_congr rfl fun l _ => congrArg₂ (fun a b : EReal => a * b) (ex l) (ex l)]
  exact normed_eq _ _ _ _
include hw hx hg in
theorem gate0 (t : Fin cfg0.N) (r : Fin 512) (f : Fin 1408) :
    (k0_pay6 (iblk0 V c 0 t) (iblk0 V c 1 t) (iblk0 V c 2 t) : FVec Ideal S512x1408 .f32) (ix2 r f) = gateV m c (row t r) (lo f) :=
  (gate_pay0 _ _ _ r f).trans (Finset.sum_congr rfl fun k _ => congrArg₂ (fun a b : EReal => a * b) (norm0 hx hg t r k)
    (((blocks0 V c t).2.2.1 f k).trans (hw.wg _ _)))
include hw hx hg in
theorem up0 (t : Fin cfg0.N) (r : Fin 512) (f : Fin 1408) :
    (k0_pay7 (iblk0 V c 0 t) (iblk0 V c 1 t) (iblk0 V c 3 t) : FVec Ideal S512x1408 .f32) (ix2 r f) = upV m c (row t r) (lo f) :=
  (up_pay0 _ _ _ r f).trans (Finset.sum_congr rfl fun k _ => congrArg₂ (fun a b : EReal => a * b) (norm0 hx hg t r k)
    (((blocks0 V c t).2.2.2.1 f k).trans (hw.wu _ _)))
include hw hx hg in
theorem act0 (t : Fin cfg0.N) (r : Fin 512) (f : Fin 1408) :
    (k0_pay2 (F := Ideal) (k0_pay6 (iblk0 V c 0 t) (iblk0 V c 1 t) (iblk0 V c 2 t)) (k0_pay7 (iblk0 V c 0 t) (iblk0 V c 1 t) (iblk0 V c 3 t)) :
      Vec Ideal S512x1408 .bf16) (ix2 r f) = actV m c (row t r) (lo f) :=
  (act_pay0 _ _ r f).trans (congrArg₂ gated (gate0 hw hx hg t r f) (up0 hw hx hg t r f))
include hw hx hg in
theorem part0 (t : Fin cfg0.N) (r : Fin 512) (j : Fin 1024) :
    (k0_pay3 (k0_pay4 (iblk0 V c 0 t)) (k0_pay6 (iblk0 V c 0 t) (iblk0 V c 1 t) (iblk0 V c 2 t)) (k0_pay7 (iblk0 V c 0 t) (iblk0 V c 1 t) (iblk0 V c 3 t))
      (iblk0 V c 4 t) : Vec Ideal S512x1024 .f32) (ix2 r j) = resPart m c (ix2 (row t r) j) :=
  (out_pay0 _ _ _ _ r j).trans (congrArg₂ (· + ·) (((blocks0 V c t).1 r j).trans (hx _ _)) (Finset.sum_congr rfl fun f _ =>
    congrArg₂ (fun a b : EReal => a * b) (act0 hw hx hg t r f) (((blocks0 V c t).2.2.2.2 f j).trans (hw.wd _ _))))

/-! The first region's arrays. -/

include hx hg in
theorem array0_h : (dat0 V c).arrAt 5 cfg0.N = resH m c := by
  refine (dat0 V c).arrAt_eq_of_covers 5 (resH m c) (by decide +kernel) (fun t _ y => ?_)
  rw [after0_5, (out0_eq _ _ _ _ _).1]
  blk_simp
  obtain ⟨a, b⟩ := (idx0 t).2.2.2.2.2.1
  obtain ⟨r, k, rfl⟩ : ∃ (r : Fin 512) (k : Fin 1024), y = ix2 r k := ⟨y 0, y 1, (ix2_eta _).symm⟩
  refine (norm0 hx hg t r k).trans ?_
  show resH m c (ix2 (row t r) k) = resH m c _
  exact congrArg (resH m c) (at_ix2 _ (row t r) k ⟨by show win0_5.index t 0 * 512 + 1 * r.val = t.val * 512 + r.val; omega,
    by show win0_5.index t 1 * 1024 + 1 * k.val = k.val; omega⟩).symm
include hw hx hg in
theorem array0_a (i : Fin 8192) (f : Fin 1408) : (dat0 V c).arrAt 6 cfg0.N (ix2 i (lo f)) = resA m c (ix2 i (lo f)) := by
  refine ((dat0 V c).arrAt_apply_of_coversWhere 6 (resA m c) (P := fun i : S8192x2816.Idx => (i 1 : ℕ) / 1408 = 0) (fun β => β (1 : Fin 2) = 0)
    (by decide +kernel) (fun t _ y => ?_) (fun j => Iff.rfl) _).trans (if_pos (Nat.div_eq_of_lt f.isLt))
  rw [after0_6, (out0_eq _ _ _ _ _).2.1]
  blk_simp
  obtain ⟨a, b⟩ := (idx0 t).2.2.2.2.2.2.1
  obtain ⟨r, f, rfl⟩ : ∃ (r : Fin 512) (f : Fin 1408), y = ix2 r f := ⟨y 0, y 1, (ix2_eta _).symm⟩
  refine (gate0 hw hx hg t r f).trans ?_
  show resA m c (ix2 (row t r) (lo f)) = resA m c _
  exact congrArg (resA m c) (at_ix2 _ (row t r) (lo f) ⟨by show win0_6.index t 0 * 512 + 1 * r.val = t.val * 512 + r.val; omega,
    by show win0_6.index t 1 * 1408 + 1 * f.val = f.val; omega⟩).symm
include hw hx hg in
theorem array0_b (i : Fin 8192) (f : Fin 1408) : (dat0 V c).arrAt 7 cfg0.N (ix2 i (lo f)) = resB m c (ix2 i (lo f)) := by
  refine ((dat0 V c).arrAt_apply_of_coversWhere 7 (resB m c) (P := fun i : S8192x2816.Idx => (i 1 : ℕ) / 1408 = 0) (fun β => β (1 : Fin 2) = 0)
    (by decide +kernel) (fun t _ y => ?_) (fun j => Iff.rfl) _).trans (if_pos (Nat.div_eq_of_lt f.isLt))
  rw [after0_7, (out0_eq _ _ _ _ _).2.2.1]
  blk_simp
  obtain ⟨a, b⟩ := (idx0 t).2.2.2.2.2.2.2.1
  obtain ⟨r, f, rfl⟩ : ∃ (r : Fin 512) (f : Fin 1408), y = ix2 r f := ⟨y 0, y 1, (ix2_eta _).symm⟩
  refine (up0 hw hx hg t r f).trans ?_
  show resB m c (ix2 (row t r) (lo f)) = resB m c _
  exact congrArg (resB m c) (at_ix2 _ (row t r) (lo f) ⟨by show win0_7.index t 0 * 512 + 1 * r.val = t.val * 512 + r.val; omega,
    by show win0_7.index t 1 * 1408 + 1 * f.val = f.val; omega⟩).symm
include hw hx hg in
theorem array0_f (i : Fin 8192) (f : Fin 1408) : (dat0 V c).arrAt 8 cfg0.N (ix2 i (lo f)) = resF m c (ix2 i (lo f)) := by
  refine ((dat0 V c).arrAt_apply_of_coversWhere 8 (resF m c) (P := fun i : S8192x2816.Idx => (i 1 : ℕ) / 1408 = 0) (fun β => β (1 : Fin 2) = 0)
    (by decide +kernel) (fun t _ y => ?_) (fun j => Iff.rfl) _).trans (if_pos (Nat.div_eq_of_lt f.isLt))
  rw [after0_8, (out0_eq _ _ _ _ _).2.2.2.1]
  blk_simp
  obtain ⟨a, b⟩ := (idx0 t).2.2.2.2.2.2.2.2.1
  obtain ⟨r, f, rfl⟩ : ∃ (r : Fin 512) (f : Fin 1408), y = ix2 r f := ⟨y 0, y 1, (ix2_eta _).symm⟩
  refine (act0 hw hx hg t r f).trans ?_
  show resF m c (ix2 (row t r) (lo f)) = resF m c _
  exact congrArg (resF m c) (at_ix2 _ (row t r) (lo f) ⟨by show win0_8.index t 0 * 512 + 1 * r.val = t.val * 512 + r.val; omega,
    by show win0_8.index t 1 * 1408 + 1 * f.val = f.val; omega⟩).symm
include hw hx hg in
theorem array0_part : (dat0 V c).arrAt 9 cfg0.N = resPart m c := by
  refine (dat0 V c).arrAt_eq_of_covers 9 (resPart m c) (by decide +kernel) (fun t _ y => ?_)
  rw [after0_9, (out0_eq _ _ _ _ _).2.2.2.2]
  blk_simp
  obtain ⟨a, b⟩ := (idx0 t).2.2.2.2.2.2.2.2.2
  obtain ⟨r, k, rfl⟩ : ∃ (r : Fin 512) (k : Fin 1024), y = ix2 r k := ⟨y 0, y 1, (ix2_eta _).symm⟩
  refine (part0 hw hx hg t r k).trans ?_
  show resPart m c (ix2 (row t r) k) = resPart m c _
  exact congrArg (resPart m c) (at_ix2 _ (row t r) k ⟨by show win0_9.index t 0 * 512 + 1 * r.val = t.val * 512 + r.val; omega,
    by show win0_9.index t 1 * 1024 + 1 * k.val = k.val; omega⟩).symm
end

section
variable (hh : ∀ i k, (V c main_v7_0 : Vec Ideal S8192x1024 .bf16) (ix2 i k) = normed (argX m c) (argG m c) i k)
  (hp : ∀ i j, (V c main_v7_4 : Vec Ideal S8192x1024 .f32) (ix2 i j) = resPart m c (ix2 i j))

include hw hh in
theorem gate1 (t : Fin cfg1.N) (r : Fin 512) (f : Fin 1408) :
    (k1_pay2 (iblk1 V c 0 t) (iblk1 V c 2 t) : FVec Ideal S512x1408 .f32) (ix2 r f) = gateV m c (row t r) (hi f) :=
  (gate_pay1 _ _ r f).trans (Finset.sum_congr rfl fun k _ => congrArg₂ (fun a b : EReal => a * b) (((blocks1 V c t).1 r k).trans (hh _ _))
    (((blocks1 V c t).2.2.1 f k).trans (hw.wg _ _)))
include hw hh in
theorem up1 (t : Fin cfg1.N) (r : Fin 512) (f : Fin 1408) :
    (k1_pay3 (iblk1 V c 0 t) (iblk1 V c 3 t) : FVec Ideal S512x1408 .f32) (ix2 r f) = upV m c (row t r) (hi f) :=
  (up_pay1 _ _ r f).trans (Finset.sum_congr rfl fun k _ => congrArg₂ (fun a b : EReal => a * b) (((blocks1 V c t).1 r k).trans (hh _ _))
    (((blocks1 V c t).2.2.2.1 f k).trans (hw.wu _ _)))
include hw hh in
theorem act1 (t : Fin cfg1.N) (r : Fin 512) (f : Fin 1408) :
    (k1_pay6 (iblk1 V c 0 t) (iblk1 V c 2 t) (iblk1 V c 3 t) : Vec Ideal S512x1408 .bf16) (ix2 r f) = actV m c (row t r) (hi f) :=
  (act_pay1 _ _ _ r f).trans (congrArg₂ gated (gate1 hw hh t r f) (up1 hw hh t r f))
include hw hh hp in
theorem out1 (t : Fin cfg1.N) (r : Fin 512) (j : Fin 1024) :
    (k1_pay7 (iblk1 V c 1 t) (iblk1 V c 0 t) (iblk1 V c 2 t) (iblk1 V c 3 t) (iblk1 V c 4 t) : Vec Ideal S512x1024 .f32) (ix2 r j)
      = resO m c (ix2 (row t r) j) := by
  refine (out_pay1 _ _ _ _ _ r j).trans ?_
  rw [((blocks1 V c t).2.1 r j).trans (hp _ _), Finset.sum_congr rfl fun f _ =>
    congrArg₂ (fun a b : EReal => a * b) (act1 hw hh t r f) (((blocks1 V c t).2.2.2.2 f j).trans (hw.wd _ _))]
  exact (add_assoc _ _ _).trans (congrArg (argX m c (row t r) j + ·) (sum_halves fun f => actV m c (row t r) f * argWd m c f j).symm)

/-! The second region's arrays. -/

include hw hh in
theorem array1_a (ha : ∀ i f, (V c main_v8_0 : Vec Ideal S8192x2816 .bf16) (ix2 i (lo f)) = resA m c (ix2 i (lo f))) :
    (dat1 V c).arrAt 5 cfg1.N = resA m c := by
  refine (dat1 V c).arrAt_eq_of_coversWhere_of_agree 5 (resA m c) (fun β => β (1 : Fin 2) = 1) (by decide +kernel) (fun t _ y => ?_)
    (fun (j : S8192x2816.Idx) hj => ?_)
  · rw [after1_5]
    unfold outsAt1
    dsimp only
    rw [(out1_eq (F := Ideal) ..).1]
    blk_simp
    obtain ⟨a, b⟩ := (idx1 t).2.2.2.2.2.1
    obtain ⟨r, f, rfl⟩ : ∃ (r : Fin 512) (f : Fin 1408), y = ix2 r f := ⟨y 0, y 1, (ix2_eta _).symm⟩
    refine (gate1 hw hh t r f).trans ?_
    show resA m c (ix2 (row t r) (hi f)) = resA m c _
    exact congrArg (resA m c) (at_ix2 _ (row t r) (hi f) ⟨by show win1_5.index t 0 * 512 + 1 * r.val = t.val * 512 + r.val; omega,
      by show win1_5.index t 1 * 1408 + 1 * f.val = 1408 + f.val; omega⟩).symm
  · obtain ⟨f, e⟩ := low hj
    rw [A_eq1]
    show (V c main_v8_0 : Vec Ideal S8192x2816 .bf16) j = resA m c j
    rw [e]
    exact ha _ _
include hw hh in
theorem array1_b (ha : ∀ i f, (V c main_v8_1 : Vec Ideal S8192x2816 .bf16) (ix2 i (lo f)) = resB m c (ix2 i (lo f))) :
    (dat1 V c).arrAt 6 cfg1.N = resB m c := by
  refine (dat1 V c).arrAt_eq_of_coversWhere_of_agree 6 (resB m c) (fun β => β (1 : Fin 2) = 1) (by decide +kernel) (fun t _ y => ?_)
    (fun (j : S8192x2816.Idx) hj => ?_)
  · rw [after1_6]
    unfold outsAt1
    dsimp only
    rw [(out1_eq (F := Ideal) ..).2.1]
    blk_simp
    obtain ⟨a, b⟩ := (idx1 t).2.2.2.2.2.2.1
    obtain ⟨r, f, rfl⟩ : ∃ (r : Fin 512) (f : Fin 1408), y = ix2 r f := ⟨y 0, y 1, (ix2_eta _).symm⟩
    refine (up1 hw hh t r f).trans ?_
    show resB m c (ix2 (row t r) (hi f)) = resB m c _
    exact congrArg (resB m c) (at_ix2 _ (row t r) (hi f) ⟨by show win1_6.index t 0 * 512 + 1 * r.val = t.val * 512 + r.val; omega,
      by show win1_6.index t 1 * 1408 + 1 * f.val = 1408 + f.val; omega⟩).symm
  · obtain ⟨f, e⟩ := low hj
    rw [A_eq1]
    show (V c main_v8_1 : Vec Ideal S8192x2816 .bf16) j = resB m c j
    rw [e]
    exact ha _ _
include hw hh in
theorem array1_f (ha : ∀ i f, (V c main_v8_2 : Vec Ideal S8192x2816 .bf16) (ix2 i (lo f)) = resF m c (ix2 i (lo f))) :
    (dat1 V c).arrAt 7 cfg1.N = resF m c := by
  refine (dat1 V c).arrAt_eq_of_coversWhere_of_agree 7 (resF m c) (fun β => β (1 : Fin 2) = 1) (by decide +kernel) (fun t _ y => ?_)
    (fun (j : S8192x2816.Idx) hj => ?_)
  · rw [after1_7]
    unfold outsAt1
    dsimp only
    rw [(out1_eq (F := Ideal) ..).2.2.1]
    blk_simp
    obtain ⟨a, b⟩ := (idx1 t).2.2.2.2.2.2.2.1
    obtain ⟨r, f, rfl⟩ : ∃ (r : Fin 512) (f : Fin 1408), y = ix2 r f := ⟨y 0, y 1, (ix2_eta _).symm⟩
    refine (act1 hw hh t r f).trans ?_
    show resF m c (ix2 (row t r) (hi f)) = resF m c _
    exact congrArg (resF m c) (at_ix2 _ (row t r) (hi f) ⟨by show win1_7.index t 0 * 512 + 1 * r.val = t.val * 512 + r.val; omega,
      by show win1_7.index t 1 * 1408 + 1 * f.val = 1408 + f.val; omega⟩).symm
  · obtain ⟨f, e⟩ := low hj
    rw [A_eq1]
    show (V c main_v8_2 : Vec Ideal S8192x2816 .bf16) j = resF m c j
    rw [e]
    exact ha _ _
include hw hh hp in
theorem array1_o : (dat1 V c).arrAt 8 cfg1.N = resO m c := by
  refine (dat1 V c).arrAt_eq_of_covers 8 (resO m c) (by decide +kernel) (fun t _ y => ?_)
  rw [after1_8]
  unfold outsAt1
  dsimp only
  rw [(out1_eq (F := Ideal) ..).2.2.2]
  blk_simp
  obtain ⟨a, b⟩ := (idx1 t).2.2.2.2.2.2.2.2
  obtain ⟨r, k, rfl⟩ : ∃ (r : Fin 512) (k : Fin 1024), y = ix2 r k := ⟨y 0, y 1, (ix2_eta _).symm⟩
  refine (out1 hw hh hp t r k).trans ?_
  show resO m c (ix2 (row t r) k) = resO m c _
  exact congrArg (resO m c) (at_ix2 _ (row t r) k ⟨by show win1_8.index t 0 * 512 + 1 * r.val = t.val * 512 + r.val; omega,
    by show win1_8.index t 1 * 1024 + 1 * k.val = k.val; omega⟩).symm
end
end

/-! ## The five results -/

section
variable (m : (ℓ : Loc nD τ sig) → Buf (Elt Ideal) ℓ) (ρ : Dev nD → PrngReg) (c : Dev nD)

/-- The second region finds in its half-written results what the first wrote. -/
theorem copied : V3 m ρ c main_v8_0 = (dat0 (V1 m ρ) c).arrAt 6 cfg0.N ∧ V3 m ρ c main_v8_1 = (dat0 (V1 m ρ) c).arrAt 7 cfg0.N
    ∧ V3 m ρ c main_v8_2 = (dat0 (V1 m ρ) c).arrAt 8 cfg0.N := by
  refine ⟨?_, ?_, ?_⟩
  · refine Eq.trans ?_ (W2_arr m ρ c 6)
    show StableHlo.after hostOps1 (W2 m ρ c) (Proc.devRef .tc main_v8_0) = _
    after_results
    rfl
  · refine Eq.trans ?_ (W2_arr m ρ c 7)
    show StableHlo.after hostOps1 (W2 m ρ c) (Proc.devRef .tc main_v8_1) = _
    after_results
    rfl
  · refine Eq.trans ?_ (W2_arr m ρ c 8)
    show StableHlo.after hostOps1 (W2 m ρ c) (Proc.devRef .tc main_v8_2) = _
    after_results
    rfl

theorem results : W4 m ρ c (Proc.devRef .tc main_v7_0) = resH m c ∧ W4 m ρ c (Proc.devRef .tc main_v8_0) = resA m c
    ∧ W4 m ρ c (Proc.devRef .tc main_v8_1) = resB m c ∧ W4 m ρ c (Proc.devRef .tc main_v8_2) = resF m c
    ∧ W4 m ρ c (Proc.devRef .tc main_v8_3) = resO m c := by
  have w1 := weights1 m ρ c
  have w3 := weights3 m ρ c
  have hx := entry_x m ρ c
  have hg := entry_g m ρ c
  have e0 : V3 m ρ c main_v7_0 = resH m c := ((W3_of m ρ c main_v7_0 (by decide)).trans (W2_arr m ρ c 5)).trans (array0_h hx hg)
  have e4 : V3 m ρ c main_v7_4 = resPart m c := ((W3_of m ρ c main_v7_4 (by decide)).trans (W2_arr m ρ c 9)).trans (array0_part w1 hx hg)
  have hh : ∀ i k, (V3 m ρ c main_v7_0 : Vec Ideal S8192x1024 .bf16) (ix2 i k) = normed (argX m c) (argG m c) i k := fun i k => congrFun e0 (ix2 i k)
  have hp : ∀ i j, (V3 m ρ c main_v7_4 : Vec Ideal S8192x1024 .f32) (ix2 i j) = resPart m c (ix2 i j) := fun i j => congrFun e4 (ix2 i j)
  refine ⟨(W4_of m ρ c main_v7_0 (by decide)).trans e0, (W4_arr m ρ c 5).trans (array1_a w3 hh fun i f => ?_),
    (W4_arr m ρ c 6).trans (array1_b w3 hh fun i f => ?_), (W4_arr m ρ c 7).trans (array1_f w3 hh fun i f => ?_), (W4_arr m ρ c 8).trans (array1_o w3 hh hp)⟩
  · rw [(copied m ρ c).1]; exact array0_a w1 hx hg i f
  · rw [(copied m ρ c).2.1]; exact array0_b w1 hx hg i f
  · rw [(copied m ρ c).2.2]; exact array0_f w1 hx hg i f
end

end Cert.GatedKernelIdeal.Value
end
-- ==== Proof.GatedReferenceValue.lean ====
/-
  The reference's feed-forward block, index by index: its norm and gated products are the ones under the loss, and the
  rows are added back.
-/
module

public import proofs.«01_k».proof.Proof.Gen.GatedReferenceIdeal.Run
public import proofs.«01_k».proof.Proof.LossReferenceValue

@[expose] public section

noncomputable section

namespace Cert.GatedReferenceIdeal.Value

open Cert.GatedReferenceIdeal Cert.GatedReferenceIdeal.Gen Idealize.ShloMosaic Idealize.ShloMosaic.TcCoe Idealize.SL.Sem Cert.Loss
open Cert.LossReferenceIdeal.Value (rows rows_at up up_at gate gate_at)

section
variable (x : FVec Ideal S1x8192x1024 .f32) (g : FVec Ideal S1024 .f32) (wg wu : FVec Ideal S1024x2816 .f32) (wd : FVec Ideal S2816x1024 .f32)

/-- The rows plus the gated products through the last weight. -/
def added (f : FVec Ideal S8192x2816 .f32) : FVec Ideal S8192x1024 .f32 :=
  addf (rows x) (Host.dotGeneral dot_S8192x2816_S2816x1024_S8192x1024_1_0_0_1_n_n none f wd)

variable {x g wg wu wd} {X : Fin 8192 → Fin 1024 → EReal} {G : Fin 1024 → EReal} {Wg Wu : Fin 1024 → Fin 2816 → EReal}
  {Wd : Fin 2816 → Fin 1024 → EReal} (hx : ∀ i j, x (ix3 0 i j) = X i j) (hg : ∀ j, g (ix1 j) = G j)
  (hwg : ∀ k f, wg (ix2 k f) = Wg k f) (hwu : ∀ k f, wu (ix2 k f) = Wu k f) (hwd : ∀ f j, wd (ix2 f j) = Wd f j)

include hx hg hwg hwu in
theorem act_at (i : Fin 8192) (f : Fin 2816) : gate (up x g wg) (up x g wu) (ix2 i f) = act X G Wg Wu i f :=
  (gate_at _ _ i f).trans (congrArg₂ gated (up_at hx hg hwg i f) (up_at hx hg hwu i f))

include hx hg hwg hwu hwd in
theorem added_at (i : Fin 8192) (j : Fin 1024) :
    added x wd (gate (up x g wg) (up x g wu)) (ix2 i j) = X i j + ∑ f, act X G Wg Wu i f * Wd f j := by
  have e (f : FVec Ideal S8192x2816 .f32) : added x wd f (ix2 i j) = rows x (ix2 i j) + ∑ k, f (ix2 i k) * wd (ix2 k j) := by
    unfold added; generalize rows x = r; pointwise
  rw [e, rows_at hx]
  exact congrArg (X i j + ·) (Finset.sum_congr rfl fun k _ => congrArg₂ (· * ·) (act_at hx hg hwg hwu i k) (hwd k j))
end

end Cert.GatedReferenceIdeal.Value
end
-- ==== Proof.GatedClaims.lean ====
/-
  The claims about the feed-forward block's forward pass: the frames of the programs, and the algebraic claim from the two
  value modules.
-/
module

public import proofs.«01_k».proof.Defs
public import proofs.«01_k».proof.Proof.Gen.GatedKernel.Frame
public import proofs.«01_k».proof.Proof.GatedKernelResults
public import proofs.«01_k».proof.Proof.GatedReferenceValue
public import Idealize.ShloMosaic.Adequacy
public import Idealize.ShloMosaic.Init

@[expose] public section

noncomputable section

namespace Cert.Proof.Gated

open Idealize.ShloMosaic Idealize.SL.Sem Cert.Loss

theorem frame_p : Cert.quiescent_GatedKernel := fun m ρ _ => Cert.GatedKernel.Gen.frame m ρ
theorem frame_pi : Cert.quiescent_GatedKernelIdeal := fun m ρ _ => Cert.GatedKernelIdeal.Gen.frame m ρ
theorem frame_ri : Cert.quiescent_GatedReferenceIdeal := fun m ρ _ =>
  (θ_run Cert.GatedReferenceIdeal.defs _ _).mono (fun r h => ⟨fun c => (h c).2.2.2.2.2,
      Idealize.ShloMosaic.sem_eq_zero_of_no_sems (by decide) r.2⟩)
    (Cert.GatedReferenceIdeal.Value.run (F := Ideal) m ρ)

open Cert.GatedKernelIdeal Cert.GatedKernelIdeal.Gen Cert.GatedKernelIdeal.Value in
theorem algebraic : Cert.algebraic_GatedKernelIdeal_GatedReferenceIdeal := by
  intro m ρ m' ρ' _ hagree
  refine ⟨resH m, resA m, resB m, resF m, resO m, ?_, ?_⟩
  · refine (θ_run Cert.GatedKernelIdeal.defs _ _).mono (fun r h c => ?_) (run_all m ρ)
    obtain ⟨rh, ra, rb, rf, ro⟩ := results m ρ c
    have at_end := fun (b : Ref Cert.GatedKernelIdeal.sig .tc) hb => h c _ (Cert.GatedKernelIdeal.Gen.mem_uc b hb)
    have args := fun (b : Ref Cert.GatedKernelIdeal.sig .tc) hb ha => (at_end b hb).trans (Cert.GatedKernelIdeal.Gen.W4_args m ρ c b ha)
    exact ⟨(at_end main_v7_0 (by decide)).trans rh, (at_end main_v8_0 (by decide)).trans ra,
      (at_end main_v8_1 (by decide)).trans rb, (at_end main_v8_2 (by decide)).trans rf, (at_end main_v8_3 (by decide)).trans ro,
      args main_arg0 (by decide) (by decide), args main_arg1 (by decide) (by decide), args main_arg2 (by decide) (by decide),
      args main_arg3 (by decide) (by decide), args main_arg4 (by decide) (by decide)⟩
  · refine (θ_run Cert.GatedReferenceIdeal.defs _ _).mono (fun _ h c => ?_) (Cert.GatedReferenceIdeal.Value.run (F := Ideal) m' ρ')
    obtain ⟨e0, e1, e2, e3, e4⟩ := hagree c
    have hx := fun i j => congrFun e0 (ix3 0 i j)
    have hg := fun j => congrFun e1 (ix1 j)
    have hwg := fun k f => congrFun e2 (ix2 k f)
    have hwu := fun k f => congrFun e3 (ix2 k f)
    have hwd := fun f k => congrFun e4 (ix2 f k)
    refine ⟨(h c).1.trans ?_, (h c).2.1.trans ?_, (h c).2.2.1.trans ?_, (h c).2.2.2.1.trans ?_, (h c).2.2.2.2.1.trans ?_, (h c).2.2.2.2.2⟩ <;> funext i
    · obtain ⟨a, b, rfl⟩ : ∃ (a : Fin 8192) (b : Fin 1024), i = ix2 a b := ⟨i 0, i 1, (ix2_eta _).symm⟩
      exact Cert.LossReferenceIdeal.Value.norm_at hx hg a b
    · obtain ⟨a, b, rfl⟩ : ∃ (a : Fin 8192) (b : Fin 2816), i = ix2 a b := ⟨i 0, i 1, (ix2_eta _).symm⟩
      exact Cert.LossReferenceIdeal.Value.up_at hx hg hwg a b
    · obtain ⟨a, b, rfl⟩ : ∃ (a : Fin 8192) (b : Fin 2816), i = ix2 a b := ⟨i 0, i 1, (ix2_eta _).symm⟩
      exact Cert.LossReferenceIdeal.Value.up_at hx hg hwu a b
    · obtain ⟨a, b, rfl⟩ : ∃ (a : Fin 8192) (b : Fin 2816), i = ix2 a b := ⟨i 0, i 1, (ix2_eta _).symm⟩
      exact Cert.GatedReferenceIdeal.Value.act_at hx hg hwg hwu a b
    · obtain ⟨a, b, rfl⟩ : ∃ (a : Fin 8192) (b : Fin 1024), i = ix2 a b := ⟨i 0, i 1, (ix2_eta _).symm⟩
      exact Cert.GatedReferenceIdeal.Value.added_at hx hg hwg hwu hwd a b

end Cert.Proof.Gated
end
-- ==== Proof.WeightCases.lean ====
/-
  The weights' gradient kernel, body by body: what one grid point leaves in the two accumulators and, at the last point of
  a tile, in the two output blocks, as the kernel's own payloads.
-/
module

public import proofs.«01_k».proof.Proof.Gen.WeightKernelIdeal.Frame
public import Idealize.ShloMosaic.Lib.Pointwise
public import Idealize.ShloMosaic.Lib.StableHlo.ReadAt

@[expose] public section

noncomputable section

namespace Cert.WeightKernelIdeal.Value

open Cert.WeightKernelIdeal Cert.WeightKernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

section
variable (c : Dev nD) (i : grid0.Coords) (a2 : Memref sig .tc .vmem S1024x1408 .bf16) (h2 : a2.IsWhole)
  (a3 : Memref sig .tc .vmem S1024x1408 .bf16) (h3 : a3.IsWhole) (a4 : Memref sig .tc .vmem S1024x1024 .bf16) (h4 : a4.IsWhole)
  (a5 : Memref sig .tc .vmem S1408x1024 .bf16) (h5 : a5.IsWhole) (a6 : Memref sig .tc .vmem S1408x1024 .bf16) (h6 : a6.IsWhole)
  (a7 : Memref sig .tc .vmem S1408x1024 .f32) (h7 : a7.IsWhole) (a8 : Memref sig .tc .vmem S1408x1024 .f32) (h8 : a8.IsWhole)
  (x0 x1 : Vec F S1024x1408 .bf16) (x2 : Vec F S1024x1024 .bf16) (s0 s1 : Vec F S1408x1024 .f32)

/-- An accumulator after a point: what it held plus the block's product. -/
abbrev step (x : Vec F S1024x1408 .bf16) (h : Vec F S1024x1024 .bf16) (s : Vec F S1408x1024 .f32) : Vec F S1408x1024 .f32 := k0_pay4 h s x

/-- The first point of a tile starts both accumulators. -/
theorem out_A (hc0 : cond0_0 i) (hc1 : ¬cond0_1 i) (hc2 : cond0_2 i) (hc3 : ¬cond0_3 i) :
    sout0_A_0 c i a2 h2 a3 h3 a4 h4 a5 h5 a6 h6 a7 h7 a8 h8 hc0 hc1 hc2 hc3 x0 x1 x2 = step x0 x2 k0_pay3
    ∧ sout0_A_1 c i a2 h2 a3 h3 a4 h4 a5 h5 a6 h6 a7 h7 a8 h8 hc0 hc1 hc2 hc3 x0 x1 x2 = step x1 x2 k0_pay3 := by
  refine ⟨?_, ?_⟩
  on_goal 1 => unfold sout0_A_0; rw [View.read_writes_eq_canon _ _ _ (fun _ => scover0_A_0 ..)]
  on_goal 2 => unfold sout0_A_1; rw [View.read_writes_eq_canon _ _ _ (fun _ => scover0_A_1 ..)]
  all_goals
    unfold kernelRun0_A; dsimp only; sl_unfold_words
    rw [View.canon_cons_unit_zero (S := S1408x1024) hz, View.readCov_unit_zero (S := S1408x1024) _ hz]
    simp only [View.readAt_eq_ld, h2.read_unread, h3.read_unread, h4.read_unread,
      View.ld_unit_zero (S := S1024x1408) hz, View.ld_unit_zero (S := S1024x1024) hz]
  rfl

/-- A middle point adds to them. -/
theorem out_B (hc0 : ¬cond0_0 i) (hc1 : ¬cond0_1 i) (hc2 : ¬cond0_2 i) (hc3 : ¬cond0_3 i) :
    sout0_B_0 c i a2 h2 a3 h3 a4 h4 a5 h5 a6 h6 a7 h7 a8 h8 hc0 hc1 hc2 hc3 x0 x1 x2 s0 s1 = step x0 x2 s0
    ∧ sout0_B_1 c i a2 h2 a3 h3 a4 h4 a5 h5 a6 h6 a7 h7 a8 h8 hc0 hc1 hc2 hc3 x0 x1 x2 s0 s1 = step x1 x2 s1 := by
  refine ⟨?_, ?_⟩
  on_goal 1 => unfold sout0_B_0; rw [View.read_writes_eq_canon _ _ _ (fun _ => scover0_B_0 ..)]
  on_goal 2 => unfold sout0_B_1; rw [View.read_writes_eq_canon _ _ _ (fun _ => scover0_B_1 ..)]
  all_goals
    unfold kernelRun0_B; dsimp only; sl_unfold_words; rw [View.canon_unit_zero hz]
    simp only [View.readAt_eq_ld, h2.read_unread, h3.read_unread, h4.read_unread, h7.read_unread, h8.read_unread,
      View.ld_unit_zero (S := S1024x1408) hz, View.ld_unit_zero (S := S1024x1024) hz, View.ld_unit_zero (S := S1408x1024) hz]
  rfl

/-- The last point of a tile adds to them and writes both out. -/
theorem out_C (hc0 : ¬cond0_0 i) (hc1 : cond0_1 i) (hc2 : ¬cond0_2 i) (hc3 : cond0_3 i) :
    (sout0_C_0 c i a2 h2 a3 h3 a4 h4 a5 h5 a6 h6 a7 h7 a8 h8 hc0 hc1 hc2 hc3 x0 x1 x2 s0 s1 = step x0 x2 s0
    ∧ sout0_C_1 c i a2 h2 a3 h3 a4 h4 a5 h5 a6 h6 a7 h7 a8 h8 hc0 hc1 hc2 hc3 x0 x1 x2 s0 s1 = step x1 x2 s1)
    ∧ out0_C_3 c i a2 h2 a3 h3 a4 h4 a5 h5 a6 h6 a7 h7 a8 h8 hc0 hc1 hc2 hc3 x0 x1 x2 s0 s1 = k0_pay1 (step x0 x2 s0)
    ∧ out0_C_4 c i a2 h2 a3 h3 a4 h4 a5 h5 a6 h6 a7 h7 a8 h8 hc0 hc1 hc2 hc3 x0 x1 x2 s0 s1 = k0_pay1 (step x1 x2 s1) := by
  refine ⟨⟨?_, ?_⟩, ?_, ?_⟩
  on_goal 1 => unfold sout0_C_0; rw [View.read_writes_eq_canon _ _ _ (fun _ => scover0_C_0 ..)]
  on_goal 2 => unfold sout0_C_1; rw [View.read_writes_eq_canon _ _ _ (fun _ => scover0_C_1 ..)]
  on_goal 3 => unfold out0_C_3; rw [View.read_writes_eq_canon _ _ _ (fun _ => cover0_C_3 ..)]
  on_goal 4 => unfold out0_C_4; rw [View.read_writes_eq_canon _ _ _ (fun _ => cover0_C_4 ..)]
  all_goals unfold kernelRun0_C; dsimp only; sl_unfold_words; rw [View.canon_unit_zero hz]
  on_goal 3 => rw [View.readCov_unit_zero (S := S1408x1024) _ hz]
  on_goal 4 => rw [View.readCov_unit_zero (S := S1408x1024) _ hz]
  all_goals
    simp only [View.readAt_eq_ld, h2.read_unread, h3.read_unread, h4.read_unread, h7.read_unread, h8.read_unread,
      View.ld_unit_zero (S := S1024x1408) hz, View.ld_unit_zero (S := S1024x1024) hz, View.ld_unit_zero (S := S1408x1024) hz]
  all_goals rfl
end

end Cert.WeightKernelIdeal.Value
end
-- ==== Proof.WeightKernelValue.lean ====
/-
  The gradient of the gate's and the up projection's weights: the kernel's two result arrays, index by index, over the
  arguments.
-/
module

public import proofs.«01_k».proof.Proof.Gen.WeightKernelIdeal.Value
public import proofs.«01_k».proof.Proof.WeightCases
public import proofs.«01_k».proof.Proof.LossMath
public import Idealize.ShloMosaic.Lib.Pipeline.ValueKit.Partial

@[expose] public section

noncomputable section

namespace Cert.WeightKernelIdeal.Value

open Cert.WeightKernelIdeal Cert.WeightKernelIdeal.Gen Idealize.ShloMosaic Idealize.ShloMosaic.TcCoe Idealize.SL.Sem
open Cert.Loss (normed at_ix2)

/-! ## The payloads -/

theorem step_pay (x : Vec Ideal S1024x1408 .bf16) (h : Vec Ideal S1024x1024 .bf16) (s : Vec Ideal S1408x1024 .f32) (f : Fin 1408)
    (j : Fin 1024) : step (F := Ideal) x h s (ix2 f j) = s (ix2 f j) + ∑ r, x (ix2 r f) * h (ix2 r j) := by
  pointwise [step, k0_pay4, k0_pay2]
theorem zero_pay (f : Fin 1408) (j : Fin 1024) : (k0_pay3 (F := Ideal)) (ix2 f j) = 0 := by
  pointwise [k0_pay3]

/-! ## The blocks -/

variable (m : (ℓ : Loc nD τ sig) → Buf (Elt Ideal) ℓ) (c : Dev nD)

/-- The arguments. -/
def argX (i : Fin 8192) (k : Fin 1024) : EReal := m ((c : Thread nD τ).loc main_arg0) (ix3 0 i k)
def argG (k : Fin 1024) : EReal := m ((c : Thread nD τ).loc main_arg1) (ix1 k)
def argA (i : Fin 8192) (f : Fin 2816) : EReal := m ((c : Thread nD τ).loc main_arg2) (ix3 0 i f)
def argB (i : Fin 8192) (f : Fin 2816) : EReal := m ((c : Thread nD τ).loc main_arg3) (ix3 0 i f)

theorem entry_a (i : Fin 8192) (f : Fin 2816) : (V m c main_v1 : Vec Ideal S8192x2816 .bf16) (ix2 i f) = argA m c i f := by
  after_reads_at
  rfl
theorem entry_b (i : Fin 8192) (f : Fin 2816) : (V m c main_v3 : Vec Ideal S8192x2816 .bf16) (ix2 i f) = argB m c i f := by
  after_reads_at
  rfl
theorem entry_h (i : Fin 8192) (k : Fin 1024) : (V m c main_v18 : Vec Ideal S8192x1024 .bf16) (ix2 i k) = normed (argX m c) (argG m c) i k := by
  after_reads_at
  rfl

/-- The point of tile `q` and block `k`, row `r` of a block, and column `f` of a tile. -/
def pt (q : Fin 2) (k : Fin 8) : Fin cfg0.N := ⟨8 * q.val + k.val, by show _ < 16; omega⟩
def row (k : Fin 8) (r : Fin 1024) : Fin 8192 := ⟨k.val * 1024 + r.val, by omega⟩
def col (q : Fin 2) (f : Fin 1408) : Fin 2816 := ⟨q.val * 1408 + f.val, by omega⟩

theorem idx : ∀ (q : Fin 2) (k : Fin 8), (win0_0.index (pt q k) 0 = k.val ∧ win0_0.index (pt q k) 1 = q.val)
    ∧ (win0_1.index (pt q k) 0 = k.val ∧ win0_1.index (pt q k) 1 = q.val) ∧ (win0_2.index (pt q k) 0 = k.val ∧ win0_2.index (pt q k) 1 = 0)
    ∧ (win0_3.index (pt q k) 0 = q.val ∧ win0_3.index (pt q k) 1 = 0) ∧ win0_4.index (pt q k) 0 = q.val ∧ win0_4.index (pt q k) 1 = 0 := by
  decide +kernel

variable (q : Fin 2) (k : Fin 8)

theorem blk_a (r : Fin 1024) (f : Fin 1408) : (iblk m c 0 (pt q k) : Vec Ideal S1024x1408 .bf16) (ix2 r f) = argA m c (row k r) (col q f) := by
  have e : (iblk m c 0 (pt q k) : Vec Ideal S1024x1408 .bf16) (ix2 r f) = (V m c main_v1 : Vec Ideal S8192x2816 .bf16) (ix2 (row k r) (col q f)) := by
    obtain ⟨a, b⟩ := (idx q k).1
    unfold iblk
    rw [View.read_apply]
    exact congrArg (V m c main_v1) (at_ix2 _ (row k r) (col q f) ⟨by show win0_0.index (pt q k) 0 * 1024 + 1 * r.val = k.val * 1024 + r.val; omega,
      by show win0_0.index (pt q k) 1 * 1408 + 1 * f.val = q.val * 1408 + f.val; omega⟩)
  exact e.trans (entry_a m c _ _)
theorem blk_b (r : Fin 1024) (f : Fin 1408) : (iblk m c 1 (pt q k) : Vec Ideal S1024x1408 .bf16) (ix2 r f) = argB m c (row k r) (col q f) := by
  have e : (iblk m c 1 (pt q k) : Vec Ideal S1024x1408 .bf16) (ix2 r f) = (V m c main_v3 : Vec Ideal S8192x2816 .bf16) (ix2 (row k r) (col q f)) := by
    obtain ⟨a, b⟩ := (idx q k).2.1
    unfold iblk
    rw [View.read_apply]
    exact congrArg (V m c main_v3) (at_ix2 _ (row k r) (col q f) ⟨by show win0_1.index (pt q k) 0 * 1024 + 1 * r.val = k.val * 1024 + r.val; omega,
      by show win0_1.index (pt q k) 1 * 1408 + 1 * f.val = q.val * 1408 + f.val; omega⟩)
  exact e.trans (entry_b m c _ _)
theorem blk_h (r j : Fin 1024) : (iblk m c 2 (pt q k) : Vec Ideal S1024x1024 .bf16) (ix2 r j) = normed (argX m c) (argG m c) (row k r) j := by
  have e : (iblk m c 2 (pt q k) : Vec Ideal S1024x1024 .bf16) (ix2 r j) = (V m c main_v18 : Vec Ideal S8192x1024 .bf16) (ix2 (row k r) j) := by
    obtain ⟨a, b⟩ := (idx q k).2.2.1
    unfold iblk
    rw [View.read_apply]
    exact congrArg (V m c main_v18) (at_ix2 _ (row k r) j ⟨by show win0_2.index (pt q k) 0 * 1024 + 1 * r.val = k.val * 1024 + r.val; omega,
      by show win0_2.index (pt q k) 1 * 1024 + 1 * j.val = j.val; omega⟩)
  exact e.trans (entry_h m c _ _)

/-! ## The accumulators -/

/-- The gradient of a weight, entry by entry: a cotangent's column against a column of the normalised rows. -/
def weight (D : Fin 8192 → Fin 2816 → EReal) (f : Fin 2816) (j : Fin 1024) : EReal := ∑ i, D i f * normed (argX m c) (argG m c) i j

/-- One block's share of it. -/
def share (D : Fin 8192 → Fin 2816 → EReal) (f : Fin 1408) (j : Fin 1024) : EReal :=
  ∑ r, D (row k r) (col q f) * normed (argX m c) (argG m c) (row k r) j

theorem step_a (s : Vec Ideal S1408x1024 .f32) (f : Fin 1408) (j : Fin 1024) :
    step (F := Ideal) (iblk m c 0 (pt q k)) (iblk m c 2 (pt q k)) s (ix2 f j) = s (ix2 f j) + share m c q k (argA m c) f j :=
  (step_pay _ _ s f j).trans (congrArg (s (ix2 f j) + ·)
    (Finset.sum_congr rfl fun r _ => congrArg₂ (fun a b : EReal => a * b) (blk_a m c q k r f) (blk_h m c q k r j)))
theorem step_b (s : Vec Ideal S1408x1024 .f32) (f : Fin 1408) (j : Fin 1024) :
    step (F := Ideal) (iblk m c 1 (pt q k)) (iblk m c 2 (pt q k)) s (ix2 f j) = s (ix2 f j) + share m c q k (argB m c) f j :=
  (step_pay _ _ s f j).trans (congrArg (s (ix2 f j) + ·)
    (Finset.sum_congr rfl fun r _ => congrArg₂ (fun a b : EReal => a * b) (blk_b m c q k r f) (blk_h m c q k r j)))

/-- What both accumulators hold after a point. -/
abbrev accs (n : ℕ) (hn : n < cfg0.N) : Vec Ideal S1408x1024 .f32 × Vec Ideal S1408x1024 .f32 := (outsAt0 m c n hn).2.2

/-- The first point of a tile starts them. -/
theorem accs_first (h : k.val = 0) : accs m c (pt q k).val (pt q k).isLt
    = (step (F := Ideal) (iblk m c 0 (pt q k)) (iblk m c 2 (pt q k)) (k0_pay3 (F := Ideal)), step (F := Ideal) (iblk m c 1 (pt q k)) (iblk m c 2 (pt q k)) (k0_pay3 (F := Ideal))) := by
  have h0 : (pt q k).val % 8 = 0 := by show (8 * q.val + k.val) % 8 = 0; omega
  have h1 : ¬(pt q k).val % 8 = 7 := by omega
  unfold accs
  rw [outsAt0_A m c (pt q k) h0 h1 h0 h1]
  dsimp only
  rw [(out_A (F := Ideal) ..).1, (out_A (F := Ideal) ..).2]

/-- Every other point adds its blocks' products. -/
theorem accs_next (h : k.val ≠ 0) : accs m c (pt q k).val (pt q k).isLt
    = (step (F := Ideal) (iblk m c 0 (pt q k)) (iblk m c 2 (pt q k)) (accs m c ((pt q k).val - 1) (Nat.lt_of_le_of_lt (Nat.sub_le _ _) (pt q k).isLt)).1,
      step (F := Ideal) (iblk m c 1 (pt q k)) (iblk m c 2 (pt q k)) (accs m c ((pt q k).val - 1) (Nat.lt_of_le_of_lt (Nat.sub_le _ _) (pt q k).isLt)).2) := by
  have h0 : ¬(pt q k).val % 8 = 0 := by show ¬(8 * q.val + k.val) % 8 = 0; omega
  unfold accs
  by_cases h1 : (pt q k).val % 8 = 7
  · rw [outsAt0_C m c (pt q k) h0 h1 h0 h1]
    dsimp only
    rw [(out_C (F := Ideal) ..).1.1, (out_C (F := Ideal) ..).1.2]
  · rw [outsAt0_B m c (pt q k) h0 h1 h0 h1]
    dsimp only
    rw [(out_B (F := Ideal) ..).1, (out_B (F := Ideal) ..).2]

/-- After block `k` of a tile each accumulator holds the shares of the blocks so far. -/
theorem accs_at (f : Fin 1408) (j : Fin 1024) : ∀ (n : ℕ) (hn : n < 8),
    (accs m c (pt q ⟨n, hn⟩).val (pt q ⟨n, hn⟩).isLt).1 (ix2 f j) = ∑ s : Fin (n + 1), share m c q ⟨s.val, lt_of_lt_of_le s.isLt hn⟩ (argA m c) f j
    ∧ (accs m c (pt q ⟨n, hn⟩).val (pt q ⟨n, hn⟩).isLt).2 (ix2 f j) = ∑ s : Fin (n + 1), share m c q ⟨s.val, lt_of_lt_of_le s.isLt hn⟩ (argB m c) f j
  | 0, hn => by
    rw [accs_first m c q ⟨0, hn⟩ rfl]
    dsimp only
    rw [step_a, step_b, zero_pay]
    exact ⟨(zero_add _).trans (Fin.sum_univ_one fun s : Fin 1 => share m c q ⟨s.val, by omega⟩ (argA m c) f j).symm,
      (zero_add _).trans (Fin.sum_univ_one fun s : Fin 1 => share m c q ⟨s.val, by omega⟩ (argB m c) f j).symm⟩
  | n + 1, hn => by
    have ih := accs_at f j n (Nat.lt_of_succ_lt hn)
    rw [accs_next m c q ⟨n + 1, hn⟩ (Nat.succ_ne_zero n)]
    dsimp only
    rw [step_a, step_b, Fin.sum_univ_castSucc (n := n + 1), Fin.sum_univ_castSucc (n := n + 1)]
    exact ⟨congrArg (· + _) ih.1, congrArg (· + _) ih.2⟩

/-- The last point of a tile writes both accumulators out. -/
theorem outs_last (h : k.val = 7) : (outsAt0 m c (pt q k).val (pt q k).isLt).1 = k0_pay1 (F := Ideal) (accs m c (pt q k).val (pt q k).isLt).1
    ∧ (outsAt0 m c (pt q k).val (pt q k).isLt).2.1 = k0_pay1 (F := Ideal) (accs m c (pt q k).val (pt q k).isLt).2 := by
  have h0 : ¬(pt q k).val % 8 = 0 := by show ¬(8 * q.val + k.val) % 8 = 0; omega
  have h1 : (pt q k).val % 8 = 7 := by show (8 * q.val + k.val) % 8 = 7; omega
  rw [accs_next m c q k (by omega), outsAt0_C m c (pt q k) h0 h1 h0 h1]
  dsimp only
  rw [(out_C (F := Ideal) ..).2.1, (out_C (F := Ideal) ..).2.2]
  exact ⟨rfl, rfl⟩

/-! ## The two arrays after the run -/

/-- The two results. -/
def resA : Vec Ideal S2816x1024 .bf16 := fun i => weight m c (argA m c) (i 0) (i 1)
def resB : Vec Ideal S2816x1024 .bf16 := fun i => weight m c (argB m c) (i 0) (i 1)

/-- The shares of all blocks make up the gradient. -/
theorem shares (D : Fin 8192 → Fin 2816 → EReal) (f : Fin 1408) (j : Fin 1024) :
    ∑ s : Fin 8, share m c q s D f j = weight m c D (col q f) j :=
  (Fin.sum_univ_tiles 8 1024 rfl fun i => D i (col q f) * normed (argX m c) (argG m c) i j).symm

/-- A point that writes back is the last of its tile. -/
theorem last_of {t : Fin cfg0.N} (h : t.val % 8 = 7) : ∃ q : Fin 2, t = pt q 7 := by
  have : t.val < 16 := t.isLt
  exact ⟨⟨t.val / 8, by omega⟩, Fin.ext (by show t.val = 8 * (t.val / 8) + 7; omega)⟩

theorem final_a : (dats m 0 c).arrAt 3 cfg0.N = resA m c := by
  refine (dats m 0 c).arrAt_eq_of_covers 3 (resA m c) (by decide +kernel) (fun t hf y => ?_)
  obtain ⟨q, rfl⟩ := last_of ((flush0_3 t).mp hf)
  rw [after0_3, (outs_last m c q 7 rfl).1]
  blk_simp
  obtain ⟨a, b⟩ := (idx q 7).2.2.2.1
  obtain ⟨f, j, rfl⟩ : ∃ (f : Fin 1408) (j : Fin 1024), y = ix2 f j := ⟨y 0, y 1, (ix2_eta _).symm⟩
  refine ((accs_at m c q f j 7 (by decide)).1.trans (shares m c q (argA m c) f j)).trans ?_
  show resA m c (ix2 (col q f) j) = resA m c _
  exact congrArg (resA m c) (at_ix2 _ (col q f) j ⟨by show win0_3.index (pt q 7) 0 * 1408 + 1 * f.val = q.val * 1408 + f.val; omega,
    by show win0_3.index (pt q 7) 1 * 1024 + 1 * j.val = j.val; omega⟩).symm

theorem final_b : (dats m 0 c).arrAt 4 cfg0.N = resB m c := by
  refine (dats m 0 c).arrAt_eq_of_covers 4 (resB m c) (by decide +kernel) (fun t hf y => ?_)
  obtain ⟨q, rfl⟩ := last_of ((flush0_4 t).mp hf)
  rw [after0_4, (outs_last m c q 7 rfl).2]
  blk_simp
  obtain ⟨a, b⟩ := (idx q 7).2.2.2.2
  obtain ⟨f, j, rfl⟩ : ∃ (f : Fin 1408) (j : Fin 1024), y = ix2 f j := ⟨y 0, y 1, (ix2_eta _).symm⟩
  refine ((accs_at m c q f j 7 (by decide)).2.trans (shares m c q (argB m c) f j)).trans ?_
  show resB m c (ix2 (col q f) j) = resB m c _
  exact congrArg (resB m c) (at_ix2 _ (col q f) j ⟨by show win0_4.index (pt q 7) 0 * 1408 + 1 * f.val = q.val * 1408 + f.val; omega,
    by show win0_4.index (pt q 7) 1 * 1024 + 1 * j.val = j.val; omega⟩).symm

end Cert.WeightKernelIdeal.Value
end
-- ==== Proof.WeightReferenceValue.lean ====
/-
  The reference's gradient of a weight, index by index; its norm is the one under the loss.
-/
module

public import proofs.«01_k».proof.Proof.Gen.WeightReferenceIdeal.Run
public import proofs.«01_k».proof.Proof.LossReferenceValue

@[expose] public section

noncomputable section

namespace Cert.WeightReferenceIdeal.Value

open Cert.WeightReferenceIdeal Cert.WeightReferenceIdeal.Gen Idealize.ShloMosaic Idealize.ShloMosaic.TcCoe Idealize.SL.Sem Cert.Loss
open Cert.LossReferenceIdeal.Value (norm norm_at)

section
variable (x : FVec Ideal S1x8192x1024 .f32) (g : FVec Ideal S1024 .f32) (d : FVec Ideal S1x8192x2816 .f32)

/-- A cotangent against the normalised rows. -/
def weight : FVec Ideal S2816x1024 .bf16 :=
  truncf .bf16 (transpose S2816x1024 [1, 0] (transpose S1024x2816 [1, 0] (Host.dotGeneral dot_S8192x2816_S8192x1024_S2816x1024_0_0_1_1_n_n none
    (shapeCast _ d shapeCasts_S1x8192x2816_S8192x2816) (norm x g)) transposes_S2816x1024_S1024x2816_1_0) transposes_S1024x2816_S2816x1024_1_0) bitsLt_bf16_f32

variable {x g d} {X : Fin 8192 → Fin 1024 → EReal} {G : Fin 1024 → EReal} {D : Fin 8192 → Fin 2816 → EReal}
  (hx : ∀ i j, x (ix3 0 i j) = X i j) (hg : ∀ j, g (ix1 j) = G j) (hd : ∀ i f, d (ix3 0 i f) = D i f)

include hx hg hd in
theorem weight_at (f : Fin 2816) (j : Fin 1024) : weight x g d (ix2 f j) = ∑ i, D i f * normed X G i j := by
  have e : weight x g d (ix2 f j) = ∑ i, d (ix3 0 i f) * norm x g (ix2 i j) := by
    unfold weight; generalize norm x g = r; pointwise
  rw [e]
  exact Finset.sum_congr rfl fun i _ => by rw [norm_at hx hg, hd]
end

end Cert.WeightReferenceIdeal.Value
end
-- ==== Proof.WeightClaims.lean ====
/-
  The claims about the gradient of the gate's and the up projection's weights: the frames of the programs, and the
  algebraic claim from the two value modules.
-/
module

public import proofs.«01_k».proof.Defs
public import proofs.«01_k».proof.Proof.Gen.WeightKernel.Frame
public import proofs.«01_k».proof.Proof.Gen.WeightKernelIdeal.Frame
public import proofs.«01_k».proof.Proof.WeightKernelValue
public import proofs.«01_k».proof.Proof.WeightReferenceValue
public import Idealize.ShloMosaic.Adequacy
public import Idealize.ShloMosaic.Init

@[expose] public section

noncomputable section

namespace Cert.Proof.Weight

open Idealize.ShloMosaic Idealize.SL.Sem

theorem frame_p : Cert.quiescent_WeightKernel := fun m ρ _ => Cert.WeightKernel.Gen.frame m ρ
theorem frame_pi : Cert.quiescent_WeightKernelIdeal := fun m ρ _ => Cert.WeightKernelIdeal.Gen.frame m ρ
theorem frame_ri : Cert.quiescent_WeightReferenceIdeal := fun m ρ _ =>
  (θ_run Cert.WeightReferenceIdeal.defs _ _).mono (fun r h => ⟨fun c => (h c).2.2,
      Idealize.ShloMosaic.sem_eq_zero_of_no_sems (by decide) r.2⟩)
    (Cert.WeightReferenceIdeal.Value.run (F := Ideal) m ρ)

open Cert.WeightKernelIdeal.Value Cert.WeightReferenceIdeal.Value in
theorem algebraic : Cert.algebraic_WeightKernelIdeal_WeightReferenceIdeal := by
  intro m ρ m' ρ' _ hagree
  refine ⟨resA m, resB m, ?_, ?_⟩
  · exact (θ_run Cert.WeightKernelIdeal.defs _ _).mono
      (fun _ h c => ⟨(h c).1.trans (final_a m c), (h c).2.1.trans (final_b m c), (h c).2.2⟩) (run_blocks m ρ)
  · refine (θ_run Cert.WeightReferenceIdeal.defs _ _).mono (fun _ h c => ?_) (Cert.WeightReferenceIdeal.Value.run (F := Ideal) m' ρ')
    obtain ⟨e0, e1, e2, e3⟩ := hagree c
    have hx := fun i j => congrFun e0 (ix3 0 i j)
    have hg := fun j => congrFun e1 (ix1 j)
    refine ⟨(h c).1.trans ?_, (h c).2.1.trans ?_, (h c).2.2⟩ <;> funext i <;>
      obtain ⟨f, j, rfl⟩ : ∃ (f : Fin 2816) (j : Fin 1024), i = ix2 f j := ⟨i 0, i 1, (ix2_eta _).symm⟩
    · exact weight_at hx hg (fun i f => congrFun e2 (ix3 0 i f)) f j
    · exact weight_at hx hg (fun i f => congrFun e3 (ix3 0 i f)) f j

end Cert.Proof.Weight
end
-- ==== Proof.AdamClaims.lean ====
/-
  The claims about the optimiser's step: the frames of the programs, and the algebraic claim. Kernel and reference do the
  same operations on each entry.
-/
module

public import proofs.«01_k».proof.Defs
public import proofs.«01_k».proof.Proof.Gen.AdamKernel.Frame
public import proofs.«01_k».proof.Proof.Gen.AdamKernelIdeal.Value
public import proofs.«01_k».proof.Proof.Gen.AdamReferenceIdeal.Run
public import Idealize.ShloMosaic.Adequacy
public import Idealize.ShloMosaic.Init
public import Idealize.ShloMosaic.Lib.Pointwise

@[expose] public section

noncomputable section

namespace Cert.Proof.Adam

open Idealize.ShloMosaic Idealize.ShloMosaic.TcCoe Idealize.SL.Sem

theorem frame_p : Cert.quiescent_AdamKernel := fun m ρ _ => Cert.AdamKernel.Gen.frame m ρ
theorem frame_pi : Cert.quiescent_AdamKernelIdeal := fun m ρ _ => Cert.AdamKernelIdeal.Gen.frame m ρ
theorem frame_ri : Cert.quiescent_AdamReferenceIdeal := fun m ρ _ =>
  (θ_run Cert.AdamReferenceIdeal.defs _ _).mono (fun r h => ⟨fun c => (h c).2.2.2,
      Idealize.ShloMosaic.sem_eq_zero_of_no_sems (by decide) r.2⟩)
    (Cert.AdamReferenceIdeal.Value.run (F := Ideal) m ρ)

open Cert.AdamKernelIdeal.Value in
theorem algebraic : Cert.algebraic_AdamKernelIdeal_AdamReferenceIdeal := by
  intro m ρ m' ρ' _ hagree
  refine ⟨_, _, _, Cert.AdamKernelIdeal.Value.run (F := Ideal) m ρ, ?_⟩
  refine (θ_run Cert.AdamReferenceIdeal.defs _ _).mono (fun _ h c => ?_) (Cert.AdamReferenceIdeal.Value.run (F := Ideal) m' ρ')
  obtain ⟨e0, e1, e2, e3⟩ := hagree c
  refine ⟨(h c).1.trans ?_, (h c).2.1.trans ?_, (h c).2.2.1.trans ?_, (h c).2.2.2⟩ <;> simp only [e0, e1, e2, e3] <;> funext i <;> pointwise

end Cert.Proof.Adam
end
-- ==== Proof.MixerRun.lean ====
/-
  The gated mixer's backward kernel, one step of its grid: what it does to the buffers it is handed.  The buffers are one record, what the inputs hold another, what the step carries over from the step before a
  third; the stores a step makes are found by running it.
-/
module

public import proofs.«01_k».proof.Proof.Gen.MixerKernelIdeal.Frame.Runs

@[expose] public section

set_option maxRecDepth 16384

noncomputable section

namespace Cert.MixerKernelIdeal.Step

open Cert.MixerKernelIdeal Cert.MixerKernelIdeal.Gen
open Idealize.ShloMosaic Idealize.ShloMosaic.TcCoe Idealize.ShloMosaic.Tactic
open Idealize.SL Idealize.SL.RA Idealize.SL.BI Idealize.SL.BI.BIBase Idealize.SL.BI.Laws Idealize.SL.ProofMode Idealize.SL.Sem
open scoped Idealize.SL.BI
open Idealize.ShloMosaic.Rounds

variable {F : FTy → Type} [FloatOps F]

local notation "𝕄" => MT nD τ sig Unit (Elt F) ℕ (UR sig nD τ) ℕ

/-- A whole buffer of the core's own memory. -/
structure Whole (s : Shape) (e : EltTy) where
  ref : Memref sig .tc .vmem s e
  whole : ref.IsWhole

/-- The buffers a step is handed: the inputs, the results, and the three it carries from step to step. -/
structure Bufs where
  sinks : Memref sig .tc .smem S8 .f32
  sinksWhole : sinks.IsWhole
  proj : Whole S128x2304 .bf16
  kv : Whole S128x256 .bf16
  y : Whole S128x512 .bf16
  ao : Whole S128x512 .bf16
  dmix : Whole S128x1024 .bf16
  convW : Whole S3x512 .f32
  qGain : Whole S1x128 .f32
  kGain : Whole S1x128 .f32
  convOut : Whole S1x512 .f32
  attnOut : Whole S1x512 .f32
  dproj : Whole S128x2304 .bf16
  dconvW : Whole S3x512 .f32
  dqGain : Whole S1x128 .f32
  dkGain : Whole S1x128 .f32
  dsinks : Whole S1x8 .f32
  dconvOut : Whole S1x512 .f32
  dattnOut : Whole S1x512 .f32
  dyNext : Whole S8x512 .f32
  dkNext : Whole S128x128 .f32
  dvNext : Whole S128x128 .f32

/-- What the inputs hold. -/
structure Ins (F : FTy → Type) where
  sinks : Vec F S8 .f32
  proj : Vec F S128x2304 .bf16
  kv : Vec F S128x256 .bf16
  y : Vec F S128x512 .bf16
  ao : Vec F S128x512 .bf16
  dmix : Vec F S128x1024 .bf16
  convW : Vec F S3x512 .f32
  qGain : Vec F S1x128 .f32
  kGain : Vec F S1x128 .f32
  convOut : Vec F S1x512 .f32
  attnOut : Vec F S1x512 .f32

/-- What a step leaves in the results and in the carried buffers. -/
structure Outs (F : FTy → Type) where
  dproj : Vec F S128x2304 .bf16
  dconvW : Vec F S3x512 .f32
  dqGain : Vec F S1x128 .f32
  dkGain : Vec F S1x128 .f32
  dsinks : Vec F S1x8 .f32
  dconvOut : Vec F S1x512 .f32
  dattnOut : Vec F S1x512 .f32
  dyNext : Vec F S8x512 .f32
  dkNext : Vec F S128x128 .f32
  dvNext : Vec F S128x128 .f32

/-- The stores a step makes into each of them, the last first. -/
structure Stores (F : FTy → Type) where
  dproj : List (View.Piece (Elt F) S128x2304 .bf16)
  dconvW : List (View.Piece (Elt F) S3x512 .f32)
  dqGain : List (View.Piece (Elt F) S1x128 .f32)
  dkGain : List (View.Piece (Elt F) S1x128 .f32)
  dsinks : List (View.Piece (Elt F) S1x8 .f32)
  dconvOut : List (View.Piece (Elt F) S1x512 .f32)
  dattnOut : List (View.Piece (Elt F) S1x512 .f32)
  dyNext : List (View.Piece (Elt F) S8x512 .f32)
  dkNext : List (View.Piece (Elt F) S128x128 .f32)
  dvNext : List (View.Piece (Elt F) S128x128 .f32)

/-- The buffer holds `x`. -/
def Whole.holds {s : Shape} {e : EltTy} (c : Dev nD) (b : Whole s e) (x : Vec F s e) : sProp 𝕄 :=
  owns (c : Thread nD τ) b.ref fullShare x

/-- The buffer holds something. -/
def Whole.any {s : Shape} {e : EltTy} (c : Dev nD) (b : Whole s e) : sProp 𝕄 := iprop(∃ d : Vec F s e, b.holds c d)

/-- The buffer has had the stores `L` made into it, over something. -/
def Whole.stored {s : Shape} {e : EltTy} (c : Dev nD) (b : Whole s e) (L : List (View.Piece (Elt F) s e)) : sProp 𝕄 :=
  iprop(∃ f, b.ref.view.loc (c : Thread nD τ) ↦[b.ref.view.set]{fullShare} b.ref.view.writes (Elt F) f L)

/-- A whole buffer that holds `x`, as the contents that read `x`. -/
theorem owns_raw {sp : Space} {s : Shape} {e : EltTy} (c : Dev nD) (M : Memref sig .tc sp s e) (h : M.IsWhole) (x : Vec F s e) :
    (owns (c : Thread nD τ) M fullShare x : sProp 𝕄) = (M.view.loc (c : Thread nD τ) ↦[M.view.set]{fullShare} h.unread x) := by
  have there : (owns (c : Thread nD τ) M fullShare x : sProp 𝕄) ⊢ M.view.loc (c : Thread nD τ) ↦[M.view.set]{fullShare} h.unread x := by
    unfold owns
    iintro ⟨%f, %hf, H⟩
    obtain rfl := h.eq_unread hf
    iexact H
  have back : (M.view.loc (c : Thread nD τ) ↦[M.view.set]{fullShare} h.unread x : sProp 𝕄) ⊢ owns (c : Thread nD τ) M fullShare x := by
    unfold owns
    iintro H
    iexists _
    isplitr
    · ipureintro; exact h.read_unread x
    iexact H
  exact BI.Entails.antisymm there back

theorem holds_raw {s : Shape} {e : EltTy} (c : Dev nD) (b : Whole s e) (x : Vec F s e) :
    b.holds c x = (b.ref.view.loc (c : Thread nD τ) ↦[b.ref.view.set]{fullShare} b.whole.unread x : sProp 𝕄) :=
  owns_raw c b.ref b.whole x

/-- The inputs hold `x`. -/
def Bufs.reads (c : Dev nD) (b : Bufs) (x : Ins F) : sProp 𝕄 :=
  iprop(owns (c : Thread nD τ) b.sinks fullShare x.sinks ∗ b.proj.holds c x.proj ∗ b.kv.holds c x.kv ∗ b.y.holds c x.y
    ∗ b.ao.holds c x.ao ∗ b.dmix.holds c x.dmix ∗ b.convW.holds c x.convW ∗ b.qGain.holds c x.qGain ∗ b.kGain.holds c x.kGain
    ∗ b.convOut.holds c x.convOut ∗ b.attnOut.holds c x.attnOut)

/-- The results and the carried buffers hold `o`, the first of the results anything. -/
def Bufs.carries (c : Dev nD) (b : Bufs) (o : Outs F) : sProp 𝕄 :=
  iprop(b.dproj.any (F := F) c ∗ b.dconvW.holds c o.dconvW ∗ b.dqGain.holds c o.dqGain ∗ b.dkGain.holds c o.dkGain
    ∗ b.dsinks.holds c o.dsinks ∗ b.dconvOut.holds c o.dconvOut ∗ b.dattnOut.holds c o.dattnOut ∗ b.dyNext.holds c o.dyNext
    ∗ b.dkNext.holds c o.dkNext ∗ b.dvNext.holds c o.dvNext)

/-- The results and the carried buffers hold anything. -/
def Bufs.bare (c : Dev nD) (b : Bufs) : sProp 𝕄 :=
  iprop(b.dproj.any (F := F) c ∗ b.dconvW.any (F := F) c ∗ b.dqGain.any (F := F) c ∗ b.dkGain.any (F := F) c
    ∗ b.dsinks.any (F := F) c ∗ b.dconvOut.any (F := F) c ∗ b.dattnOut.any (F := F) c ∗ b.dyNext.any (F := F) c
    ∗ b.dkNext.any (F := F) c ∗ b.dvNext.any (F := F) c)

/-- The stores `L` have been made. -/
def Bufs.stored (c : Dev nD) (b : Bufs) (L : Stores F) : sProp 𝕄 :=
  iprop(b.dproj.stored c L.dproj ∗ b.dconvW.stored c L.dconvW ∗ b.dqGain.stored c L.dqGain ∗ b.dkGain.stored c L.dkGain
    ∗ b.dsinks.stored c L.dsinks ∗ b.dconvOut.stored c L.dconvOut ∗ b.dattnOut.stored c L.dattnOut ∗ b.dyNext.stored c L.dyNext
    ∗ b.dkNext.stored c L.dkNext ∗ b.dvNext.stored c L.dvNext)

/-- The body on these buffers. -/
abbrev Bufs.body (b : Bufs) (i : grid0.Coords) :=
  cc0_mixer_bwd (F := F) i b.sinks b.sinksWhole b.proj.ref b.proj.whole b.kv.ref b.kv.whole b.y.ref b.y.whole b.ao.ref b.ao.whole
    b.dmix.ref b.dmix.whole b.convW.ref b.convW.whole b.qGain.ref b.qGain.whole b.kGain.ref b.kGain.whole b.convOut.ref b.convOut.whole
    b.attnOut.ref b.attnOut.whole b.dproj.ref b.dproj.whole b.dconvW.ref b.dconvW.whole b.dqGain.ref b.dqGain.whole b.dkGain.ref
    b.dkGain.whole b.dsinks.ref b.dsinks.whole b.dconvOut.ref b.dconvOut.whole b.dattnOut.ref b.dattnOut.whole b.dyNext.ref
    b.dyNext.whole b.dkNext.ref b.dkNext.whole b.dvNext.ref b.dvNext.whole

set_option maxHeartbeats 16000000 in
/-- A step that is not the first, on buffers that hold `x` and carry `o`: the stores it makes, with the proof that it
    makes them and leaves the inputs as they were. -/
def later (c : Dev nD) (i : grid0.Coords) (b : Bufs) (hi : ¬cond0_0 i) (x : Ins F) (o : Outs F) :
    { L : Stores F // ∀ (E : Set ℕ) (K : PUnit → sProp 𝕄),
        iprop(b.reads c x ∗ b.carries c o ∗ (b.reads c x ∗ b.stored c L -∗ K ⟨⟩))
          ⊢ wp frame (wpE (defs₀ (F := F)) Variants.none c none) E (b.body i) K } := by
  refine ⟨⟨?_, ?_, ?_, ?_, ?_, ?_, ?_, ?_, ?_, ?_⟩, fun E K => ?_⟩
  rotate_left 10
  unfold Bufs.reads Bufs.carries Bufs.stored Bufs.body Whole.any Whole.stored
  simp only [holds_raw, owns_raw c b.sinks b.sinksWhole]
  simp only [cc0_mixer_bwd_eq_skeleton]; unfold cc0_mixer_bwd_skel
  simp only [k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton,
    k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton, k0_part21_eq_skeleton,
    k0_part22_eq_skeleton, k0_part23_eq_skeleton, k0_part24_eq_skeleton, k0_part25_eq_skeleton, k0_part26_eq_skeleton]
  iintro ⟨⟨H0, H1, H2, H3, H4, H5, H6, H7, H8, H9, H10⟩, ⟨⟨%d11, H11⟩, H12, H13, H14, H15, H16, H17, HS0, HS1, HS2⟩, Hk⟩
  sl_exec (disch := first | sl_exact hi)
  sl_step
  iapply Hk
  isplitl [H0 H1 H2 H3 H4 H5 H6 H7 H8 H9 H10]
  · iframe
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [HS0]; · iexists _; iexact HS0
  isplitl [HS1]; · iexists _; iexact HS1
  iexists _; iexact HS2

set_option maxHeartbeats 16000000 in
/-- The first step, on buffers that hold `x` and, the results and the carried ones, anything. -/
def first (c : Dev nD) (i : grid0.Coords) (b : Bufs) (hi : cond0_0 i) (x : Ins F) :
    { L : Stores F // ∀ (E : Set ℕ) (K : PUnit → sProp 𝕄),
        iprop(b.reads c x ∗ b.bare (F := F) c ∗ (b.reads c x ∗ b.stored c L -∗ K ⟨⟩))
          ⊢ wp frame (wpE (defs₀ (F := F)) Variants.none c none) E (b.body i) K } := by
  refine ⟨⟨?_, ?_, ?_, ?_, ?_, ?_, ?_, ?_, ?_, ?_⟩, fun E K => ?_⟩
  rotate_left 10
  unfold Bufs.reads Bufs.bare Bufs.stored Bufs.body Whole.any Whole.stored
  simp only [holds_raw, owns_raw c b.sinks b.sinksWhole]
  simp only [cc0_mixer_bwd_eq_skeleton]; unfold cc0_mixer_bwd_skel
  simp only [k0_part2_eq_skeleton, k0_part1_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part21_eq_skeleton, k0_part22_eq_skeleton, k0_part23_eq_skeleton, k0_part24_eq_skeleton, k0_part25_eq_skeleton,
    k0_part26_eq_skeleton]
  iintro ⟨⟨H0, H1, H2, H3, H4, H5, H6, H7, H8, H9, H10⟩, ⟨⟨%d11, H11⟩, ⟨%d12, H12⟩, ⟨%d13, H13⟩, ⟨%d14, H14⟩, ⟨%d15, H15⟩,
    ⟨%d16, H16⟩, ⟨%d17, H17⟩, ⟨%d18, HS0⟩, ⟨%d19, HS1⟩, ⟨%d20, HS2⟩⟩, Hk⟩
  sl_exec (disch := first | sl_exact hi)
  sl_step
  iapply Hk
  isplitl [H0 H1 H2 H3 H4 H5 H6 H7 H8 H9 H10]
  · iframe
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [HS0]; · iexists _; iexact HS0
  isplitl [HS1]; · iexists _; iexact HS1
  iexists _; iexact HS2

/-- The stores leave no cell as it was. -/
structure Stores.Full (L : Stores F) : Prop where
  dproj : ∀ y, ∃ p ∈ L.dproj, y ∈ p.1.set
  dconvW : ∀ y, ∃ p ∈ L.dconvW, y ∈ p.1.set
  dqGain : ∀ y, ∃ p ∈ L.dqGain, y ∈ p.1.set
  dkGain : ∀ y, ∃ p ∈ L.dkGain, y ∈ p.1.set
  dsinks : ∀ y, ∃ p ∈ L.dsinks, y ∈ p.1.set
  dconvOut : ∀ y, ∃ p ∈ L.dconvOut, y ∈ p.1.set
  dattnOut : ∀ y, ∃ p ∈ L.dattnOut, y ∈ p.1.set
  dyNext : ∀ y, ∃ p ∈ L.dyNext, y ∈ p.1.set
  dkNext : ∀ y, ∃ p ∈ L.dkNext, y ∈ p.1.set
  dvNext : ∀ y, ∃ p ∈ L.dvNext, y ∈ p.1.set

theorem first_full (c : Dev nD) (i : grid0.Coords) (b : Bufs) (hi : cond0_0 i) (x : Ins F) : (first c i b hi x).1.Full :=
  ⟨fun y => View.cover_of_tiledBy (first c i b hi x).1.dproj ![128, 128] (by sl_kernel_rfl) y,
   fun y => View.cover_of_tiledBy (first c i b hi x).1.dconvW ![1, 512] (by sl_kernel_rfl) y,
   fun y => View.cover_of_tiledL (first c i b hi x).1.dqGain S1x128.size (by sl_kernel_rfl) y,
   fun y => View.cover_of_tiledL (first c i b hi x).1.dkGain S1x128.size (by sl_kernel_rfl) y,
   fun y => View.cover_of_tiledL (first c i b hi x).1.dsinks S1x8.size (by sl_kernel_rfl) y,
   fun y => View.cover_of_tiledL (first c i b hi x).1.dconvOut S1x512.size (by sl_kernel_rfl) y,
   fun y => View.cover_of_tiledL (first c i b hi x).1.dattnOut S1x512.size (by sl_kernel_rfl) y,
   fun y => View.cover_of_tiledL (first c i b hi x).1.dyNext S8x512.size (by sl_kernel_rfl) y,
   fun y => View.cover_of_tiledL (first c i b hi x).1.dkNext S128x128.size (by sl_kernel_rfl) y,
   fun y => View.cover_of_tiledL (first c i b hi x).1.dvNext S128x128.size (by sl_kernel_rfl) y⟩

theorem later_full (c : Dev nD) (i : grid0.Coords) (b : Bufs) (hi : ¬cond0_0 i) (x : Ins F) (o : Outs F) :
    (later c i b hi x o).1.Full :=
  ⟨fun y => View.cover_of_tiledBy (later c i b hi x o).1.dproj ![128, 128] (by sl_kernel_rfl) y,
   fun y => View.cover_of_tiledL (later c i b hi x o).1.dconvW S1x512.size (by sl_kernel_rfl) y,
   fun y => View.cover_of_tiledL (later c i b hi x o).1.dqGain S1x128.size (by sl_kernel_rfl) y,
   fun y => View.cover_of_tiledL (later c i b hi x o).1.dkGain S1x128.size (by sl_kernel_rfl) y,
   fun y => View.cover_of_tiledL (later c i b hi x o).1.dsinks S1x8.size (by sl_kernel_rfl) y,
   fun y => View.cover_of_tiledL (later c i b hi x o).1.dconvOut S1x512.size (by sl_kernel_rfl) y,
   fun y => View.cover_of_tiledL (later c i b hi x o).1.dattnOut S1x512.size (by sl_kernel_rfl) y,
   fun y => View.cover_of_tiledL (later c i b hi x o).1.dyNext S8x512.size (by sl_kernel_rfl) y,
   fun y => View.cover_of_tiledL (later c i b hi x o).1.dkNext S128x128.size (by sl_kernel_rfl) y,
   fun y => View.cover_of_tiledL (later c i b hi x o).1.dvNext S128x128.size (by sl_kernel_rfl) y⟩

/-- What the stores leave, where they leave no cell as it was. -/
def Stores.result (L : Stores F) : Outs F :=
  ⟨View.canon L.dproj, View.canon L.dconvW, View.canon L.dqGain, View.canon L.dkGain, View.canon L.dsinks, View.canon L.dconvOut,
    View.canon L.dattnOut, View.canon L.dyNext, View.canon L.dkNext, View.canon L.dvNext⟩

theorem Whole.stored_holds {s : Shape} {e : EltTy} (c : Dev nD) (b : Whole s e) (L : List (View.Piece (Elt F) s e))
    (h : ∀ y, ∃ p ∈ L, y ∈ p.1.set) : b.stored c L ⊢ (b.holds c (View.canon L) : sProp 𝕄) := by
  unfold Whole.stored Whole.holds owns
  iintro ⟨%f, H⟩
  iexists _; isplitr
  swap; · iexact H
  ipureintro; exact View.read_writes_eq_canon _ _ _ h

end Cert.MixerKernelIdeal.Step
end
-- ==== Proof.MixerFrame.lean ====
/-
  The gated mixer's backward kernel, its whole grid: what the results hold after each step, the proof data of the
  pipeline, and the run of the launch with the frame.
-/
module

public import proofs.«01_k».proof.Proof.MixerRun
public import Idealize.ShloMosaic.Lib.Claim

@[expose] public section

set_option maxRecDepth 16384

noncomputable section

namespace Cert.MixerKernelIdeal.Step

open Cert.MixerKernelIdeal Cert.MixerKernelIdeal.Gen
open Idealize.ShloMosaic Idealize.ShloMosaic.TcCoe Idealize.ShloMosaic.Tactic
open Idealize.SL Idealize.SL.RA Idealize.SL.BI Idealize.SL.BI.BIBase Idealize.SL.BI.Laws Idealize.SL.ProofMode Idealize.SL.Sem
open scoped Idealize.SL.BI
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of step `t`. -/
def bufs (t : Fin cfg0.N) : Bufs where
  sinks := ms0_0 t
  sinksWhole := hs0_0 t
  proj := ⟨ms0_1 t, hs0_1 t⟩
  kv := ⟨ms0_2 t, hs0_2 t⟩
  y := ⟨ms0_3 t, hs0_3 t⟩
  ao := ⟨ms0_4 t, hs0_4 t⟩
  dmix := ⟨ms0_5 t, hs0_5 t⟩
  convW := ⟨ms0_6 t, hs0_6 t⟩
  qGain := ⟨ms0_7 t, hs0_7 t⟩
  kGain := ⟨ms0_8 t, hs0_8 t⟩
  convOut := ⟨ms0_9 t, hs0_9 t⟩
  attnOut := ⟨ms0_10 t, hs0_10 t⟩
  dproj := ⟨ms0_11 t, hs0_11 t⟩
  dconvW := ⟨ms0_12 t, hs0_12 t⟩
  dqGain := ⟨ms0_13 t, hs0_13 t⟩
  dkGain := ⟨ms0_14 t, hs0_14 t⟩
  dsinks := ⟨ms0_15 t, hs0_15 t⟩
  dconvOut := ⟨ms0_16 t, hs0_16 t⟩
  dattnOut := ⟨ms0_17 t, hs0_17 t⟩
  dyNext := ⟨scM0_0, Memref.isWhole_whole _⟩
  dkNext := ⟨scM0_1, Memref.isWhole_whole _⟩
  dvNext := ⟨scM0_2, Memref.isWhole_whole _⟩

/-- What its inputs hold. -/
def ins (c : Dev nD) (t : Fin cfg0.N) : Ins F where
  sinks := iblk m c 0 t
  proj := iblk m c 1 t
  kv := iblk m c 2 t
  y := iblk m c 3 t
  ao := iblk m c 4 t
  dmix := iblk m c 5 t
  convW := iblk m c 6 t
  qGain := iblk m c 7 t
  kGain := iblk m c 8 t
  convOut := iblk m c 9 t
  attnOut := iblk m c 10 t

theorem steps : cfg0.N = 64 := N_0

theorem starts (h : 0 < cfg0.N) : cond0_0 (grid0.coords ⟨0, h⟩) := (hcond0_0 ⟨0, h⟩).mpr rfl

theorem goes_on (n : ℕ) (h : n + 1 < cfg0.N) : ¬cond0_0 (grid0.coords ⟨n + 1, h⟩) := fun hc => by
  have := (hcond0_0 ⟨n + 1, h⟩).mp hc
  have := steps
  dsimp only at *
  omega

/-- What the results and the carried buffers hold after step `n`. -/
def outs (c : Dev nD) : (n : ℕ) → n < cfg0.N → Outs F
  | 0, h => (first c (grid0.coords ⟨0, h⟩) (bufs ⟨0, h⟩) (starts h) (ins m c ⟨0, h⟩)).1.result
  | n + 1, h => (later c (grid0.coords ⟨n + 1, h⟩) (bufs ⟨n + 1, h⟩) (goes_on n h) (ins m c ⟨n + 1, h⟩)
      (outs c n (Nat.lt_of_succ_lt h))).1.result

/-- The carried buffers before step `n`, with the generator's register. -/
def carried (c : Dev nD) : (n : ℕ) → n ≤ cfg0.N → sProp 𝕄
  | 0, _ => Pipeline.ΦA spec0 c
  | n + 1, h => iprop((owns (c : Thread nD τ) scM0_0 fullShare (outs m c n h).dyNext
      ∗ owns (c : Thread nD τ) scM0_1 fullShare (outs m c n h).dkNext
      ∗ owns (c : Thread nD τ) scM0_2 fullShare (outs m c n h).dvNext) ∗ (∃ r, prngReg c r))

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outs m c t.val t.isLt).dproj
    | ⟨12, _⟩ => (outs m c t.val t.isLt).dconvW
    | ⟨13, _⟩ => (outs m c t.val t.isLt).dqGain
    | ⟨14, _⟩ => (outs m c t.val t.isLt).dkGain
    | ⟨15, _⟩ => (outs m c t.val t.isLt).dsinks
    | ⟨16, _⟩ => (outs m c t.val t.isLt).dconvOut
    | ⟨17, _⟩ => (outs m c t.val t.isLt).dattnOut
    | ⟨_ + 18, h⟩ => absurd h (Nat.not_lt.2 (Nat.le_add_left _ _))
  Φ t := carried m c t.val (Nat.le_of_lt_succ t.isLt)
  q w := Pipeline.shareOf spec0 w
  owed _ := 0

theorem dats_A (c : Dev nD) (w : Fin cfg0.W) : (dats m 0 c).A w = V m c (Pipeline.arrRef spec0 w) := by
  dsimp only [dats]

set_option maxHeartbeats 3200000 in
/-- The inputs' staging buffers hold the blocks of step `t`. -/
theorem found (c : Dev nD) (t : Fin cfg0.N) :
    (∀ d, (dats m 0 c).before 0 t d = (ins m c t).sinks) ∧ (∀ d, (dats m 0 c).before 1 t d = (ins m c t).proj)
    ∧ (∀ d, (dats m 0 c).before 2 t d = (ins m c t).kv) ∧ (∀ d, (dats m 0 c).before 3 t d = (ins m c t).y)
    ∧ (∀ d, (dats m 0 c).before 4 t d = (ins m c t).ao) ∧ (∀ d, (dats m 0 c).before 5 t d = (ins m c t).dmix)
    ∧ (∀ d, (dats m 0 c).before 6 t d = (ins m c t).convW) ∧ (∀ d, (dats m 0 c).before 7 t d = (ins m c t).qGain)
    ∧ (∀ d, (dats m 0 c).before 8 t d = (ins m c t).kGain) ∧ (∀ d, (dats m 0 c).before 9 t d = (ins m c t).convOut)
    ∧ (∀ d, (dats m 0 c).before 10 t d = (ins m c t).attnOut) :=
  ⟨before0_0_of m (dats m 0 c) (dats_A m c 0) (fun _ => by dsimp only [dats]) t,
   before0_1_of m (dats m 0 c) (dats_A m c 1) (fun _ => by dsimp only [dats]) t,
   before0_2_of m (dats m 0 c) (dats_A m c 2) (fun _ => by dsimp only [dats]) t,
   before0_3_of m (dats m 0 c) (dats_A m c 3) (fun _ => by dsimp only [dats]) t,
   before0_4_of m (dats m 0 c) (dats_A m c 4) (fun _ => by dsimp only [dats]) t,
   before0_5_of m (dats m 0 c) (dats_A m c 5) (fun _ => by dsimp only [dats]) t,
   before0_6_of m (dats m 0 c) (dats_A m c 6) (fun _ => by dsimp only [dats]) t,
   before0_7_of m (dats m 0 c) (dats_A m c 7) (fun _ => by dsimp only [dats]) t,
   before0_8_of m (dats m 0 c) (dats_A m c 8) (fun _ => by dsimp only [dats]) t,
   before0_9_of m (dats m 0 c) (dats_A m c 9) (fun _ => by dsimp only [dats]) t,
   before0_10_of m (dats m 0 c) (dats_A m c 10) (fun _ => by dsimp only [dats]) t⟩

/-- The results that are sums over the steps hold, at a later step, what the step before left. -/
theorem kept (c : Dev nD) (n : ℕ) (h : n + 1 < cfg0.N) :
    (∀ d, (dats m 0 c).before 12 ⟨n + 1, h⟩ d = (outs m c n (Nat.lt_of_succ_lt h)).dconvW)
    ∧ (∀ d, (dats m 0 c).before 13 ⟨n + 1, h⟩ d = (outs m c n (Nat.lt_of_succ_lt h)).dqGain)
    ∧ (∀ d, (dats m 0 c).before 14 ⟨n + 1, h⟩ d = (outs m c n (Nat.lt_of_succ_lt h)).dkGain)
    ∧ (∀ d, (dats m 0 c).before 15 ⟨n + 1, h⟩ d = (outs m c n (Nat.lt_of_succ_lt h)).dsinks)
    ∧ (∀ d, (dats m 0 c).before 16 ⟨n + 1, h⟩ d = (outs m c n (Nat.lt_of_succ_lt h)).dconvOut)
    ∧ (∀ d, (dats m 0 c).before 17 ⟨n + 1, h⟩ d = (outs m c n (Nat.lt_of_succ_lt h)).dattnOut) := by
  have hN := steps
  have early : ∀ k : ℕ, k = n → ¬k % 64 = 63 := fun k hk => by omega
  refine ⟨fun d => ?_, fun d => ?_, fun d => ?_, fun d => ?_, fun d => ?_, fun d => ?_⟩
  · rw [Dat.before_out_kept _ 12 rfl ⟨n + 1, h⟩ (Nat.succ_ne_zero n)
      (Bool.eq_false_iff.mpr fun hf => early _ rfl ((flush0_12 _).mp hf)) (fun _ => rfl) (fun _ _ => rfl)]
    dsimp only [dats]; rfl
  · rw [Dat.before_out_kept _ 13 rfl ⟨n + 1, h⟩ (Nat.succ_ne_zero n)
      (Bool.eq_false_iff.mpr fun hf => early _ rfl ((flush0_13 _).mp hf)) (fun _ => rfl) (fun _ _ => rfl)]
    dsimp only [dats]; rfl
  · rw [Dat.before_out_kept _ 14 rfl ⟨n + 1, h⟩ (Nat.succ_ne_zero n)
      (Bool.eq_false_iff.mpr fun hf => early _ rfl ((flush0_14 _).mp hf)) (fun _ => rfl) (fun _ _ => rfl)]
    dsimp only [dats]; rfl
  · rw [Dat.before_out_kept _ 15 rfl ⟨n + 1, h⟩ (Nat.succ_ne_zero n)
      (Bool.eq_false_iff.mpr fun hf => early _ rfl ((flush0_15 _).mp hf)) (fun _ => rfl) (fun _ _ => rfl)]
    dsimp only [dats]; rfl
  · rw [Dat.before_out_kept _ 16 rfl ⟨n + 1, h⟩ (Nat.succ_ne_zero n)
      (Bool.eq_false_iff.mpr fun hf => early _ rfl ((flush0_16 _).mp hf)) (fun _ => rfl) (fun _ _ => rfl)]
    dsimp only [dats]; rfl
  · rw [Dat.before_out_kept _ 17 rfl ⟨n + 1, h⟩ (Nat.succ_ne_zero n)
      (Bool.eq_false_iff.mpr fun hf => early _ rfl ((flush0_17 _).mp hf)) (fun _ => rfl) (fun _ _ => rfl)]
    dsimp only [dats]; rfl

/-- What the body is handed at step `t`. -/
def handed (c : Dev nD) (t : Fin cfg0.N) : sProp 𝕄 :=
  iprop((dats m 0 c).Φ t.castSucc ∗ (dats m 0 c).owesAt () t.castSucc
    ∗ (∃ d, owns (c : Thread nD τ) (bufs t).sinks fullShare ((dats m 0 c).before 0 t d))
    ∗ (∃ d, (bufs t).proj.holds c ((dats m 0 c).before 1 t d))
    ∗ (∃ d, (bufs t).kv.holds c ((dats m 0 c).before 2 t d))
    ∗ (∃ d, (bufs t).y.holds c ((dats m 0 c).before 3 t d))
    ∗ (∃ d, (bufs t).ao.holds c ((dats m 0 c).before 4 t d))
    ∗ (∃ d, (bufs t).dmix.holds c ((dats m 0 c).before 5 t d))
    ∗ (∃ d, (bufs t).convW.holds c ((dats m 0 c).before 6 t d))
    ∗ (∃ d, (bufs t).qGain.holds c ((dats m 0 c).before 7 t d))
    ∗ (∃ d, (bufs t).kGain.holds c ((dats m 0 c).before 8 t d))
    ∗ (∃ d, (bufs t).convOut.holds c ((dats m 0 c).before 9 t d))
    ∗ (∃ d, (bufs t).attnOut.holds c ((dats m 0 c).before 10 t d))
    ∗ (∃ d, (bufs t).dproj.holds c ((dats m 0 c).before 11 t d))
    ∗ (∃ d, (bufs t).dconvW.holds c ((dats m 0 c).before 12 t d))
    ∗ (∃ d, (bufs t).dqGain.holds c ((dats m 0 c).before 13 t d))
    ∗ (∃ d, (bufs t).dkGain.holds c ((dats m 0 c).before 14 t d))
    ∗ (∃ d, (bufs t).dsinks.holds c ((dats m 0 c).before 15 t d))
    ∗ (∃ d, (bufs t).dconvOut.holds c ((dats m 0 c).before 16 t d))
    ∗ (∃ d, (bufs t).dattnOut.holds c ((dats m 0 c).before 17 t d)))

/-- What it hands back. -/
def back (c : Dev nD) (t : Fin cfg0.N) : sProp 𝕄 :=
  iprop((dats m 0 c).Φ t.succ ∗ (dats m 0 c).owesAt () t.succ
    ∗ owns (c : Thread nD τ) (bufs t).sinks fullShare (ins m c t).sinks
    ∗ (bufs t).proj.holds c (ins m c t).proj
    ∗ (bufs t).kv.holds c (ins m c t).kv
    ∗ (bufs t).y.holds c (ins m c t).y
    ∗ (bufs t).ao.holds c (ins m c t).ao
    ∗ (bufs t).dmix.holds c (ins m c t).dmix
    ∗ (bufs t).convW.holds c (ins m c t).convW
    ∗ (bufs t).qGain.holds c (ins m c t).qGain
    ∗ (bufs t).kGain.holds c (ins m c t).kGain
    ∗ (bufs t).convOut.holds c (ins m c t).convOut
    ∗ (bufs t).attnOut.holds c (ins m c t).attnOut
    ∗ (bufs t).dproj.holds c (outs m c t.val t.isLt).dproj
    ∗ (bufs t).dconvW.holds c (outs m c t.val t.isLt).dconvW
    ∗ (bufs t).dqGain.holds c (outs m c t.val t.isLt).dqGain
    ∗ (bufs t).dkGain.holds c (outs m c t.val t.isLt).dkGain
    ∗ (bufs t).dsinks.holds c (outs m c t.val t.isLt).dsinks
    ∗ (bufs t).dconvOut.holds c (outs m c t.val t.isLt).dconvOut
    ∗ (bufs t).dattnOut.holds c (outs m c t.val t.isLt).dattnOut)

/-- The inputs with the stores made, handed back at step `t`: the carried buffers hold what the next step finds. -/
theorem handed_back (c : Dev nD) (t : Fin cfg0.N) (L : Stores F) (hL : L.Full) (ho : outs m c t.val t.isLt = L.result) :
    iprop((∃ r, prngReg c r) ∗ (dats m 0 c).owesAt () t.castSucc ∗ (bufs t).reads c (ins m c t) ∗ (bufs t).stored c L)
      ⊢ back m c t := by
  have hΦ : (dats m 0 c).Φ t.succ = iprop(((bufs t).dyNext.holds c (outs m c t.val t.isLt).dyNext
      ∗ (bufs t).dkNext.holds c (outs m c t.val t.isLt).dkNext
      ∗ (bufs t).dvNext.holds c (outs m c t.val t.isLt).dvNext) ∗ (∃ r, prngReg c r)) := rfl
  have hO : (dats m 0 c).owesAt () t.succ = (dats m 0 c).owesAt () t.castSucc := rfl
  unfold back Bufs.reads Bufs.stored
  rw [hΦ, hO, ho]
  unfold Stores.result
  dsimp only
  iintro ⟨Hg, Ho, ⟨H0, H1, H2, H3, H4, H5, H6, H7, H8, H9, H10⟩, H11, H12, H13, H14, H15, H16, H17, HS0, HS1, HS2⟩
  isplitl [HS0 HS1 HS2 Hg]
  · isplitl [HS0 HS1 HS2]
    · isplitl [HS0]; · iapply (Whole.stored_holds c (bufs t).dyNext _ hL.dyNext); iexact HS0
      isplitl [HS1]; · iapply (Whole.stored_holds c (bufs t).dkNext _ hL.dkNext); iexact HS1
      iapply (Whole.stored_holds c (bufs t).dvNext _ hL.dvNext); iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (Whole.stored_holds c (bufs t).dproj _ hL.dproj); iexact H11
  isplitl [H12]; · iapply (Whole.stored_holds c (bufs t).dconvW _ hL.dconvW); iexact H12
  isplitl [H13]; · iapply (Whole.stored_holds c (bufs t).dqGain _ hL.dqGain); iexact H13
  isplitl [H14]; · iapply (Whole.stored_holds c (bufs t).dkGain _ hL.dkGain); iexact H14
  isplitl [H15]; · iapply (Whole.stored_holds c (bufs t).dsinks _ hL.dsinks); iexact H15
  isplitl [H16]; · iapply (Whole.stored_holds c (bufs t).dconvOut _ hL.dconvOut); iexact H16
  iapply (Whole.stored_holds c (bufs t).dattnOut _ hL.dattnOut); iexact H17

set_option maxHeartbeats 3200000 in
/-- The body at step `t`, from what it is handed to what it hands back. -/
theorem step (c : Dev nD) (t : Fin cfg0.N) :
    handed m c t ⊢ wp frame (wpE (defs₀ (F := F)) Variants.none c none) Set.univ (bodyAt0 t) (fun _ => back m c t) := by
  obtain ⟨e0, e1, e2, e3, e4, e5, e6, e7, e8, e9, e10⟩ := found m c t
  unfold handed
  simp only [e0, e1, e2, e3, e4, e5, e6, e7, e8, e9, e10]
  obtain ⟨n, hn⟩ := t
  cases n with
  | zero =>
    have hΦ : (dats m 0 c).Φ (Fin.castSucc ⟨0, hn⟩) = iprop(((bufs ⟨0, hn⟩).dyNext.any (F := F) c
        ∗ (bufs ⟨0, hn⟩).dkNext.any (F := F) c ∗ (bufs ⟨0, hn⟩).dvNext.any (F := F) c) ∗ (∃ r, prngReg c r)) := PhiA0_eq c
    rw [hΦ]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩,
      ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((first c (grid0.coords ⟨0, hn⟩) (bufs ⟨0, hn⟩) (starts hn) (ins m c ⟨0, hn⟩)).2 Set.univ _)
    isplitl [H0 H1 H2 H3 H4 H5 H6 H7 H8 H9 H10]
    · unfold Bufs.reads
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitl [H11 H12 H13 H14 H15 H16 H17 HS0 HS1 HS2]
    · unfold Bufs.bare
      isplitl [H11]; · unfold Whole.any; iexists _; iexact H11
      isplitl [H12]; · unfold Whole.any; iexists _; iexact H12
      isplitl [H13]; · unfold Whole.any; iexists _; iexact H13
      isplitl [H14]; · unfold Whole.any; iexists _; iexact H14
      isplitl [H15]; · unfold Whole.any; iexists _; iexact H15
      isplitl [H16]; · unfold Whole.any; iexists _; iexact H16
      isplitl [H17]; · unfold Whole.any; iexists _; iexact H17
      isplitl [HS0]; · iexact HS0
      isplitl [HS1]; · iexact HS1
      iexact HS2
    iintro ⟨HR, HW⟩
    iapply (handed_back m c ⟨0, hn⟩ _ (first_full c _ _ (starts hn) (ins m c ⟨0, hn⟩)) rfl)
    isplitl [Hg]; · iexact Hg
    isplitl [Ho]; · iexact Ho
    isplitl [HR]; · iexact HR
    iexact HW
  | succ n =>
    have hΦ : (dats m 0 c).Φ (Fin.castSucc ⟨n + 1, hn⟩) = iprop(((bufs ⟨n + 1, hn⟩).dyNext.holds c (outs m c n (Nat.lt_of_succ_lt hn)).dyNext
      ∗ (bufs ⟨n + 1, hn⟩).dkNext.holds c (outs m c n (Nat.lt_of_succ_lt hn)).dkNext
      ∗ (bufs ⟨n + 1, hn⟩).dvNext.holds c (outs m c n (Nat.lt_of_succ_lt hn)).dvNext) ∗ (∃ r, prngReg c r)) := rfl
    obtain ⟨k12, k13, k14, k15, k16, k17⟩ := kept m c n hn
    rw [hΦ]
    simp only [k12, k13, k14, k15, k16, k17]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩,
      ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((later c (grid0.coords ⟨n + 1, hn⟩) (bufs ⟨n + 1, hn⟩) (goes_on n hn) (ins m c ⟨n + 1, hn⟩)
      (outs m c n (Nat.lt_of_succ_lt hn))).2 Set.univ _)
    isplitl [H0 H1 H2 H3 H4 H5 H6 H7 H8 H9 H10]
    · unfold Bufs.reads
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitl [H11 H12 H13 H14 H15 H16 H17 HS0 HS1 HS2]
    · unfold Bufs.carries
      isplitl [H11]; · unfold Whole.any; iexists _; iexact H11
      isplitl [H12]; · iexact H12
      isplitl [H13]; · iexact H13
      isplitl [H14]; · iexact H14
      isplitl [H15]; · iexact H15
      isplitl [H16]; · iexact H16
      isplitl [H17]; · iexact H17
      isplitl [HS0]; · iexact HS0
      isplitl [HS1]; · iexact HS1
      iexact HS2
    iintro ⟨HR, HW⟩
    iapply (handed_back m c ⟨n + 1, hn⟩ _ (later_full c _ _ (goes_on n hn) (ins m c ⟨n + 1, hn⟩) (outs m c n (Nat.lt_of_succ_lt hn))) rfl)
    isplitl [Hg]; · iexact Hg
    isplitl [Ho]; · iexact Ho
    isplitl [HR]; · iexact HR
    iexact HW

theorem row (t : Fin cfg0.N) : defs₀ (F := F) .tc cfg0.body (cfg0.bodyArgs t (cfg0.slots t)) = bodyAt0 t := by
  unfold defs₀; rw [Defs.onTc_tc]

set_option maxHeartbeats 3200000 in
theorem owed_body (c : Dev nD) : BodyObligation (dats (F := F) m 0 c) (defs₀ (F := F)) Variants.none () Set.univ := fun t => by
  rw [bigSep_W0, bigSep_W0, row]
  exact triple_restated (step m c t) rfl .rfl fun _ => .rfl

theorem enters (c : Dev nD) : Pipeline.ΦA spec0 c ⊢ (dats m 0 c).Φ 0 := Idealize.SL.BI.Entails.refl _

theorem leaves (c : Dev nD) : (dats m 0 c).Φ (Fin.last cfg0.N) ⊢ Pipeline.ΦA spec0 c := by
  have hΦ : (dats m 0 c).Φ (Fin.last cfg0.N) = carried m c (63 + 1) (le_of_eq steps.symm) := by
    show carried m c (Fin.last cfg0.N).val _ = _
    congr 1
  rw [hΦ, PhiA0_eq]
  unfold carried
  iintro ⟨⟨HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- The launch: every array ends at what the steps leave in it, every semaphore at zero. -/
theorem launch : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (owed_body m c).loose) (hq := fun _ _ _ => rfl) (howed := fun _ _ => rfl) (V₀ := V0 m) (opss := [hostOps1])
    (hsub := sfx_sub) (hfresh := sfx_fresh) (hkeep := sfx_keeps)
    (hmain := hmain m Variants.none) (hA := dats_A m) (hin := enters m) (hout := leaves m)

/-- What the launch leaves in the arrays. -/
theorem ends : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (launch m ρ)

/-- The program runs to its end, its arguments end as they began, and every semaphore at zero. -/
def Quiet : Prop := θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

theorem quiet : Quiet m ρ :=
  θ_run_and (frame_of m ρ (dats m) (dats_A m) (ends m ρ)) ((θ_run defs _ _).mono (fun _ h => h.2) (launch m ρ))

end Cert.MixerKernelIdeal.Step
end
-- ==== Proof.MixerMath.lean ====
/-
  The gradient of the gated convolution with its row normalisation, over real projections.
-/
module

public import proofs.«01_k».proof.Proof.MixMath

@[expose] public section

noncomputable section

namespace Cert.Mixer

open Idealize.ShloMosaic Cert.Reals

/-! ## Row normalisations -/

theorem sum_real {n : ℕ} {f : Fin n → EReal} {y : Fin n → ℝ} (h : ∀ k, f k = ((y k : ℝ) : EReal)) : ∑ k, f k = ((∑ k, y k : ℝ) : EReal) := by
  rw [coe_sum]
  exact Finset.sum_congr rfl fun k _ => h k

theorem ms_real {n : ℕ} (hn : n ≠ 0) {f : Fin n → EReal} {y : Fin n → ℝ} (hf : ∀ k, f k = ((y k : ℝ) : EReal)) {w e : EReal}
    (hw : w = ((n : ℝ) : EReal)) (he : e = ((eps : ℝ) : EReal)) : Ideal.div (∑ k, f k * f k) w + e = ((msq y : ℝ) : EReal) := by
  rw [hw, he, sum_real (y := fun k => y k * y k) fun k => by rw [hf, EReal.coe_mul], div_coe' _ (Nat.cast_ne_zero.mpr hn), ← EReal.coe_add]
  rfl

/-- The chain rule's term through the mean square. -/
def through {n : ℕ} (y d : Fin n → ℝ) : ℝ := (∑ k, y k * d k) * (-(1 : ℝ) / 2 * (inv y / msq y)) / n

theorem through_real {n : ℕ} (hn : n ≠ 0) {f g : Fin n → EReal} {y d : Fin n → ℝ} (hf : ∀ k, f k = ((y k : ℝ) : EReal))
    (hg : ∀ k, g k = ((d k : ℝ) : EReal)) {w c u v : EReal} (hw : w = ((n : ℝ) : EReal)) (hc : c = ((-(1 : ℝ) / 2 : ℝ) : EReal))
    (hu : u = ((inv y : ℝ) : EReal)) (hv : v = ((msq y : ℝ) : EReal)) :
    Ideal.div ((∑ k, f k * g k) * (c * Ideal.div u v)) w = ((through y d : ℝ) : EReal) := by
  rw [hw, hc, hu, hv, sum_real (y := fun k => y k * d k) fun k => by rw [hf, hg, EReal.coe_mul], div_coe' _ (msq_pos y).ne', ← EReal.coe_mul,
    ← EReal.coe_mul, div_coe' _ (Nat.cast_ne_zero.mpr hn)]
  rfl

theorem grad_real {n : ℕ} (hn : n ≠ 0) (y d : Fin n → ℝ) (k : Fin n) {a b u t : EReal} (ha : a = ((d k : ℝ) : EReal)) (hb : b = ((y k : ℝ) : EReal))
    (hu : u = ((inv y : ℝ) : EReal)) (ht : t = ((through y d : ℝ) : EReal)) : a * u + b * t + t * b = ((normGrad y d k : ℝ) : EReal) := by
  rw [ha, hb, hu, ht, normGrad_eq hn, mul_comm ((through y d : ℝ) : EReal), ← EReal.coe_mul, ← EReal.coe_mul, ← EReal.coe_add, ← EReal.coe_add]
  rfl

theorem w512 : Ideal.ofBits .f32 0x44000000#32 = (((512 : ℕ) : ℝ) : EReal) := by rw [Mix.ofBits_512]; norm_num

/-! ## The gradients -/

/-- What the gradients are of: the projected rows, the taps, the gain and the gradient of the mixed rows. -/
structure Vals where
  p : Fin 8192 → Fin 2304 → ℝ
  w : Fin 3 → Fin 512 → ℝ
  g : Fin 512 → ℝ
  d : Fin 8192 → Fin 1024 → ℝ

namespace Vals
variable (v : Vals) (i : Fin 8192) (j : Fin 512)

/-- The three gates of a row. -/
def b : ℝ := v.p i ⟨j, by omega⟩
def c : ℝ := v.p i ⟨512 + j, by omega⟩
def h : ℝ := v.p i ⟨1024 + j, by omega⟩
/-- The product of the convolution's gates, `e` rows earlier. -/
def gate (e : ℕ) : ℝ := if i.val < e then 0 else v.c ⟨i - e, by omega⟩ j * v.h ⟨i - e, by omega⟩ j
/-- The causal convolution, -/
def conv : ℝ := v.w 0 j * v.gate i j 2 + v.w 1 j * v.gate i j 1 + v.w 2 j * v.gate i j 0
/-- and with its gate. -/
def gated (i : Fin 8192) (j : Fin 512) : ℝ := v.b i j * v.conv i j
/-- The gradient of the normalised row, times the gain. -/
def dn (i : Fin 8192) (j : Fin 512) : ℝ := v.d i ⟨j, by omega⟩ * v.g j
/-- The gradient of the gated convolution, -/
def dco (i : Fin 8192) : Fin 512 → ℝ := normGrad (v.gated i) (v.dn i)
/-- of the convolution, -/
def dy (i : Fin 8192) (j : Fin 512) : ℝ := v.dco i j * v.b i j
/-- `e` rows later, -/
def after (e : ℕ) : ℝ := if h : i + e < 8192 then v.dy ⟨i + e, h⟩ j else 0
/-- and of the gates' product. -/
def du : ℝ := v.w 2 j * v.dy i j + v.w 1 j * v.after i j 1 + v.w 0 j * v.after i j 2

/-- The gradients of the three gates. -/
def db : ℝ := v.dco i j * v.conv i j
def dc : ℝ := v.du i j * v.h i j
def dh : ℝ := v.du i j * v.c i j
end Vals

end Cert.Mixer
end
-- ==== Proof.MixerBlock.lean ====
/-
  The gated mixer's backward kernel, the convolution half of one block of 128 rows: the payloads of its stores, over real
  rows, with the first rows of the next block's gradient carried in.
-/
module

public import proofs.«01_k».proof.Proof.Gen.MixerKernelIdeal.Skeleton
public import proofs.«01_k».proof.Proof.MixerMath
public import Idealize.ShloMosaic.Lib.Pointwise

@[expose] public section

noncomputable section

namespace Cert.MixerKernelIdeal.Value

open Cert.MixerKernelIdeal Cert.MixerKernelIdeal.Gen Idealize.ShloMosaic Idealize.ShloMosaic.TcCoe Idealize.SL.Sem Cert.Reals Cert.Mixer

/-- The gradient of the gated convolution, -/
def dcoBlock (b y d : Vec Ideal S128x512 .bf16) (g : Vec Ideal S1x512 .f32) : FVec Ideal S128x512 .f32 :=
  k0_pay22 (k0_pay15 d) (k0_pay17 b y) (k0_pay18 b y) g
/-- of the convolution, -/
def dyBlock (b y d : Vec Ideal S128x512 .bf16) (g : Vec Ideal S1x512 .f32) : FVec Ideal S128x512 .f32 :=
  k0_pay24 (k0_pay11 b) (k0_pay15 d) (k0_pay17 b y) (k0_pay18 b y) g
/-- one row later, -/
def dy1Block (b y d : Vec Ideal S128x512 .bf16) (g : Vec Ideal S1x512 .f32) (n : Vec Ideal S8x512 .f32) : FVec Ideal S128x512 .f32 :=
  k0_pay25 (k0_pay11 b) (k0_pay15 d) (k0_pay17 b y) (k0_pay18 b y) g n
/-- and of the product of its gates. -/
def duBlock (b y d : Vec Ideal S128x512 .bf16) (g : Vec Ideal S1x512 .f32) (n : Vec Ideal S8x512 .f32) (w2 w1 w0 : Vec Ideal S1x512 .f32) :
    FVec Ideal S128x512 .f32 :=
  k0_pay32 (dyBlock b y d g) (dy1Block b y d g n) k0_pay26 (k0_pay27 n) k0_pay28 (k0_pay29 n) 126#32 w2 w1 w0

theorem last_bit : ∀ r : Fin 128, IntOp.cmpi CmpIPredicate.eq (BitVec.ofNat 32 r.val) 127#32 = BitVec.ofBool (decide (r.val = 127)) := by
  decide +kernel
theorem before_bit : ∀ r : Fin 128, IntOp.cmpi CmpIPredicate.eq (BitVec.ofNat 32 r.val) 126#32 = BitVec.ofBool (decide (r.val = 126)) := by
  decide +kernel

section
variable (b y d : Vec Ideal S128x512 .bf16) (g : Vec Ideal S1x512 .f32) (n : Vec Ideal S8x512 .f32) (w2 w1 w0 : Vec Ideal S1x512 .f32)
  {b' y' d' : Fin 128 → Fin 512 → ℝ} {g' : Fin 512 → ℝ}
  (hb : ∀ r j, b (ix2 r j) = ((b' r j : ℝ) : EReal)) (hy : ∀ r j, y (ix2 r j) = ((y' r j : ℝ) : EReal))
  (hd : ∀ r j, d (ix2 r j) = ((d' r j : ℝ) : EReal)) (hg : ∀ z j, g (ix2 z j) = ((g' j : ℝ) : EReal))

include hb hy in
theorem inv_at (r : Fin 128) (z : Fin 1) : k0_pay17 b y (ix2 r z) = ((inv (fun j => b' r j * y' r j) : ℝ) : EReal) := by
  have e : k0_pay17 b y (ix2 r z) = Ideal.rsqrt ((∑ k, b (ix2 r k) * y (ix2 r k) * (b (ix2 r k) * y (ix2 r k))) * Ideal.ofBits .f32 0x3B000000#32
      + Ideal.ofBits .f32 0x358637BD#32) := by
    rw [← Mix.sum_groups4]
    pointwise [k0_pay17, k0_pay16, k0_pay11, k0_pay14]
  rw [e, Mix.ofBits_inv512, ofBits_eps, sum_real (y := fun k => b' r k * y' r k * (b' r k * y' r k)) fun k => by
    rw [hb, hy, ← EReal.coe_mul, ← EReal.coe_mul], ← EReal.coe_mul, ← EReal.coe_add, mul_one_div]
  exact rsqrt_coe (msq_pos fun j => b' r j * y' r j)

include hb hy in
theorem unit_at (r : Fin 128) (j : Fin 512) :
    k0_pay18 b y (ix2 r j) = ((b' r j * y' r j * inv (fun j => b' r j * y' r j) : ℝ) : EReal) := by
  have e : k0_pay18 b y (ix2 r j) = b (ix2 r j) * y (ix2 r j) * k0_pay17 b y (ix2 r 0) := by
    unfold k0_pay18
    generalize k0_pay17 b y = x
    pointwise [k0_pay16, k0_pay11, k0_pay14]
  rw [e, inv_at b y hb hy, hb, hy, ← EReal.coe_mul, ← EReal.coe_mul]

include hb hy hd hg in
theorem dco_at (r : Fin 128) (j : Fin 512) :
    dcoBlock b y d g (ix2 r j) = ((normGrad (fun j => b' r j * y' r j) (fun j => d' r j * g' j) j : ℝ) : EReal) := by
  have e : dcoBlock b y d g (ix2 r j) = k0_pay17 b y (ix2 r 0) * (d (ix2 r j) * g (ix2 0 j)
      - k0_pay18 b y (ix2 r j) * ((∑ k, d (ix2 r k) * g (ix2 0 k) * k0_pay18 b y (ix2 r k)) * Ideal.ofBits .f32 0x3B000000#32)) := by
    rw [← Mix.sum_groups4]
    unfold dcoBlock
    generalize k0_pay17 b y = x
    generalize k0_pay18 b y = u
    pointwise [k0_pay22, k0_pay15]
  rw [e, Mix.ofBits_inv512, sum_real (y := fun k => d' r k * g' k * (b' r k * y' r k * inv (fun j => b' r j * y' r j))) fun k => by
    rw [unit_at b y hb hy, hd, hg, ← EReal.coe_mul, ← EReal.coe_mul], inv_at b y hb hy, unit_at b y hb hy, hd, hg, ← EReal.coe_mul, ← EReal.coe_mul,
    ← EReal.coe_mul, ← EReal.coe_sub, ← EReal.coe_mul]
  rfl

theorem dyBlock_at (r : Fin 128) (j : Fin 512) : dyBlock b y d g (ix2 r j) = dcoBlock b y d g (ix2 r j) * b (ix2 r j) := by
  unfold dyBlock dcoBlock
  generalize k0_pay17 b y = x
  generalize k0_pay18 b y = u
  generalize k0_pay15 d = v
  unfold k0_pay24
  generalize k0_pay22 v x u g = w
  pointwise [k0_pay11]

theorem dy1Block_at (r : Fin 128) (j : Fin 512) : dy1Block b y d g n (ix2 r j)
    = if _h : r.val = 127 then n (ix2 0 j) else dyBlock b y d g (ix2 ⟨r + 1, by omega⟩ j) := by
  unfold dy1Block dyBlock
  generalize k0_pay17 b y = x
  generalize k0_pay18 b y = u
  generalize k0_pay15 d = v
  generalize k0_pay11 b = t
  unfold k0_pay25
  generalize k0_pay24 t v x u g = w
  refine Eq.trans (b := Scalar.select (IntOp.cmpi CmpIPredicate.eq (BitVec.ofNat 32 r.val) 127#32) (n (ix2 0 j))
    (w (ix2 ⟨(r.val + 128 - 127) % 128, Nat.mod_lt _ (by decide)⟩ j))) (by pointwise) ?_
  rw [last_bit, Scalar.select_decide]
  split
  · rfl
  · exact congrArg (fun i => w (ix2 i j)) (Fin.ext (by show (r.val + 128 - 127) % 128 = r.val + 1; omega))

theorem duBlock_at (r : Fin 128) (j : Fin 512) : duBlock b y d g n w2 w1 w0 (ix2 r j)
    = w2 (ix2 0 j) * dyBlock b y d g (ix2 r j) + w1 (ix2 0 j) * dy1Block b y d g n (ix2 r j)
      + w0 (ix2 0 j) * (if _h : r.val = 126 then n (ix2 0 j) else if _h : r.val = 127 then n (ix2 1 j) else dyBlock b y d g (ix2 ⟨r + 2, by omega⟩ j)) := by
  unfold duBlock
  generalize dyBlock b y d g = x
  generalize dy1Block b y d g n = u
  refine Eq.trans (b := w2 (ix2 0 j) * x (ix2 r j) + w1 (ix2 0 j) * u (ix2 r j)
    + w0 (ix2 0 j) * Scalar.select (IntOp.cmpi CmpIPredicate.eq (BitVec.ofNat 32 r.val) 126#32) (n (ix2 0 j))
      (Scalar.select (IntOp.cmpi CmpIPredicate.eq (BitVec.ofNat 32 r.val) 127#32) (n (ix2 1 j))
        (x (ix2 ⟨(r.val + 128 - 126) % 128, Nat.mod_lt _ (by decide)⟩ j))))
    (by pointwise [k0_pay32, k0_pay30, k0_pay26, k0_pay27, k0_pay28, k0_pay29]) ?_
  rw [before_bit, last_bit, Scalar.select_decide, Scalar.select_decide]
  congr 2
  split
  · rfl
  split
  · rfl
  · exact congrArg (fun i => x (ix2 i j)) (Fin.ext (by show (r.val + 128 - 126) % 128 = r.val + 2; omega))
end

end Cert.MixerKernelIdeal.Value
end
-- ==== Proof.MixerCases.lean ====
/-
  The gated mixer's backward kernel, step by step: what a step leaves in the convolution half of its block of gradients and in the
  rows it carries to the next step, as the block's own stages.
-/
module

public import proofs.«01_k».proof.Proof.MixerRun
public import proofs.«01_k».proof.Proof.MixerBlock
public import Idealize.ShloMosaic.Lib.Pipeline.ValueKit.Tiles

@[expose] public section

noncomputable section

namespace Cert.MixerKernelIdeal.Value

open Cert.MixerKernelIdeal Cert.MixerKernelIdeal.Gen Cert.MixerKernelIdeal.Step
open Idealize.ShloMosaic Idealize.ShloMosaic.TcCoe Idealize.SL.Sem

theorem hz : (![0, 0] : Fin 2 → Nat) = fun _ => 0 := funext fun a => by fin_cases a <;> rfl

section
variable (x : Ins Ideal)

/-- The three gates of the block, the first 512 columns of the gradient that comes in, and the three taps. -/
def bIn : Vec Ideal S128x512 .bf16 := View.ld x.proj (Rect.unit ![0, 0] ![128, 512] inb_S128x2304_S128x512_0_0)
def cIn : Vec Ideal S128x512 .bf16 := View.ld x.proj (Rect.unit ![0, 512] ![128, 512] inb_S128x2304_S128x512_0_512)
def hIn : Vec Ideal S128x512 .bf16 := View.ld x.proj (Rect.unit ![0, 1024] ![128, 512] inb_S128x2304_S128x512_0_1024)
def dIn : Vec Ideal S128x512 .bf16 := View.ld x.dmix (Rect.unit ![0, 0] ![128, 512] inb_S128x1024_S128x512_0_0)
def w0In : Vec Ideal S1x512 .f32 := View.ld x.convW (Rect.unit ![0, 0] ![1, 512] inb_S3x512_S1x512_0_0)
def w1In : Vec Ideal S1x512 .f32 := View.ld x.convW (Rect.unit ![1, 0] ![1, 512] inb_S3x512_S1x512_1_0)
def w2In : Vec Ideal S1x512 .f32 := View.ld x.convW (Rect.unit ![2, 0] ![1, 512] inb_S3x512_S1x512_2_0)

/-- The gradient of the product of the gates, the rows `n` carried in. -/
def duIn (n : Vec Ideal S8x512 .f32) : FVec Ideal S128x512 .f32 := duBlock (bIn x) x.y (dIn x) x.convOut n (w2In x) (w1In x) (w0In x)

/-- The gradients of the three gates. -/
def dbOut : FVec Ideal S128x512 .bf16 := k0_pay23 (k0_pay14 x.y) (k0_pay15 (dIn x)) (k0_pay17 (bIn x) x.y) (k0_pay18 (bIn x) x.y) x.convOut
def dcOut (n : Vec Ideal S8x512 .f32) : FVec Ideal S128x512 .bf16 :=
  k0_pay33 (k0_pay13 (hIn x)) (dyBlock (bIn x) x.y (dIn x) x.convOut) (dy1Block (bIn x) x.y (dIn x) x.convOut n)
    k0_pay26 (k0_pay27 n) k0_pay28 (k0_pay29 n) 126#32 (w2In x) (w1In x) (w0In x)
def dhOut (n : Vec Ideal S8x512 .f32) : FVec Ideal S128x512 .bf16 :=
  k0_pay34 (k0_pay12 (cIn x)) (dyBlock (bIn x) x.y (dIn x) x.convOut) (dy1Block (bIn x) x.y (dIn x) x.convOut n)
    k0_pay26 (k0_pay27 n) k0_pay28 (k0_pay29 n) 126#32 (w2In x) (w1In x) (w0In x)

theorem dbOut_at (r : Fin 128) (j : Fin 512) :
    dbOut x (ix2 r j) = dcoBlock (bIn x) x.y (dIn x) x.convOut (ix2 r j) * x.y (ix2 r j) := by
  unfold dbOut dcoBlock
  generalize k0_pay15 (dIn x) = a
  generalize k0_pay17 (bIn x) x.y = b
  generalize k0_pay18 (bIn x) x.y = c
  unfold k0_pay23
  generalize k0_pay22 a b c x.convOut = e
  generalize x.y = y
  pointwise [k0_pay14]

theorem dcOut_at (n : Vec Ideal S8x512 .f32) (r : Fin 128) (j : Fin 512) : dcOut x n (ix2 r j) = duIn x n (ix2 r j) * hIn x (ix2 r j) := by
  unfold dcOut duIn duBlock k0_pay33
  generalize k0_pay32 (dyBlock (bIn x) x.y (dIn x) x.convOut) (dy1Block (bIn x) x.y (dIn x) x.convOut n)
    k0_pay26 (k0_pay27 n) k0_pay28 (k0_pay29 n) 126#32 (w2In x) (w1In x) (w0In x) = e
  generalize hIn x = a
  pointwise [k0_pay13]

theorem dhOut_at (n : Vec Ideal S8x512 .f32) (r : Fin 128) (j : Fin 512) : dhOut x n (ix2 r j) = duIn x n (ix2 r j) * cIn x (ix2 r j) := by
  unfold dhOut duIn duBlock k0_pay34
  generalize k0_pay32 (dyBlock (bIn x) x.y (dIn x) x.convOut) (dy1Block (bIn x) x.y (dIn x) x.convOut n)
    k0_pay26 (k0_pay27 n) k0_pay28 (k0_pay29 n) 126#32 (w2In x) (w1In x) (w0In x) = e
  generalize cIn x = a
  pointwise [k0_pay12]

/-- The stores of the convolution half, the last first. -/
def convStores (n : Vec Ideal S8x512 .f32) : List (View.Piece (Elt Ideal) S128x2304 .bf16) :=
  [⟨Rect.unit ![0, 1024] ![128, 512] inb_S128x2304_S128x512_0_1024, dhOut x n⟩,
   ⟨Rect.unit ![0, 512] ![128, 512] inb_S128x2304_S128x512_0_512, dcOut x n⟩,
   ⟨Rect.unit ![0, 0] ![128, 512] inb_S128x2304_S128x512_0_0, dbOut x⟩]

/-- The rows a step carries to the next. -/
def dyOut : FVec Ideal S8x512 .f32 := k0_pay31 (dyBlock (bIn x) x.y (dIn x) x.convOut)

theorem dyOut_at (r : Fin 8) (j : Fin 512) :
    dyOut x (ix2 r j) = dyBlock (bIn x) x.y (dIn x) x.convOut (ix2 ⟨r, by omega⟩ j) := by
  unfold dyOut
  generalize dyBlock (bIn x) x.y (dIn x) x.convOut = e
  pointwise [k0_pay31]

theorem zeros_at (r : Fin 8) (j : Fin 512) : k0_pay2 (F := Ideal) (ix2 r j) = ((0 : ℝ) : EReal) := by
  refine Eq.trans (b := Ideal.ofBits .f32 0#32) (by pointwise [k0_pay2]) ?_
  rw [Ideal.ofBits_zero_f32, EReal.coe_zero]
end

section
variable (c : Dev nD) (i : grid0.Coords) (b : Bufs) (x : Ins Ideal) (o : Outs Ideal)

theorem later_conv (hi : ¬cond0_0 i) : (later c i b hi x o).1.dproj.drop 6 = convStores x o.dyNext := by
  unfold later
  dsimp only [List.drop]
  sl_unfold_words
  simp only [View.readAt_eq_ld, Memref.IsWhole.read_unread, View.ld_unit_zero (S := S128x512) hz, View.ld_unit_zero (S := S1x512) hz,
    View.ld_unit_zero (S := S8x512) hz]
  rfl

theorem later_rows (hi : ¬cond0_0 i) : (later c i b hi x o).1.result.dyNext = dyOut x := by
  unfold Stores.result later
  dsimp only
  sl_unfold_words
  rw [View.canon_unit_zero hz]
  simp only [View.readAt_eq_ld, Memref.IsWhole.read_unread, View.ld_unit_zero (S := S128x512) hz, View.ld_unit_zero (S := S1x512) hz,
    View.ld_unit_zero (S := S8x512) hz]
  rfl

theorem first_conv (hi : cond0_0 i) : (first c i b hi x).1.dproj.drop 6 = convStores x (k0_pay2 (F := Ideal)) := by
  unfold first
  dsimp only [List.drop]
  sl_unfold_words
  simp only [View.readAt_eq_ld, Memref.IsWhole.read_unread, View.ld_unit_zero (S := S128x512) hz, View.ld_unit_zero (S := S1x512) hz,
    View.ld_unit_zero (S := S8x512) hz, View.readCov_unit_zero (S := S8x512) _ hz]
  rfl

theorem first_rows (hi : cond0_0 i) : (first c i b hi x).1.result.dyNext = dyOut x := by
  unfold Stores.result first
  dsimp only
  sl_unfold_words
  rw [View.canon_cons_unit_zero (S := S8x512) hz]
  simp only [View.readAt_eq_ld, Memref.IsWhole.read_unread, View.ld_unit_zero (S := S128x512) hz, View.ld_unit_zero (S := S1x512) hz,
    View.ld_unit_zero (S := S8x512) hz]
  rfl

/-- The stores before the last three of the list keep to the columns from 1536 on. -/
theorem later_rest (hi : ¬cond0_0 i) : ∀ p ∈ (later c i b hi x o).1.dproj.take 6, 1536 ≤ p.1.off 1 := by
  have e : ((later c i b hi x o).1.dproj.take 6).all (fun p => decide (1536 ≤ p.1.off 1)) = true := by sl_kernel_rfl
  exact fun p hp => of_decide_eq_true (List.all_eq_true.mp e p hp)
theorem first_rest (hi : cond0_0 i) : ∀ p ∈ (first c i b hi x).1.dproj.take 6, 1536 ≤ p.1.off 1 := by
  have e : ((first c i b hi x).1.dproj.take 6).all (fun p => decide (1536 ≤ p.1.off 1)) = true := by sl_kernel_rfl
  exact fun p hp => of_decide_eq_true (List.all_eq_true.mp e p hp)

/-- Stores that keep to the columns from 1536 on do not touch those before. -/
theorem canon_rest (L : List (View.Piece (Elt Ideal) S128x2304 .bf16)) (r : Fin 128) (k : Fin 2304) (hk : k.val < 1536) :
    ∀ n, (∀ p ∈ L.take n, 1536 ≤ p.1.off 1) → View.canon L (ix2 r k) = View.canon (L.drop n) (ix2 r k) := by
  induction L with
  | nil => intro n _; rw [List.drop_nil]
  | cons p L ih =>
    intro n h
    cases n with
    | zero => rfl
    | succ n =>
      rw [List.drop_succ_cons, ← ih n fun q hq => h q (by rw [List.take_succ_cons]; exact List.mem_cons_of_mem _ hq)]
      refine View.canon_cons_of_not_mem p L fun hm => ?_
      obtain ⟨z, hz⟩ := p.1.exists_idx_of_mem hm
      have h1 := h p (by rw [List.take_succ_cons]; exact List.mem_cons_self)
      have h2 : p.1.off 1 + p.1.stride 1 * (z 1 : ℕ) = k.val := congrArg (fun y => (y 1 : ℕ)) hz
      omega

/-- The three stores at an index of each. -/
theorem conv_at (n : Vec Ideal S8x512 .f32) (r : Fin 128) (j : Fin 512) :
    View.canon (convStores x n) (ix2 r ⟨j, by omega⟩) = dbOut x (ix2 r j)
    ∧ View.canon (convStores x n) (ix2 r ⟨512 + j, by omega⟩) = dcOut x n (ix2 r j)
    ∧ View.canon (convStores x n) (ix2 r ⟨1024 + j, by omega⟩) = dhOut x n (ix2 r j) := by
  have hj := j.isLt
  have at_ (o : ℕ) (inb) (w : FVec Ideal S128x512 .bf16) (L : List (View.Piece (Elt Ideal) S128x2304 .bf16)) (ho : o + j.val < 2304) :
      View.canon (⟨Rect.unit ![0, o] ![128, 512] inb, w⟩ :: L) (ix2 r ⟨o + j, ho⟩ : S128x2304.Idx) = w (ix2 r j) := by
    have e : (ix2 r ⟨o + j, ho⟩ : S128x2304.Idx) = (Rect.unit (s := S128x2304) ![0, o] ![128, 512] inb).emb (ix2 r j) := by
      funext a
      apply Fin.ext
      rw [Rect.emb_apply]
      match a with
      | ⟨0, _⟩ => show r.val = 0 + 1 * r.val; omega
      | ⟨1, _⟩ => show o + j.val = o + 1 * j.val; omega
    rw [e]
    exact View.canon_cons_emb (Rect.unit (s := S128x2304) ![0, o] ![128, 512] inb) w L (ix2 r j)
  have off_ (o : ℕ) (inb) (w : FVec Ideal S128x512 .bf16) (L : List (View.Piece (Elt Ideal) S128x2304 .bf16)) (k : Fin 2304) (hk : k.val < o) :
      View.canon (⟨Rect.unit ![0, o] ![128, 512] inb, w⟩ :: L) (ix2 r k : S128x2304.Idx) = View.canon L (ix2 r k) := by
    refine View.canon_cons_of_not_mem _ L fun hm => ?_
    obtain ⟨z, hz⟩ := (Rect.unit (s := S128x2304) ![0, o] ![128, 512] inb).exists_idx_of_mem hm
    have h2 : o + 1 * (z 1 : ℕ) = k.val := congrArg (fun y => (y 1 : ℕ)) hz
    omega
  unfold convStores
  refine ⟨?_, ?_, at_ 1024 _ _ _ _⟩
  · rw [off_ 1024 _ _ _ _ (by dsimp only; omega), off_ 512 _ _ _ _ (by dsimp only; omega)]
    have t : (⟨j, by omega⟩ : Fin 2304) = ⟨0 + j, by omega⟩ := Fin.ext (by dsimp only; omega)
    rw [t]
    exact at_ 0 _ _ _ _
  · rw [off_ 1024 _ _ _ _ (by dsimp only; omega)]
    exact at_ 512 _ _ _ _
end

end Cert.MixerKernelIdeal.Value
end
-- ==== Proof.MixerKernelValue.lean ====
/-
  The gated mixer's backward kernel, the whole grid: the convolution half of its gradients, the blocks taken from the last to the
  first.
-/
module

public import proofs.«01_k».proof.Proof.MixerFrame
public import proofs.«01_k».proof.Proof.MixerCases
public import Idealize.ShloMosaic.Lib.StableHlo.ReadAt

@[expose] public section

noncomputable section

namespace Cert.MixerKernelIdeal.Value

open Cert.MixerKernelIdeal Cert.MixerKernelIdeal.Gen Cert.MixerKernelIdeal.Step
open Idealize.ShloMosaic Idealize.ShloMosaic.TcCoe Idealize.SL.Sem Cert.Reals Cert.Mixer

variable (m : (ℓ : Loc nD τ sig) → Buf (Elt Ideal) ℓ) (c : Dev nD)

/-! ## The arrays as launched -/

theorem proj_at (i : Fin 8192) (k : Fin 2304) :
    (V m c main_v65 : Vec Ideal S8192x2304 .bf16) (ix2 i k) = m ((c : Thread nD τ).loc main_arg0) (ix3 0 i k) := by
  after_reads_at
theorem dmix_at (i : Fin 8192) (k : Fin 1024) :
    (V m c main_v69 : Vec Ideal S8192x1024 .bf16) (ix2 i k) = m ((c : Thread nD τ).loc main_arg7) (ix3 0 i k) := by
  after_reads_at
theorem gain_at (z : Fin 1) (k : Fin 512) :
    (V m c main_v78 : Vec Ideal S1x512 .f32) (ix2 z k) = m ((c : Thread nD τ).loc main_arg5) (ix1 k) := by
  after_reads_at

/-- The arguments hold these real numbers. -/
structure Holds (m : (ℓ : Loc nD τ sig) → Buf (Elt Ideal) ℓ) (c : Dev nD) (v : Vals) : Prop where
  p : ∀ i j, m ((c : Thread nD τ).loc main_arg0) (ix3 0 i j) = ((v.p i j : ℝ) : EReal)
  w : ∀ e j, m ((c : Thread nD τ).loc main_arg1) (ix2 e j) = ((v.w e j : ℝ) : EReal)
  g : ∀ j, m ((c : Thread nD τ).loc main_arg5) (ix1 j) = ((v.g j : ℝ) : EReal)
  d : ∀ i j, m ((c : Thread nD τ).loc main_arg7) (ix3 0 i j) = ((v.d i j : ℝ) : EReal)

section
variable {m c} {v : Vals} (hv : Holds m c v)

/-- The contents after the first `n` host operations. -/
abbrev host (m : (ℓ : Loc nD τ sig) → Buf (Elt Ideal) ℓ) (c : Dev nD) (n : ℕ) (b : Ref sig .tc) :=
  StableHlo.upto [hostOps0, hostOps0_1, hostOps0_2].flatten (fun b => m (c, b)) n (Proc.tc.devRef b)

/-- An entry of one of the three. -/
abbrev seen (x : Vec Ideal S1x8192x512 .f32) (i : Fin 8192) (j : Fin 512) : EReal := x (ix3 0 i j)

include hv

theorem product_at (n : ℕ) (hn : n = 14 ∨ n = 17) (i : Fin 8192) (j : Fin 512) :
    (host m c n main_v2 : Vec Ideal S1x8192x512 .f32) (ix3 0 i j) = ((v.c i j * v.h i j : ℝ) : EReal) := by
  have e : (host m c n main_v2 : Vec Ideal S1x8192x512 .f32) (ix3 0 i j)
      = ((v.p i ⟨512 + j, by omega⟩ : ℝ) : EReal) * ((v.p i ⟨1024 + j, by omega⟩ : ℝ) : EReal) := by
    rw [← hv.p, ← hv.p]
    rcases hn with rfl | rfl
    · after_reads_at
    · after_reads_at
  rw [e, ← EReal.coe_mul]
  rfl

theorem gate0_at (i : Fin 8192) (j : Fin 512) :
    (host m c 17 main_v2 : Vec Ideal S1x8192x512 .f32) (ix3 0 i j) = ((v.gate i j 0 : ℝ) : EReal) := by
  rw [product_at hv 17 (Or.inr rfl)]
  unfold Vals.gate
  rw [if_neg (Nat.not_lt_zero _)]
  rfl

theorem gate1_at (i : Fin 8192) (j : Fin 512) :
    (host m c 17 main_v5 : Vec Ideal S1x8192x512 .f32) (ix3 0 i j) = ((v.gate i j 1 : ℝ) : EReal) := by
  unfold Vals.gate
  split
  · rw [EReal.coe_zero]
    after_reads_at
    rw [dif_pos (by omega)]
    after_reads_at
  · after_reads_at
    rw [dif_neg (by omega)]
    have t : (⟨1 + i.val - 2, by omega⟩ : Fin 8192) = ⟨i - 1, by omega⟩ := Fin.ext (by dsimp only; omega)
    rw [t]
    exact product_at hv 14 (Or.inl rfl) _ j

theorem gate2_at (i : Fin 8192) (j : Fin 512) :
    (host m c 17 main_v4 : Vec Ideal S1x8192x512 .f32) (ix3 0 i j) = ((v.gate i j 2 : ℝ) : EReal) := by
  unfold Vals.gate
  split
  · rw [EReal.coe_zero]
    after_reads_at
    rw [dif_pos (by omega)]
    after_reads_at
  · after_reads_at
    rw [dif_neg (by omega)]
    exact product_at hv 14 (Or.inl rfl) _ j

/-- The convolution, which the host has the kernel read back. -/
theorem conv_real (i : Fin 8192) (j : Fin 512) :
    (V m c main_v66 : Vec Ideal S8192x512 .bf16) (ix2 i j) = ((v.conv i j : ℝ) : EReal) := by
  after_reads_at
  refine (Fin.sum_univ_three (M := EReal) _).trans (Eq.trans (b := seen (host m c 17 main_v4) i j * m (c, Proc.tc.devRef main_arg1) (ix2 0 j)
    + seen (host m c 17 main_v5) i j * m (c, Proc.tc.devRef main_arg1) (ix2 1 j)
    + seen (host m c 17 main_v2) i j * m (c, Proc.tc.devRef main_arg1) (ix2 2 j)) rfl ?_)
  unfold seen
  have w (e : Fin 3) : m (c, Proc.tc.devRef main_arg1) (ix2 e j) = ((v.w e j : ℝ) : EReal) := hv.w e j
  rw [w, w, w]
  rw [gate2_at hv, gate1_at hv, gate0_at hv, ← EReal.coe_mul, ← EReal.coe_mul, ← EReal.coe_mul, ← EReal.coe_add, ← EReal.coe_add]
  congr 1
  unfold Vals.conv
  ring
end

/-! ## The blocks -/

section
variable (t : Fin cfg0.N)

theorem idx1 : win0_1.index t 0 = 63 - t.val ∧ win0_1.index t 1 = 0 :=
  (by decide +kernel : ∀ t : Fin grid0.N, win0_1.index t 0 = 63 - t.val ∧ win0_1.index t 1 = 0) t
theorem idx3 : win0_3.index t 0 = 63 - t.val ∧ win0_3.index t 1 = 0 :=
  (by decide +kernel : ∀ t : Fin grid0.N, win0_3.index t 0 = 63 - t.val ∧ win0_3.index t 1 = 0) t
theorem idx5 : win0_5.index t 0 = 63 - t.val ∧ win0_5.index t 1 = 0 :=
  (by decide +kernel : ∀ t : Fin grid0.N, win0_5.index t 0 = 63 - t.val ∧ win0_5.index t 1 = 0) t
theorem idx6 : win0_6.index t 0 = 0 ∧ win0_6.index t 1 = 0 :=
  (by decide +kernel : ∀ t : Fin grid0.N, win0_6.index t 0 = 0 ∧ win0_6.index t 1 = 0) t
theorem idx9 : win0_9.index t 0 = 0 ∧ win0_9.index t 1 = 0 :=
  (by decide +kernel : ∀ t : Fin grid0.N, win0_9.index t 0 = 0 ∧ win0_9.index t 1 = 0) t
theorem idx11 : win0_11.index t 0 = 63 - t.val ∧ win0_11.index t 1 = 0 :=
  (by decide +kernel : ∀ t : Fin grid0.N, win0_11.index t 0 = 63 - t.val ∧ win0_11.index t 1 = 0) t

/-- Row `r` of the block of step `t`: the blocks run from the last to the first. -/
def row (t : Fin cfg0.N) (r : Fin 128) : Fin 8192 := ⟨(63 - t.val) * 128 + r.val, by have := r.isLt; omega⟩

variable {m c} {v : Vals} (hv : Holds m c v)
include hv

theorem proj_blk (r : Fin 128) (k : Fin 2304) : (ins m c t).proj (ix2 r k) = ((v.p (row t r) k : ℝ) : EReal) := by
  rw [← hv.p, ← proj_at m c]
  unfold ins
  dsimp only
  unfold iblk
  rw [View.read_apply]
  show V m c main_v65 _ = V m c main_v65 _
  congr 1
  funext a; apply Fin.ext
  match a with
  | ⟨0, _⟩ => show win0_1.index t 0 * 128 + 1 * r.val = (63 - t.val) * 128 + r.val; rw [(idx1 t).1]; omega
  | ⟨1, _⟩ => show win0_1.index t 1 * 2304 + 1 * k.val = k.val; rw [(idx1 t).2]; omega

theorem y_blk (r : Fin 128) (k : Fin 512) : (ins m c t).y (ix2 r k) = ((v.conv (row t r) k : ℝ) : EReal) := by
  rw [← conv_real hv]
  unfold ins
  dsimp only
  unfold iblk
  rw [View.read_apply]
  show V m c main_v66 _ = V m c main_v66 _
  congr 1
  funext a; apply Fin.ext
  match a with
  | ⟨0, _⟩ => show win0_3.index t 0 * 128 + 1 * r.val = (63 - t.val) * 128 + r.val; rw [(idx3 t).1]; omega
  | ⟨1, _⟩ => show win0_3.index t 1 * 512 + 1 * k.val = k.val; rw [(idx3 t).2]; omega

theorem dmix_blk (r : Fin 128) (k : Fin 1024) : (ins m c t).dmix (ix2 r k) = ((v.d (row t r) k : ℝ) : EReal) := by
  rw [← hv.d, ← dmix_at m c]
  unfold ins
  dsimp only
  unfold iblk
  rw [View.read_apply]
  show V m c main_v69 _ = V m c main_v69 _
  congr 1
  funext a; apply Fin.ext
  match a with
  | ⟨0, _⟩ => show win0_5.index t 0 * 128 + 1 * r.val = (63 - t.val) * 128 + r.val; rw [(idx5 t).1]; omega
  | ⟨1, _⟩ => show win0_5.index t 1 * 1024 + 1 * k.val = k.val; rw [(idx5 t).2]; omega

theorem taps_blk (e : Fin 3) (k : Fin 512) : (ins m c t).convW (ix2 e k) = ((v.w e k : ℝ) : EReal) := by
  rw [← hv.w]
  refine Eq.trans (b := (V m c main_arg1 : Vec Ideal S3x512 .f32) (ix2 e k)) ?_ (by after_reads_at)
  unfold ins
  dsimp only
  unfold iblk
  rw [View.read_apply]
  show V m c main_arg1 _ = V m c main_arg1 _
  congr 1
  funext a; apply Fin.ext
  match a with
  | ⟨0, _⟩ => show win0_6.index t 0 * 3 + 1 * e.val = e.val; rw [(idx6 t).1]; omega
  | ⟨1, _⟩ => show win0_6.index t 1 * 512 + 1 * k.val = k.val; rw [(idx6 t).2]; omega

theorem gain_blk (z : Fin 1) (k : Fin 512) : (ins m c t).convOut (ix2 z k) = ((v.g k : ℝ) : EReal) := by
  rw [← hv.g, ← gain_at m c z]
  unfold ins
  dsimp only
  unfold iblk
  rw [View.read_apply]
  show V m c main_v78 _ = V m c main_v78 _
  congr 1
  funext a; apply Fin.ext
  match a with
  | ⟨0, _⟩ => show win0_9.index t 0 * 1 + 1 * z.val = z.val; rw [(idx9 t).1]; omega
  | ⟨1, _⟩ => show win0_9.index t 1 * 512 + 1 * k.val = k.val; rw [(idx9 t).2]; omega

/-! ## One step -/

theorem bIn_at (r : Fin 128) (j : Fin 512) : bIn (ins m c t) (ix2 r j) = ((v.b (row t r) j : ℝ) : EReal) := by
  unfold bIn Vals.b
  rw [← proj_blk t hv]
  pointwise
theorem cIn_at (r : Fin 128) (j : Fin 512) : cIn (ins m c t) (ix2 r j) = ((v.c (row t r) j : ℝ) : EReal) := by
  unfold cIn Vals.c
  rw [← proj_blk t hv]
  pointwise
theorem hIn_at (r : Fin 128) (j : Fin 512) : hIn (ins m c t) (ix2 r j) = ((v.h (row t r) j : ℝ) : EReal) := by
  unfold hIn Vals.h
  rw [← proj_blk t hv]
  pointwise
theorem dIn_at (r : Fin 128) (j : Fin 512) : dIn (ins m c t) (ix2 r j) = ((v.d (row t r) ⟨j, by omega⟩ : ℝ) : EReal) := by
  unfold dIn
  rw [← dmix_blk t hv]
  pointwise
theorem wIn_at (z : Fin 1) (j : Fin 512) : w0In (ins m c t) (ix2 z j) = ((v.w 0 j : ℝ) : EReal) ∧ w1In (ins m c t) (ix2 z j) = ((v.w 1 j : ℝ) : EReal)
    ∧ w2In (ins m c t) (ix2 z j) = ((v.w 2 j : ℝ) : EReal) := by
  obtain rfl : z = 0 := Subsingleton.elim _ _
  unfold w0In w1In w2In
  rw [← taps_blk t hv, ← taps_blk t hv, ← taps_blk t hv]
  exact ⟨by pointwise, by pointwise, by pointwise⟩

theorem dco_step (r : Fin 128) (j : Fin 512) : dcoBlock (bIn (ins m c t)) (ins m c t).y (dIn (ins m c t)) (ins m c t).convOut (ix2 r j)
    = ((v.dco (row t r) j : ℝ) : EReal) :=
  dco_at _ _ _ _ (bIn_at t hv) (y_blk t hv) (dIn_at t hv) (gain_blk t hv) r j

theorem dy_step (r : Fin 128) (j : Fin 512) : dyBlock (bIn (ins m c t)) (ins m c t).y (dIn (ins m c t)) (ins m c t).convOut (ix2 r j)
    = ((v.dy (row t r) j : ℝ) : EReal) := by
  rw [dyBlock_at, dco_step t hv, bIn_at t hv, ← EReal.coe_mul]
  rfl

omit hv in
/-- The row `e` rows after one is the row `e'` rows after another. -/
theorem after_shift (v : Vals) (i i' : Fin 8192) (j : Fin 512) (e e' : ℕ) (h : i.val + e = i'.val + e') : v.after i j e = v.after i' j e' := by
  unfold Vals.after
  simp only [h]

omit hv in
theorem after_in (v : Vals) (r : Fin 128) (j : Fin 512) (e : ℕ) (h : r.val + e < 128) : v.after (row t r) j e = v.dy (row t ⟨r + e, h⟩) j := by
  have hN : t.val < 64 := t.isLt
  unfold Vals.after
  rw [dif_pos (by show (63 - t.val) * 128 + r.val + e < 8192; omega)]
  exact congrArg (v.dy · j) (Fin.ext (by show (63 - t.val) * 128 + r.val + e = (63 - t.val) * 128 + (r.val + e); omega))

/-- What the step is handed of the block after it. -/
structure Carry (v : Vals) (t : Fin cfg0.N) (n : Vec Ideal S8x512 .f32) : Prop where
  next : ∀ j, n (ix2 0 j) = ((v.after (row t ⟨127, by decide⟩) j 1 : ℝ) : EReal)
  second : ∀ j, n (ix2 1 j) = ((v.after (row t ⟨127, by decide⟩) j 2 : ℝ) : EReal)

omit hv in
theorem next_rows {n : Vec Ideal S8x512 .f32} (hn : Carry v t n) (D : FVec Ideal S128x512 .f32)
    (hD : ∀ r j, D (ix2 r j) = ((v.dy (row t r) j : ℝ) : EReal)) (r : Fin 128) (j : Fin 512) :
    (if _h : r.val = 127 then n (ix2 0 j) else D (ix2 ⟨r + 1, by omega⟩ j)) = ((v.after (row t r) j 1 : ℝ) : EReal) := by
  by_cases h : r.val = 127
  · rw [dif_pos h, hn.next]
    obtain rfl : r = ⟨127, by decide⟩ := Fin.ext h
    rfl
  · rw [dif_neg h, hD, after_in t v r j 1 (by omega)]

omit hv in
theorem second_rows {n : Vec Ideal S8x512 .f32} (hn : Carry v t n) (D : FVec Ideal S128x512 .f32)
    (hD : ∀ r j, D (ix2 r j) = ((v.dy (row t r) j : ℝ) : EReal)) (r : Fin 128) (j : Fin 512) :
    (if _h : r.val = 126 then n (ix2 0 j) else if _h : r.val = 127 then n (ix2 1 j) else D (ix2 ⟨r + 2, by omega⟩ j))
      = ((v.after (row t r) j 2 : ℝ) : EReal) := by
  by_cases h : r.val = 126
  · rw [dif_pos h, hn.next, after_shift v _ (row t r) j 1 2 (by show (63 - t.val) * 128 + 127 + 1 = (63 - t.val) * 128 + r.val + 2; omega)]
  rw [dif_neg h]
  by_cases h' : r.val = 127
  · rw [dif_pos h', hn.second]
    obtain rfl : r = ⟨127, by decide⟩ := Fin.ext h'
    rfl
  · rw [dif_neg h', hD, after_in t v r j 2 (by omega)]

theorem du_step {n : Vec Ideal S8x512 .f32} (hn : Carry v t n) (r : Fin 128) (j : Fin 512) :
    duIn (ins m c t) n (ix2 r j) = ((v.du (row t r) j : ℝ) : EReal) := by
  obtain ⟨w0, w1, w2⟩ := wIn_at t hv 0 j
  unfold duIn
  rw [duBlock_at, dy1Block_at, next_rows t hn _ (dy_step t hv), second_rows t hn _ (dy_step t hv), dy_step t hv, w0, w1, w2, ← EReal.coe_mul,
    ← EReal.coe_mul, ← EReal.coe_mul, ← EReal.coe_add, ← EReal.coe_add]
  rfl

/-- The gradients of the gates over the block, by column. -/
theorem block_step {n : Vec Ideal S8x512 .f32} (hn : Carry v t n) (r : Fin 128) (j : Fin 512) :
    View.canon (convStores (ins m c t) n) (ix2 r ⟨j, by omega⟩) = ((v.db (row t r) j : ℝ) : EReal)
    ∧ View.canon (convStores (ins m c t) n) (ix2 r ⟨512 + j, by omega⟩) = ((v.dc (row t r) j : ℝ) : EReal)
    ∧ View.canon (convStores (ins m c t) n) (ix2 r ⟨1024 + j, by omega⟩) = ((v.dh (row t r) j : ℝ) : EReal) := by
  obtain ⟨h0, h1, h2⟩ := conv_at (ins m c t) n r j
  rw [h0, h1, h2, dbOut_at, dcOut_at, dhOut_at, dco_step t hv, du_step t hv hn, y_blk t hv, hIn_at t hv, cIn_at t hv,
    ← EReal.coe_mul, ← EReal.coe_mul, ← EReal.coe_mul]
  exact ⟨rfl, rfl, rfl⟩
end

/-! ## All the steps -/

section
variable {m c} {v : Vals} (hv : Holds m c v)

theorem first_carry (h : 0 < cfg0.N) : Carry v ⟨0, h⟩ (k0_pay2 (F := Ideal)) := by
  constructor
  · intro j
    rw [zeros_at]
    unfold Vals.after
    rw [dif_neg (by show ¬(63 - 0) * 128 + 127 + 1 < 8192; omega)]
  · intro j
    rw [zeros_at]
    unfold Vals.after
    rw [dif_neg (by show ¬(63 - 0) * 128 + 127 + 2 < 8192; omega)]

include hv

theorem later_carry (n : ℕ) (h : n + 1 < cfg0.N) : Carry v ⟨n + 1, h⟩ (dyOut (ins m c ⟨n, Nat.lt_of_succ_lt h⟩)) := by
  have hN : n + 1 < 64 := h
  constructor
  · intro j
    rw [dyOut_at, dy_step _ hv]
    have e := after_in ⟨n, Nat.lt_of_succ_lt h⟩ v ⟨0, by decide⟩ j 0 (by decide)
    exact congrArg (fun x : ℝ => (x : EReal)) (e.symm.trans <| after_shift v _ _ j _ _ <| by show (63 - n) * 128 + 0 + 0 = (63 - (n + 1)) * 128 + 127 + 1; omega)
  · intro j
    rw [dyOut_at, dy_step _ hv]
    have e := after_in ⟨n, Nat.lt_of_succ_lt h⟩ v ⟨1, by decide⟩ j 0 (by decide)
    exact congrArg (fun x : ℝ => (x : EReal)) (e.symm.trans <| after_shift v _ _ j _ _ <| by show (63 - n) * 128 + 1 + 0 = (63 - (n + 1)) * 128 + 127 + 2; omega)

omit hv in
theorem rows_left : ∀ (n : ℕ) (h : n < cfg0.N), (outs m c n h).dyNext = dyOut (ins m c ⟨n, h⟩)
  | 0, h => first_rows c _ _ _ (starts h)
  | n + 1, h => later_rows c _ _ _ _ (goes_on n h)

/-- The block of gradients a step leaves. -/
theorem block_left : ∀ (t : Fin cfg0.N) (r : Fin 128) (j : Fin 512),
    (outs m c t.val t.isLt).dproj (ix2 r ⟨j, by omega⟩) = ((v.db (row t r) j : ℝ) : EReal)
    ∧ (outs m c t.val t.isLt).dproj (ix2 r ⟨512 + j, by omega⟩) = ((v.dc (row t r) j : ℝ) : EReal)
    ∧ (outs m c t.val t.isLt).dproj (ix2 r ⟨1024 + j, by omega⟩) = ((v.dh (row t r) j : ℝ) : EReal)
  | ⟨0, h⟩, r, j => by
    have e (k : Fin 2304) (hk : k.val < 1536) : (outs m c 0 h).dproj (ix2 r k) = View.canon (convStores (ins m c ⟨0, h⟩) (k0_pay2 (F := Ideal))) (ix2 r k) := by
      rw [← first_conv c (grid0.coords ⟨0, h⟩) (bufs ⟨0, h⟩) _ (starts h)]
      exact canon_rest _ r k hk 6 (first_rest c _ _ _ (starts h))
    rw [e _ (by dsimp only; omega), e _ (by dsimp only; omega), e _ (by dsimp only; omega)]
    exact block_step ⟨0, h⟩ hv (first_carry h) r j
  | ⟨n + 1, h⟩, r, j => by
    have e (k : Fin 2304) (hk : k.val < 1536) : (outs m c (n + 1) h).dproj (ix2 r k)
        = View.canon (convStores (ins m c ⟨n + 1, h⟩) (dyOut (ins m c ⟨n, Nat.lt_of_succ_lt h⟩))) (ix2 r k) := by
      rw [← rows_left n (Nat.lt_of_succ_lt h), ← later_conv c (grid0.coords ⟨n + 1, h⟩) (bufs ⟨n + 1, h⟩) _ _ (goes_on n h)]
      exact canon_rest _ r k hk 6 (later_rest c _ _ _ _ (goes_on n h))
    rw [e _ (by dsimp only; omega), e _ (by dsimp only; omega), e _ (by dsimp only; omega)]
    exact block_step ⟨n + 1, h⟩ hv (later_carry hv n h) r j
end

/-! ## The array they write -/

/-- The step whose block holds row `i`, and the row's place in it. -/
def stepOf (i : Fin 8192) : Fin cfg0.N := ⟨63 - i.val / 128, by show _ < 64; omega⟩
def placeOf (i : Fin 8192) : Fin 128 := ⟨i.val % 128, Nat.mod_lt _ (by decide)⟩

theorem row_stepOf (i : Fin 8192) : row (stepOf i) (placeOf i) = i :=
  Fin.ext (by have := i.isLt; show (63 - (63 - i.val / 128)) * 128 + i.val % 128 = i.val; omega)
theorem stepOf_row (t : Fin cfg0.N) (r : Fin 128) : stepOf (row t r) = t :=
  Fin.ext (by have h : t.val < 64 := t.isLt; have := r.isLt; show 63 - ((63 - t.val) * 128 + r.val) / 128 = t.val; omega)
theorem placeOf_row (t : Fin cfg0.N) (r : Fin 128) : placeOf (row t r) = r :=
  Fin.ext (by have := r.isLt; show ((63 - t.val) * 128 + r.val) % 128 = r.val; omega)

/-- The array of gradients, row by row out of the blocks. -/
def blocks : FVec Ideal S8192x2304 .bf16 := fun i => (outs m c (stepOf (i 0)).val (stepOf (i 0)).isLt).dproj (ix2 (placeOf (i 0)) (i 1))

theorem blocks_row (t : Fin cfg0.N) (r : Fin 128) (k : Fin 2304) : blocks m c (ix2 (row t r) k) = (outs m c t.val t.isLt).dproj (ix2 r k) := by
  show (outs m c (stepOf (row t r)).val _).dproj (ix2 (placeOf (row t r)) k) = _
  simp only [stepOf_row, placeOf_row]

theorem final_blocks : (dats m 0 c).arrAt 11 cfg0.N = blocks m c := by
  refine (dats m 0 c).arrAt_eq_of_cover 11 (blocks m c) (fun t _ => ?_) (fun (i : S8192x2304.Idx) => ?_)
  · funext y
    rw [View.read_apply]
    obtain ⟨r, k, rfl⟩ : ∃ (r : Fin 128) (k : Fin 2304), y = ix2 r k := ⟨y 0, y 1, (ix2_eta _).symm⟩
    refine Eq.trans (show _ = (outs m c t.val t.isLt).dproj (ix2 r k) from rfl) ?_
    rw [← blocks_row]
    show blocks m c (ix2 (row t r) k) = blocks m c _
    congr 1
    funext a; apply Fin.ext
    match a with
    | ⟨0, _⟩ => show (63 - t.val) * 128 + r.val = win0_11.index t 0 * 128 + 1 * r.val; rw [(idx11 t).1]; omega
    | ⟨1, _⟩ => show k.val = win0_11.index t 1 * 2304 + 1 * k.val; rw [(idx11 t).2]; omega
  · have h0 : (i 0 : Nat) < 8192 := (i 0).isLt
    have h1 : (i 1 : Nat) < 2304 := (i 1).isLt
    refine ⟨stepOf (i 0), flush0_11 _, ?_⟩
    have ht : (stepOf (i 0)).val = 63 - (i 0 : Nat) / 128 := rfl
    show i ∈ ((View.whole main_v80_0).slice (win0_11.rect (stepOf (i 0)))).set
    rw [View.set_slice_whole, Rect.mem_set_unit]
    intro a
    match a with
    | ⟨0, _⟩ =>
      show win0_11.index _ 0 * 128 ≤ (i 0 : Nat) ∧ (i 0 : Nat) < win0_11.index _ 0 * 128 + 128
      rw [(idx11 _).1]; omega
    | ⟨1, _⟩ =>
      show win0_11.index _ 1 * 2304 ≤ (i 1 : Nat) ∧ (i 1 : Nat) < win0_11.index _ 1 * 2304 + 2304
      rw [(idx11 _).2]; omega

/-! ## The three results -/

theorem array_after : Pipeline.withArrays spec0 c (V0 m c) (fun w => (dats m 0 c).arrAt w cfg0.N) (Proc.devRef .tc main_v80_0) = blocks m c :=
  ((dats m 0 c).withArrays_arrAt sharedIn0 (V0 m c) (dats_A m c) 11).trans (final_blocks m c)

theorem slices (W : Valuation τ sig (Elt Ideal)) (i : Fin 8192) (j : Fin 512) :
    (StableHlo.after hostOps1 W (Proc.devRef .tc main_v81) : Vec Ideal S8192x512 .bf16) (ix2 i j)
      = (W (Proc.devRef .tc main_v80_0) : Vec Ideal S8192x2304 .bf16) (ix2 i ⟨j, by omega⟩)
    ∧ (StableHlo.after hostOps1 W (Proc.devRef .tc main_v82) : Vec Ideal S8192x512 .bf16) (ix2 i j)
      = (W (Proc.devRef .tc main_v80_0) : Vec Ideal S8192x2304 .bf16) (ix2 i ⟨512 + j, by omega⟩)
    ∧ (StableHlo.after hostOps1 W (Proc.devRef .tc main_v83) : Vec Ideal S8192x512 .bf16) (ix2 i j)
      = (W (Proc.devRef .tc main_v80_0) : Vec Ideal S8192x2304 .bf16) (ix2 i ⟨1024 + j, by omega⟩) := by
  generalize hx : (W (Proc.devRef .tc main_v80_0) : Vec Ideal S8192x2304 .bf16) = x
  refine ⟨?_, ?_, ?_⟩ <;> after_results_simp <;> rw [hx] <;> pointwise

def resultB (v : Vals) : FVec Ideal S8192x512 .bf16 := fun i => ((v.db (i 0) (i 1) : ℝ) : EReal)
def resultC (v : Vals) : FVec Ideal S8192x512 .bf16 := fun i => ((v.dc (i 0) (i 1) : ℝ) : EReal)
def resultH (v : Vals) : FVec Ideal S8192x512 .bf16 := fun i => ((v.dh (i 0) (i 1) : ℝ) : EReal)

variable {m c} {v : Vals}

theorem results_after (hv : Holds m c v) :
    (Pipeline.afterTail₀ cfgs (dats m) 0 (V0 m) [hostOps1] c main_v81 : FVec Ideal S8192x512 .bf16) = resultB v
    ∧ (Pipeline.afterTail₀ cfgs (dats m) 0 (V0 m) [hostOps1] c main_v82 : FVec Ideal S8192x512 .bf16) = resultC v
    ∧ (Pipeline.afterTail₀ cfgs (dats m) 0 (V0 m) [hostOps1] c main_v83 : FVec Ideal S8192x512 .bf16) = resultH v := by
  have at_row (i : Fin 8192) (j : Fin 512) := block_left hv (stepOf i) (placeOf i) j
  simp only [← blocks_row, row_stepOf] at at_row
  rw [← array_after] at at_row
  have cut := slices (Pipeline.withArrays spec0 c (V0 m c) fun w => (dats m 0 c).arrAt w cfg0.N)
  refine ⟨?_, ?_, ?_⟩ <;> funext i <;>
    obtain ⟨a, b, rfl⟩ : ∃ (a : Fin 8192) (b : Fin 512), i = ix2 a b := ⟨i 0, i 1, (ix2_eta _).symm⟩
  · exact (cut a b).1.trans (at_row a b).1
  · exact (cut a b).2.1.trans (at_row a b).2.1
  · exact (cut a b).2.2.trans (at_row a b).2.2

/-- The program's run where its arguments are real numbers: the three results, and the arguments as they began. -/
theorem run (m : (ℓ : Loc nD τ sig) → Buf (Elt Ideal) ℓ) (ρ : Dev nD → PrngReg) (v : Dev nD → Vals) (hv : ∀ c, Holds m c (v c)) :
    θ_run defs (onTc (τ := τ) (main (F := Ideal))) ⟨m, fun _ => 0, ρ⟩ fun r => ∀ c : Dev nD,
      r.2.mem ((c : Thread nD τ).loc main_v81) = resultB (v c)
      ∧ r.2.mem ((c : Thread nD τ).loc main_v82) = resultC (v c)
      ∧ r.2.mem ((c : Thread nD τ).loc main_v83) = resultH (v c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c =>
    ⟨((h.1 c).2 main_v81 (Pipeline.mem_restRefs_of main_v81 (by decide) (by decide))).trans (results_after (hv c)).1,
     ((h.1 c).2 main_v82 (Pipeline.mem_restRefs_of main_v82 (by decide) (by decide))).trans (results_after (hv c)).2.1,
     ((h.1 c).2 main_v83 (Pipeline.mem_restRefs_of main_v83 (by decide) (by decide))).trans (results_after (hv c)).2.2,
     h.2 c⟩)
    (θ_run_and (ends m ρ) (frame_of m ρ (dats m) (dats_A m) (ends m ρ)))

end Cert.MixerKernelIdeal.Value
end
-- ==== Proof.MixerReferenceValue.lean ====
/-
  The gated convolution's backward reference, stage by stage: the chain rule's terms at an index, as the gradients over
  real projections.
-/
module

public import proofs.«01_k».proof.Proof.Gen.MixerReferenceIdeal.Run
public import proofs.«01_k».proof.Proof.MixerMath

@[expose] public section

noncomputable section

namespace Cert.MixerReferenceIdeal.Value

open Cert.MixerReferenceIdeal Cert.MixerReferenceIdeal.Gen Idealize.ShloMosaic Idealize.ShloMosaic.TcCoe Idealize.SL.Sem
open Cert.Reals Cert.Mixer

/-- A matrix's entry. -/
abbrev entry {n k : ℕ} (x : FVec Ideal ⟨2, ![n, k]⟩ .f32) (i : Fin n) (j : Fin k) : EReal := x (ix2 i j)

variable {V : Valuation τ sig (Elt Ideal)} {v : Vals}
  (hp : ∀ i j, V (Proc.devRef .tc main_arg0) (ix3 0 i j) = ((v.p i j : ℝ) : EReal))
  (hw : ∀ e j, V (Proc.devRef .tc main_arg1) (ix2 e j) = ((v.w e j : ℝ) : EReal))
  (hg : ∀ j, V (Proc.devRef .tc main_arg5) (ix1 j) = ((v.g j : ℝ) : EReal))
  (hd : ∀ i k, V (Proc.devRef .tc main_arg7) (ix3 0 i k) = ((v.d i k : ℝ) : EReal))

include hp in
theorem row_real (i : Fin 8192) (j : Fin 2304) : res_main_v0 V (ix2 i j) = ((v.p i j : ℝ) : EReal) := by
  rw [← hp]
  pointwise [res_main_v0]

include hp in
theorem b_real (i : Fin 8192) (j : Fin 512) : res_main_v1 V (ix2 i j) = ((v.b i j : ℝ) : EReal) := by
  unfold Vals.b
  rw [← row_real hp]
  unfold res_main_v1
  generalize res_main_v0 V = x
  pointwise
include hp in
theorem c_real (i : Fin 8192) (j : Fin 512) : res_main_v2 V (ix2 i j) = ((v.c i j : ℝ) : EReal) := by
  unfold Vals.c
  rw [← row_real hp]
  unfold res_main_v2
  generalize res_main_v0 V = x
  pointwise
include hp in
theorem h_real (i : Fin 8192) (j : Fin 512) : res_main_v3 V (ix2 i j) = ((v.h i j : ℝ) : EReal) := by
  unfold Vals.h
  rw [← row_real hp]
  unfold res_main_v3
  generalize res_main_v0 V = x
  pointwise

include hp in
theorem taps_real (e : ℕ) (i : Fin 8192) (k : Fin 8194) (hk : k.val + e = i + 2) (he : e ≤ 2) (j : Fin 512) :
    res_main_v6 V (ix2 k j) = ((v.gate i j e : ℝ) : EReal) := by
  have g : res_main_v6 V (ix2 k j) = if h : k.val < 2 then Ideal.ofBits .f32 0x00000000#32
      else entry (n := 8192) (k := 512) (res_main_v2 V) ⟨k - 2, by omega⟩ j * entry (n := 8192) (k := 512) (res_main_v3 V) ⟨k - 2, by omega⟩ j := by
    unfold res_main_v6
    generalize res_main_v2 V = x
    generalize res_main_v3 V = y
    pointwise
  rw [g]
  unfold entry Vals.gate
  by_cases h : i.val < e
  · rw [if_pos h, dif_pos (by omega)]
    simp
  · rw [if_neg h, dif_neg (by omega), c_real hp, h_real hp, ← EReal.coe_mul]
    have e' : (⟨k.val - 2, by omega⟩ : Fin 8192) = ⟨i.val - e, by omega⟩ := Fin.ext (by dsimp only; omega)
    rw [e']

include hw in
theorem w0_real (z : Fin 1) (j : Fin 512) : res_main_v11 V (ix2 z j) = ((v.w 0 j : ℝ) : EReal) := by
  rw [← hw]
  pointwise [res_main_v11]
include hw in
theorem w1_real (z : Fin 1) (j : Fin 512) : res_main_v17 V (ix2 z j) = ((v.w 1 j : ℝ) : EReal) := by
  rw [← hw]
  pointwise [res_main_v17]
include hw in
theorem w2_real (z : Fin 1) (j : Fin 512) : res_main_v24 V (ix2 z j) = ((v.w 2 j : ℝ) : EReal) := by
  rw [← hw]
  pointwise [res_main_v24]

include hp hw in
theorem conv_real (i : Fin 8192) (j : Fin 512) : res_main_v27 V (ix2 i j) = ((v.conv i j : ℝ) : EReal) := by
  have e : res_main_v27 V (ix2 i j) = entry (n := 1) (k := 512) (res_main_v11 V) 0 j * entry (n := 8194) (k := 512) (res_main_v6 V) ⟨i, by omega⟩ j
      + entry (n := 1) (k := 512) (res_main_v17 V) 0 j * entry (n := 8194) (k := 512) (res_main_v6 V) ⟨1 + i, by omega⟩ j + entry (n := 1) (k := 512) (res_main_v24 V) 0 j * entry (n := 8194) (k := 512) (res_main_v6 V) ⟨2 + i, by omega⟩ j := by
    unfold res_main_v27
    generalize res_main_v6 V = x
    generalize res_main_v11 V = w0
    generalize res_main_v17 V = w1
    generalize res_main_v24 V = w2
    pointwise
  unfold entry at e
  rw [e, w0_real hw, w1_real hw, w2_real hw, taps_real hp 2 i _ rfl (le_refl _), taps_real hp 1 i _ (by dsimp only; omega) (by decide),
    taps_real hp 0 i _ (by dsimp only; omega) (by decide), ← EReal.coe_mul, ← EReal.coe_mul, ← EReal.coe_mul, ← EReal.coe_add, ← EReal.coe_add]
  rfl

include hp hw in
theorem gated_real (i : Fin 8192) (j : Fin 512) : res_main_v28 V (ix2 i j) = ((v.gated i j : ℝ) : EReal) := by
  unfold Vals.gated
  rw [EReal.coe_mul, ← b_real hp, ← conv_real hp hw]
  rfl

include hp hw in
theorem gated_ms (i : Fin 8192) (z : Fin 1) : res_main_v35 V (ix2 i z) = ((msq (v.gated i) : ℝ) : EReal) := by
  refine Eq.trans ?_ (Mixer.ms_real (by decide) (gated_real hp hw i) w512 ofBits_eps)
  unfold res_main_v35
  generalize res_main_v28 V = x
  pointwise

include hp hw in
theorem gated_inv (i : Fin 8192) (z : Fin 1) : res_main_v36 V (ix2 i z) = ((inv (v.gated i) : ℝ) : EReal) := by
  refine Eq.trans ?_ (rsqrt_coe (msq_pos _))
  rw [← gated_ms hp hw i z]
  rfl

include hg hd in
theorem dn_real (i : Fin 8192) (j : Fin 512) : res_main_v48 V (ix2 i j) = ((v.dn i j : ℝ) : EReal) := by
  unfold Vals.dn
  rw [EReal.coe_mul, ← hd, ← hg]
  pointwise [res_main_v48, res_main_v42]

include hp hw hg hd in
theorem dco_real (i : Fin 8192) (j : Fin 512) : res_main_v62 V (ix2 i j) = ((v.dco i j : ℝ) : EReal) := by
  have t : res_main_v58 V (ix2 i j) = ((through (v.gated i) (v.dn i) : ℝ) : EReal) := by
    refine Eq.trans ?_ (through_real (by decide) (gated_real hp hw i) (dn_real hg hd i) w512 ofBits_neg_half (gated_inv hp hw i 0) (gated_ms hp hw i 0))
    unfold res_main_v58
    generalize res_main_v28 V = x
    generalize res_main_v48 V = y
    generalize res_main_v35 V = u
    generalize res_main_v36 V = v
    pointwise
    exact Fin.sum_univ_one (M := EReal) _
  refine Eq.trans ?_ (grad_real (by decide) _ _ j (dn_real hg hd i j) (gated_real hp hw i j) (gated_inv hp hw i 0) t)
  unfold res_main_v62
  generalize res_main_v28 V = x
  generalize res_main_v48 V = y
  generalize res_main_v58 V = u
  generalize res_main_v36 V = v
  pointwise

include hp hw hg hd in
theorem dy_real (i : Fin 8192) (j : Fin 512) : res_main_v63 V (ix2 i j) = ((v.dy i j : ℝ) : EReal) := by
  unfold Vals.dy
  rw [EReal.coe_mul, mul_comm, ← b_real hp, ← dco_real hp hw hg hd]
  rfl

include hp hw hg hd in
theorem du_real (i : Fin 8192) (j : Fin 512) : res_main_v77 V (ix2 i j) = ((v.du i j : ℝ) : EReal) := by
  have e : res_main_v77 V (ix2 i j) = entry (n := 1) (k := 512) (res_main_v24 V) 0 j * entry (n := 8192) (k := 512) (res_main_v63 V) i j
      + (if h : 1 + i.val < 8192 then entry (n := 1) (k := 512) (res_main_v17 V) 0 j * entry (n := 8192) (k := 512) (res_main_v63 V) ⟨1 + i, h⟩ j else Ideal.ofBits .f32 0x00000000#32)
      + (if h : 2 + i.val < 8192 then entry (n := 1) (k := 512) (res_main_v11 V) 0 j * entry (n := 8192) (k := 512) (res_main_v63 V) ⟨2 + i, h⟩ j else Ideal.ofBits .f32 0x00000000#32) := by
    unfold res_main_v77 res_main_v75
    generalize res_main_v63 V = x
    generalize res_main_v11 V = w0
    generalize res_main_v17 V = w1
    generalize res_main_v24 V = w2
    pointwise
    congr 2
    by_cases h : 1 + i.val < 8192
    · rw [dif_pos ⟨by omega, by omega⟩, dif_pos h]
      congr 3
      exact Fin.ext (by dsimp only; omega)
    · rw [dif_neg (fun t => h (by omega)), dif_neg h]
  have l (k : ℕ) (z : EReal) (w : ℝ) (hz : z = ((w : ℝ) : EReal)) : (if h : k + i.val < 8192 then z * entry (n := 8192) (k := 512) (res_main_v63 V) ⟨k + i, h⟩ j else Ideal.ofBits .f32 0x00000000#32)
      = ((w * v.after i j k : ℝ) : EReal) := by
    unfold entry Vals.after
    by_cases h : k + i.val < 8192
    · rw [dif_pos h, dif_pos (by omega), hz, dy_real hp hw hg hd, ← EReal.coe_mul]
      congr 3
      exact Fin.ext (Nat.add_comm _ _)
    · rw [dif_neg h, dif_neg (by omega), mul_zero]
      simp
  rw [e, l 1 _ _ (w1_real hw 0 j), l 2 _ _ (w0_real hw 0 j), show entry (n := 1) (k := 512) (res_main_v24 V) 0 j = _ from w2_real hw 0 j,
    show entry (n := 8192) (k := 512) (res_main_v63 V) i j = _ from dy_real hp hw hg hd i j, ← EReal.coe_mul, ← EReal.coe_add, ← EReal.coe_add]
  rfl

include hp hw hg hd in
theorem db_real (i : Fin 8192) (j : Fin 512) (z : (FTy.bf16).bits < (FTy.f32).bits) :
    truncf .bf16 (mulf (res_main_v62 V) (res_main_v27 V)) z (ix2 i j) = ((v.db i j : ℝ) : EReal) := by
  unfold Vals.db
  rw [EReal.coe_mul, ← conv_real hp hw, ← dco_real hp hw hg hd]
  rfl
include hp hw hg hd in
theorem dc_real (i : Fin 8192) (j : Fin 512) (z : (FTy.bf16).bits < (FTy.f32).bits) :
    truncf .bf16 (mulf (res_main_v77 V) (res_main_v3 V)) z (ix2 i j) = ((v.dc i j : ℝ) : EReal) := by
  unfold Vals.dc
  rw [EReal.coe_mul, ← h_real hp, ← du_real hp hw hg hd]
  rfl
include hp hw hg hd in
theorem dh_real (i : Fin 8192) (j : Fin 512) (z : (FTy.bf16).bits < (FTy.f32).bits) :
    truncf .bf16 (mulf (res_main_v2 V) (res_main_v77 V)) z (ix2 i j) = ((v.dh i j : ℝ) : EReal) := by
  unfold Vals.dh
  rw [EReal.coe_mul, mul_comm, ← c_real hp, ← du_real hp hw hg hd]
  rfl

end Cert.MixerReferenceIdeal.Value
end
-- ==== Proof.MixerClaims.lean ====
/-
  The claims about the gated mixer's backward kernel: the frames of the programs, and its gate gradients equal to the
  reference's.
-/
module

public import proofs.«01_k».proof.Defs
public import proofs.«01_k».proof.Proof.Gen.MixerKernel
public import proofs.«01_k».proof.Proof.Gen.MixerKernelIdeal
public import proofs.«01_k».proof.Proof.Gen.MixerReferenceIdeal
public import proofs.«01_k».proof.Proof.Gen.Pre_mixer_finite
public import proofs.«01_k».proof.Proof.MixerKernelValue
public import proofs.«01_k».proof.Proof.MixerReferenceValue
public import proofs.«01_k».proof.Proof.Gen.MixerReferenceIdeal.Run
public import Idealize.ShloMosaic.Adequacy
public import Idealize.ShloMosaic.Init

@[expose] public section

noncomputable section

namespace Cert.Proof.Mixer

open Idealize.ShloMosaic Idealize.ShloMosaic.StableHlo Idealize.SL.Sem Cert.Reals

/-- The two programs have the same text. -/
theorem text : Cert.quiescent_MixerKernel = ∀ m ρ, True → Cert.MixerKernelIdeal.Step.Quiet (F := Bits) m ρ := by sl_kernel_rfl

theorem frame_p : Cert.quiescent_MixerKernel := text.mpr fun m ρ _ => Cert.MixerKernelIdeal.Step.quiet m ρ
theorem frame_pi : Cert.quiescent_MixerKernelIdeal := fun m ρ _ => Cert.MixerKernelIdeal.Step.quiet m ρ
theorem frame_pi_pre : Cert.quiescent_MixerKernelIdeal_pre_mixer_finite := fun m ρ _ => Cert.MixerKernelIdeal.Step.quiet m ρ
theorem frame_ri : Cert.quiescent_MixerReferenceIdeal := fun m ρ _ =>
  (θ_run Cert.MixerReferenceIdeal.defs _ _).mono (fun r h => ⟨fun c => (h c).2.2.2,
      Idealize.ShloMosaic.sem_eq_zero_of_no_sems (by decide) r.2⟩)
    (Cert.MixerReferenceIdeal.Value.run (F := Ideal) m ρ)
theorem frame_ri_pre : Cert.quiescent_MixerReferenceIdeal_pre_mixer_finite := fun m ρ _ => frame_ri m ρ trivial

open Cert.MixerKernelIdeal Cert.MixerKernelIdeal.Value in
/-- Where the precondition holds, the projection, the taps, the gain and the incoming gradient are real numbers. -/
theorem holds (m : (ℓ : Loc nD τ sig) → Buf (Elt Ideal) ℓ) (h : Cert.Pre_MixerKernelIdeal_mixer_finite m) (c : Dev nD) : ∃ v, Holds m c v := by
  obtain ⟨h0, h1, h2, h3⟩ := h c
  choose p hp using fun i => real_of_finite (fun _ => ofBits_inf) h0 i
  choose w hw using fun i => real_of_finite (fun _ => ofBits_inf) h1 i
  choose g hg using fun i => real_of_finite (fun _ => ofBits_inf) h2 i
  choose d hd using fun i => real_of_finite (fun _ => ofBits_inf) h3 i
  exact ⟨⟨fun i j => p (ix3 0 i j), fun e j => w (ix2 e j), fun j => g (ix1 j), fun i j => d (ix3 0 i j)⟩,
    fun _ _ => hp _, fun _ _ => hw _, fun _ => hg _, fun _ _ => hd _⟩

open Cert.MixerKernelIdeal.Value in
theorem algebraic : Cert.algebraic_MixerKernelIdeal_MixerReferenceIdeal_pre_mixer_finite := by
  intro m ρ m' ρ' hpre hagree
  choose v hh using holds m hpre
  refine ⟨fun c => resultB (v c), fun c => resultC (v c), fun c => resultH (v c), run m ρ v hh, ?_⟩
  refine (θ_run Cert.MixerReferenceIdeal.defs _ _).mono (fun _ h c => ?_) (Cert.MixerReferenceIdeal.Value.run (F := Ideal) m' ρ')
  obtain ⟨e0, e1, -, -, -, e5, -, e7⟩ := hagree c
  have hp := fun i j => (congrFun e0 (ix3 0 i j)).trans ((hh c).p i j)
  have hw := fun e j => (congrFun e1 (ix2 e j)).trans ((hh c).w e j)
  have hg := fun j => (congrFun e5 (ix1 j)).trans ((hh c).g j)
  have hd := fun i j => (congrFun e7 (ix3 0 i j)).trans ((hh c).d i j)
  refine ⟨(h c).1.trans ?_, (h c).2.1.trans ?_, (h c).2.2.1.trans ?_, (h c).2.2.2⟩ <;> funext i <;>
    obtain ⟨a, b, rfl⟩ : ∃ (a : Fin 8192) (b : Fin 512), i = ix2 a b := ⟨i 0, i 1, (ix2_eta _).symm⟩
  · exact Cert.MixerReferenceIdeal.Value.db_real (V := launchContents m' c) hp hw hg hd a b _
  · exact Cert.MixerReferenceIdeal.Value.dc_real (V := launchContents m' c) hp hw hg hd a b _
  · exact Cert.MixerReferenceIdeal.Value.dh_real (V := launchContents m' c) hp hw hg hd a b _

end Cert.Proof.Mixer
end
-- ==== Proof.lean ====
module

public import proofs.«01_k».proof.Defs
public import proofs.«01_k».proof.Proof.Gen.ProjKernel
public import proofs.«01_k».proof.Proof.Gen.ProjKernelIdeal
public import proofs.«01_k».proof.Proof.Gen.ProjReferenceIdeal
public import proofs.«01_k».proof.Proof.Gen.Pre_proj_finite
public import proofs.«01_k».proof.Proof.Gen.FfnKernel
public import proofs.«01_k».proof.Proof.Gen.FfnKernelIdeal
public import proofs.«01_k».proof.Proof.Gen.FfnReferenceIdeal
public import proofs.«01_k».proof.Proof.Gen.Pre_ffn_finite
public import proofs.«01_k».proof.Proof.Gen.MixKernel
public import proofs.«01_k».proof.Proof.Gen.MixKernelIdeal
public import proofs.«01_k».proof.Proof.Gen.MixReferenceIdeal
public import proofs.«01_k».proof.Proof.Gen.Pre_mix_finite
public import proofs.«01_k».proof.Proof.Gen.LossKernel
public import proofs.«01_k».proof.Proof.Gen.LossKernelIdeal
public import proofs.«01_k».proof.Proof.Gen.LossReferenceIdeal
public import proofs.«01_k».proof.Proof.Gen.NormKernel
public import proofs.«01_k».proof.Proof.Gen.NormKernelIdeal
public import proofs.«01_k».proof.Proof.Gen.NormReferenceIdeal
public import proofs.«01_k».proof.Proof.Gen.GatedKernel
public import proofs.«01_k».proof.Proof.Gen.GatedKernelIdeal
public import proofs.«01_k».proof.Proof.Gen.GatedReferenceIdeal
public import proofs.«01_k».proof.Proof.Gen.WeightKernel
public import proofs.«01_k».proof.Proof.Gen.WeightKernelIdeal
public import proofs.«01_k».proof.Proof.Gen.WeightReferenceIdeal
public import proofs.«01_k».proof.Proof.Gen.AdamKernel
public import proofs.«01_k».proof.Proof.Gen.AdamKernelIdeal
public import proofs.«01_k».proof.Proof.Gen.AdamReferenceIdeal
public import proofs.«01_k».proof.Proof.Gen.MixerKernel
public import proofs.«01_k».proof.Proof.Gen.MixerKernelIdeal
public import proofs.«01_k».proof.Proof.Gen.MixerReferenceIdeal
public import proofs.«01_k».proof.Proof.Gen.Pre_mixer_finite
public import proofs.«01_k».proof.Proof.ProjClaims
public import proofs.«01_k».proof.Proof.FfnClaims
public import proofs.«01_k».proof.Proof.MixClaims
public import proofs.«01_k».proof.Proof.LossClaims
public import proofs.«01_k».proof.Proof.NormClaims
public import proofs.«01_k».proof.Proof.GatedClaims
public import proofs.«01_k».proof.Proof.WeightClaims
public import proofs.«01_k».proof.Proof.AdamClaims
public import proofs.«01_k».proof.Proof.MixerClaims

@[expose] public section

noncomputable section

namespace Cert.Proof

theorem claim : Cert.Claim := ⟨Cert.ProjKernel.Gen.facts, Cert.ProjKernelIdeal.Gen.facts, Cert.ProjReferenceIdeal.Gen.facts,
  Cert.FfnKernel.Gen.facts, Cert.FfnKernelIdeal.Gen.facts, Cert.FfnReferenceIdeal.Gen.facts,
  Cert.MixKernel.Gen.facts, Cert.MixKernelIdeal.Gen.facts, Cert.MixReferenceIdeal.Gen.facts,
  Cert.LossKernel.Gen.facts, Cert.LossKernelIdeal.Gen.facts, Cert.LossReferenceIdeal.Gen.facts,
  Cert.NormKernel.Gen.facts, Cert.NormKernelIdeal.Gen.facts, Cert.NormReferenceIdeal.Gen.facts,
  Cert.GatedKernel.Gen.facts, Cert.GatedKernelIdeal.Gen.facts, Cert.GatedReferenceIdeal.Gen.facts,
  Cert.WeightKernel.Gen.facts, Cert.WeightKernelIdeal.Gen.facts, Cert.WeightReferenceIdeal.Gen.facts,
  Cert.AdamKernel.Gen.facts, Cert.AdamKernelIdeal.Gen.facts, Cert.AdamReferenceIdeal.Gen.facts,
  Cert.MixerKernel.Gen.facts, Cert.MixerKernelIdeal.Gen.facts, Cert.MixerReferenceIdeal.Gen.facts,
  Cert.Pre_proj_finite.Gen.facts, Cert.Pre_ffn_finite.Gen.facts, Cert.Pre_mix_finite.Gen.facts, Cert.Pre_mixer_finite.Gen.facts,
  Proj.frame_p, Proj.frame_pi, Proj.frame_pi_pre, Proj.frame_ri, Proj.frame_ri_pre,
  Ffn.frame_p, Ffn.frame_pi, Ffn.frame_pi_pre, Ffn.frame_ri, Ffn.frame_ri_pre,
  Mix.frame_p, Mix.frame_pi, Mix.frame_pi_pre, Mix.frame_ri, Mix.frame_ri_pre,
  Loss.frame_p, Loss.frame_pi, Loss.frame_ri,
  Norm.frame_p, Norm.frame_pi, Norm.frame_ri,
  Gated.frame_p, Gated.frame_pi, Gated.frame_ri,
  Weight.frame_p, Weight.frame_pi, Weight.frame_ri,
  Adam.frame_p, Adam.frame_pi, Adam.frame_ri,
  Mixer.frame_p, Mixer.frame_pi, Mixer.frame_pi_pre, Mixer.frame_ri, Mixer.frame_ri_pre,
  trivial, Proj.algebraic, trivial, Ffn.algebraic, Mix.preserves, Mix.algebraic, trivial, Loss.algebraic,
  trivial, Norm.algebraic, trivial, Gated.algebraic,
  trivial, Weight.algebraic, trivial, Adam.algebraic, trivial, Mixer.algebraic⟩

end Cert.Proof

end
